-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_qk [hPre_finite_qk : Cert.Pre_finite_qk.Facts] (m : (ℓ : Loc Cert.AttnIdeal.nD Cert.AttnIdeal.τ Cert.AttnIdeal.sig) → Buf (Elt Ideal) ℓ) : Prop :=
  ∀ c : Dev Cert.AttnIdeal.nD,
    (Cert.Pre_finite_qk.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).1 = (fun _ => 1#1)
    ∧ (Cert.Pre_finite_qk.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_qk [hPre_finite_qk : Cert.Pre_finite_qk.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_qk.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).1 = (fun _ => 1#1)
    ∧ (Cert.Pre_finite_qk.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_finite_ffn [hPre_finite_ffn : Cert.Pre_finite_ffn.Facts] (m : (ℓ : Loc Cert.FfnIdeal.nD Cert.FfnIdeal.τ Cert.FfnIdeal.sig) → Buf (Elt Ideal) ℓ) : Prop :=
  ∀ c : Dev Cert.FfnIdeal.nD,
    (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3))).1 = (fun _ => 1#1)
    ∧ (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3))).2.1 = (fun _ => 1#1)
    ∧ (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3))).2.2 = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_finite_ffn [hPre_finite_ffn : Cert.Pre_finite_ffn.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3))).1 = (fun _ => 1#1)
    ∧ (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3))).2.1 = (fun _ => 1#1)
    ∧ (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3))).2.2 = (fun _ => 1#1)

def Pre_Wff (m : (ℓ : Loc Cert.Wff.nD Cert.Wff.τ Cert.Wff.sig) → Buf (Elt Bits) ℓ) : Prop :=
  True

def Pre_WffIdeal (m : (ℓ : Loc Cert.WffIdeal.nD Cert.WffIdeal.τ Cert.WffIdeal.sig) → Buf (Elt Ideal) ℓ) : Prop :=
  True

def Pre_WffRefIdeal (m : (ℓ : Loc Cert.WffRefIdeal.nD Cert.WffRefIdeal.τ Cert.WffRefIdeal.sig) → Buf (Elt Ideal) ℓ) : Prop :=
  True

def Pre_Hf (m : (ℓ : Loc Cert.Hf.nD Cert.Hf.τ Cert.Hf.sig) → Buf (Elt Bits) ℓ) : Prop :=
  True

def Pre_HfIdeal (m : (ℓ : Loc Cert.HfIdeal.nD Cert.HfIdeal.τ Cert.HfIdeal.sig) → Buf (Elt Ideal) ℓ) : Prop :=
  True

def Pre_HfRefIdeal (m : (ℓ : Loc Cert.HfRefIdeal.nD Cert.HfRefIdeal.τ Cert.HfRefIdeal.sig) → Buf (Elt Ideal) ℓ) : Prop :=
  True

def Pre_Hg (m : (ℓ : Loc Cert.Hg.nD Cert.Hg.τ Cert.Hg.sig) → Buf (Elt Bits) ℓ) : Prop :=
  True

def Pre_HgIdeal (m : (ℓ : Loc Cert.HgIdeal.nD Cert.HgIdeal.τ Cert.HgIdeal.sig) → Buf (Elt Ideal) ℓ) : Prop :=
  True

def Pre_HgRefIdeal (m : (ℓ : Loc Cert.HgRefIdeal.nD Cert.HgRefIdeal.τ Cert.HgRefIdeal.sig) → Buf (Elt Ideal) ℓ) : Prop :=
  True

def Pre_Win (m : (ℓ : Loc Cert.Win.nD Cert.Win.τ Cert.Win.sig) → Buf (Elt Bits) ℓ) : Prop :=
  True

def Pre_WinIdeal (m : (ℓ : Loc Cert.WinIdeal.nD Cert.WinIdeal.τ Cert.WinIdeal.sig) → Buf (Elt Ideal) ℓ) : Prop :=
  True

def Pre_WinRefIdeal (m : (ℓ : Loc Cert.WinRefIdeal.nD Cert.WinRefIdeal.τ Cert.WinRefIdeal.sig) → Buf (Elt Ideal) ℓ) : Prop :=
  True

def Pre_Dh (m : (ℓ : Loc Cert.Dh.nD Cert.Dh.τ Cert.Dh.sig) → Buf (Elt Bits) ℓ) : Prop :=
  True

def Pre_DhIdeal (m : (ℓ : Loc Cert.DhIdeal.nD Cert.DhIdeal.τ Cert.DhIdeal.sig) → Buf (Elt Ideal) ℓ) : Prop :=
  True

def Pre_DhRefIdeal (m : (ℓ : Loc Cert.DhRefIdeal.nD Cert.DhRefIdeal.τ Cert.DhRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Do (m : (ℓ : Loc Cert.Do.nD Cert.Do.τ Cert.Do.sig) → Buf (Elt Bits) ℓ) : Prop :=
  True

def Pre_DoIdeal (m : (ℓ : Loc Cert.DoIdeal.nD Cert.DoIdeal.τ Cert.DoIdeal.sig) → Buf (Elt Ideal) ℓ) : Prop :=
  True

def Pre_DoRefIdeal (m : (ℓ : Loc Cert.DoRefIdeal.nD Cert.DoRefIdeal.τ Cert.DoRefIdeal.sig) → Buf (Elt Ideal) ℓ) : Prop :=
  True

def Pre_Wo (m : (ℓ : Loc Cert.Wo.nD Cert.Wo.τ Cert.Wo.sig) → Buf (Elt Bits) ℓ) : Prop :=
  True

def Pre_WoIdeal (m : (ℓ : Loc Cert.WoIdeal.nD Cert.WoIdeal.τ Cert.WoIdeal.sig) → Buf (Elt Ideal) ℓ) : Prop :=
  True

def Pre_WoRefIdeal (m : (ℓ : Loc Cert.WoRefIdeal.nD Cert.WoRefIdeal.τ Cert.WoRefIdeal.sig) → Buf (Elt Ideal) ℓ) : Prop :=
  True

def Pre_Wout (m : (ℓ : Loc Cert.Wout.nD Cert.Wout.τ Cert.Wout.sig) → Buf (Elt Bits) ℓ) : Prop :=
  True

def Pre_WoutIdeal (m : (ℓ : Loc Cert.WoutIdeal.nD Cert.WoutIdeal.τ Cert.WoutIdeal.sig) → Buf (Elt Ideal) ℓ) : Prop :=
  True

def Pre_WoutRefIdeal (m : (ℓ : Loc Cert.WoutRefIdeal.nD Cert.WoutRefIdeal.τ Cert.WoutRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Rms (m : (ℓ : Loc Cert.Rms.nD Cert.Rms.τ Cert.Rms.sig) → Buf (Elt Bits) ℓ) : Prop :=
  True

def Pre_RmsIdeal (m : (ℓ : Loc Cert.RmsIdeal.nD Cert.RmsIdeal.τ Cert.RmsIdeal.sig) → Buf (Elt Ideal) ℓ) : Prop :=
  True

def Pre_RmsRefIdeal (m : (ℓ : Loc Cert.RmsRefIdeal.nD Cert.RmsRefIdeal.τ Cert.RmsRefIdeal.sig) → Buf (Elt Ideal) ℓ) : Prop :=
  True

def Pre_Pq (m : (ℓ : Loc Cert.Pq.nD Cert.Pq.τ Cert.Pq.sig) → Buf (Elt Bits) ℓ) : Prop :=
  True

def Pre_PqIdeal (m : (ℓ : Loc Cert.PqIdeal.nD Cert.PqIdeal.τ Cert.PqIdeal.sig) → Buf (Elt Ideal) ℓ) : Prop :=
  True

def Pre_PqRefIdeal (m : (ℓ : Loc Cert.PqRefIdeal.nD Cert.PqRefIdeal.τ Cert.PqRefIdeal.sig) → Buf (Elt Ideal) ℓ) : Prop :=
  True

def Pre_Pkv (m : (ℓ : Loc Cert.Pkv.nD Cert.Pkv.τ Cert.Pkv.sig) → Buf (Elt Bits) ℓ) : Prop :=
  True

def Pre_PkvIdeal (m : (ℓ : Loc Cert.PkvIdeal.nD Cert.PkvIdeal.τ Cert.PkvIdeal.sig) → Buf (Elt Ideal) ℓ) : Prop :=
  True

def Pre_PkvRefIdeal (m : (ℓ : Loc Cert.PkvRefIdeal.nD Cert.PkvRefIdeal.τ Cert.PkvRefIdeal.sig) → Buf (Elt Ideal) ℓ) : Prop :=
  True

def Pre_Pconv (m : (ℓ : Loc Cert.Pconv.nD Cert.Pconv.τ Cert.Pconv.sig) → Buf (Elt Bits) ℓ) : Prop :=
  True

def Pre_PconvIdeal (m : (ℓ : Loc Cert.PconvIdeal.nD Cert.PconvIdeal.τ Cert.PconvIdeal.sig) → Buf (Elt Ideal) ℓ) : Prop :=
  True

def Pre_PconvRefIdeal (m : (ℓ : Loc Cert.PconvRefIdeal.nD Cert.PconvRefIdeal.τ Cert.PconvRefIdeal.sig) → Buf (Elt Ideal) ℓ) : Prop :=
  True

def Pre_Psg (m : (ℓ : Loc Cert.Psg.nD Cert.Psg.τ Cert.Psg.sig) → Buf (Elt Bits) ℓ) : Prop :=
  True

def Pre_PsgIdeal (m : (ℓ : Loc Cert.PsgIdeal.nD Cert.PsgIdeal.τ Cert.PsgIdeal.sig) → Buf (Elt Ideal) ℓ) : Prop :=
  True

def Pre_PsgRefIdeal (m : (ℓ : Loc Cert.PsgRefIdeal.nD Cert.PsgRefIdeal.τ Cert.PsgRefIdeal.sig) → Buf (Elt Ideal) ℓ) : Prop :=
  True

def Pre_Pgate (m : (ℓ : Loc Cert.Pgate.nD Cert.Pgate.τ Cert.Pgate.sig) → Buf (Elt Bits) ℓ) : Prop :=
  True

def Pre_PgateIdeal (m : (ℓ : Loc Cert.PgateIdeal.nD Cert.PgateIdeal.τ Cert.PgateIdeal.sig) → Buf (Elt Ideal) ℓ) : Prop :=
  True

def Pre_PgateRefIdeal (m : (ℓ : Loc Cert.PgateRefIdeal.nD Cert.PgateRefIdeal.τ Cert.PgateRefIdeal.sig) → Buf (Elt Ideal) ℓ) : Prop :=
  True

def Pre_Atf (m : (ℓ : Loc Cert.Atf.nD Cert.Atf.τ Cert.Atf.sig) → Buf (Elt Bits) ℓ) : Prop :=
  True

def Pre_AtfIdeal (m : (ℓ : Loc Cert.AtfIdeal.nD Cert.AtfIdeal.τ Cert.AtfIdeal.sig) → Buf (Elt Ideal) ℓ) : Prop :=
  True

def Pre_AtfIdeal_finite_scores [hPre_finite_scores : Cert.Pre_finite_scores.Facts] (m : (ℓ : Loc Cert.AtfIdeal.nD Cert.AtfIdeal.τ Cert.AtfIdeal.sig) → Buf (Elt Ideal) ℓ) : Prop :=
  ∀ c : Dev Cert.AtfIdeal.nD,
    (Cert.Pre_finite_scores.fn (F := Ideal) (m ((c.tc : Thread Cert.AtfIdeal.nD Cert.AtfIdeal.τ).loc Cert.AtfIdeal.main_arg0)) (m ((c.tc : Thread Cert.AtfIdeal.nD Cert.AtfIdeal.τ).loc Cert.AtfIdeal.main_arg1)) (m ((c.tc : Thread Cert.AtfIdeal.nD Cert.AtfIdeal.τ).loc Cert.AtfIdeal.main_arg2))).1 = (fun _ => 1#1)
    ∧ (Cert.Pre_finite_scores.fn (F := Ideal) (m ((c.tc : Thread Cert.AtfIdeal.nD Cert.AtfIdeal.τ).loc Cert.AtfIdeal.main_arg0)) (m ((c.tc : Thread Cert.AtfIdeal.nD Cert.AtfIdeal.τ).loc Cert.AtfIdeal.main_arg1)) (m ((c.tc : Thread Cert.AtfIdeal.nD Cert.AtfIdeal.τ).loc Cert.AtfIdeal.main_arg2))).2 = (fun _ => 1#1)

def Pre_AtfRefIdeal (m : (ℓ : Loc Cert.AtfRefIdeal.nD Cert.AtfRefIdeal.τ Cert.AtfRefIdeal.sig) → Buf (Elt Ideal) ℓ) : Prop :=
  True

def Pre_AtfRefIdeal_finite_scores [hPre_finite_scores : Cert.Pre_finite_scores.Facts] (m : (ℓ : Loc Cert.AtfRefIdeal.nD Cert.AtfRefIdeal.τ Cert.AtfRefIdeal.sig) → Buf (Elt Ideal) ℓ) : Prop :=
  ∀ c : Dev Cert.AtfRefIdeal.nD,
    (Cert.Pre_finite_scores.fn (F := Ideal) (m ((c.tc : Thread Cert.AtfRefIdeal.nD Cert.AtfRefIdeal.τ).loc Cert.AtfRefIdeal.main_arg0)) (m ((c.tc : Thread Cert.AtfRefIdeal.nD Cert.AtfRefIdeal.τ).loc Cert.AtfRefIdeal.main_arg1)) (m ((c.tc : Thread Cert.AtfRefIdeal.nD Cert.AtfRefIdeal.τ).loc Cert.AtfRefIdeal.main_arg2))).1 = (fun _ => 1#1)
    ∧ (Cert.Pre_finite_scores.fn (F := Ideal) (m ((c.tc : Thread Cert.AtfRefIdeal.nD Cert.AtfRefIdeal.τ).loc Cert.AtfRefIdeal.main_arg0)) (m ((c.tc : Thread Cert.AtfRefIdeal.nD Cert.AtfRefIdeal.τ).loc Cert.AtfRefIdeal.main_arg1)) (m ((c.tc : Thread Cert.AtfRefIdeal.nD Cert.AtfRefIdeal.τ).loc Cert.AtfRefIdeal.main_arg2))).2 = (fun _ => 1#1)

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Ad (m : (ℓ : Loc Cert.Ad.nD Cert.Ad.τ Cert.Ad.sig) → Buf (Elt Bits) ℓ) : Prop :=
  True

def Pre_AdIdeal (m : (ℓ : Loc Cert.AdIdeal.nD Cert.AdIdeal.τ Cert.AdIdeal.sig) → Buf (Elt Ideal) ℓ) : Prop :=
  True

def Pre_AdRefIdeal (m : (ℓ : Loc Cert.AdRefIdeal.nD Cert.AdRefIdeal.τ Cert.AdRefIdeal.sig) → Buf (Elt Ideal) ℓ) : Prop :=
  True

def Pre_Ride (m : (ℓ : Loc Cert.Ride.nD Cert.Ride.τ Cert.Ride.sig) → Buf (Elt Bits) ℓ) : Prop :=
  True

def Pre_RideIdeal (m : (ℓ : Loc Cert.RideIdeal.nD Cert.RideIdeal.τ Cert.RideIdeal.sig) → Buf (Elt Ideal) ℓ) : Prop :=
  True

def Pre_RideRefIdeal (m : (ℓ : Loc Cert.RideRefIdeal.nD Cert.RideRefIdeal.τ Cert.RideRefIdeal.sig) → Buf (Elt Ideal) ℓ) : Prop :=
  True

def Pre_Ads (m : (ℓ : Loc Cert.Ads.nD Cert.Ads.τ Cert.Ads.sig) → Buf (Elt Bits) ℓ) : Prop :=
  True

def Pre_AdsIdeal (m : (ℓ : Loc Cert.AdsIdeal.nD Cert.AdsIdeal.τ Cert.AdsIdeal.sig) → Buf (Elt Ideal) ℓ) : Prop :=
  True

def Pre_AdsRefIdeal (m : (ℓ : Loc Cert.AdsRefIdeal.nD Cert.AdsRefIdeal.τ Cert.AdsRefIdeal.sig) → Buf (Elt Ideal) ℓ) : Prop :=
  True

def Pre_Adw (m : (ℓ : Loc Cert.Adw.nD Cert.Adw.τ Cert.Adw.sig) → Buf (Elt Bits) ℓ) : Prop :=
  True

def Pre_AdwIdeal (m : (ℓ : Loc Cert.AdwIdeal.nD Cert.AdwIdeal.τ Cert.AdwIdeal.sig) → Buf (Elt Ideal) ℓ) : Prop :=
  True

def Pre_AdwRefIdeal (m : (ℓ : Loc Cert.AdwRefIdeal.nD Cert.AdwRefIdeal.τ Cert.AdwRefIdeal.sig) → Buf (Elt Ideal) ℓ) : Prop :=
  True

def Pre_Adp (m : (ℓ : Loc Cert.Adp.nD Cert.Adp.τ Cert.Adp.sig) → Buf (Elt Bits) ℓ) : Prop :=
  True

def Pre_AdpIdeal (m : (ℓ : Loc Cert.AdpIdeal.nD Cert.AdpIdeal.τ Cert.AdpIdeal.sig) → Buf (Elt Ideal) ℓ) : Prop :=
  True

def Pre_AdpRefIdeal (m : (ℓ : Loc Cert.AdpRefIdeal.nD Cert.AdpRefIdeal.τ Cert.AdpRefIdeal.sig) → Buf (Elt Ideal) ℓ) : Prop :=
  True

def Pre_Rmsf (m : (ℓ : Loc Cert.Rmsf.nD Cert.Rmsf.τ Cert.Rmsf.sig) → Buf (Elt Bits) ℓ) : Prop :=
  True

def Pre_RmsfIdeal (m : (ℓ : Loc Cert.RmsfIdeal.nD Cert.RmsfIdeal.τ Cert.RmsfIdeal.sig) → Buf (Elt Ideal) ℓ) : Prop :=
  True

def Pre_RmsfRefIdeal (m : (ℓ : Loc Cert.RmsfRefIdeal.nD Cert.RmsfRefIdeal.τ Cert.RmsfRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Lnf (m : (ℓ : Loc Cert.Lnf.nD Cert.Lnf.τ Cert.Lnf.sig) → Buf (Elt Bits) ℓ) : Prop :=
  True

def Pre_LnfIdeal (m : (ℓ : Loc Cert.LnfIdeal.nD Cert.LnfIdeal.τ Cert.LnfIdeal.sig) → Buf (Elt Ideal) ℓ) : Prop :=
  True

def Pre_LnfRefIdeal (m : (ℓ : Loc Cert.LnfRefIdeal.nD Cert.LnfRefIdeal.τ Cert.LnfRefIdeal.sig) → Buf (Elt Ideal) ℓ) : Prop :=
  True

def Pre_Lnb (m : (ℓ : Loc Cert.Lnb.nD Cert.Lnb.τ Cert.Lnb.sig) → Buf (Elt Bits) ℓ) : Prop :=
  True

def Pre_LnbIdeal (m : (ℓ : Loc Cert.LnbIdeal.nD Cert.LnbIdeal.τ Cert.LnbIdeal.sig) → Buf (Elt Ideal) ℓ) : Prop :=
  True

def Pre_LnbIdeal_finite_norm [hPre_finite_norm : Cert.Pre_finite_norm.Facts] (m : (ℓ : Loc Cert.LnbIdeal.nD Cert.LnbIdeal.τ Cert.LnbIdeal.sig) → Buf (Elt Ideal) ℓ) : Prop :=
  ∀ c : Dev Cert.LnbIdeal.nD,
    (Cert.Pre_finite_norm.fn (F := Ideal) (m ((c.tc : Thread Cert.LnbIdeal.nD Cert.LnbIdeal.τ).loc Cert.LnbIdeal.main_arg0)) (m ((c.tc : Thread Cert.LnbIdeal.nD Cert.LnbIdeal.τ).loc Cert.LnbIdeal.main_arg1)) (m ((c.tc : Thread Cert.LnbIdeal.nD Cert.LnbIdeal.τ).loc Cert.LnbIdeal.main_arg2)) (m ((c.tc : Thread Cert.LnbIdeal.nD Cert.LnbIdeal.τ).loc Cert.LnbIdeal.main_arg3))).1 = (fun _ => 1#1)
    ∧ (Cert.Pre_finite_norm.fn (F := Ideal) (m ((c.tc : Thread Cert.LnbIdeal.nD Cert.LnbIdeal.τ).loc Cert.LnbIdeal.main_arg0)) (m ((c.tc : Thread Cert.LnbIdeal.nD Cert.LnbIdeal.τ).loc Cert.LnbIdeal.main_arg1)) (m ((c.tc : Thread Cert.LnbIdeal.nD Cert.LnbIdeal.τ).loc Cert.LnbIdeal.main_arg2)) (m ((c.tc : Thread Cert.LnbIdeal.nD Cert.LnbIdeal.τ).loc Cert.LnbIdeal.main_arg3))).2 = (fun _ => 1#1)

def Pre_LnbRefIdeal (m : (ℓ : Loc Cert.LnbRefIdeal.nD Cert.LnbRefIdeal.τ Cert.LnbRefIdeal.sig) → Buf (Elt Ideal) ℓ) : Prop :=
  True

def Pre_LnbRefIdeal_finite_norm [hPre_finite_norm : Cert.Pre_finite_norm.Facts] (m : (ℓ : Loc Cert.LnbRefIdeal.nD Cert.LnbRefIdeal.τ Cert.LnbRefIdeal.sig) → Buf (Elt Ideal) ℓ) : Prop :=
  ∀ c : Dev Cert.LnbRefIdeal.nD,
    (Cert.Pre_finite_norm.fn (F := Ideal) (m ((c.tc : Thread Cert.LnbRefIdeal.nD Cert.LnbRefIdeal.τ).loc Cert.LnbRefIdeal.main_arg0)) (m ((c.tc : Thread Cert.LnbRefIdeal.nD Cert.LnbRefIdeal.τ).loc Cert.LnbRefIdeal.main_arg1)) (m ((c.tc : Thread Cert.LnbRefIdeal.nD Cert.LnbRefIdeal.τ).loc Cert.LnbRefIdeal.main_arg2)) (m ((c.tc : Thread Cert.LnbRefIdeal.nD Cert.LnbRefIdeal.τ).loc Cert.LnbRefIdeal.main_arg3))).1 = (fun _ => 1#1)
    ∧ (Cert.Pre_finite_norm.fn (F := Ideal) (m ((c.tc : Thread Cert.LnbRefIdeal.nD Cert.LnbRefIdeal.τ).loc Cert.LnbRefIdeal.main_arg0)) (m ((c.tc : Thread Cert.LnbRefIdeal.nD Cert.LnbRefIdeal.τ).loc Cert.LnbRefIdeal.main_arg1)) (m ((c.tc : Thread Cert.LnbRefIdeal.nD Cert.LnbRefIdeal.τ).loc Cert.LnbRefIdeal.main_arg2)) (m ((c.tc : Thread Cert.LnbRefIdeal.nD Cert.LnbRefIdeal.τ).loc Cert.LnbRefIdeal.main_arg3))).2 = (fun _ => 1#1)

def Pre_Firstf (m : (ℓ : Loc Cert.Firstf.nD Cert.Firstf.τ Cert.Firstf.sig) → Buf (Elt Bits) ℓ) : Prop :=
  True

def Pre_FirstfIdeal (m : (ℓ : Loc Cert.FirstfIdeal.nD Cert.FirstfIdeal.τ Cert.FirstfIdeal.sig) → Buf (Elt Ideal) ℓ) : Prop :=
  True

def Pre_FirstfRefIdeal (m : (ℓ : Loc Cert.FirstfRefIdeal.nD Cert.FirstfRefIdeal.τ Cert.FirstfRefIdeal.sig) → Buf (Elt Ideal) ℓ) : Prop :=
  True

def Pre_Lasto (m : (ℓ : Loc Cert.Lasto.nD Cert.Lasto.τ Cert.Lasto.sig) → Buf (Elt Bits) ℓ) : Prop :=
  True

def Pre_LastoIdeal (m : (ℓ : Loc Cert.LastoIdeal.nD Cert.LastoIdeal.τ Cert.LastoIdeal.sig) → Buf (Elt Ideal) ℓ) : Prop :=
  True

def Pre_LastoRefIdeal (m : (ℓ : Loc Cert.LastoRefIdeal.nD Cert.LastoRefIdeal.τ Cert.LastoRefIdeal.sig) → Buf (Elt Ideal) ℓ) : Prop :=
  True

def Pre_Firsto (m : (ℓ : Loc Cert.Firsto.nD Cert.Firsto.τ Cert.Firsto.sig) → Buf (Elt Bits) ℓ) : Prop :=
  True

def Pre_FirstoIdeal (m : (ℓ : Loc Cert.FirstoIdeal.nD Cert.FirstoIdeal.τ Cert.FirstoIdeal.sig) → Buf (Elt Ideal) ℓ) : Prop :=
  True

def Pre_FirstoRefIdeal (m : (ℓ : Loc Cert.FirstoRefIdeal.nD Cert.FirstoRefIdeal.τ Cert.FirstoRefIdeal.sig) → Buf (Elt Ideal) ℓ) : Prop :=
  True

def Pre_Lasti (m : (ℓ : Loc Cert.Lasti.nD Cert.Lasti.τ Cert.Lasti.sig) → Buf (Elt Bits) ℓ) : Prop :=
  True

def Pre_LastiIdeal (m : (ℓ : Loc Cert.LastiIdeal.nD Cert.LastiIdeal.τ Cert.LastiIdeal.sig) → Buf (Elt Ideal) ℓ) : Prop :=
  True

def Pre_LastiRefIdeal (m : (ℓ : Loc Cert.LastiRefIdeal.nD Cert.LastiRefIdeal.τ Cert.LastiRefIdeal.sig) → Buf (Elt Ideal) ℓ) : Prop :=
  True

def Pre_Firsti (m : (ℓ : Loc Cert.Firsti.nD Cert.Firsti.τ Cert.Firsti.sig) → Buf (Elt Bits) ℓ) : Prop :=
  True

def Pre_FirstiIdeal (m : (ℓ : Loc Cert.FirstiIdeal.nD Cert.FirstiIdeal.τ Cert.FirstiIdeal.sig) → Buf (Elt Ideal) ℓ) : Prop :=
  True

def Pre_FirstiRefIdeal (m : (ℓ : Loc Cert.FirstiRefIdeal.nD Cert.FirstiRefIdeal.τ Cert.FirstiRefIdeal.sig) → Buf (Elt Ideal) ℓ) : Prop :=
  True

def Pre_Sums (m : (ℓ : Loc Cert.Sums.nD Cert.Sums.τ Cert.Sums.sig) → Buf (Elt Bits) ℓ) : Prop :=
  True

def Pre_SumsIdeal (m : (ℓ : Loc Cert.SumsIdeal.nD Cert.SumsIdeal.τ Cert.SumsIdeal.sig) → Buf (Elt Ideal) ℓ) : Prop :=
  True

def Pre_SumsRefIdeal (m : (ℓ : Loc Cert.SumsRefIdeal.nD Cert.SumsRefIdeal.τ Cert.SumsRefIdeal.sig) → Buf (Elt Ideal) ℓ) : Prop :=
  True

def Pre_Rsum (m : (ℓ : Loc Cert.Rsum.nD Cert.Rsum.τ Cert.Rsum.sig) → Buf (Elt Bits) ℓ) : Prop :=
  True

def Pre_RsumIdeal (m : (ℓ : Loc Cert.RsumIdeal.nD Cert.RsumIdeal.τ Cert.RsumIdeal.sig) → Buf (Elt Ideal) ℓ) : Prop :=
  True

def Pre_RsumRefIdeal (m : (ℓ : Loc Cert.RsumRefIdeal.nD Cert.RsumRefIdeal.τ Cert.RsumRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_finite_qk [hAttnIdeal : Cert.AttnIdeal.Facts] [hPre_finite_qk : Cert.Pre_finite_qk.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_qk m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_finite_qk [hAttnRefIdeal : Cert.AttnRefIdeal.Facts] [hPre_finite_qk : Cert.Pre_finite_qk.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_qk m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnIdeal_pre_finite_ffn [hFfnIdeal : Cert.FfnIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_finite_ffn m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3))
      ∧ r.2.sem = fun _ => 0)

def quiescent_FfnRefIdeal_pre_finite_ffn [hFfnRefIdeal : Cert.FfnRefIdeal.Facts] [hPre_finite_ffn : Cert.Pre_finite_ffn.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_finite_ffn m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3))
      ∧ r.2.sem = fun _ => 0)

def quiescent_Wff [hWff : Cert.Wff.Facts] : Prop :=
  ∀ (m : (ℓ : Loc Cert.Wff.nD Cert.Wff.τ Cert.Wff.sig) → Buf (Elt Bits) ℓ) (g : Dev Cert.Wff.nD → PrngReg), Pre_Wff m →
    θ_run (Cert.Wff.defs (F := Bits)) (onTc (τ := Cert.Wff.τ) (Cert.Wff.main (F := Bits))) ⟨m, fun _ => 0, g⟩ (fun r => (∀ c : Dev Cert.Wff.nD,
      r.2.mem ((c.tc : Thread Cert.Wff.nD Cert.Wff.τ).loc Cert.Wff.main_arg0) = m ((c.tc : Thread Cert.Wff.nD Cert.Wff.τ).loc Cert.Wff.main_arg0)
      ∧ r.2.mem ((c.tc : Thread Cert.Wff.nD Cert.Wff.τ).loc Cert.Wff.main_arg1) = m ((c.tc : Thread Cert.Wff.nD Cert.Wff.τ).loc Cert.Wff.main_arg1))
      ∧ r.2.sem = fun _ => 0)

def quiescent_WffIdeal [hWffIdeal : Cert.WffIdeal.Facts] : Prop :=
  ∀ (m : (ℓ : Loc Cert.WffIdeal.nD Cert.WffIdeal.τ Cert.WffIdeal.sig) → Buf (Elt Ideal) ℓ) (g : Dev Cert.WffIdeal.nD → PrngReg), Pre_WffIdeal m →
    θ_run (Cert.WffIdeal.defs (F := Ideal)) (onTc (τ := Cert.WffIdeal.τ) (Cert.WffIdeal.main (F := Ideal))) ⟨m, fun _ => 0, g⟩ (fun r => (∀ c : Dev Cert.WffIdeal.nD,
      r.2.mem ((c.tc : Thread Cert.WffIdeal.nD Cert.WffIdeal.τ).loc Cert.WffIdeal.main_arg0) = m ((c.tc : Thread Cert.WffIdeal.nD Cert.WffIdeal.τ).loc Cert.WffIdeal.main_arg0)
      ∧ r.2.mem ((c.tc : Thread Cert.WffIdeal.nD Cert.WffIdeal.τ).loc Cert.WffIdeal.main_arg1) = m ((c.tc : Thread Cert.WffIdeal.nD Cert.WffIdeal.τ).loc Cert.WffIdeal.main_arg1))
      ∧ r.2.sem = fun _ => 0)

def quiescent_WffRefIdeal [hWffRefIdeal : Cert.WffRefIdeal.Facts] : Prop :=
  ∀ (m : (ℓ : Loc Cert.WffRefIdeal.nD Cert.WffRefIdeal.τ Cert.WffRefIdeal.sig) → Buf (Elt Ideal) ℓ) (g : Dev Cert.WffRefIdeal.nD → PrngReg), Pre_WffRefIdeal m →
    θ_run (Cert.WffRefIdeal.defs (F := Ideal)) (onTc (τ := Cert.WffRefIdeal.τ) (Cert.WffRefIdeal.main (F := Ideal))) ⟨m, fun _ => 0, g⟩ (fun r => (∀ c : Dev Cert.WffRefIdeal.nD,
      r.2.mem ((c.tc : Thread Cert.WffRefIdeal.nD Cert.WffRefIdeal.τ).loc Cert.WffRefIdeal.main_arg0) = m ((c.tc : Thread Cert.WffRefIdeal.nD Cert.WffRefIdeal.τ).loc Cert.WffRefIdeal.main_arg0)
      ∧ r.2.mem ((c.tc : Thread Cert.WffRefIdeal.nD Cert.WffRefIdeal.τ).loc Cert.WffRefIdeal.main_arg1) = m ((c.tc : Thread Cert.WffRefIdeal.nD Cert.WffRefIdeal.τ).loc Cert.WffRefIdeal.main_arg1))
      ∧ r.2.sem = fun _ => 0)

def quiescent_Hf [hHf : Cert.Hf.Facts] : Prop :=
  ∀ (m : (ℓ : Loc Cert.Hf.nD Cert.Hf.τ Cert.Hf.sig) → Buf (Elt Bits) ℓ) (g : Dev Cert.Hf.nD → PrngReg), Pre_Hf m →
    θ_run (Cert.Hf.defs (F := Bits)) (onTc (τ := Cert.Hf.τ) (Cert.Hf.main (F := Bits))) ⟨m, fun _ => 0, g⟩ (fun r => (∀ c : Dev Cert.Hf.nD,
      r.2.mem ((c.tc : Thread Cert.Hf.nD Cert.Hf.τ).loc Cert.Hf.main_arg0) = m ((c.tc : Thread Cert.Hf.nD Cert.Hf.τ).loc Cert.Hf.main_arg0)
      ∧ r.2.mem ((c.tc : Thread Cert.Hf.nD Cert.Hf.τ).loc Cert.Hf.main_arg1) = m ((c.tc : Thread Cert.Hf.nD Cert.Hf.τ).loc Cert.Hf.main_arg1)
      ∧ r.2.mem ((c.tc : Thread Cert.Hf.nD Cert.Hf.τ).loc Cert.Hf.main_arg2) = m ((c.tc : Thread Cert.Hf.nD Cert.Hf.τ).loc Cert.Hf.main_arg2))
      ∧ r.2.sem = fun _ => 0)

def quiescent_HfIdeal [hHfIdeal : Cert.HfIdeal.Facts] : Prop :=
  ∀ (m : (ℓ : Loc Cert.HfIdeal.nD Cert.HfIdeal.τ Cert.HfIdeal.sig) → Buf (Elt Ideal) ℓ) (g : Dev Cert.HfIdeal.nD → PrngReg), Pre_HfIdeal m →
    θ_run (Cert.HfIdeal.defs (F := Ideal)) (onTc (τ := Cert.HfIdeal.τ) (Cert.HfIdeal.main (F := Ideal))) ⟨m, fun _ => 0, g⟩ (fun r => (∀ c : Dev Cert.HfIdeal.nD,
      r.2.mem ((c.tc : Thread Cert.HfIdeal.nD Cert.HfIdeal.τ).loc Cert.HfIdeal.main_arg0) = m ((c.tc : Thread Cert.HfIdeal.nD Cert.HfIdeal.τ).loc Cert.HfIdeal.main_arg0)
      ∧ r.2.mem ((c.tc : Thread Cert.HfIdeal.nD Cert.HfIdeal.τ).loc Cert.HfIdeal.main_arg1) = m ((c.tc : Thread Cert.HfIdeal.nD Cert.HfIdeal.τ).loc Cert.HfIdeal.main_arg1)
      ∧ r.2.mem ((c.tc : Thread Cert.HfIdeal.nD Cert.HfIdeal.τ).loc Cert.HfIdeal.main_arg2) = m ((c.tc : Thread Cert.HfIdeal.nD Cert.HfIdeal.τ).loc Cert.HfIdeal.main_arg2))
      ∧ r.2.sem = fun _ => 0)

def quiescent_HfRefIdeal [hHfRefIdeal : Cert.HfRefIdeal.Facts] : Prop :=
  ∀ (m : (ℓ : Loc Cert.HfRefIdeal.nD Cert.HfRefIdeal.τ Cert.HfRefIdeal.sig) → Buf (Elt Ideal) ℓ) (g : Dev Cert.HfRefIdeal.nD → PrngReg), Pre_HfRefIdeal m →
    θ_run (Cert.HfRefIdeal.defs (F := Ideal)) (onTc (τ := Cert.HfRefIdeal.τ) (Cert.HfRefIdeal.main (F := Ideal))) ⟨m, fun _ => 0, g⟩ (fun r => (∀ c : Dev Cert.HfRefIdeal.nD,
      r.2.mem ((c.tc : Thread Cert.HfRefIdeal.nD Cert.HfRefIdeal.τ).loc Cert.HfRefIdeal.main_arg0) = m ((c.tc : Thread Cert.HfRefIdeal.nD Cert.HfRefIdeal.τ).loc Cert.HfRefIdeal.main_arg0)
      ∧ r.2.mem ((c.tc : Thread Cert.HfRefIdeal.nD Cert.HfRefIdeal.τ).loc Cert.HfRefIdeal.main_arg1) = m ((c.tc : Thread Cert.HfRefIdeal.nD Cert.HfRefIdeal.τ).loc Cert.HfRefIdeal.main_arg1)
      ∧ r.2.mem ((c.tc : Thread Cert.HfRefIdeal.nD Cert.HfRefIdeal.τ).loc Cert.HfRefIdeal.main_arg2) = m ((c.tc : Thread Cert.HfRefIdeal.nD Cert.HfRefIdeal.τ).loc Cert.HfRefIdeal.main_arg2))
      ∧ r.2.sem = fun _ => 0)

def quiescent_Hg [hHg : Cert.Hg.Facts] : Prop :=
  ∀ (m : (ℓ : Loc Cert.Hg.nD Cert.Hg.τ Cert.Hg.sig) → Buf (Elt Bits) ℓ) (g : Dev Cert.Hg.nD → PrngReg), Pre_Hg m →
    θ_run (Cert.Hg.defs (F := Bits)) (onTc (τ := Cert.Hg.τ) (Cert.Hg.main (F := Bits))) ⟨m, fun _ => 0, g⟩ (fun r => (∀ c : Dev Cert.Hg.nD,
      r.2.mem ((c.tc : Thread Cert.Hg.nD Cert.Hg.τ).loc Cert.Hg.main_arg0) = m ((c.tc : Thread Cert.Hg.nD Cert.Hg.τ).loc Cert.Hg.main_arg0)
      ∧ r.2.mem ((c.tc : Thread Cert.Hg.nD Cert.Hg.τ).loc Cert.Hg.main_arg1) = m ((c.tc : Thread Cert.Hg.nD Cert.Hg.τ).loc Cert.Hg.main_arg1))
      ∧ r.2.sem = fun _ => 0)

def quiescent_HgIdeal [hHgIdeal : Cert.HgIdeal.Facts] : Prop :=
  ∀ (m : (ℓ : Loc Cert.HgIdeal.nD Cert.HgIdeal.τ Cert.HgIdeal.sig) → Buf (Elt Ideal) ℓ) (g : Dev Cert.HgIdeal.nD → PrngReg), Pre_HgIdeal m →
    θ_run (Cert.HgIdeal.defs (F := Ideal)) (onTc (τ := Cert.HgIdeal.τ) (Cert.HgIdeal.main (F := Ideal))) ⟨m, fun _ => 0, g⟩ (fun r => (∀ c : Dev Cert.HgIdeal.nD,
      r.2.mem ((c.tc : Thread Cert.HgIdeal.nD Cert.HgIdeal.τ).loc Cert.HgIdeal.main_arg0) = m ((c.tc : Thread Cert.HgIdeal.nD Cert.HgIdeal.τ).loc Cert.HgIdeal.main_arg0)
      ∧ r.2.mem ((c.tc : Thread Cert.HgIdeal.nD Cert.HgIdeal.τ).loc Cert.HgIdeal.main_arg1) = m ((c.tc : Thread Cert.HgIdeal.nD Cert.HgIdeal.τ).loc Cert.HgIdeal.main_arg1))
      ∧ r.2.sem = fun _ => 0)

def quiescent_HgRefIdeal [hHgRefIdeal : Cert.HgRefIdeal.Facts] : Prop :=
  ∀ (m : (ℓ : Loc Cert.HgRefIdeal.nD Cert.HgRefIdeal.τ Cert.HgRefIdeal.sig) → Buf (Elt Ideal) ℓ) (g : Dev Cert.HgRefIdeal.nD → PrngReg), Pre_HgRefIdeal m →
    θ_run (Cert.HgRefIdeal.defs (F := Ideal)) (onTc (τ := Cert.HgRefIdeal.τ) (Cert.HgRefIdeal.main (F := Ideal))) ⟨m, fun _ => 0, g⟩ (fun r => (∀ c : Dev Cert.HgRefIdeal.nD,
      r.2.mem ((c.tc : Thread Cert.HgRefIdeal.nD Cert.HgRefIdeal.τ).loc Cert.HgRefIdeal.main_arg0) = m ((c.tc : Thread Cert.HgRefIdeal.nD Cert.HgRefIdeal.τ).loc Cert.HgRefIdeal.main_arg0)
      ∧ r.2.mem ((c.tc : Thread Cert.HgRefIdeal.nD Cert.HgRefIdeal.τ).loc Cert.HgRefIdeal.main_arg1) = m ((c.tc : Thread Cert.HgRefIdeal.nD Cert.HgRefIdeal.τ).loc Cert.HgRefIdeal.main_arg1))
      ∧ r.2.sem = fun _ => 0)

def quiescent_Win [hWin : Cert.Win.Facts] : Prop :=
  ∀ (m : (ℓ : Loc Cert.Win.nD Cert.Win.τ Cert.Win.sig) → Buf (Elt Bits) ℓ) (g : Dev Cert.Win.nD → PrngReg), Pre_Win m →
    θ_run (Cert.Win.defs (F := Bits)) (onTc (τ := Cert.Win.τ) (Cert.Win.main (F := Bits))) ⟨m, fun _ => 0, g⟩ (fun r => (∀ c : Dev Cert.Win.nD,
      r.2.mem ((c.tc : Thread Cert.Win.nD Cert.Win.τ).loc Cert.Win.main_arg0) = m ((c.tc : Thread Cert.Win.nD Cert.Win.τ).loc Cert.Win.main_arg0)
      ∧ r.2.mem ((c.tc : Thread Cert.Win.nD Cert.Win.τ).loc Cert.Win.main_arg1) = m ((c.tc : Thread Cert.Win.nD Cert.Win.τ).loc Cert.Win.main_arg1))
      ∧ r.2.sem = fun _ => 0)

def quiescent_WinIdeal [hWinIdeal : Cert.WinIdeal.Facts] : Prop :=
  ∀ (m : (ℓ : Loc Cert.WinIdeal.nD Cert.WinIdeal.τ Cert.WinIdeal.sig) → Buf (Elt Ideal) ℓ) (g : Dev Cert.WinIdeal.nD → PrngReg), Pre_WinIdeal m →
    θ_run (Cert.WinIdeal.defs (F := Ideal)) (onTc (τ := Cert.WinIdeal.τ) (Cert.WinIdeal.main (F := Ideal))) ⟨m, fun _ => 0, g⟩ (fun r => (∀ c : Dev Cert.WinIdeal.nD,
      r.2.mem ((c.tc : Thread Cert.WinIdeal.nD Cert.WinIdeal.τ).loc Cert.WinIdeal.main_arg0) = m ((c.tc : Thread Cert.WinIdeal.nD Cert.WinIdeal.τ).loc Cert.WinIdeal.main_arg0)
      ∧ r.2.mem ((c.tc : Thread Cert.WinIdeal.nD Cert.WinIdeal.τ).loc Cert.WinIdeal.main_arg1) = m ((c.tc : Thread Cert.WinIdeal.nD Cert.WinIdeal.τ).loc Cert.WinIdeal.main_arg1))
      ∧ r.2.sem = fun _ => 0)

def quiescent_WinRefIdeal [hWinRefIdeal : Cert.WinRefIdeal.Facts] : Prop :=
  ∀ (m : (ℓ : Loc Cert.WinRefIdeal.nD Cert.WinRefIdeal.τ Cert.WinRefIdeal.sig) → Buf (Elt Ideal) ℓ) (g : Dev Cert.WinRefIdeal.nD → PrngReg), Pre_WinRefIdeal m →
    θ_run (Cert.WinRefIdeal.defs (F := Ideal)) (onTc (τ := Cert.WinRefIdeal.τ) (Cert.WinRefIdeal.main (F := Ideal))) ⟨m, fun _ => 0, g⟩ (fun r => (∀ c : Dev Cert.WinRefIdeal.nD,
      r.2.mem ((c.tc : Thread Cert.WinRefIdeal.nD Cert.WinRefIdeal.τ).loc Cert.WinRefIdeal.main_arg0) = m ((c.tc : Thread Cert.WinRefIdeal.nD Cert.WinRefIdeal.τ).loc Cert.WinRefIdeal.main_arg0)
      ∧ r.2.mem ((c.tc : Thread Cert.WinRefIdeal.nD Cert.WinRefIdeal.τ).loc Cert.WinRefIdeal.main_arg1) = m ((c.tc : Thread Cert.WinRefIdeal.nD Cert.WinRefIdeal.τ).loc Cert.WinRefIdeal.main_arg1))
      ∧ r.2.sem = fun _ => 0)

def quiescent_Dh [hDh : Cert.Dh.Facts] : Prop :=
  ∀ (m : (ℓ : Loc Cert.Dh.nD Cert.Dh.τ Cert.Dh.sig) → Buf (Elt Bits) ℓ) (g : Dev Cert.Dh.nD → PrngReg), Pre_Dh m →
    θ_run (Cert.Dh.defs (F := Bits)) (onTc (τ := Cert.Dh.τ) (Cert.Dh.main (F := Bits))) ⟨m, fun _ => 0, g⟩ (fun r => (∀ c : Dev Cert.Dh.nD,
      r.2.mem ((c.tc : Thread Cert.Dh.nD Cert.Dh.τ).loc Cert.Dh.main_arg0) = m ((c.tc : Thread Cert.Dh.nD Cert.Dh.τ).loc Cert.Dh.main_arg0)
      ∧ r.2.mem ((c.tc : Thread Cert.Dh.nD Cert.Dh.τ).loc Cert.Dh.main_arg1) = m ((c.tc : Thread Cert.Dh.nD Cert.Dh.τ).loc Cert.Dh.main_arg1))
      ∧ r.2.sem = fun _ => 0)

def quiescent_DhIdeal [hDhIdeal : Cert.DhIdeal.Facts] : Prop :=
  ∀ (m : (ℓ : Loc Cert.DhIdeal.nD Cert.DhIdeal.τ Cert.DhIdeal.sig) → Buf (Elt Ideal) ℓ) (g : Dev Cert.DhIdeal.nD → PrngReg), Pre_DhIdeal m →
    θ_run (Cert.DhIdeal.defs (F := Ideal)) (onTc (τ := Cert.DhIdeal.τ) (Cert.DhIdeal.main (F := Ideal))) ⟨m, fun _ => 0, g⟩ (fun r => (∀ c : Dev Cert.DhIdeal.nD,
      r.2.mem ((c.tc : Thread Cert.DhIdeal.nD Cert.DhIdeal.τ).loc Cert.DhIdeal.main_arg0) = m ((c.tc : Thread Cert.DhIdeal.nD Cert.DhIdeal.τ).loc Cert.DhIdeal.main_arg0)
      ∧ r.2.mem ((c.tc : Thread Cert.DhIdeal.nD Cert.DhIdeal.τ).loc Cert.DhIdeal.main_arg1) = m ((c.tc : Thread Cert.DhIdeal.nD Cert.DhIdeal.τ).loc Cert.DhIdeal.main_arg1))
      ∧ r.2.sem = fun _ => 0)

def quiescent_DhRefIdeal [hDhRefIdeal : Cert.DhRefIdeal.Facts] : Prop :=
  ∀ (m : (ℓ : Loc Cert.DhRefIdeal.nD Cert.DhRefIdeal.τ Cert.DhRefIdeal.sig) → Buf (Elt Ideal) ℓ) (g : Dev Cert.DhRefIdeal.nD → PrngReg), Pre_DhRefIdeal m →
    θ_run (Cert.DhRefIdeal.defs (F := Ideal)) (onTc (τ := Cert.DhRefIdeal.τ) (Cert.DhRefIdeal.main (F := Ideal))) ⟨m, fun _ => 0, g⟩ (fun r => (∀ c : Dev Cert.DhRefIdeal.nD,
      r.2.mem ((c.tc : Thread Cert.DhRefIdeal.nD Cert.DhRefIdeal.τ).loc Cert.DhRefIdeal.main_arg0) = m ((c.tc : Thread Cert.DhRefIdeal.nD Cert.DhRefIdeal.τ).loc Cert.DhRefIdeal.main_arg0)
      ∧ r.2.mem ((c.tc : Thread Cert.DhRefIdeal.nD Cert.DhRefIdeal.τ).loc Cert.DhRefIdeal.main_arg1) = m ((c.tc : Thread Cert.DhRefIdeal.nD Cert.DhRefIdeal.τ).loc Cert.DhRefIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6))
      ∧ r.2.sem = fun _ => 0)

def quiescent_Do [hDo : Cert.Do.Facts] : Prop :=
  ∀ (m : (ℓ : Loc Cert.Do.nD Cert.Do.τ Cert.Do.sig) → Buf (Elt Bits) ℓ) (g : Dev Cert.Do.nD → PrngReg), Pre_Do m →
    θ_run (Cert.Do.defs (F := Bits)) (onTc (τ := Cert.Do.τ) (Cert.Do.main (F := Bits))) ⟨m, fun _ => 0, g⟩ (fun r => (∀ c : Dev Cert.Do.nD,
      r.2.mem ((c.tc : Thread Cert.Do.nD Cert.Do.τ).loc Cert.Do.main_arg0) = m ((c.tc : Thread Cert.Do.nD Cert.Do.τ).loc Cert.Do.main_arg0)
      ∧ r.2.mem ((c.tc : Thread Cert.Do.nD Cert.Do.τ).loc Cert.Do.main_arg1) = m ((c.tc : Thread Cert.Do.nD Cert.Do.τ).loc Cert.Do.main_arg1))
      ∧ r.2.sem = fun _ => 0)

def quiescent_DoIdeal [hDoIdeal : Cert.DoIdeal.Facts] : Prop :=
  ∀ (m : (ℓ : Loc Cert.DoIdeal.nD Cert.DoIdeal.τ Cert.DoIdeal.sig) → Buf (Elt Ideal) ℓ) (g : Dev Cert.DoIdeal.nD → PrngReg), Pre_DoIdeal m →
    θ_run (Cert.DoIdeal.defs (F := Ideal)) (onTc (τ := Cert.DoIdeal.τ) (Cert.DoIdeal.main (F := Ideal))) ⟨m, fun _ => 0, g⟩ (fun r => (∀ c : Dev Cert.DoIdeal.nD,
      r.2.mem ((c.tc : Thread Cert.DoIdeal.nD Cert.DoIdeal.τ).loc Cert.DoIdeal.main_arg0) = m ((c.tc : Thread Cert.DoIdeal.nD Cert.DoIdeal.τ).loc Cert.DoIdeal.main_arg0)
      ∧ r.2.mem ((c.tc : Thread Cert.DoIdeal.nD Cert.DoIdeal.τ).loc Cert.DoIdeal.main_arg1) = m ((c.tc : Thread Cert.DoIdeal.nD Cert.DoIdeal.τ).loc Cert.DoIdeal.main_arg1))
      ∧ r.2.sem = fun _ => 0)

def quiescent_DoRefIdeal [hDoRefIdeal : Cert.DoRefIdeal.Facts] : Prop :=
  ∀ (m : (ℓ : Loc Cert.DoRefIdeal.nD Cert.DoRefIdeal.τ Cert.DoRefIdeal.sig) → Buf (Elt Ideal) ℓ) (g : Dev Cert.DoRefIdeal.nD → PrngReg), Pre_DoRefIdeal m →
    θ_run (Cert.DoRefIdeal.defs (F := Ideal)) (onTc (τ := Cert.DoRefIdeal.τ) (Cert.DoRefIdeal.main (F := Ideal))) ⟨m, fun _ => 0, g⟩ (fun r => (∀ c : Dev Cert.DoRefIdeal.nD,
      r.2.mem ((c.tc : Thread Cert.DoRefIdeal.nD Cert.DoRefIdeal.τ).loc Cert.DoRefIdeal.main_arg0) = m ((c.tc : Thread Cert.DoRefIdeal.nD Cert.DoRefIdeal.τ).loc Cert.DoRefIdeal.main_arg0)
      ∧ r.2.mem ((c.tc : Thread Cert.DoRefIdeal.nD Cert.DoRefIdeal.τ).loc Cert.DoRefIdeal.main_arg1) = m ((c.tc : Thread Cert.DoRefIdeal.nD Cert.DoRefIdeal.τ).loc Cert.DoRefIdeal.main_arg1))
      ∧ r.2.sem = fun _ => 0)

def quiescent_Wo [hWo : Cert.Wo.Facts] : Prop :=
  ∀ (m : (ℓ : Loc Cert.Wo.nD Cert.Wo.τ Cert.Wo.sig) → Buf (Elt Bits) ℓ) (g : Dev Cert.Wo.nD → PrngReg), Pre_Wo m →
    θ_run (Cert.Wo.defs (F := Bits)) (onTc (τ := Cert.Wo.τ) (Cert.Wo.main (F := Bits))) ⟨m, fun _ => 0, g⟩ (fun r => (∀ c : Dev Cert.Wo.nD,
      r.2.mem ((c.tc : Thread Cert.Wo.nD Cert.Wo.τ).loc Cert.Wo.main_arg0) = m ((c.tc : Thread Cert.Wo.nD Cert.Wo.τ).loc Cert.Wo.main_arg0)
      ∧ r.2.mem ((c.tc : Thread Cert.Wo.nD Cert.Wo.τ).loc Cert.Wo.main_arg1) = m ((c.tc : Thread Cert.Wo.nD Cert.Wo.τ).loc Cert.Wo.main_arg1))
      ∧ r.2.sem = fun _ => 0)

def quiescent_WoIdeal [hWoIdeal : Cert.WoIdeal.Facts] : Prop :=
  ∀ (m : (ℓ : Loc Cert.WoIdeal.nD Cert.WoIdeal.τ Cert.WoIdeal.sig) → Buf (Elt Ideal) ℓ) (g : Dev Cert.WoIdeal.nD → PrngReg), Pre_WoIdeal m →
    θ_run (Cert.WoIdeal.defs (F := Ideal)) (onTc (τ := Cert.WoIdeal.τ) (Cert.WoIdeal.main (F := Ideal))) ⟨m, fun _ => 0, g⟩ (fun r => (∀ c : Dev Cert.WoIdeal.nD,
      r.2.mem ((c.tc : Thread Cert.WoIdeal.nD Cert.WoIdeal.τ).loc Cert.WoIdeal.main_arg0) = m ((c.tc : Thread Cert.WoIdeal.nD Cert.WoIdeal.τ).loc Cert.WoIdeal.main_arg0)
      ∧ r.2.mem ((c.tc : Thread Cert.WoIdeal.nD Cert.WoIdeal.τ).loc Cert.WoIdeal.main_arg1) = m ((c.tc : Thread Cert.WoIdeal.nD Cert.WoIdeal.τ).loc Cert.WoIdeal.main_arg1))
      ∧ r.2.sem = fun _ => 0)

def quiescent_WoRefIdeal [hWoRefIdeal : Cert.WoRefIdeal.Facts] : Prop :=
  ∀ (m : (ℓ : Loc Cert.WoRefIdeal.nD Cert.WoRefIdeal.τ Cert.WoRefIdeal.sig) → Buf (Elt Ideal) ℓ) (g : Dev Cert.WoRefIdeal.nD → PrngReg), Pre_WoRefIdeal m →
    θ_run (Cert.WoRefIdeal.defs (F := Ideal)) (onTc (τ := Cert.WoRefIdeal.τ) (Cert.WoRefIdeal.main (F := Ideal))) ⟨m, fun _ => 0, g⟩ (fun r => (∀ c : Dev Cert.WoRefIdeal.nD,
      r.2.mem ((c.tc : Thread Cert.WoRefIdeal.nD Cert.WoRefIdeal.τ).loc Cert.WoRefIdeal.main_arg0) = m ((c.tc : Thread Cert.WoRefIdeal.nD Cert.WoRefIdeal.τ).loc Cert.WoRefIdeal.main_arg0)
      ∧ r.2.mem ((c.tc : Thread Cert.WoRefIdeal.nD Cert.WoRefIdeal.τ).loc Cert.WoRefIdeal.main_arg1) = m ((c.tc : Thread Cert.WoRefIdeal.nD Cert.WoRefIdeal.τ).loc Cert.WoRefIdeal.main_arg1))
      ∧ r.2.sem = fun _ => 0)

def quiescent_Wout [hWout : Cert.Wout.Facts] : Prop :=
  ∀ (m : (ℓ : Loc Cert.Wout.nD Cert.Wout.τ Cert.Wout.sig) → Buf (Elt Bits) ℓ) (g : Dev Cert.Wout.nD → PrngReg), Pre_Wout m →
    θ_run (Cert.Wout.defs (F := Bits)) (onTc (τ := Cert.Wout.τ) (Cert.Wout.main (F := Bits))) ⟨m, fun _ => 0, g⟩ (fun r => (∀ c : Dev Cert.Wout.nD,
      r.2.mem ((c.tc : Thread Cert.Wout.nD Cert.Wout.τ).loc Cert.Wout.main_arg0) = m ((c.tc : Thread Cert.Wout.nD Cert.Wout.τ).loc Cert.Wout.main_arg0)
      ∧ r.2.mem ((c.tc : Thread Cert.Wout.nD Cert.Wout.τ).loc Cert.Wout.main_arg1) = m ((c.tc : Thread Cert.Wout.nD Cert.Wout.τ).loc Cert.Wout.main_arg1))
      ∧ r.2.sem = fun _ => 0)

def quiescent_WoutIdeal [hWoutIdeal : Cert.WoutIdeal.Facts] : Prop :=
  ∀ (m : (ℓ : Loc Cert.WoutIdeal.nD Cert.WoutIdeal.τ Cert.WoutIdeal.sig) → Buf (Elt Ideal) ℓ) (g : Dev Cert.WoutIdeal.nD → PrngReg), Pre_WoutIdeal m →
    θ_run (Cert.WoutIdeal.defs (F := Ideal)) (onTc (τ := Cert.WoutIdeal.τ) (Cert.WoutIdeal.main (F := Ideal))) ⟨m, fun _ => 0, g⟩ (fun r => (∀ c : Dev Cert.WoutIdeal.nD,
      r.2.mem ((c.tc : Thread Cert.WoutIdeal.nD Cert.WoutIdeal.τ).loc Cert.WoutIdeal.main_arg0) = m ((c.tc : Thread Cert.WoutIdeal.nD Cert.WoutIdeal.τ).loc Cert.WoutIdeal.main_arg0)
      ∧ r.2.mem ((c.tc : Thread Cert.WoutIdeal.nD Cert.WoutIdeal.τ).loc Cert.WoutIdeal.main_arg1) = m ((c.tc : Thread Cert.WoutIdeal.nD Cert.WoutIdeal.τ).loc Cert.WoutIdeal.main_arg1))
      ∧ r.2.sem = fun _ => 0)

def quiescent_WoutRefIdeal [hWoutRefIdeal : Cert.WoutRefIdeal.Facts] : Prop :=
  ∀ (m : (ℓ : Loc Cert.WoutRefIdeal.nD Cert.WoutRefIdeal.τ Cert.WoutRefIdeal.sig) → Buf (Elt Ideal) ℓ) (g : Dev Cert.WoutRefIdeal.nD → PrngReg), Pre_WoutRefIdeal m →
    θ_run (Cert.WoutRefIdeal.defs (F := Ideal)) (onTc (τ := Cert.WoutRefIdeal.τ) (Cert.WoutRefIdeal.main (F := Ideal))) ⟨m, fun _ => 0, g⟩ (fun r => (∀ c : Dev Cert.WoutRefIdeal.nD,
      r.2.mem ((c.tc : Thread Cert.WoutRefIdeal.nD Cert.WoutRefIdeal.τ).loc Cert.WoutRefIdeal.main_arg0) = m ((c.tc : Thread Cert.WoutRefIdeal.nD Cert.WoutRefIdeal.τ).loc Cert.WoutRefIdeal.main_arg0)
      ∧ r.2.mem ((c.tc : Thread Cert.WoutRefIdeal.nD Cert.WoutRefIdeal.τ).loc Cert.WoutRefIdeal.main_arg1) = m ((c.tc : Thread Cert.WoutRefIdeal.nD Cert.WoutRefIdeal.τ).loc Cert.WoutRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0)

def quiescent_Rms [hRms : Cert.Rms.Facts] : Prop :=
  ∀ (m : (ℓ : Loc Cert.Rms.nD Cert.Rms.τ Cert.Rms.sig) → Buf (Elt Bits) ℓ) (g : Dev Cert.Rms.nD → PrngReg), Pre_Rms m →
    θ_run (Cert.Rms.defs (F := Bits)) (onTc (τ := Cert.Rms.τ) (Cert.Rms.main (F := Bits))) ⟨m, fun _ => 0, g⟩ (fun r => (∀ c : Dev Cert.Rms.nD,
      r.2.mem ((c.tc : Thread Cert.Rms.nD Cert.Rms.τ).loc Cert.Rms.main_arg0) = m ((c.tc : Thread Cert.Rms.nD Cert.Rms.τ).loc Cert.Rms.main_arg0)
      ∧ r.2.mem ((c.tc : Thread Cert.Rms.nD Cert.Rms.τ).loc Cert.Rms.main_arg1) = m ((c.tc : Thread Cert.Rms.nD Cert.Rms.τ).loc Cert.Rms.main_arg1)
      ∧ r.2.mem ((c.tc : Thread Cert.Rms.nD Cert.Rms.τ).loc Cert.Rms.main_arg2) = m ((c.tc : Thread Cert.Rms.nD Cert.Rms.τ).loc Cert.Rms.main_arg2)
      ∧ r.2.mem ((c.tc : Thread Cert.Rms.nD Cert.Rms.τ).loc Cert.Rms.main_arg3) = m ((c.tc : Thread Cert.Rms.nD Cert.Rms.τ).loc Cert.Rms.main_arg3))
      ∧ r.2.sem = fun _ => 0)

def quiescent_RmsIdeal [hRmsIdeal : Cert.RmsIdeal.Facts] : Prop :=
  ∀ (m : (ℓ : Loc Cert.RmsIdeal.nD Cert.RmsIdeal.τ Cert.RmsIdeal.sig) → Buf (Elt Ideal) ℓ) (g : Dev Cert.RmsIdeal.nD → PrngReg), Pre_RmsIdeal m →
    θ_run (Cert.RmsIdeal.defs (F := Ideal)) (onTc (τ := Cert.RmsIdeal.τ) (Cert.RmsIdeal.main (F := Ideal))) ⟨m, fun _ => 0, g⟩ (fun r => (∀ c : Dev Cert.RmsIdeal.nD,
      r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
      ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1)
      ∧ r.2.mem ((c.tc : Thread Cert.RmsIdeal.nD Cert.RmsIdeal.τ).loc Cert.RmsIdeal.main_arg2) = m ((c.tc : Thread Cert.RmsIdeal.nD Cert.RmsIdeal.τ).loc Cert.RmsIdeal.main_arg2)
      ∧ r.2.mem ((c.tc : Thread Cert.RmsIdeal.nD Cert.RmsIdeal.τ).loc Cert.RmsIdeal.main_arg3) = m ((c.tc : Thread Cert.RmsIdeal.nD Cert.RmsIdeal.τ).loc Cert.RmsIdeal.main_arg3))
      ∧ r.2.sem = fun _ => 0)

def quiescent_RmsRefIdeal [hRmsRefIdeal : Cert.RmsRefIdeal.Facts] : Prop :=
  ∀ (m : (ℓ : Loc Cert.RmsRefIdeal.nD Cert.RmsRefIdeal.τ Cert.RmsRefIdeal.sig) → Buf (Elt Ideal) ℓ) (g : Dev Cert.RmsRefIdeal.nD → PrngReg), Pre_RmsRefIdeal m →
    θ_run (Cert.RmsRefIdeal.defs (F := Ideal)) (onTc (τ := Cert.RmsRefIdeal.τ) (Cert.RmsRefIdeal.main (F := Ideal))) ⟨m, fun _ => 0, g⟩ (fun r => (∀ c : Dev Cert.RmsRefIdeal.nD,
      r.2.mem ((c.tc : Thread Cert.RmsRefIdeal.nD Cert.RmsRefIdeal.τ).loc Cert.RmsRefIdeal.main_arg0) = m ((c.tc : Thread Cert.RmsRefIdeal.nD Cert.RmsRefIdeal.τ).loc Cert.RmsRefIdeal.main_arg0)
      ∧ r.2.mem ((c.tc : Thread Cert.RmsRefIdeal.nD Cert.RmsRefIdeal.τ).loc Cert.RmsRefIdeal.main_arg1) = m ((c.tc : Thread Cert.RmsRefIdeal.nD Cert.RmsRefIdeal.τ).loc Cert.RmsRefIdeal.main_arg1)
      ∧ r.2.mem ((c.tc : Thread Cert.RmsRefIdeal.nD Cert.RmsRefIdeal.τ).loc Cert.RmsRefIdeal.main_arg2) = m ((c.tc : Thread Cert.RmsRefIdeal.nD Cert.RmsRefIdeal.τ).loc Cert.RmsRefIdeal.main_arg2)
      ∧ r.2.mem ((c.tc : Thread Cert.RmsRefIdeal.nD Cert.RmsRefIdeal.τ).loc Cert.RmsRefIdeal.main_arg3) = m ((c.tc : Thread Cert.RmsRefIdeal.nD Cert.RmsRefIdeal.τ).loc Cert.RmsRefIdeal.main_arg3))
      ∧ r.2.sem = fun _ => 0)

def quiescent_Pq [hPq : Cert.Pq.Facts] : Prop :=
  ∀ (m : (ℓ : Loc Cert.Pq.nD Cert.Pq.τ Cert.Pq.sig) → Buf (Elt Bits) ℓ) (g : Dev Cert.Pq.nD → PrngReg), Pre_Pq m →
    θ_run (Cert.Pq.defs (F := Bits)) (onTc (τ := Cert.Pq.τ) (Cert.Pq.main (F := Bits))) ⟨m, fun _ => 0, g⟩ (fun r => (∀ c : Dev Cert.Pq.nD,
      r.2.mem ((c.tc : Thread Cert.Pq.nD Cert.Pq.τ).loc Cert.Pq.main_arg0) = m ((c.tc : Thread Cert.Pq.nD Cert.Pq.τ).loc Cert.Pq.main_arg0)
      ∧ r.2.mem ((c.tc : Thread Cert.Pq.nD Cert.Pq.τ).loc Cert.Pq.main_arg1) = m ((c.tc : Thread Cert.Pq.nD Cert.Pq.τ).loc Cert.Pq.main_arg1))
      ∧ r.2.sem = fun _ => 0)

def quiescent_PqIdeal [hPqIdeal : Cert.PqIdeal.Facts] : Prop :=
  ∀ (m : (ℓ : Loc Cert.PqIdeal.nD Cert.PqIdeal.τ Cert.PqIdeal.sig) → Buf (Elt Ideal) ℓ) (g : Dev Cert.PqIdeal.nD → PrngReg), Pre_PqIdeal m →
    θ_run (Cert.PqIdeal.defs (F := Ideal)) (onTc (τ := Cert.PqIdeal.τ) (Cert.PqIdeal.main (F := Ideal))) ⟨m, fun _ => 0, g⟩ (fun r => (∀ c : Dev Cert.PqIdeal.nD,
      r.2.mem ((c.tc : Thread Cert.PqIdeal.nD Cert.PqIdeal.τ).loc Cert.PqIdeal.main_arg0) = m ((c.tc : Thread Cert.PqIdeal.nD Cert.PqIdeal.τ).loc Cert.PqIdeal.main_arg0)
      ∧ r.2.mem ((c.tc : Thread Cert.PqIdeal.nD Cert.PqIdeal.τ).loc Cert.PqIdeal.main_arg1) = m ((c.tc : Thread Cert.PqIdeal.nD Cert.PqIdeal.τ).loc Cert.PqIdeal.main_arg1))
      ∧ r.2.sem = fun _ => 0)

def quiescent_PqRefIdeal [hPqRefIdeal : Cert.PqRefIdeal.Facts] : Prop :=
  ∀ (m : (ℓ : Loc Cert.PqRefIdeal.nD Cert.PqRefIdeal.τ Cert.PqRefIdeal.sig) → Buf (Elt Ideal) ℓ) (g : Dev Cert.PqRefIdeal.nD → PrngReg), Pre_PqRefIdeal m →
    θ_run (Cert.PqRefIdeal.defs (F := Ideal)) (onTc (τ := Cert.PqRefIdeal.τ) (Cert.PqRefIdeal.main (F := Ideal))) ⟨m, fun _ => 0, g⟩ (fun r => (∀ c : Dev Cert.PqRefIdeal.nD,
      r.2.mem ((c.tc : Thread Cert.PqRefIdeal.nD Cert.PqRefIdeal.τ).loc Cert.PqRefIdeal.main_arg0) = m ((c.tc : Thread Cert.PqRefIdeal.nD Cert.PqRefIdeal.τ).loc Cert.PqRefIdeal.main_arg0)
      ∧ r.2.mem ((c.tc : Thread Cert.PqRefIdeal.nD Cert.PqRefIdeal.τ).loc Cert.PqRefIdeal.main_arg1) = m ((c.tc : Thread Cert.PqRefIdeal.nD Cert.PqRefIdeal.τ).loc Cert.PqRefIdeal.main_arg1))
      ∧ r.2.sem = fun _ => 0)

def quiescent_Pkv [hPkv : Cert.Pkv.Facts] : Prop :=
  ∀ (m : (ℓ : Loc Cert.Pkv.nD Cert.Pkv.τ Cert.Pkv.sig) → Buf (Elt Bits) ℓ) (g : Dev Cert.Pkv.nD → PrngReg), Pre_Pkv m →
    θ_run (Cert.Pkv.defs (F := Bits)) (onTc (τ := Cert.Pkv.τ) (Cert.Pkv.main (F := Bits))) ⟨m, fun _ => 0, g⟩ (fun r => (∀ c : Dev Cert.Pkv.nD,
      r.2.mem ((c.tc : Thread Cert.Pkv.nD Cert.Pkv.τ).loc Cert.Pkv.main_arg0) = m ((c.tc : Thread Cert.Pkv.nD Cert.Pkv.τ).loc Cert.Pkv.main_arg0)
      ∧ r.2.mem ((c.tc : Thread Cert.Pkv.nD Cert.Pkv.τ).loc Cert.Pkv.main_arg1) = m ((c.tc : Thread Cert.Pkv.nD Cert.Pkv.τ).loc Cert.Pkv.main_arg1))
      ∧ r.2.sem = fun _ => 0)

def quiescent_PkvIdeal [hPkvIdeal : Cert.PkvIdeal.Facts] : Prop :=
  ∀ (m : (ℓ : Loc Cert.PkvIdeal.nD Cert.PkvIdeal.τ Cert.PkvIdeal.sig) → Buf (Elt Ideal) ℓ) (g : Dev Cert.PkvIdeal.nD → PrngReg), Pre_PkvIdeal m →
    θ_run (Cert.PkvIdeal.defs (F := Ideal)) (onTc (τ := Cert.PkvIdeal.τ) (Cert.PkvIdeal.main (F := Ideal))) ⟨m, fun _ => 0, g⟩ (fun r => (∀ c : Dev Cert.PkvIdeal.nD,
      r.2.mem ((c.tc : Thread Cert.PkvIdeal.nD Cert.PkvIdeal.τ).loc Cert.PkvIdeal.main_arg0) = m ((c.tc : Thread Cert.PkvIdeal.nD Cert.PkvIdeal.τ).loc Cert.PkvIdeal.main_arg0)
      ∧ r.2.mem ((c.tc : Thread Cert.PkvIdeal.nD Cert.PkvIdeal.τ).loc Cert.PkvIdeal.main_arg1) = m ((c.tc : Thread Cert.PkvIdeal.nD Cert.PkvIdeal.τ).loc Cert.PkvIdeal.main_arg1))
      ∧ r.2.sem = fun _ => 0)

def quiescent_PkvRefIdeal [hPkvRefIdeal : Cert.PkvRefIdeal.Facts] : Prop :=
  ∀ (m : (ℓ : Loc Cert.PkvRefIdeal.nD Cert.PkvRefIdeal.τ Cert.PkvRefIdeal.sig) → Buf (Elt Ideal) ℓ) (g : Dev Cert.PkvRefIdeal.nD → PrngReg), Pre_PkvRefIdeal m →
    θ_run (Cert.PkvRefIdeal.defs (F := Ideal)) (onTc (τ := Cert.PkvRefIdeal.τ) (Cert.PkvRefIdeal.main (F := Ideal))) ⟨m, fun _ => 0, g⟩ (fun r => (∀ c : Dev Cert.PkvRefIdeal.nD,
      r.2.mem ((c.tc : Thread Cert.PkvRefIdeal.nD Cert.PkvRefIdeal.τ).loc Cert.PkvRefIdeal.main_arg0) = m ((c.tc : Thread Cert.PkvRefIdeal.nD Cert.PkvRefIdeal.τ).loc Cert.PkvRefIdeal.main_arg0)
      ∧ r.2.mem ((c.tc : Thread Cert.PkvRefIdeal.nD Cert.PkvRefIdeal.τ).loc Cert.PkvRefIdeal.main_arg1) = m ((c.tc : Thread Cert.PkvRefIdeal.nD Cert.PkvRefIdeal.τ).loc Cert.PkvRefIdeal.main_arg1))
      ∧ r.2.sem = fun _ => 0)

def quiescent_Pconv [hPconv : Cert.Pconv.Facts] : Prop :=
  ∀ (m : (ℓ : Loc Cert.Pconv.nD Cert.Pconv.τ Cert.Pconv.sig) → Buf (Elt Bits) ℓ) (g : Dev Cert.Pconv.nD → PrngReg), Pre_Pconv m →
    θ_run (Cert.Pconv.defs (F := Bits)) (onTc (τ := Cert.Pconv.τ) (Cert.Pconv.main (F := Bits))) ⟨m, fun _ => 0, g⟩ (fun r => (∀ c : Dev Cert.Pconv.nD,
      r.2.mem ((c.tc : Thread Cert.Pconv.nD Cert.Pconv.τ).loc Cert.Pconv.main_arg0) = m ((c.tc : Thread Cert.Pconv.nD Cert.Pconv.τ).loc Cert.Pconv.main_arg0)
      ∧ r.2.mem ((c.tc : Thread Cert.Pconv.nD Cert.Pconv.τ).loc Cert.Pconv.main_arg1) = m ((c.tc : Thread Cert.Pconv.nD Cert.Pconv.τ).loc Cert.Pconv.main_arg1))
      ∧ r.2.sem = fun _ => 0)

def quiescent_PconvIdeal [hPconvIdeal : Cert.PconvIdeal.Facts] : Prop :=
  ∀ (m : (ℓ : Loc Cert.PconvIdeal.nD Cert.PconvIdeal.τ Cert.PconvIdeal.sig) → Buf (Elt Ideal) ℓ) (g : Dev Cert.PconvIdeal.nD → PrngReg), Pre_PconvIdeal m →
    θ_run (Cert.PconvIdeal.defs (F := Ideal)) (onTc (τ := Cert.PconvIdeal.τ) (Cert.PconvIdeal.main (F := Ideal))) ⟨m, fun _ => 0, g⟩ (fun r => (∀ c : Dev Cert.PconvIdeal.nD,
      r.2.mem ((c.tc : Thread Cert.PconvIdeal.nD Cert.PconvIdeal.τ).loc Cert.PconvIdeal.main_arg0) = m ((c.tc : Thread Cert.PconvIdeal.nD Cert.PconvIdeal.τ).loc Cert.PconvIdeal.main_arg0)
      ∧ r.2.mem ((c.tc : Thread Cert.PconvIdeal.nD Cert.PconvIdeal.τ).loc Cert.PconvIdeal.main_arg1) = m ((c.tc : Thread Cert.PconvIdeal.nD Cert.PconvIdeal.τ).loc Cert.PconvIdeal.main_arg1))
      ∧ r.2.sem = fun _ => 0)

def quiescent_PconvRefIdeal [hPconvRefIdeal : Cert.PconvRefIdeal.Facts] : Prop :=
  ∀ (m : (ℓ : Loc Cert.PconvRefIdeal.nD Cert.PconvRefIdeal.τ Cert.PconvRefIdeal.sig) → Buf (Elt Ideal) ℓ) (g : Dev Cert.PconvRefIdeal.nD → PrngReg), Pre_PconvRefIdeal m →
    θ_run (Cert.PconvRefIdeal.defs (F := Ideal)) (onTc (τ := Cert.PconvRefIdeal.τ) (Cert.PconvRefIdeal.main (F := Ideal))) ⟨m, fun _ => 0, g⟩ (fun r => (∀ c : Dev Cert.PconvRefIdeal.nD,
      r.2.mem ((c.tc : Thread Cert.PconvRefIdeal.nD Cert.PconvRefIdeal.τ).loc Cert.PconvRefIdeal.main_arg0) = m ((c.tc : Thread Cert.PconvRefIdeal.nD Cert.PconvRefIdeal.τ).loc Cert.PconvRefIdeal.main_arg0)
      ∧ r.2.mem ((c.tc : Thread Cert.PconvRefIdeal.nD Cert.PconvRefIdeal.τ).loc Cert.PconvRefIdeal.main_arg1) = m ((c.tc : Thread Cert.PconvRefIdeal.nD Cert.PconvRefIdeal.τ).loc Cert.PconvRefIdeal.main_arg1))
      ∧ r.2.sem = fun _ => 0)

def quiescent_Psg [hPsg : Cert.Psg.Facts] : Prop :=
  ∀ (m : (ℓ : Loc Cert.Psg.nD Cert.Psg.τ Cert.Psg.sig) → Buf (Elt Bits) ℓ) (g : Dev Cert.Psg.nD → PrngReg), Pre_Psg m →
    θ_run (Cert.Psg.defs (F := Bits)) (onTc (τ := Cert.Psg.τ) (Cert.Psg.main (F := Bits))) ⟨m, fun _ => 0, g⟩ (fun r => (∀ c : Dev Cert.Psg.nD,
      r.2.mem ((c.tc : Thread Cert.Psg.nD Cert.Psg.τ).loc Cert.Psg.main_arg0) = m ((c.tc : Thread Cert.Psg.nD Cert.Psg.τ).loc Cert.Psg.main_arg0)
      ∧ r.2.mem ((c.tc : Thread Cert.Psg.nD Cert.Psg.τ).loc Cert.Psg.main_arg1) = m ((c.tc : Thread Cert.Psg.nD Cert.Psg.τ).loc Cert.Psg.main_arg1))
      ∧ r.2.sem = fun _ => 0)

def quiescent_PsgIdeal [hPsgIdeal : Cert.PsgIdeal.Facts] : Prop :=
  ∀ (m : (ℓ : Loc Cert.PsgIdeal.nD Cert.PsgIdeal.τ Cert.PsgIdeal.sig) → Buf (Elt Ideal) ℓ) (g : Dev Cert.PsgIdeal.nD → PrngReg), Pre_PsgIdeal m →
    θ_run (Cert.PsgIdeal.defs (F := Ideal)) (onTc (τ := Cert.PsgIdeal.τ) (Cert.PsgIdeal.main (F := Ideal))) ⟨m, fun _ => 0, g⟩ (fun r => (∀ c : Dev Cert.PsgIdeal.nD,
      r.2.mem ((c.tc : Thread Cert.PsgIdeal.nD Cert.PsgIdeal.τ).loc Cert.PsgIdeal.main_arg0) = m ((c.tc : Thread Cert.PsgIdeal.nD Cert.PsgIdeal.τ).loc Cert.PsgIdeal.main_arg0)
      ∧ r.2.mem ((c.tc : Thread Cert.PsgIdeal.nD Cert.PsgIdeal.τ).loc Cert.PsgIdeal.main_arg1) = m ((c.tc : Thread Cert.PsgIdeal.nD Cert.PsgIdeal.τ).loc Cert.PsgIdeal.main_arg1))
      ∧ r.2.sem = fun _ => 0)

def quiescent_PsgRefIdeal [hPsgRefIdeal : Cert.PsgRefIdeal.Facts] : Prop :=
  ∀ (m : (ℓ : Loc Cert.PsgRefIdeal.nD Cert.PsgRefIdeal.τ Cert.PsgRefIdeal.sig) → Buf (Elt Ideal) ℓ) (g : Dev Cert.PsgRefIdeal.nD → PrngReg), Pre_PsgRefIdeal m →
    θ_run (Cert.PsgRefIdeal.defs (F := Ideal)) (onTc (τ := Cert.PsgRefIdeal.τ) (Cert.PsgRefIdeal.main (F := Ideal))) ⟨m, fun _ => 0, g⟩ (fun r => (∀ c : Dev Cert.PsgRefIdeal.nD,
      r.2.mem ((c.tc : Thread Cert.PsgRefIdeal.nD Cert.PsgRefIdeal.τ).loc Cert.PsgRefIdeal.main_arg0) = m ((c.tc : Thread Cert.PsgRefIdeal.nD Cert.PsgRefIdeal.τ).loc Cert.PsgRefIdeal.main_arg0)
      ∧ r.2.mem ((c.tc : Thread Cert.PsgRefIdeal.nD Cert.PsgRefIdeal.τ).loc Cert.PsgRefIdeal.main_arg1) = m ((c.tc : Thread Cert.PsgRefIdeal.nD Cert.PsgRefIdeal.τ).loc Cert.PsgRefIdeal.main_arg1))
      ∧ r.2.sem = fun _ => 0)

def quiescent_Pgate [hPgate : Cert.Pgate.Facts] : Prop :=
  ∀ (m : (ℓ : Loc Cert.Pgate.nD Cert.Pgate.τ Cert.Pgate.sig) → Buf (Elt Bits) ℓ) (g : Dev Cert.Pgate.nD → PrngReg), Pre_Pgate m →
    θ_run (Cert.Pgate.defs (F := Bits)) (onTc (τ := Cert.Pgate.τ) (Cert.Pgate.main (F := Bits))) ⟨m, fun _ => 0, g⟩ (fun r => (∀ c : Dev Cert.Pgate.nD,
      r.2.mem ((c.tc : Thread Cert.Pgate.nD Cert.Pgate.τ).loc Cert.Pgate.main_arg0) = m ((c.tc : Thread Cert.Pgate.nD Cert.Pgate.τ).loc Cert.Pgate.main_arg0)
      ∧ r.2.mem ((c.tc : Thread Cert.Pgate.nD Cert.Pgate.τ).loc Cert.Pgate.main_arg1) = m ((c.tc : Thread Cert.Pgate.nD Cert.Pgate.τ).loc Cert.Pgate.main_arg1))
      ∧ r.2.sem = fun _ => 0)

def quiescent_PgateIdeal [hPgateIdeal : Cert.PgateIdeal.Facts] : Prop :=
  ∀ (m : (ℓ : Loc Cert.PgateIdeal.nD Cert.PgateIdeal.τ Cert.PgateIdeal.sig) → Buf (Elt Ideal) ℓ) (g : Dev Cert.PgateIdeal.nD → PrngReg), Pre_PgateIdeal m →
    θ_run (Cert.PgateIdeal.defs (F := Ideal)) (onTc (τ := Cert.PgateIdeal.τ) (Cert.PgateIdeal.main (F := Ideal))) ⟨m, fun _ => 0, g⟩ (fun r => (∀ c : Dev Cert.PgateIdeal.nD,
      r.2.mem ((c.tc : Thread Cert.PgateIdeal.nD Cert.PgateIdeal.τ).loc Cert.PgateIdeal.main_arg0) = m ((c.tc : Thread Cert.PgateIdeal.nD Cert.PgateIdeal.τ).loc Cert.PgateIdeal.main_arg0)
      ∧ r.2.mem ((c.tc : Thread Cert.PgateIdeal.nD Cert.PgateIdeal.τ).loc Cert.PgateIdeal.main_arg1) = m ((c.tc : Thread Cert.PgateIdeal.nD Cert.PgateIdeal.τ).loc Cert.PgateIdeal.main_arg1))
      ∧ r.2.sem = fun _ => 0)

def quiescent_PgateRefIdeal [hPgateRefIdeal : Cert.PgateRefIdeal.Facts] : Prop :=
  ∀ (m : (ℓ : Loc Cert.PgateRefIdeal.nD Cert.PgateRefIdeal.τ Cert.PgateRefIdeal.sig) → Buf (Elt Ideal) ℓ) (g : Dev Cert.PgateRefIdeal.nD → PrngReg), Pre_PgateRefIdeal m →
    θ_run (Cert.PgateRefIdeal.defs (F := Ideal)) (onTc (τ := Cert.PgateRefIdeal.τ) (Cert.PgateRefIdeal.main (F := Ideal))) ⟨m, fun _ => 0, g⟩ (fun r => (∀ c : Dev Cert.PgateRefIdeal.nD,
      r.2.mem ((c.tc : Thread Cert.PgateRefIdeal.nD Cert.PgateRefIdeal.τ).loc Cert.PgateRefIdeal.main_arg0) = m ((c.tc : Thread Cert.PgateRefIdeal.nD Cert.PgateRefIdeal.τ).loc Cert.PgateRefIdeal.main_arg0)
      ∧ r.2.mem ((c.tc : Thread Cert.PgateRefIdeal.nD Cert.PgateRefIdeal.τ).loc Cert.PgateRefIdeal.main_arg1) = m ((c.tc : Thread Cert.PgateRefIdeal.nD Cert.PgateRefIdeal.τ).loc Cert.PgateRefIdeal.main_arg1))
      ∧ r.2.sem = fun _ => 0)

def quiescent_Atf [hAtf : Cert.Atf.Facts] : Prop :=
  ∀ (m : (ℓ : Loc Cert.Atf.nD Cert.Atf.τ Cert.Atf.sig) → Buf (Elt Bits) ℓ) (g : Dev Cert.Atf.nD → PrngReg), Pre_Atf m →
    θ_run (Cert.Atf.defs (F := Bits)) (onTc (τ := Cert.Atf.τ) (Cert.Atf.main (F := Bits))) ⟨m, fun _ => 0, g⟩ (fun r => (∀ c : Dev Cert.Atf.nD,
      r.2.mem ((c.tc : Thread Cert.Atf.nD Cert.Atf.τ).loc Cert.Atf.main_arg0) = m ((c.tc : Thread Cert.Atf.nD Cert.Atf.τ).loc Cert.Atf.main_arg0)
      ∧ r.2.mem ((c.tc : Thread Cert.Atf.nD Cert.Atf.τ).loc Cert.Atf.main_arg1) = m ((c.tc : Thread Cert.Atf.nD Cert.Atf.τ).loc Cert.Atf.main_arg1)
      ∧ r.2.mem ((c.tc : Thread Cert.Atf.nD Cert.Atf.τ).loc Cert.Atf.main_arg2) = m ((c.tc : Thread Cert.Atf.nD Cert.Atf.τ).loc Cert.Atf.main_arg2))
      ∧ r.2.sem = fun _ => 0)

def quiescent_AtfIdeal [hAtfIdeal : Cert.AtfIdeal.Facts] : Prop :=
  ∀ (m : (ℓ : Loc Cert.AtfIdeal.nD Cert.AtfIdeal.τ Cert.AtfIdeal.sig) → Buf (Elt Ideal) ℓ) (g : Dev Cert.AtfIdeal.nD → PrngReg), Pre_AtfIdeal m →
    θ_run (Cert.AtfIdeal.defs (F := Ideal)) (onTc (τ := Cert.AtfIdeal.τ) (Cert.AtfIdeal.main (F := Ideal))) ⟨m, fun _ => 0, g⟩ (fun r => (∀ c : Dev Cert.AtfIdeal.nD,
      r.2.mem ((c.tc : Thread Cert.AtfIdeal.nD Cert.AtfIdeal.τ).loc Cert.AtfIdeal.main_arg0) = m ((c.tc : Thread Cert.AtfIdeal.nD Cert.AtfIdeal.τ).loc Cert.AtfIdeal.main_arg0)
      ∧ r.2.mem ((c.tc : Thread Cert.AtfIdeal.nD Cert.AtfIdeal.τ).loc Cert.AtfIdeal.main_arg1) = m ((c.tc : Thread Cert.AtfIdeal.nD Cert.AtfIdeal.τ).loc Cert.AtfIdeal.main_arg1)
      ∧ r.2.mem ((c.tc : Thread Cert.AtfIdeal.nD Cert.AtfIdeal.τ).loc Cert.AtfIdeal.main_arg2) = m ((c.tc : Thread Cert.AtfIdeal.nD Cert.AtfIdeal.τ).loc Cert.AtfIdeal.main_arg2))
      ∧ r.2.sem = fun _ => 0)

def quiescent_AtfIdeal_pre_finite_scores [hAtfIdeal : Cert.AtfIdeal.Facts] [hPre_finite_scores : Cert.Pre_finite_scores.Facts] : Prop :=
  ∀ (m : (ℓ : Loc Cert.AtfIdeal.nD Cert.AtfIdeal.τ Cert.AtfIdeal.sig) → Buf (Elt Ideal) ℓ) (g : Dev Cert.AtfIdeal.nD → PrngReg), Pre_AtfIdeal_finite_scores m →
    θ_run (Cert.AtfIdeal.defs (F := Ideal)) (onTc (τ := Cert.AtfIdeal.τ) (Cert.AtfIdeal.main (F := Ideal))) ⟨m, fun _ => 0, g⟩ (fun r => (∀ c : Dev Cert.AtfIdeal.nD,
      r.2.mem ((c.tc : Thread Cert.AtfIdeal.nD Cert.AtfIdeal.τ).loc Cert.AtfIdeal.main_arg0) = m ((c.tc : Thread Cert.AtfIdeal.nD Cert.AtfIdeal.τ).loc Cert.AtfIdeal.main_arg0)
      ∧ r.2.mem ((c.tc : Thread Cert.AtfIdeal.nD Cert.AtfIdeal.τ).loc Cert.AtfIdeal.main_arg1) = m ((c.tc : Thread Cert.AtfIdeal.nD Cert.AtfIdeal.τ).loc Cert.AtfIdeal.main_arg1)
      ∧ r.2.mem ((c.tc : Thread Cert.AtfIdeal.nD Cert.AtfIdeal.τ).loc Cert.AtfIdeal.main_arg2) = m ((c.tc : Thread Cert.AtfIdeal.nD Cert.AtfIdeal.τ).loc Cert.AtfIdeal.main_arg2))
      ∧ r.2.sem = fun _ => 0)

def quiescent_AtfRefIdeal [hAtfRefIdeal : Cert.AtfRefIdeal.Facts] : Prop :=
  ∀ (m : (ℓ : Loc Cert.AtfRefIdeal.nD Cert.AtfRefIdeal.τ Cert.AtfRefIdeal.sig) → Buf (Elt Ideal) ℓ) (g : Dev Cert.AtfRefIdeal.nD → PrngReg), Pre_AtfRefIdeal m →
    θ_run (Cert.AtfRefIdeal.defs (F := Ideal)) (onTc (τ := Cert.AtfRefIdeal.τ) (Cert.AtfRefIdeal.main (F := Ideal))) ⟨m, fun _ => 0, g⟩ (fun r => (∀ c : Dev Cert.AtfRefIdeal.nD,
      r.2.mem ((c.tc : Thread Cert.AtfRefIdeal.nD Cert.AtfRefIdeal.τ).loc Cert.AtfRefIdeal.main_arg0) = m ((c.tc : Thread Cert.AtfRefIdeal.nD Cert.AtfRefIdeal.τ).loc Cert.AtfRefIdeal.main_arg0)
      ∧ r.2.mem ((c.tc : Thread Cert.AtfRefIdeal.nD Cert.AtfRefIdeal.τ).loc Cert.AtfRefIdeal.main_arg1) = m ((c.tc : Thread Cert.AtfRefIdeal.nD Cert.AtfRefIdeal.τ).loc Cert.AtfRefIdeal.main_arg1)
      ∧ r.2.mem ((c.tc : Thread Cert.AtfRefIdeal.nD Cert.AtfRefIdeal.τ).loc Cert.AtfRefIdeal.main_arg2) = m ((c.tc : Thread Cert.AtfRefIdeal.nD Cert.AtfRefIdeal.τ).loc Cert.AtfRefIdeal.main_arg2))
      ∧ r.2.sem = fun _ => 0)

def quiescent_AtfRefIdeal_pre_finite_scores [hAtfRefIdeal : Cert.AtfRefIdeal.Facts] [hPre_finite_scores : Cert.Pre_finite_scores.Facts] : Prop :=
  ∀ (m : (ℓ : Loc Cert.AtfRefIdeal.nD Cert.AtfRefIdeal.τ Cert.AtfRefIdeal.sig) → Buf (Elt Ideal) ℓ) (g : Dev Cert.AtfRefIdeal.nD → PrngReg), Pre_AtfRefIdeal_finite_scores m →
    θ_run (Cert.AtfRefIdeal.defs (F := Ideal)) (onTc (τ := Cert.AtfRefIdeal.τ) (Cert.AtfRefIdeal.main (F := Ideal))) ⟨m, fun _ => 0, g⟩ (fun r => (∀ c : Dev Cert.AtfRefIdeal.nD,
      r.2.mem ((c.tc : Thread Cert.AtfRefIdeal.nD Cert.AtfRefIdeal.τ).loc Cert.AtfRefIdeal.main_arg0) = m ((c.tc : Thread Cert.AtfRefIdeal.nD Cert.AtfRefIdeal.τ).loc Cert.AtfRefIdeal.main_arg0)
      ∧ r.2.mem ((c.tc : Thread Cert.AtfRefIdeal.nD Cert.AtfRefIdeal.τ).loc Cert.AtfRefIdeal.main_arg1) = m ((c.tc : Thread Cert.AtfRefIdeal.nD Cert.AtfRefIdeal.τ).loc Cert.AtfRefIdeal.main_arg1)
      ∧ r.2.mem ((c.tc : Thread Cert.AtfRefIdeal.nD Cert.AtfRefIdeal.τ).loc Cert.AtfRefIdeal.main_arg2) = m ((c.tc : Thread Cert.AtfRefIdeal.nD Cert.AtfRefIdeal.τ).loc Cert.AtfRefIdeal.main_arg2))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7))
      ∧ r.2.sem = fun _ => 0)

def quiescent_Ad [hAd : Cert.Ad.Facts] : Prop :=
  ∀ (m : (ℓ : Loc Cert.Ad.nD Cert.Ad.τ Cert.Ad.sig) → Buf (Elt Bits) ℓ) (g : Dev Cert.Ad.nD → PrngReg), Pre_Ad m →
    θ_run (Cert.Ad.defs (F := Bits)) (onTc (τ := Cert.Ad.τ) (Cert.Ad.main (F := Bits))) ⟨m, fun _ => 0, g⟩ (fun r => (∀ c : Dev Cert.Ad.nD,
      r.2.mem ((c.tc : Thread Cert.Ad.nD Cert.Ad.τ).loc Cert.Ad.main_arg0) = m ((c.tc : Thread Cert.Ad.nD Cert.Ad.τ).loc Cert.Ad.main_arg0)
      ∧ r.2.mem ((c.tc : Thread Cert.Ad.nD Cert.Ad.τ).loc Cert.Ad.main_arg1) = m ((c.tc : Thread Cert.Ad.nD Cert.Ad.τ).loc Cert.Ad.main_arg1)
      ∧ r.2.mem ((c.tc : Thread Cert.Ad.nD Cert.Ad.τ).loc Cert.Ad.main_arg2) = m ((c.tc : Thread Cert.Ad.nD Cert.Ad.τ).loc Cert.Ad.main_arg2)
      ∧ r.2.mem ((c.tc : Thread Cert.Ad.nD Cert.Ad.τ).loc Cert.Ad.main_arg3) = m ((c.tc : Thread Cert.Ad.nD Cert.Ad.τ).loc Cert.Ad.main_arg3))
      ∧ r.2.sem = fun _ => 0)

def quiescent_AdIdeal [hAdIdeal : Cert.AdIdeal.Facts] : Prop :=
  ∀ (m : (ℓ : Loc Cert.AdIdeal.nD Cert.AdIdeal.τ Cert.AdIdeal.sig) → Buf (Elt Ideal) ℓ) (g : Dev Cert.AdIdeal.nD → PrngReg), Pre_AdIdeal m →
    θ_run (Cert.AdIdeal.defs (F := Ideal)) (onTc (τ := Cert.AdIdeal.τ) (Cert.AdIdeal.main (F := Ideal))) ⟨m, fun _ => 0, g⟩ (fun r => (∀ c : Dev Cert.AdIdeal.nD,
      r.2.mem ((c.tc : Thread Cert.AdIdeal.nD Cert.AdIdeal.τ).loc Cert.AdIdeal.main_arg0) = m ((c.tc : Thread Cert.AdIdeal.nD Cert.AdIdeal.τ).loc Cert.AdIdeal.main_arg0)
      ∧ r.2.mem ((c.tc : Thread Cert.AdIdeal.nD Cert.AdIdeal.τ).loc Cert.AdIdeal.main_arg1) = m ((c.tc : Thread Cert.AdIdeal.nD Cert.AdIdeal.τ).loc Cert.AdIdeal.main_arg1)
      ∧ r.2.mem ((c.tc : Thread Cert.AdIdeal.nD Cert.AdIdeal.τ).loc Cert.AdIdeal.main_arg2) = m ((c.tc : Thread Cert.AdIdeal.nD Cert.AdIdeal.τ).loc Cert.AdIdeal.main_arg2)
      ∧ r.2.mem ((c.tc : Thread Cert.AdIdeal.nD Cert.AdIdeal.τ).loc Cert.AdIdeal.main_arg3) = m ((c.tc : Thread Cert.AdIdeal.nD Cert.AdIdeal.τ).loc Cert.AdIdeal.main_arg3))
      ∧ r.2.sem = fun _ => 0)

def quiescent_AdRefIdeal [hAdRefIdeal : Cert.AdRefIdeal.Facts] : Prop :=
  ∀ (m : (ℓ : Loc Cert.AdRefIdeal.nD Cert.AdRefIdeal.τ Cert.AdRefIdeal.sig) → Buf (Elt Ideal) ℓ) (g : Dev Cert.AdRefIdeal.nD → PrngReg), Pre_AdRefIdeal m →
    θ_run (Cert.AdRefIdeal.defs (F := Ideal)) (onTc (τ := Cert.AdRefIdeal.τ) (Cert.AdRefIdeal.main (F := Ideal))) ⟨m, fun _ => 0, g⟩ (fun r => (∀ c : Dev Cert.AdRefIdeal.nD,
      r.2.mem ((c.tc : Thread Cert.AdRefIdeal.nD Cert.AdRefIdeal.τ).loc Cert.AdRefIdeal.main_arg0) = m ((c.tc : Thread Cert.AdRefIdeal.nD Cert.AdRefIdeal.τ).loc Cert.AdRefIdeal.main_arg0)
      ∧ r.2.mem ((c.tc : Thread Cert.AdRefIdeal.nD Cert.AdRefIdeal.τ).loc Cert.AdRefIdeal.main_arg1) = m ((c.tc : Thread Cert.AdRefIdeal.nD Cert.AdRefIdeal.τ).loc Cert.AdRefIdeal.main_arg1)
      ∧ r.2.mem ((c.tc : Thread Cert.AdRefIdeal.nD Cert.AdRefIdeal.τ).loc Cert.AdRefIdeal.main_arg2) = m ((c.tc : Thread Cert.AdRefIdeal.nD Cert.AdRefIdeal.τ).loc Cert.AdRefIdeal.main_arg2)
      ∧ r.2.mem ((c.tc : Thread Cert.AdRefIdeal.nD Cert.AdRefIdeal.τ).loc Cert.AdRefIdeal.main_arg3) = m ((c.tc : Thread Cert.AdRefIdeal.nD Cert.AdRefIdeal.τ).loc Cert.AdRefIdeal.main_arg3))
      ∧ r.2.sem = fun _ => 0)

def quiescent_Ride [hRide : Cert.Ride.Facts] : Prop :=
  ∀ (m : (ℓ : Loc Cert.Ride.nD Cert.Ride.τ Cert.Ride.sig) → Buf (Elt Bits) ℓ) (g : Dev Cert.Ride.nD → PrngReg), Pre_Ride m →
    θ_run (Cert.Ride.defs (F := Bits)) (onTc (τ := Cert.Ride.τ) (Cert.Ride.main (F := Bits))) ⟨m, fun _ => 0, g⟩ (fun r => (∀ c : Dev Cert.Ride.nD,
      r.2.mem ((c.tc : Thread Cert.Ride.nD Cert.Ride.τ).loc Cert.Ride.main_arg0) = m ((c.tc : Thread Cert.Ride.nD Cert.Ride.τ).loc Cert.Ride.main_arg0)
      ∧ r.2.mem ((c.tc : Thread Cert.Ride.nD Cert.Ride.τ).loc Cert.Ride.main_arg1) = m ((c.tc : Thread Cert.Ride.nD Cert.Ride.τ).loc Cert.Ride.main_arg1)
      ∧ r.2.mem ((c.tc : Thread Cert.Ride.nD Cert.Ride.τ).loc Cert.Ride.main_arg2) = m ((c.tc : Thread Cert.Ride.nD Cert.Ride.τ).loc Cert.Ride.main_arg2)
      ∧ r.2.mem ((c.tc : Thread Cert.Ride.nD Cert.Ride.τ).loc Cert.Ride.main_arg3) = m ((c.tc : Thread Cert.Ride.nD Cert.Ride.τ).loc Cert.Ride.main_arg3)
      ∧ r.2.mem ((c.tc : Thread Cert.Ride.nD Cert.Ride.τ).loc Cert.Ride.main_arg4) = m ((c.tc : Thread Cert.Ride.nD Cert.Ride.τ).loc Cert.Ride.main_arg4)
      ∧ r.2.mem ((c.tc : Thread Cert.Ride.nD Cert.Ride.τ).loc Cert.Ride.main_arg5) = m ((c.tc : Thread Cert.Ride.nD Cert.Ride.τ).loc Cert.Ride.main_arg5)
      ∧ r.2.mem ((c.tc : Thread Cert.Ride.nD Cert.Ride.τ).loc Cert.Ride.main_arg6) = m ((c.tc : Thread Cert.Ride.nD Cert.Ride.τ).loc Cert.Ride.main_arg6)
      ∧ r.2.mem ((c.tc : Thread Cert.Ride.nD Cert.Ride.τ).loc Cert.Ride.main_arg7) = m ((c.tc : Thread Cert.Ride.nD Cert.Ride.τ).loc Cert.Ride.main_arg7))
      ∧ r.2.sem = fun _ => 0)

def quiescent_RideIdeal [hRideIdeal : Cert.RideIdeal.Facts] : Prop :=
  ∀ (m : (ℓ : Loc Cert.RideIdeal.nD Cert.RideIdeal.τ Cert.RideIdeal.sig) → Buf (Elt Ideal) ℓ) (g : Dev Cert.RideIdeal.nD → PrngReg), Pre_RideIdeal m →
    θ_run (Cert.RideIdeal.defs (F := Ideal)) (onTc (τ := Cert.RideIdeal.τ) (Cert.RideIdeal.main (F := Ideal))) ⟨m, fun _ => 0, g⟩ (fun r => (∀ c : Dev Cert.RideIdeal.nD,
      r.2.mem ((c.tc : Thread Cert.RideIdeal.nD Cert.RideIdeal.τ).loc Cert.RideIdeal.main_arg0) = m ((c.tc : Thread Cert.RideIdeal.nD Cert.RideIdeal.τ).loc Cert.RideIdeal.main_arg0)
      ∧ r.2.mem ((c.tc : Thread Cert.RideIdeal.nD Cert.RideIdeal.τ).loc Cert.RideIdeal.main_arg1) = m ((c.tc : Thread Cert.RideIdeal.nD Cert.RideIdeal.τ).loc Cert.RideIdeal.main_arg1)
      ∧ r.2.mem ((c.tc : Thread Cert.RideIdeal.nD Cert.RideIdeal.τ).loc Cert.RideIdeal.main_arg2) = m ((c.tc : Thread Cert.RideIdeal.nD Cert.RideIdeal.τ).loc Cert.RideIdeal.main_arg2)
      ∧ r.2.mem ((c.tc : Thread Cert.RideIdeal.nD Cert.RideIdeal.τ).loc Cert.RideIdeal.main_arg3) = m ((c.tc : Thread Cert.RideIdeal.nD Cert.RideIdeal.τ).loc Cert.RideIdeal.main_arg3)
      ∧ r.2.mem ((c.tc : Thread Cert.RideIdeal.nD Cert.RideIdeal.τ).loc Cert.RideIdeal.main_arg4) = m ((c.tc : Thread Cert.RideIdeal.nD Cert.RideIdeal.τ).loc Cert.RideIdeal.main_arg4)
      ∧ r.2.mem ((c.tc : Thread Cert.RideIdeal.nD Cert.RideIdeal.τ).loc Cert.RideIdeal.main_arg5) = m ((c.tc : Thread Cert.RideIdeal.nD Cert.RideIdeal.τ).loc Cert.RideIdeal.main_arg5)
      ∧ r.2.mem ((c.tc : Thread Cert.RideIdeal.nD Cert.RideIdeal.τ).loc Cert.RideIdeal.main_arg6) = m ((c.tc : Thread Cert.RideIdeal.nD Cert.RideIdeal.τ).loc Cert.RideIdeal.main_arg6)
      ∧ r.2.mem ((c.tc : Thread Cert.RideIdeal.nD Cert.RideIdeal.τ).loc Cert.RideIdeal.main_arg7) = m ((c.tc : Thread Cert.RideIdeal.nD Cert.RideIdeal.τ).loc Cert.RideIdeal.main_arg7))
      ∧ r.2.sem = fun _ => 0)

def quiescent_RideRefIdeal [hRideRefIdeal : Cert.RideRefIdeal.Facts] : Prop :=
  ∀ (m : (ℓ : Loc Cert.RideRefIdeal.nD Cert.RideRefIdeal.τ Cert.RideRefIdeal.sig) → Buf (Elt Ideal) ℓ) (g : Dev Cert.RideRefIdeal.nD → PrngReg), Pre_RideRefIdeal m →
    θ_run (Cert.RideRefIdeal.defs (F := Ideal)) (onTc (τ := Cert.RideRefIdeal.τ) (Cert.RideRefIdeal.main (F := Ideal))) ⟨m, fun _ => 0, g⟩ (fun r => (∀ c : Dev Cert.RideRefIdeal.nD,
      r.2.mem ((c.tc : Thread Cert.RideRefIdeal.nD Cert.RideRefIdeal.τ).loc Cert.RideRefIdeal.main_arg0) = m ((c.tc : Thread Cert.RideRefIdeal.nD Cert.RideRefIdeal.τ).loc Cert.RideRefIdeal.main_arg0)
      ∧ r.2.mem ((c.tc : Thread Cert.RideRefIdeal.nD Cert.RideRefIdeal.τ).loc Cert.RideRefIdeal.main_arg1) = m ((c.tc : Thread Cert.RideRefIdeal.nD Cert.RideRefIdeal.τ).loc Cert.RideRefIdeal.main_arg1)
      ∧ r.2.mem ((c.tc : Thread Cert.RideRefIdeal.nD Cert.RideRefIdeal.τ).loc Cert.RideRefIdeal.main_arg2) = m ((c.tc : Thread Cert.RideRefIdeal.nD Cert.RideRefIdeal.τ).loc Cert.RideRefIdeal.main_arg2)
      ∧ r.2.mem ((c.tc : Thread Cert.RideRefIdeal.nD Cert.RideRefIdeal.τ).loc Cert.RideRefIdeal.main_arg3) = m ((c.tc : Thread Cert.RideRefIdeal.nD Cert.RideRefIdeal.τ).loc Cert.RideRefIdeal.main_arg3)
      ∧ r.2.mem ((c.tc : Thread Cert.RideRefIdeal.nD Cert.RideRefIdeal.τ).loc Cert.RideRefIdeal.main_arg4) = m ((c.tc : Thread Cert.RideRefIdeal.nD Cert.RideRefIdeal.τ).loc Cert.RideRefIdeal.main_arg4)
      ∧ r.2.mem ((c.tc : Thread Cert.RideRefIdeal.nD Cert.RideRefIdeal.τ).loc Cert.RideRefIdeal.main_arg5) = m ((c.tc : Thread Cert.RideRefIdeal.nD Cert.RideRefIdeal.τ).loc Cert.RideRefIdeal.main_arg5)
      ∧ r.2.mem ((c.tc : Thread Cert.RideRefIdeal.nD Cert.RideRefIdeal.τ).loc Cert.RideRefIdeal.main_arg6) = m ((c.tc : Thread Cert.RideRefIdeal.nD Cert.RideRefIdeal.τ).loc Cert.RideRefIdeal.main_arg6)
      ∧ r.2.mem ((c.tc : Thread Cert.RideRefIdeal.nD Cert.RideRefIdeal.τ).loc Cert.RideRefIdeal.main_arg7) = m ((c.tc : Thread Cert.RideRefIdeal.nD Cert.RideRefIdeal.τ).loc Cert.RideRefIdeal.main_arg7))
      ∧ r.2.sem = fun _ => 0)

def quiescent_Ads [hAds : Cert.Ads.Facts] : Prop :=
  ∀ (m : (ℓ : Loc Cert.Ads.nD Cert.Ads.τ Cert.Ads.sig) → Buf (Elt Bits) ℓ) (g : Dev Cert.Ads.nD → PrngReg), Pre_Ads m →
    θ_run (Cert.Ads.defs (F := Bits)) (onTc (τ := Cert.Ads.τ) (Cert.Ads.main (F := Bits))) ⟨m, fun _ => 0, g⟩ (fun r => (∀ c : Dev Cert.Ads.nD,
      r.2.mem ((c.tc : Thread Cert.Ads.nD Cert.Ads.τ).loc Cert.Ads.main_arg0) = m ((c.tc : Thread Cert.Ads.nD Cert.Ads.τ).loc Cert.Ads.main_arg0)
      ∧ r.2.mem ((c.tc : Thread Cert.Ads.nD Cert.Ads.τ).loc Cert.Ads.main_arg1) = m ((c.tc : Thread Cert.Ads.nD Cert.Ads.τ).loc Cert.Ads.main_arg1)
      ∧ r.2.mem ((c.tc : Thread Cert.Ads.nD Cert.Ads.τ).loc Cert.Ads.main_arg2) = m ((c.tc : Thread Cert.Ads.nD Cert.Ads.τ).loc Cert.Ads.main_arg2)
      ∧ r.2.mem ((c.tc : Thread Cert.Ads.nD Cert.Ads.τ).loc Cert.Ads.main_arg3) = m ((c.tc : Thread Cert.Ads.nD Cert.Ads.τ).loc Cert.Ads.main_arg3))
      ∧ r.2.sem = fun _ => 0)

def quiescent_AdsIdeal [hAdsIdeal : Cert.AdsIdeal.Facts] : Prop :=
  ∀ (m : (ℓ : Loc Cert.AdsIdeal.nD Cert.AdsIdeal.τ Cert.AdsIdeal.sig) → Buf (Elt Ideal) ℓ) (g : Dev Cert.AdsIdeal.nD → PrngReg), Pre_AdsIdeal m →
    θ_run (Cert.AdsIdeal.defs (F := Ideal)) (onTc (τ := Cert.AdsIdeal.τ) (Cert.AdsIdeal.main (F := Ideal))) ⟨m, fun _ => 0, g⟩ (fun r => (∀ c : Dev Cert.AdsIdeal.nD,
      r.2.mem ((c.tc : Thread Cert.AdsIdeal.nD Cert.AdsIdeal.τ).loc Cert.AdsIdeal.main_arg0) = m ((c.tc : Thread Cert.AdsIdeal.nD Cert.AdsIdeal.τ).loc Cert.AdsIdeal.main_arg0)
      ∧ r.2.mem ((c.tc : Thread Cert.AdsIdeal.nD Cert.AdsIdeal.τ).loc Cert.AdsIdeal.main_arg1) = m ((c.tc : Thread Cert.AdsIdeal.nD Cert.AdsIdeal.τ).loc Cert.AdsIdeal.main_arg1)
      ∧ r.2.mem ((c.tc : Thread Cert.AdsIdeal.nD Cert.AdsIdeal.τ).loc Cert.AdsIdeal.main_arg2) = m ((c.tc : Thread Cert.AdsIdeal.nD Cert.AdsIdeal.τ).loc Cert.AdsIdeal.main_arg2)
      ∧ r.2.mem ((c.tc : Thread Cert.AdsIdeal.nD Cert.AdsIdeal.τ).loc Cert.AdsIdeal.main_arg3) = m ((c.tc : Thread Cert.AdsIdeal.nD Cert.AdsIdeal.τ).loc Cert.AdsIdeal.main_arg3))
      ∧ r.2.sem = fun _ => 0)

def quiescent_AdsRefIdeal [hAdsRefIdeal : Cert.AdsRefIdeal.Facts] : Prop :=
  ∀ (m : (ℓ : Loc Cert.AdsRefIdeal.nD Cert.AdsRefIdeal.τ Cert.AdsRefIdeal.sig) → Buf (Elt Ideal) ℓ) (g : Dev Cert.AdsRefIdeal.nD → PrngReg), Pre_AdsRefIdeal m →
    θ_run (Cert.AdsRefIdeal.defs (F := Ideal)) (onTc (τ := Cert.AdsRefIdeal.τ) (Cert.AdsRefIdeal.main (F := Ideal))) ⟨m, fun _ => 0, g⟩ (fun r => (∀ c : Dev Cert.AdsRefIdeal.nD,
      r.2.mem ((c.tc : Thread Cert.AdsRefIdeal.nD Cert.AdsRefIdeal.τ).loc Cert.AdsRefIdeal.main_arg0) = m ((c.tc : Thread Cert.AdsRefIdeal.nD Cert.AdsRefIdeal.τ).loc Cert.AdsRefIdeal.main_arg0)
      ∧ r.2.mem ((c.tc : Thread Cert.AdsRefIdeal.nD Cert.AdsRefIdeal.τ).loc Cert.AdsRefIdeal.main_arg1) = m ((c.tc : Thread Cert.AdsRefIdeal.nD Cert.AdsRefIdeal.τ).loc Cert.AdsRefIdeal.main_arg1)
      ∧ r.2.mem ((c.tc : Thread Cert.AdsRefIdeal.nD Cert.AdsRefIdeal.τ).loc Cert.AdsRefIdeal.main_arg2) = m ((c.tc : Thread Cert.AdsRefIdeal.nD Cert.AdsRefIdeal.τ).loc Cert.AdsRefIdeal.main_arg2)
      ∧ r.2.mem ((c.tc : Thread Cert.AdsRefIdeal.nD Cert.AdsRefIdeal.τ).loc Cert.AdsRefIdeal.main_arg3) = m ((c.tc : Thread Cert.AdsRefIdeal.nD Cert.AdsRefIdeal.τ).loc Cert.AdsRefIdeal.main_arg3))
      ∧ r.2.sem = fun _ => 0)

def quiescent_Adw [hAdw : Cert.Adw.Facts] : Prop :=
  ∀ (m : (ℓ : Loc Cert.Adw.nD Cert.Adw.τ Cert.Adw.sig) → Buf (Elt Bits) ℓ) (g : Dev Cert.Adw.nD → PrngReg), Pre_Adw m →
    θ_run (Cert.Adw.defs (F := Bits)) (onTc (τ := Cert.Adw.τ) (Cert.Adw.main (F := Bits))) ⟨m, fun _ => 0, g⟩ (fun r => (∀ c : Dev Cert.Adw.nD,
      r.2.mem ((c.tc : Thread Cert.Adw.nD Cert.Adw.τ).loc Cert.Adw.main_arg0) = m ((c.tc : Thread Cert.Adw.nD Cert.Adw.τ).loc Cert.Adw.main_arg0)
      ∧ r.2.mem ((c.tc : Thread Cert.Adw.nD Cert.Adw.τ).loc Cert.Adw.main_arg1) = m ((c.tc : Thread Cert.Adw.nD Cert.Adw.τ).loc Cert.Adw.main_arg1)
      ∧ r.2.mem ((c.tc : Thread Cert.Adw.nD Cert.Adw.τ).loc Cert.Adw.main_arg2) = m ((c.tc : Thread Cert.Adw.nD Cert.Adw.τ).loc Cert.Adw.main_arg2)
      ∧ r.2.mem ((c.tc : Thread Cert.Adw.nD Cert.Adw.τ).loc Cert.Adw.main_arg3) = m ((c.tc : Thread Cert.Adw.nD Cert.Adw.τ).loc Cert.Adw.main_arg3))
      ∧ r.2.sem = fun _ => 0)

def quiescent_AdwIdeal [hAdwIdeal : Cert.AdwIdeal.Facts] : Prop :=
  ∀ (m : (ℓ : Loc Cert.AdwIdeal.nD Cert.AdwIdeal.τ Cert.AdwIdeal.sig) → Buf (Elt Ideal) ℓ) (g : Dev Cert.AdwIdeal.nD → PrngReg), Pre_AdwIdeal m →
    θ_run (Cert.AdwIdeal.defs (F := Ideal)) (onTc (τ := Cert.AdwIdeal.τ) (Cert.AdwIdeal.main (F := Ideal))) ⟨m, fun _ => 0, g⟩ (fun r => (∀ c : Dev Cert.AdwIdeal.nD,
      r.2.mem ((c.tc : Thread Cert.AdwIdeal.nD Cert.AdwIdeal.τ).loc Cert.AdwIdeal.main_arg0) = m ((c.tc : Thread Cert.AdwIdeal.nD Cert.AdwIdeal.τ).loc Cert.AdwIdeal.main_arg0)
      ∧ r.2.mem ((c.tc : Thread Cert.AdwIdeal.nD Cert.AdwIdeal.τ).loc Cert.AdwIdeal.main_arg1) = m ((c.tc : Thread Cert.AdwIdeal.nD Cert.AdwIdeal.τ).loc Cert.AdwIdeal.main_arg1)
      ∧ r.2.mem ((c.tc : Thread Cert.AdwIdeal.nD Cert.AdwIdeal.τ).loc Cert.AdwIdeal.main_arg2) = m ((c.tc : Thread Cert.AdwIdeal.nD Cert.AdwIdeal.τ).loc Cert.AdwIdeal.main_arg2)
      ∧ r.2.mem ((c.tc : Thread Cert.AdwIdeal.nD Cert.AdwIdeal.τ).loc Cert.AdwIdeal.main_arg3) = m ((c.tc : Thread Cert.AdwIdeal.nD Cert.AdwIdeal.τ).loc Cert.AdwIdeal.main_arg3))
      ∧ r.2.sem = fun _ => 0)

def quiescent_AdwRefIdeal [hAdwRefIdeal : Cert.AdwRefIdeal.Facts] : Prop :=
  ∀ (m : (ℓ : Loc Cert.AdwRefIdeal.nD Cert.AdwRefIdeal.τ Cert.AdwRefIdeal.sig) → Buf (Elt Ideal) ℓ) (g : Dev Cert.AdwRefIdeal.nD → PrngReg), Pre_AdwRefIdeal m →
    θ_run (Cert.AdwRefIdeal.defs (F := Ideal)) (onTc (τ := Cert.AdwRefIdeal.τ) (Cert.AdwRefIdeal.main (F := Ideal))) ⟨m, fun _ => 0, g⟩ (fun r => (∀ c : Dev Cert.AdwRefIdeal.nD,
      r.2.mem ((c.tc : Thread Cert.AdwRefIdeal.nD Cert.AdwRefIdeal.τ).loc Cert.AdwRefIdeal.main_arg0) = m ((c.tc : Thread Cert.AdwRefIdeal.nD Cert.AdwRefIdeal.τ).loc Cert.AdwRefIdeal.main_arg0)
      ∧ r.2.mem ((c.tc : Thread Cert.AdwRefIdeal.nD Cert.AdwRefIdeal.τ).loc Cert.AdwRefIdeal.main_arg1) = m ((c.tc : Thread Cert.AdwRefIdeal.nD Cert.AdwRefIdeal.τ).loc Cert.AdwRefIdeal.main_arg1)
      ∧ r.2.mem ((c.tc : Thread Cert.AdwRefIdeal.nD Cert.AdwRefIdeal.τ).loc Cert.AdwRefIdeal.main_arg2) = m ((c.tc : Thread Cert.AdwRefIdeal.nD Cert.AdwRefIdeal.τ).loc Cert.AdwRefIdeal.main_arg2)
      ∧ r.2.mem ((c.tc : Thread Cert.AdwRefIdeal.nD Cert.AdwRefIdeal.τ).loc Cert.AdwRefIdeal.main_arg3) = m ((c.tc : Thread Cert.AdwRefIdeal.nD Cert.AdwRefIdeal.τ).loc Cert.AdwRefIdeal.main_arg3))
      ∧ r.2.sem = fun _ => 0)

def quiescent_Adp [hAdp : Cert.Adp.Facts] : Prop :=
  ∀ (m : (ℓ : Loc Cert.Adp.nD Cert.Adp.τ Cert.Adp.sig) → Buf (Elt Bits) ℓ) (g : Dev Cert.Adp.nD → PrngReg), Pre_Adp m →
    θ_run (Cert.Adp.defs (F := Bits)) (onTc (τ := Cert.Adp.τ) (Cert.Adp.main (F := Bits))) ⟨m, fun _ => 0, g⟩ (fun r => (∀ c : Dev Cert.Adp.nD,
      r.2.mem ((c.tc : Thread Cert.Adp.nD Cert.Adp.τ).loc Cert.Adp.main_arg0) = m ((c.tc : Thread Cert.Adp.nD Cert.Adp.τ).loc Cert.Adp.main_arg0)
      ∧ r.2.mem ((c.tc : Thread Cert.Adp.nD Cert.Adp.τ).loc Cert.Adp.main_arg1) = m ((c.tc : Thread Cert.Adp.nD Cert.Adp.τ).loc Cert.Adp.main_arg1)
      ∧ r.2.mem ((c.tc : Thread Cert.Adp.nD Cert.Adp.τ).loc Cert.Adp.main_arg2) = m ((c.tc : Thread Cert.Adp.nD Cert.Adp.τ).loc Cert.Adp.main_arg2)
      ∧ r.2.mem ((c.tc : Thread Cert.Adp.nD Cert.Adp.τ).loc Cert.Adp.main_arg3) = m ((c.tc : Thread Cert.Adp.nD Cert.Adp.τ).loc Cert.Adp.main_arg3))
      ∧ r.2.sem = fun _ => 0)

def quiescent_AdpIdeal [hAdpIdeal : Cert.AdpIdeal.Facts] : Prop :=
  ∀ (m : (ℓ : Loc Cert.AdpIdeal.nD Cert.AdpIdeal.τ Cert.AdpIdeal.sig) → Buf (Elt Ideal) ℓ) (g : Dev Cert.AdpIdeal.nD → PrngReg), Pre_AdpIdeal m →
    θ_run (Cert.AdpIdeal.defs (F := Ideal)) (onTc (τ := Cert.AdpIdeal.τ) (Cert.AdpIdeal.main (F := Ideal))) ⟨m, fun _ => 0, g⟩ (fun r => (∀ c : Dev Cert.AdpIdeal.nD,
      r.2.mem ((c.tc : Thread Cert.AdpIdeal.nD Cert.AdpIdeal.τ).loc Cert.AdpIdeal.main_arg0) = m ((c.tc : Thread Cert.AdpIdeal.nD Cert.AdpIdeal.τ).loc Cert.AdpIdeal.main_arg0)
      ∧ r.2.mem ((c.tc : Thread Cert.AdpIdeal.nD Cert.AdpIdeal.τ).loc Cert.AdpIdeal.main_arg1) = m ((c.tc : Thread Cert.AdpIdeal.nD Cert.AdpIdeal.τ).loc Cert.AdpIdeal.main_arg1)
      ∧ r.2.mem ((c.tc : Thread Cert.AdpIdeal.nD Cert.AdpIdeal.τ).loc Cert.AdpIdeal.main_arg2) = m ((c.tc : Thread Cert.AdpIdeal.nD Cert.AdpIdeal.τ).loc Cert.AdpIdeal.main_arg2)
      ∧ r.2.mem ((c.tc : Thread Cert.AdpIdeal.nD Cert.AdpIdeal.τ).loc Cert.AdpIdeal.main_arg3) = m ((c.tc : Thread Cert.AdpIdeal.nD Cert.AdpIdeal.τ).loc Cert.AdpIdeal.main_arg3))
      ∧ r.2.sem = fun _ => 0)

def quiescent_AdpRefIdeal [hAdpRefIdeal : Cert.AdpRefIdeal.Facts] : Prop :=
  ∀ (m : (ℓ : Loc Cert.AdpRefIdeal.nD Cert.AdpRefIdeal.τ Cert.AdpRefIdeal.sig) → Buf (Elt Ideal) ℓ) (g : Dev Cert.AdpRefIdeal.nD → PrngReg), Pre_AdpRefIdeal m →
    θ_run (Cert.AdpRefIdeal.defs (F := Ideal)) (onTc (τ := Cert.AdpRefIdeal.τ) (Cert.AdpRefIdeal.main (F := Ideal))) ⟨m, fun _ => 0, g⟩ (fun r => (∀ c : Dev Cert.AdpRefIdeal.nD,
      r.2.mem ((c.tc : Thread Cert.AdpRefIdeal.nD Cert.AdpRefIdeal.τ).loc Cert.AdpRefIdeal.main_arg0) = m ((c.tc : Thread Cert.AdpRefIdeal.nD Cert.AdpRefIdeal.τ).loc Cert.AdpRefIdeal.main_arg0)
      ∧ r.2.mem ((c.tc : Thread Cert.AdpRefIdeal.nD Cert.AdpRefIdeal.τ).loc Cert.AdpRefIdeal.main_arg1) = m ((c.tc : Thread Cert.AdpRefIdeal.nD Cert.AdpRefIdeal.τ).loc Cert.AdpRefIdeal.main_arg1)
      ∧ r.2.mem ((c.tc : Thread Cert.AdpRefIdeal.nD Cert.AdpRefIdeal.τ).loc Cert.AdpRefIdeal.main_arg2) = m ((c.tc : Thread Cert.AdpRefIdeal.nD Cert.AdpRefIdeal.τ).loc Cert.AdpRefIdeal.main_arg2)
      ∧ r.2.mem ((c.tc : Thread Cert.AdpRefIdeal.nD Cert.AdpRefIdeal.τ).loc Cert.AdpRefIdeal.main_arg3) = m ((c.tc : Thread Cert.AdpRefIdeal.nD Cert.AdpRefIdeal.τ).loc Cert.AdpRefIdeal.main_arg3))
      ∧ r.2.sem = fun _ => 0)

def quiescent_Rmsf [hRmsf : Cert.Rmsf.Facts] : Prop :=
  ∀ (m : (ℓ : Loc Cert.Rmsf.nD Cert.Rmsf.τ Cert.Rmsf.sig) → Buf (Elt Bits) ℓ) (g : Dev Cert.Rmsf.nD → PrngReg), Pre_Rmsf m →
    θ_run (Cert.Rmsf.defs (F := Bits)) (onTc (τ := Cert.Rmsf.τ) (Cert.Rmsf.main (F := Bits))) ⟨m, fun _ => 0, g⟩ (fun r => (∀ c : Dev Cert.Rmsf.nD,
      r.2.mem ((c.tc : Thread Cert.Rmsf.nD Cert.Rmsf.τ).loc Cert.Rmsf.main_arg0) = m ((c.tc : Thread Cert.Rmsf.nD Cert.Rmsf.τ).loc Cert.Rmsf.main_arg0)
      ∧ r.2.mem ((c.tc : Thread Cert.Rmsf.nD Cert.Rmsf.τ).loc Cert.Rmsf.main_arg1) = m ((c.tc : Thread Cert.Rmsf.nD Cert.Rmsf.τ).loc Cert.Rmsf.main_arg1))
      ∧ r.2.sem = fun _ => 0)

def quiescent_RmsfIdeal [hRmsfIdeal : Cert.RmsfIdeal.Facts] : Prop :=
  ∀ (m : (ℓ : Loc Cert.RmsfIdeal.nD Cert.RmsfIdeal.τ Cert.RmsfIdeal.sig) → Buf (Elt Ideal) ℓ) (g : Dev Cert.RmsfIdeal.nD → PrngReg), Pre_RmsfIdeal m →
    θ_run (Cert.RmsfIdeal.defs (F := Ideal)) (onTc (τ := Cert.RmsfIdeal.τ) (Cert.RmsfIdeal.main (F := Ideal))) ⟨m, fun _ => 0, g⟩ (fun r => (∀ c : Dev Cert.RmsfIdeal.nD,
      r.2.mem ((c.tc : Thread Cert.RmsfIdeal.nD Cert.RmsfIdeal.τ).loc Cert.RmsfIdeal.main_arg0) = m ((c.tc : Thread Cert.RmsfIdeal.nD Cert.RmsfIdeal.τ).loc Cert.RmsfIdeal.main_arg0)
      ∧ r.2.mem ((c.tc : Thread Cert.RmsfIdeal.nD Cert.RmsfIdeal.τ).loc Cert.RmsfIdeal.main_arg1) = m ((c.tc : Thread Cert.RmsfIdeal.nD Cert.RmsfIdeal.τ).loc Cert.RmsfIdeal.main_arg1))
      ∧ r.2.sem = fun _ => 0)

def quiescent_RmsfRefIdeal [hRmsfRefIdeal : Cert.RmsfRefIdeal.Facts] : Prop :=
  ∀ (m : (ℓ : Loc Cert.RmsfRefIdeal.nD Cert.RmsfRefIdeal.τ Cert.RmsfRefIdeal.sig) → Buf (Elt Ideal) ℓ) (g : Dev Cert.RmsfRefIdeal.nD → PrngReg), Pre_RmsfRefIdeal m →
    θ_run (Cert.RmsfRefIdeal.defs (F := Ideal)) (onTc (τ := Cert.RmsfRefIdeal.τ) (Cert.RmsfRefIdeal.main (F := Ideal))) ⟨m, fun _ => 0, g⟩ (fun r => (∀ c : Dev Cert.RmsfRefIdeal.nD,
      r.2.mem ((c.tc : Thread Cert.RmsfRefIdeal.nD Cert.RmsfRefIdeal.τ).loc Cert.RmsfRefIdeal.main_arg0) = m ((c.tc : Thread Cert.RmsfRefIdeal.nD Cert.RmsfRefIdeal.τ).loc Cert.RmsfRefIdeal.main_arg0)
      ∧ r.2.mem ((c.tc : Thread Cert.RmsfRefIdeal.nD Cert.RmsfRefIdeal.τ).loc Cert.RmsfRefIdeal.main_arg1) = m ((c.tc : Thread Cert.RmsfRefIdeal.nD Cert.RmsfRefIdeal.τ).loc Cert.RmsfRefIdeal.main_arg1))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_Lnf [hLnf : Cert.Lnf.Facts] : Prop :=
  ∀ (m : (ℓ : Loc Cert.Lnf.nD Cert.Lnf.τ Cert.Lnf.sig) → Buf (Elt Bits) ℓ) (g : Dev Cert.Lnf.nD → PrngReg), Pre_Lnf m →
    θ_run (Cert.Lnf.defs (F := Bits)) (onTc (τ := Cert.Lnf.τ) (Cert.Lnf.main (F := Bits))) ⟨m, fun _ => 0, g⟩ (fun r => (∀ c : Dev Cert.Lnf.nD,
      r.2.mem ((c.tc : Thread Cert.Lnf.nD Cert.Lnf.τ).loc Cert.Lnf.main_arg0) = m ((c.tc : Thread Cert.Lnf.nD Cert.Lnf.τ).loc Cert.Lnf.main_arg0)
      ∧ r.2.mem ((c.tc : Thread Cert.Lnf.nD Cert.Lnf.τ).loc Cert.Lnf.main_arg1) = m ((c.tc : Thread Cert.Lnf.nD Cert.Lnf.τ).loc Cert.Lnf.main_arg1)
      ∧ r.2.mem ((c.tc : Thread Cert.Lnf.nD Cert.Lnf.τ).loc Cert.Lnf.main_arg2) = m ((c.tc : Thread Cert.Lnf.nD Cert.Lnf.τ).loc Cert.Lnf.main_arg2))
      ∧ r.2.sem = fun _ => 0)

def quiescent_LnfIdeal [hLnfIdeal : Cert.LnfIdeal.Facts] : Prop :=
  ∀ (m : (ℓ : Loc Cert.LnfIdeal.nD Cert.LnfIdeal.τ Cert.LnfIdeal.sig) → Buf (Elt Ideal) ℓ) (g : Dev Cert.LnfIdeal.nD → PrngReg), Pre_LnfIdeal m →
    θ_run (Cert.LnfIdeal.defs (F := Ideal)) (onTc (τ := Cert.LnfIdeal.τ) (Cert.LnfIdeal.main (F := Ideal))) ⟨m, fun _ => 0, g⟩ (fun r => (∀ c : Dev Cert.LnfIdeal.nD,
      r.2.mem ((c.tc : Thread Cert.LnfIdeal.nD Cert.LnfIdeal.τ).loc Cert.LnfIdeal.main_arg0) = m ((c.tc : Thread Cert.LnfIdeal.nD Cert.LnfIdeal.τ).loc Cert.LnfIdeal.main_arg0)
      ∧ r.2.mem ((c.tc : Thread Cert.LnfIdeal.nD Cert.LnfIdeal.τ).loc Cert.LnfIdeal.main_arg1) = m ((c.tc : Thread Cert.LnfIdeal.nD Cert.LnfIdeal.τ).loc Cert.LnfIdeal.main_arg1)
      ∧ r.2.mem ((c.tc : Thread Cert.LnfIdeal.nD Cert.LnfIdeal.τ).loc Cert.LnfIdeal.main_arg2) = m ((c.tc : Thread Cert.LnfIdeal.nD Cert.LnfIdeal.τ).loc Cert.LnfIdeal.main_arg2))
      ∧ r.2.sem = fun _ => 0)

def quiescent_LnfRefIdeal [hLnfRefIdeal : Cert.LnfRefIdeal.Facts] : Prop :=
  ∀ (m : (ℓ : Loc Cert.LnfRefIdeal.nD Cert.LnfRefIdeal.τ Cert.LnfRefIdeal.sig) → Buf (Elt Ideal) ℓ) (g : Dev Cert.LnfRefIdeal.nD → PrngReg), Pre_LnfRefIdeal m →
    θ_run (Cert.LnfRefIdeal.defs (F := Ideal)) (onTc (τ := Cert.LnfRefIdeal.τ) (Cert.LnfRefIdeal.main (F := Ideal))) ⟨m, fun _ => 0, g⟩ (fun r => (∀ c : Dev Cert.LnfRefIdeal.nD,
      r.2.mem ((c.tc : Thread Cert.LnfRefIdeal.nD Cert.LnfRefIdeal.τ).loc Cert.LnfRefIdeal.main_arg0) = m ((c.tc : Thread Cert.LnfRefIdeal.nD Cert.LnfRefIdeal.τ).loc Cert.LnfRefIdeal.main_arg0)
      ∧ r.2.mem ((c.tc : Thread Cert.LnfRefIdeal.nD Cert.LnfRefIdeal.τ).loc Cert.LnfRefIdeal.main_arg1) = m ((c.tc : Thread Cert.LnfRefIdeal.nD Cert.LnfRefIdeal.τ).loc Cert.LnfRefIdeal.main_arg1)
      ∧ r.2.mem ((c.tc : Thread Cert.LnfRefIdeal.nD Cert.LnfRefIdeal.τ).loc Cert.LnfRefIdeal.main_arg2) = m ((c.tc : Thread Cert.LnfRefIdeal.nD Cert.LnfRefIdeal.τ).loc Cert.LnfRefIdeal.main_arg2))
      ∧ r.2.sem = fun _ => 0)

def quiescent_Lnb [hLnb : Cert.Lnb.Facts] : Prop :=
  ∀ (m : (ℓ : Loc Cert.Lnb.nD Cert.Lnb.τ Cert.Lnb.sig) → Buf (Elt Bits) ℓ) (g : Dev Cert.Lnb.nD → PrngReg), Pre_Lnb m →
    θ_run (Cert.Lnb.defs (F := Bits)) (onTc (τ := Cert.Lnb.τ) (Cert.Lnb.main (F := Bits))) ⟨m, fun _ => 0, g⟩ (fun r => (∀ c : Dev Cert.Lnb.nD,
      r.2.mem ((c.tc : Thread Cert.Lnb.nD Cert.Lnb.τ).loc Cert.Lnb.main_arg0) = m ((c.tc : Thread Cert.Lnb.nD Cert.Lnb.τ).loc Cert.Lnb.main_arg0)
      ∧ r.2.mem ((c.tc : Thread Cert.Lnb.nD Cert.Lnb.τ).loc Cert.Lnb.main_arg1) = m ((c.tc : Thread Cert.Lnb.nD Cert.Lnb.τ).loc Cert.Lnb.main_arg1)
      ∧ r.2.mem ((c.tc : Thread Cert.Lnb.nD Cert.Lnb.τ).loc Cert.Lnb.main_arg2) = m ((c.tc : Thread Cert.Lnb.nD Cert.Lnb.τ).loc Cert.Lnb.main_arg2)
      ∧ r.2.mem ((c.tc : Thread Cert.Lnb.nD Cert.Lnb.τ).loc Cert.Lnb.main_arg3) = m ((c.tc : Thread Cert.Lnb.nD Cert.Lnb.τ).loc Cert.Lnb.main_arg3))
      ∧ r.2.sem = fun _ => 0)

def quiescent_LnbIdeal [hLnbIdeal : Cert.LnbIdeal.Facts] : Prop :=
  ∀ (m : (ℓ : Loc Cert.LnbIdeal.nD Cert.LnbIdeal.τ Cert.LnbIdeal.sig) → Buf (Elt Ideal) ℓ) (g : Dev Cert.LnbIdeal.nD → PrngReg), Pre_LnbIdeal m →
    θ_run (Cert.LnbIdeal.defs (F := Ideal)) (onTc (τ := Cert.LnbIdeal.τ) (Cert.LnbIdeal.main (F := Ideal))) ⟨m, fun _ => 0, g⟩ (fun r => (∀ c : Dev Cert.LnbIdeal.nD,
      r.2.mem ((c.tc : Thread Cert.LnbIdeal.nD Cert.LnbIdeal.τ).loc Cert.LnbIdeal.main_arg0) = m ((c.tc : Thread Cert.LnbIdeal.nD Cert.LnbIdeal.τ).loc Cert.LnbIdeal.main_arg0)
      ∧ r.2.mem ((c.tc : Thread Cert.LnbIdeal.nD Cert.LnbIdeal.τ).loc Cert.LnbIdeal.main_arg1) = m ((c.tc : Thread Cert.LnbIdeal.nD Cert.LnbIdeal.τ).loc Cert.LnbIdeal.main_arg1)
      ∧ r.2.mem ((c.tc : Thread Cert.LnbIdeal.nD Cert.LnbIdeal.τ).loc Cert.LnbIdeal.main_arg2) = m ((c.tc : Thread Cert.LnbIdeal.nD Cert.LnbIdeal.τ).loc Cert.LnbIdeal.main_arg2)
      ∧ r.2.mem ((c.tc : Thread Cert.LnbIdeal.nD Cert.LnbIdeal.τ).loc Cert.LnbIdeal.main_arg3) = m ((c.tc : Thread Cert.LnbIdeal.nD Cert.LnbIdeal.τ).loc Cert.LnbIdeal.main_arg3))
      ∧ r.2.sem = fun _ => 0)

def quiescent_LnbIdeal_pre_finite_norm [hLnbIdeal : Cert.LnbIdeal.Facts] [hPre_finite_norm : Cert.Pre_finite_norm.Facts] : Prop :=
  ∀ (m : (ℓ : Loc Cert.LnbIdeal.nD Cert.LnbIdeal.τ Cert.LnbIdeal.sig) → Buf (Elt Ideal) ℓ) (g : Dev Cert.LnbIdeal.nD → PrngReg), Pre_LnbIdeal_finite_norm m →
    θ_run (Cert.LnbIdeal.defs (F := Ideal)) (onTc (τ := Cert.LnbIdeal.τ) (Cert.LnbIdeal.main (F := Ideal))) ⟨m, fun _ => 0, g⟩ (fun r => (∀ c : Dev Cert.LnbIdeal.nD,
      r.2.mem ((c.tc : Thread Cert.LnbIdeal.nD Cert.LnbIdeal.τ).loc Cert.LnbIdeal.main_arg0) = m ((c.tc : Thread Cert.LnbIdeal.nD Cert.LnbIdeal.τ).loc Cert.LnbIdeal.main_arg0)
      ∧ r.2.mem ((c.tc : Thread Cert.LnbIdeal.nD Cert.LnbIdeal.τ).loc Cert.LnbIdeal.main_arg1) = m ((c.tc : Thread Cert.LnbIdeal.nD Cert.LnbIdeal.τ).loc Cert.LnbIdeal.main_arg1)
      ∧ r.2.mem ((c.tc : Thread Cert.LnbIdeal.nD Cert.LnbIdeal.τ).loc Cert.LnbIdeal.main_arg2) = m ((c.tc : Thread Cert.LnbIdeal.nD Cert.LnbIdeal.τ).loc Cert.LnbIdeal.main_arg2)
      ∧ r.2.mem ((c.tc : Thread Cert.LnbIdeal.nD Cert.LnbIdeal.τ).loc Cert.LnbIdeal.main_arg3) = m ((c.tc : Thread Cert.LnbIdeal.nD Cert.LnbIdeal.τ).loc Cert.LnbIdeal.main_arg3))
      ∧ r.2.sem = fun _ => 0)

def quiescent_LnbRefIdeal [hLnbRefIdeal : Cert.LnbRefIdeal.Facts] : Prop :=
  ∀ (m : (ℓ : Loc Cert.LnbRefIdeal.nD Cert.LnbRefIdeal.τ Cert.LnbRefIdeal.sig) → Buf (Elt Ideal) ℓ) (g : Dev Cert.LnbRefIdeal.nD → PrngReg), Pre_LnbRefIdeal m →
    θ_run (Cert.LnbRefIdeal.defs (F := Ideal)) (onTc (τ := Cert.LnbRefIdeal.τ) (Cert.LnbRefIdeal.main (F := Ideal))) ⟨m, fun _ => 0, g⟩ (fun r => (∀ c : Dev Cert.LnbRefIdeal.nD,
      r.2.mem ((c.tc : Thread Cert.LnbRefIdeal.nD Cert.LnbRefIdeal.τ).loc Cert.LnbRefIdeal.main_arg0) = m ((c.tc : Thread Cert.LnbRefIdeal.nD Cert.LnbRefIdeal.τ).loc Cert.LnbRefIdeal.main_arg0)
      ∧ r.2.mem ((c.tc : Thread Cert.LnbRefIdeal.nD Cert.LnbRefIdeal.τ).loc Cert.LnbRefIdeal.main_arg1) = m ((c.tc : Thread Cert.LnbRefIdeal.nD Cert.LnbRefIdeal.τ).loc Cert.LnbRefIdeal.main_arg1)
      ∧ r.2.mem ((c.tc : Thread Cert.LnbRefIdeal.nD Cert.LnbRefIdeal.τ).loc Cert.LnbRefIdeal.main_arg2) = m ((c.tc : Thread Cert.LnbRefIdeal.nD Cert.LnbRefIdeal.τ).loc Cert.LnbRefIdeal.main_arg2)
      ∧ r.2.mem ((c.tc : Thread Cert.LnbRefIdeal.nD Cert.LnbRefIdeal.τ).loc Cert.LnbRefIdeal.main_arg3) = m ((c.tc : Thread Cert.LnbRefIdeal.nD Cert.LnbRefIdeal.τ).loc Cert.LnbRefIdeal.main_arg3))
      ∧ r.2.sem = fun _ => 0)

def quiescent_LnbRefIdeal_pre_finite_norm [hLnbRefIdeal : Cert.LnbRefIdeal.Facts] [hPre_finite_norm : Cert.Pre_finite_norm.Facts] : Prop :=
  ∀ (m : (ℓ : Loc Cert.LnbRefIdeal.nD Cert.LnbRefIdeal.τ Cert.LnbRefIdeal.sig) → Buf (Elt Ideal) ℓ) (g : Dev Cert.LnbRefIdeal.nD → PrngReg), Pre_LnbRefIdeal_finite_norm m →
    θ_run (Cert.LnbRefIdeal.defs (F := Ideal)) (onTc (τ := Cert.LnbRefIdeal.τ) (Cert.LnbRefIdeal.main (F := Ideal))) ⟨m, fun _ => 0, g⟩ (fun r => (∀ c : Dev Cert.LnbRefIdeal.nD,
      r.2.mem ((c.tc : Thread Cert.LnbRefIdeal.nD Cert.LnbRefIdeal.τ).loc Cert.LnbRefIdeal.main_arg0) = m ((c.tc : Thread Cert.LnbRefIdeal.nD Cert.LnbRefIdeal.τ).loc Cert.LnbRefIdeal.main_arg0)
      ∧ r.2.mem ((c.tc : Thread Cert.LnbRefIdeal.nD Cert.LnbRefIdeal.τ).loc Cert.LnbRefIdeal.main_arg1) = m ((c.tc : Thread Cert.LnbRefIdeal.nD Cert.LnbRefIdeal.τ).loc Cert.LnbRefIdeal.main_arg1)
      ∧ r.2.mem ((c.tc : Thread Cert.LnbRefIdeal.nD Cert.LnbRefIdeal.τ).loc Cert.LnbRefIdeal.main_arg2) = m ((c.tc : Thread Cert.LnbRefIdeal.nD Cert.LnbRefIdeal.τ).loc Cert.LnbRefIdeal.main_arg2)
      ∧ r.2.mem ((c.tc : Thread Cert.LnbRefIdeal.nD Cert.LnbRefIdeal.τ).loc Cert.LnbRefIdeal.main_arg3) = m ((c.tc : Thread Cert.LnbRefIdeal.nD Cert.LnbRefIdeal.τ).loc Cert.LnbRefIdeal.main_arg3))
      ∧ r.2.sem = fun _ => 0)

def quiescent_Firstf [hFirstf : Cert.Firstf.Facts] : Prop :=
  ∀ (m : (ℓ : Loc Cert.Firstf.nD Cert.Firstf.τ Cert.Firstf.sig) → Buf (Elt Bits) ℓ) (g : Dev Cert.Firstf.nD → PrngReg), Pre_Firstf m →
    θ_run (Cert.Firstf.defs (F := Bits)) (onTc (τ := Cert.Firstf.τ) (Cert.Firstf.main (F := Bits))) ⟨m, fun _ => 0, g⟩ (fun r => (∀ c : Dev Cert.Firstf.nD,
      r.2.mem ((c.tc : Thread Cert.Firstf.nD Cert.Firstf.τ).loc Cert.Firstf.main_arg0) = m ((c.tc : Thread Cert.Firstf.nD Cert.Firstf.τ).loc Cert.Firstf.main_arg0)
      ∧ r.2.mem ((c.tc : Thread Cert.Firstf.nD Cert.Firstf.τ).loc Cert.Firstf.main_arg1) = m ((c.tc : Thread Cert.Firstf.nD Cert.Firstf.τ).loc Cert.Firstf.main_arg1)
      ∧ r.2.mem ((c.tc : Thread Cert.Firstf.nD Cert.Firstf.τ).loc Cert.Firstf.main_arg2) = m ((c.tc : Thread Cert.Firstf.nD Cert.Firstf.τ).loc Cert.Firstf.main_arg2)
      ∧ r.2.mem ((c.tc : Thread Cert.Firstf.nD Cert.Firstf.τ).loc Cert.Firstf.main_arg3) = m ((c.tc : Thread Cert.Firstf.nD Cert.Firstf.τ).loc Cert.Firstf.main_arg3)
      ∧ r.2.mem ((c.tc : Thread Cert.Firstf.nD Cert.Firstf.τ).loc Cert.Firstf.main_arg4) = m ((c.tc : Thread Cert.Firstf.nD Cert.Firstf.τ).loc Cert.Firstf.main_arg4)
      ∧ r.2.mem ((c.tc : Thread Cert.Firstf.nD Cert.Firstf.τ).loc Cert.Firstf.main_arg5) = m ((c.tc : Thread Cert.Firstf.nD Cert.Firstf.τ).loc Cert.Firstf.main_arg5)
      ∧ r.2.mem ((c.tc : Thread Cert.Firstf.nD Cert.Firstf.τ).loc Cert.Firstf.main_arg6) = m ((c.tc : Thread Cert.Firstf.nD Cert.Firstf.τ).loc Cert.Firstf.main_arg6)
      ∧ r.2.mem ((c.tc : Thread Cert.Firstf.nD Cert.Firstf.τ).loc Cert.Firstf.main_arg7) = m ((c.tc : Thread Cert.Firstf.nD Cert.Firstf.τ).loc Cert.Firstf.main_arg7)
      ∧ r.2.mem ((c.tc : Thread Cert.Firstf.nD Cert.Firstf.τ).loc Cert.Firstf.main_arg8) = m ((c.tc : Thread Cert.Firstf.nD Cert.Firstf.τ).loc Cert.Firstf.main_arg8)
      ∧ r.2.mem ((c.tc : Thread Cert.Firstf.nD Cert.Firstf.τ).loc Cert.Firstf.main_arg9) = m ((c.tc : Thread Cert.Firstf.nD Cert.Firstf.τ).loc Cert.Firstf.main_arg9))
      ∧ r.2.sem = fun _ => 0)

def quiescent_FirstfIdeal [hFirstfIdeal : Cert.FirstfIdeal.Facts] : Prop :=
  ∀ (m : (ℓ : Loc Cert.FirstfIdeal.nD Cert.FirstfIdeal.τ Cert.FirstfIdeal.sig) → Buf (Elt Ideal) ℓ) (g : Dev Cert.FirstfIdeal.nD → PrngReg), Pre_FirstfIdeal m →
    θ_run (Cert.FirstfIdeal.defs (F := Ideal)) (onTc (τ := Cert.FirstfIdeal.τ) (Cert.FirstfIdeal.main (F := Ideal))) ⟨m, fun _ => 0, g⟩ (fun r => (∀ c : Dev Cert.FirstfIdeal.nD,
      r.2.mem ((c.tc : Thread Cert.FirstfIdeal.nD Cert.FirstfIdeal.τ).loc Cert.FirstfIdeal.main_arg0) = m ((c.tc : Thread Cert.FirstfIdeal.nD Cert.FirstfIdeal.τ).loc Cert.FirstfIdeal.main_arg0)
      ∧ r.2.mem ((c.tc : Thread Cert.FirstfIdeal.nD Cert.FirstfIdeal.τ).loc Cert.FirstfIdeal.main_arg1) = m ((c.tc : Thread Cert.FirstfIdeal.nD Cert.FirstfIdeal.τ).loc Cert.FirstfIdeal.main_arg1)
      ∧ r.2.mem ((c.tc : Thread Cert.FirstfIdeal.nD Cert.FirstfIdeal.τ).loc Cert.FirstfIdeal.main_arg2) = m ((c.tc : Thread Cert.FirstfIdeal.nD Cert.FirstfIdeal.τ).loc Cert.FirstfIdeal.main_arg2)
      ∧ r.2.mem ((c.tc : Thread Cert.FirstfIdeal.nD Cert.FirstfIdeal.τ).loc Cert.FirstfIdeal.main_arg3) = m ((c.tc : Thread Cert.FirstfIdeal.nD Cert.FirstfIdeal.τ).loc Cert.FirstfIdeal.main_arg3)
      ∧ r.2.mem ((c.tc : Thread Cert.FirstfIdeal.nD Cert.FirstfIdeal.τ).loc Cert.FirstfIdeal.main_arg4) = m ((c.tc : Thread Cert.FirstfIdeal.nD Cert.FirstfIdeal.τ).loc Cert.FirstfIdeal.main_arg4)
      ∧ r.2.mem ((c.tc : Thread Cert.FirstfIdeal.nD Cert.FirstfIdeal.τ).loc Cert.FirstfIdeal.main_arg5) = m ((c.tc : Thread Cert.FirstfIdeal.nD Cert.FirstfIdeal.τ).loc Cert.FirstfIdeal.main_arg5)
      ∧ r.2.mem ((c.tc : Thread Cert.FirstfIdeal.nD Cert.FirstfIdeal.τ).loc Cert.FirstfIdeal.main_arg6) = m ((c.tc : Thread Cert.FirstfIdeal.nD Cert.FirstfIdeal.τ).loc Cert.FirstfIdeal.main_arg6)
      ∧ r.2.mem ((c.tc : Thread Cert.FirstfIdeal.nD Cert.FirstfIdeal.τ).loc Cert.FirstfIdeal.main_arg7) = m ((c.tc : Thread Cert.FirstfIdeal.nD Cert.FirstfIdeal.τ).loc Cert.FirstfIdeal.main_arg7)
      ∧ r.2.mem ((c.tc : Thread Cert.FirstfIdeal.nD Cert.FirstfIdeal.τ).loc Cert.FirstfIdeal.main_arg8) = m ((c.tc : Thread Cert.FirstfIdeal.nD Cert.FirstfIdeal.τ).loc Cert.FirstfIdeal.main_arg8)
      ∧ r.2.mem ((c.tc : Thread Cert.FirstfIdeal.nD Cert.FirstfIdeal.τ).loc Cert.FirstfIdeal.main_arg9) = m ((c.tc : Thread Cert.FirstfIdeal.nD Cert.FirstfIdeal.τ).loc Cert.FirstfIdeal.main_arg9))
      ∧ r.2.sem = fun _ => 0)

def quiescent_FirstfRefIdeal [hFirstfRefIdeal : Cert.FirstfRefIdeal.Facts] : Prop :=
  ∀ (m : (ℓ : Loc Cert.FirstfRefIdeal.nD Cert.FirstfRefIdeal.τ Cert.FirstfRefIdeal.sig) → Buf (Elt Ideal) ℓ) (g : Dev Cert.FirstfRefIdeal.nD → PrngReg), Pre_FirstfRefIdeal m →
    θ_run (Cert.FirstfRefIdeal.defs (F := Ideal)) (onTc (τ := Cert.FirstfRefIdeal.τ) (Cert.FirstfRefIdeal.main (F := Ideal))) ⟨m, fun _ => 0, g⟩ (fun r => (∀ c : Dev Cert.FirstfRefIdeal.nD,
      r.2.mem ((c.tc : Thread Cert.FirstfRefIdeal.nD Cert.FirstfRefIdeal.τ).loc Cert.FirstfRefIdeal.main_arg0) = m ((c.tc : Thread Cert.FirstfRefIdeal.nD Cert.FirstfRefIdeal.τ).loc Cert.FirstfRefIdeal.main_arg0)
      ∧ r.2.mem ((c.tc : Thread Cert.FirstfRefIdeal.nD Cert.FirstfRefIdeal.τ).loc Cert.FirstfRefIdeal.main_arg1) = m ((c.tc : Thread Cert.FirstfRefIdeal.nD Cert.FirstfRefIdeal.τ).loc Cert.FirstfRefIdeal.main_arg1)
      ∧ r.2.mem ((c.tc : Thread Cert.FirstfRefIdeal.nD Cert.FirstfRefIdeal.τ).loc Cert.FirstfRefIdeal.main_arg2) = m ((c.tc : Thread Cert.FirstfRefIdeal.nD Cert.FirstfRefIdeal.τ).loc Cert.FirstfRefIdeal.main_arg2)
      ∧ r.2.mem ((c.tc : Thread Cert.FirstfRefIdeal.nD Cert.FirstfRefIdeal.τ).loc Cert.FirstfRefIdeal.main_arg3) = m ((c.tc : Thread Cert.FirstfRefIdeal.nD Cert.FirstfRefIdeal.τ).loc Cert.FirstfRefIdeal.main_arg3)
      ∧ r.2.mem ((c.tc : Thread Cert.FirstfRefIdeal.nD Cert.FirstfRefIdeal.τ).loc Cert.FirstfRefIdeal.main_arg4) = m ((c.tc : Thread Cert.FirstfRefIdeal.nD Cert.FirstfRefIdeal.τ).loc Cert.FirstfRefIdeal.main_arg4)
      ∧ r.2.mem ((c.tc : Thread Cert.FirstfRefIdeal.nD Cert.FirstfRefIdeal.τ).loc Cert.FirstfRefIdeal.main_arg5) = m ((c.tc : Thread Cert.FirstfRefIdeal.nD Cert.FirstfRefIdeal.τ).loc Cert.FirstfRefIdeal.main_arg5)
      ∧ r.2.mem ((c.tc : Thread Cert.FirstfRefIdeal.nD Cert.FirstfRefIdeal.τ).loc Cert.FirstfRefIdeal.main_arg6) = m ((c.tc : Thread Cert.FirstfRefIdeal.nD Cert.FirstfRefIdeal.τ).loc Cert.FirstfRefIdeal.main_arg6)
      ∧ r.2.mem ((c.tc : Thread Cert.FirstfRefIdeal.nD Cert.FirstfRefIdeal.τ).loc Cert.FirstfRefIdeal.main_arg7) = m ((c.tc : Thread Cert.FirstfRefIdeal.nD Cert.FirstfRefIdeal.τ).loc Cert.FirstfRefIdeal.main_arg7)
      ∧ r.2.mem ((c.tc : Thread Cert.FirstfRefIdeal.nD Cert.FirstfRefIdeal.τ).loc Cert.FirstfRefIdeal.main_arg8) = m ((c.tc : Thread Cert.FirstfRefIdeal.nD Cert.FirstfRefIdeal.τ).loc Cert.FirstfRefIdeal.main_arg8)
      ∧ r.2.mem ((c.tc : Thread Cert.FirstfRefIdeal.nD Cert.FirstfRefIdeal.τ).loc Cert.FirstfRefIdeal.main_arg9) = m ((c.tc : Thread Cert.FirstfRefIdeal.nD Cert.FirstfRefIdeal.τ).loc Cert.FirstfRefIdeal.main_arg9))
      ∧ r.2.sem = fun _ => 0)

def quiescent_Lasto [hLasto : Cert.Lasto.Facts] : Prop :=
  ∀ (m : (ℓ : Loc Cert.Lasto.nD Cert.Lasto.τ Cert.Lasto.sig) → Buf (Elt Bits) ℓ) (g : Dev Cert.Lasto.nD → PrngReg), Pre_Lasto m →
    θ_run (Cert.Lasto.defs (F := Bits)) (onTc (τ := Cert.Lasto.τ) (Cert.Lasto.main (F := Bits))) ⟨m, fun _ => 0, g⟩ (fun r => (∀ c : Dev Cert.Lasto.nD,
      r.2.mem ((c.tc : Thread Cert.Lasto.nD Cert.Lasto.τ).loc Cert.Lasto.main_arg0) = m ((c.tc : Thread Cert.Lasto.nD Cert.Lasto.τ).loc Cert.Lasto.main_arg0)
      ∧ r.2.mem ((c.tc : Thread Cert.Lasto.nD Cert.Lasto.τ).loc Cert.Lasto.main_arg1) = m ((c.tc : Thread Cert.Lasto.nD Cert.Lasto.τ).loc Cert.Lasto.main_arg1)
      ∧ r.2.mem ((c.tc : Thread Cert.Lasto.nD Cert.Lasto.τ).loc Cert.Lasto.main_arg2) = m ((c.tc : Thread Cert.Lasto.nD Cert.Lasto.τ).loc Cert.Lasto.main_arg2)
      ∧ r.2.mem ((c.tc : Thread Cert.Lasto.nD Cert.Lasto.τ).loc Cert.Lasto.main_arg3) = m ((c.tc : Thread Cert.Lasto.nD Cert.Lasto.τ).loc Cert.Lasto.main_arg3)
      ∧ r.2.mem ((c.tc : Thread Cert.Lasto.nD Cert.Lasto.τ).loc Cert.Lasto.main_arg4) = m ((c.tc : Thread Cert.Lasto.nD Cert.Lasto.τ).loc Cert.Lasto.main_arg4)
      ∧ r.2.mem ((c.tc : Thread Cert.Lasto.nD Cert.Lasto.τ).loc Cert.Lasto.main_arg5) = m ((c.tc : Thread Cert.Lasto.nD Cert.Lasto.τ).loc Cert.Lasto.main_arg5))
      ∧ r.2.sem = fun _ => 0)

def quiescent_LastoIdeal [hLastoIdeal : Cert.LastoIdeal.Facts] : Prop :=
  ∀ (m : (ℓ : Loc Cert.LastoIdeal.nD Cert.LastoIdeal.τ Cert.LastoIdeal.sig) → Buf (Elt Ideal) ℓ) (g : Dev Cert.LastoIdeal.nD → PrngReg), Pre_LastoIdeal m →
    θ_run (Cert.LastoIdeal.defs (F := Ideal)) (onTc (τ := Cert.LastoIdeal.τ) (Cert.LastoIdeal.main (F := Ideal))) ⟨m, fun _ => 0, g⟩ (fun r => (∀ c : Dev Cert.LastoIdeal.nD,
      r.2.mem ((c.tc : Thread Cert.LastoIdeal.nD Cert.LastoIdeal.τ).loc Cert.LastoIdeal.main_arg0) = m ((c.tc : Thread Cert.LastoIdeal.nD Cert.LastoIdeal.τ).loc Cert.LastoIdeal.main_arg0)
      ∧ r.2.mem ((c.tc : Thread Cert.LastoIdeal.nD Cert.LastoIdeal.τ).loc Cert.LastoIdeal.main_arg1) = m ((c.tc : Thread Cert.LastoIdeal.nD Cert.LastoIdeal.τ).loc Cert.LastoIdeal.main_arg1)
      ∧ r.2.mem ((c.tc : Thread Cert.LastoIdeal.nD Cert.LastoIdeal.τ).loc Cert.LastoIdeal.main_arg2) = m ((c.tc : Thread Cert.LastoIdeal.nD Cert.LastoIdeal.τ).loc Cert.LastoIdeal.main_arg2)
      ∧ r.2.mem ((c.tc : Thread Cert.LastoIdeal.nD Cert.LastoIdeal.τ).loc Cert.LastoIdeal.main_arg3) = m ((c.tc : Thread Cert.LastoIdeal.nD Cert.LastoIdeal.τ).loc Cert.LastoIdeal.main_arg3)
      ∧ r.2.mem ((c.tc : Thread Cert.LastoIdeal.nD Cert.LastoIdeal.τ).loc Cert.LastoIdeal.main_arg4) = m ((c.tc : Thread Cert.LastoIdeal.nD Cert.LastoIdeal.τ).loc Cert.LastoIdeal.main_arg4)
      ∧ r.2.mem ((c.tc : Thread Cert.LastoIdeal.nD Cert.LastoIdeal.τ).loc Cert.LastoIdeal.main_arg5) = m ((c.tc : Thread Cert.LastoIdeal.nD Cert.LastoIdeal.τ).loc Cert.LastoIdeal.main_arg5))
      ∧ r.2.sem = fun _ => 0)

def quiescent_LastoRefIdeal [hLastoRefIdeal : Cert.LastoRefIdeal.Facts] : Prop :=
  ∀ (m : (ℓ : Loc Cert.LastoRefIdeal.nD Cert.LastoRefIdeal.τ Cert.LastoRefIdeal.sig) → Buf (Elt Ideal) ℓ) (g : Dev Cert.LastoRefIdeal.nD → PrngReg), Pre_LastoRefIdeal m →
    θ_run (Cert.LastoRefIdeal.defs (F := Ideal)) (onTc (τ := Cert.LastoRefIdeal.τ) (Cert.LastoRefIdeal.main (F := Ideal))) ⟨m, fun _ => 0, g⟩ (fun r => (∀ c : Dev Cert.LastoRefIdeal.nD,
      r.2.mem ((c.tc : Thread Cert.LastoRefIdeal.nD Cert.LastoRefIdeal.τ).loc Cert.LastoRefIdeal.main_arg0) = m ((c.tc : Thread Cert.LastoRefIdeal.nD Cert.LastoRefIdeal.τ).loc Cert.LastoRefIdeal.main_arg0)
      ∧ r.2.mem ((c.tc : Thread Cert.LastoRefIdeal.nD Cert.LastoRefIdeal.τ).loc Cert.LastoRefIdeal.main_arg1) = m ((c.tc : Thread Cert.LastoRefIdeal.nD Cert.LastoRefIdeal.τ).loc Cert.LastoRefIdeal.main_arg1)
      ∧ r.2.mem ((c.tc : Thread Cert.LastoRefIdeal.nD Cert.LastoRefIdeal.τ).loc Cert.LastoRefIdeal.main_arg2) = m ((c.tc : Thread Cert.LastoRefIdeal.nD Cert.LastoRefIdeal.τ).loc Cert.LastoRefIdeal.main_arg2)
      ∧ r.2.mem ((c.tc : Thread Cert.LastoRefIdeal.nD Cert.LastoRefIdeal.τ).loc Cert.LastoRefIdeal.main_arg3) = m ((c.tc : Thread Cert.LastoRefIdeal.nD Cert.LastoRefIdeal.τ).loc Cert.LastoRefIdeal.main_arg3)
      ∧ r.2.mem ((c.tc : Thread Cert.LastoRefIdeal.nD Cert.LastoRefIdeal.τ).loc Cert.LastoRefIdeal.main_arg4) = m ((c.tc : Thread Cert.LastoRefIdeal.nD Cert.LastoRefIdeal.τ).loc Cert.LastoRefIdeal.main_arg4)
      ∧ r.2.mem ((c.tc : Thread Cert.LastoRefIdeal.nD Cert.LastoRefIdeal.τ).loc Cert.LastoRefIdeal.main_arg5) = m ((c.tc : Thread Cert.LastoRefIdeal.nD Cert.LastoRefIdeal.τ).loc Cert.LastoRefIdeal.main_arg5))
      ∧ r.2.sem = fun _ => 0)

def quiescent_Firsto [hFirsto : Cert.Firsto.Facts] : Prop :=
  ∀ (m : (ℓ : Loc Cert.Firsto.nD Cert.Firsto.τ Cert.Firsto.sig) → Buf (Elt Bits) ℓ) (g : Dev Cert.Firsto.nD → PrngReg), Pre_Firsto m →
    θ_run (Cert.Firsto.defs (F := Bits)) (onTc (τ := Cert.Firsto.τ) (Cert.Firsto.main (F := Bits))) ⟨m, fun _ => 0, g⟩ (fun r => (∀ c : Dev Cert.Firsto.nD,
      r.2.mem ((c.tc : Thread Cert.Firsto.nD Cert.Firsto.τ).loc Cert.Firsto.main_arg0) = m ((c.tc : Thread Cert.Firsto.nD Cert.Firsto.τ).loc Cert.Firsto.main_arg0)
      ∧ r.2.mem ((c.tc : Thread Cert.Firsto.nD Cert.Firsto.τ).loc Cert.Firsto.main_arg1) = m ((c.tc : Thread Cert.Firsto.nD Cert.Firsto.τ).loc Cert.Firsto.main_arg1)
      ∧ r.2.mem ((c.tc : Thread Cert.Firsto.nD Cert.Firsto.τ).loc Cert.Firsto.main_arg2) = m ((c.tc : Thread Cert.Firsto.nD Cert.Firsto.τ).loc Cert.Firsto.main_arg2)
      ∧ r.2.mem ((c.tc : Thread Cert.Firsto.nD Cert.Firsto.τ).loc Cert.Firsto.main_arg3) = m ((c.tc : Thread Cert.Firsto.nD Cert.Firsto.τ).loc Cert.Firsto.main_arg3)
      ∧ r.2.mem ((c.tc : Thread Cert.Firsto.nD Cert.Firsto.τ).loc Cert.Firsto.main_arg4) = m ((c.tc : Thread Cert.Firsto.nD Cert.Firsto.τ).loc Cert.Firsto.main_arg4)
      ∧ r.2.mem ((c.tc : Thread Cert.Firsto.nD Cert.Firsto.τ).loc Cert.Firsto.main_arg5) = m ((c.tc : Thread Cert.Firsto.nD Cert.Firsto.τ).loc Cert.Firsto.main_arg5)
      ∧ r.2.mem ((c.tc : Thread Cert.Firsto.nD Cert.Firsto.τ).loc Cert.Firsto.main_arg6) = m ((c.tc : Thread Cert.Firsto.nD Cert.Firsto.τ).loc Cert.Firsto.main_arg6)
      ∧ r.2.mem ((c.tc : Thread Cert.Firsto.nD Cert.Firsto.τ).loc Cert.Firsto.main_arg7) = m ((c.tc : Thread Cert.Firsto.nD Cert.Firsto.τ).loc Cert.Firsto.main_arg7)
      ∧ r.2.mem ((c.tc : Thread Cert.Firsto.nD Cert.Firsto.τ).loc Cert.Firsto.main_arg8) = m ((c.tc : Thread Cert.Firsto.nD Cert.Firsto.τ).loc Cert.Firsto.main_arg8)
      ∧ r.2.mem ((c.tc : Thread Cert.Firsto.nD Cert.Firsto.τ).loc Cert.Firsto.main_arg9) = m ((c.tc : Thread Cert.Firsto.nD Cert.Firsto.τ).loc Cert.Firsto.main_arg9))
      ∧ r.2.sem = fun _ => 0)

def quiescent_FirstoIdeal [hFirstoIdeal : Cert.FirstoIdeal.Facts] : Prop :=
  ∀ (m : (ℓ : Loc Cert.FirstoIdeal.nD Cert.FirstoIdeal.τ Cert.FirstoIdeal.sig) → Buf (Elt Ideal) ℓ) (g : Dev Cert.FirstoIdeal.nD → PrngReg), Pre_FirstoIdeal m →
    θ_run (Cert.FirstoIdeal.defs (F := Ideal)) (onTc (τ := Cert.FirstoIdeal.τ) (Cert.FirstoIdeal.main (F := Ideal))) ⟨m, fun _ => 0, g⟩ (fun r => (∀ c : Dev Cert.FirstoIdeal.nD,
      r.2.mem ((c.tc : Thread Cert.FirstoIdeal.nD Cert.FirstoIdeal.τ).loc Cert.FirstoIdeal.main_arg0) = m ((c.tc : Thread Cert.FirstoIdeal.nD Cert.FirstoIdeal.τ).loc Cert.FirstoIdeal.main_arg0)
      ∧ r.2.mem ((c.tc : Thread Cert.FirstoIdeal.nD Cert.FirstoIdeal.τ).loc Cert.FirstoIdeal.main_arg1) = m ((c.tc : Thread Cert.FirstoIdeal.nD Cert.FirstoIdeal.τ).loc Cert.FirstoIdeal.main_arg1)
      ∧ r.2.mem ((c.tc : Thread Cert.FirstoIdeal.nD Cert.FirstoIdeal.τ).loc Cert.FirstoIdeal.main_arg2) = m ((c.tc : Thread Cert.FirstoIdeal.nD Cert.FirstoIdeal.τ).loc Cert.FirstoIdeal.main_arg2)
      ∧ r.2.mem ((c.tc : Thread Cert.FirstoIdeal.nD Cert.FirstoIdeal.τ).loc Cert.FirstoIdeal.main_arg3) = m ((c.tc : Thread Cert.FirstoIdeal.nD Cert.FirstoIdeal.τ).loc Cert.FirstoIdeal.main_arg3)
      ∧ r.2.mem ((c.tc : Thread Cert.FirstoIdeal.nD Cert.FirstoIdeal.τ).loc Cert.FirstoIdeal.main_arg4) = m ((c.tc : Thread Cert.FirstoIdeal.nD Cert.FirstoIdeal.τ).loc Cert.FirstoIdeal.main_arg4)
      ∧ r.2.mem ((c.tc : Thread Cert.FirstoIdeal.nD Cert.FirstoIdeal.τ).loc Cert.FirstoIdeal.main_arg5) = m ((c.tc : Thread Cert.FirstoIdeal.nD Cert.FirstoIdeal.τ).loc Cert.FirstoIdeal.main_arg5)
      ∧ r.2.mem ((c.tc : Thread Cert.FirstoIdeal.nD Cert.FirstoIdeal.τ).loc Cert.FirstoIdeal.main_arg6) = m ((c.tc : Thread Cert.FirstoIdeal.nD Cert.FirstoIdeal.τ).loc Cert.FirstoIdeal.main_arg6)
      ∧ r.2.mem ((c.tc : Thread Cert.FirstoIdeal.nD Cert.FirstoIdeal.τ).loc Cert.FirstoIdeal.main_arg7) = m ((c.tc : Thread Cert.FirstoIdeal.nD Cert.FirstoIdeal.τ).loc Cert.FirstoIdeal.main_arg7)
      ∧ r.2.mem ((c.tc : Thread Cert.FirstoIdeal.nD Cert.FirstoIdeal.τ).loc Cert.FirstoIdeal.main_arg8) = m ((c.tc : Thread Cert.FirstoIdeal.nD Cert.FirstoIdeal.τ).loc Cert.FirstoIdeal.main_arg8)
      ∧ r.2.mem ((c.tc : Thread Cert.FirstoIdeal.nD Cert.FirstoIdeal.τ).loc Cert.FirstoIdeal.main_arg9) = m ((c.tc : Thread Cert.FirstoIdeal.nD Cert.FirstoIdeal.τ).loc Cert.FirstoIdeal.main_arg9))
      ∧ r.2.sem = fun _ => 0)

def quiescent_FirstoRefIdeal [hFirstoRefIdeal : Cert.FirstoRefIdeal.Facts] : Prop :=
  ∀ (m : (ℓ : Loc Cert.FirstoRefIdeal.nD Cert.FirstoRefIdeal.τ Cert.FirstoRefIdeal.sig) → Buf (Elt Ideal) ℓ) (g : Dev Cert.FirstoRefIdeal.nD → PrngReg), Pre_FirstoRefIdeal m →
    θ_run (Cert.FirstoRefIdeal.defs (F := Ideal)) (onTc (τ := Cert.FirstoRefIdeal.τ) (Cert.FirstoRefIdeal.main (F := Ideal))) ⟨m, fun _ => 0, g⟩ (fun r => (∀ c : Dev Cert.FirstoRefIdeal.nD,
      r.2.mem ((c.tc : Thread Cert.FirstoRefIdeal.nD Cert.FirstoRefIdeal.τ).loc Cert.FirstoRefIdeal.main_arg0) = m ((c.tc : Thread Cert.FirstoRefIdeal.nD Cert.FirstoRefIdeal.τ).loc Cert.FirstoRefIdeal.main_arg0)
      ∧ r.2.mem ((c.tc : Thread Cert.FirstoRefIdeal.nD Cert.FirstoRefIdeal.τ).loc Cert.FirstoRefIdeal.main_arg1) = m ((c.tc : Thread Cert.FirstoRefIdeal.nD Cert.FirstoRefIdeal.τ).loc Cert.FirstoRefIdeal.main_arg1)
      ∧ r.2.mem ((c.tc : Thread Cert.FirstoRefIdeal.nD Cert.FirstoRefIdeal.τ).loc Cert.FirstoRefIdeal.main_arg2) = m ((c.tc : Thread Cert.FirstoRefIdeal.nD Cert.FirstoRefIdeal.τ).loc Cert.FirstoRefIdeal.main_arg2)
      ∧ r.2.mem ((c.tc : Thread Cert.FirstoRefIdeal.nD Cert.FirstoRefIdeal.τ).loc Cert.FirstoRefIdeal.main_arg3) = m ((c.tc : Thread Cert.FirstoRefIdeal.nD Cert.FirstoRefIdeal.τ).loc Cert.FirstoRefIdeal.main_arg3)
      ∧ r.2.mem ((c.tc : Thread Cert.FirstoRefIdeal.nD Cert.FirstoRefIdeal.τ).loc Cert.FirstoRefIdeal.main_arg4) = m ((c.tc : Thread Cert.FirstoRefIdeal.nD Cert.FirstoRefIdeal.τ).loc Cert.FirstoRefIdeal.main_arg4)
      ∧ r.2.mem ((c.tc : Thread Cert.FirstoRefIdeal.nD Cert.FirstoRefIdeal.τ).loc Cert.FirstoRefIdeal.main_arg5) = m ((c.tc : Thread Cert.FirstoRefIdeal.nD Cert.FirstoRefIdeal.τ).loc Cert.FirstoRefIdeal.main_arg5)
      ∧ r.2.mem ((c.tc : Thread Cert.FirstoRefIdeal.nD Cert.FirstoRefIdeal.τ).loc Cert.FirstoRefIdeal.main_arg6) = m ((c.tc : Thread Cert.FirstoRefIdeal.nD Cert.FirstoRefIdeal.τ).loc Cert.FirstoRefIdeal.main_arg6)
      ∧ r.2.mem ((c.tc : Thread Cert.FirstoRefIdeal.nD Cert.FirstoRefIdeal.τ).loc Cert.FirstoRefIdeal.main_arg7) = m ((c.tc : Thread Cert.FirstoRefIdeal.nD Cert.FirstoRefIdeal.τ).loc Cert.FirstoRefIdeal.main_arg7)
      ∧ r.2.mem ((c.tc : Thread Cert.FirstoRefIdeal.nD Cert.FirstoRefIdeal.τ).loc Cert.FirstoRefIdeal.main_arg8) = m ((c.tc : Thread Cert.FirstoRefIdeal.nD Cert.FirstoRefIdeal.τ).loc Cert.FirstoRefIdeal.main_arg8)
      ∧ r.2.mem ((c.tc : Thread Cert.FirstoRefIdeal.nD Cert.FirstoRefIdeal.τ).loc Cert.FirstoRefIdeal.main_arg9) = m ((c.tc : Thread Cert.FirstoRefIdeal.nD Cert.FirstoRefIdeal.τ).loc Cert.FirstoRefIdeal.main_arg9))
      ∧ r.2.sem = fun _ => 0)

def quiescent_Lasti [hLasti : Cert.Lasti.Facts] : Prop :=
  ∀ (m : (ℓ : Loc Cert.Lasti.nD Cert.Lasti.τ Cert.Lasti.sig) → Buf (Elt Bits) ℓ) (g : Dev Cert.Lasti.nD → PrngReg), Pre_Lasti m →
    θ_run (Cert.Lasti.defs (F := Bits)) (onTc (τ := Cert.Lasti.τ) (Cert.Lasti.main (F := Bits))) ⟨m, fun _ => 0, g⟩ (fun r => (∀ c : Dev Cert.Lasti.nD,
      r.2.mem ((c.tc : Thread Cert.Lasti.nD Cert.Lasti.τ).loc Cert.Lasti.main_arg0) = m ((c.tc : Thread Cert.Lasti.nD Cert.Lasti.τ).loc Cert.Lasti.main_arg0)
      ∧ r.2.mem ((c.tc : Thread Cert.Lasti.nD Cert.Lasti.τ).loc Cert.Lasti.main_arg1) = m ((c.tc : Thread Cert.Lasti.nD Cert.Lasti.τ).loc Cert.Lasti.main_arg1)
      ∧ r.2.mem ((c.tc : Thread Cert.Lasti.nD Cert.Lasti.τ).loc Cert.Lasti.main_arg2) = m ((c.tc : Thread Cert.Lasti.nD Cert.Lasti.τ).loc Cert.Lasti.main_arg2)
      ∧ r.2.mem ((c.tc : Thread Cert.Lasti.nD Cert.Lasti.τ).loc Cert.Lasti.main_arg3) = m ((c.tc : Thread Cert.Lasti.nD Cert.Lasti.τ).loc Cert.Lasti.main_arg3)
      ∧ r.2.mem ((c.tc : Thread Cert.Lasti.nD Cert.Lasti.τ).loc Cert.Lasti.main_arg4) = m ((c.tc : Thread Cert.Lasti.nD Cert.Lasti.τ).loc Cert.Lasti.main_arg4)
      ∧ r.2.mem ((c.tc : Thread Cert.Lasti.nD Cert.Lasti.τ).loc Cert.Lasti.main_arg5) = m ((c.tc : Thread Cert.Lasti.nD Cert.Lasti.τ).loc Cert.Lasti.main_arg5))
      ∧ r.2.sem = fun _ => 0)

def quiescent_LastiIdeal [hLastiIdeal : Cert.LastiIdeal.Facts] : Prop :=
  ∀ (m : (ℓ : Loc Cert.LastiIdeal.nD Cert.LastiIdeal.τ Cert.LastiIdeal.sig) → Buf (Elt Ideal) ℓ) (g : Dev Cert.LastiIdeal.nD → PrngReg), Pre_LastiIdeal m →
    θ_run (Cert.LastiIdeal.defs (F := Ideal)) (onTc (τ := Cert.LastiIdeal.τ) (Cert.LastiIdeal.main (F := Ideal))) ⟨m, fun _ => 0, g⟩ (fun r => (∀ c : Dev Cert.LastiIdeal.nD,
      r.2.mem ((c.tc : Thread Cert.LastiIdeal.nD Cert.LastiIdeal.τ).loc Cert.LastiIdeal.main_arg0) = m ((c.tc : Thread Cert.LastiIdeal.nD Cert.LastiIdeal.τ).loc Cert.LastiIdeal.main_arg0)
      ∧ r.2.mem ((c.tc : Thread Cert.LastiIdeal.nD Cert.LastiIdeal.τ).loc Cert.LastiIdeal.main_arg1) = m ((c.tc : Thread Cert.LastiIdeal.nD Cert.LastiIdeal.τ).loc Cert.LastiIdeal.main_arg1)
      ∧ r.2.mem ((c.tc : Thread Cert.LastiIdeal.nD Cert.LastiIdeal.τ).loc Cert.LastiIdeal.main_arg2) = m ((c.tc : Thread Cert.LastiIdeal.nD Cert.LastiIdeal.τ).loc Cert.LastiIdeal.main_arg2)
      ∧ r.2.mem ((c.tc : Thread Cert.LastiIdeal.nD Cert.LastiIdeal.τ).loc Cert.LastiIdeal.main_arg3) = m ((c.tc : Thread Cert.LastiIdeal.nD Cert.LastiIdeal.τ).loc Cert.LastiIdeal.main_arg3)
      ∧ r.2.mem ((c.tc : Thread Cert.LastiIdeal.nD Cert.LastiIdeal.τ).loc Cert.LastiIdeal.main_arg4) = m ((c.tc : Thread Cert.LastiIdeal.nD Cert.LastiIdeal.τ).loc Cert.LastiIdeal.main_arg4)
      ∧ r.2.mem ((c.tc : Thread Cert.LastiIdeal.nD Cert.LastiIdeal.τ).loc Cert.LastiIdeal.main_arg5) = m ((c.tc : Thread Cert.LastiIdeal.nD Cert.LastiIdeal.τ).loc Cert.LastiIdeal.main_arg5))
      ∧ r.2.sem = fun _ => 0)

def quiescent_LastiRefIdeal [hLastiRefIdeal : Cert.LastiRefIdeal.Facts] : Prop :=
  ∀ (m : (ℓ : Loc Cert.LastiRefIdeal.nD Cert.LastiRefIdeal.τ Cert.LastiRefIdeal.sig) → Buf (Elt Ideal) ℓ) (g : Dev Cert.LastiRefIdeal.nD → PrngReg), Pre_LastiRefIdeal m →
    θ_run (Cert.LastiRefIdeal.defs (F := Ideal)) (onTc (τ := Cert.LastiRefIdeal.τ) (Cert.LastiRefIdeal.main (F := Ideal))) ⟨m, fun _ => 0, g⟩ (fun r => (∀ c : Dev Cert.LastiRefIdeal.nD,
      r.2.mem ((c.tc : Thread Cert.LastiRefIdeal.nD Cert.LastiRefIdeal.τ).loc Cert.LastiRefIdeal.main_arg0) = m ((c.tc : Thread Cert.LastiRefIdeal.nD Cert.LastiRefIdeal.τ).loc Cert.LastiRefIdeal.main_arg0)
      ∧ r.2.mem ((c.tc : Thread Cert.LastiRefIdeal.nD Cert.LastiRefIdeal.τ).loc Cert.LastiRefIdeal.main_arg1) = m ((c.tc : Thread Cert.LastiRefIdeal.nD Cert.LastiRefIdeal.τ).loc Cert.LastiRefIdeal.main_arg1)
      ∧ r.2.mem ((c.tc : Thread Cert.LastiRefIdeal.nD Cert.LastiRefIdeal.τ).loc Cert.LastiRefIdeal.main_arg2) = m ((c.tc : Thread Cert.LastiRefIdeal.nD Cert.LastiRefIdeal.τ).loc Cert.LastiRefIdeal.main_arg2)
      ∧ r.2.mem ((c.tc : Thread Cert.LastiRefIdeal.nD Cert.LastiRefIdeal.τ).loc Cert.LastiRefIdeal.main_arg3) = m ((c.tc : Thread Cert.LastiRefIdeal.nD Cert.LastiRefIdeal.τ).loc Cert.LastiRefIdeal.main_arg3)
      ∧ r.2.mem ((c.tc : Thread Cert.LastiRefIdeal.nD Cert.LastiRefIdeal.τ).loc Cert.LastiRefIdeal.main_arg4) = m ((c.tc : Thread Cert.LastiRefIdeal.nD Cert.LastiRefIdeal.τ).loc Cert.LastiRefIdeal.main_arg4)
      ∧ r.2.mem ((c.tc : Thread Cert.LastiRefIdeal.nD Cert.LastiRefIdeal.τ).loc Cert.LastiRefIdeal.main_arg5) = m ((c.tc : Thread Cert.LastiRefIdeal.nD Cert.LastiRefIdeal.τ).loc Cert.LastiRefIdeal.main_arg5))
      ∧ r.2.sem = fun _ => 0)

def quiescent_Firsti [hFirsti : Cert.Firsti.Facts] : Prop :=
  ∀ (m : (ℓ : Loc Cert.Firsti.nD Cert.Firsti.τ Cert.Firsti.sig) → Buf (Elt Bits) ℓ) (g : Dev Cert.Firsti.nD → PrngReg), Pre_Firsti m →
    θ_run (Cert.Firsti.defs (F := Bits)) (onTc (τ := Cert.Firsti.τ) (Cert.Firsti.main (F := Bits))) ⟨m, fun _ => 0, g⟩ (fun r => (∀ c : Dev Cert.Firsti.nD,
      r.2.mem ((c.tc : Thread Cert.Firsti.nD Cert.Firsti.τ).loc Cert.Firsti.main_arg0) = m ((c.tc : Thread Cert.Firsti.nD Cert.Firsti.τ).loc Cert.Firsti.main_arg0)
      ∧ r.2.mem ((c.tc : Thread Cert.Firsti.nD Cert.Firsti.τ).loc Cert.Firsti.main_arg1) = m ((c.tc : Thread Cert.Firsti.nD Cert.Firsti.τ).loc Cert.Firsti.main_arg1)
      ∧ r.2.mem ((c.tc : Thread Cert.Firsti.nD Cert.Firsti.τ).loc Cert.Firsti.main_arg2) = m ((c.tc : Thread Cert.Firsti.nD Cert.Firsti.τ).loc Cert.Firsti.main_arg2)
      ∧ r.2.mem ((c.tc : Thread Cert.Firsti.nD Cert.Firsti.τ).loc Cert.Firsti.main_arg3) = m ((c.tc : Thread Cert.Firsti.nD Cert.Firsti.τ).loc Cert.Firsti.main_arg3)
      ∧ r.2.mem ((c.tc : Thread Cert.Firsti.nD Cert.Firsti.τ).loc Cert.Firsti.main_arg4) = m ((c.tc : Thread Cert.Firsti.nD Cert.Firsti.τ).loc Cert.Firsti.main_arg4)
      ∧ r.2.mem ((c.tc : Thread Cert.Firsti.nD Cert.Firsti.τ).loc Cert.Firsti.main_arg5) = m ((c.tc : Thread Cert.Firsti.nD Cert.Firsti.τ).loc Cert.Firsti.main_arg5)
      ∧ r.2.mem ((c.tc : Thread Cert.Firsti.nD Cert.Firsti.τ).loc Cert.Firsti.main_arg6) = m ((c.tc : Thread Cert.Firsti.nD Cert.Firsti.τ).loc Cert.Firsti.main_arg6)
      ∧ r.2.mem ((c.tc : Thread Cert.Firsti.nD Cert.Firsti.τ).loc Cert.Firsti.main_arg7) = m ((c.tc : Thread Cert.Firsti.nD Cert.Firsti.τ).loc Cert.Firsti.main_arg7)
      ∧ r.2.mem ((c.tc : Thread Cert.Firsti.nD Cert.Firsti.τ).loc Cert.Firsti.main_arg8) = m ((c.tc : Thread Cert.Firsti.nD Cert.Firsti.τ).loc Cert.Firsti.main_arg8)
      ∧ r.2.mem ((c.tc : Thread Cert.Firsti.nD Cert.Firsti.τ).loc Cert.Firsti.main_arg9) = m ((c.tc : Thread Cert.Firsti.nD Cert.Firsti.τ).loc Cert.Firsti.main_arg9))
      ∧ r.2.sem = fun _ => 0)

def quiescent_FirstiIdeal [hFirstiIdeal : Cert.FirstiIdeal.Facts] : Prop :=
  ∀ (m : (ℓ : Loc Cert.FirstiIdeal.nD Cert.FirstiIdeal.τ Cert.FirstiIdeal.sig) → Buf (Elt Ideal) ℓ) (g : Dev Cert.FirstiIdeal.nD → PrngReg), Pre_FirstiIdeal m →
    θ_run (Cert.FirstiIdeal.defs (F := Ideal)) (onTc (τ := Cert.FirstiIdeal.τ) (Cert.FirstiIdeal.main (F := Ideal))) ⟨m, fun _ => 0, g⟩ (fun r => (∀ c : Dev Cert.FirstiIdeal.nD,
      r.2.mem ((c.tc : Thread Cert.FirstiIdeal.nD Cert.FirstiIdeal.τ).loc Cert.FirstiIdeal.main_arg0) = m ((c.tc : Thread Cert.FirstiIdeal.nD Cert.FirstiIdeal.τ).loc Cert.FirstiIdeal.main_arg0)
      ∧ r.2.mem ((c.tc : Thread Cert.FirstiIdeal.nD Cert.FirstiIdeal.τ).loc Cert.FirstiIdeal.main_arg1) = m ((c.tc : Thread Cert.FirstiIdeal.nD Cert.FirstiIdeal.τ).loc Cert.FirstiIdeal.main_arg1)
      ∧ r.2.mem ((c.tc : Thread Cert.FirstiIdeal.nD Cert.FirstiIdeal.τ).loc Cert.FirstiIdeal.main_arg2) = m ((c.tc : Thread Cert.FirstiIdeal.nD Cert.FirstiIdeal.τ).loc Cert.FirstiIdeal.main_arg2)
      ∧ r.2.mem ((c.tc : Thread Cert.FirstiIdeal.nD Cert.FirstiIdeal.τ).loc Cert.FirstiIdeal.main_arg3) = m ((c.tc : Thread Cert.FirstiIdeal.nD Cert.FirstiIdeal.τ).loc Cert.FirstiIdeal.main_arg3)
      ∧ r.2.mem ((c.tc : Thread Cert.FirstiIdeal.nD Cert.FirstiIdeal.τ).loc Cert.FirstiIdeal.main_arg4) = m ((c.tc : Thread Cert.FirstiIdeal.nD Cert.FirstiIdeal.τ).loc Cert.FirstiIdeal.main_arg4)
      ∧ r.2.mem ((c.tc : Thread Cert.FirstiIdeal.nD Cert.FirstiIdeal.τ).loc Cert.FirstiIdeal.main_arg5) = m ((c.tc : Thread Cert.FirstiIdeal.nD Cert.FirstiIdeal.τ).loc Cert.FirstiIdeal.main_arg5)
      ∧ r.2.mem ((c.tc : Thread Cert.FirstiIdeal.nD Cert.FirstiIdeal.τ).loc Cert.FirstiIdeal.main_arg6) = m ((c.tc : Thread Cert.FirstiIdeal.nD Cert.FirstiIdeal.τ).loc Cert.FirstiIdeal.main_arg6)
      ∧ r.2.mem ((c.tc : Thread Cert.FirstiIdeal.nD Cert.FirstiIdeal.τ).loc Cert.FirstiIdeal.main_arg7) = m ((c.tc : Thread Cert.FirstiIdeal.nD Cert.FirstiIdeal.τ).loc Cert.FirstiIdeal.main_arg7)
      ∧ r.2.mem ((c.tc : Thread Cert.FirstiIdeal.nD Cert.FirstiIdeal.τ).loc Cert.FirstiIdeal.main_arg8) = m ((c.tc : Thread Cert.FirstiIdeal.nD Cert.FirstiIdeal.τ).loc Cert.FirstiIdeal.main_arg8)
      ∧ r.2.mem ((c.tc : Thread Cert.FirstiIdeal.nD Cert.FirstiIdeal.τ).loc Cert.FirstiIdeal.main_arg9) = m ((c.tc : Thread Cert.FirstiIdeal.nD Cert.FirstiIdeal.τ).loc Cert.FirstiIdeal.main_arg9))
      ∧ r.2.sem = fun _ => 0)

def quiescent_FirstiRefIdeal [hFirstiRefIdeal : Cert.FirstiRefIdeal.Facts] : Prop :=
  ∀ (m : (ℓ : Loc Cert.FirstiRefIdeal.nD Cert.FirstiRefIdeal.τ Cert.FirstiRefIdeal.sig) → Buf (Elt Ideal) ℓ) (g : Dev Cert.FirstiRefIdeal.nD → PrngReg), Pre_FirstiRefIdeal m →
    θ_run (Cert.FirstiRefIdeal.defs (F := Ideal)) (onTc (τ := Cert.FirstiRefIdeal.τ) (Cert.FirstiRefIdeal.main (F := Ideal))) ⟨m, fun _ => 0, g⟩ (fun r => (∀ c : Dev Cert.FirstiRefIdeal.nD,
      r.2.mem ((c.tc : Thread Cert.FirstiRefIdeal.nD Cert.FirstiRefIdeal.τ).loc Cert.FirstiRefIdeal.main_arg0) = m ((c.tc : Thread Cert.FirstiRefIdeal.nD Cert.FirstiRefIdeal.τ).loc Cert.FirstiRefIdeal.main_arg0)
      ∧ r.2.mem ((c.tc : Thread Cert.FirstiRefIdeal.nD Cert.FirstiRefIdeal.τ).loc Cert.FirstiRefIdeal.main_arg1) = m ((c.tc : Thread Cert.FirstiRefIdeal.nD Cert.FirstiRefIdeal.τ).loc Cert.FirstiRefIdeal.main_arg1)
      ∧ r.2.mem ((c.tc : Thread Cert.FirstiRefIdeal.nD Cert.FirstiRefIdeal.τ).loc Cert.FirstiRefIdeal.main_arg2) = m ((c.tc : Thread Cert.FirstiRefIdeal.nD Cert.FirstiRefIdeal.τ).loc Cert.FirstiRefIdeal.main_arg2)
      ∧ r.2.mem ((c.tc : Thread Cert.FirstiRefIdeal.nD Cert.FirstiRefIdeal.τ).loc Cert.FirstiRefIdeal.main_arg3) = m ((c.tc : Thread Cert.FirstiRefIdeal.nD Cert.FirstiRefIdeal.τ).loc Cert.FirstiRefIdeal.main_arg3)
      ∧ r.2.mem ((c.tc : Thread Cert.FirstiRefIdeal.nD Cert.FirstiRefIdeal.τ).loc Cert.FirstiRefIdeal.main_arg4) = m ((c.tc : Thread Cert.FirstiRefIdeal.nD Cert.FirstiRefIdeal.τ).loc Cert.FirstiRefIdeal.main_arg4)
      ∧ r.2.mem ((c.tc : Thread Cert.FirstiRefIdeal.nD Cert.FirstiRefIdeal.τ).loc Cert.FirstiRefIdeal.main_arg5) = m ((c.tc : Thread Cert.FirstiRefIdeal.nD Cert.FirstiRefIdeal.τ).loc Cert.FirstiRefIdeal.main_arg5)
      ∧ r.2.mem ((c.tc : Thread Cert.FirstiRefIdeal.nD Cert.FirstiRefIdeal.τ).loc Cert.FirstiRefIdeal.main_arg6) = m ((c.tc : Thread Cert.FirstiRefIdeal.nD Cert.FirstiRefIdeal.τ).loc Cert.FirstiRefIdeal.main_arg6)
      ∧ r.2.mem ((c.tc : Thread Cert.FirstiRefIdeal.nD Cert.FirstiRefIdeal.τ).loc Cert.FirstiRefIdeal.main_arg7) = m ((c.tc : Thread Cert.FirstiRefIdeal.nD Cert.FirstiRefIdeal.τ).loc Cert.FirstiRefIdeal.main_arg7)
      ∧ r.2.mem ((c.tc : Thread Cert.FirstiRefIdeal.nD Cert.FirstiRefIdeal.τ).loc Cert.FirstiRefIdeal.main_arg8) = m ((c.tc : Thread Cert.FirstiRefIdeal.nD Cert.FirstiRefIdeal.τ).loc Cert.FirstiRefIdeal.main_arg8)
      ∧ r.2.mem ((c.tc : Thread Cert.FirstiRefIdeal.nD Cert.FirstiRefIdeal.τ).loc Cert.FirstiRefIdeal.main_arg9) = m ((c.tc : Thread Cert.FirstiRefIdeal.nD Cert.FirstiRefIdeal.τ).loc Cert.FirstiRefIdeal.main_arg9))
      ∧ r.2.sem = fun _ => 0)

def quiescent_Sums [hSums : Cert.Sums.Facts] : Prop :=
  ∀ (m : (ℓ : Loc Cert.Sums.nD Cert.Sums.τ Cert.Sums.sig) → Buf (Elt Bits) ℓ) (g : Dev Cert.Sums.nD → PrngReg), Pre_Sums m →
    θ_run (Cert.Sums.defs (F := Bits)) (onTc (τ := Cert.Sums.τ) (Cert.Sums.main (F := Bits))) ⟨m, fun _ => 0, g⟩ (fun r => (∀ c : Dev Cert.Sums.nD,
      r.2.mem ((c.tc : Thread Cert.Sums.nD Cert.Sums.τ).loc Cert.Sums.main_arg0) = m ((c.tc : Thread Cert.Sums.nD Cert.Sums.τ).loc Cert.Sums.main_arg0))
      ∧ r.2.sem = fun _ => 0)

def quiescent_SumsIdeal [hSumsIdeal : Cert.SumsIdeal.Facts] : Prop :=
  ∀ (m : (ℓ : Loc Cert.SumsIdeal.nD Cert.SumsIdeal.τ Cert.SumsIdeal.sig) → Buf (Elt Ideal) ℓ) (g : Dev Cert.SumsIdeal.nD → PrngReg), Pre_SumsIdeal m →
    θ_run (Cert.SumsIdeal.defs (F := Ideal)) (onTc (τ := Cert.SumsIdeal.τ) (Cert.SumsIdeal.main (F := Ideal))) ⟨m, fun _ => 0, g⟩ (fun r => (∀ c : Dev Cert.SumsIdeal.nD,
      r.2.mem ((c.tc : Thread Cert.SumsIdeal.nD Cert.SumsIdeal.τ).loc Cert.SumsIdeal.main_arg0) = m ((c.tc : Thread Cert.SumsIdeal.nD Cert.SumsIdeal.τ).loc Cert.SumsIdeal.main_arg0))
      ∧ r.2.sem = fun _ => 0)

def quiescent_SumsRefIdeal [hSumsRefIdeal : Cert.SumsRefIdeal.Facts] : Prop :=
  ∀ (m : (ℓ : Loc Cert.SumsRefIdeal.nD Cert.SumsRefIdeal.τ Cert.SumsRefIdeal.sig) → Buf (Elt Ideal) ℓ) (g : Dev Cert.SumsRefIdeal.nD → PrngReg), Pre_SumsRefIdeal m →
    θ_run (Cert.SumsRefIdeal.defs (F := Ideal)) (onTc (τ := Cert.SumsRefIdeal.τ) (Cert.SumsRefIdeal.main (F := Ideal))) ⟨m, fun _ => 0, g⟩ (fun r => (∀ c : Dev Cert.SumsRefIdeal.nD,
      r.2.mem ((c.tc : Thread Cert.SumsRefIdeal.nD Cert.SumsRefIdeal.τ).loc Cert.SumsRefIdeal.main_arg0) = m ((c.tc : Thread Cert.SumsRefIdeal.nD Cert.SumsRefIdeal.τ).loc Cert.SumsRefIdeal.main_arg0))
      ∧ r.2.sem = fun _ => 0)

def quiescent_Rsum [hRsum : Cert.Rsum.Facts] : Prop :=
  ∀ (m : (ℓ : Loc Cert.Rsum.nD Cert.Rsum.τ Cert.Rsum.sig) → Buf (Elt Bits) ℓ) (g : Dev Cert.Rsum.nD → PrngReg), Pre_Rsum m →
    θ_run (Cert.Rsum.defs (F := Bits)) (onTc (τ := Cert.Rsum.τ) (Cert.Rsum.main (F := Bits))) ⟨m, fun _ => 0, g⟩ (fun r => (∀ c : Dev Cert.Rsum.nD,
      r.2.mem ((c.tc : Thread Cert.Rsum.nD Cert.Rsum.τ).loc Cert.Rsum.main_arg0) = m ((c.tc : Thread Cert.Rsum.nD Cert.Rsum.τ).loc Cert.Rsum.main_arg0)
      ∧ r.2.mem ((c.tc : Thread Cert.Rsum.nD Cert.Rsum.τ).loc Cert.Rsum.main_arg1) = m ((c.tc : Thread Cert.Rsum.nD Cert.Rsum.τ).loc Cert.Rsum.main_arg1)
      ∧ r.2.mem ((c.tc : Thread Cert.Rsum.nD Cert.Rsum.τ).loc Cert.Rsum.main_arg2) = m ((c.tc : Thread Cert.Rsum.nD Cert.Rsum.τ).loc Cert.Rsum.main_arg2))
      ∧ r.2.sem = fun _ => 0)

def quiescent_RsumIdeal [hRsumIdeal : Cert.RsumIdeal.Facts] : Prop :=
  ∀ (m : (ℓ : Loc Cert.RsumIdeal.nD Cert.RsumIdeal.τ Cert.RsumIdeal.sig) → Buf (Elt Ideal) ℓ) (g : Dev Cert.RsumIdeal.nD → PrngReg), Pre_RsumIdeal m →
    θ_run (Cert.RsumIdeal.defs (F := Ideal)) (onTc (τ := Cert.RsumIdeal.τ) (Cert.RsumIdeal.main (F := Ideal))) ⟨m, fun _ => 0, g⟩ (fun r => (∀ c : Dev Cert.RsumIdeal.nD,
      r.2.mem ((c.tc : Thread Cert.RsumIdeal.nD Cert.RsumIdeal.τ).loc Cert.RsumIdeal.main_arg0) = m ((c.tc : Thread Cert.RsumIdeal.nD Cert.RsumIdeal.τ).loc Cert.RsumIdeal.main_arg0)
      ∧ r.2.mem ((c.tc : Thread Cert.RsumIdeal.nD Cert.RsumIdeal.τ).loc Cert.RsumIdeal.main_arg1) = m ((c.tc : Thread Cert.RsumIdeal.nD Cert.RsumIdeal.τ).loc Cert.RsumIdeal.main_arg1)
      ∧ r.2.mem ((c.tc : Thread Cert.RsumIdeal.nD Cert.RsumIdeal.τ).loc Cert.RsumIdeal.main_arg2) = m ((c.tc : Thread Cert.RsumIdeal.nD Cert.RsumIdeal.τ).loc Cert.RsumIdeal.main_arg2))
      ∧ r.2.sem = fun _ => 0)

def quiescent_RsumRefIdeal [hRsumRefIdeal : Cert.RsumRefIdeal.Facts] : Prop :=
  ∀ (m : (ℓ : Loc Cert.RsumRefIdeal.nD Cert.RsumRefIdeal.τ Cert.RsumRefIdeal.sig) → Buf (Elt Ideal) ℓ) (g : Dev Cert.RsumRefIdeal.nD → PrngReg), Pre_RsumRefIdeal m →
    θ_run (Cert.RsumRefIdeal.defs (F := Ideal)) (onTc (τ := Cert.RsumRefIdeal.τ) (Cert.RsumRefIdeal.main (F := Ideal))) ⟨m, fun _ => 0, g⟩ (fun r => (∀ c : Dev Cert.RsumRefIdeal.nD,
      r.2.mem ((c.tc : Thread Cert.RsumRefIdeal.nD Cert.RsumRefIdeal.τ).loc Cert.RsumRefIdeal.main_arg0) = m ((c.tc : Thread Cert.RsumRefIdeal.nD Cert.RsumRefIdeal.τ).loc Cert.RsumRefIdeal.main_arg0)
      ∧ r.2.mem ((c.tc : Thread Cert.RsumRefIdeal.nD Cert.RsumRefIdeal.τ).loc Cert.RsumRefIdeal.main_arg1) = m ((c.tc : Thread Cert.RsumRefIdeal.nD Cert.RsumRefIdeal.τ).loc Cert.RsumRefIdeal.main_arg1)
      ∧ r.2.mem ((c.tc : Thread Cert.RsumRefIdeal.nD Cert.RsumRefIdeal.τ).loc Cert.RsumRefIdeal.main_arg2) = m ((c.tc : Thread Cert.RsumRefIdeal.nD Cert.RsumRefIdeal.τ).loc Cert.RsumRefIdeal.main_arg2))
      ∧ r.2.sem = fun _ => 0)

def preserves_Attn_AttnIdeal : Prop :=
  IdealRules.named_const.Statement Cert.AttnIdeal.κ "scale_log2e" .f32 0x3E0293EE#32 (((11863283 / 134217728) * (Real.log 2)⁻¹ : ℝ) : EReal)

def algebraic_AttnIdeal_AttnRefIdeal_pre_finite_qk [hAttnIdeal : Cert.AttnIdeal.Facts] [hAttnRefIdeal : Cert.AttnRefIdeal.Facts] [hPre_finite_qk : Cert.Pre_finite_qk.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_qk m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v0_0)) (v1 : (c : Dev Cert.AttnIdeal.nD) → Buf (Elt Ideal) ((c.tc : Thread Cert.AttnIdeal.nD Cert.AttnIdeal.τ).loc Cert.AttnIdeal.main_v0_1)) (v2 : (c : Dev Cert.AttnIdeal.nD) → Buf (Elt Ideal) ((c.tc : Thread Cert.AttnIdeal.nD Cert.AttnIdeal.τ).loc Cert.AttnIdeal.main_v0_2)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0_0) = v0 c
          ∧ r.2.mem ((c.tc : Thread Cert.AttnIdeal.nD Cert.AttnIdeal.τ).loc Cert.AttnIdeal.main_v0_1) = v1 c
          ∧ r.2.mem ((c.tc : Thread Cert.AttnIdeal.nD Cert.AttnIdeal.τ).loc Cert.AttnIdeal.main_v0_2) = v2 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v67) = v0 c
          ∧ r.2.mem ((c.tc : Thread Cert.AttnRefIdeal.nD Cert.AttnRefIdeal.τ).loc Cert.AttnRefIdeal.main_v68) = v1 c
          ∧ r.2.mem ((c.tc : Thread Cert.AttnRefIdeal.nD Cert.AttnRefIdeal.τ).loc Cert.AttnRefIdeal.main_v69) = v2 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_Ffn_FfnIdeal : Prop :=
  True

def algebraic_FfnIdeal_FfnRefIdeal_pre_finite_ffn [hFfnIdeal : Cert.FfnIdeal.Facts] [hFfnRefIdeal : Cert.FfnRefIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_finite_ffn m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v0_0)) (v1 : (c : Dev Cert.FfnIdeal.nD) → Buf (Elt Ideal) ((c.tc : Thread Cert.FfnIdeal.nD Cert.FfnIdeal.τ).loc Cert.FfnIdeal.main_v0_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0_0) = v0 c
          ∧ r.2.mem ((c.tc : Thread Cert.FfnIdeal.nD Cert.FfnIdeal.τ).loc Cert.FfnIdeal.main_v0_1) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v11) = v0 c
          ∧ r.2.mem ((c.tc : Thread Cert.FfnRefIdeal.nD Cert.FfnRefIdeal.τ).loc Cert.FfnRefIdeal.main_v12) = v1 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3))

def preserves_Wff_WffIdeal : Prop :=
  True

def algebraic_WffIdeal_WffRefIdeal [hWffIdeal : Cert.WffIdeal.Facts] [hWffRefIdeal : Cert.WffRefIdeal.Facts] : Prop :=
  ∀ (m : (ℓ : Loc Cert.WffIdeal.nD Cert.WffIdeal.τ Cert.WffIdeal.sig) → Buf (Elt Ideal) ℓ) (g : Dev Cert.WffIdeal.nD → PrngReg)
    (m' : (ℓ : Loc Cert.WffRefIdeal.nD Cert.WffRefIdeal.τ Cert.WffRefIdeal.sig) → Buf (Elt Ideal) ℓ) (g' : Dev Cert.WffRefIdeal.nD → PrngReg), Pre_WffIdeal m →
    (∀ c : Dev Cert.WffIdeal.nD,
      m' ((c.tc : Thread Cert.WffRefIdeal.nD Cert.WffRefIdeal.τ).loc Cert.WffRefIdeal.main_arg0) = m ((c.tc : Thread Cert.WffIdeal.nD Cert.WffIdeal.τ).loc Cert.WffIdeal.main_arg0)
      ∧ m' ((c.tc : Thread Cert.WffRefIdeal.nD Cert.WffRefIdeal.τ).loc Cert.WffRefIdeal.main_arg1) = m ((c.tc : Thread Cert.WffIdeal.nD Cert.WffIdeal.τ).loc Cert.WffIdeal.main_arg1)) →
    ∃ (v0 : (c : Dev Cert.WffIdeal.nD) → Buf (Elt Ideal) ((c.tc : Thread Cert.WffIdeal.nD Cert.WffIdeal.τ).loc Cert.WffIdeal.main_v0)),
      θ_run (Cert.WffIdeal.defs (F := Ideal)) (onTc (τ := Cert.WffIdeal.τ) (Cert.WffIdeal.main (F := Ideal))) ⟨m, fun _ => 0, g⟩ (fun r => ∀ c : Dev Cert.WffIdeal.nD,
          r.2.mem ((c.tc : Thread Cert.WffIdeal.nD Cert.WffIdeal.τ).loc Cert.WffIdeal.main_v0) = v0 c
          ∧ r.2.mem ((c.tc : Thread Cert.WffIdeal.nD Cert.WffIdeal.τ).loc Cert.WffIdeal.main_arg0) = m ((c.tc : Thread Cert.WffIdeal.nD Cert.WffIdeal.τ).loc Cert.WffIdeal.main_arg0)
          ∧ r.2.mem ((c.tc : Thread Cert.WffIdeal.nD Cert.WffIdeal.τ).loc Cert.WffIdeal.main_arg1) = m ((c.tc : Thread Cert.WffIdeal.nD Cert.WffIdeal.τ).loc Cert.WffIdeal.main_arg1))
      ∧ θ_run (Cert.WffRefIdeal.defs (F := Ideal)) (onTc (τ := Cert.WffRefIdeal.τ) (Cert.WffRefIdeal.main (F := Ideal))) ⟨m', fun _ => 0, g'⟩ (fun r => ∀ c : Dev Cert.WffRefIdeal.nD,
          r.2.mem ((c.tc : Thread Cert.WffRefIdeal.nD Cert.WffRefIdeal.τ).loc Cert.WffRefIdeal.main_v6) = v0 c
          ∧ r.2.mem ((c.tc : Thread Cert.WffRefIdeal.nD Cert.WffRefIdeal.τ).loc Cert.WffRefIdeal.main_arg0) = m' ((c.tc : Thread Cert.WffRefIdeal.nD Cert.WffRefIdeal.τ).loc Cert.WffRefIdeal.main_arg0)
          ∧ r.2.mem ((c.tc : Thread Cert.WffRefIdeal.nD Cert.WffRefIdeal.τ).loc Cert.WffRefIdeal.main_arg1) = m' ((c.tc : Thread Cert.WffRefIdeal.nD Cert.WffRefIdeal.τ).loc Cert.WffRefIdeal.main_arg1))

def preserves_Hf_HfIdeal : Prop :=
  True

def algebraic_HfIdeal_HfRefIdeal [hHfIdeal : Cert.HfIdeal.Facts] [hHfRefIdeal : Cert.HfRefIdeal.Facts] : Prop :=
  ∀ (m : (ℓ : Loc Cert.HfIdeal.nD Cert.HfIdeal.τ Cert.HfIdeal.sig) → Buf (Elt Ideal) ℓ) (g : Dev Cert.HfIdeal.nD → PrngReg)
    (m' : (ℓ : Loc Cert.HfRefIdeal.nD Cert.HfRefIdeal.τ Cert.HfRefIdeal.sig) → Buf (Elt Ideal) ℓ) (g' : Dev Cert.HfRefIdeal.nD → PrngReg), Pre_HfIdeal m →
    (∀ c : Dev Cert.HfIdeal.nD,
      m' ((c.tc : Thread Cert.HfRefIdeal.nD Cert.HfRefIdeal.τ).loc Cert.HfRefIdeal.main_arg0) = m ((c.tc : Thread Cert.HfIdeal.nD Cert.HfIdeal.τ).loc Cert.HfIdeal.main_arg0)
      ∧ m' ((c.tc : Thread Cert.HfRefIdeal.nD Cert.HfRefIdeal.τ).loc Cert.HfRefIdeal.main_arg1) = m ((c.tc : Thread Cert.HfIdeal.nD Cert.HfIdeal.τ).loc Cert.HfIdeal.main_arg1)
      ∧ m' ((c.tc : Thread Cert.HfRefIdeal.nD Cert.HfRefIdeal.τ).loc Cert.HfRefIdeal.main_arg2) = m ((c.tc : Thread Cert.HfIdeal.nD Cert.HfIdeal.τ).loc Cert.HfIdeal.main_arg2)) →
    ∃ (v0 : (c : Dev Cert.HfIdeal.nD) → Buf (Elt Ideal) ((c.tc : Thread Cert.HfIdeal.nD Cert.HfIdeal.τ).loc Cert.HfIdeal.main_v0)),
      θ_run (Cert.HfIdeal.defs (F := Ideal)) (onTc (τ := Cert.HfIdeal.τ) (Cert.HfIdeal.main (F := Ideal))) ⟨m, fun _ => 0, g⟩ (fun r => ∀ c : Dev Cert.HfIdeal.nD,
          r.2.mem ((c.tc : Thread Cert.HfIdeal.nD Cert.HfIdeal.τ).loc Cert.HfIdeal.main_v0) = v0 c
          ∧ r.2.mem ((c.tc : Thread Cert.HfIdeal.nD Cert.HfIdeal.τ).loc Cert.HfIdeal.main_arg0) = m ((c.tc : Thread Cert.HfIdeal.nD Cert.HfIdeal.τ).loc Cert.HfIdeal.main_arg0)
          ∧ r.2.mem ((c.tc : Thread Cert.HfIdeal.nD Cert.HfIdeal.τ).loc Cert.HfIdeal.main_arg1) = m ((c.tc : Thread Cert.HfIdeal.nD Cert.HfIdeal.τ).loc Cert.HfIdeal.main_arg1)
          ∧ r.2.mem ((c.tc : Thread Cert.HfIdeal.nD Cert.HfIdeal.τ).loc Cert.HfIdeal.main_arg2) = m ((c.tc : Thread Cert.HfIdeal.nD Cert.HfIdeal.τ).loc Cert.HfIdeal.main_arg2))
      ∧ θ_run (Cert.HfRefIdeal.defs (F := Ideal)) (onTc (τ := Cert.HfRefIdeal.τ) (Cert.HfRefIdeal.main (F := Ideal))) ⟨m', fun _ => 0, g'⟩ (fun r => ∀ c : Dev Cert.HfRefIdeal.nD,
          r.2.mem ((c.tc : Thread Cert.HfRefIdeal.nD Cert.HfRefIdeal.τ).loc Cert.HfRefIdeal.main_v6) = v0 c
          ∧ r.2.mem ((c.tc : Thread Cert.HfRefIdeal.nD Cert.HfRefIdeal.τ).loc Cert.HfRefIdeal.main_arg0) = m' ((c.tc : Thread Cert.HfRefIdeal.nD Cert.HfRefIdeal.τ).loc Cert.HfRefIdeal.main_arg0)
          ∧ r.2.mem ((c.tc : Thread Cert.HfRefIdeal.nD Cert.HfRefIdeal.τ).loc Cert.HfRefIdeal.main_arg1) = m' ((c.tc : Thread Cert.HfRefIdeal.nD Cert.HfRefIdeal.τ).loc Cert.HfRefIdeal.main_arg1)
          ∧ r.2.mem ((c.tc : Thread Cert.HfRefIdeal.nD Cert.HfRefIdeal.τ).loc Cert.HfRefIdeal.main_arg2) = m' ((c.tc : Thread Cert.HfRefIdeal.nD Cert.HfRefIdeal.τ).loc Cert.HfRefIdeal.main_arg2))

def preserves_Hg_HgIdeal : Prop :=
  True

def algebraic_HgIdeal_HgRefIdeal [hHgIdeal : Cert.HgIdeal.Facts] [hHgRefIdeal : Cert.HgRefIdeal.Facts] : Prop :=
  ∀ (m : (ℓ : Loc Cert.HgIdeal.nD Cert.HgIdeal.τ Cert.HgIdeal.sig) → Buf (Elt Ideal) ℓ) (g : Dev Cert.HgIdeal.nD → PrngReg)
    (m' : (ℓ : Loc Cert.HgRefIdeal.nD Cert.HgRefIdeal.τ Cert.HgRefIdeal.sig) → Buf (Elt Ideal) ℓ) (g' : Dev Cert.HgRefIdeal.nD → PrngReg), Pre_HgIdeal m →
    (∀ c : Dev Cert.HgIdeal.nD,
      m' ((c.tc : Thread Cert.HgRefIdeal.nD Cert.HgRefIdeal.τ).loc Cert.HgRefIdeal.main_arg0) = m ((c.tc : Thread Cert.HgIdeal.nD Cert.HgIdeal.τ).loc Cert.HgIdeal.main_arg0)
      ∧ m' ((c.tc : Thread Cert.HgRefIdeal.nD Cert.HgRefIdeal.τ).loc Cert.HgRefIdeal.main_arg1) = m ((c.tc : Thread Cert.HgIdeal.nD Cert.HgIdeal.τ).loc Cert.HgIdeal.main_arg1)) →
    ∃ (v0 : (c : Dev Cert.HgIdeal.nD) → Buf (Elt Ideal) ((c.tc : Thread Cert.HgIdeal.nD Cert.HgIdeal.τ).loc Cert.HgIdeal.main_v0)),
      θ_run (Cert.HgIdeal.defs (F := Ideal)) (onTc (τ := Cert.HgIdeal.τ) (Cert.HgIdeal.main (F := Ideal))) ⟨m, fun _ => 0, g⟩ (fun r => ∀ c : Dev Cert.HgIdeal.nD,
          r.2.mem ((c.tc : Thread Cert.HgIdeal.nD Cert.HgIdeal.τ).loc Cert.HgIdeal.main_v0) = v0 c
          ∧ r.2.mem ((c.tc : Thread Cert.HgIdeal.nD Cert.HgIdeal.τ).loc Cert.HgIdeal.main_arg0) = m ((c.tc : Thread Cert.HgIdeal.nD Cert.HgIdeal.τ).loc Cert.HgIdeal.main_arg0)
          ∧ r.2.mem ((c.tc : Thread Cert.HgIdeal.nD Cert.HgIdeal.τ).loc Cert.HgIdeal.main_arg1) = m ((c.tc : Thread Cert.HgIdeal.nD Cert.HgIdeal.τ).loc Cert.HgIdeal.main_arg1))
      ∧ θ_run (Cert.HgRefIdeal.defs (F := Ideal)) (onTc (τ := Cert.HgRefIdeal.τ) (Cert.HgRefIdeal.main (F := Ideal))) ⟨m', fun _ => 0, g'⟩ (fun r => ∀ c : Dev Cert.HgRefIdeal.nD,
          r.2.mem ((c.tc : Thread Cert.HgRefIdeal.nD Cert.HgRefIdeal.τ).loc Cert.HgRefIdeal.main_v5) = v0 c
          ∧ r.2.mem ((c.tc : Thread Cert.HgRefIdeal.nD Cert.HgRefIdeal.τ).loc Cert.HgRefIdeal.main_arg0) = m' ((c.tc : Thread Cert.HgRefIdeal.nD Cert.HgRefIdeal.τ).loc Cert.HgRefIdeal.main_arg0)
          ∧ r.2.mem ((c.tc : Thread Cert.HgRefIdeal.nD Cert.HgRefIdeal.τ).loc Cert.HgRefIdeal.main_arg1) = m' ((c.tc : Thread Cert.HgRefIdeal.nD Cert.HgRefIdeal.τ).loc Cert.HgRefIdeal.main_arg1))

def preserves_Win_WinIdeal : Prop :=
  True

def algebraic_WinIdeal_WinRefIdeal [hWinIdeal : Cert.WinIdeal.Facts] [hWinRefIdeal : Cert.WinRefIdeal.Facts] : Prop :=
  ∀ (m : (ℓ : Loc Cert.WinIdeal.nD Cert.WinIdeal.τ Cert.WinIdeal.sig) → Buf (Elt Ideal) ℓ) (g : Dev Cert.WinIdeal.nD → PrngReg)
    (m' : (ℓ : Loc Cert.WinRefIdeal.nD Cert.WinRefIdeal.τ Cert.WinRefIdeal.sig) → Buf (Elt Ideal) ℓ) (g' : Dev Cert.WinRefIdeal.nD → PrngReg), Pre_WinIdeal m →
    (∀ c : Dev Cert.WinIdeal.nD,
      m' ((c.tc : Thread Cert.WinRefIdeal.nD Cert.WinRefIdeal.τ).loc Cert.WinRefIdeal.main_arg0) = m ((c.tc : Thread Cert.WinIdeal.nD Cert.WinIdeal.τ).loc Cert.WinIdeal.main_arg0)
      ∧ m' ((c.tc : Thread Cert.WinRefIdeal.nD Cert.WinRefIdeal.τ).loc Cert.WinRefIdeal.main_arg1) = m ((c.tc : Thread Cert.WinIdeal.nD Cert.WinIdeal.τ).loc Cert.WinIdeal.main_arg1)) →
    ∃ (v0 : (c : Dev Cert.WinIdeal.nD) → Buf (Elt Ideal) ((c.tc : Thread Cert.WinIdeal.nD Cert.WinIdeal.τ).loc Cert.WinIdeal.main_v0)),
      θ_run (Cert.WinIdeal.defs (F := Ideal)) (onTc (τ := Cert.WinIdeal.τ) (Cert.WinIdeal.main (F := Ideal))) ⟨m, fun _ => 0, g⟩ (fun r => ∀ c : Dev Cert.WinIdeal.nD,
          r.2.mem ((c.tc : Thread Cert.WinIdeal.nD Cert.WinIdeal.τ).loc Cert.WinIdeal.main_v0) = v0 c
          ∧ r.2.mem ((c.tc : Thread Cert.WinIdeal.nD Cert.WinIdeal.τ).loc Cert.WinIdeal.main_arg0) = m ((c.tc : Thread Cert.WinIdeal.nD Cert.WinIdeal.τ).loc Cert.WinIdeal.main_arg0)
          ∧ r.2.mem ((c.tc : Thread Cert.WinIdeal.nD Cert.WinIdeal.τ).loc Cert.WinIdeal.main_arg1) = m ((c.tc : Thread Cert.WinIdeal.nD Cert.WinIdeal.τ).loc Cert.WinIdeal.main_arg1))
      ∧ θ_run (Cert.WinRefIdeal.defs (F := Ideal)) (onTc (τ := Cert.WinRefIdeal.τ) (Cert.WinRefIdeal.main (F := Ideal))) ⟨m', fun _ => 0, g'⟩ (fun r => ∀ c : Dev Cert.WinRefIdeal.nD,
          r.2.mem ((c.tc : Thread Cert.WinRefIdeal.nD Cert.WinRefIdeal.τ).loc Cert.WinRefIdeal.main_v7) = v0 c
          ∧ r.2.mem ((c.tc : Thread Cert.WinRefIdeal.nD Cert.WinRefIdeal.τ).loc Cert.WinRefIdeal.main_arg0) = m' ((c.tc : Thread Cert.WinRefIdeal.nD Cert.WinRefIdeal.τ).loc Cert.WinRefIdeal.main_arg0)
          ∧ r.2.mem ((c.tc : Thread Cert.WinRefIdeal.nD Cert.WinRefIdeal.τ).loc Cert.WinRefIdeal.main_arg1) = m' ((c.tc : Thread Cert.WinRefIdeal.nD Cert.WinRefIdeal.τ).loc Cert.WinRefIdeal.main_arg1))

def preserves_Dh_DhIdeal : Prop :=
  True

def algebraic_DhIdeal_DhRefIdeal [hDhIdeal : Cert.DhIdeal.Facts] [hDhRefIdeal : Cert.DhRefIdeal.Facts] : Prop :=
  ∀ (m : (ℓ : Loc Cert.DhIdeal.nD Cert.DhIdeal.τ Cert.DhIdeal.sig) → Buf (Elt Ideal) ℓ) (g : Dev Cert.DhIdeal.nD → PrngReg)
    (m' : (ℓ : Loc Cert.DhRefIdeal.nD Cert.DhRefIdeal.τ Cert.DhRefIdeal.sig) → Buf (Elt Ideal) ℓ) (g' : Dev Cert.DhRefIdeal.nD → PrngReg), Pre_DhIdeal m →
    (∀ c : Dev Cert.DhIdeal.nD,
      m' ((c.tc : Thread Cert.DhRefIdeal.nD Cert.DhRefIdeal.τ).loc Cert.DhRefIdeal.main_arg0) = m ((c.tc : Thread Cert.DhIdeal.nD Cert.DhIdeal.τ).loc Cert.DhIdeal.main_arg0)
      ∧ m' ((c.tc : Thread Cert.DhRefIdeal.nD Cert.DhRefIdeal.τ).loc Cert.DhRefIdeal.main_arg1) = m ((c.tc : Thread Cert.DhIdeal.nD Cert.DhIdeal.τ).loc Cert.DhIdeal.main_arg1)) →
    ∃ (v0 : (c : Dev Cert.DhIdeal.nD) → Buf (Elt Ideal) ((c.tc : Thread Cert.DhIdeal.nD Cert.DhIdeal.τ).loc Cert.DhIdeal.main_v0)),
      θ_run (Cert.DhIdeal.defs (F := Ideal)) (onTc (τ := Cert.DhIdeal.τ) (Cert.DhIdeal.main (F := Ideal))) ⟨m, fun _ => 0, g⟩ (fun r => ∀ c : Dev Cert.DhIdeal.nD,
          r.2.mem ((c.tc : Thread Cert.DhIdeal.nD Cert.DhIdeal.τ).loc Cert.DhIdeal.main_v0) = v0 c
          ∧ r.2.mem ((c.tc : Thread Cert.DhIdeal.nD Cert.DhIdeal.τ).loc Cert.DhIdeal.main_arg0) = m ((c.tc : Thread Cert.DhIdeal.nD Cert.DhIdeal.τ).loc Cert.DhIdeal.main_arg0)
          ∧ r.2.mem ((c.tc : Thread Cert.DhIdeal.nD Cert.DhIdeal.τ).loc Cert.DhIdeal.main_arg1) = m ((c.tc : Thread Cert.DhIdeal.nD Cert.DhIdeal.τ).loc Cert.DhIdeal.main_arg1))
      ∧ θ_run (Cert.DhRefIdeal.defs (F := Ideal)) (onTc (τ := Cert.DhRefIdeal.τ) (Cert.DhRefIdeal.main (F := Ideal))) ⟨m', fun _ => 0, g'⟩ (fun r => ∀ c : Dev Cert.DhRefIdeal.nD,
          r.2.mem ((c.tc : Thread Cert.DhRefIdeal.nD Cert.DhRefIdeal.τ).loc Cert.DhRefIdeal.main_v5) = v0 c
          ∧ r.2.mem ((c.tc : Thread Cert.DhRefIdeal.nD Cert.DhRefIdeal.τ).loc Cert.DhRefIdeal.main_arg0) = m' ((c.tc : Thread Cert.DhRefIdeal.nD Cert.DhRefIdeal.τ).loc Cert.DhRefIdeal.main_arg0)
          ∧ r.2.mem ((c.tc : Thread Cert.DhRefIdeal.nD Cert.DhRefIdeal.τ).loc Cert.DhRefIdeal.main_arg1) = m' ((c.tc : Thread Cert.DhRefIdeal.nD Cert.DhRefIdeal.τ).loc Cert.DhRefIdeal.main_arg1))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)) →
    ∃ (v0 : (c : Dev Cert.UpIdeal.nD) → Buf (Elt Ideal) ((c.tc : Thread Cert.UpIdeal.nD Cert.UpIdeal.τ).loc Cert.UpIdeal.main_v0_0)) (v1 : (c : Dev Cert.UpIdeal.nD) → Buf (Elt Ideal) ((c.tc : Thread Cert.UpIdeal.nD Cert.UpIdeal.τ).loc Cert.UpIdeal.main_v0_1)) (v2 : (c : Dev Cert.UpIdeal.nD) → Buf (Elt Ideal) ((c.tc : Thread Cert.UpIdeal.nD Cert.UpIdeal.τ).loc Cert.UpIdeal.main_v0_2)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0_0) = v0 c
          ∧ r.2.mem ((c.tc : Thread Cert.UpIdeal.nD Cert.UpIdeal.τ).loc Cert.UpIdeal.main_v0_1) = v1 c
          ∧ r.2.mem ((c.tc : Thread Cert.UpIdeal.nD Cert.UpIdeal.τ).loc Cert.UpIdeal.main_v0_2) = v2 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v8) = v0 c
          ∧ r.2.mem ((c.tc : Thread Cert.UpRefIdeal.nD Cert.UpRefIdeal.τ).loc Cert.UpRefIdeal.main_v9) = v1 c
          ∧ r.2.mem ((c.tc : Thread Cert.UpRefIdeal.nD Cert.UpRefIdeal.τ).loc Cert.UpRefIdeal.main_v12) = v2 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)) →
    ∃ (v0 : (c : Dev Cert.MergeIdeal.nD) → Buf (Elt Ideal) ((c.tc : Thread Cert.MergeIdeal.nD Cert.MergeIdeal.τ).loc Cert.MergeIdeal.main_v0_0)) (v1 : (c : Dev Cert.MergeIdeal.nD) → Buf (Elt Ideal) ((c.tc : Thread Cert.MergeIdeal.nD Cert.MergeIdeal.τ).loc Cert.MergeIdeal.main_v0_1)) (v2 : (c : Dev Cert.MergeIdeal.nD) → Buf (Elt Ideal) ((c.tc : Thread Cert.MergeIdeal.nD Cert.MergeIdeal.τ).loc Cert.MergeIdeal.main_v0_2)) (v3 : (c : Dev Cert.MergeIdeal.nD) → Buf (Elt Ideal) ((c.tc : Thread Cert.MergeIdeal.nD Cert.MergeIdeal.τ).loc Cert.MergeIdeal.main_v0_3)) (v4 : (c : Dev Cert.MergeIdeal.nD) → Buf (Elt Ideal) ((c.tc : Thread Cert.MergeIdeal.nD Cert.MergeIdeal.τ).loc Cert.MergeIdeal.main_v0_4)) (v5 : (c : Dev Cert.MergeIdeal.nD) → Buf (Elt Ideal) ((c.tc : Thread Cert.MergeIdeal.nD Cert.MergeIdeal.τ).loc Cert.MergeIdeal.main_v0_5)) (v6 : (c : Dev Cert.MergeIdeal.nD) → Buf (Elt Ideal) ((c.tc : Thread Cert.MergeIdeal.nD Cert.MergeIdeal.τ).loc Cert.MergeIdeal.main_v0_6)) (v7 : (c : Dev Cert.MergeIdeal.nD) → Buf (Elt Ideal) ((c.tc : Thread Cert.MergeIdeal.nD Cert.MergeIdeal.τ).loc Cert.MergeIdeal.main_v0_7)) (v8 : (c : Dev Cert.MergeIdeal.nD) → Buf (Elt Ideal) ((c.tc : Thread Cert.MergeIdeal.nD Cert.MergeIdeal.τ).loc Cert.MergeIdeal.main_v0_8)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0_0) = v0 c
          ∧ r.2.mem ((c.tc : Thread Cert.MergeIdeal.nD Cert.MergeIdeal.τ).loc Cert.MergeIdeal.main_v0_1) = v1 c
          ∧ r.2.mem ((c.tc : Thread Cert.MergeIdeal.nD Cert.MergeIdeal.τ).loc Cert.MergeIdeal.main_v0_2) = v2 c
          ∧ r.2.mem ((c.tc : Thread Cert.MergeIdeal.nD Cert.MergeIdeal.τ).loc Cert.MergeIdeal.main_v0_3) = v3 c
          ∧ r.2.mem ((c.tc : Thread Cert.MergeIdeal.nD Cert.MergeIdeal.τ).loc Cert.MergeIdeal.main_v0_4) = v4 c
          ∧ r.2.mem ((c.tc : Thread Cert.MergeIdeal.nD Cert.MergeIdeal.τ).loc Cert.MergeIdeal.main_v0_5) = v5 c
          ∧ r.2.mem ((c.tc : Thread Cert.MergeIdeal.nD Cert.MergeIdeal.τ).loc Cert.MergeIdeal.main_v0_6) = v6 c
          ∧ r.2.mem ((c.tc : Thread Cert.MergeIdeal.nD Cert.MergeIdeal.τ).loc Cert.MergeIdeal.main_v0_7) = v7 c
          ∧ r.2.mem ((c.tc : Thread Cert.MergeIdeal.nD Cert.MergeIdeal.τ).loc Cert.MergeIdeal.main_v0_8) = v8 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v53) = v0 c
          ∧ r.2.mem ((c.tc : Thread Cert.MergeRefIdeal.nD Cert.MergeRefIdeal.τ).loc Cert.MergeRefIdeal.main_v56) = v1 c
          ∧ r.2.mem ((c.tc : Thread Cert.MergeRefIdeal.nD Cert.MergeRefIdeal.τ).loc Cert.MergeRefIdeal.main_v59) = v2 c
          ∧ r.2.mem ((c.tc : Thread Cert.MergeRefIdeal.nD Cert.MergeRefIdeal.τ).loc Cert.MergeRefIdeal.main_v60) = v3 c
          ∧ r.2.mem ((c.tc : Thread Cert.MergeRefIdeal.nD Cert.MergeRefIdeal.τ).loc Cert.MergeRefIdeal.main_v61) = v4 c
          ∧ r.2.mem ((c.tc : Thread Cert.MergeRefIdeal.nD Cert.MergeRefIdeal.τ).loc Cert.MergeRefIdeal.main_v62) = v5 c
          ∧ r.2.mem ((c.tc : Thread Cert.MergeRefIdeal.nD Cert.MergeRefIdeal.τ).loc Cert.MergeRefIdeal.main_v64) = v6 c
          ∧ r.2.mem ((c.tc : Thread Cert.MergeRefIdeal.nD Cert.MergeRefIdeal.τ).loc Cert.MergeRefIdeal.main_v66) = v7 c
          ∧ r.2.mem ((c.tc : Thread Cert.MergeRefIdeal.nD Cert.MergeRefIdeal.τ).loc Cert.MergeRefIdeal.main_v68) = v8 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6))

def preserves_Do_DoIdeal : Prop :=
  True

def algebraic_DoIdeal_DoRefIdeal [hDoIdeal : Cert.DoIdeal.Facts] [hDoRefIdeal : Cert.DoRefIdeal.Facts] : Prop :=
  ∀ (m : (ℓ : Loc Cert.DoIdeal.nD Cert.DoIdeal.τ Cert.DoIdeal.sig) → Buf (Elt Ideal) ℓ) (g : Dev Cert.DoIdeal.nD → PrngReg)
    (m' : (ℓ : Loc Cert.DoRefIdeal.nD Cert.DoRefIdeal.τ Cert.DoRefIdeal.sig) → Buf (Elt Ideal) ℓ) (g' : Dev Cert.DoRefIdeal.nD → PrngReg), Pre_DoIdeal m →
    (∀ c : Dev Cert.DoIdeal.nD,
      m' ((c.tc : Thread Cert.DoRefIdeal.nD Cert.DoRefIdeal.τ).loc Cert.DoRefIdeal.main_arg0) = m ((c.tc : Thread Cert.DoIdeal.nD Cert.DoIdeal.τ).loc Cert.DoIdeal.main_arg0)
      ∧ m' ((c.tc : Thread Cert.DoRefIdeal.nD Cert.DoRefIdeal.τ).loc Cert.DoRefIdeal.main_arg1) = m ((c.tc : Thread Cert.DoIdeal.nD Cert.DoIdeal.τ).loc Cert.DoIdeal.main_arg1)) →
    ∃ (v0 : (c : Dev Cert.DoIdeal.nD) → Buf (Elt Ideal) ((c.tc : Thread Cert.DoIdeal.nD Cert.DoIdeal.τ).loc Cert.DoIdeal.main_v0)),
      θ_run (Cert.DoIdeal.defs (F := Ideal)) (onTc (τ := Cert.DoIdeal.τ) (Cert.DoIdeal.main (F := Ideal))) ⟨m, fun _ => 0, g⟩ (fun r => ∀ c : Dev Cert.DoIdeal.nD,
          r.2.mem ((c.tc : Thread Cert.DoIdeal.nD Cert.DoIdeal.τ).loc Cert.DoIdeal.main_v0) = v0 c
          ∧ r.2.mem ((c.tc : Thread Cert.DoIdeal.nD Cert.DoIdeal.τ).loc Cert.DoIdeal.main_arg0) = m ((c.tc : Thread Cert.DoIdeal.nD Cert.DoIdeal.τ).loc Cert.DoIdeal.main_arg0)
          ∧ r.2.mem ((c.tc : Thread Cert.DoIdeal.nD Cert.DoIdeal.τ).loc Cert.DoIdeal.main_arg1) = m ((c.tc : Thread Cert.DoIdeal.nD Cert.DoIdeal.τ).loc Cert.DoIdeal.main_arg1))
      ∧ θ_run (Cert.DoRefIdeal.defs (F := Ideal)) (onTc (τ := Cert.DoRefIdeal.τ) (Cert.DoRefIdeal.main (F := Ideal))) ⟨m', fun _ => 0, g'⟩ (fun r => ∀ c : Dev Cert.DoRefIdeal.nD,
          r.2.mem ((c.tc : Thread Cert.DoRefIdeal.nD Cert.DoRefIdeal.τ).loc Cert.DoRefIdeal.main_v6) = v0 c
          ∧ r.2.mem ((c.tc : Thread Cert.DoRefIdeal.nD Cert.DoRefIdeal.τ).loc Cert.DoRefIdeal.main_arg0) = m' ((c.tc : Thread Cert.DoRefIdeal.nD Cert.DoRefIdeal.τ).loc Cert.DoRefIdeal.main_arg0)
          ∧ r.2.mem ((c.tc : Thread Cert.DoRefIdeal.nD Cert.DoRefIdeal.τ).loc Cert.DoRefIdeal.main_arg1) = m' ((c.tc : Thread Cert.DoRefIdeal.nD Cert.DoRefIdeal.τ).loc Cert.DoRefIdeal.main_arg1))

def preserves_Wo_WoIdeal : Prop :=
  True

def algebraic_WoIdeal_WoRefIdeal [hWoIdeal : Cert.WoIdeal.Facts] [hWoRefIdeal : Cert.WoRefIdeal.Facts] : Prop :=
  ∀ (m : (ℓ : Loc Cert.WoIdeal.nD Cert.WoIdeal.τ Cert.WoIdeal.sig) → Buf (Elt Ideal) ℓ) (g : Dev Cert.WoIdeal.nD → PrngReg)
    (m' : (ℓ : Loc Cert.WoRefIdeal.nD Cert.WoRefIdeal.τ Cert.WoRefIdeal.sig) → Buf (Elt Ideal) ℓ) (g' : Dev Cert.WoRefIdeal.nD → PrngReg), Pre_WoIdeal m →
    (∀ c : Dev Cert.WoIdeal.nD,
      m' ((c.tc : Thread Cert.WoRefIdeal.nD Cert.WoRefIdeal.τ).loc Cert.WoRefIdeal.main_arg0) = m ((c.tc : Thread Cert.WoIdeal.nD Cert.WoIdeal.τ).loc Cert.WoIdeal.main_arg0)
      ∧ m' ((c.tc : Thread Cert.WoRefIdeal.nD Cert.WoRefIdeal.τ).loc Cert.WoRefIdeal.main_arg1) = m ((c.tc : Thread Cert.WoIdeal.nD Cert.WoIdeal.τ).loc Cert.WoIdeal.main_arg1)) →
    ∃ (v0 : (c : Dev Cert.WoIdeal.nD) → Buf (Elt Ideal) ((c.tc : Thread Cert.WoIdeal.nD Cert.WoIdeal.τ).loc Cert.WoIdeal.main_v0)),
      θ_run (Cert.WoIdeal.defs (F := Ideal)) (onTc (τ := Cert.WoIdeal.τ) (Cert.WoIdeal.main (F := Ideal))) ⟨m, fun _ => 0, g⟩ (fun r => ∀ c : Dev Cert.WoIdeal.nD,
          r.2.mem ((c.tc : Thread Cert.WoIdeal.nD Cert.WoIdeal.τ).loc Cert.WoIdeal.main_v0) = v0 c
          ∧ r.2.mem ((c.tc : Thread Cert.WoIdeal.nD Cert.WoIdeal.τ).loc Cert.WoIdeal.main_arg0) = m ((c.tc : Thread Cert.WoIdeal.nD Cert.WoIdeal.τ).loc Cert.WoIdeal.main_arg0)
          ∧ r.2.mem ((c.tc : Thread Cert.WoIdeal.nD Cert.WoIdeal.τ).loc Cert.WoIdeal.main_arg1) = m ((c.tc : Thread Cert.WoIdeal.nD Cert.WoIdeal.τ).loc Cert.WoIdeal.main_arg1))
      ∧ θ_run (Cert.WoRefIdeal.defs (F := Ideal)) (onTc (τ := Cert.WoRefIdeal.τ) (Cert.WoRefIdeal.main (F := Ideal))) ⟨m', fun _ => 0, g'⟩ (fun r => ∀ c : Dev Cert.WoRefIdeal.nD,
          r.2.mem ((c.tc : Thread Cert.WoRefIdeal.nD Cert.WoRefIdeal.τ).loc Cert.WoRefIdeal.main_v7) = v0 c
          ∧ r.2.mem ((c.tc : Thread Cert.WoRefIdeal.nD Cert.WoRefIdeal.τ).loc Cert.WoRefIdeal.main_arg0) = m' ((c.tc : Thread Cert.WoRefIdeal.nD Cert.WoRefIdeal.τ).loc Cert.WoRefIdeal.main_arg0)
          ∧ r.2.mem ((c.tc : Thread Cert.WoRefIdeal.nD Cert.WoRefIdeal.τ).loc Cert.WoRefIdeal.main_arg1) = m' ((c.tc : Thread Cert.WoRefIdeal.nD Cert.WoRefIdeal.τ).loc Cert.WoRefIdeal.main_arg1))

def preserves_Wout_WoutIdeal : Prop :=
  True

def algebraic_WoutIdeal_WoutRefIdeal [hWoutIdeal : Cert.WoutIdeal.Facts] [hWoutRefIdeal : Cert.WoutRefIdeal.Facts] : Prop :=
  ∀ (m : (ℓ : Loc Cert.WoutIdeal.nD Cert.WoutIdeal.τ Cert.WoutIdeal.sig) → Buf (Elt Ideal) ℓ) (g : Dev Cert.WoutIdeal.nD → PrngReg)
    (m' : (ℓ : Loc Cert.WoutRefIdeal.nD Cert.WoutRefIdeal.τ Cert.WoutRefIdeal.sig) → Buf (Elt Ideal) ℓ) (g' : Dev Cert.WoutRefIdeal.nD → PrngReg), Pre_WoutIdeal m →
    (∀ c : Dev Cert.WoutIdeal.nD,
      m' ((c.tc : Thread Cert.WoutRefIdeal.nD Cert.WoutRefIdeal.τ).loc Cert.WoutRefIdeal.main_arg0) = m ((c.tc : Thread Cert.WoutIdeal.nD Cert.WoutIdeal.τ).loc Cert.WoutIdeal.main_arg0)
      ∧ m' ((c.tc : Thread Cert.WoutRefIdeal.nD Cert.WoutRefIdeal.τ).loc Cert.WoutRefIdeal.main_arg1) = m ((c.tc : Thread Cert.WoutIdeal.nD Cert.WoutIdeal.τ).loc Cert.WoutIdeal.main_arg1)) →
    ∃ (v0 : (c : Dev Cert.WoutIdeal.nD) → Buf (Elt Ideal) ((c.tc : Thread Cert.WoutIdeal.nD Cert.WoutIdeal.τ).loc Cert.WoutIdeal.main_v0)),
      θ_run (Cert.WoutIdeal.defs (F := Ideal)) (onTc (τ := Cert.WoutIdeal.τ) (Cert.WoutIdeal.main (F := Ideal))) ⟨m, fun _ => 0, g⟩ (fun r => ∀ c : Dev Cert.WoutIdeal.nD,
          r.2.mem ((c.tc : Thread Cert.WoutIdeal.nD Cert.WoutIdeal.τ).loc Cert.WoutIdeal.main_v0) = v0 c
          ∧ r.2.mem ((c.tc : Thread Cert.WoutIdeal.nD Cert.WoutIdeal.τ).loc Cert.WoutIdeal.main_arg0) = m ((c.tc : Thread Cert.WoutIdeal.nD Cert.WoutIdeal.τ).loc Cert.WoutIdeal.main_arg0)
          ∧ r.2.mem ((c.tc : Thread Cert.WoutIdeal.nD Cert.WoutIdeal.τ).loc Cert.WoutIdeal.main_arg1) = m ((c.tc : Thread Cert.WoutIdeal.nD Cert.WoutIdeal.τ).loc Cert.WoutIdeal.main_arg1))
      ∧ θ_run (Cert.WoutRefIdeal.defs (F := Ideal)) (onTc (τ := Cert.WoutRefIdeal.τ) (Cert.WoutRefIdeal.main (F := Ideal))) ⟨m', fun _ => 0, g'⟩ (fun r => ∀ c : Dev Cert.WoutRefIdeal.nD,
          r.2.mem ((c.tc : Thread Cert.WoutRefIdeal.nD Cert.WoutRefIdeal.τ).loc Cert.WoutRefIdeal.main_v6) = v0 c
          ∧ r.2.mem ((c.tc : Thread Cert.WoutRefIdeal.nD Cert.WoutRefIdeal.τ).loc Cert.WoutRefIdeal.main_arg0) = m' ((c.tc : Thread Cert.WoutRefIdeal.nD Cert.WoutRefIdeal.τ).loc Cert.WoutRefIdeal.main_arg0)
          ∧ r.2.mem ((c.tc : Thread Cert.WoutRefIdeal.nD Cert.WoutRefIdeal.τ).loc Cert.WoutRefIdeal.main_arg1) = m' ((c.tc : Thread Cert.WoutRefIdeal.nD Cert.WoutRefIdeal.τ).loc Cert.WoutRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v3) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2))

def preserves_Rms_RmsIdeal : Prop :=
  True

def algebraic_RmsIdeal_RmsRefIdeal [hRmsIdeal : Cert.RmsIdeal.Facts] [hRmsRefIdeal : Cert.RmsRefIdeal.Facts] : Prop :=
  ∀ (m : (ℓ : Loc Cert.RmsIdeal.nD Cert.RmsIdeal.τ Cert.RmsIdeal.sig) → Buf (Elt Ideal) ℓ) (g : Dev Cert.RmsIdeal.nD → PrngReg)
    (m' : (ℓ : Loc Cert.RmsRefIdeal.nD Cert.RmsRefIdeal.τ Cert.RmsRefIdeal.sig) → Buf (Elt Ideal) ℓ) (g' : Dev Cert.RmsRefIdeal.nD → PrngReg), Pre_RmsIdeal m →
    (∀ c : Dev Cert.RmsIdeal.nD,
      m' ((c.tc : Thread Cert.RmsRefIdeal.nD Cert.RmsRefIdeal.τ).loc Cert.RmsRefIdeal.main_arg0) = m ((c.tc : Thread Cert.RmsIdeal.nD Cert.RmsIdeal.τ).loc Cert.RmsIdeal.main_arg0)
      ∧ m' ((c.tc : Thread Cert.RmsRefIdeal.nD Cert.RmsRefIdeal.τ).loc Cert.RmsRefIdeal.main_arg1) = m ((c.tc : Thread Cert.RmsIdeal.nD Cert.RmsIdeal.τ).loc Cert.RmsIdeal.main_arg1)
      ∧ m' ((c.tc : Thread Cert.RmsRefIdeal.nD Cert.RmsRefIdeal.τ).loc Cert.RmsRefIdeal.main_arg2) = m ((c.tc : Thread Cert.RmsIdeal.nD Cert.RmsIdeal.τ).loc Cert.RmsIdeal.main_arg2)
      ∧ m' ((c.tc : Thread Cert.RmsRefIdeal.nD Cert.RmsRefIdeal.τ).loc Cert.RmsRefIdeal.main_arg3) = m ((c.tc : Thread Cert.RmsIdeal.nD Cert.RmsIdeal.τ).loc Cert.RmsIdeal.main_arg3)) →
    ∃ (v0 : (c : Dev Cert.RmsIdeal.nD) → Buf (Elt Ideal) ((c.tc : Thread Cert.RmsIdeal.nD Cert.RmsIdeal.τ).loc Cert.RmsIdeal.main_v0_0)) (v1 : (c : Dev Cert.RmsIdeal.nD) → Buf (Elt Ideal) ((c.tc : Thread Cert.RmsIdeal.nD Cert.RmsIdeal.τ).loc Cert.RmsIdeal.main_v0_1)) (v2 : (c : Dev Cert.RmsIdeal.nD) → Buf (Elt Ideal) ((c.tc : Thread Cert.RmsIdeal.nD Cert.RmsIdeal.τ).loc Cert.RmsIdeal.main_v0_2)),
      θ_run (Cert.RmsIdeal.defs (F := Ideal)) (onTc (τ := Cert.RmsIdeal.τ) (Cert.RmsIdeal.main (F := Ideal))) ⟨m, fun _ => 0, g⟩ (fun r => ∀ c : Dev Cert.RmsIdeal.nD,
          r.2.mem ((c.tc : Thread Cert.RmsIdeal.nD Cert.RmsIdeal.τ).loc Cert.RmsIdeal.main_v0_0) = v0 c
          ∧ r.2.mem ((c.tc : Thread Cert.RmsIdeal.nD Cert.RmsIdeal.τ).loc Cert.RmsIdeal.main_v0_1) = v1 c
          ∧ r.2.mem ((c.tc : Thread Cert.RmsIdeal.nD Cert.RmsIdeal.τ).loc Cert.RmsIdeal.main_v0_2) = v2 c
          ∧ r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
          ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1)
          ∧ r.2.mem ((c.tc : Thread Cert.RmsIdeal.nD Cert.RmsIdeal.τ).loc Cert.RmsIdeal.main_arg2) = m ((c.tc : Thread Cert.RmsIdeal.nD Cert.RmsIdeal.τ).loc Cert.RmsIdeal.main_arg2)
          ∧ r.2.mem ((c.tc : Thread Cert.RmsIdeal.nD Cert.RmsIdeal.τ).loc Cert.RmsIdeal.main_arg3) = m ((c.tc : Thread Cert.RmsIdeal.nD Cert.RmsIdeal.τ).loc Cert.RmsIdeal.main_arg3))
      ∧ θ_run (Cert.RmsRefIdeal.defs (F := Ideal)) (onTc (τ := Cert.RmsRefIdeal.τ) (Cert.RmsRefIdeal.main (F := Ideal))) ⟨m', fun _ => 0, g'⟩ (fun r => ∀ c : Dev Cert.RmsRefIdeal.nD,
          r.2.mem ((c.tc : Thread Cert.RmsRefIdeal.nD Cert.RmsRefIdeal.τ).loc Cert.RmsRefIdeal.main_v34) = v0 c
          ∧ r.2.mem ((c.tc : Thread Cert.RmsRefIdeal.nD Cert.RmsRefIdeal.τ).loc Cert.RmsRefIdeal.main_v36) = v1 c
          ∧ r.2.mem ((c.tc : Thread Cert.RmsRefIdeal.nD Cert.RmsRefIdeal.τ).loc Cert.RmsRefIdeal.main_v17) = v2 c
          ∧ r.2.mem ((c.tc : Thread Cert.RmsRefIdeal.nD Cert.RmsRefIdeal.τ).loc Cert.RmsRefIdeal.main_arg0) = m' ((c.tc : Thread Cert.RmsRefIdeal.nD Cert.RmsRefIdeal.τ).loc Cert.RmsRefIdeal.main_arg0)
          ∧ r.2.mem ((c.tc : Thread Cert.RmsRefIdeal.nD Cert.RmsRefIdeal.τ).loc Cert.RmsRefIdeal.main_arg1) = m' ((c.tc : Thread Cert.RmsRefIdeal.nD Cert.RmsRefIdeal.τ).loc Cert.RmsRefIdeal.main_arg1)
          ∧ r.2.mem ((c.tc : Thread Cert.RmsRefIdeal.nD Cert.RmsRefIdeal.τ).loc Cert.RmsRefIdeal.main_arg2) = m' ((c.tc : Thread Cert.RmsRefIdeal.nD Cert.RmsRefIdeal.τ).loc Cert.RmsRefIdeal.main_arg2)
          ∧ r.2.mem ((c.tc : Thread Cert.RmsRefIdeal.nD Cert.RmsRefIdeal.τ).loc Cert.RmsRefIdeal.main_arg3) = m' ((c.tc : Thread Cert.RmsRefIdeal.nD Cert.RmsRefIdeal.τ).loc Cert.RmsRefIdeal.main_arg3))

def preserves_Pq_PqIdeal : Prop :=
  True

def algebraic_PqIdeal_PqRefIdeal [hPqIdeal : Cert.PqIdeal.Facts] [hPqRefIdeal : Cert.PqRefIdeal.Facts] : Prop :=
  ∀ (m : (ℓ : Loc Cert.PqIdeal.nD Cert.PqIdeal.τ Cert.PqIdeal.sig) → Buf (Elt Ideal) ℓ) (g : Dev Cert.PqIdeal.nD → PrngReg)
    (m' : (ℓ : Loc Cert.PqRefIdeal.nD Cert.PqRefIdeal.τ Cert.PqRefIdeal.sig) → Buf (Elt Ideal) ℓ) (g' : Dev Cert.PqRefIdeal.nD → PrngReg), Pre_PqIdeal m →
    (∀ c : Dev Cert.PqIdeal.nD,
      m' ((c.tc : Thread Cert.PqRefIdeal.nD Cert.PqRefIdeal.τ).loc Cert.PqRefIdeal.main_arg0) = m ((c.tc : Thread Cert.PqIdeal.nD Cert.PqIdeal.τ).loc Cert.PqIdeal.main_arg0)
      ∧ m' ((c.tc : Thread Cert.PqRefIdeal.nD Cert.PqRefIdeal.τ).loc Cert.PqRefIdeal.main_arg1) = m ((c.tc : Thread Cert.PqIdeal.nD Cert.PqIdeal.τ).loc Cert.PqIdeal.main_arg1)) →
    ∃ (v0 : (c : Dev Cert.PqIdeal.nD) → Buf (Elt Ideal) ((c.tc : Thread Cert.PqIdeal.nD Cert.PqIdeal.τ).loc Cert.PqIdeal.main_v0)),
      θ_run (Cert.PqIdeal.defs (F := Ideal)) (onTc (τ := Cert.PqIdeal.τ) (Cert.PqIdeal.main (F := Ideal))) ⟨m, fun _ => 0, g⟩ (fun r => ∀ c : Dev Cert.PqIdeal.nD,
          r.2.mem ((c.tc : Thread Cert.PqIdeal.nD Cert.PqIdeal.τ).loc Cert.PqIdeal.main_v0) = v0 c
          ∧ r.2.mem ((c.tc : Thread Cert.PqIdeal.nD Cert.PqIdeal.τ).loc Cert.PqIdeal.main_arg0) = m ((c.tc : Thread Cert.PqIdeal.nD Cert.PqIdeal.τ).loc Cert.PqIdeal.main_arg0)
          ∧ r.2.mem ((c.tc : Thread Cert.PqIdeal.nD Cert.PqIdeal.τ).loc Cert.PqIdeal.main_arg1) = m ((c.tc : Thread Cert.PqIdeal.nD Cert.PqIdeal.τ).loc Cert.PqIdeal.main_arg1))
      ∧ θ_run (Cert.PqRefIdeal.defs (F := Ideal)) (onTc (τ := Cert.PqRefIdeal.τ) (Cert.PqRefIdeal.main (F := Ideal))) ⟨m', fun _ => 0, g'⟩ (fun r => ∀ c : Dev Cert.PqRefIdeal.nD,
          r.2.mem ((c.tc : Thread Cert.PqRefIdeal.nD Cert.PqRefIdeal.τ).loc Cert.PqRefIdeal.main_v5) = v0 c
          ∧ r.2.mem ((c.tc : Thread Cert.PqRefIdeal.nD Cert.PqRefIdeal.τ).loc Cert.PqRefIdeal.main_arg0) = m' ((c.tc : Thread Cert.PqRefIdeal.nD Cert.PqRefIdeal.τ).loc Cert.PqRefIdeal.main_arg0)
          ∧ r.2.mem ((c.tc : Thread Cert.PqRefIdeal.nD Cert.PqRefIdeal.τ).loc Cert.PqRefIdeal.main_arg1) = m' ((c.tc : Thread Cert.PqRefIdeal.nD Cert.PqRefIdeal.τ).loc Cert.PqRefIdeal.main_arg1))

def preserves_Pkv_PkvIdeal : Prop :=
  True

def algebraic_PkvIdeal_PkvRefIdeal [hPkvIdeal : Cert.PkvIdeal.Facts] [hPkvRefIdeal : Cert.PkvRefIdeal.Facts] : Prop :=
  ∀ (m : (ℓ : Loc Cert.PkvIdeal.nD Cert.PkvIdeal.τ Cert.PkvIdeal.sig) → Buf (Elt Ideal) ℓ) (g : Dev Cert.PkvIdeal.nD → PrngReg)
    (m' : (ℓ : Loc Cert.PkvRefIdeal.nD Cert.PkvRefIdeal.τ Cert.PkvRefIdeal.sig) → Buf (Elt Ideal) ℓ) (g' : Dev Cert.PkvRefIdeal.nD → PrngReg), Pre_PkvIdeal m →
    (∀ c : Dev Cert.PkvIdeal.nD,
      m' ((c.tc : Thread Cert.PkvRefIdeal.nD Cert.PkvRefIdeal.τ).loc Cert.PkvRefIdeal.main_arg0) = m ((c.tc : Thread Cert.PkvIdeal.nD Cert.PkvIdeal.τ).loc Cert.PkvIdeal.main_arg0)
      ∧ m' ((c.tc : Thread Cert.PkvRefIdeal.nD Cert.PkvRefIdeal.τ).loc Cert.PkvRefIdeal.main_arg1) = m ((c.tc : Thread Cert.PkvIdeal.nD Cert.PkvIdeal.τ).loc Cert.PkvIdeal.main_arg1)) →
    ∃ (v0 : (c : Dev Cert.PkvIdeal.nD) → Buf (Elt Ideal) ((c.tc : Thread Cert.PkvIdeal.nD Cert.PkvIdeal.τ).loc Cert.PkvIdeal.main_v0)),
      θ_run (Cert.PkvIdeal.defs (F := Ideal)) (onTc (τ := Cert.PkvIdeal.τ) (Cert.PkvIdeal.main (F := Ideal))) ⟨m, fun _ => 0, g⟩ (fun r => ∀ c : Dev Cert.PkvIdeal.nD,
          r.2.mem ((c.tc : Thread Cert.PkvIdeal.nD Cert.PkvIdeal.τ).loc Cert.PkvIdeal.main_v0) = v0 c
          ∧ r.2.mem ((c.tc : Thread Cert.PkvIdeal.nD Cert.PkvIdeal.τ).loc Cert.PkvIdeal.main_arg0) = m ((c.tc : Thread Cert.PkvIdeal.nD Cert.PkvIdeal.τ).loc Cert.PkvIdeal.main_arg0)
          ∧ r.2.mem ((c.tc : Thread Cert.PkvIdeal.nD Cert.PkvIdeal.τ).loc Cert.PkvIdeal.main_arg1) = m ((c.tc : Thread Cert.PkvIdeal.nD Cert.PkvIdeal.τ).loc Cert.PkvIdeal.main_arg1))
      ∧ θ_run (Cert.PkvRefIdeal.defs (F := Ideal)) (onTc (τ := Cert.PkvRefIdeal.τ) (Cert.PkvRefIdeal.main (F := Ideal))) ⟨m', fun _ => 0, g'⟩ (fun r => ∀ c : Dev Cert.PkvRefIdeal.nD,
          r.2.mem ((c.tc : Thread Cert.PkvRefIdeal.nD Cert.PkvRefIdeal.τ).loc Cert.PkvRefIdeal.main_v5) = v0 c
          ∧ r.2.mem ((c.tc : Thread Cert.PkvRefIdeal.nD Cert.PkvRefIdeal.τ).loc Cert.PkvRefIdeal.main_arg0) = m' ((c.tc : Thread Cert.PkvRefIdeal.nD Cert.PkvRefIdeal.τ).loc Cert.PkvRefIdeal.main_arg0)
          ∧ r.2.mem ((c.tc : Thread Cert.PkvRefIdeal.nD Cert.PkvRefIdeal.τ).loc Cert.PkvRefIdeal.main_arg1) = m' ((c.tc : Thread Cert.PkvRefIdeal.nD Cert.PkvRefIdeal.τ).loc Cert.PkvRefIdeal.main_arg1))

def preserves_Pconv_PconvIdeal : Prop :=
  True

def algebraic_PconvIdeal_PconvRefIdeal [hPconvIdeal : Cert.PconvIdeal.Facts] [hPconvRefIdeal : Cert.PconvRefIdeal.Facts] : Prop :=
  ∀ (m : (ℓ : Loc Cert.PconvIdeal.nD Cert.PconvIdeal.τ Cert.PconvIdeal.sig) → Buf (Elt Ideal) ℓ) (g : Dev Cert.PconvIdeal.nD → PrngReg)
    (m' : (ℓ : Loc Cert.PconvRefIdeal.nD Cert.PconvRefIdeal.τ Cert.PconvRefIdeal.sig) → Buf (Elt Ideal) ℓ) (g' : Dev Cert.PconvRefIdeal.nD → PrngReg), Pre_PconvIdeal m →
    (∀ c : Dev Cert.PconvIdeal.nD,
      m' ((c.tc : Thread Cert.PconvRefIdeal.nD Cert.PconvRefIdeal.τ).loc Cert.PconvRefIdeal.main_arg0) = m ((c.tc : Thread Cert.PconvIdeal.nD Cert.PconvIdeal.τ).loc Cert.PconvIdeal.main_arg0)
      ∧ m' ((c.tc : Thread Cert.PconvRefIdeal.nD Cert.PconvRefIdeal.τ).loc Cert.PconvRefIdeal.main_arg1) = m ((c.tc : Thread Cert.PconvIdeal.nD Cert.PconvIdeal.τ).loc Cert.PconvIdeal.main_arg1)) →
    ∃ (v0 : (c : Dev Cert.PconvIdeal.nD) → Buf (Elt Ideal) ((c.tc : Thread Cert.PconvIdeal.nD Cert.PconvIdeal.τ).loc Cert.PconvIdeal.main_v0)),
      θ_run (Cert.PconvIdeal.defs (F := Ideal)) (onTc (τ := Cert.PconvIdeal.τ) (Cert.PconvIdeal.main (F := Ideal))) ⟨m, fun _ => 0, g⟩ (fun r => ∀ c : Dev Cert.PconvIdeal.nD,
          r.2.mem ((c.tc : Thread Cert.PconvIdeal.nD Cert.PconvIdeal.τ).loc Cert.PconvIdeal.main_v0) = v0 c
          ∧ r.2.mem ((c.tc : Thread Cert.PconvIdeal.nD Cert.PconvIdeal.τ).loc Cert.PconvIdeal.main_arg0) = m ((c.tc : Thread Cert.PconvIdeal.nD Cert.PconvIdeal.τ).loc Cert.PconvIdeal.main_arg0)
          ∧ r.2.mem ((c.tc : Thread Cert.PconvIdeal.nD Cert.PconvIdeal.τ).loc Cert.PconvIdeal.main_arg1) = m ((c.tc : Thread Cert.PconvIdeal.nD Cert.PconvIdeal.τ).loc Cert.PconvIdeal.main_arg1))
      ∧ θ_run (Cert.PconvRefIdeal.defs (F := Ideal)) (onTc (τ := Cert.PconvRefIdeal.τ) (Cert.PconvRefIdeal.main (F := Ideal))) ⟨m', fun _ => 0, g'⟩ (fun r => ∀ c : Dev Cert.PconvRefIdeal.nD,
          r.2.mem ((c.tc : Thread Cert.PconvRefIdeal.nD Cert.PconvRefIdeal.τ).loc Cert.PconvRefIdeal.main_v5) = v0 c
          ∧ r.2.mem ((c.tc : Thread Cert.PconvRefIdeal.nD Cert.PconvRefIdeal.τ).loc Cert.PconvRefIdeal.main_arg0) = m' ((c.tc : Thread Cert.PconvRefIdeal.nD Cert.PconvRefIdeal.τ).loc Cert.PconvRefIdeal.main_arg0)
          ∧ r.2.mem ((c.tc : Thread Cert.PconvRefIdeal.nD Cert.PconvRefIdeal.τ).loc Cert.PconvRefIdeal.main_arg1) = m' ((c.tc : Thread Cert.PconvRefIdeal.nD Cert.PconvRefIdeal.τ).loc Cert.PconvRefIdeal.main_arg1))

def preserves_Psg_PsgIdeal : Prop :=
  True

def algebraic_PsgIdeal_PsgRefIdeal [hPsgIdeal : Cert.PsgIdeal.Facts] [hPsgRefIdeal : Cert.PsgRefIdeal.Facts] : Prop :=
  ∀ (m : (ℓ : Loc Cert.PsgIdeal.nD Cert.PsgIdeal.τ Cert.PsgIdeal.sig) → Buf (Elt Ideal) ℓ) (g : Dev Cert.PsgIdeal.nD → PrngReg)
    (m' : (ℓ : Loc Cert.PsgRefIdeal.nD Cert.PsgRefIdeal.τ Cert.PsgRefIdeal.sig) → Buf (Elt Ideal) ℓ) (g' : Dev Cert.PsgRefIdeal.nD → PrngReg), Pre_PsgIdeal m →
    (∀ c : Dev Cert.PsgIdeal.nD,
      m' ((c.tc : Thread Cert.PsgRefIdeal.nD Cert.PsgRefIdeal.τ).loc Cert.PsgRefIdeal.main_arg0) = m ((c.tc : Thread Cert.PsgIdeal.nD Cert.PsgIdeal.τ).loc Cert.PsgIdeal.main_arg0)
      ∧ m' ((c.tc : Thread Cert.PsgRefIdeal.nD Cert.PsgRefIdeal.τ).loc Cert.PsgRefIdeal.main_arg1) = m ((c.tc : Thread Cert.PsgIdeal.nD Cert.PsgIdeal.τ).loc Cert.PsgIdeal.main_arg1)) →
    ∃ (v0 : (c : Dev Cert.PsgIdeal.nD) → Buf (Elt Ideal) ((c.tc : Thread Cert.PsgIdeal.nD Cert.PsgIdeal.τ).loc Cert.PsgIdeal.main_v0)),
      θ_run (Cert.PsgIdeal.defs (F := Ideal)) (onTc (τ := Cert.PsgIdeal.τ) (Cert.PsgIdeal.main (F := Ideal))) ⟨m, fun _ => 0, g⟩ (fun r => ∀ c : Dev Cert.PsgIdeal.nD,
          r.2.mem ((c.tc : Thread Cert.PsgIdeal.nD Cert.PsgIdeal.τ).loc Cert.PsgIdeal.main_v0) = v0 c
          ∧ r.2.mem ((c.tc : Thread Cert.PsgIdeal.nD Cert.PsgIdeal.τ).loc Cert.PsgIdeal.main_arg0) = m ((c.tc : Thread Cert.PsgIdeal.nD Cert.PsgIdeal.τ).loc Cert.PsgIdeal.main_arg0)
          ∧ r.2.mem ((c.tc : Thread Cert.PsgIdeal.nD Cert.PsgIdeal.τ).loc Cert.PsgIdeal.main_arg1) = m ((c.tc : Thread Cert.PsgIdeal.nD Cert.PsgIdeal.τ).loc Cert.PsgIdeal.main_arg1))
      ∧ θ_run (Cert.PsgRefIdeal.defs (F := Ideal)) (onTc (τ := Cert.PsgRefIdeal.τ) (Cert.PsgRefIdeal.main (F := Ideal))) ⟨m', fun _ => 0, g'⟩ (fun r => ∀ c : Dev Cert.PsgRefIdeal.nD,
          r.2.mem ((c.tc : Thread Cert.PsgRefIdeal.nD Cert.PsgRefIdeal.τ).loc Cert.PsgRefIdeal.main_v5) = v0 c
          ∧ r.2.mem ((c.tc : Thread Cert.PsgRefIdeal.nD Cert.PsgRefIdeal.τ).loc Cert.PsgRefIdeal.main_arg0) = m' ((c.tc : Thread Cert.PsgRefIdeal.nD Cert.PsgRefIdeal.τ).loc Cert.PsgRefIdeal.main_arg0)
          ∧ r.2.mem ((c.tc : Thread Cert.PsgRefIdeal.nD Cert.PsgRefIdeal.τ).loc Cert.PsgRefIdeal.main_arg1) = m' ((c.tc : Thread Cert.PsgRefIdeal.nD Cert.PsgRefIdeal.τ).loc Cert.PsgRefIdeal.main_arg1))

def preserves_Pgate_PgateIdeal : Prop :=
  True

def algebraic_PgateIdeal_PgateRefIdeal [hPgateIdeal : Cert.PgateIdeal.Facts] [hPgateRefIdeal : Cert.PgateRefIdeal.Facts] : Prop :=
  ∀ (m : (ℓ : Loc Cert.PgateIdeal.nD Cert.PgateIdeal.τ Cert.PgateIdeal.sig) → Buf (Elt Ideal) ℓ) (g : Dev Cert.PgateIdeal.nD → PrngReg)
    (m' : (ℓ : Loc Cert.PgateRefIdeal.nD Cert.PgateRefIdeal.τ Cert.PgateRefIdeal.sig) → Buf (Elt Ideal) ℓ) (g' : Dev Cert.PgateRefIdeal.nD → PrngReg), Pre_PgateIdeal m →
    (∀ c : Dev Cert.PgateIdeal.nD,
      m' ((c.tc : Thread Cert.PgateRefIdeal.nD Cert.PgateRefIdeal.τ).loc Cert.PgateRefIdeal.main_arg0) = m ((c.tc : Thread Cert.PgateIdeal.nD Cert.PgateIdeal.τ).loc Cert.PgateIdeal.main_arg0)
      ∧ m' ((c.tc : Thread Cert.PgateRefIdeal.nD Cert.PgateRefIdeal.τ).loc Cert.PgateRefIdeal.main_arg1) = m ((c.tc : Thread Cert.PgateIdeal.nD Cert.PgateIdeal.τ).loc Cert.PgateIdeal.main_arg1)) →
    ∃ (v0 : (c : Dev Cert.PgateIdeal.nD) → Buf (Elt Ideal) ((c.tc : Thread Cert.PgateIdeal.nD Cert.PgateIdeal.τ).loc Cert.PgateIdeal.main_v0)),
      θ_run (Cert.PgateIdeal.defs (F := Ideal)) (onTc (τ := Cert.PgateIdeal.τ) (Cert.PgateIdeal.main (F := Ideal))) ⟨m, fun _ => 0, g⟩ (fun r => ∀ c : Dev Cert.PgateIdeal.nD,
          r.2.mem ((c.tc : Thread Cert.PgateIdeal.nD Cert.PgateIdeal.τ).loc Cert.PgateIdeal.main_v0) = v0 c
          ∧ r.2.mem ((c.tc : Thread Cert.PgateIdeal.nD Cert.PgateIdeal.τ).loc Cert.PgateIdeal.main_arg0) = m ((c.tc : Thread Cert.PgateIdeal.nD Cert.PgateIdeal.τ).loc Cert.PgateIdeal.main_arg0)
          ∧ r.2.mem ((c.tc : Thread Cert.PgateIdeal.nD Cert.PgateIdeal.τ).loc Cert.PgateIdeal.main_arg1) = m ((c.tc : Thread Cert.PgateIdeal.nD Cert.PgateIdeal.τ).loc Cert.PgateIdeal.main_arg1))
      ∧ θ_run (Cert.PgateRefIdeal.defs (F := Ideal)) (onTc (τ := Cert.PgateRefIdeal.τ) (Cert.PgateRefIdeal.main (F := Ideal))) ⟨m', fun _ => 0, g'⟩ (fun r => ∀ c : Dev Cert.PgateRefIdeal.nD,
          r.2.mem ((c.tc : Thread Cert.PgateRefIdeal.nD Cert.PgateRefIdeal.τ).loc Cert.PgateRefIdeal.main_v5) = v0 c
          ∧ r.2.mem ((c.tc : Thread Cert.PgateRefIdeal.nD Cert.PgateRefIdeal.τ).loc Cert.PgateRefIdeal.main_arg0) = m' ((c.tc : Thread Cert.PgateRefIdeal.nD Cert.PgateRefIdeal.τ).loc Cert.PgateRefIdeal.main_arg0)
          ∧ r.2.mem ((c.tc : Thread Cert.PgateRefIdeal.nD Cert.PgateRefIdeal.τ).loc Cert.PgateRefIdeal.main_arg1) = m' ((c.tc : Thread Cert.PgateRefIdeal.nD Cert.PgateRefIdeal.τ).loc Cert.PgateRefIdeal.main_arg1))

def preserves_Atf_AtfIdeal : Prop :=
  IdealRules.named_const.Statement Cert.AtfIdeal.κ "scale_log2e" .f32 0x3E0293EE#32 (((11863283 / 134217728) * (Real.log 2)⁻¹ : ℝ) : EReal)

def algebraic_AtfIdeal_AtfRefIdeal_pre_finite_scores [hAtfIdeal : Cert.AtfIdeal.Facts] [hAtfRefIdeal : Cert.AtfRefIdeal.Facts] [hPre_finite_scores : Cert.Pre_finite_scores.Facts] : Prop :=
  ∀ (m : (ℓ : Loc Cert.AtfIdeal.nD Cert.AtfIdeal.τ Cert.AtfIdeal.sig) → Buf (Elt Ideal) ℓ) (g : Dev Cert.AtfIdeal.nD → PrngReg)
    (m' : (ℓ : Loc Cert.AtfRefIdeal.nD Cert.AtfRefIdeal.τ Cert.AtfRefIdeal.sig) → Buf (Elt Ideal) ℓ) (g' : Dev Cert.AtfRefIdeal.nD → PrngReg), Pre_AtfIdeal_finite_scores m →
    (∀ c : Dev Cert.AtfIdeal.nD,
      m' ((c.tc : Thread Cert.AtfRefIdeal.nD Cert.AtfRefIdeal.τ).loc Cert.AtfRefIdeal.main_arg0) = m ((c.tc : Thread Cert.AtfIdeal.nD Cert.AtfIdeal.τ).loc Cert.AtfIdeal.main_arg0)
      ∧ m' ((c.tc : Thread Cert.AtfRefIdeal.nD Cert.AtfRefIdeal.τ).loc Cert.AtfRefIdeal.main_arg1) = m ((c.tc : Thread Cert.AtfIdeal.nD Cert.AtfIdeal.τ).loc Cert.AtfIdeal.main_arg1)
      ∧ m' ((c.tc : Thread Cert.AtfRefIdeal.nD Cert.AtfRefIdeal.τ).loc Cert.AtfRefIdeal.main_arg2) = m ((c.tc : Thread Cert.AtfIdeal.nD Cert.AtfIdeal.τ).loc Cert.AtfIdeal.main_arg2)) →
    ∃ (v0 : (c : Dev Cert.AtfIdeal.nD) → Buf (Elt Ideal) ((c.tc : Thread Cert.AtfIdeal.nD Cert.AtfIdeal.τ).loc Cert.AtfIdeal.main_v0)),
      θ_run (Cert.AtfIdeal.defs (F := Ideal)) (onTc (τ := Cert.AtfIdeal.τ) (Cert.AtfIdeal.main (F := Ideal))) ⟨m, fun _ => 0, g⟩ (fun r => ∀ c : Dev Cert.AtfIdeal.nD,
          r.2.mem ((c.tc : Thread Cert.AtfIdeal.nD Cert.AtfIdeal.τ).loc Cert.AtfIdeal.main_v0) = v0 c
          ∧ r.2.mem ((c.tc : Thread Cert.AtfIdeal.nD Cert.AtfIdeal.τ).loc Cert.AtfIdeal.main_arg0) = m ((c.tc : Thread Cert.AtfIdeal.nD Cert.AtfIdeal.τ).loc Cert.AtfIdeal.main_arg0)
          ∧ r.2.mem ((c.tc : Thread Cert.AtfIdeal.nD Cert.AtfIdeal.τ).loc Cert.AtfIdeal.main_arg1) = m ((c.tc : Thread Cert.AtfIdeal.nD Cert.AtfIdeal.τ).loc Cert.AtfIdeal.main_arg1)
          ∧ r.2.mem ((c.tc : Thread Cert.AtfIdeal.nD Cert.AtfIdeal.τ).loc Cert.AtfIdeal.main_arg2) = m ((c.tc : Thread Cert.AtfIdeal.nD Cert.AtfIdeal.τ).loc Cert.AtfIdeal.main_arg2))
      ∧ θ_run (Cert.AtfRefIdeal.defs (F := Ideal)) (onTc (τ := Cert.AtfRefIdeal.τ) (Cert.AtfRefIdeal.main (F := Ideal))) ⟨m', fun _ => 0, g'⟩ (fun r => ∀ c : Dev Cert.AtfRefIdeal.nD,
          r.2.mem ((c.tc : Thread Cert.AtfRefIdeal.nD Cert.AtfRefIdeal.τ).loc Cert.AtfRefIdeal.main_v25) = v0 c
          ∧ r.2.mem ((c.tc : Thread Cert.AtfRefIdeal.nD Cert.AtfRefIdeal.τ).loc Cert.AtfRefIdeal.main_arg0) = m' ((c.tc : Thread Cert.AtfRefIdeal.nD Cert.AtfRefIdeal.τ).loc Cert.AtfRefIdeal.main_arg0)
          ∧ r.2.mem ((c.tc : Thread Cert.AtfRefIdeal.nD Cert.AtfRefIdeal.τ).loc Cert.AtfRefIdeal.main_arg1) = m' ((c.tc : Thread Cert.AtfRefIdeal.nD Cert.AtfRefIdeal.τ).loc Cert.AtfRefIdeal.main_arg1)
          ∧ r.2.mem ((c.tc : Thread Cert.AtfRefIdeal.nD Cert.AtfRefIdeal.τ).loc Cert.AtfRefIdeal.main_arg2) = m' ((c.tc : Thread Cert.AtfRefIdeal.nD Cert.AtfRefIdeal.τ).loc Cert.AtfRefIdeal.main_arg2))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)) →
    ∃ (v0 : (c : Dev Cert.MixIdeal.nD) → Buf (Elt Ideal) ((c.tc : Thread Cert.MixIdeal.nD Cert.MixIdeal.τ).loc Cert.MixIdeal.main_v0_0)) (v1 : (c : Dev Cert.MixIdeal.nD) → Buf (Elt Ideal) ((c.tc : Thread Cert.MixIdeal.nD Cert.MixIdeal.τ).loc Cert.MixIdeal.main_v0_1)) (v2 : (c : Dev Cert.MixIdeal.nD) → Buf (Elt Ideal) ((c.tc : Thread Cert.MixIdeal.nD Cert.MixIdeal.τ).loc Cert.MixIdeal.main_v0_2)) (v3 : (c : Dev Cert.MixIdeal.nD) → Buf (Elt Ideal) ((c.tc : Thread Cert.MixIdeal.nD Cert.MixIdeal.τ).loc Cert.MixIdeal.main_v0_3)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v0_0) = v0 c
          ∧ r.2.mem ((c.tc : Thread Cert.MixIdeal.nD Cert.MixIdeal.τ).loc Cert.MixIdeal.main_v0_1) = v1 c
          ∧ r.2.mem ((c.tc : Thread Cert.MixIdeal.nD Cert.MixIdeal.τ).loc Cert.MixIdeal.main_v0_2) = v2 c
          ∧ r.2.mem ((c.tc : Thread Cert.MixIdeal.nD Cert.MixIdeal.τ).loc Cert.MixIdeal.main_v0_3) = v3 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v33) = v0 c
          ∧ r.2.mem ((c.tc : Thread Cert.MixRefIdeal.nD Cert.MixRefIdeal.τ).loc Cert.MixRefIdeal.main_v34) = v1 c
          ∧ r.2.mem ((c.tc : Thread Cert.MixRefIdeal.nD Cert.MixRefIdeal.τ).loc Cert.MixRefIdeal.main_v35) = v2 c
          ∧ r.2.mem ((c.tc : Thread Cert.MixRefIdeal.nD Cert.MixRefIdeal.τ).loc Cert.MixRefIdeal.main_v36) = v3 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7))

def preserves_Ad_AdIdeal : Prop :=
  True

def algebraic_AdIdeal_AdRefIdeal [hAdIdeal : Cert.AdIdeal.Facts] [hAdRefIdeal : Cert.AdRefIdeal.Facts] : Prop :=
  ∀ (m : (ℓ : Loc Cert.AdIdeal.nD Cert.AdIdeal.τ Cert.AdIdeal.sig) → Buf (Elt Ideal) ℓ) (g : Dev Cert.AdIdeal.nD → PrngReg)
    (m' : (ℓ : Loc Cert.AdRefIdeal.nD Cert.AdRefIdeal.τ Cert.AdRefIdeal.sig) → Buf (Elt Ideal) ℓ) (g' : Dev Cert.AdRefIdeal.nD → PrngReg), Pre_AdIdeal m →
    (∀ c : Dev Cert.AdIdeal.nD,
      m' ((c.tc : Thread Cert.AdRefIdeal.nD Cert.AdRefIdeal.τ).loc Cert.AdRefIdeal.main_arg0) = m ((c.tc : Thread Cert.AdIdeal.nD Cert.AdIdeal.τ).loc Cert.AdIdeal.main_arg0)
      ∧ m' ((c.tc : Thread Cert.AdRefIdeal.nD Cert.AdRefIdeal.τ).loc Cert.AdRefIdeal.main_arg1) = m ((c.tc : Thread Cert.AdIdeal.nD Cert.AdIdeal.τ).loc Cert.AdIdeal.main_arg1)
      ∧ m' ((c.tc : Thread Cert.AdRefIdeal.nD Cert.AdRefIdeal.τ).loc Cert.AdRefIdeal.main_arg2) = m ((c.tc : Thread Cert.AdIdeal.nD Cert.AdIdeal.τ).loc Cert.AdIdeal.main_arg2)
      ∧ m' ((c.tc : Thread Cert.AdRefIdeal.nD Cert.AdRefIdeal.τ).loc Cert.AdRefIdeal.main_arg3) = m ((c.tc : Thread Cert.AdIdeal.nD Cert.AdIdeal.τ).loc Cert.AdIdeal.main_arg3)) →
    ∃ (v0 : (c : Dev Cert.AdIdeal.nD) → Buf (Elt Ideal) ((c.tc : Thread Cert.AdIdeal.nD Cert.AdIdeal.τ).loc Cert.AdIdeal.main_v0_0)) (v1 : (c : Dev Cert.AdIdeal.nD) → Buf (Elt Ideal) ((c.tc : Thread Cert.AdIdeal.nD Cert.AdIdeal.τ).loc Cert.AdIdeal.main_v0_1)) (v2 : (c : Dev Cert.AdIdeal.nD) → Buf (Elt Ideal) ((c.tc : Thread Cert.AdIdeal.nD Cert.AdIdeal.τ).loc Cert.AdIdeal.main_v0_2)),
      θ_run (Cert.AdIdeal.defs (F := Ideal)) (onTc (τ := Cert.AdIdeal.τ) (Cert.AdIdeal.main (F := Ideal))) ⟨m, fun _ => 0, g⟩ (fun r => ∀ c : Dev Cert.AdIdeal.nD,
          r.2.mem ((c.tc : Thread Cert.AdIdeal.nD Cert.AdIdeal.τ).loc Cert.AdIdeal.main_v0_0) = v0 c
          ∧ r.2.mem ((c.tc : Thread Cert.AdIdeal.nD Cert.AdIdeal.τ).loc Cert.AdIdeal.main_v0_1) = v1 c
          ∧ r.2.mem ((c.tc : Thread Cert.AdIdeal.nD Cert.AdIdeal.τ).loc Cert.AdIdeal.main_v0_2) = v2 c
          ∧ r.2.mem ((c.tc : Thread Cert.AdIdeal.nD Cert.AdIdeal.τ).loc Cert.AdIdeal.main_arg0) = m ((c.tc : Thread Cert.AdIdeal.nD Cert.AdIdeal.τ).loc Cert.AdIdeal.main_arg0)
          ∧ r.2.mem ((c.tc : Thread Cert.AdIdeal.nD Cert.AdIdeal.τ).loc Cert.AdIdeal.main_arg1) = m ((c.tc : Thread Cert.AdIdeal.nD Cert.AdIdeal.τ).loc Cert.AdIdeal.main_arg1)
          ∧ r.2.mem ((c.tc : Thread Cert.AdIdeal.nD Cert.AdIdeal.τ).loc Cert.AdIdeal.main_arg2) = m ((c.tc : Thread Cert.AdIdeal.nD Cert.AdIdeal.τ).loc Cert.AdIdeal.main_arg2)
          ∧ r.2.mem ((c.tc : Thread Cert.AdIdeal.nD Cert.AdIdeal.τ).loc Cert.AdIdeal.main_arg3) = m ((c.tc : Thread Cert.AdIdeal.nD Cert.AdIdeal.τ).loc Cert.AdIdeal.main_arg3))
      ∧ θ_run (Cert.AdRefIdeal.defs (F := Ideal)) (onTc (τ := Cert.AdRefIdeal.τ) (Cert.AdRefIdeal.main (F := Ideal))) ⟨m', fun _ => 0, g'⟩ (fun r => ∀ c : Dev Cert.AdRefIdeal.nD,
          r.2.mem ((c.tc : Thread Cert.AdRefIdeal.nD Cert.AdRefIdeal.τ).loc Cert.AdRefIdeal.main_v23) = v0 c
          ∧ r.2.mem ((c.tc : Thread Cert.AdRefIdeal.nD Cert.AdRefIdeal.τ).loc Cert.AdRefIdeal.main_v4) = v1 c
          ∧ r.2.mem ((c.tc : Thread Cert.AdRefIdeal.nD Cert.AdRefIdeal.τ).loc Cert.AdRefIdeal.main_v10) = v2 c
          ∧ r.2.mem ((c.tc : Thread Cert.AdRefIdeal.nD Cert.AdRefIdeal.τ).loc Cert.AdRefIdeal.main_arg0) = m' ((c.tc : Thread Cert.AdRefIdeal.nD Cert.AdRefIdeal.τ).loc Cert.AdRefIdeal.main_arg0)
          ∧ r.2.mem ((c.tc : Thread Cert.AdRefIdeal.nD Cert.AdRefIdeal.τ).loc Cert.AdRefIdeal.main_arg1) = m' ((c.tc : Thread Cert.AdRefIdeal.nD Cert.AdRefIdeal.τ).loc Cert.AdRefIdeal.main_arg1)
          ∧ r.2.mem ((c.tc : Thread Cert.AdRefIdeal.nD Cert.AdRefIdeal.τ).loc Cert.AdRefIdeal.main_arg2) = m' ((c.tc : Thread Cert.AdRefIdeal.nD Cert.AdRefIdeal.τ).loc Cert.AdRefIdeal.main_arg2)
          ∧ r.2.mem ((c.tc : Thread Cert.AdRefIdeal.nD Cert.AdRefIdeal.τ).loc Cert.AdRefIdeal.main_arg3) = m' ((c.tc : Thread Cert.AdRefIdeal.nD Cert.AdRefIdeal.τ).loc Cert.AdRefIdeal.main_arg3))

def preserves_Ride_RideIdeal : Prop :=
  True

def algebraic_RideIdeal_RideRefIdeal [hRideIdeal : Cert.RideIdeal.Facts] [hRideRefIdeal : Cert.RideRefIdeal.Facts] : Prop :=
  ∀ (m : (ℓ : Loc Cert.RideIdeal.nD Cert.RideIdeal.τ Cert.RideIdeal.sig) → Buf (Elt Ideal) ℓ) (g : Dev Cert.RideIdeal.nD → PrngReg)
    (m' : (ℓ : Loc Cert.RideRefIdeal.nD Cert.RideRefIdeal.τ Cert.RideRefIdeal.sig) → Buf (Elt Ideal) ℓ) (g' : Dev Cert.RideRefIdeal.nD → PrngReg), Pre_RideIdeal m →
    (∀ c : Dev Cert.RideIdeal.nD,
      m' ((c.tc : Thread Cert.RideRefIdeal.nD Cert.RideRefIdeal.τ).loc Cert.RideRefIdeal.main_arg0) = m ((c.tc : Thread Cert.RideIdeal.nD Cert.RideIdeal.τ).loc Cert.RideIdeal.main_arg0)
      ∧ m' ((c.tc : Thread Cert.RideRefIdeal.nD Cert.RideRefIdeal.τ).loc Cert.RideRefIdeal.main_arg1) = m ((c.tc : Thread Cert.RideIdeal.nD Cert.RideIdeal.τ).loc Cert.RideIdeal.main_arg1)
      ∧ m' ((c.tc : Thread Cert.RideRefIdeal.nD Cert.RideRefIdeal.τ).loc Cert.RideRefIdeal.main_arg2) = m ((c.tc : Thread Cert.RideIdeal.nD Cert.RideIdeal.τ).loc Cert.RideIdeal.main_arg2)
      ∧ m' ((c.tc : Thread Cert.RideRefIdeal.nD Cert.RideRefIdeal.τ).loc Cert.RideRefIdeal.main_arg3) = m ((c.tc : Thread Cert.RideIdeal.nD Cert.RideIdeal.τ).loc Cert.RideIdeal.main_arg3)
      ∧ m' ((c.tc : Thread Cert.RideRefIdeal.nD Cert.RideRefIdeal.τ).loc Cert.RideRefIdeal.main_arg4) = m ((c.tc : Thread Cert.RideIdeal.nD Cert.RideIdeal.τ).loc Cert.RideIdeal.main_arg4)
      ∧ m' ((c.tc : Thread Cert.RideRefIdeal.nD Cert.RideRefIdeal.τ).loc Cert.RideRefIdeal.main_arg5) = m ((c.tc : Thread Cert.RideIdeal.nD Cert.RideIdeal.τ).loc Cert.RideIdeal.main_arg5)
      ∧ m' ((c.tc : Thread Cert.RideRefIdeal.nD Cert.RideRefIdeal.τ).loc Cert.RideRefIdeal.main_arg6) = m ((c.tc : Thread Cert.RideIdeal.nD Cert.RideIdeal.τ).loc Cert.RideIdeal.main_arg6)
      ∧ m' ((c.tc : Thread Cert.RideRefIdeal.nD Cert.RideRefIdeal.τ).loc Cert.RideRefIdeal.main_arg7) = m ((c.tc : Thread Cert.RideIdeal.nD Cert.RideIdeal.τ).loc Cert.RideIdeal.main_arg7)) →
    ∃ (v0 : (c : Dev Cert.RideIdeal.nD) → Buf (Elt Ideal) ((c.tc : Thread Cert.RideIdeal.nD Cert.RideIdeal.τ).loc Cert.RideIdeal.main_v0_0)) (v1 : (c : Dev Cert.RideIdeal.nD) → Buf (Elt Ideal) ((c.tc : Thread Cert.RideIdeal.nD Cert.RideIdeal.τ).loc Cert.RideIdeal.main_v2)) (v2 : (c : Dev Cert.RideIdeal.nD) → Buf (Elt Ideal) ((c.tc : Thread Cert.RideIdeal.nD Cert.RideIdeal.τ).loc Cert.RideIdeal.main_v4)) (v3 : (c : Dev Cert.RideIdeal.nD) → Buf (Elt Ideal) ((c.tc : Thread Cert.RideIdeal.nD Cert.RideIdeal.τ).loc Cert.RideIdeal.main_v6)) (v4 : (c : Dev Cert.RideIdeal.nD) → Buf (Elt Ideal) ((c.tc : Thread Cert.RideIdeal.nD Cert.RideIdeal.τ).loc Cert.RideIdeal.main_v8)),
      θ_run (Cert.RideIdeal.defs (F := Ideal)) (onTc (τ := Cert.RideIdeal.τ) (Cert.RideIdeal.main (F := Ideal))) ⟨m, fun _ => 0, g⟩ (fun r => ∀ c : Dev Cert.RideIdeal.nD,
          r.2.mem ((c.tc : Thread Cert.RideIdeal.nD Cert.RideIdeal.τ).loc Cert.RideIdeal.main_v0_0) = v0 c
          ∧ r.2.mem ((c.tc : Thread Cert.RideIdeal.nD Cert.RideIdeal.τ).loc Cert.RideIdeal.main_v2) = v1 c
          ∧ r.2.mem ((c.tc : Thread Cert.RideIdeal.nD Cert.RideIdeal.τ).loc Cert.RideIdeal.main_v4) = v2 c
          ∧ r.2.mem ((c.tc : Thread Cert.RideIdeal.nD Cert.RideIdeal.τ).loc Cert.RideIdeal.main_v6) = v3 c
          ∧ r.2.mem ((c.tc : Thread Cert.RideIdeal.nD Cert.RideIdeal.τ).loc Cert.RideIdeal.main_v8) = v4 c
          ∧ r.2.mem ((c.tc : Thread Cert.RideIdeal.nD Cert.RideIdeal.τ).loc Cert.RideIdeal.main_arg0) = m ((c.tc : Thread Cert.RideIdeal.nD Cert.RideIdeal.τ).loc Cert.RideIdeal.main_arg0)
          ∧ r.2.mem ((c.tc : Thread Cert.RideIdeal.nD Cert.RideIdeal.τ).loc Cert.RideIdeal.main_arg1) = m ((c.tc : Thread Cert.RideIdeal.nD Cert.RideIdeal.τ).loc Cert.RideIdeal.main_arg1)
          ∧ r.2.mem ((c.tc : Thread Cert.RideIdeal.nD Cert.RideIdeal.τ).loc Cert.RideIdeal.main_arg2) = m ((c.tc : Thread Cert.RideIdeal.nD Cert.RideIdeal.τ).loc Cert.RideIdeal.main_arg2)
          ∧ r.2.mem ((c.tc : Thread Cert.RideIdeal.nD Cert.RideIdeal.τ).loc Cert.RideIdeal.main_arg3) = m ((c.tc : Thread Cert.RideIdeal.nD Cert.RideIdeal.τ).loc Cert.RideIdeal.main_arg3)
          ∧ r.2.mem ((c.tc : Thread Cert.RideIdeal.nD Cert.RideIdeal.τ).loc Cert.RideIdeal.main_arg4) = m ((c.tc : Thread Cert.RideIdeal.nD Cert.RideIdeal.τ).loc Cert.RideIdeal.main_arg4)
          ∧ r.2.mem ((c.tc : Thread Cert.RideIdeal.nD Cert.RideIdeal.τ).loc Cert.RideIdeal.main_arg5) = m ((c.tc : Thread Cert.RideIdeal.nD Cert.RideIdeal.τ).loc Cert.RideIdeal.main_arg5)
          ∧ r.2.mem ((c.tc : Thread Cert.RideIdeal.nD Cert.RideIdeal.τ).loc Cert.RideIdeal.main_arg6) = m ((c.tc : Thread Cert.RideIdeal.nD Cert.RideIdeal.τ).loc Cert.RideIdeal.main_arg6)
          ∧ r.2.mem ((c.tc : Thread Cert.RideIdeal.nD Cert.RideIdeal.τ).loc Cert.RideIdeal.main_arg7) = m ((c.tc : Thread Cert.RideIdeal.nD Cert.RideIdeal.τ).loc Cert.RideIdeal.main_arg7))
      ∧ θ_run (Cert.RideRefIdeal.defs (F := Ideal)) (onTc (τ := Cert.RideRefIdeal.τ) (Cert.RideRefIdeal.main (F := Ideal))) ⟨m', fun _ => 0, g'⟩ (fun r => ∀ c : Dev Cert.RideRefIdeal.nD,
          r.2.mem ((c.tc : Thread Cert.RideRefIdeal.nD Cert.RideRefIdeal.τ).loc Cert.RideRefIdeal.main_v6) = v0 c
          ∧ r.2.mem ((c.tc : Thread Cert.RideRefIdeal.nD Cert.RideRefIdeal.τ).loc Cert.RideRefIdeal.main_v20) = v1 c
          ∧ r.2.mem ((c.tc : Thread Cert.RideRefIdeal.nD Cert.RideRefIdeal.τ).loc Cert.RideRefIdeal.main_v44) = v2 c
          ∧ r.2.mem ((c.tc : Thread Cert.RideRefIdeal.nD Cert.RideRefIdeal.τ).loc Cert.RideRefIdeal.main_v25) = v3 c
          ∧ r.2.mem ((c.tc : Thread Cert.RideRefIdeal.nD Cert.RideRefIdeal.τ).loc Cert.RideRefIdeal.main_v31) = v4 c
          ∧ r.2.mem ((c.tc : Thread Cert.RideRefIdeal.nD Cert.RideRefIdeal.τ).loc Cert.RideRefIdeal.main_arg0) = m' ((c.tc : Thread Cert.RideRefIdeal.nD Cert.RideRefIdeal.τ).loc Cert.RideRefIdeal.main_arg0)
          ∧ r.2.mem ((c.tc : Thread Cert.RideRefIdeal.nD Cert.RideRefIdeal.τ).loc Cert.RideRefIdeal.main_arg1) = m' ((c.tc : Thread Cert.RideRefIdeal.nD Cert.RideRefIdeal.τ).loc Cert.RideRefIdeal.main_arg1)
          ∧ r.2.mem ((c.tc : Thread Cert.RideRefIdeal.nD Cert.RideRefIdeal.τ).loc Cert.RideRefIdeal.main_arg2) = m' ((c.tc : Thread Cert.RideRefIdeal.nD Cert.RideRefIdeal.τ).loc Cert.RideRefIdeal.main_arg2)
          ∧ r.2.mem ((c.tc : Thread Cert.RideRefIdeal.nD Cert.RideRefIdeal.τ).loc Cert.RideRefIdeal.main_arg3) = m' ((c.tc : Thread Cert.RideRefIdeal.nD Cert.RideRefIdeal.τ).loc Cert.RideRefIdeal.main_arg3)
          ∧ r.2.mem ((c.tc : Thread Cert.RideRefIdeal.nD Cert.RideRefIdeal.τ).loc Cert.RideRefIdeal.main_arg4) = m' ((c.tc : Thread Cert.RideRefIdeal.nD Cert.RideRefIdeal.τ).loc Cert.RideRefIdeal.main_arg4)
          ∧ r.2.mem ((c.tc : Thread Cert.RideRefIdeal.nD Cert.RideRefIdeal.τ).loc Cert.RideRefIdeal.main_arg5) = m' ((c.tc : Thread Cert.RideRefIdeal.nD Cert.RideRefIdeal.τ).loc Cert.RideRefIdeal.main_arg5)
          ∧ r.2.mem ((c.tc : Thread Cert.RideRefIdeal.nD Cert.RideRefIdeal.τ).loc Cert.RideRefIdeal.main_arg6) = m' ((c.tc : Thread Cert.RideRefIdeal.nD Cert.RideRefIdeal.τ).loc Cert.RideRefIdeal.main_arg6)
          ∧ r.2.mem ((c.tc : Thread Cert.RideRefIdeal.nD Cert.RideRefIdeal.τ).loc Cert.RideRefIdeal.main_arg7) = m' ((c.tc : Thread Cert.RideRefIdeal.nD Cert.RideRefIdeal.τ).loc Cert.RideRefIdeal.main_arg7))

def preserves_Ads_AdsIdeal : Prop :=
  True

def algebraic_AdsIdeal_AdsRefIdeal [hAdsIdeal : Cert.AdsIdeal.Facts] [hAdsRefIdeal : Cert.AdsRefIdeal.Facts] : Prop :=
  ∀ (m : (ℓ : Loc Cert.AdsIdeal.nD Cert.AdsIdeal.τ Cert.AdsIdeal.sig) → Buf (Elt Ideal) ℓ) (g : Dev Cert.AdsIdeal.nD → PrngReg)
    (m' : (ℓ : Loc Cert.AdsRefIdeal.nD Cert.AdsRefIdeal.τ Cert.AdsRefIdeal.sig) → Buf (Elt Ideal) ℓ) (g' : Dev Cert.AdsRefIdeal.nD → PrngReg), Pre_AdsIdeal m →
    (∀ c : Dev Cert.AdsIdeal.nD,
      m' ((c.tc : Thread Cert.AdsRefIdeal.nD Cert.AdsRefIdeal.τ).loc Cert.AdsRefIdeal.main_arg0) = m ((c.tc : Thread Cert.AdsIdeal.nD Cert.AdsIdeal.τ).loc Cert.AdsIdeal.main_arg0)
      ∧ m' ((c.tc : Thread Cert.AdsRefIdeal.nD Cert.AdsRefIdeal.τ).loc Cert.AdsRefIdeal.main_arg1) = m ((c.tc : Thread Cert.AdsIdeal.nD Cert.AdsIdeal.τ).loc Cert.AdsIdeal.main_arg1)
      ∧ m' ((c.tc : Thread Cert.AdsRefIdeal.nD Cert.AdsRefIdeal.τ).loc Cert.AdsRefIdeal.main_arg2) = m ((c.tc : Thread Cert.AdsIdeal.nD Cert.AdsIdeal.τ).loc Cert.AdsIdeal.main_arg2)
      ∧ m' ((c.tc : Thread Cert.AdsRefIdeal.nD Cert.AdsRefIdeal.τ).loc Cert.AdsRefIdeal.main_arg3) = m ((c.tc : Thread Cert.AdsIdeal.nD Cert.AdsIdeal.τ).loc Cert.AdsIdeal.main_arg3)) →
    ∃ (v0 : (c : Dev Cert.AdsIdeal.nD) → Buf (Elt Ideal) ((c.tc : Thread Cert.AdsIdeal.nD Cert.AdsIdeal.τ).loc Cert.AdsIdeal.main_v0_0)) (v1 : (c : Dev Cert.AdsIdeal.nD) → Buf (Elt Ideal) ((c.tc : Thread Cert.AdsIdeal.nD Cert.AdsIdeal.τ).loc Cert.AdsIdeal.main_v0_1)) (v2 : (c : Dev Cert.AdsIdeal.nD) → Buf (Elt Ideal) ((c.tc : Thread Cert.AdsIdeal.nD Cert.AdsIdeal.τ).loc Cert.AdsIdeal.main_v0_2)),
      θ_run (Cert.AdsIdeal.defs (F := Ideal)) (onTc (τ := Cert.AdsIdeal.τ) (Cert.AdsIdeal.main (F := Ideal))) ⟨m, fun _ => 0, g⟩ (fun r => ∀ c : Dev Cert.AdsIdeal.nD,
          r.2.mem ((c.tc : Thread Cert.AdsIdeal.nD Cert.AdsIdeal.τ).loc Cert.AdsIdeal.main_v0_0) = v0 c
          ∧ r.2.mem ((c.tc : Thread Cert.AdsIdeal.nD Cert.AdsIdeal.τ).loc Cert.AdsIdeal.main_v0_1) = v1 c
          ∧ r.2.mem ((c.tc : Thread Cert.AdsIdeal.nD Cert.AdsIdeal.τ).loc Cert.AdsIdeal.main_v0_2) = v2 c
          ∧ r.2.mem ((c.tc : Thread Cert.AdsIdeal.nD Cert.AdsIdeal.τ).loc Cert.AdsIdeal.main_arg0) = m ((c.tc : Thread Cert.AdsIdeal.nD Cert.AdsIdeal.τ).loc Cert.AdsIdeal.main_arg0)
          ∧ r.2.mem ((c.tc : Thread Cert.AdsIdeal.nD Cert.AdsIdeal.τ).loc Cert.AdsIdeal.main_arg1) = m ((c.tc : Thread Cert.AdsIdeal.nD Cert.AdsIdeal.τ).loc Cert.AdsIdeal.main_arg1)
          ∧ r.2.mem ((c.tc : Thread Cert.AdsIdeal.nD Cert.AdsIdeal.τ).loc Cert.AdsIdeal.main_arg2) = m ((c.tc : Thread Cert.AdsIdeal.nD Cert.AdsIdeal.τ).loc Cert.AdsIdeal.main_arg2)
          ∧ r.2.mem ((c.tc : Thread Cert.AdsIdeal.nD Cert.AdsIdeal.τ).loc Cert.AdsIdeal.main_arg3) = m ((c.tc : Thread Cert.AdsIdeal.nD Cert.AdsIdeal.τ).loc Cert.AdsIdeal.main_arg3))
      ∧ θ_run (Cert.AdsRefIdeal.defs (F := Ideal)) (onTc (τ := Cert.AdsRefIdeal.τ) (Cert.AdsRefIdeal.main (F := Ideal))) ⟨m', fun _ => 0, g'⟩ (fun r => ∀ c : Dev Cert.AdsRefIdeal.nD,
          r.2.mem ((c.tc : Thread Cert.AdsRefIdeal.nD Cert.AdsRefIdeal.τ).loc Cert.AdsRefIdeal.main_v23) = v0 c
          ∧ r.2.mem ((c.tc : Thread Cert.AdsRefIdeal.nD Cert.AdsRefIdeal.τ).loc Cert.AdsRefIdeal.main_v4) = v1 c
          ∧ r.2.mem ((c.tc : Thread Cert.AdsRefIdeal.nD Cert.AdsRefIdeal.τ).loc Cert.AdsRefIdeal.main_v10) = v2 c
          ∧ r.2.mem ((c.tc : Thread Cert.AdsRefIdeal.nD Cert.AdsRefIdeal.τ).loc Cert.AdsRefIdeal.main_arg0) = m' ((c.tc : Thread Cert.AdsRefIdeal.nD Cert.AdsRefIdeal.τ).loc Cert.AdsRefIdeal.main_arg0)
          ∧ r.2.mem ((c.tc : Thread Cert.AdsRefIdeal.nD Cert.AdsRefIdeal.τ).loc Cert.AdsRefIdeal.main_arg1) = m' ((c.tc : Thread Cert.AdsRefIdeal.nD Cert.AdsRefIdeal.τ).loc Cert.AdsRefIdeal.main_arg1)
          ∧ r.2.mem ((c.tc : Thread Cert.AdsRefIdeal.nD Cert.AdsRefIdeal.τ).loc Cert.AdsRefIdeal.main_arg2) = m' ((c.tc : Thread Cert.AdsRefIdeal.nD Cert.AdsRefIdeal.τ).loc Cert.AdsRefIdeal.main_arg2)
          ∧ r.2.mem ((c.tc : Thread Cert.AdsRefIdeal.nD Cert.AdsRefIdeal.τ).loc Cert.AdsRefIdeal.main_arg3) = m' ((c.tc : Thread Cert.AdsRefIdeal.nD Cert.AdsRefIdeal.τ).loc Cert.AdsRefIdeal.main_arg3))

def preserves_Adw_AdwIdeal : Prop :=
  True

def algebraic_AdwIdeal_AdwRefIdeal [hAdwIdeal : Cert.AdwIdeal.Facts] [hAdwRefIdeal : Cert.AdwRefIdeal.Facts] : Prop :=
  ∀ (m : (ℓ : Loc Cert.AdwIdeal.nD Cert.AdwIdeal.τ Cert.AdwIdeal.sig) → Buf (Elt Ideal) ℓ) (g : Dev Cert.AdwIdeal.nD → PrngReg)
    (m' : (ℓ : Loc Cert.AdwRefIdeal.nD Cert.AdwRefIdeal.τ Cert.AdwRefIdeal.sig) → Buf (Elt Ideal) ℓ) (g' : Dev Cert.AdwRefIdeal.nD → PrngReg), Pre_AdwIdeal m →
    (∀ c : Dev Cert.AdwIdeal.nD,
      m' ((c.tc : Thread Cert.AdwRefIdeal.nD Cert.AdwRefIdeal.τ).loc Cert.AdwRefIdeal.main_arg0) = m ((c.tc : Thread Cert.AdwIdeal.nD Cert.AdwIdeal.τ).loc Cert.AdwIdeal.main_arg0)
      ∧ m' ((c.tc : Thread Cert.AdwRefIdeal.nD Cert.AdwRefIdeal.τ).loc Cert.AdwRefIdeal.main_arg1) = m ((c.tc : Thread Cert.AdwIdeal.nD Cert.AdwIdeal.τ).loc Cert.AdwIdeal.main_arg1)
      ∧ m' ((c.tc : Thread Cert.AdwRefIdeal.nD Cert.AdwRefIdeal.τ).loc Cert.AdwRefIdeal.main_arg2) = m ((c.tc : Thread Cert.AdwIdeal.nD Cert.AdwIdeal.τ).loc Cert.AdwIdeal.main_arg2)
      ∧ m' ((c.tc : Thread Cert.AdwRefIdeal.nD Cert.AdwRefIdeal.τ).loc Cert.AdwRefIdeal.main_arg3) = m ((c.tc : Thread Cert.AdwIdeal.nD Cert.AdwIdeal.τ).loc Cert.AdwIdeal.main_arg3)) →
    ∃ (v0 : (c : Dev Cert.AdwIdeal.nD) → Buf (Elt Ideal) ((c.tc : Thread Cert.AdwIdeal.nD Cert.AdwIdeal.τ).loc Cert.AdwIdeal.main_v0_0)) (v1 : (c : Dev Cert.AdwIdeal.nD) → Buf (Elt Ideal) ((c.tc : Thread Cert.AdwIdeal.nD Cert.AdwIdeal.τ).loc Cert.AdwIdeal.main_v0_1)) (v2 : (c : Dev Cert.AdwIdeal.nD) → Buf (Elt Ideal) ((c.tc : Thread Cert.AdwIdeal.nD Cert.AdwIdeal.τ).loc Cert.AdwIdeal.main_v0_2)),
      θ_run (Cert.AdwIdeal.defs (F := Ideal)) (onTc (τ := Cert.AdwIdeal.τ) (Cert.AdwIdeal.main (F := Ideal))) ⟨m, fun _ => 0, g⟩ (fun r => ∀ c : Dev Cert.AdwIdeal.nD,
          r.2.mem ((c.tc : Thread Cert.AdwIdeal.nD Cert.AdwIdeal.τ).loc Cert.AdwIdeal.main_v0_0) = v0 c
          ∧ r.2.mem ((c.tc : Thread Cert.AdwIdeal.nD Cert.AdwIdeal.τ).loc Cert.AdwIdeal.main_v0_1) = v1 c
          ∧ r.2.mem ((c.tc : Thread Cert.AdwIdeal.nD Cert.AdwIdeal.τ).loc Cert.AdwIdeal.main_v0_2) = v2 c
          ∧ r.2.mem ((c.tc : Thread Cert.AdwIdeal.nD Cert.AdwIdeal.τ).loc Cert.AdwIdeal.main_arg0) = m ((c.tc : Thread Cert.AdwIdeal.nD Cert.AdwIdeal.τ).loc Cert.AdwIdeal.main_arg0)
          ∧ r.2.mem ((c.tc : Thread Cert.AdwIdeal.nD Cert.AdwIdeal.τ).loc Cert.AdwIdeal.main_arg1) = m ((c.tc : Thread Cert.AdwIdeal.nD Cert.AdwIdeal.τ).loc Cert.AdwIdeal.main_arg1)
          ∧ r.2.mem ((c.tc : Thread Cert.AdwIdeal.nD Cert.AdwIdeal.τ).loc Cert.AdwIdeal.main_arg2) = m ((c.tc : Thread Cert.AdwIdeal.nD Cert.AdwIdeal.τ).loc Cert.AdwIdeal.main_arg2)
          ∧ r.2.mem ((c.tc : Thread Cert.AdwIdeal.nD Cert.AdwIdeal.τ).loc Cert.AdwIdeal.main_arg3) = m ((c.tc : Thread Cert.AdwIdeal.nD Cert.AdwIdeal.τ).loc Cert.AdwIdeal.main_arg3))
      ∧ θ_run (Cert.AdwRefIdeal.defs (F := Ideal)) (onTc (τ := Cert.AdwRefIdeal.τ) (Cert.AdwRefIdeal.main (F := Ideal))) ⟨m', fun _ => 0, g'⟩ (fun r => ∀ c : Dev Cert.AdwRefIdeal.nD,
          r.2.mem ((c.tc : Thread Cert.AdwRefIdeal.nD Cert.AdwRefIdeal.τ).loc Cert.AdwRefIdeal.main_v23) = v0 c
          ∧ r.2.mem ((c.tc : Thread Cert.AdwRefIdeal.nD Cert.AdwRefIdeal.τ).loc Cert.AdwRefIdeal.main_v4) = v1 c
          ∧ r.2.mem ((c.tc : Thread Cert.AdwRefIdeal.nD Cert.AdwRefIdeal.τ).loc Cert.AdwRefIdeal.main_v10) = v2 c
          ∧ r.2.mem ((c.tc : Thread Cert.AdwRefIdeal.nD Cert.AdwRefIdeal.τ).loc Cert.AdwRefIdeal.main_arg0) = m' ((c.tc : Thread Cert.AdwRefIdeal.nD Cert.AdwRefIdeal.τ).loc Cert.AdwRefIdeal.main_arg0)
          ∧ r.2.mem ((c.tc : Thread Cert.AdwRefIdeal.nD Cert.AdwRefIdeal.τ).loc Cert.AdwRefIdeal.main_arg1) = m' ((c.tc : Thread Cert.AdwRefIdeal.nD Cert.AdwRefIdeal.τ).loc Cert.AdwRefIdeal.main_arg1)
          ∧ r.2.mem ((c.tc : Thread Cert.AdwRefIdeal.nD Cert.AdwRefIdeal.τ).loc Cert.AdwRefIdeal.main_arg2) = m' ((c.tc : Thread Cert.AdwRefIdeal.nD Cert.AdwRefIdeal.τ).loc Cert.AdwRefIdeal.main_arg2)
          ∧ r.2.mem ((c.tc : Thread Cert.AdwRefIdeal.nD Cert.AdwRefIdeal.τ).loc Cert.AdwRefIdeal.main_arg3) = m' ((c.tc : Thread Cert.AdwRefIdeal.nD Cert.AdwRefIdeal.τ).loc Cert.AdwRefIdeal.main_arg3))

def preserves_Adp_AdpIdeal : Prop :=
  True

def algebraic_AdpIdeal_AdpRefIdeal [hAdpIdeal : Cert.AdpIdeal.Facts] [hAdpRefIdeal : Cert.AdpRefIdeal.Facts] : Prop :=
  ∀ (m : (ℓ : Loc Cert.AdpIdeal.nD Cert.AdpIdeal.τ Cert.AdpIdeal.sig) → Buf (Elt Ideal) ℓ) (g : Dev Cert.AdpIdeal.nD → PrngReg)
    (m' : (ℓ : Loc Cert.AdpRefIdeal.nD Cert.AdpRefIdeal.τ Cert.AdpRefIdeal.sig) → Buf (Elt Ideal) ℓ) (g' : Dev Cert.AdpRefIdeal.nD → PrngReg), Pre_AdpIdeal m →
    (∀ c : Dev Cert.AdpIdeal.nD,
      m' ((c.tc : Thread Cert.AdpRefIdeal.nD Cert.AdpRefIdeal.τ).loc Cert.AdpRefIdeal.main_arg0) = m ((c.tc : Thread Cert.AdpIdeal.nD Cert.AdpIdeal.τ).loc Cert.AdpIdeal.main_arg0)
      ∧ m' ((c.tc : Thread Cert.AdpRefIdeal.nD Cert.AdpRefIdeal.τ).loc Cert.AdpRefIdeal.main_arg1) = m ((c.tc : Thread Cert.AdpIdeal.nD Cert.AdpIdeal.τ).loc Cert.AdpIdeal.main_arg1)
      ∧ m' ((c.tc : Thread Cert.AdpRefIdeal.nD Cert.AdpRefIdeal.τ).loc Cert.AdpRefIdeal.main_arg2) = m ((c.tc : Thread Cert.AdpIdeal.nD Cert.AdpIdeal.τ).loc Cert.AdpIdeal.main_arg2)
      ∧ m' ((c.tc : Thread Cert.AdpRefIdeal.nD Cert.AdpRefIdeal.τ).loc Cert.AdpRefIdeal.main_arg3) = m ((c.tc : Thread Cert.AdpIdeal.nD Cert.AdpIdeal.τ).loc Cert.AdpIdeal.main_arg3)) →
    ∃ (v0 : (c : Dev Cert.AdpIdeal.nD) → Buf (Elt Ideal) ((c.tc : Thread Cert.AdpIdeal.nD Cert.AdpIdeal.τ).loc Cert.AdpIdeal.main_v0_0)) (v1 : (c : Dev Cert.AdpIdeal.nD) → Buf (Elt Ideal) ((c.tc : Thread Cert.AdpIdeal.nD Cert.AdpIdeal.τ).loc Cert.AdpIdeal.main_v0_1)) (v2 : (c : Dev Cert.AdpIdeal.nD) → Buf (Elt Ideal) ((c.tc : Thread Cert.AdpIdeal.nD Cert.AdpIdeal.τ).loc Cert.AdpIdeal.main_v0_2)),
      θ_run (Cert.AdpIdeal.defs (F := Ideal)) (onTc (τ := Cert.AdpIdeal.τ) (Cert.AdpIdeal.main (F := Ideal))) ⟨m, fun _ => 0, g⟩ (fun r => ∀ c : Dev Cert.AdpIdeal.nD,
          r.2.mem ((c.tc : Thread Cert.AdpIdeal.nD Cert.AdpIdeal.τ).loc Cert.AdpIdeal.main_v0_0) = v0 c
          ∧ r.2.mem ((c.tc : Thread Cert.AdpIdeal.nD Cert.AdpIdeal.τ).loc Cert.AdpIdeal.main_v0_1) = v1 c
          ∧ r.2.mem ((c.tc : Thread Cert.AdpIdeal.nD Cert.AdpIdeal.τ).loc Cert.AdpIdeal.main_v0_2) = v2 c
          ∧ r.2.mem ((c.tc : Thread Cert.AdpIdeal.nD Cert.AdpIdeal.τ).loc Cert.AdpIdeal.main_arg0) = m ((c.tc : Thread Cert.AdpIdeal.nD Cert.AdpIdeal.τ).loc Cert.AdpIdeal.main_arg0)
          ∧ r.2.mem ((c.tc : Thread Cert.AdpIdeal.nD Cert.AdpIdeal.τ).loc Cert.AdpIdeal.main_arg1) = m ((c.tc : Thread Cert.AdpIdeal.nD Cert.AdpIdeal.τ).loc Cert.AdpIdeal.main_arg1)
          ∧ r.2.mem ((c.tc : Thread Cert.AdpIdeal.nD Cert.AdpIdeal.τ).loc Cert.AdpIdeal.main_arg2) = m ((c.tc : Thread Cert.AdpIdeal.nD Cert.AdpIdeal.τ).loc Cert.AdpIdeal.main_arg2)
          ∧ r.2.mem ((c.tc : Thread Cert.AdpIdeal.nD Cert.AdpIdeal.τ).loc Cert.AdpIdeal.main_arg3) = m ((c.tc : Thread Cert.AdpIdeal.nD Cert.AdpIdeal.τ).loc Cert.AdpIdeal.main_arg3))
      ∧ θ_run (Cert.AdpRefIdeal.defs (F := Ideal)) (onTc (τ := Cert.AdpRefIdeal.τ) (Cert.AdpRefIdeal.main (F := Ideal))) ⟨m', fun _ => 0, g'⟩ (fun r => ∀ c : Dev Cert.AdpRefIdeal.nD,
          r.2.mem ((c.tc : Thread Cert.AdpRefIdeal.nD Cert.AdpRefIdeal.τ).loc Cert.AdpRefIdeal.main_v23) = v0 c
          ∧ r.2.mem ((c.tc : Thread Cert.AdpRefIdeal.nD Cert.AdpRefIdeal.τ).loc Cert.AdpRefIdeal.main_v4) = v1 c
          ∧ r.2.mem ((c.tc : Thread Cert.AdpRefIdeal.nD Cert.AdpRefIdeal.τ).loc Cert.AdpRefIdeal.main_v10) = v2 c
          ∧ r.2.mem ((c.tc : Thread Cert.AdpRefIdeal.nD Cert.AdpRefIdeal.τ).loc Cert.AdpRefIdeal.main_arg0) = m' ((c.tc : Thread Cert.AdpRefIdeal.nD Cert.AdpRefIdeal.τ).loc Cert.AdpRefIdeal.main_arg0)
          ∧ r.2.mem ((c.tc : Thread Cert.AdpRefIdeal.nD Cert.AdpRefIdeal.τ).loc Cert.AdpRefIdeal.main_arg1) = m' ((c.tc : Thread Cert.AdpRefIdeal.nD Cert.AdpRefIdeal.τ).loc Cert.AdpRefIdeal.main_arg1)
          ∧ r.2.mem ((c.tc : Thread Cert.AdpRefIdeal.nD Cert.AdpRefIdeal.τ).loc Cert.AdpRefIdeal.main_arg2) = m' ((c.tc : Thread Cert.AdpRefIdeal.nD Cert.AdpRefIdeal.τ).loc Cert.AdpRefIdeal.main_arg2)
          ∧ r.2.mem ((c.tc : Thread Cert.AdpRefIdeal.nD Cert.AdpRefIdeal.τ).loc Cert.AdpRefIdeal.main_arg3) = m' ((c.tc : Thread Cert.AdpRefIdeal.nD Cert.AdpRefIdeal.τ).loc Cert.AdpRefIdeal.main_arg3))

def preserves_Rmsf_RmsfIdeal : Prop :=
  True

def algebraic_RmsfIdeal_RmsfRefIdeal [hRmsfIdeal : Cert.RmsfIdeal.Facts] [hRmsfRefIdeal : Cert.RmsfRefIdeal.Facts] : Prop :=
  ∀ (m : (ℓ : Loc Cert.RmsfIdeal.nD Cert.RmsfIdeal.τ Cert.RmsfIdeal.sig) → Buf (Elt Ideal) ℓ) (g : Dev Cert.RmsfIdeal.nD → PrngReg)
    (m' : (ℓ : Loc Cert.RmsfRefIdeal.nD Cert.RmsfRefIdeal.τ Cert.RmsfRefIdeal.sig) → Buf (Elt Ideal) ℓ) (g' : Dev Cert.RmsfRefIdeal.nD → PrngReg), Pre_RmsfIdeal m →
    (∀ c : Dev Cert.RmsfIdeal.nD,
      m' ((c.tc : Thread Cert.RmsfRefIdeal.nD Cert.RmsfRefIdeal.τ).loc Cert.RmsfRefIdeal.main_arg0) = m ((c.tc : Thread Cert.RmsfIdeal.nD Cert.RmsfIdeal.τ).loc Cert.RmsfIdeal.main_arg0)
      ∧ m' ((c.tc : Thread Cert.RmsfRefIdeal.nD Cert.RmsfRefIdeal.τ).loc Cert.RmsfRefIdeal.main_arg1) = m ((c.tc : Thread Cert.RmsfIdeal.nD Cert.RmsfIdeal.τ).loc Cert.RmsfIdeal.main_arg1)) →
    ∃ (v0 : (c : Dev Cert.RmsfIdeal.nD) → Buf (Elt Ideal) ((c.tc : Thread Cert.RmsfIdeal.nD Cert.RmsfIdeal.τ).loc Cert.RmsfIdeal.main_v0)),
      θ_run (Cert.RmsfIdeal.defs (F := Ideal)) (onTc (τ := Cert.RmsfIdeal.τ) (Cert.RmsfIdeal.main (F := Ideal))) ⟨m, fun _ => 0, g⟩ (fun r => ∀ c : Dev Cert.RmsfIdeal.nD,
          r.2.mem ((c.tc : Thread Cert.RmsfIdeal.nD Cert.RmsfIdeal.τ).loc Cert.RmsfIdeal.main_v0) = v0 c
          ∧ r.2.mem ((c.tc : Thread Cert.RmsfIdeal.nD Cert.RmsfIdeal.τ).loc Cert.RmsfIdeal.main_arg0) = m ((c.tc : Thread Cert.RmsfIdeal.nD Cert.RmsfIdeal.τ).loc Cert.RmsfIdeal.main_arg0)
          ∧ r.2.mem ((c.tc : Thread Cert.RmsfIdeal.nD Cert.RmsfIdeal.τ).loc Cert.RmsfIdeal.main_arg1) = m ((c.tc : Thread Cert.RmsfIdeal.nD Cert.RmsfIdeal.τ).loc Cert.RmsfIdeal.main_arg1))
      ∧ θ_run (Cert.RmsfRefIdeal.defs (F := Ideal)) (onTc (τ := Cert.RmsfRefIdeal.τ) (Cert.RmsfRefIdeal.main (F := Ideal))) ⟨m', fun _ => 0, g'⟩ (fun r => ∀ c : Dev Cert.RmsfRefIdeal.nD,
          r.2.mem ((c.tc : Thread Cert.RmsfRefIdeal.nD Cert.RmsfRefIdeal.τ).loc Cert.RmsfRefIdeal.main_v12) = v0 c
          ∧ r.2.mem ((c.tc : Thread Cert.RmsfRefIdeal.nD Cert.RmsfRefIdeal.τ).loc Cert.RmsfRefIdeal.main_arg0) = m' ((c.tc : Thread Cert.RmsfRefIdeal.nD Cert.RmsfRefIdeal.τ).loc Cert.RmsfRefIdeal.main_arg0)
          ∧ r.2.mem ((c.tc : Thread Cert.RmsfRefIdeal.nD Cert.RmsfRefIdeal.τ).loc Cert.RmsfRefIdeal.main_arg1) = m' ((c.tc : Thread Cert.RmsfRefIdeal.nD Cert.RmsfRefIdeal.τ).loc Cert.RmsfRefIdeal.main_arg1))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)) (v2 : (c : Dev Cert.LossIdeal.nD) → Buf (Elt Ideal) ((c.tc : Thread Cert.LossIdeal.nD Cert.LossIdeal.τ).loc Cert.LossIdeal.main_v0_2)) (v3 : (c : Dev Cert.LossIdeal.nD) → Buf (Elt Ideal) ((c.tc : Thread Cert.LossIdeal.nD Cert.LossIdeal.τ).loc Cert.LossIdeal.main_v0_3)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_v0_2) = v2 c
          ∧ r.2.mem ((c.tc : Thread Cert.LossIdeal.nD Cert.LossIdeal.τ).loc Cert.LossIdeal.main_v0_3) = v3 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v48) = v0 c
          ∧ r.2.mem ((c.tc : Thread Cert.LossRefIdeal.nD Cert.LossRefIdeal.τ).loc Cert.LossRefIdeal.main_v49) = v1 c
          ∧ r.2.mem ((c.tc : Thread Cert.LossRefIdeal.nD Cert.LossRefIdeal.τ).loc Cert.LossRefIdeal.main_v51) = v2 c
          ∧ r.2.mem ((c.tc : Thread Cert.LossRefIdeal.nD Cert.LossRefIdeal.τ).loc Cert.LossRefIdeal.main_v32) = v3 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def preserves_Lnf_LnfIdeal : Prop :=
  True

def algebraic_LnfIdeal_LnfRefIdeal [hLnfIdeal : Cert.LnfIdeal.Facts] [hLnfRefIdeal : Cert.LnfRefIdeal.Facts] : Prop :=
  ∀ (m : (ℓ : Loc Cert.LnfIdeal.nD Cert.LnfIdeal.τ Cert.LnfIdeal.sig) → Buf (Elt Ideal) ℓ) (g : Dev Cert.LnfIdeal.nD → PrngReg)
    (m' : (ℓ : Loc Cert.LnfRefIdeal.nD Cert.LnfRefIdeal.τ Cert.LnfRefIdeal.sig) → Buf (Elt Ideal) ℓ) (g' : Dev Cert.LnfRefIdeal.nD → PrngReg), Pre_LnfIdeal m →
    (∀ c : Dev Cert.LnfIdeal.nD,
      m' ((c.tc : Thread Cert.LnfRefIdeal.nD Cert.LnfRefIdeal.τ).loc Cert.LnfRefIdeal.main_arg0) = m ((c.tc : Thread Cert.LnfIdeal.nD Cert.LnfIdeal.τ).loc Cert.LnfIdeal.main_arg0)
      ∧ m' ((c.tc : Thread Cert.LnfRefIdeal.nD Cert.LnfRefIdeal.τ).loc Cert.LnfRefIdeal.main_arg1) = m ((c.tc : Thread Cert.LnfIdeal.nD Cert.LnfIdeal.τ).loc Cert.LnfIdeal.main_arg1)
      ∧ m' ((c.tc : Thread Cert.LnfRefIdeal.nD Cert.LnfRefIdeal.τ).loc Cert.LnfRefIdeal.main_arg2) = m ((c.tc : Thread Cert.LnfIdeal.nD Cert.LnfIdeal.τ).loc Cert.LnfIdeal.main_arg2)) →
    ∃ (v0 : (c : Dev Cert.LnfIdeal.nD) → Buf (Elt Ideal) ((c.tc : Thread Cert.LnfIdeal.nD Cert.LnfIdeal.τ).loc Cert.LnfIdeal.main_v0)),
      θ_run (Cert.LnfIdeal.defs (F := Ideal)) (onTc (τ := Cert.LnfIdeal.τ) (Cert.LnfIdeal.main (F := Ideal))) ⟨m, fun _ => 0, g⟩ (fun r => ∀ c : Dev Cert.LnfIdeal.nD,
          r.2.mem ((c.tc : Thread Cert.LnfIdeal.nD Cert.LnfIdeal.τ).loc Cert.LnfIdeal.main_v0) = v0 c
          ∧ r.2.mem ((c.tc : Thread Cert.LnfIdeal.nD Cert.LnfIdeal.τ).loc Cert.LnfIdeal.main_arg0) = m ((c.tc : Thread Cert.LnfIdeal.nD Cert.LnfIdeal.τ).loc Cert.LnfIdeal.main_arg0)
          ∧ r.2.mem ((c.tc : Thread Cert.LnfIdeal.nD Cert.LnfIdeal.τ).loc Cert.LnfIdeal.main_arg1) = m ((c.tc : Thread Cert.LnfIdeal.nD Cert.LnfIdeal.τ).loc Cert.LnfIdeal.main_arg1)
          ∧ r.2.mem ((c.tc : Thread Cert.LnfIdeal.nD Cert.LnfIdeal.τ).loc Cert.LnfIdeal.main_arg2) = m ((c.tc : Thread Cert.LnfIdeal.nD Cert.LnfIdeal.τ).loc Cert.LnfIdeal.main_arg2))
      ∧ θ_run (Cert.LnfRefIdeal.defs (F := Ideal)) (onTc (τ := Cert.LnfRefIdeal.τ) (Cert.LnfRefIdeal.main (F := Ideal))) ⟨m', fun _ => 0, g'⟩ (fun r => ∀ c : Dev Cert.LnfRefIdeal.nD,
          r.2.mem ((c.tc : Thread Cert.LnfRefIdeal.nD Cert.LnfRefIdeal.τ).loc Cert.LnfRefIdeal.main_v21) = v0 c
          ∧ r.2.mem ((c.tc : Thread Cert.LnfRefIdeal.nD Cert.LnfRefIdeal.τ).loc Cert.LnfRefIdeal.main_arg0) = m' ((c.tc : Thread Cert.LnfRefIdeal.nD Cert.LnfRefIdeal.τ).loc Cert.LnfRefIdeal.main_arg0)
          ∧ r.2.mem ((c.tc : Thread Cert.LnfRefIdeal.nD Cert.LnfRefIdeal.τ).loc Cert.LnfRefIdeal.main_arg1) = m' ((c.tc : Thread Cert.LnfRefIdeal.nD Cert.LnfRefIdeal.τ).loc Cert.LnfRefIdeal.main_arg1)
          ∧ r.2.mem ((c.tc : Thread Cert.LnfRefIdeal.nD Cert.LnfRefIdeal.τ).loc Cert.LnfRefIdeal.main_arg2) = m' ((c.tc : Thread Cert.LnfRefIdeal.nD Cert.LnfRefIdeal.τ).loc Cert.LnfRefIdeal.main_arg2))

def preserves_Lnb_LnbIdeal : Prop :=
  True

def algebraic_LnbIdeal_LnbRefIdeal_pre_finite_norm [hLnbIdeal : Cert.LnbIdeal.Facts] [hLnbRefIdeal : Cert.LnbRefIdeal.Facts] [hPre_finite_norm : Cert.Pre_finite_norm.Facts] : Prop :=
  ∀ (m : (ℓ : Loc Cert.LnbIdeal.nD Cert.LnbIdeal.τ Cert.LnbIdeal.sig) → Buf (Elt Ideal) ℓ) (g : Dev Cert.LnbIdeal.nD → PrngReg)
    (m' : (ℓ : Loc Cert.LnbRefIdeal.nD Cert.LnbRefIdeal.τ Cert.LnbRefIdeal.sig) → Buf (Elt Ideal) ℓ) (g' : Dev Cert.LnbRefIdeal.nD → PrngReg), Pre_LnbIdeal_finite_norm m →
    (∀ c : Dev Cert.LnbIdeal.nD,
      m' ((c.tc : Thread Cert.LnbRefIdeal.nD Cert.LnbRefIdeal.τ).loc Cert.LnbRefIdeal.main_arg0) = m ((c.tc : Thread Cert.LnbIdeal.nD Cert.LnbIdeal.τ).loc Cert.LnbIdeal.main_arg0)
      ∧ m' ((c.tc : Thread Cert.LnbRefIdeal.nD Cert.LnbRefIdeal.τ).loc Cert.LnbRefIdeal.main_arg1) = m ((c.tc : Thread Cert.LnbIdeal.nD Cert.LnbIdeal.τ).loc Cert.LnbIdeal.main_arg1)
      ∧ m' ((c.tc : Thread Cert.LnbRefIdeal.nD Cert.LnbRefIdeal.τ).loc Cert.LnbRefIdeal.main_arg2) = m ((c.tc : Thread Cert.LnbIdeal.nD Cert.LnbIdeal.τ).loc Cert.LnbIdeal.main_arg2)
      ∧ m' ((c.tc : Thread Cert.LnbRefIdeal.nD Cert.LnbRefIdeal.τ).loc Cert.LnbRefIdeal.main_arg3) = m ((c.tc : Thread Cert.LnbIdeal.nD Cert.LnbIdeal.τ).loc Cert.LnbIdeal.main_arg3)) →
    ∃ (v0 : (c : Dev Cert.LnbIdeal.nD) → Buf (Elt Ideal) ((c.tc : Thread Cert.LnbIdeal.nD Cert.LnbIdeal.τ).loc Cert.LnbIdeal.main_v0_0)) (v1 : (c : Dev Cert.LnbIdeal.nD) → Buf (Elt Ideal) ((c.tc : Thread Cert.LnbIdeal.nD Cert.LnbIdeal.τ).loc Cert.LnbIdeal.main_v0_1)) (v2 : (c : Dev Cert.LnbIdeal.nD) → Buf (Elt Ideal) ((c.tc : Thread Cert.LnbIdeal.nD Cert.LnbIdeal.τ).loc Cert.LnbIdeal.main_v0_2)),
      θ_run (Cert.LnbIdeal.defs (F := Ideal)) (onTc (τ := Cert.LnbIdeal.τ) (Cert.LnbIdeal.main (F := Ideal))) ⟨m, fun _ => 0, g⟩ (fun r => ∀ c : Dev Cert.LnbIdeal.nD,
          r.2.mem ((c.tc : Thread Cert.LnbIdeal.nD Cert.LnbIdeal.τ).loc Cert.LnbIdeal.main_v0_0) = v0 c
          ∧ r.2.mem ((c.tc : Thread Cert.LnbIdeal.nD Cert.LnbIdeal.τ).loc Cert.LnbIdeal.main_v0_1) = v1 c
          ∧ r.2.mem ((c.tc : Thread Cert.LnbIdeal.nD Cert.LnbIdeal.τ).loc Cert.LnbIdeal.main_v0_2) = v2 c
          ∧ r.2.mem ((c.tc : Thread Cert.LnbIdeal.nD Cert.LnbIdeal.τ).loc Cert.LnbIdeal.main_arg0) = m ((c.tc : Thread Cert.LnbIdeal.nD Cert.LnbIdeal.τ).loc Cert.LnbIdeal.main_arg0)
          ∧ r.2.mem ((c.tc : Thread Cert.LnbIdeal.nD Cert.LnbIdeal.τ).loc Cert.LnbIdeal.main_arg1) = m ((c.tc : Thread Cert.LnbIdeal.nD Cert.LnbIdeal.τ).loc Cert.LnbIdeal.main_arg1)
          ∧ r.2.mem ((c.tc : Thread Cert.LnbIdeal.nD Cert.LnbIdeal.τ).loc Cert.LnbIdeal.main_arg2) = m ((c.tc : Thread Cert.LnbIdeal.nD Cert.LnbIdeal.τ).loc Cert.LnbIdeal.main_arg2)
          ∧ r.2.mem ((c.tc : Thread Cert.LnbIdeal.nD Cert.LnbIdeal.τ).loc Cert.LnbIdeal.main_arg3) = m ((c.tc : Thread Cert.LnbIdeal.nD Cert.LnbIdeal.τ).loc Cert.LnbIdeal.main_arg3))
      ∧ θ_run (Cert.LnbRefIdeal.defs (F := Ideal)) (onTc (τ := Cert.LnbRefIdeal.τ) (Cert.LnbRefIdeal.main (F := Ideal))) ⟨m', fun _ => 0, g'⟩ (fun r => ∀ c : Dev Cert.LnbRefIdeal.nD,
          r.2.mem ((c.tc : Thread Cert.LnbRefIdeal.nD Cert.LnbRefIdeal.τ).loc Cert.LnbRefIdeal.main_v54) = v0 c
          ∧ r.2.mem ((c.tc : Thread Cert.LnbRefIdeal.nD Cert.LnbRefIdeal.τ).loc Cert.LnbRefIdeal.main_v30) = v1 c
          ∧ r.2.mem ((c.tc : Thread Cert.LnbRefIdeal.nD Cert.LnbRefIdeal.τ).loc Cert.LnbRefIdeal.main_v27) = v2 c
          ∧ r.2.mem ((c.tc : Thread Cert.LnbRefIdeal.nD Cert.LnbRefIdeal.τ).loc Cert.LnbRefIdeal.main_arg0) = m' ((c.tc : Thread Cert.LnbRefIdeal.nD Cert.LnbRefIdeal.τ).loc Cert.LnbRefIdeal.main_arg0)
          ∧ r.2.mem ((c.tc : Thread Cert.LnbRefIdeal.nD Cert.LnbRefIdeal.τ).loc Cert.LnbRefIdeal.main_arg1) = m' ((c.tc : Thread Cert.LnbRefIdeal.nD Cert.LnbRefIdeal.τ).loc Cert.LnbRefIdeal.main_arg1)
          ∧ r.2.mem ((c.tc : Thread Cert.LnbRefIdeal.nD Cert.LnbRefIdeal.τ).loc Cert.LnbRefIdeal.main_arg2) = m' ((c.tc : Thread Cert.LnbRefIdeal.nD Cert.LnbRefIdeal.τ).loc Cert.LnbRefIdeal.main_arg2)
          ∧ r.2.mem ((c.tc : Thread Cert.LnbRefIdeal.nD Cert.LnbRefIdeal.τ).loc Cert.LnbRefIdeal.main_arg3) = m' ((c.tc : Thread Cert.LnbRefIdeal.nD Cert.LnbRefIdeal.τ).loc Cert.LnbRefIdeal.main_arg3))

def preserves_Firstf_FirstfIdeal : Prop :=
  True

def algebraic_FirstfIdeal_FirstfRefIdeal [hFirstfIdeal : Cert.FirstfIdeal.Facts] [hFirstfRefIdeal : Cert.FirstfRefIdeal.Facts] : Prop :=
  ∀ (m : (ℓ : Loc Cert.FirstfIdeal.nD Cert.FirstfIdeal.τ Cert.FirstfIdeal.sig) → Buf (Elt Ideal) ℓ) (g : Dev Cert.FirstfIdeal.nD → PrngReg)
    (m' : (ℓ : Loc Cert.FirstfRefIdeal.nD Cert.FirstfRefIdeal.τ Cert.FirstfRefIdeal.sig) → Buf (Elt Ideal) ℓ) (g' : Dev Cert.FirstfRefIdeal.nD → PrngReg), Pre_FirstfIdeal m →
    (∀ c : Dev Cert.FirstfIdeal.nD,
      m' ((c.tc : Thread Cert.FirstfRefIdeal.nD Cert.FirstfRefIdeal.τ).loc Cert.FirstfRefIdeal.main_arg0) = m ((c.tc : Thread Cert.FirstfIdeal.nD Cert.FirstfIdeal.τ).loc Cert.FirstfIdeal.main_arg0)
      ∧ m' ((c.tc : Thread Cert.FirstfRefIdeal.nD Cert.FirstfRefIdeal.τ).loc Cert.FirstfRefIdeal.main_arg1) = m ((c.tc : Thread Cert.FirstfIdeal.nD Cert.FirstfIdeal.τ).loc Cert.FirstfIdeal.main_arg1)
      ∧ m' ((c.tc : Thread Cert.FirstfRefIdeal.nD Cert.FirstfRefIdeal.τ).loc Cert.FirstfRefIdeal.main_arg2) = m ((c.tc : Thread Cert.FirstfIdeal.nD Cert.FirstfIdeal.τ).loc Cert.FirstfIdeal.main_arg2)
      ∧ m' ((c.tc : Thread Cert.FirstfRefIdeal.nD Cert.FirstfRefIdeal.τ).loc Cert.FirstfRefIdeal.main_arg3) = m ((c.tc : Thread Cert.FirstfIdeal.nD Cert.FirstfIdeal.τ).loc Cert.FirstfIdeal.main_arg3)
      ∧ m' ((c.tc : Thread Cert.FirstfRefIdeal.nD Cert.FirstfRefIdeal.τ).loc Cert.FirstfRefIdeal.main_arg4) = m ((c.tc : Thread Cert.FirstfIdeal.nD Cert.FirstfIdeal.τ).loc Cert.FirstfIdeal.main_arg4)
      ∧ m' ((c.tc : Thread Cert.FirstfRefIdeal.nD Cert.FirstfRefIdeal.τ).loc Cert.FirstfRefIdeal.main_arg5) = m ((c.tc : Thread Cert.FirstfIdeal.nD Cert.FirstfIdeal.τ).loc Cert.FirstfIdeal.main_arg5)
      ∧ m' ((c.tc : Thread Cert.FirstfRefIdeal.nD Cert.FirstfRefIdeal.τ).loc Cert.FirstfRefIdeal.main_arg6) = m ((c.tc : Thread Cert.FirstfIdeal.nD Cert.FirstfIdeal.τ).loc Cert.FirstfIdeal.main_arg6)
      ∧ m' ((c.tc : Thread Cert.FirstfRefIdeal.nD Cert.FirstfRefIdeal.τ).loc Cert.FirstfRefIdeal.main_arg7) = m ((c.tc : Thread Cert.FirstfIdeal.nD Cert.FirstfIdeal.τ).loc Cert.FirstfIdeal.main_arg7)
      ∧ m' ((c.tc : Thread Cert.FirstfRefIdeal.nD Cert.FirstfRefIdeal.τ).loc Cert.FirstfRefIdeal.main_arg8) = m ((c.tc : Thread Cert.FirstfIdeal.nD Cert.FirstfIdeal.τ).loc Cert.FirstfIdeal.main_arg8)
      ∧ m' ((c.tc : Thread Cert.FirstfRefIdeal.nD Cert.FirstfRefIdeal.τ).loc Cert.FirstfRefIdeal.main_arg9) = m ((c.tc : Thread Cert.FirstfIdeal.nD Cert.FirstfIdeal.τ).loc Cert.FirstfIdeal.main_arg9)) →
    ∃ (v0 : (c : Dev Cert.FirstfIdeal.nD) → Buf (Elt Ideal) ((c.tc : Thread Cert.FirstfIdeal.nD Cert.FirstfIdeal.τ).loc Cert.FirstfIdeal.main_v0_0)) (v1 : (c : Dev Cert.FirstfIdeal.nD) → Buf (Elt Ideal) ((c.tc : Thread Cert.FirstfIdeal.nD Cert.FirstfIdeal.τ).loc Cert.FirstfIdeal.main_v0_1)) (v2 : (c : Dev Cert.FirstfIdeal.nD) → Buf (Elt Ideal) ((c.tc : Thread Cert.FirstfIdeal.nD Cert.FirstfIdeal.τ).loc Cert.FirstfIdeal.main_v0_2)) (v3 : (c : Dev Cert.FirstfIdeal.nD) → Buf (Elt Ideal) ((c.tc : Thread Cert.FirstfIdeal.nD Cert.FirstfIdeal.τ).loc Cert.FirstfIdeal.main_v0_3)),
      θ_run (Cert.FirstfIdeal.defs (F := Ideal)) (onTc (τ := Cert.FirstfIdeal.τ) (Cert.FirstfIdeal.main (F := Ideal))) ⟨m, fun _ => 0, g⟩ (fun r => ∀ c : Dev Cert.FirstfIdeal.nD,
          r.2.mem ((c.tc : Thread Cert.FirstfIdeal.nD Cert.FirstfIdeal.τ).loc Cert.FirstfIdeal.main_v0_0) = v0 c
          ∧ r.2.mem ((c.tc : Thread Cert.FirstfIdeal.nD Cert.FirstfIdeal.τ).loc Cert.FirstfIdeal.main_v0_1) = v1 c
          ∧ r.2.mem ((c.tc : Thread Cert.FirstfIdeal.nD Cert.FirstfIdeal.τ).loc Cert.FirstfIdeal.main_v0_2) = v2 c
          ∧ r.2.mem ((c.tc : Thread Cert.FirstfIdeal.nD Cert.FirstfIdeal.τ).loc Cert.FirstfIdeal.main_v0_3) = v3 c
          ∧ r.2.mem ((c.tc : Thread Cert.FirstfIdeal.nD Cert.FirstfIdeal.τ).loc Cert.FirstfIdeal.main_arg0) = m ((c.tc : Thread Cert.FirstfIdeal.nD Cert.FirstfIdeal.τ).loc Cert.FirstfIdeal.main_arg0)
          ∧ r.2.mem ((c.tc : Thread Cert.FirstfIdeal.nD Cert.FirstfIdeal.τ).loc Cert.FirstfIdeal.main_arg1) = m ((c.tc : Thread Cert.FirstfIdeal.nD Cert.FirstfIdeal.τ).loc Cert.FirstfIdeal.main_arg1)
          ∧ r.2.mem ((c.tc : Thread Cert.FirstfIdeal.nD Cert.FirstfIdeal.τ).loc Cert.FirstfIdeal.main_arg2) = m ((c.tc : Thread Cert.FirstfIdeal.nD Cert.FirstfIdeal.τ).loc Cert.FirstfIdeal.main_arg2)
          ∧ r.2.mem ((c.tc : Thread Cert.FirstfIdeal.nD Cert.FirstfIdeal.τ).loc Cert.FirstfIdeal.main_arg3) = m ((c.tc : Thread Cert.FirstfIdeal.nD Cert.FirstfIdeal.τ).loc Cert.FirstfIdeal.main_arg3)
          ∧ r.2.mem ((c.tc : Thread Cert.FirstfIdeal.nD Cert.FirstfIdeal.τ).loc Cert.FirstfIdeal.main_arg4) = m ((c.tc : Thread Cert.FirstfIdeal.nD Cert.FirstfIdeal.τ).loc Cert.FirstfIdeal.main_arg4)
          ∧ r.2.mem ((c.tc : Thread Cert.FirstfIdeal.nD Cert.FirstfIdeal.τ).loc Cert.FirstfIdeal.main_arg5) = m ((c.tc : Thread Cert.FirstfIdeal.nD Cert.FirstfIdeal.τ).loc Cert.FirstfIdeal.main_arg5)
          ∧ r.2.mem ((c.tc : Thread Cert.FirstfIdeal.nD Cert.FirstfIdeal.τ).loc Cert.FirstfIdeal.main_arg6) = m ((c.tc : Thread Cert.FirstfIdeal.nD Cert.FirstfIdeal.τ).loc Cert.FirstfIdeal.main_arg6)
          ∧ r.2.mem ((c.tc : Thread Cert.FirstfIdeal.nD Cert.FirstfIdeal.τ).loc Cert.FirstfIdeal.main_arg7) = m ((c.tc : Thread Cert.FirstfIdeal.nD Cert.FirstfIdeal.τ).loc Cert.FirstfIdeal.main_arg7)
          ∧ r.2.mem ((c.tc : Thread Cert.FirstfIdeal.nD Cert.FirstfIdeal.τ).loc Cert.FirstfIdeal.main_arg8) = m ((c.tc : Thread Cert.FirstfIdeal.nD Cert.FirstfIdeal.τ).loc Cert.FirstfIdeal.main_arg8)
          ∧ r.2.mem ((c.tc : Thread Cert.FirstfIdeal.nD Cert.FirstfIdeal.τ).loc Cert.FirstfIdeal.main_arg9) = m ((c.tc : Thread Cert.FirstfIdeal.nD Cert.FirstfIdeal.τ).loc Cert.FirstfIdeal.main_arg9))
      ∧ θ_run (Cert.FirstfRefIdeal.defs (F := Ideal)) (onTc (τ := Cert.FirstfRefIdeal.τ) (Cert.FirstfRefIdeal.main (F := Ideal))) ⟨m', fun _ => 0, g'⟩ (fun r => ∀ c : Dev Cert.FirstfRefIdeal.nD,
          r.2.mem ((c.tc : Thread Cert.FirstfRefIdeal.nD Cert.FirstfRefIdeal.τ).loc Cert.FirstfRefIdeal.main_v42) = v0 c
          ∧ r.2.mem ((c.tc : Thread Cert.FirstfRefIdeal.nD Cert.FirstfRefIdeal.τ).loc Cert.FirstfRefIdeal.main_v47) = v1 c
          ∧ r.2.mem ((c.tc : Thread Cert.FirstfRefIdeal.nD Cert.FirstfRefIdeal.τ).loc Cert.FirstfRefIdeal.main_v52) = v2 c
          ∧ r.2.mem ((c.tc : Thread Cert.FirstfRefIdeal.nD Cert.FirstfRefIdeal.τ).loc Cert.FirstfRefIdeal.main_v57) = v3 c
          ∧ r.2.mem ((c.tc : Thread Cert.FirstfRefIdeal.nD Cert.FirstfRefIdeal.τ).loc Cert.FirstfRefIdeal.main_arg0) = m' ((c.tc : Thread Cert.FirstfRefIdeal.nD Cert.FirstfRefIdeal.τ).loc Cert.FirstfRefIdeal.main_arg0)
          ∧ r.2.mem ((c.tc : Thread Cert.FirstfRefIdeal.nD Cert.FirstfRefIdeal.τ).loc Cert.FirstfRefIdeal.main_arg1) = m' ((c.tc : Thread Cert.FirstfRefIdeal.nD Cert.FirstfRefIdeal.τ).loc Cert.FirstfRefIdeal.main_arg1)
          ∧ r.2.mem ((c.tc : Thread Cert.FirstfRefIdeal.nD Cert.FirstfRefIdeal.τ).loc Cert.FirstfRefIdeal.main_arg2) = m' ((c.tc : Thread Cert.FirstfRefIdeal.nD Cert.FirstfRefIdeal.τ).loc Cert.FirstfRefIdeal.main_arg2)
          ∧ r.2.mem ((c.tc : Thread Cert.FirstfRefIdeal.nD Cert.FirstfRefIdeal.τ).loc Cert.FirstfRefIdeal.main_arg3) = m' ((c.tc : Thread Cert.FirstfRefIdeal.nD Cert.FirstfRefIdeal.τ).loc Cert.FirstfRefIdeal.main_arg3)
          ∧ r.2.mem ((c.tc : Thread Cert.FirstfRefIdeal.nD Cert.FirstfRefIdeal.τ).loc Cert.FirstfRefIdeal.main_arg4) = m' ((c.tc : Thread Cert.FirstfRefIdeal.nD Cert.FirstfRefIdeal.τ).loc Cert.FirstfRefIdeal.main_arg4)
          ∧ r.2.mem ((c.tc : Thread Cert.FirstfRefIdeal.nD Cert.FirstfRefIdeal.τ).loc Cert.FirstfRefIdeal.main_arg5) = m' ((c.tc : Thread Cert.FirstfRefIdeal.nD Cert.FirstfRefIdeal.τ).loc Cert.FirstfRefIdeal.main_arg5)
          ∧ r.2.mem ((c.tc : Thread Cert.FirstfRefIdeal.nD Cert.FirstfRefIdeal.τ).loc Cert.FirstfRefIdeal.main_arg6) = m' ((c.tc : Thread Cert.FirstfRefIdeal.nD Cert.FirstfRefIdeal.τ).loc Cert.FirstfRefIdeal.main_arg6)
          ∧ r.2.mem ((c.tc : Thread Cert.FirstfRefIdeal.nD Cert.FirstfRefIdeal.τ).loc Cert.FirstfRefIdeal.main_arg7) = m' ((c.tc : Thread Cert.FirstfRefIdeal.nD Cert.FirstfRefIdeal.τ).loc Cert.FirstfRefIdeal.main_arg7)
          ∧ r.2.mem ((c.tc : Thread Cert.FirstfRefIdeal.nD Cert.FirstfRefIdeal.τ).loc Cert.FirstfRefIdeal.main_arg8) = m' ((c.tc : Thread Cert.FirstfRefIdeal.nD Cert.FirstfRefIdeal.τ).loc Cert.FirstfRefIdeal.main_arg8)
          ∧ r.2.mem ((c.tc : Thread Cert.FirstfRefIdeal.nD Cert.FirstfRefIdeal.τ).loc Cert.FirstfRefIdeal.main_arg9) = m' ((c.tc : Thread Cert.FirstfRefIdeal.nD Cert.FirstfRefIdeal.τ).loc Cert.FirstfRefIdeal.main_arg9))

def preserves_Lasto_LastoIdeal : Prop :=
  True

def algebraic_LastoIdeal_LastoRefIdeal [hLastoIdeal : Cert.LastoIdeal.Facts] [hLastoRefIdeal : Cert.LastoRefIdeal.Facts] : Prop :=
  ∀ (m : (ℓ : Loc Cert.LastoIdeal.nD Cert.LastoIdeal.τ Cert.LastoIdeal.sig) → Buf (Elt Ideal) ℓ) (g : Dev Cert.LastoIdeal.nD → PrngReg)
    (m' : (ℓ : Loc Cert.LastoRefIdeal.nD Cert.LastoRefIdeal.τ Cert.LastoRefIdeal.sig) → Buf (Elt Ideal) ℓ) (g' : Dev Cert.LastoRefIdeal.nD → PrngReg), Pre_LastoIdeal m →
    (∀ c : Dev Cert.LastoIdeal.nD,
      m' ((c.tc : Thread Cert.LastoRefIdeal.nD Cert.LastoRefIdeal.τ).loc Cert.LastoRefIdeal.main_arg0) = m ((c.tc : Thread Cert.LastoIdeal.nD Cert.LastoIdeal.τ).loc Cert.LastoIdeal.main_arg0)
      ∧ m' ((c.tc : Thread Cert.LastoRefIdeal.nD Cert.LastoRefIdeal.τ).loc Cert.LastoRefIdeal.main_arg1) = m ((c.tc : Thread Cert.LastoIdeal.nD Cert.LastoIdeal.τ).loc Cert.LastoIdeal.main_arg1)
      ∧ m' ((c.tc : Thread Cert.LastoRefIdeal.nD Cert.LastoRefIdeal.τ).loc Cert.LastoRefIdeal.main_arg2) = m ((c.tc : Thread Cert.LastoIdeal.nD Cert.LastoIdeal.τ).loc Cert.LastoIdeal.main_arg2)
      ∧ m' ((c.tc : Thread Cert.LastoRefIdeal.nD Cert.LastoRefIdeal.τ).loc Cert.LastoRefIdeal.main_arg3) = m ((c.tc : Thread Cert.LastoIdeal.nD Cert.LastoIdeal.τ).loc Cert.LastoIdeal.main_arg3)
      ∧ m' ((c.tc : Thread Cert.LastoRefIdeal.nD Cert.LastoRefIdeal.τ).loc Cert.LastoRefIdeal.main_arg4) = m ((c.tc : Thread Cert.LastoIdeal.nD Cert.LastoIdeal.τ).loc Cert.LastoIdeal.main_arg4)
      ∧ m' ((c.tc : Thread Cert.LastoRefIdeal.nD Cert.LastoRefIdeal.τ).loc Cert.LastoRefIdeal.main_arg5) = m ((c.tc : Thread Cert.LastoIdeal.nD Cert.LastoIdeal.τ).loc Cert.LastoIdeal.main_arg5)) →
    ∃ (v0 : (c : Dev Cert.LastoIdeal.nD) → Buf (Elt Ideal) ((c.tc : Thread Cert.LastoIdeal.nD Cert.LastoIdeal.τ).loc Cert.LastoIdeal.main_v2)) (v1 : (c : Dev Cert.LastoIdeal.nD) → Buf (Elt Ideal) ((c.tc : Thread Cert.LastoIdeal.nD Cert.LastoIdeal.τ).loc Cert.LastoIdeal.main_v4)) (v2 : (c : Dev Cert.LastoIdeal.nD) → Buf (Elt Ideal) ((c.tc : Thread Cert.LastoIdeal.nD Cert.LastoIdeal.τ).loc Cert.LastoIdeal.main_v6)) (v3 : (c : Dev Cert.LastoIdeal.nD) → Buf (Elt Ideal) ((c.tc : Thread Cert.LastoIdeal.nD Cert.LastoIdeal.τ).loc Cert.LastoIdeal.main_v8)),
      θ_run (Cert.LastoIdeal.defs (F := Ideal)) (onTc (τ := Cert.LastoIdeal.τ) (Cert.LastoIdeal.main (F := Ideal))) ⟨m, fun _ => 0, g⟩ (fun r => ∀ c : Dev Cert.LastoIdeal.nD,
          r.2.mem ((c.tc : Thread Cert.LastoIdeal.nD Cert.LastoIdeal.τ).loc Cert.LastoIdeal.main_v2) = v0 c
          ∧ r.2.mem ((c.tc : Thread Cert.LastoIdeal.nD Cert.LastoIdeal.τ).loc Cert.LastoIdeal.main_v4) = v1 c
          ∧ r.2.mem ((c.tc : Thread Cert.LastoIdeal.nD Cert.LastoIdeal.τ).loc Cert.LastoIdeal.main_v6) = v2 c
          ∧ r.2.mem ((c.tc : Thread Cert.LastoIdeal.nD Cert.LastoIdeal.τ).loc Cert.LastoIdeal.main_v8) = v3 c
          ∧ r.2.mem ((c.tc : Thread Cert.LastoIdeal.nD Cert.LastoIdeal.τ).loc Cert.LastoIdeal.main_arg0) = m ((c.tc : Thread Cert.LastoIdeal.nD Cert.LastoIdeal.τ).loc Cert.LastoIdeal.main_arg0)
          ∧ r.2.mem ((c.tc : Thread Cert.LastoIdeal.nD Cert.LastoIdeal.τ).loc Cert.LastoIdeal.main_arg1) = m ((c.tc : Thread Cert.LastoIdeal.nD Cert.LastoIdeal.τ).loc Cert.LastoIdeal.main_arg1)
          ∧ r.2.mem ((c.tc : Thread Cert.LastoIdeal.nD Cert.LastoIdeal.τ).loc Cert.LastoIdeal.main_arg2) = m ((c.tc : Thread Cert.LastoIdeal.nD Cert.LastoIdeal.τ).loc Cert.LastoIdeal.main_arg2)
          ∧ r.2.mem ((c.tc : Thread Cert.LastoIdeal.nD Cert.LastoIdeal.τ).loc Cert.LastoIdeal.main_arg3) = m ((c.tc : Thread Cert.LastoIdeal.nD Cert.LastoIdeal.τ).loc Cert.LastoIdeal.main_arg3)
          ∧ r.2.mem ((c.tc : Thread Cert.LastoIdeal.nD Cert.LastoIdeal.τ).loc Cert.LastoIdeal.main_arg4) = m ((c.tc : Thread Cert.LastoIdeal.nD Cert.LastoIdeal.τ).loc Cert.LastoIdeal.main_arg4)
          ∧ r.2.mem ((c.tc : Thread Cert.LastoIdeal.nD Cert.LastoIdeal.τ).loc Cert.LastoIdeal.main_arg5) = m ((c.tc : Thread Cert.LastoIdeal.nD Cert.LastoIdeal.τ).loc Cert.LastoIdeal.main_arg5))
      ∧ θ_run (Cert.LastoRefIdeal.defs (F := Ideal)) (onTc (τ := Cert.LastoRefIdeal.τ) (Cert.LastoRefIdeal.main (F := Ideal))) ⟨m', fun _ => 0, g'⟩ (fun r => ∀ c : Dev Cert.LastoRefIdeal.nD,
          r.2.mem ((c.tc : Thread Cert.LastoRefIdeal.nD Cert.LastoRefIdeal.τ).loc Cert.LastoRefIdeal.main_v13) = v0 c
          ∧ r.2.mem ((c.tc : Thread Cert.LastoRefIdeal.nD Cert.LastoRefIdeal.τ).loc Cert.LastoRefIdeal.main_v37) = v1 c
          ∧ r.2.mem ((c.tc : Thread Cert.LastoRefIdeal.nD Cert.LastoRefIdeal.τ).loc Cert.LastoRefIdeal.main_v18) = v2 c
          ∧ r.2.mem ((c.tc : Thread Cert.LastoRefIdeal.nD Cert.LastoRefIdeal.τ).loc Cert.LastoRefIdeal.main_v24) = v3 c
          ∧ r.2.mem ((c.tc : Thread Cert.LastoRefIdeal.nD Cert.LastoRefIdeal.τ).loc Cert.LastoRefIdeal.main_arg0) = m' ((c.tc : Thread Cert.LastoRefIdeal.nD Cert.LastoRefIdeal.τ).loc Cert.LastoRefIdeal.main_arg0)
          ∧ r.2.mem ((c.tc : Thread Cert.LastoRefIdeal.nD Cert.LastoRefIdeal.τ).loc Cert.LastoRefIdeal.main_arg1) = m' ((c.tc : Thread Cert.LastoRefIdeal.nD Cert.LastoRefIdeal.τ).loc Cert.LastoRefIdeal.main_arg1)
          ∧ r.2.mem ((c.tc : Thread Cert.LastoRefIdeal.nD Cert.LastoRefIdeal.τ).loc Cert.LastoRefIdeal.main_arg2) = m' ((c.tc : Thread Cert.LastoRefIdeal.nD Cert.LastoRefIdeal.τ).loc Cert.LastoRefIdeal.main_arg2)
          ∧ r.2.mem ((c.tc : Thread Cert.LastoRefIdeal.nD Cert.LastoRefIdeal.τ).loc Cert.LastoRefIdeal.main_arg3) = m' ((c.tc : Thread Cert.LastoRefIdeal.nD Cert.LastoRefIdeal.τ).loc Cert.LastoRefIdeal.main_arg3)
          ∧ r.2.mem ((c.tc : Thread Cert.LastoRefIdeal.nD Cert.LastoRefIdeal.τ).loc Cert.LastoRefIdeal.main_arg4) = m' ((c.tc : Thread Cert.LastoRefIdeal.nD Cert.LastoRefIdeal.τ).loc Cert.LastoRefIdeal.main_arg4)
          ∧ r.2.mem ((c.tc : Thread Cert.LastoRefIdeal.nD Cert.LastoRefIdeal.τ).loc Cert.LastoRefIdeal.main_arg5) = m' ((c.tc : Thread Cert.LastoRefIdeal.nD Cert.LastoRefIdeal.τ).loc Cert.LastoRefIdeal.main_arg5))

def preserves_Firsto_FirstoIdeal : Prop :=
  True

def algebraic_FirstoIdeal_FirstoRefIdeal [hFirstoIdeal : Cert.FirstoIdeal.Facts] [hFirstoRefIdeal : Cert.FirstoRefIdeal.Facts] : Prop :=
  ∀ (m : (ℓ : Loc Cert.FirstoIdeal.nD Cert.FirstoIdeal.τ Cert.FirstoIdeal.sig) → Buf (Elt Ideal) ℓ) (g : Dev Cert.FirstoIdeal.nD → PrngReg)
    (m' : (ℓ : Loc Cert.FirstoRefIdeal.nD Cert.FirstoRefIdeal.τ Cert.FirstoRefIdeal.sig) → Buf (Elt Ideal) ℓ) (g' : Dev Cert.FirstoRefIdeal.nD → PrngReg), Pre_FirstoIdeal m →
    (∀ c : Dev Cert.FirstoIdeal.nD,
      m' ((c.tc : Thread Cert.FirstoRefIdeal.nD Cert.FirstoRefIdeal.τ).loc Cert.FirstoRefIdeal.main_arg0) = m ((c.tc : Thread Cert.FirstoIdeal.nD Cert.FirstoIdeal.τ).loc Cert.FirstoIdeal.main_arg0)
      ∧ m' ((c.tc : Thread Cert.FirstoRefIdeal.nD Cert.FirstoRefIdeal.τ).loc Cert.FirstoRefIdeal.main_arg1) = m ((c.tc : Thread Cert.FirstoIdeal.nD Cert.FirstoIdeal.τ).loc Cert.FirstoIdeal.main_arg1)
      ∧ m' ((c.tc : Thread Cert.FirstoRefIdeal.nD Cert.FirstoRefIdeal.τ).loc Cert.FirstoRefIdeal.main_arg2) = m ((c.tc : Thread Cert.FirstoIdeal.nD Cert.FirstoIdeal.τ).loc Cert.FirstoIdeal.main_arg2)
      ∧ m' ((c.tc : Thread Cert.FirstoRefIdeal.nD Cert.FirstoRefIdeal.τ).loc Cert.FirstoRefIdeal.main_arg3) = m ((c.tc : Thread Cert.FirstoIdeal.nD Cert.FirstoIdeal.τ).loc Cert.FirstoIdeal.main_arg3)
      ∧ m' ((c.tc : Thread Cert.FirstoRefIdeal.nD Cert.FirstoRefIdeal.τ).loc Cert.FirstoRefIdeal.main_arg4) = m ((c.tc : Thread Cert.FirstoIdeal.nD Cert.FirstoIdeal.τ).loc Cert.FirstoIdeal.main_arg4)
      ∧ m' ((c.tc : Thread Cert.FirstoRefIdeal.nD Cert.FirstoRefIdeal.τ).loc Cert.FirstoRefIdeal.main_arg5) = m ((c.tc : Thread Cert.FirstoIdeal.nD Cert.FirstoIdeal.τ).loc Cert.FirstoIdeal.main_arg5)
      ∧ m' ((c.tc : Thread Cert.FirstoRefIdeal.nD Cert.FirstoRefIdeal.τ).loc Cert.FirstoRefIdeal.main_arg6) = m ((c.tc : Thread Cert.FirstoIdeal.nD Cert.FirstoIdeal.τ).loc Cert.FirstoIdeal.main_arg6)
      ∧ m' ((c.tc : Thread Cert.FirstoRefIdeal.nD Cert.FirstoRefIdeal.τ).loc Cert.FirstoRefIdeal.main_arg7) = m ((c.tc : Thread Cert.FirstoIdeal.nD Cert.FirstoIdeal.τ).loc Cert.FirstoIdeal.main_arg7)
      ∧ m' ((c.tc : Thread Cert.FirstoRefIdeal.nD Cert.FirstoRefIdeal.τ).loc Cert.FirstoRefIdeal.main_arg8) = m ((c.tc : Thread Cert.FirstoIdeal.nD Cert.FirstoIdeal.τ).loc Cert.FirstoIdeal.main_arg8)
      ∧ m' ((c.tc : Thread Cert.FirstoRefIdeal.nD Cert.FirstoRefIdeal.τ).loc Cert.FirstoRefIdeal.main_arg9) = m ((c.tc : Thread Cert.FirstoIdeal.nD Cert.FirstoIdeal.τ).loc Cert.FirstoIdeal.main_arg9)) →
    ∃ (v0 : (c : Dev Cert.FirstoIdeal.nD) → Buf (Elt Ideal) ((c.tc : Thread Cert.FirstoIdeal.nD Cert.FirstoIdeal.τ).loc Cert.FirstoIdeal.main_v0_0)) (v1 : (c : Dev Cert.FirstoIdeal.nD) → Buf (Elt Ideal) ((c.tc : Thread Cert.FirstoIdeal.nD Cert.FirstoIdeal.τ).loc Cert.FirstoIdeal.main_v0_1)) (v2 : (c : Dev Cert.FirstoIdeal.nD) → Buf (Elt Ideal) ((c.tc : Thread Cert.FirstoIdeal.nD Cert.FirstoIdeal.τ).loc Cert.FirstoIdeal.main_v0_2)) (v3 : (c : Dev Cert.FirstoIdeal.nD) → Buf (Elt Ideal) ((c.tc : Thread Cert.FirstoIdeal.nD Cert.FirstoIdeal.τ).loc Cert.FirstoIdeal.main_v0_3)),
      θ_run (Cert.FirstoIdeal.defs (F := Ideal)) (onTc (τ := Cert.FirstoIdeal.τ) (Cert.FirstoIdeal.main (F := Ideal))) ⟨m, fun _ => 0, g⟩ (fun r => ∀ c : Dev Cert.FirstoIdeal.nD,
          r.2.mem ((c.tc : Thread Cert.FirstoIdeal.nD Cert.FirstoIdeal.τ).loc Cert.FirstoIdeal.main_v0_0) = v0 c
          ∧ r.2.mem ((c.tc : Thread Cert.FirstoIdeal.nD Cert.FirstoIdeal.τ).loc Cert.FirstoIdeal.main_v0_1) = v1 c
          ∧ r.2.mem ((c.tc : Thread Cert.FirstoIdeal.nD Cert.FirstoIdeal.τ).loc Cert.FirstoIdeal.main_v0_2) = v2 c
          ∧ r.2.mem ((c.tc : Thread Cert.FirstoIdeal.nD Cert.FirstoIdeal.τ).loc Cert.FirstoIdeal.main_v0_3) = v3 c
          ∧ r.2.mem ((c.tc : Thread Cert.FirstoIdeal.nD Cert.FirstoIdeal.τ).loc Cert.FirstoIdeal.main_arg0) = m ((c.tc : Thread Cert.FirstoIdeal.nD Cert.FirstoIdeal.τ).loc Cert.FirstoIdeal.main_arg0)
          ∧ r.2.mem ((c.tc : Thread Cert.FirstoIdeal.nD Cert.FirstoIdeal.τ).loc Cert.FirstoIdeal.main_arg1) = m ((c.tc : Thread Cert.FirstoIdeal.nD Cert.FirstoIdeal.τ).loc Cert.FirstoIdeal.main_arg1)
          ∧ r.2.mem ((c.tc : Thread Cert.FirstoIdeal.nD Cert.FirstoIdeal.τ).loc Cert.FirstoIdeal.main_arg2) = m ((c.tc : Thread Cert.FirstoIdeal.nD Cert.FirstoIdeal.τ).loc Cert.FirstoIdeal.main_arg2)
          ∧ r.2.mem ((c.tc : Thread Cert.FirstoIdeal.nD Cert.FirstoIdeal.τ).loc Cert.FirstoIdeal.main_arg3) = m ((c.tc : Thread Cert.FirstoIdeal.nD Cert.FirstoIdeal.τ).loc Cert.FirstoIdeal.main_arg3)
          ∧ r.2.mem ((c.tc : Thread Cert.FirstoIdeal.nD Cert.FirstoIdeal.τ).loc Cert.FirstoIdeal.main_arg4) = m ((c.tc : Thread Cert.FirstoIdeal.nD Cert.FirstoIdeal.τ).loc Cert.FirstoIdeal.main_arg4)
          ∧ r.2.mem ((c.tc : Thread Cert.FirstoIdeal.nD Cert.FirstoIdeal.τ).loc Cert.FirstoIdeal.main_arg5) = m ((c.tc : Thread Cert.FirstoIdeal.nD Cert.FirstoIdeal.τ).loc Cert.FirstoIdeal.main_arg5)
          ∧ r.2.mem ((c.tc : Thread Cert.FirstoIdeal.nD Cert.FirstoIdeal.τ).loc Cert.FirstoIdeal.main_arg6) = m ((c.tc : Thread Cert.FirstoIdeal.nD Cert.FirstoIdeal.τ).loc Cert.FirstoIdeal.main_arg6)
          ∧ r.2.mem ((c.tc : Thread Cert.FirstoIdeal.nD Cert.FirstoIdeal.τ).loc Cert.FirstoIdeal.main_arg7) = m ((c.tc : Thread Cert.FirstoIdeal.nD Cert.FirstoIdeal.τ).loc Cert.FirstoIdeal.main_arg7)
          ∧ r.2.mem ((c.tc : Thread Cert.FirstoIdeal.nD Cert.FirstoIdeal.τ).loc Cert.FirstoIdeal.main_arg8) = m ((c.tc : Thread Cert.FirstoIdeal.nD Cert.FirstoIdeal.τ).loc Cert.FirstoIdeal.main_arg8)
          ∧ r.2.mem ((c.tc : Thread Cert.FirstoIdeal.nD Cert.FirstoIdeal.τ).loc Cert.FirstoIdeal.main_arg9) = m ((c.tc : Thread Cert.FirstoIdeal.nD Cert.FirstoIdeal.τ).loc Cert.FirstoIdeal.main_arg9))
      ∧ θ_run (Cert.FirstoRefIdeal.defs (F := Ideal)) (onTc (τ := Cert.FirstoRefIdeal.τ) (Cert.FirstoRefIdeal.main (F := Ideal))) ⟨m', fun _ => 0, g'⟩ (fun r => ∀ c : Dev Cert.FirstoRefIdeal.nD,
          r.2.mem ((c.tc : Thread Cert.FirstoRefIdeal.nD Cert.FirstoRefIdeal.τ).loc Cert.FirstoRefIdeal.main_v42) = v0 c
          ∧ r.2.mem ((c.tc : Thread Cert.FirstoRefIdeal.nD Cert.FirstoRefIdeal.τ).loc Cert.FirstoRefIdeal.main_v47) = v1 c
          ∧ r.2.mem ((c.tc : Thread Cert.FirstoRefIdeal.nD Cert.FirstoRefIdeal.τ).loc Cert.FirstoRefIdeal.main_v52) = v2 c
          ∧ r.2.mem ((c.tc : Thread Cert.FirstoRefIdeal.nD Cert.FirstoRefIdeal.τ).loc Cert.FirstoRefIdeal.main_v57) = v3 c
          ∧ r.2.mem ((c.tc : Thread Cert.FirstoRefIdeal.nD Cert.FirstoRefIdeal.τ).loc Cert.FirstoRefIdeal.main_arg0) = m' ((c.tc : Thread Cert.FirstoRefIdeal.nD Cert.FirstoRefIdeal.τ).loc Cert.FirstoRefIdeal.main_arg0)
          ∧ r.2.mem ((c.tc : Thread Cert.FirstoRefIdeal.nD Cert.FirstoRefIdeal.τ).loc Cert.FirstoRefIdeal.main_arg1) = m' ((c.tc : Thread Cert.FirstoRefIdeal.nD Cert.FirstoRefIdeal.τ).loc Cert.FirstoRefIdeal.main_arg1)
          ∧ r.2.mem ((c.tc : Thread Cert.FirstoRefIdeal.nD Cert.FirstoRefIdeal.τ).loc Cert.FirstoRefIdeal.main_arg2) = m' ((c.tc : Thread Cert.FirstoRefIdeal.nD Cert.FirstoRefIdeal.τ).loc Cert.FirstoRefIdeal.main_arg2)
          ∧ r.2.mem ((c.tc : Thread Cert.FirstoRefIdeal.nD Cert.FirstoRefIdeal.τ).loc Cert.FirstoRefIdeal.main_arg3) = m' ((c.tc : Thread Cert.FirstoRefIdeal.nD Cert.FirstoRefIdeal.τ).loc Cert.FirstoRefIdeal.main_arg3)
          ∧ r.2.mem ((c.tc : Thread Cert.FirstoRefIdeal.nD Cert.FirstoRefIdeal.τ).loc Cert.FirstoRefIdeal.main_arg4) = m' ((c.tc : Thread Cert.FirstoRefIdeal.nD Cert.FirstoRefIdeal.τ).loc Cert.FirstoRefIdeal.main_arg4)
          ∧ r.2.mem ((c.tc : Thread Cert.FirstoRefIdeal.nD Cert.FirstoRefIdeal.τ).loc Cert.FirstoRefIdeal.main_arg5) = m' ((c.tc : Thread Cert.FirstoRefIdeal.nD Cert.FirstoRefIdeal.τ).loc Cert.FirstoRefIdeal.main_arg5)
          ∧ r.2.mem ((c.tc : Thread Cert.FirstoRefIdeal.nD Cert.FirstoRefIdeal.τ).loc Cert.FirstoRefIdeal.main_arg6) = m' ((c.tc : Thread Cert.FirstoRefIdeal.nD Cert.FirstoRefIdeal.τ).loc Cert.FirstoRefIdeal.main_arg6)
          ∧ r.2.mem ((c.tc : Thread Cert.FirstoRefIdeal.nD Cert.FirstoRefIdeal.τ).loc Cert.FirstoRefIdeal.main_arg7) = m' ((c.tc : Thread Cert.FirstoRefIdeal.nD Cert.FirstoRefIdeal.τ).loc Cert.FirstoRefIdeal.main_arg7)
          ∧ r.2.mem ((c.tc : Thread Cert.FirstoRefIdeal.nD Cert.FirstoRefIdeal.τ).loc Cert.FirstoRefIdeal.main_arg8) = m' ((c.tc : Thread Cert.FirstoRefIdeal.nD Cert.FirstoRefIdeal.τ).loc Cert.FirstoRefIdeal.main_arg8)
          ∧ r.2.mem ((c.tc : Thread Cert.FirstoRefIdeal.nD Cert.FirstoRefIdeal.τ).loc Cert.FirstoRefIdeal.main_arg9) = m' ((c.tc : Thread Cert.FirstoRefIdeal.nD Cert.FirstoRefIdeal.τ).loc Cert.FirstoRefIdeal.main_arg9))

def preserves_Lasti_LastiIdeal : Prop :=
  True

def algebraic_LastiIdeal_LastiRefIdeal [hLastiIdeal : Cert.LastiIdeal.Facts] [hLastiRefIdeal : Cert.LastiRefIdeal.Facts] : Prop :=
  ∀ (m : (ℓ : Loc Cert.LastiIdeal.nD Cert.LastiIdeal.τ Cert.LastiIdeal.sig) → Buf (Elt Ideal) ℓ) (g : Dev Cert.LastiIdeal.nD → PrngReg)
    (m' : (ℓ : Loc Cert.LastiRefIdeal.nD Cert.LastiRefIdeal.τ Cert.LastiRefIdeal.sig) → Buf (Elt Ideal) ℓ) (g' : Dev Cert.LastiRefIdeal.nD → PrngReg), Pre_LastiIdeal m →
    (∀ c : Dev Cert.LastiIdeal.nD,
      m' ((c.tc : Thread Cert.LastiRefIdeal.nD Cert.LastiRefIdeal.τ).loc Cert.LastiRefIdeal.main_arg0) = m ((c.tc : Thread Cert.LastiIdeal.nD Cert.LastiIdeal.τ).loc Cert.LastiIdeal.main_arg0)
      ∧ m' ((c.tc : Thread Cert.LastiRefIdeal.nD Cert.LastiRefIdeal.τ).loc Cert.LastiRefIdeal.main_arg1) = m ((c.tc : Thread Cert.LastiIdeal.nD Cert.LastiIdeal.τ).loc Cert.LastiIdeal.main_arg1)
      ∧ m' ((c.tc : Thread Cert.LastiRefIdeal.nD Cert.LastiRefIdeal.τ).loc Cert.LastiRefIdeal.main_arg2) = m ((c.tc : Thread Cert.LastiIdeal.nD Cert.LastiIdeal.τ).loc Cert.LastiIdeal.main_arg2)
      ∧ m' ((c.tc : Thread Cert.LastiRefIdeal.nD Cert.LastiRefIdeal.τ).loc Cert.LastiRefIdeal.main_arg3) = m ((c.tc : Thread Cert.LastiIdeal.nD Cert.LastiIdeal.τ).loc Cert.LastiIdeal.main_arg3)
      ∧ m' ((c.tc : Thread Cert.LastiRefIdeal.nD Cert.LastiRefIdeal.τ).loc Cert.LastiRefIdeal.main_arg4) = m ((c.tc : Thread Cert.LastiIdeal.nD Cert.LastiIdeal.τ).loc Cert.LastiIdeal.main_arg4)
      ∧ m' ((c.tc : Thread Cert.LastiRefIdeal.nD Cert.LastiRefIdeal.τ).loc Cert.LastiRefIdeal.main_arg5) = m ((c.tc : Thread Cert.LastiIdeal.nD Cert.LastiIdeal.τ).loc Cert.LastiIdeal.main_arg5)) →
    ∃ (v0 : (c : Dev Cert.LastiIdeal.nD) → Buf (Elt Ideal) ((c.tc : Thread Cert.LastiIdeal.nD Cert.LastiIdeal.τ).loc Cert.LastiIdeal.main_v2)) (v1 : (c : Dev Cert.LastiIdeal.nD) → Buf (Elt Ideal) ((c.tc : Thread Cert.LastiIdeal.nD Cert.LastiIdeal.τ).loc Cert.LastiIdeal.main_v4)) (v2 : (c : Dev Cert.LastiIdeal.nD) → Buf (Elt Ideal) ((c.tc : Thread Cert.LastiIdeal.nD Cert.LastiIdeal.τ).loc Cert.LastiIdeal.main_v6)) (v3 : (c : Dev Cert.LastiIdeal.nD) → Buf (Elt Ideal) ((c.tc : Thread Cert.LastiIdeal.nD Cert.LastiIdeal.τ).loc Cert.LastiIdeal.main_v8)),
      θ_run (Cert.LastiIdeal.defs (F := Ideal)) (onTc (τ := Cert.LastiIdeal.τ) (Cert.LastiIdeal.main (F := Ideal))) ⟨m, fun _ => 0, g⟩ (fun r => ∀ c : Dev Cert.LastiIdeal.nD,
          r.2.mem ((c.tc : Thread Cert.LastiIdeal.nD Cert.LastiIdeal.τ).loc Cert.LastiIdeal.main_v2) = v0 c
          ∧ r.2.mem ((c.tc : Thread Cert.LastiIdeal.nD Cert.LastiIdeal.τ).loc Cert.LastiIdeal.main_v4) = v1 c
          ∧ r.2.mem ((c.tc : Thread Cert.LastiIdeal.nD Cert.LastiIdeal.τ).loc Cert.LastiIdeal.main_v6) = v2 c
          ∧ r.2.mem ((c.tc : Thread Cert.LastiIdeal.nD Cert.LastiIdeal.τ).loc Cert.LastiIdeal.main_v8) = v3 c
          ∧ r.2.mem ((c.tc : Thread Cert.LastiIdeal.nD Cert.LastiIdeal.τ).loc Cert.LastiIdeal.main_arg0) = m ((c.tc : Thread Cert.LastiIdeal.nD Cert.LastiIdeal.τ).loc Cert.LastiIdeal.main_arg0)
          ∧ r.2.mem ((c.tc : Thread Cert.LastiIdeal.nD Cert.LastiIdeal.τ).loc Cert.LastiIdeal.main_arg1) = m ((c.tc : Thread Cert.LastiIdeal.nD Cert.LastiIdeal.τ).loc Cert.LastiIdeal.main_arg1)
          ∧ r.2.mem ((c.tc : Thread Cert.LastiIdeal.nD Cert.LastiIdeal.τ).loc Cert.LastiIdeal.main_arg2) = m ((c.tc : Thread Cert.LastiIdeal.nD Cert.LastiIdeal.τ).loc Cert.LastiIdeal.main_arg2)
          ∧ r.2.mem ((c.tc : Thread Cert.LastiIdeal.nD Cert.LastiIdeal.τ).loc Cert.LastiIdeal.main_arg3) = m ((c.tc : Thread Cert.LastiIdeal.nD Cert.LastiIdeal.τ).loc Cert.LastiIdeal.main_arg3)
          ∧ r.2.mem ((c.tc : Thread Cert.LastiIdeal.nD Cert.LastiIdeal.τ).loc Cert.LastiIdeal.main_arg4) = m ((c.tc : Thread Cert.LastiIdeal.nD Cert.LastiIdeal.τ).loc Cert.LastiIdeal.main_arg4)
          ∧ r.2.mem ((c.tc : Thread Cert.LastiIdeal.nD Cert.LastiIdeal.τ).loc Cert.LastiIdeal.main_arg5) = m ((c.tc : Thread Cert.LastiIdeal.nD Cert.LastiIdeal.τ).loc Cert.LastiIdeal.main_arg5))
      ∧ θ_run (Cert.LastiRefIdeal.defs (F := Ideal)) (onTc (τ := Cert.LastiRefIdeal.τ) (Cert.LastiRefIdeal.main (F := Ideal))) ⟨m', fun _ => 0, g'⟩ (fun r => ∀ c : Dev Cert.LastiRefIdeal.nD,
          r.2.mem ((c.tc : Thread Cert.LastiRefIdeal.nD Cert.LastiRefIdeal.τ).loc Cert.LastiRefIdeal.main_v13) = v0 c
          ∧ r.2.mem ((c.tc : Thread Cert.LastiRefIdeal.nD Cert.LastiRefIdeal.τ).loc Cert.LastiRefIdeal.main_v37) = v1 c
          ∧ r.2.mem ((c.tc : Thread Cert.LastiRefIdeal.nD Cert.LastiRefIdeal.τ).loc Cert.LastiRefIdeal.main_v18) = v2 c
          ∧ r.2.mem ((c.tc : Thread Cert.LastiRefIdeal.nD Cert.LastiRefIdeal.τ).loc Cert.LastiRefIdeal.main_v24) = v3 c
          ∧ r.2.mem ((c.tc : Thread Cert.LastiRefIdeal.nD Cert.LastiRefIdeal.τ).loc Cert.LastiRefIdeal.main_arg0) = m' ((c.tc : Thread Cert.LastiRefIdeal.nD Cert.LastiRefIdeal.τ).loc Cert.LastiRefIdeal.main_arg0)
          ∧ r.2.mem ((c.tc : Thread Cert.LastiRefIdeal.nD Cert.LastiRefIdeal.τ).loc Cert.LastiRefIdeal.main_arg1) = m' ((c.tc : Thread Cert.LastiRefIdeal.nD Cert.LastiRefIdeal.τ).loc Cert.LastiRefIdeal.main_arg1)
          ∧ r.2.mem ((c.tc : Thread Cert.LastiRefIdeal.nD Cert.LastiRefIdeal.τ).loc Cert.LastiRefIdeal.main_arg2) = m' ((c.tc : Thread Cert.LastiRefIdeal.nD Cert.LastiRefIdeal.τ).loc Cert.LastiRefIdeal.main_arg2)
          ∧ r.2.mem ((c.tc : Thread Cert.LastiRefIdeal.nD Cert.LastiRefIdeal.τ).loc Cert.LastiRefIdeal.main_arg3) = m' ((c.tc : Thread Cert.LastiRefIdeal.nD Cert.LastiRefIdeal.τ).loc Cert.LastiRefIdeal.main_arg3)
          ∧ r.2.mem ((c.tc : Thread Cert.LastiRefIdeal.nD Cert.LastiRefIdeal.τ).loc Cert.LastiRefIdeal.main_arg4) = m' ((c.tc : Thread Cert.LastiRefIdeal.nD Cert.LastiRefIdeal.τ).loc Cert.LastiRefIdeal.main_arg4)
          ∧ r.2.mem ((c.tc : Thread Cert.LastiRefIdeal.nD Cert.LastiRefIdeal.τ).loc Cert.LastiRefIdeal.main_arg5) = m' ((c.tc : Thread Cert.LastiRefIdeal.nD Cert.LastiRefIdeal.τ).loc Cert.LastiRefIdeal.main_arg5))

def preserves_Firsti_FirstiIdeal : Prop :=
  True

def algebraic_FirstiIdeal_FirstiRefIdeal [hFirstiIdeal : Cert.FirstiIdeal.Facts] [hFirstiRefIdeal : Cert.FirstiRefIdeal.Facts] : Prop :=
  ∀ (m : (ℓ : Loc Cert.FirstiIdeal.nD Cert.FirstiIdeal.τ Cert.FirstiIdeal.sig) → Buf (Elt Ideal) ℓ) (g : Dev Cert.FirstiIdeal.nD → PrngReg)
    (m' : (ℓ : Loc Cert.FirstiRefIdeal.nD Cert.FirstiRefIdeal.τ Cert.FirstiRefIdeal.sig) → Buf (Elt Ideal) ℓ) (g' : Dev Cert.FirstiRefIdeal.nD → PrngReg), Pre_FirstiIdeal m →
    (∀ c : Dev Cert.FirstiIdeal.nD,
      m' ((c.tc : Thread Cert.FirstiRefIdeal.nD Cert.FirstiRefIdeal.τ).loc Cert.FirstiRefIdeal.main_arg0) = m ((c.tc : Thread Cert.FirstiIdeal.nD Cert.FirstiIdeal.τ).loc Cert.FirstiIdeal.main_arg0)
      ∧ m' ((c.tc : Thread Cert.FirstiRefIdeal.nD Cert.FirstiRefIdeal.τ).loc Cert.FirstiRefIdeal.main_arg1) = m ((c.tc : Thread Cert.FirstiIdeal.nD Cert.FirstiIdeal.τ).loc Cert.FirstiIdeal.main_arg1)
      ∧ m' ((c.tc : Thread Cert.FirstiRefIdeal.nD Cert.FirstiRefIdeal.τ).loc Cert.FirstiRefIdeal.main_arg2) = m ((c.tc : Thread Cert.FirstiIdeal.nD Cert.FirstiIdeal.τ).loc Cert.FirstiIdeal.main_arg2)
      ∧ m' ((c.tc : Thread Cert.FirstiRefIdeal.nD Cert.FirstiRefIdeal.τ).loc Cert.FirstiRefIdeal.main_arg3) = m ((c.tc : Thread Cert.FirstiIdeal.nD Cert.FirstiIdeal.τ).loc Cert.FirstiIdeal.main_arg3)
      ∧ m' ((c.tc : Thread Cert.FirstiRefIdeal.nD Cert.FirstiRefIdeal.τ).loc Cert.FirstiRefIdeal.main_arg4) = m ((c.tc : Thread Cert.FirstiIdeal.nD Cert.FirstiIdeal.τ).loc Cert.FirstiIdeal.main_arg4)
      ∧ m' ((c.tc : Thread Cert.FirstiRefIdeal.nD Cert.FirstiRefIdeal.τ).loc Cert.FirstiRefIdeal.main_arg5) = m ((c.tc : Thread Cert.FirstiIdeal.nD Cert.FirstiIdeal.τ).loc Cert.FirstiIdeal.main_arg5)
      ∧ m' ((c.tc : Thread Cert.FirstiRefIdeal.nD Cert.FirstiRefIdeal.τ).loc Cert.FirstiRefIdeal.main_arg6) = m ((c.tc : Thread Cert.FirstiIdeal.nD Cert.FirstiIdeal.τ).loc Cert.FirstiIdeal.main_arg6)
      ∧ m' ((c.tc : Thread Cert.FirstiRefIdeal.nD Cert.FirstiRefIdeal.τ).loc Cert.FirstiRefIdeal.main_arg7) = m ((c.tc : Thread Cert.FirstiIdeal.nD Cert.FirstiIdeal.τ).loc Cert.FirstiIdeal.main_arg7)
      ∧ m' ((c.tc : Thread Cert.FirstiRefIdeal.nD Cert.FirstiRefIdeal.τ).loc Cert.FirstiRefIdeal.main_arg8) = m ((c.tc : Thread Cert.FirstiIdeal.nD Cert.FirstiIdeal.τ).loc Cert.FirstiIdeal.main_arg8)
      ∧ m' ((c.tc : Thread Cert.FirstiRefIdeal.nD Cert.FirstiRefIdeal.τ).loc Cert.FirstiRefIdeal.main_arg9) = m ((c.tc : Thread Cert.FirstiIdeal.nD Cert.FirstiIdeal.τ).loc Cert.FirstiIdeal.main_arg9)) →
    ∃ (v0 : (c : Dev Cert.FirstiIdeal.nD) → Buf (Elt Ideal) ((c.tc : Thread Cert.FirstiIdeal.nD Cert.FirstiIdeal.τ).loc Cert.FirstiIdeal.main_v0_0)) (v1 : (c : Dev Cert.FirstiIdeal.nD) → Buf (Elt Ideal) ((c.tc : Thread Cert.FirstiIdeal.nD Cert.FirstiIdeal.τ).loc Cert.FirstiIdeal.main_v0_1)) (v2 : (c : Dev Cert.FirstiIdeal.nD) → Buf (Elt Ideal) ((c.tc : Thread Cert.FirstiIdeal.nD Cert.FirstiIdeal.τ).loc Cert.FirstiIdeal.main_v0_2)) (v3 : (c : Dev Cert.FirstiIdeal.nD) → Buf (Elt Ideal) ((c.tc : Thread Cert.FirstiIdeal.nD Cert.FirstiIdeal.τ).loc Cert.FirstiIdeal.main_v0_3)),
      θ_run (Cert.FirstiIdeal.defs (F := Ideal)) (onTc (τ := Cert.FirstiIdeal.τ) (Cert.FirstiIdeal.main (F := Ideal))) ⟨m, fun _ => 0, g⟩ (fun r => ∀ c : Dev Cert.FirstiIdeal.nD,
          r.2.mem ((c.tc : Thread Cert.FirstiIdeal.nD Cert.FirstiIdeal.τ).loc Cert.FirstiIdeal.main_v0_0) = v0 c
          ∧ r.2.mem ((c.tc : Thread Cert.FirstiIdeal.nD Cert.FirstiIdeal.τ).loc Cert.FirstiIdeal.main_v0_1) = v1 c
          ∧ r.2.mem ((c.tc : Thread Cert.FirstiIdeal.nD Cert.FirstiIdeal.τ).loc Cert.FirstiIdeal.main_v0_2) = v2 c
          ∧ r.2.mem ((c.tc : Thread Cert.FirstiIdeal.nD Cert.FirstiIdeal.τ).loc Cert.FirstiIdeal.main_v0_3) = v3 c
          ∧ r.2.mem ((c.tc : Thread Cert.FirstiIdeal.nD Cert.FirstiIdeal.τ).loc Cert.FirstiIdeal.main_arg0) = m ((c.tc : Thread Cert.FirstiIdeal.nD Cert.FirstiIdeal.τ).loc Cert.FirstiIdeal.main_arg0)
          ∧ r.2.mem ((c.tc : Thread Cert.FirstiIdeal.nD Cert.FirstiIdeal.τ).loc Cert.FirstiIdeal.main_arg1) = m ((c.tc : Thread Cert.FirstiIdeal.nD Cert.FirstiIdeal.τ).loc Cert.FirstiIdeal.main_arg1)
          ∧ r.2.mem ((c.tc : Thread Cert.FirstiIdeal.nD Cert.FirstiIdeal.τ).loc Cert.FirstiIdeal.main_arg2) = m ((c.tc : Thread Cert.FirstiIdeal.nD Cert.FirstiIdeal.τ).loc Cert.FirstiIdeal.main_arg2)
          ∧ r.2.mem ((c.tc : Thread Cert.FirstiIdeal.nD Cert.FirstiIdeal.τ).loc Cert.FirstiIdeal.main_arg3) = m ((c.tc : Thread Cert.FirstiIdeal.nD Cert.FirstiIdeal.τ).loc Cert.FirstiIdeal.main_arg3)
          ∧ r.2.mem ((c.tc : Thread Cert.FirstiIdeal.nD Cert.FirstiIdeal.τ).loc Cert.FirstiIdeal.main_arg4) = m ((c.tc : Thread Cert.FirstiIdeal.nD Cert.FirstiIdeal.τ).loc Cert.FirstiIdeal.main_arg4)
          ∧ r.2.mem ((c.tc : Thread Cert.FirstiIdeal.nD Cert.FirstiIdeal.τ).loc Cert.FirstiIdeal.main_arg5) = m ((c.tc : Thread Cert.FirstiIdeal.nD Cert.FirstiIdeal.τ).loc Cert.FirstiIdeal.main_arg5)
          ∧ r.2.mem ((c.tc : Thread Cert.FirstiIdeal.nD Cert.FirstiIdeal.τ).loc Cert.FirstiIdeal.main_arg6) = m ((c.tc : Thread Cert.FirstiIdeal.nD Cert.FirstiIdeal.τ).loc Cert.FirstiIdeal.main_arg6)
          ∧ r.2.mem ((c.tc : Thread Cert.FirstiIdeal.nD Cert.FirstiIdeal.τ).loc Cert.FirstiIdeal.main_arg7) = m ((c.tc : Thread Cert.FirstiIdeal.nD Cert.FirstiIdeal.τ).loc Cert.FirstiIdeal.main_arg7)
          ∧ r.2.mem ((c.tc : Thread Cert.FirstiIdeal.nD Cert.FirstiIdeal.τ).loc Cert.FirstiIdeal.main_arg8) = m ((c.tc : Thread Cert.FirstiIdeal.nD Cert.FirstiIdeal.τ).loc Cert.FirstiIdeal.main_arg8)
          ∧ r.2.mem ((c.tc : Thread Cert.FirstiIdeal.nD Cert.FirstiIdeal.τ).loc Cert.FirstiIdeal.main_arg9) = m ((c.tc : Thread Cert.FirstiIdeal.nD Cert.FirstiIdeal.τ).loc Cert.FirstiIdeal.main_arg9))
      ∧ θ_run (Cert.FirstiRefIdeal.defs (F := Ideal)) (onTc (τ := Cert.FirstiRefIdeal.τ) (Cert.FirstiRefIdeal.main (F := Ideal))) ⟨m', fun _ => 0, g'⟩ (fun r => ∀ c : Dev Cert.FirstiRefIdeal.nD,
          r.2.mem ((c.tc : Thread Cert.FirstiRefIdeal.nD Cert.FirstiRefIdeal.τ).loc Cert.FirstiRefIdeal.main_v42) = v0 c
          ∧ r.2.mem ((c.tc : Thread Cert.FirstiRefIdeal.nD Cert.FirstiRefIdeal.τ).loc Cert.FirstiRefIdeal.main_v47) = v1 c
          ∧ r.2.mem ((c.tc : Thread Cert.FirstiRefIdeal.nD Cert.FirstiRefIdeal.τ).loc Cert.FirstiRefIdeal.main_v52) = v2 c
          ∧ r.2.mem ((c.tc : Thread Cert.FirstiRefIdeal.nD Cert.FirstiRefIdeal.τ).loc Cert.FirstiRefIdeal.main_v57) = v3 c
          ∧ r.2.mem ((c.tc : Thread Cert.FirstiRefIdeal.nD Cert.FirstiRefIdeal.τ).loc Cert.FirstiRefIdeal.main_arg0) = m' ((c.tc : Thread Cert.FirstiRefIdeal.nD Cert.FirstiRefIdeal.τ).loc Cert.FirstiRefIdeal.main_arg0)
          ∧ r.2.mem ((c.tc : Thread Cert.FirstiRefIdeal.nD Cert.FirstiRefIdeal.τ).loc Cert.FirstiRefIdeal.main_arg1) = m' ((c.tc : Thread Cert.FirstiRefIdeal.nD Cert.FirstiRefIdeal.τ).loc Cert.FirstiRefIdeal.main_arg1)
          ∧ r.2.mem ((c.tc : Thread Cert.FirstiRefIdeal.nD Cert.FirstiRefIdeal.τ).loc Cert.FirstiRefIdeal.main_arg2) = m' ((c.tc : Thread Cert.FirstiRefIdeal.nD Cert.FirstiRefIdeal.τ).loc Cert.FirstiRefIdeal.main_arg2)
          ∧ r.2.mem ((c.tc : Thread Cert.FirstiRefIdeal.nD Cert.FirstiRefIdeal.τ).loc Cert.FirstiRefIdeal.main_arg3) = m' ((c.tc : Thread Cert.FirstiRefIdeal.nD Cert.FirstiRefIdeal.τ).loc Cert.FirstiRefIdeal.main_arg3)
          ∧ r.2.mem ((c.tc : Thread Cert.FirstiRefIdeal.nD Cert.FirstiRefIdeal.τ).loc Cert.FirstiRefIdeal.main_arg4) = m' ((c.tc : Thread Cert.FirstiRefIdeal.nD Cert.FirstiRefIdeal.τ).loc Cert.FirstiRefIdeal.main_arg4)
          ∧ r.2.mem ((c.tc : Thread Cert.FirstiRefIdeal.nD Cert.FirstiRefIdeal.τ).loc Cert.FirstiRefIdeal.main_arg5) = m' ((c.tc : Thread Cert.FirstiRefIdeal.nD Cert.FirstiRefIdeal.τ).loc Cert.FirstiRefIdeal.main_arg5)
          ∧ r.2.mem ((c.tc : Thread Cert.FirstiRefIdeal.nD Cert.FirstiRefIdeal.τ).loc Cert.FirstiRefIdeal.main_arg6) = m' ((c.tc : Thread Cert.FirstiRefIdeal.nD Cert.FirstiRefIdeal.τ).loc Cert.FirstiRefIdeal.main_arg6)
          ∧ r.2.mem ((c.tc : Thread Cert.FirstiRefIdeal.nD Cert.FirstiRefIdeal.τ).loc Cert.FirstiRefIdeal.main_arg7) = m' ((c.tc : Thread Cert.FirstiRefIdeal.nD Cert.FirstiRefIdeal.τ).loc Cert.FirstiRefIdeal.main_arg7)
          ∧ r.2.mem ((c.tc : Thread Cert.FirstiRefIdeal.nD Cert.FirstiRefIdeal.τ).loc Cert.FirstiRefIdeal.main_arg8) = m' ((c.tc : Thread Cert.FirstiRefIdeal.nD Cert.FirstiRefIdeal.τ).loc Cert.FirstiRefIdeal.main_arg8)
          ∧ r.2.mem ((c.tc : Thread Cert.FirstiRefIdeal.nD Cert.FirstiRefIdeal.τ).loc Cert.FirstiRefIdeal.main_arg9) = m' ((c.tc : Thread Cert.FirstiRefIdeal.nD Cert.FirstiRefIdeal.τ).loc Cert.FirstiRefIdeal.main_arg9))

def preserves_Sums_SumsIdeal : Prop :=
  True

def algebraic_SumsIdeal_SumsRefIdeal [hSumsIdeal : Cert.SumsIdeal.Facts] [hSumsRefIdeal : Cert.SumsRefIdeal.Facts] : Prop :=
  ∀ (m : (ℓ : Loc Cert.SumsIdeal.nD Cert.SumsIdeal.τ Cert.SumsIdeal.sig) → Buf (Elt Ideal) ℓ) (g : Dev Cert.SumsIdeal.nD → PrngReg)
    (m' : (ℓ : Loc Cert.SumsRefIdeal.nD Cert.SumsRefIdeal.τ Cert.SumsRefIdeal.sig) → Buf (Elt Ideal) ℓ) (g' : Dev Cert.SumsRefIdeal.nD → PrngReg), Pre_SumsIdeal m →
    (∀ c : Dev Cert.SumsIdeal.nD,
      m' ((c.tc : Thread Cert.SumsRefIdeal.nD Cert.SumsRefIdeal.τ).loc Cert.SumsRefIdeal.main_arg0) = m ((c.tc : Thread Cert.SumsIdeal.nD Cert.SumsIdeal.τ).loc Cert.SumsIdeal.main_arg0)) →
    ∃ (v0 : (c : Dev Cert.SumsIdeal.nD) → Buf (Elt Ideal) ((c.tc : Thread Cert.SumsIdeal.nD Cert.SumsIdeal.τ).loc Cert.SumsIdeal.main_v0)),
      θ_run (Cert.SumsIdeal.defs (F := Ideal)) (onTc (τ := Cert.SumsIdeal.τ) (Cert.SumsIdeal.main (F := Ideal))) ⟨m, fun _ => 0, g⟩ (fun r => ∀ c : Dev Cert.SumsIdeal.nD,
          r.2.mem ((c.tc : Thread Cert.SumsIdeal.nD Cert.SumsIdeal.τ).loc Cert.SumsIdeal.main_v0) = v0 c
          ∧ r.2.mem ((c.tc : Thread Cert.SumsIdeal.nD Cert.SumsIdeal.τ).loc Cert.SumsIdeal.main_arg0) = m ((c.tc : Thread Cert.SumsIdeal.nD Cert.SumsIdeal.τ).loc Cert.SumsIdeal.main_arg0))
      ∧ θ_run (Cert.SumsRefIdeal.defs (F := Ideal)) (onTc (τ := Cert.SumsRefIdeal.τ) (Cert.SumsRefIdeal.main (F := Ideal))) ⟨m', fun _ => 0, g'⟩ (fun r => ∀ c : Dev Cert.SumsRefIdeal.nD,
          r.2.mem ((c.tc : Thread Cert.SumsRefIdeal.nD Cert.SumsRefIdeal.τ).loc Cert.SumsRefIdeal.main_v0) = v0 c
          ∧ r.2.mem ((c.tc : Thread Cert.SumsRefIdeal.nD Cert.SumsRefIdeal.τ).loc Cert.SumsRefIdeal.main_arg0) = m' ((c.tc : Thread Cert.SumsRefIdeal.nD Cert.SumsRefIdeal.τ).loc Cert.SumsRefIdeal.main_arg0))

def preserves_Rsum_RsumIdeal : Prop :=
  True

def algebraic_RsumIdeal_RsumRefIdeal [hRsumIdeal : Cert.RsumIdeal.Facts] [hRsumRefIdeal : Cert.RsumRefIdeal.Facts] : Prop :=
  ∀ (m : (ℓ : Loc Cert.RsumIdeal.nD Cert.RsumIdeal.τ Cert.RsumIdeal.sig) → Buf (Elt Ideal) ℓ) (g : Dev Cert.RsumIdeal.nD → PrngReg)
    (m' : (ℓ : Loc Cert.RsumRefIdeal.nD Cert.RsumRefIdeal.τ Cert.RsumRefIdeal.sig) → Buf (Elt Ideal) ℓ) (g' : Dev Cert.RsumRefIdeal.nD → PrngReg), Pre_RsumIdeal m →
    (∀ c : Dev Cert.RsumIdeal.nD,
      m' ((c.tc : Thread Cert.RsumRefIdeal.nD Cert.RsumRefIdeal.τ).loc Cert.RsumRefIdeal.main_arg0) = m ((c.tc : Thread Cert.RsumIdeal.nD Cert.RsumIdeal.τ).loc Cert.RsumIdeal.main_arg0)
      ∧ m' ((c.tc : Thread Cert.RsumRefIdeal.nD Cert.RsumRefIdeal.τ).loc Cert.RsumRefIdeal.main_arg1) = m ((c.tc : Thread Cert.RsumIdeal.nD Cert.RsumIdeal.τ).loc Cert.RsumIdeal.main_arg1)
      ∧ m' ((c.tc : Thread Cert.RsumRefIdeal.nD Cert.RsumRefIdeal.τ).loc Cert.RsumRefIdeal.main_arg2) = m ((c.tc : Thread Cert.RsumIdeal.nD Cert.RsumIdeal.τ).loc Cert.RsumIdeal.main_arg2)) →
    ∃ (v0 : (c : Dev Cert.RsumIdeal.nD) → Buf (Elt Ideal) ((c.tc : Thread Cert.RsumIdeal.nD Cert.RsumIdeal.τ).loc Cert.RsumIdeal.main_v0)),
      θ_run (Cert.RsumIdeal.defs (F := Ideal)) (onTc (τ := Cert.RsumIdeal.τ) (Cert.RsumIdeal.main (F := Ideal))) ⟨m, fun _ => 0, g⟩ (fun r => ∀ c : Dev Cert.RsumIdeal.nD,
          r.2.mem ((c.tc : Thread Cert.RsumIdeal.nD Cert.RsumIdeal.τ).loc Cert.RsumIdeal.main_v0) = v0 c
          ∧ r.2.mem ((c.tc : Thread Cert.RsumIdeal.nD Cert.RsumIdeal.τ).loc Cert.RsumIdeal.main_arg0) = m ((c.tc : Thread Cert.RsumIdeal.nD Cert.RsumIdeal.τ).loc Cert.RsumIdeal.main_arg0)
          ∧ r.2.mem ((c.tc : Thread Cert.RsumIdeal.nD Cert.RsumIdeal.τ).loc Cert.RsumIdeal.main_arg1) = m ((c.tc : Thread Cert.RsumIdeal.nD Cert.RsumIdeal.τ).loc Cert.RsumIdeal.main_arg1)
          ∧ r.2.mem ((c.tc : Thread Cert.RsumIdeal.nD Cert.RsumIdeal.τ).loc Cert.RsumIdeal.main_arg2) = m ((c.tc : Thread Cert.RsumIdeal.nD Cert.RsumIdeal.τ).loc Cert.RsumIdeal.main_arg2))
      ∧ θ_run (Cert.RsumRefIdeal.defs (F := Ideal)) (onTc (τ := Cert.RsumRefIdeal.τ) (Cert.RsumRefIdeal.main (F := Ideal))) ⟨m', fun _ => 0, g'⟩ (fun r => ∀ c : Dev Cert.RsumRefIdeal.nD,
          r.2.mem ((c.tc : Thread Cert.RsumRefIdeal.nD Cert.RsumRefIdeal.τ).loc Cert.RsumRefIdeal.main_v7) = v0 c
          ∧ r.2.mem ((c.tc : Thread Cert.RsumRefIdeal.nD Cert.RsumRefIdeal.τ).loc Cert.RsumRefIdeal.main_arg0) = m' ((c.tc : Thread Cert.RsumRefIdeal.nD Cert.RsumRefIdeal.τ).loc Cert.RsumRefIdeal.main_arg0)
          ∧ r.2.mem ((c.tc : Thread Cert.RsumRefIdeal.nD Cert.RsumRefIdeal.τ).loc Cert.RsumRefIdeal.main_arg1) = m' ((c.tc : Thread Cert.RsumRefIdeal.nD Cert.RsumRefIdeal.τ).loc Cert.RsumRefIdeal.main_arg1)
          ∧ r.2.mem ((c.tc : Thread Cert.RsumRefIdeal.nD Cert.RsumRefIdeal.τ).loc Cert.RsumRefIdeal.main_arg2) = m' ((c.tc : Thread Cert.RsumRefIdeal.nD Cert.RsumRefIdeal.τ).loc Cert.RsumRefIdeal.main_arg2))

def Claim : Prop :=
  ∃ (hAttn : Cert.Attn.Facts) (hAttnIdeal : Cert.AttnIdeal.Facts) (hAttnRefIdeal : Cert.AttnRefIdeal.Facts) (hFfn : Cert.Ffn.Facts) (hFfnIdeal : Cert.FfnIdeal.Facts) (hFfnRefIdeal : Cert.FfnRefIdeal.Facts) (hWff : Cert.Wff.Facts) (hWffIdeal : Cert.WffIdeal.Facts) (hWffRefIdeal : Cert.WffRefIdeal.Facts) (hHf : Cert.Hf.Facts) (hHfIdeal : Cert.HfIdeal.Facts) (hHfRefIdeal : Cert.HfRefIdeal.Facts) (hHg : Cert.Hg.Facts) (hHgIdeal : Cert.HgIdeal.Facts) (hHgRefIdeal : Cert.HgRefIdeal.Facts) (hWin : Cert.Win.Facts) (hWinIdeal : Cert.WinIdeal.Facts) (hWinRefIdeal : Cert.WinRefIdeal.Facts) (hDh : Cert.Dh.Facts) (hDhIdeal : Cert.DhIdeal.Facts) (hDhRefIdeal : Cert.DhRefIdeal.Facts) (hUp : Cert.Up.Facts) (hUpIdeal : Cert.UpIdeal.Facts) (hUpRefIdeal : Cert.UpRefIdeal.Facts) (hMerge : Cert.Merge.Facts) (hMergeIdeal : Cert.MergeIdeal.Facts) (hMergeRefIdeal : Cert.MergeRefIdeal.Facts) (hDo : Cert.Do.Facts) (hDoIdeal : Cert.DoIdeal.Facts) (hDoRefIdeal : Cert.DoRefIdeal.Facts) (hWo : Cert.Wo.Facts) (hWoIdeal : Cert.WoIdeal.Facts) (hWoRefIdeal : Cert.WoRefIdeal.Facts) (hWout : Cert.Wout.Facts) (hWoutIdeal : Cert.WoutIdeal.Facts) (hWoutRefIdeal : Cert.WoutRefIdeal.Facts) (hOut : Cert.Out.Facts) (hOutIdeal : Cert.OutIdeal.Facts) (hOutRefIdeal : Cert.OutRefIdeal.Facts) (hRms : Cert.Rms.Facts) (hRmsIdeal : Cert.RmsIdeal.Facts) (hRmsRefIdeal : Cert.RmsRefIdeal.Facts) (hPq : Cert.Pq.Facts) (hPqIdeal : Cert.PqIdeal.Facts) (hPqRefIdeal : Cert.PqRefIdeal.Facts) (hPkv : Cert.Pkv.Facts) (hPkvIdeal : Cert.PkvIdeal.Facts) (hPkvRefIdeal : Cert.PkvRefIdeal.Facts) (hPconv : Cert.Pconv.Facts) (hPconvIdeal : Cert.PconvIdeal.Facts) (hPconvRefIdeal : Cert.PconvRefIdeal.Facts) (hPsg : Cert.Psg.Facts) (hPsgIdeal : Cert.PsgIdeal.Facts) (hPsgRefIdeal : Cert.PsgRefIdeal.Facts) (hPgate : Cert.Pgate.Facts) (hPgateIdeal : Cert.PgateIdeal.Facts) (hPgateRefIdeal : Cert.PgateRefIdeal.Facts) (hAtf : Cert.Atf.Facts) (hAtfIdeal : Cert.AtfIdeal.Facts) (hAtfRefIdeal : Cert.AtfRefIdeal.Facts) (hMix : Cert.Mix.Facts) (hMixIdeal : Cert.MixIdeal.Facts) (hMixRefIdeal : Cert.MixRefIdeal.Facts) (hAd : Cert.Ad.Facts) (hAdIdeal : Cert.AdIdeal.Facts) (hAdRefIdeal : Cert.AdRefIdeal.Facts) (hRide : Cert.Ride.Facts) (hRideIdeal : Cert.RideIdeal.Facts) (hRideRefIdeal : Cert.RideRefIdeal.Facts) (hAds : Cert.Ads.Facts) (hAdsIdeal : Cert.AdsIdeal.Facts) (hAdsRefIdeal : Cert.AdsRefIdeal.Facts) (hAdw : Cert.Adw.Facts) (hAdwIdeal : Cert.AdwIdeal.Facts) (hAdwRefIdeal : Cert.AdwRefIdeal.Facts) (hAdp : Cert.Adp.Facts) (hAdpIdeal : Cert.AdpIdeal.Facts) (hAdpRefIdeal : Cert.AdpRefIdeal.Facts) (hRmsf : Cert.Rmsf.Facts) (hRmsfIdeal : Cert.RmsfIdeal.Facts) (hRmsfRefIdeal : Cert.RmsfRefIdeal.Facts) (hLoss : Cert.Loss.Facts) (hLossIdeal : Cert.LossIdeal.Facts) (hLossRefIdeal : Cert.LossRefIdeal.Facts) (hLnf : Cert.Lnf.Facts) (hLnfIdeal : Cert.LnfIdeal.Facts) (hLnfRefIdeal : Cert.LnfRefIdeal.Facts) (hLnb : Cert.Lnb.Facts) (hLnbIdeal : Cert.LnbIdeal.Facts) (hLnbRefIdeal : Cert.LnbRefIdeal.Facts) (hFirstf : Cert.Firstf.Facts) (hFirstfIdeal : Cert.FirstfIdeal.Facts) (hFirstfRefIdeal : Cert.FirstfRefIdeal.Facts) (hLasto : Cert.Lasto.Facts) (hLastoIdeal : Cert.LastoIdeal.Facts) (hLastoRefIdeal : Cert.LastoRefIdeal.Facts) (hFirsto : Cert.Firsto.Facts) (hFirstoIdeal : Cert.FirstoIdeal.Facts) (hFirstoRefIdeal : Cert.FirstoRefIdeal.Facts) (hLasti : Cert.Lasti.Facts) (hLastiIdeal : Cert.LastiIdeal.Facts) (hLastiRefIdeal : Cert.LastiRefIdeal.Facts) (hFirsti : Cert.Firsti.Facts) (hFirstiIdeal : Cert.FirstiIdeal.Facts) (hFirstiRefIdeal : Cert.FirstiRefIdeal.Facts) (hSums : Cert.Sums.Facts) (hSumsIdeal : Cert.SumsIdeal.Facts) (hSumsRefIdeal : Cert.SumsRefIdeal.Facts) (hRsum : Cert.Rsum.Facts) (hRsumIdeal : Cert.RsumIdeal.Facts) (hRsumRefIdeal : Cert.RsumRefIdeal.Facts) (hPre_finite_qk : Cert.Pre_finite_qk.Facts) (hPre_finite_ffn : Cert.Pre_finite_ffn.Facts) (hPre_finite_scores : Cert.Pre_finite_scores.Facts) (hPre_finite_norm : Cert.Pre_finite_norm.Facts),
    quiescent_Attn (hAttn := hAttn)
    ∧ quiescent_AttnIdeal (hAttnIdeal := hAttnIdeal)
    ∧ quiescent_AttnIdeal_pre_finite_qk (hAttnIdeal := hAttnIdeal) (hPre_finite_qk := hPre_finite_qk)
    ∧ quiescent_AttnRefIdeal (hAttnRefIdeal := hAttnRefIdeal)
    ∧ quiescent_AttnRefIdeal_pre_finite_qk (hAttnRefIdeal := hAttnRefIdeal) (hPre_finite_qk := hPre_finite_qk)
    ∧ quiescent_Ffn (hFfn := hFfn)
    ∧ quiescent_FfnIdeal (hFfnIdeal := hFfnIdeal)
    ∧ quiescent_FfnIdeal_pre_finite_ffn (hFfnIdeal := hFfnIdeal) (hPre_finite_ffn := hPre_finite_ffn)
    ∧ quiescent_FfnRefIdeal (hFfnRefIdeal := hFfnRefIdeal)
    ∧ quiescent_FfnRefIdeal_pre_finite_ffn (hFfnRefIdeal := hFfnRefIdeal) (hPre_finite_ffn := hPre_finite_ffn)
    ∧ quiescent_Wff (hWff := hWff)
    ∧ quiescent_WffIdeal (hWffIdeal := hWffIdeal)
    ∧ quiescent_WffRefIdeal (hWffRefIdeal := hWffRefIdeal)
    ∧ quiescent_Hf (hHf := hHf)
    ∧ quiescent_HfIdeal (hHfIdeal := hHfIdeal)
    ∧ quiescent_HfRefIdeal (hHfRefIdeal := hHfRefIdeal)
    ∧ quiescent_Hg (hHg := hHg)
    ∧ quiescent_HgIdeal (hHgIdeal := hHgIdeal)
    ∧ quiescent_HgRefIdeal (hHgRefIdeal := hHgRefIdeal)
    ∧ quiescent_Win (hWin := hWin)
    ∧ quiescent_WinIdeal (hWinIdeal := hWinIdeal)
    ∧ quiescent_WinRefIdeal (hWinRefIdeal := hWinRefIdeal)
    ∧ quiescent_Dh (hDh := hDh)
    ∧ quiescent_DhIdeal (hDhIdeal := hDhIdeal)
    ∧ quiescent_DhRefIdeal (hDhRefIdeal := hDhRefIdeal)
    ∧ quiescent_Up (hUp := hUp)
    ∧ quiescent_UpIdeal (hUpIdeal := hUpIdeal)
    ∧ quiescent_UpRefIdeal (hUpRefIdeal := hUpRefIdeal)
    ∧ quiescent_Merge (hMerge := hMerge)
    ∧ quiescent_MergeIdeal (hMergeIdeal := hMergeIdeal)
    ∧ quiescent_MergeRefIdeal (hMergeRefIdeal := hMergeRefIdeal)
    ∧ quiescent_Do (hDo := hDo)
    ∧ quiescent_DoIdeal (hDoIdeal := hDoIdeal)
    ∧ quiescent_DoRefIdeal (hDoRefIdeal := hDoRefIdeal)
    ∧ quiescent_Wo (hWo := hWo)
    ∧ quiescent_WoIdeal (hWoIdeal := hWoIdeal)
    ∧ quiescent_WoRefIdeal (hWoRefIdeal := hWoRefIdeal)
    ∧ quiescent_Wout (hWout := hWout)
    ∧ quiescent_WoutIdeal (hWoutIdeal := hWoutIdeal)
    ∧ quiescent_WoutRefIdeal (hWoutRefIdeal := hWoutRefIdeal)
    ∧ quiescent_Out (hOut := hOut)
    ∧ quiescent_OutIdeal (hOutIdeal := hOutIdeal)
    ∧ quiescent_OutRefIdeal (hOutRefIdeal := hOutRefIdeal)
    ∧ quiescent_Rms (hRms := hRms)
    ∧ quiescent_RmsIdeal (hRmsIdeal := hRmsIdeal)
    ∧ quiescent_RmsRefIdeal (hRmsRefIdeal := hRmsRefIdeal)
    ∧ quiescent_Pq (hPq := hPq)
    ∧ quiescent_PqIdeal (hPqIdeal := hPqIdeal)
    ∧ quiescent_PqRefIdeal (hPqRefIdeal := hPqRefIdeal)
    ∧ quiescent_Pkv (hPkv := hPkv)
    ∧ quiescent_PkvIdeal (hPkvIdeal := hPkvIdeal)
    ∧ quiescent_PkvRefIdeal (hPkvRefIdeal := hPkvRefIdeal)
    ∧ quiescent_Pconv (hPconv := hPconv)
    ∧ quiescent_PconvIdeal (hPconvIdeal := hPconvIdeal)
    ∧ quiescent_PconvRefIdeal (hPconvRefIdeal := hPconvRefIdeal)
    ∧ quiescent_Psg (hPsg := hPsg)
    ∧ quiescent_PsgIdeal (hPsgIdeal := hPsgIdeal)
    ∧ quiescent_PsgRefIdeal (hPsgRefIdeal := hPsgRefIdeal)
    ∧ quiescent_Pgate (hPgate := hPgate)
    ∧ quiescent_PgateIdeal (hPgateIdeal := hPgateIdeal)
    ∧ quiescent_PgateRefIdeal (hPgateRefIdeal := hPgateRefIdeal)
    ∧ quiescent_Atf (hAtf := hAtf)
    ∧ quiescent_AtfIdeal (hAtfIdeal := hAtfIdeal)
    ∧ quiescent_AtfIdeal_pre_finite_scores (hAtfIdeal := hAtfIdeal) (hPre_finite_scores := hPre_finite_scores)
    ∧ quiescent_AtfRefIdeal (hAtfRefIdeal := hAtfRefIdeal)
    ∧ quiescent_AtfRefIdeal_pre_finite_scores (hAtfRefIdeal := hAtfRefIdeal) (hPre_finite_scores := hPre_finite_scores)
    ∧ quiescent_Mix (hMix := hMix)
    ∧ quiescent_MixIdeal (hMixIdeal := hMixIdeal)
    ∧ quiescent_MixRefIdeal (hMixRefIdeal := hMixRefIdeal)
    ∧ quiescent_Ad (hAd := hAd)
    ∧ quiescent_AdIdeal (hAdIdeal := hAdIdeal)
    ∧ quiescent_AdRefIdeal (hAdRefIdeal := hAdRefIdeal)
    ∧ quiescent_Ride (hRide := hRide)
    ∧ quiescent_RideIdeal (hRideIdeal := hRideIdeal)
    ∧ quiescent_RideRefIdeal (hRideRefIdeal := hRideRefIdeal)
    ∧ quiescent_Ads (hAds := hAds)
    ∧ quiescent_AdsIdeal (hAdsIdeal := hAdsIdeal)
    ∧ quiescent_AdsRefIdeal (hAdsRefIdeal := hAdsRefIdeal)
    ∧ quiescent_Adw (hAdw := hAdw)
    ∧ quiescent_AdwIdeal (hAdwIdeal := hAdwIdeal)
    ∧ quiescent_AdwRefIdeal (hAdwRefIdeal := hAdwRefIdeal)
    ∧ quiescent_Adp (hAdp := hAdp)
    ∧ quiescent_AdpIdeal (hAdpIdeal := hAdpIdeal)
    ∧ quiescent_AdpRefIdeal (hAdpRefIdeal := hAdpRefIdeal)
    ∧ quiescent_Rmsf (hRmsf := hRmsf)
    ∧ quiescent_RmsfIdeal (hRmsfIdeal := hRmsfIdeal)
    ∧ quiescent_RmsfRefIdeal (hRmsfRefIdeal := hRmsfRefIdeal)
    ∧ quiescent_Loss (hLoss := hLoss)
    ∧ quiescent_LossIdeal (hLossIdeal := hLossIdeal)
    ∧ quiescent_LossRefIdeal (hLossRefIdeal := hLossRefIdeal)
    ∧ quiescent_Lnf (hLnf := hLnf)
    ∧ quiescent_LnfIdeal (hLnfIdeal := hLnfIdeal)
    ∧ quiescent_LnfRefIdeal (hLnfRefIdeal := hLnfRefIdeal)
    ∧ quiescent_Lnb (hLnb := hLnb)
    ∧ quiescent_LnbIdeal (hLnbIdeal := hLnbIdeal)
    ∧ quiescent_LnbIdeal_pre_finite_norm (hLnbIdeal := hLnbIdeal) (hPre_finite_norm := hPre_finite_norm)
    ∧ quiescent_LnbRefIdeal (hLnbRefIdeal := hLnbRefIdeal)
    ∧ quiescent_LnbRefIdeal_pre_finite_norm (hLnbRefIdeal := hLnbRefIdeal) (hPre_finite_norm := hPre_finite_norm)
    ∧ quiescent_Firstf (hFirstf := hFirstf)
    ∧ quiescent_FirstfIdeal (hFirstfIdeal := hFirstfIdeal)
    ∧ quiescent_FirstfRefIdeal (hFirstfRefIdeal := hFirstfRefIdeal)
    ∧ quiescent_Lasto (hLasto := hLasto)
    ∧ quiescent_LastoIdeal (hLastoIdeal := hLastoIdeal)
    ∧ quiescent_LastoRefIdeal (hLastoRefIdeal := hLastoRefIdeal)
    ∧ quiescent_Firsto (hFirsto := hFirsto)
    ∧ quiescent_FirstoIdeal (hFirstoIdeal := hFirstoIdeal)
    ∧ quiescent_FirstoRefIdeal (hFirstoRefIdeal := hFirstoRefIdeal)
    ∧ quiescent_Lasti (hLasti := hLasti)
    ∧ quiescent_LastiIdeal (hLastiIdeal := hLastiIdeal)
    ∧ quiescent_LastiRefIdeal (hLastiRefIdeal := hLastiRefIdeal)
    ∧ quiescent_Firsti (hFirsti := hFirsti)
    ∧ quiescent_FirstiIdeal (hFirstiIdeal := hFirstiIdeal)
    ∧ quiescent_FirstiRefIdeal (hFirstiRefIdeal := hFirstiRefIdeal)
    ∧ quiescent_Sums (hSums := hSums)
    ∧ quiescent_SumsIdeal (hSumsIdeal := hSumsIdeal)
    ∧ quiescent_SumsRefIdeal (hSumsRefIdeal := hSumsRefIdeal)
    ∧ quiescent_Rsum (hRsum := hRsum)
    ∧ quiescent_RsumIdeal (hRsumIdeal := hRsumIdeal)
    ∧ quiescent_RsumRefIdeal (hRsumRefIdeal := hRsumRefIdeal)
    ∧ preserves_Attn_AttnIdeal
    ∧ algebraic_AttnIdeal_AttnRefIdeal_pre_finite_qk (hAttnIdeal := hAttnIdeal) (hAttnRefIdeal := hAttnRefIdeal) (hPre_finite_qk := hPre_finite_qk)
    ∧ preserves_Ffn_FfnIdeal
    ∧ algebraic_FfnIdeal_FfnRefIdeal_pre_finite_ffn (hFfnIdeal := hFfnIdeal) (hFfnRefIdeal := hFfnRefIdeal) (hPre_finite_ffn := hPre_finite_ffn)
    ∧ preserves_Wff_WffIdeal
    ∧ algebraic_WffIdeal_WffRefIdeal (hWffIdeal := hWffIdeal) (hWffRefIdeal := hWffRefIdeal)
    ∧ preserves_Hf_HfIdeal
    ∧ algebraic_HfIdeal_HfRefIdeal (hHfIdeal := hHfIdeal) (hHfRefIdeal := hHfRefIdeal)
    ∧ preserves_Hg_HgIdeal
    ∧ algebraic_HgIdeal_HgRefIdeal (hHgIdeal := hHgIdeal) (hHgRefIdeal := hHgRefIdeal)
    ∧ preserves_Win_WinIdeal
    ∧ algebraic_WinIdeal_WinRefIdeal (hWinIdeal := hWinIdeal) (hWinRefIdeal := hWinRefIdeal)
    ∧ preserves_Dh_DhIdeal
    ∧ algebraic_DhIdeal_DhRefIdeal (hDhIdeal := hDhIdeal) (hDhRefIdeal := hDhRefIdeal)
    ∧ preserves_Up_UpIdeal
    ∧ algebraic_UpIdeal_UpRefIdeal (hUpIdeal := hUpIdeal) (hUpRefIdeal := hUpRefIdeal)
    ∧ preserves_Merge_MergeIdeal
    ∧ algebraic_MergeIdeal_MergeRefIdeal (hMergeIdeal := hMergeIdeal) (hMergeRefIdeal := hMergeRefIdeal)
    ∧ preserves_Do_DoIdeal
    ∧ algebraic_DoIdeal_DoRefIdeal (hDoIdeal := hDoIdeal) (hDoRefIdeal := hDoRefIdeal)
    ∧ preserves_Wo_WoIdeal
    ∧ algebraic_WoIdeal_WoRefIdeal (hWoIdeal := hWoIdeal) (hWoRefIdeal := hWoRefIdeal)
    ∧ preserves_Wout_WoutIdeal
    ∧ algebraic_WoutIdeal_WoutRefIdeal (hWoutIdeal := hWoutIdeal) (hWoutRefIdeal := hWoutRefIdeal)
    ∧ preserves_Out_OutIdeal
    ∧ algebraic_OutIdeal_OutRefIdeal (hOutIdeal := hOutIdeal) (hOutRefIdeal := hOutRefIdeal)
    ∧ preserves_Rms_RmsIdeal
    ∧ algebraic_RmsIdeal_RmsRefIdeal (hRmsIdeal := hRmsIdeal) (hRmsRefIdeal := hRmsRefIdeal)
    ∧ preserves_Pq_PqIdeal
    ∧ algebraic_PqIdeal_PqRefIdeal (hPqIdeal := hPqIdeal) (hPqRefIdeal := hPqRefIdeal)
    ∧ preserves_Pkv_PkvIdeal
    ∧ algebraic_PkvIdeal_PkvRefIdeal (hPkvIdeal := hPkvIdeal) (hPkvRefIdeal := hPkvRefIdeal)
    ∧ preserves_Pconv_PconvIdeal
    ∧ algebraic_PconvIdeal_PconvRefIdeal (hPconvIdeal := hPconvIdeal) (hPconvRefIdeal := hPconvRefIdeal)
    ∧ preserves_Psg_PsgIdeal
    ∧ algebraic_PsgIdeal_PsgRefIdeal (hPsgIdeal := hPsgIdeal) (hPsgRefIdeal := hPsgRefIdeal)
    ∧ preserves_Pgate_PgateIdeal
    ∧ algebraic_PgateIdeal_PgateRefIdeal (hPgateIdeal := hPgateIdeal) (hPgateRefIdeal := hPgateRefIdeal)
    ∧ preserves_Atf_AtfIdeal
    ∧ algebraic_AtfIdeal_AtfRefIdeal_pre_finite_scores (hAtfIdeal := hAtfIdeal) (hAtfRefIdeal := hAtfRefIdeal) (hPre_finite_scores := hPre_finite_scores)
    ∧ preserves_Mix_MixIdeal
    ∧ algebraic_MixIdeal_MixRefIdeal (hMixIdeal := hMixIdeal) (hMixRefIdeal := hMixRefIdeal)
    ∧ preserves_Ad_AdIdeal
    ∧ algebraic_AdIdeal_AdRefIdeal (hAdIdeal := hAdIdeal) (hAdRefIdeal := hAdRefIdeal)
    ∧ preserves_Ride_RideIdeal
    ∧ algebraic_RideIdeal_RideRefIdeal (hRideIdeal := hRideIdeal) (hRideRefIdeal := hRideRefIdeal)
    ∧ preserves_Ads_AdsIdeal
    ∧ algebraic_AdsIdeal_AdsRefIdeal (hAdsIdeal := hAdsIdeal) (hAdsRefIdeal := hAdsRefIdeal)
    ∧ preserves_Adw_AdwIdeal
    ∧ algebraic_AdwIdeal_AdwRefIdeal (hAdwIdeal := hAdwIdeal) (hAdwRefIdeal := hAdwRefIdeal)
    ∧ preserves_Adp_AdpIdeal
    ∧ algebraic_AdpIdeal_AdpRefIdeal (hAdpIdeal := hAdpIdeal) (hAdpRefIdeal := hAdpRefIdeal)
    ∧ preserves_Rmsf_RmsfIdeal
    ∧ algebraic_RmsfIdeal_RmsfRefIdeal (hRmsfIdeal := hRmsfIdeal) (hRmsfRefIdeal := hRmsfRefIdeal)
    ∧ preserves_Loss_LossIdeal
    ∧ algebraic_LossIdeal_LossRefIdeal (hLossIdeal := hLossIdeal) (hLossRefIdeal := hLossRefIdeal)
    ∧ preserves_Lnf_LnfIdeal
    ∧ algebraic_LnfIdeal_LnfRefIdeal (hLnfIdeal := hLnfIdeal) (hLnfRefIdeal := hLnfRefIdeal)
    ∧ preserves_Lnb_LnbIdeal
    ∧ algebraic_LnbIdeal_LnbRefIdeal_pre_finite_norm (hLnbIdeal := hLnbIdeal) (hLnbRefIdeal := hLnbRefIdeal) (hPre_finite_norm := hPre_finite_norm)
    ∧ preserves_Firstf_FirstfIdeal
    ∧ algebraic_FirstfIdeal_FirstfRefIdeal (hFirstfIdeal := hFirstfIdeal) (hFirstfRefIdeal := hFirstfRefIdeal)
    ∧ preserves_Lasto_LastoIdeal
    ∧ algebraic_LastoIdeal_LastoRefIdeal (hLastoIdeal := hLastoIdeal) (hLastoRefIdeal := hLastoRefIdeal)
    ∧ preserves_Firsto_FirstoIdeal
    ∧ algebraic_FirstoIdeal_FirstoRefIdeal (hFirstoIdeal := hFirstoIdeal) (hFirstoRefIdeal := hFirstoRefIdeal)
    ∧ preserves_Lasti_LastiIdeal
    ∧ algebraic_LastiIdeal_LastiRefIdeal (hLastiIdeal := hLastiIdeal) (hLastiRefIdeal := hLastiRefIdeal)
    ∧ preserves_Firsti_FirstiIdeal
    ∧ algebraic_FirstiIdeal_FirstiRefIdeal (hFirstiIdeal := hFirstiIdeal) (hFirstiRefIdeal := hFirstiRefIdeal)
    ∧ preserves_Sums_SumsIdeal
    ∧ algebraic_SumsIdeal_SumsRefIdeal (hSumsIdeal := hSumsIdeal) (hSumsRefIdeal := hSumsRefIdeal)
    ∧ preserves_Rsum_RsumIdeal
    ∧ algebraic_RsumIdeal_RsumRefIdeal (hRsumIdeal := hRsumIdeal) (hRsumRefIdeal := hRsumRefIdeal)
-- ==== Pre_finite_ffn.lean ====
abbrev S2048x2048 : Shape := ⟨2, ![2048, 2048]⟩
abbrev S5632x2048 : Shape := ⟨2, ![5632, 2048]⟩
abbrev S2048x5632 : Shape := ⟨2, ![2048, 5632]⟩
abbrev S_ : Shape := ⟨0, ![]⟩

class Facts : Prop where
  bitsLt_bf16_f32 : FTy.bits .bf16 < FTy.bits .f32
  bcast_S_S2048x2048 : S_.BroadcastsInDim S2048x2048 (![] : Fin 0 → Fin S2048x2048.rank)
  bcast_S_S5632x2048 : S_.BroadcastsInDim S5632x2048 (![] : Fin 0 → Fin S5632x2048.rank)
  bcast_S_S2048x5632 : S_.BroadcastsInDim S2048x5632 (![] : Fin 0 → Fin S2048x5632.rank)

variable [Facts]

def fn {F : FTy → Type} [FloatOps F] (main_arg0 : FVec F S2048x2048 .bf16) (main_arg1 : FVec F S5632x2048 .bf16) (main_arg2 : FVec F S2048x5632 .bf16) (main_arg3 : FVec F S2048x5632 .bf16) : IVec S2048x2048 1 × IVec S5632x2048 1 × IVec S2048x5632 1 :=
  let main_v0 : FVec F S2048x2048 .f32 := (extf .f32 · bitsLt_bf16_f32) main_arg0
  let main_v1 : FVec F S2048x2048 .f32 := Host.absf main_v0
  let main_cst : FVec F S_ .f32 := constant S_ .f32 0x7F800000#32
  let main_v2 : FVec F S2048x2048 .f32 := broadcastInDim S2048x2048 ![] bcast_S_S2048x2048 main_cst
  let main_v3 : IVec S2048x2048 1 := cmpf .olt main_v1 main_v2
  let main_v4 : FVec F S5632x2048 .f32 := (extf .f32 · bitsLt_bf16_f32) main_arg1
  let main_v5 : FVec F S5632x2048 .f32 := Host.absf main_v4
  let main_cst_0 : FVec F S_ .f32 := constant S_ .f32 0x7F800000#32
  let main_v6 : FVec F S5632x2048 .f32 := broadcastInDim S5632x2048 ![] bcast_S_S5632x2048 main_cst_0
  let main_v7 : IVec S5632x2048 1 := cmpf .olt main_v5 main_v6
  let main_v8 : FVec F S2048x5632 .f32 := (extf .f32 · bitsLt_bf16_f32) main_arg3
  let main_v9 : FVec F S2048x5632 .f32 := Host.absf main_v8
  let main_cst_1 : FVec F S_ .f32 := constant S_ .f32 0x7F800000#32
  let main_v10 : FVec F S2048x5632 .f32 := broadcastInDim S2048x5632 ![] bcast_S_S2048x5632 main_cst_1
  let main_v11 : IVec S2048x5632 1 := cmpf .olt main_v9 main_v10
  (main_v3, main_v7, main_v11)
-- ==== Pre_finite_norm.lean ====
abbrev S2048x1024 : Shape := ⟨2, ![2048, 1024]⟩
abbrev S1x1024 : Shape := ⟨2, ![1, 1024]⟩
abbrev S_ : Shape := ⟨0, ![]⟩

class Facts : Prop where
  bitsLt_bf16_f32 : FTy.bits .bf16 < FTy.bits .f32
  bcast_S_S2048x1024 : S_.BroadcastsInDim S2048x1024 (![] : Fin 0 → Fin S2048x1024.rank)
  bcast_S_S1x1024 : S_.BroadcastsInDim S1x1024 (![] : Fin 0 → Fin S1x1024.rank)

variable [Facts]

def fn {F : FTy → Type} [FloatOps F] (main_arg0 : FVec F S2048x1024 .f32) (main_arg1 : FVec F S2048x1024 .bf16) (main_arg2 : FVec F S1x1024 .f32) (main_arg3 : FVec F S1x1024 .f32) : IVec S2048x1024 1 × IVec S1x1024 1 :=
  let main_v0 : FVec F S2048x1024 .f32 := (extf .f32 · bitsLt_bf16_f32) main_arg1
  let main_v1 : FVec F S2048x1024 .f32 := Host.absf main_v0
  let main_cst : FVec F S_ .f32 := constant S_ .f32 0x7F800000#32
  let main_v2 : FVec F S2048x1024 .f32 := broadcastInDim S2048x1024 ![] bcast_S_S2048x1024 main_cst
  let main_v3 : IVec S2048x1024 1 := cmpf .olt main_v1 main_v2
  let main_v4 : FVec F S1x1024 .f32 := Host.absf main_arg2
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  (main_v3, main_v6)
-- ==== Pre_finite_qk.lean ====
abbrev S2048x1024 : Shape := ⟨2, ![2048, 1024]⟩
abbrev S2048x256 : Shape := ⟨2, ![2048, 256]⟩
abbrev S2048x512 : Shape := ⟨2, ![2048, 512]⟩
abbrev S_ : Shape := ⟨0, ![]⟩

class Facts : Prop where
  bitsLt_bf16_f32 : FTy.bits .bf16 < FTy.bits .f32
  bcast_S_S2048x1024 : S_.BroadcastsInDim S2048x1024 (![] : Fin 0 → Fin S2048x1024.rank)
  bcast_S_S2048x256 : S_.BroadcastsInDim S2048x256 (![] : Fin 0 → Fin S2048x256.rank)

variable [Facts]

def fn {F : FTy → Type} [FloatOps F] (main_arg0 : FVec F S2048x1024 .bf16) (main_arg1 : FVec F S2048x256 .bf16) (main_arg2 : FVec F S2048x512 .bf16) (main_arg3 : FVec F S2048x1024 .bf16) : IVec S2048x1024 1 × IVec S2048x256 1 :=
  let main_v0 : FVec F S2048x1024 .f32 := (extf .f32 · bitsLt_bf16_f32) main_arg0
  let main_v1 : FVec F S2048x1024 .f32 := Host.absf main_v0
  let main_cst : FVec F S_ .f32 := constant S_ .f32 0x7F800000#32
  let main_v2 : FVec F S2048x1024 .f32 := broadcastInDim S2048x1024 ![] bcast_S_S2048x1024 main_cst
  let main_v3 : IVec S2048x1024 1 := cmpf .olt main_v1 main_v2
  let main_v4 : FVec F S2048x256 .f32 := (extf .f32 · bitsLt_bf16_f32) main_arg1
  let main_v5 : FVec F S2048x256 .f32 := Host.absf main_v4
  let main_cst_0 : FVec F S_ .f32 := constant S_ .f32 0x7F800000#32
  let main_v6 : FVec F S2048x256 .f32 := broadcastInDim S2048x256 ![] bcast_S_S2048x256 main_cst_0
  let main_v7 : IVec S2048x256 1 := cmpf .olt main_v5 main_v6
  (main_v3, main_v7)
-- ==== Pre_finite_scores.lean ====
abbrev S2048x1024 : Shape := ⟨2, ![2048, 1024]⟩
abbrev S2048x256 : Shape := ⟨2, ![2048, 256]⟩
abbrev S2048x512 : Shape := ⟨2, ![2048, 512]⟩
abbrev S_ : Shape := ⟨0, ![]⟩

class Facts : Prop where
  bitsLt_bf16_f32 : FTy.bits .bf16 < FTy.bits .f32
  bcast_S_S2048x1024 : S_.BroadcastsInDim S2048x1024 (![] : Fin 0 → Fin S2048x1024.rank)
  bcast_S_S2048x256 : S_.BroadcastsInDim S2048x256 (![] : Fin 0 → Fin S2048x256.rank)

variable [Facts]

def fn {F : FTy → Type} [FloatOps F] (main_arg0 : FVec F S2048x1024 .bf16) (main_arg1 : FVec F S2048x256 .bf16) (main_arg2 : FVec F S2048x512 .bf16) : IVec S2048x1024 1 × IVec S2048x256 1 :=
  let main_v0 : FVec F S2048x1024 .f32 := (extf .f32 · bitsLt_bf16_f32) main_arg0
  let main_v1 : FVec F S2048x1024 .f32 := Host.absf main_v0
  let main_cst : FVec F S_ .f32 := constant S_ .f32 0x7F800000#32
  let main_v2 : FVec F S2048x1024 .f32 := broadcastInDim S2048x1024 ![] bcast_S_S2048x1024 main_cst
  let main_v3 : IVec S2048x1024 1 := cmpf .olt main_v1 main_v2
  let main_v4 : FVec F S2048x256 .f32 := (extf .f32 · bitsLt_bf16_f32) main_arg1
  let main_v5 : FVec F S2048x256 .f32 := Host.absf main_v4
  let main_cst_0 : FVec F S_ .f32 := constant S_ .f32 0x7F800000#32
  let main_v6 : FVec F S2048x256 .f32 := broadcastInDim S2048x256 ![] bcast_S_S2048x256 main_cst_0
  let main_v7 : IVec S2048x256 1 := cmpf .olt main_v5 main_v6
  (main_v3, main_v7)
-- ==== Attn.lean ====
abbrev S2048x1024 : Shape := ⟨2, ![2048, 1024]⟩
abbrev S2048x256 : Shape := ⟨2, ![2048, 256]⟩
abbrev S2048x512 : Shape := ⟨2, ![2048, 512]⟩
abbrev S256x512 : Shape := ⟨2, ![256, 512]⟩
abbrev S2048x128 : Shape := ⟨2, ![2048, 128]⟩
abbrev S256x128 : Shape := ⟨2, ![256, 128]⟩
abbrev S256x2048 : Shape := ⟨2, ![256, 2048]⟩
abbrev S256 : Shape := ⟨1, ![256]⟩
abbrev S256x1 : Shape := ⟨2, ![256, 1]⟩

abbrev nBuf : Space → Nat
  | .hbm => 7
  | .vmem => 14
  | .smem => 0
  | _ => 0

abbrev bufTy : (tb : Table) → Fin (tcTables nBuf tb) → BufTy
  | .hbm, ⟨0, _⟩ => ⟨S2048x1024, .bf16⟩
  | .hbm, ⟨1, _⟩ => ⟨S2048x256, .bf16⟩
  | .hbm, ⟨2, _⟩ => ⟨S2048x512, .bf16⟩
  | .hbm, ⟨3, _⟩ => ⟨S2048x1024, .bf16⟩
  | .hbm, ⟨4, _⟩ => ⟨S2048x1024, .bf16⟩
  | .hbm, ⟨5, _⟩ => ⟨S2048x256, .f32⟩
  | .hbm, ⟨6, _⟩ => ⟨S2048x256, .f32⟩
  | .local _ .vmem, ⟨0, _⟩ => ⟨S256x512, .bf16⟩
  | .local _ .vmem, ⟨1, _⟩ => ⟨S256x512, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v145 : BitVec 32 := Scalar.extui v0
  let c0_i32_67 : BitVec 32 := 0#32
  let v146 : BitVec 1 := Scalar.cmpi .ne v145 c0_i32_67
  v146

def k0_cond2 (i : grid0.Coords) : BitVec 1 :=
  let arg1 : BitVec 32 := BitVec.ofNat 32 (i 1).val
  let c0_i32 : BitVec 32 := 0#32
  let v0 : BitVec 1 := Scalar.cmpi .eq arg1 c0_i32
  let v_true : BitVec 1 := 1#1
  let v147 : BitVec 1 := Scalar.xori v0 v_true
  let v148 : BitVec 32 := Scalar.extui v147
  let c0_i32_68 : BitVec 32 := 0#32
  let v149 : BitVec 1 := Scalar.cmpi .ne v148 c0_i32_68
  v149

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== AttnIdeal.lean ====
variable {F : FTy → Type} [FloatOps F] [Named F]
def κ : String → Option EReal := fun
  | "scale_log2e" => some (((11863283 / 134217728) * (Real.log 2)⁻¹ : ℝ) : EReal)
  | _ => none
-- ==== AttnRefIdeal.lean ====
abbrev S2048x1024 : Shape := ⟨2, ![2048, 1024]⟩
abbrev S2048x256 : Shape := ⟨2, ![2048, 256]⟩
abbrev S2048x512 : Shape := ⟨2, ![2048, 512]⟩
abbrev S2048x2x4x128 : Shape := ⟨4, ![2048, 2, 4, 128]⟩
abbrev S2048x2x128 : Shape := ⟨3, ![2048, 2, 128]⟩
abbrev S2x2048x2048x4 : Shape := ⟨4, ![2, 2048, 2048, 4]⟩
abbrev S2x4x2048x2048 : Shape := ⟨4, ![2, 4, 2048, 2048]⟩
abbrev S_ : Shape := ⟨0, ![]⟩
abbrev S2x4x2048 : Shape := ⟨3, ![2, 4, 2048]⟩
abbrev S2x4x2048x1 : Shape := ⟨4, ![2, 4, 2048, 1]⟩
abbrev S2x128x4x2048 : Shape := ⟨4, ![2, 128, 4, 2048]⟩
abbrev S2x128x2048 : Shape := ⟨3, ![2, 128, 2048]⟩
abbrev S2x2048x4x128 : Shape := ⟨4, ![2, 2048, 4, 128]⟩
abbrev S2x2048x128 : Shape := ⟨3, ![2, 2048, 128]⟩

abbrev nBuf : Space → Nat
  | .hbm => 88
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x256, .bf16⟩
  | .hbm, ⟨2, _⟩ => ⟨S2048x512, .bf16⟩
  | .hbm, ⟨3, _⟩ => ⟨S2048x1024, .bf16⟩
  | .hbm, ⟨4, _⟩ => ⟨S2048x1024, .f32⟩
  | .hbm, ⟨5, _⟩ => ⟨S2048x2x4x128, .f32⟩
  | .hbm, ⟨6, _⟩ => ⟨S2048x256, .f32⟩
  | .hbm, ⟨7, _⟩ => ⟨S2048x2x128, .f32⟩
  | .hbm, ⟨8, _⟩ => ⟨S2048x256, .bf16⟩
  | .hbm, ⟨9, _⟩ => ⟨S2048x256, .f32⟩
  | .hbm, ⟨10, _⟩ => ⟨S2048x2x128, .f32⟩
  | .hbm, ⟨11, _⟩ => ⟨S2048x1024, .f32⟩
  | .hbm, ⟨12, _⟩ => ⟨S2048x2x4x128, .f32⟩
  | .hbm, ⟨13, _⟩ => ⟨S2x2048x2048x4, .f32⟩
  | .hbm, ⟨14, _⟩ => ⟨S2x4x2048x2048, .f32⟩
  | .hbm, ⟨15, _⟩ => ⟨S_, .f32⟩
  | .hbm, ⟨16, _⟩ => ⟨S2x4x2048x2048, .f32⟩
  | .hbm, ⟨17, _⟩ => ⟨S2x4x2048x2048, .f32⟩
  | .hbm, ⟨18, _⟩ => ⟨S_, .f32⟩
  | .hbm, ⟨19, _⟩ => ⟨S2x4x2048, .f32⟩
  | .hbm, ⟨20, _⟩ => ⟨S2x4x2048x1, .f32⟩
  | .hbm, ⟨21, _⟩ => ⟨S2x4x2048x2048, .f32⟩
  | .hbm, ⟨22, _⟩ => ⟨S2x4x2048x2048, .i1⟩
  | .hbm, ⟨23, _⟩ => ⟨S2x4x2048x2048, .f32⟩
  | .hbm, ⟨24, _⟩ => ⟨S_, .f32⟩
  | .hbm, ⟨25, _⟩ => ⟨S2x4x2048, .f32⟩
  | .hbm, ⟨26, _⟩ => ⟨S_, .f32⟩
  | .hbm, ⟨27, _⟩ => ⟨S2x4x2048, .f32⟩
  | .hbm, ⟨28, _⟩ => ⟨S2x4x2048, .f32⟩
  | .hbm, ⟨29, _⟩ => ⟨S_, .f32⟩
  | .hbm, ⟨30, _⟩ => ⟨S2x4x2048, .f32⟩
  | .hbm, ⟨31, _⟩ => ⟨S2x4x2048, .i1⟩
  | .hbm, ⟨32, _⟩ => ⟨S_, .f32⟩
  | .hbm, ⟨33, _⟩ => ⟨S2x4x2048, .f32⟩
  | .hbm, ⟨34, _⟩ => ⟨S2x4x2048, .i1⟩
  | .hbm, ⟨35, _⟩ => ⟨S_, .f32⟩
  | .hbm, ⟨36, _⟩ => ⟨S2x4x2048, .f32⟩
  | .hbm, ⟨37, _⟩ => ⟨S_, .f32⟩
  | .hbm, ⟨38, _⟩ => ⟨S2x4x2048, .f32⟩
  | .hbm, ⟨39, _⟩ => ⟨S_, .f32⟩
  | .hbm, ⟨40, _⟩ => ⟨S2x4x2048, .f32⟩
  | .hbm, ⟨41, _⟩ => ⟨S2x4x2048, .f32⟩
  | .hbm, ⟨42, _⟩ => ⟨S2x4x2048, .f32⟩
  | .hbm, ⟨43, _⟩ => ⟨S2x4x2048x1, .f32⟩
  | .hbm, ⟨44, _⟩ => ⟨S2x4x2048x2048, .f32⟩
  | .hbm, ⟨45, _⟩ => ⟨S2x4x2048x2048, .f32⟩
  | .hbm, ⟨46, _⟩ => ⟨S2x4x2048x2048, .f32⟩
  | .hbm, ⟨47, _⟩ => ⟨S_, .f32⟩
  | .hbm, ⟨48, _⟩ => ⟨S2x4x2048, .f32⟩
  | .hbm, ⟨49, _⟩ => ⟨S2x4x2048x1, .f32⟩
  | .hbm, ⟨50, _⟩ => ⟨S2x4x2048x2048, .f32⟩
  | .hbm, ⟨51, _⟩ => ⟨S2x4x2048x2048, .f32⟩
  | .hbm, ⟨52, _⟩ => ⟨S2x4x2048x1, .f32⟩
  | .hbm, ⟨53, _⟩ => ⟨S_, .f32⟩
  | .hbm, ⟨54, _⟩ => ⟨S2x4x2048x1, .f32⟩
  | .hbm, ⟨55, _⟩ => ⟨S2x4x2048x1, .f32⟩
  | .hbm, ⟨56, _⟩ => ⟨S2x128x4x2048, .f32⟩
  | .hbm, ⟨57, _⟩ => ⟨S2048x2x4x128, .f32⟩
  | .hbm, ⟨58, _⟩ => ⟨S2x128x4x2048, .f32⟩
  | .hbm, ⟨59, _⟩ => ⟨S2x4x2048x2048, .f32⟩
  | .hbm, ⟨60, _⟩ => ⟨S2x128x2048, .f32⟩
  | .hbm, ⟨61, _⟩ => ⟨S2048x2x128, .f32⟩
  | .hbm, ⟨62, _⟩ => ⟨S2x4x2048x2048, .f32⟩
  | .hbm, ⟨63, _⟩ => ⟨S2x4x2048x2048, .f32⟩
  | .hbm, ⟨64, _⟩ => ⟨S2x4x2048x2048, .f32⟩
  | .hbm, ⟨65, _⟩ => ⟨S_, .f32⟩
  | .hbm, ⟨66, _⟩ => ⟨S2x4x2048, .f32⟩
  | .hbm, ⟨67, _⟩ => ⟨S2x4x2048x1, .f32⟩
  | .hbm, ⟨68, _⟩ => ⟨S2x4x2048x1, .f32⟩
  | .hbm, ⟨69, _⟩ => ⟨S2x4x2048x2048, .f32⟩
  | .hbm, ⟨70, _⟩ => ⟨S2x4x2048x2048, .f32⟩
  | .hbm, ⟨71, _⟩ => ⟨S_, .f32⟩
  | .hbm, ⟨72, _⟩ => ⟨S2x4x2048, .f32⟩
  | .hbm, ⟨73, _⟩ => ⟨S2x4x2048x2048, .f32⟩
  | .hbm, ⟨74, _⟩ => ⟨S2x4x2048x2048, .f32⟩
  | .hbm, ⟨75, _⟩ => ⟨S2x4x2048x2048, .f32⟩
  | .hbm, ⟨76, _⟩ => ⟨S_, .f32⟩
  | .hbm, ⟨77, _⟩ => ⟨S2x4x2048x2048, .f32⟩
  | .hbm, ⟨78, _⟩ => ⟨S2x4x2048x2048, .f32⟩
  | .hbm, ⟨79, _⟩ => ⟨S2x2048x2048x4, .f32⟩
  | .hbm, ⟨80, _⟩ => ⟨S2x2048x4x128, .f32⟩
  | .hbm, ⟨81, _⟩ => ⟨S2048x2x4x128, .f32⟩
  | .hbm, ⟨82, _⟩ => ⟨S2x2048x128, .f32⟩
  | .hbm, ⟨83, _⟩ => ⟨S2048x2x128, .f32⟩
  | .hbm, ⟨84, _⟩ => ⟨S2048x1024, .f32⟩
  | .hbm, ⟨85, _⟩ => ⟨S2048x1024, .bf16⟩
  | .hbm, ⟨86, _⟩ => ⟨S2048x256, .f32⟩
  | .hbm, ⟨87, _⟩ => ⟨S2048x256, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_cst_6 : Ref sig .tc := ⟨.hbm, 37, rfl⟩
abbrev main_v26 : Ref sig .tc := ⟨.hbm, 38, rfl⟩
abbrev main_cst_7 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_8 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_9 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_10 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_11 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_12 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩

abbrev nD : Nat := 1
abbrev τ : Topo := Topo.v7x

variable {F : FTy → Type} [FloatOps F]
-- ==== Ffn.lean ====
abbrev S2048x2048 : Shape := ⟨2, ![2048, 2048]⟩
abbrev S5632x2048 : Shape := ⟨2, ![5632, 2048]⟩
abbrev S2048x5632 : Shape := ⟨2, ![2048, 5632]⟩
abbrev S512x2048 : Shape := ⟨2, ![512, 2048]⟩
abbrev S2048x512 : Shape := ⟨2, ![2048, 512]⟩

abbrev nBuf : Space → Nat
  | .hbm => 6
  | .vmem => 11
  | .smem => 0
  | _ => 0

abbrev bufTy : (tb : Table) → Fin (tcTables nBuf tb) → BufTy
  | .hbm, ⟨0, _⟩ => ⟨S2048x2048, .bf16⟩
  | .hbm, ⟨1, _⟩ => ⟨S5632x2048, .bf16⟩
  | .hbm, ⟨2, _⟩ => ⟨S2048x5632, .bf16⟩
  | .hbm, ⟨3, _⟩ => ⟨S2048x5632, .bf16⟩
  | .hbm, ⟨4, _⟩ => ⟨S2048x5632, .bf16⟩
  | .hbm, ⟨5, _⟩ => ⟨S2048x5632, .bf16⟩
  | .local _ .vmem, ⟨0, _⟩ => ⟨S2048x2048, .bf16⟩
  | .local _ .vmem, ⟨1, _⟩ => ⟨S512x2048, .bf16⟩
  | .local _ .vmem, ⟨2, _⟩ => ⟨S512x2048, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnRefIdeal.lean ====
abbrev S2048x2048 : Shape := ⟨2, ![2048, 2048]⟩
abbrev S5632x2048 : Shape := ⟨2, ![5632, 2048]⟩
abbrev S2048x5632 : Shape := ⟨2, ![2048, 5632]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S5632x2048, .bf16⟩
  | .hbm, ⟨2, _⟩ => ⟨S2048x5632, .bf16⟩
  | .hbm, ⟨3, _⟩ => ⟨S2048x5632, .bf16⟩
  | .hbm, ⟨4, _⟩ => ⟨S2048x5632, .f32⟩
  | .hbm, ⟨5, _⟩ => ⟨S2048x5632, .f32⟩
  | .hbm, ⟨6, _⟩ => ⟨S2048x5632, .f32⟩
  | .hbm, ⟨7, _⟩ => ⟨S2048x5632, .f32⟩
  | .hbm, ⟨8, _⟩ => ⟨S_, .f32⟩
  | .hbm, ⟨9, _⟩ => ⟨S2048x5632, .f32⟩
  | .hbm, ⟨10, _⟩ => ⟨S2048x5632, .f32⟩
  | .hbm, ⟨11, _⟩ => ⟨S_, .f32⟩
  | .hbm, ⟨12, _⟩ => ⟨S2048x5632, .f32⟩
  | .hbm, ⟨13, _⟩ => ⟨S2048x5632, .f32⟩
  | .hbm, ⟨14, _⟩ => ⟨S_, .f32⟩
  | .hbm, ⟨15, _⟩ => ⟨S2048x5632, .f32⟩
  | .hbm, ⟨16, _⟩ => ⟨S2048x5632, .f32⟩
  | .hbm, ⟨17, _⟩ => ⟨S2048x5632, .f32⟩
  | .hbm, ⟨18, _⟩ => ⟨S2048x5632, .f32⟩
  | .hbm, ⟨19, _⟩ => ⟨S2048x5632, .f32⟩
  | .hbm, ⟨20, _⟩ => ⟨S5632x2048, .f32⟩
  | .hbm, ⟨21, _⟩ => ⟨S2048x2048, .f32⟩
  | .hbm, ⟨22, _⟩ => ⟨S2048x2048, .f32⟩
  | .hbm, ⟨23, _⟩ => ⟨S2048x5632, .f32⟩
  | .hbm, ⟨24, _⟩ => ⟨S2048x5632, .f32⟩
  | .hbm, ⟨25, _⟩ => ⟨S2048x5632, .f32⟩
  | .hbm, ⟨26, _⟩ => ⟨S2048x5632, .f32⟩
  | .hbm, ⟨27, _⟩ => ⟨S2048x5632, .f32⟩
  | .hbm, ⟨28, _⟩ => ⟨S2048x5632, .f32⟩
  | .hbm, ⟨29, _⟩ => ⟨S2048x5632, .f32⟩
  | .hbm, ⟨30, _⟩ => ⟨S2048x5632, .bf16⟩
  | .hbm, ⟨31, _⟩ => ⟨S2048x5632, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩

abbrev nD : Nat := 1
abbrev τ : Topo := Topo.v7x

variable {F : FTy → Type} [FloatOps F]
-- ==== Wff.lean ====
abbrev S2048x5632 : Shape := ⟨2, ![2048, 5632]⟩
abbrev S2048x2048 : Shape := ⟨2, ![2048, 2048]⟩
abbrev S5632x2048 : Shape := ⟨2, ![5632, 2048]⟩
abbrev S2048x512 : Shape := ⟨2, ![2048, 512]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S5632x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x2048, .bf16⟩
  | .local _ .vmem, ⟨3, _⟩ => ⟨S512x2048, .bf16⟩
  | .local _ .vmem, ⟨4, _⟩ => ⟨S512x2048, .bf16⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![11, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WffRefIdeal.lean ====
abbrev S2048x5632 : Shape := ⟨2, ![2048, 5632]⟩
abbrev S2048x2048 : Shape := ⟨2, ![2048, 2048]⟩
abbrev S_ : Shape := ⟨0, ![]⟩
abbrev S5632x2048 : Shape := ⟨2, ![5632, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S_, .f32⟩
  | .hbm, ⟨3, _⟩ => ⟨S5632x2048, .f32⟩
  | .hbm, ⟨4, _⟩ => ⟨S2048x5632, .f32⟩
  | .hbm, ⟨5, _⟩ => ⟨S2048x2048, .f32⟩
  | .hbm, ⟨6, _⟩ => ⟨S2048x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Hf.lean ====
abbrev S2048x5632 : Shape := ⟨2, ![2048, 5632]⟩
abbrev S5632x2048 : Shape := ⟨2, ![5632, 2048]⟩
abbrev S2048x2048 : Shape := ⟨2, ![2048, 2048]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x2048, .f32⟩
  | .hbm, ⟨3, _⟩ => ⟨S2048x2048, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== HfRefIdeal.lean ====
abbrev S2048x5632 : Shape := ⟨2, ![2048, 5632]⟩
abbrev S5632x2048 : Shape := ⟨2, ![5632, 2048]⟩
abbrev S2048x2048 : Shape := ⟨2, ![2048, 2048]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S5632x2048, .f32⟩
  | .hbm, ⟨6, _⟩ => ⟨S2048x5632, .f32⟩
  | .hbm, ⟨7, _⟩ => ⟨S2048x5632, .f32⟩
  | .hbm, ⟨8, _⟩ => ⟨S2048x5632, .f32⟩
  | .hbm, ⟨9, _⟩ => ⟨S2048x2048, .f32⟩
  | .hbm, ⟨10, _⟩ => ⟨S2048x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Hg.lean ====
abbrev S2048x5632 : Shape := ⟨2, ![2048, 5632]⟩
abbrev S5632x2048 : Shape := ⟨2, ![5632, 2048]⟩
abbrev S2048x2048 : Shape := ⟨2, ![2048, 2048]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x2048, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== HgRefIdeal.lean ====
abbrev S2048x5632 : Shape := ⟨2, ![2048, 5632]⟩
abbrev S5632x2048 : Shape := ⟨2, ![5632, 2048]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S_, .f32⟩
  | .hbm, ⟨3, _⟩ => ⟨S2048x2048, .f32⟩
  | .hbm, ⟨4, _⟩ => ⟨S5632x2048, .f32⟩
  | .hbm, ⟨5, _⟩ => ⟨S2048x5632, .f32⟩
  | .hbm, ⟨6, _⟩ => ⟨S2048x5632, .f32⟩
  | .hbm, ⟨7, _⟩ => ⟨S2048x5632, .f32⟩
  | .hbm, ⟨8, _⟩ => ⟨S2048x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Win.lean ====
abbrev S2048x11776 : Shape := ⟨2, ![2048, 11776]⟩
abbrev S2048x2048 : Shape := ⟨2, ![2048, 2048]⟩
abbrev S11776x2048 : Shape := ⟨2, ![11776, 2048]⟩
abbrev S2048x512 : Shape := ⟨2, ![2048, 512]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S2048x11776, .bf16⟩
  | .hbm, ⟨1, _⟩ => ⟨S2048x2048, .bf16⟩
  | .hbm, ⟨2, _⟩ => ⟨S11776x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x2048, .bf16⟩
  | .local _ .vmem, ⟨3, _⟩ => ⟨S512x2048, .bf16⟩
  | .local _ .vmem, ⟨4, _⟩ => ⟨S512x2048, .bf16⟩
  | _, _ => ⟨S2048x11776, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![23, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WinRefIdeal.lean ====
abbrev S2048x11776 : Shape := ⟨2, ![2048, 11776]⟩
abbrev S2048x2048 : Shape := ⟨2, ![2048, 2048]⟩
abbrev S_ : Shape := ⟨0, ![]⟩
abbrev S11776x2048 : Shape := ⟨2, ![11776, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x11776, .bf16⟩
  | .hbm, ⟨1, _⟩ => ⟨S2048x2048, .bf16⟩
  | .hbm, ⟨2, _⟩ => ⟨S_, .f32⟩
  | .hbm, ⟨3, _⟩ => ⟨S2048x11776, .f32⟩
  | .hbm, ⟨4, _⟩ => ⟨S2048x2048, .f32⟩
  | .hbm, ⟨5, _⟩ => ⟨S2048x11776, .f32⟩
  | .hbm, ⟨6, _⟩ => ⟨S2048x11776, .f32⟩
  | .hbm, ⟨7, _⟩ => ⟨S11776x2048, .f32⟩
  | .hbm, ⟨8, _⟩ => ⟨S2048x11776, .f32⟩
  | .hbm, ⟨9, _⟩ => ⟨S11776x2048, .f32⟩
  | .hbm, ⟨10, _⟩ => ⟨S11776x2048, .bf16⟩
  | _, _ => ⟨S2048x11776, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Dh.lean ====
abbrev S2048x11776 : Shape := ⟨2, ![2048, 11776]⟩
abbrev S11776x2048 : Shape := ⟨2, ![11776, 2048]⟩
abbrev S2048x2048 : Shape := ⟨2, ![2048, 2048]⟩
abbrev S1024x2944 : Shape := ⟨2, ![1024, 2944]⟩
abbrev S2944x1024 : Shape := ⟨2, ![2944, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x11776, .bf16⟩
  | .hbm, ⟨1, _⟩ => ⟨S11776x2048, .bf16⟩
  | .hbm, ⟨2, _⟩ => ⟨S2048x2048, .f32⟩
  | .local _ .vmem, ⟨0, _⟩ => ⟨S1024x2944, .bf16⟩
  | .local _ .vmem, ⟨1, _⟩ => ⟨S1024x2944, .bf16⟩
  | .local _ .vmem, ⟨2, _⟩ => ⟨S2944x1024, .bf16⟩
  | .local _ .vmem, ⟨3, _⟩ => ⟨S2944x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x11776, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2944 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2944x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DhRefIdeal.lean ====
abbrev S2048x11776 : Shape := ⟨2, ![2048, 11776]⟩
abbrev S11776x2048 : Shape := ⟨2, ![11776, 2048]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2048x11776, .bf16⟩
  | .hbm, ⟨1, _⟩ => ⟨S11776x2048, .bf16⟩
  | .hbm, ⟨2, _⟩ => ⟨S_, .f32⟩
  | .hbm, ⟨3, _⟩ => ⟨S2048x2048, .f32⟩
  | .hbm, ⟨4, _⟩ => ⟨S11776x2048, .f32⟩
  | .hbm, ⟨5, _⟩ => ⟨S2048x11776, .f32⟩
  | .hbm, ⟨6, _⟩ => ⟨S2048x11776, .f32⟩
  | .hbm, ⟨7, _⟩ => ⟨S2048x11776, .f32⟩
  | .hbm, ⟨8, _⟩ => ⟨S2048x2048, .f32⟩
  | _, _ => ⟨S2048x11776, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Up.lean ====
abbrev S2048x2048 : Shape := ⟨2, ![2048, 2048]⟩
abbrev S5632x2048 : Shape := ⟨2, ![5632, 2048]⟩
abbrev S2048x5632 : Shape := ⟨2, ![2048, 5632]⟩
abbrev S512x2048 : Shape := ⟨2, ![512, 2048]⟩
abbrev S2048x512 : Shape := ⟨2, ![2048, 512]⟩

abbrev nBuf : Space → Nat
  | .hbm => 6
  | .vmem => 11
  | .smem => 0
  | _ => 0

abbrev bufTy : (tb : Table) → Fin (tcTables nBuf tb) → BufTy
  | .hbm, ⟨0, _⟩ => ⟨S2048x2048, .bf16⟩
  | .hbm, ⟨1, _⟩ => ⟨S5632x2048, .bf16⟩
  | .hbm, ⟨2, _⟩ => ⟨S5632x2048, .bf16⟩
  | .hbm, ⟨3, _⟩ => ⟨S2048x5632, .bf16⟩
  | .hbm, ⟨4, _⟩ => ⟨S2048x5632, .bf16⟩
  | .hbm, ⟨5, _⟩ => ⟨S2048x5632, .bf16⟩
  | .local _ .vmem, ⟨0, _⟩ => ⟨S2048x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== UpRefIdeal.lean ====
abbrev S2048x2048 : Shape := ⟨2, ![2048, 2048]⟩
abbrev S5632x2048 : Shape := ⟨2, ![5632, 2048]⟩
abbrev S2048x5632 : Shape := ⟨2, ![2048, 5632]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S5632x2048, .bf16⟩
  | .hbm, ⟨2, _⟩ => ⟨S5632x2048, .bf16⟩
  | .hbm, ⟨3, _⟩ => ⟨S2048x2048, .f32⟩
  | .hbm, ⟨4, _⟩ => ⟨S5632x2048, .f32⟩
  | .hbm, ⟨5, _⟩ => ⟨S2048x5632, .f32⟩
  | .hbm, ⟨6, _⟩ => ⟨S2048x5632, .f32⟩
  | .hbm, ⟨7, _⟩ => ⟨S2048x2048, .f32⟩
  | .hbm, ⟨8, _⟩ => ⟨S5632x2048, .f32⟩
  | .hbm, ⟨9, _⟩ => ⟨S2048x5632, .f32⟩
  | .hbm, ⟨10, _⟩ => ⟨S2048x5632, .f32⟩
  | .hbm, ⟨11, _⟩ => ⟨S2048x5632, .bf16⟩
  | .hbm, ⟨12, _⟩ => ⟨S2048x5632, .bf16⟩
  | .hbm, ⟨13, _⟩ => ⟨S2048x5632, .f32⟩
  | .hbm, ⟨14, _⟩ => ⟨S2048x5632, .f32⟩
  | .hbm, ⟨15, _⟩ => ⟨S_, .f32⟩
  | .hbm, ⟨16, _⟩ => ⟨S2048x5632, .f32⟩
  | .hbm, ⟨17, _⟩ => ⟨S2048x5632, .f32⟩
  | .hbm, ⟨18, _⟩ => ⟨S_, .f32⟩
  | .hbm, ⟨19, _⟩ => ⟨S2048x5632, .f32⟩
  | .hbm, ⟨20, _⟩ => ⟨S2048x5632, .f32⟩
  | .hbm, ⟨21, _⟩ => ⟨S2048x5632, .f32⟩
  | .hbm, ⟨22, _⟩ => ⟨S2048x5632, .f32⟩
  | .hbm, ⟨23, _⟩ => ⟨S2048x5632, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩

abbrev nD : Nat := 1
abbrev τ : Topo := Topo.v7x

variable {F : FTy → Type} [FloatOps F]
-- ==== Merge.lean ====
abbrev S2048x2048 : Shape := ⟨2, ![2048, 2048]⟩
abbrev S2048x6144 : Shape := ⟨2, ![2048, 6144]⟩
abbrev S1x6144 : Shape := ⟨2, ![1, 6144]⟩
abbrev S1x2048 : Shape := ⟨2, ![1, 2048]⟩
abbrev S256x2048 : Shape := ⟨2, ![256, 2048]⟩
abbrev S2048x256 : Shape := ⟨2, ![2048, 256]⟩
abbrev S1x256 : Shape := ⟨2, ![1, 256]⟩
abbrev S256 : Shape := ⟨1, ![256]⟩

abbrev nBuf : Space → Nat
  | .hbm => 16
  | .vmem => 39
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x6144, .bf16⟩
  | .hbm, ⟨3, _⟩ => ⟨S1x6144, .f32⟩
  | .hbm, ⟨4, _⟩ => ⟨S2048x2048, .bf16⟩
  | .hbm, ⟨5, _⟩ => ⟨S2048x2048, .bf16⟩
  | .hbm, ⟨6, _⟩ => ⟨S2048x2048, .bf16⟩
  | .hbm, ⟨7, _⟩ => ⟨S2048x2048, .bf16⟩
  | .hbm, ⟨8, _⟩ => ⟨S2048x2048, .bf16⟩
  | .hbm, ⟨9, _⟩ => ⟨S2048x2048, .bf16⟩
  | .hbm, ⟨10, _⟩ => ⟨S2048x2048, .bf16⟩
  | .hbm, ⟨11, _⟩ => ⟨S2048x2048, .bf16⟩
  | .hbm, ⟨12, _⟩ => ⟨S2048x2048, .bf16⟩
  | .hbm, ⟨13, _⟩ => ⟨S1x2048, .f32⟩
  | .hbm, ⟨14, _⟩ => ⟨S1x2048, .f32⟩
  | .hbm, ⟨15, _⟩ => ⟨S1x2048, .f32⟩
  | .local _ .vmem, ⟨0, _⟩ => ⟨S2048x2048, .bf16⟩
  | .local _ .vmem, ⟨1, _⟩ => ⟨S256x2048, .bf16⟩
  | .local _ .vmem, ⟨2, _⟩ => ⟨S256x2048, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S2048x256, .bf16⟩
  | .local _ .vmem, ⟨7, _⟩ => ⟨S2048x256, .bf16⟩
  | .local _ .vmem, ⟨8, _⟩ => ⟨S2048x256, .bf16⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S1x256, .f32⟩
  | .local _ .vmem, ⟨15, _⟩ => ⟨S2048x256, .bf16⟩
  | .local _ .vmem, ⟨16, _⟩ => ⟨S2048x256, .bf16⟩
  | .local _ .vmem, ⟨17, _⟩ => ⟨S2048x256, .bf16⟩
  | .local _ .vmem, ⟨18, _⟩ => ⟨S2048x256, .bf16⟩
  | .local _ .vmem, ⟨19, _⟩ => ⟨S2048x256, .bf16⟩
  | .local _ .vmem, ⟨20, _⟩ => ⟨S2048x256, .bf16⟩
  | .local _ .vmem, ⟨21, _⟩ => ⟨S2048x256, .bf16⟩
  | .local _ .vmem, ⟨22, _⟩ => ⟨S2048x256, .bf16⟩
  | .local _ .vmem, ⟨23, _⟩ => ⟨S2048x256, .bf16⟩
  | .local _ .vmem, ⟨24, _⟩ => ⟨S2048x256, .bf16⟩
  | .local _ .vmem, ⟨25, _⟩ => ⟨S2048x256, .bf16⟩
  | .local _ .vmem, ⟨26, _⟩ => ⟨S2048x256, .bf16⟩
  | .local _ .vmem, ⟨27, _⟩ => ⟨S2048x256, .bf16⟩
  | .local _ .vmem, ⟨28, _⟩ => ⟨S2048x256, .bf16⟩
  | .local _ .vmem, ⟨29, _⟩ => ⟨S2048x256, .bf16⟩
  | .local _ .vmem, ⟨30, _⟩ => ⟨S2048x256, .bf16⟩
  | .local _ .vmem, ⟨31, _⟩ => ⟨S2048x256, .bf16⟩
  | .local _ .vmem, ⟨32, _⟩ => ⟨S2048x256, .bf16⟩
  | .local _ .vmem, ⟨33, _⟩ => ⟨S1x256, .f32⟩
  | .local _ .vmem, ⟨34, _⟩ => ⟨S1x256, .f32⟩
  | .local _ .vmem, ⟨35, _⟩ => ⟨S1x256, .f32⟩
  | .local _ .vmem, ⟨36, _⟩ => ⟨S1x256, .f32⟩
  | .local _ .vmem, ⟨37, _⟩ => ⟨S1x256, .f32⟩
  | .local _ .vmem, ⟨38, _⟩ => ⟨S1x256, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev main_v0_6 : Ref sig .tc := ⟨.hbm, 13, rfl⟩
abbrev main_v0_7 : Ref sig .tc := ⟨.hbm, 14, rfl⟩
abbrev main_v0_8 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_stg16_1 : Ref sig .tc := ⟨.vmem, 32, rfl⟩
abbrev cc0_stg17_0 : Ref sig .tc := ⟨.vmem, 33, rfl⟩
abbrev cc0_stg17_1 : Ref sig .tc := ⟨.vmem, 34, rfl⟩
abbrev cc0_stg18_0 : Ref sig .tc := ⟨.vmem, 35, rfl⟩
abbrev cc0_stg18_1 : Ref sig .tc := ⟨.vmem, 36, rfl⟩
abbrev cc0_stg19_0 : Ref sig .tc := ⟨.vmem, 37, rfl⟩
abbrev cc0_stg19_1 : Ref sig .tc := ⟨.vmem, 38, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32
abbrev cc0_sem17_0 : DmaSem sig := 33
abbrev cc0_sem17_1 : DmaSem sig := 34
abbrev cc0_sem18_0 : DmaSem sig := 35
abbrev cc0_sem18_1 : DmaSem sig := 36
abbrev cc0_sem19_0 : DmaSem sig := 37
abbrev cc0_sem19_1 : DmaSem sig := 38

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_9 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_10 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2048x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2048x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2048x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2048x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S2048x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S2048x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S2048x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== MergeRefIdeal.lean ====
abbrev S2048x2048 : Shape := ⟨2, ![2048, 2048]⟩
abbrev S2048x6144 : Shape := ⟨2, ![2048, 6144]⟩
abbrev S1x6144 : Shape := ⟨2, ![1, 6144]⟩
abbrev S2048x3x2048 : Shape := ⟨3, ![2048, 3, 2048]⟩
abbrev S_ : Shape := ⟨0, ![]⟩
abbrev S2048x1x2048 : Shape := ⟨3, ![2048, 1, 2048]⟩
abbrev S6144 : Shape := ⟨1, ![6144]⟩
abbrev S1x3x2048 : Shape := ⟨3, ![1, 3, 2048]⟩
abbrev S1x1x2048 : Shape := ⟨3, ![1, 1, 2048]⟩
abbrev S1x2048 : Shape := ⟨2, ![1, 2048]⟩

abbrev nBuf : Space → Nat
  | .hbm => 83
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x6144, .bf16⟩
  | .hbm, ⟨3, _⟩ => ⟨S1x6144, .f32⟩
  | .hbm, ⟨4, _⟩ => ⟨S2048x2048, .bf16⟩
  | .hbm, ⟨5, _⟩ => ⟨S2048x2048, .bf16⟩
  | .hbm, ⟨6, _⟩ => ⟨S2048x2048, .bf16⟩
  | .hbm, ⟨7, _⟩ => ⟨S2048x6144, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048x6144, .f32⟩
  | .hbm, ⟨12, _⟩ => ⟨S2048x6144, .f32⟩
  | .hbm, ⟨13, _⟩ => ⟨S2048x3x2048, .f32⟩
  | .hbm, ⟨14, _⟩ => ⟨S2048x3x2048, .f32⟩
  | .hbm, ⟨15, _⟩ => ⟨S2048x3x2048, .f32⟩
  | .hbm, ⟨16, _⟩ => ⟨S_, .f32⟩
  | .hbm, ⟨17, _⟩ => ⟨S2048x3x2048, .f32⟩
  | .hbm, ⟨18, _⟩ => ⟨S2048x3x2048, .f32⟩
  | .hbm, ⟨19, _⟩ => ⟨S_, .f32⟩
  | .hbm, ⟨20, _⟩ => ⟨S2048x3x2048, .f32⟩
  | .hbm, ⟨21, _⟩ => ⟨S2048x3x2048, .f32⟩
  | .hbm, ⟨22, _⟩ => ⟨S_, .f32⟩
  | .hbm, ⟨23, _⟩ => ⟨S2048x3x2048, .f32⟩
  | .hbm, ⟨24, _⟩ => ⟨S2048x3x2048, .f32⟩
  | .hbm, ⟨25, _⟩ => ⟨S2048x3x2048, .f32⟩
  | .hbm, ⟨26, _⟩ => ⟨S2048x1x2048, .f32⟩
  | .hbm, ⟨27, _⟩ => ⟨S2048x2048, .f32⟩
  | .hbm, ⟨28, _⟩ => ⟨S2048x2048, .f32⟩
  | .hbm, ⟨29, _⟩ => ⟨S2048x1x2048, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S2048x1x2048, .f32⟩
  | .hbm, ⟨34, _⟩ => ⟨S2048x2048, .f32⟩
  | .hbm, ⟨35, _⟩ => ⟨S2048x2048, .f32⟩
  | .hbm, ⟨36, _⟩ => ⟨S2048x2048, .f32⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S2048x2048, .f32⟩
  | .hbm, ⟨41, _⟩ => ⟨S2048x2048, .f32⟩
  | .hbm, ⟨42, _⟩ => ⟨S2048x2048, .f32⟩
  | .hbm, ⟨43, _⟩ => ⟨S2048x1x2048, .f32⟩
  | .hbm, ⟨44, _⟩ => ⟨S_, .f32⟩
  | .hbm, ⟨45, _⟩ => ⟨S2048x3x2048, .f32⟩
  | .hbm, ⟨46, _⟩ => ⟨S2048x2048, .f32⟩
  | .hbm, ⟨47, _⟩ => ⟨S2048x2048, .f32⟩
  | .hbm, ⟨48, _⟩ => ⟨S2048x1x2048, .f32⟩
  | .hbm, ⟨49, _⟩ => ⟨S_, .f32⟩
  | .hbm, ⟨50, _⟩ => ⟨S2048x3x2048, .f32⟩
  | .hbm, ⟨51, _⟩ => ⟨S2048x3x2048, .f32⟩
  | .hbm, ⟨52, _⟩ => ⟨S2048x2048, .f32⟩
  | .hbm, ⟨53, _⟩ => ⟨S2048x2048, .f32⟩
  | .hbm, ⟨54, _⟩ => ⟨S2048x1x2048, .f32⟩
  | .hbm, ⟨55, _⟩ => ⟨S_, .f32⟩
  | .hbm, ⟨56, _⟩ => ⟨S2048x3x2048, .f32⟩
  | .hbm, ⟨57, _⟩ => ⟨S2048x3x2048, .f32⟩
  | .hbm, ⟨58, _⟩ => ⟨S2048x3x2048, .f32⟩
  | .hbm, ⟨59, _⟩ => ⟨S2048x6144, .f32⟩
  | .hbm, ⟨60, _⟩ => ⟨S_, .f32⟩
  | .hbm, ⟨61, _⟩ => ⟨S6144, .f32⟩
  | .hbm, ⟨62, _⟩ => ⟨S1x6144, .f32⟩
  | .hbm, ⟨63, _⟩ => ⟨S2048x3x2048, .f32⟩
  | .hbm, ⟨64, _⟩ => ⟨S1x3x2048, .f32⟩
  | .hbm, ⟨65, _⟩ => ⟨S2048x1x2048, .f32⟩
  | .hbm, ⟨66, _⟩ => ⟨S2048x2048, .f32⟩
  | .hbm, ⟨67, _⟩ => ⟨S2048x2048, .bf16⟩
  | .hbm, ⟨68, _⟩ => ⟨S2048x1x2048, .f32⟩
  | .hbm, ⟨69, _⟩ => ⟨S2048x2048, .f32⟩
  | .hbm, ⟨70, _⟩ => ⟨S2048x2048, .bf16⟩
  | .hbm, ⟨71, _⟩ => ⟨S2048x1x2048, .f32⟩
  | .hbm, ⟨72, _⟩ => ⟨S2048x2048, .f32⟩
  | .hbm, ⟨73, _⟩ => ⟨S2048x2048, .bf16⟩
  | .hbm, ⟨74, _⟩ => ⟨S2048x2048, .bf16⟩
  | .hbm, ⟨75, _⟩ => ⟨S2048x2048, .bf16⟩
  | .hbm, ⟨76, _⟩ => ⟨S2048x2048, .bf16⟩
  | .hbm, ⟨77, _⟩ => ⟨S1x1x2048, .f32⟩
  | .hbm, ⟨78, _⟩ => ⟨S1x2048, .f32⟩
  | .hbm, ⟨79, _⟩ => ⟨S1x1x2048, .f32⟩
  | .hbm, ⟨80, _⟩ => ⟨S1x2048, .f32⟩
  | .hbm, ⟨81, _⟩ => ⟨S1x1x2048, .f32⟩
  | .hbm, ⟨82, _⟩ => ⟨S1x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_2 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_3 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_4 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_5 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩

abbrev nD : Nat := 1
abbrev τ : Topo := Topo.v7x

variable {F : FTy → Type} [FloatOps F]
-- ==== Do.lean ====
abbrev S2048x2048 : Shape := ⟨2, ![2048, 2048]⟩
abbrev S2048x1024 : Shape := ⟨2, ![2048, 1024]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x1024, .bf16⟩
  | .hbm, ⟨2, _⟩ => ⟨S2048x1024, .bf16⟩
  | .local _ .vmem, ⟨0, _⟩ => ⟨S2048x2048, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DoRefIdeal.lean ====
abbrev S2048x2048 : Shape := ⟨2, ![2048, 2048]⟩
abbrev S2048x1024 : Shape := ⟨2, ![2048, 1024]⟩
abbrev S_ : Shape := ⟨0, ![]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x1024, .bf16⟩
  | .hbm, ⟨2, _⟩ => ⟨S_, .f32⟩
  | .hbm, ⟨3, _⟩ => ⟨S2048x1024, .f32⟩
  | .hbm, ⟨4, _⟩ => ⟨S2048x1024, .f32⟩
  | .hbm, ⟨5, _⟩ => ⟨S1024x2048, .f32⟩
  | .hbm, ⟨6, _⟩ => ⟨S2048x2048, .f32⟩
  | .hbm, ⟨7, _⟩ => ⟨S2048x2048, .f32⟩
  | .hbm, ⟨8, _⟩ => ⟨S2048x1024, .f32⟩
  | .hbm, ⟨9, _⟩ => ⟨S2048x1024, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Wo.lean ====
abbrev S2048x2048 : Shape := ⟨2, ![2048, 2048]⟩
abbrev S2048x1024 : Shape := ⟨2, ![2048, 1024]⟩
abbrev S2048x512 : Shape := ⟨2, ![2048, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x1024, .bf16⟩
  | .hbm, ⟨2, _⟩ => ⟨S2048x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S512x1024, .bf16⟩
  | .local _ .vmem, ⟨4, _⟩ => ⟨S512x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WoRefIdeal.lean ====
abbrev S2048x2048 : Shape := ⟨2, ![2048, 2048]⟩
abbrev S2048x1024 : Shape := ⟨2, ![2048, 1024]⟩
abbrev S_ : Shape := ⟨0, ![]⟩
abbrev S1024x2048 : Shape := ⟨2, ![1024, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x1024, .bf16⟩
  | .hbm, ⟨2, _⟩ => ⟨S_, .f32⟩
  | .hbm, ⟨3, _⟩ => ⟨S1024x2048, .f32⟩
  | .hbm, ⟨4, _⟩ => ⟨S2048x1024, .f32⟩
  | .hbm, ⟨5, _⟩ => ⟨S2048x2048, .f32⟩
  | .hbm, ⟨6, _⟩ => ⟨S2048x2048, .f32⟩
  | .hbm, ⟨7, _⟩ => ⟨S2048x1024, .f32⟩
  | .hbm, ⟨8, _⟩ => ⟨S1024x2048, .f32⟩
  | .hbm, ⟨9, _⟩ => ⟨S2048x1024, .f32⟩
  | .hbm, ⟨10, _⟩ => ⟨S2048x1024, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Wout.lean ====
abbrev S2048x2048 : Shape := ⟨2, ![2048, 2048]⟩
abbrev S2048x512 : Shape := ⟨2, ![2048, 512]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x2048, .bf16⟩
  | .local _ .vmem, ⟨3, _⟩ => ⟨S512x2048, .bf16⟩
  | .local _ .vmem, ⟨4, _⟩ => ⟨S512x2048, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WoutRefIdeal.lean ====
abbrev S2048x2048 : Shape := ⟨2, ![2048, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Out.lean ====
abbrev S2048x2048 : Shape := ⟨2, ![2048, 2048]⟩
abbrev S2048x256 : Shape := ⟨2, ![2048, 256]⟩

abbrev nBuf : Space → Nat
  | .hbm => 4
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .local _ .vmem, ⟨0, _⟩ => ⟨S2048x2048, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutRefIdeal.lean ====
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Rms.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .bf16⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v37 : BitVec 1 := Scalar.cmpi .eq arg0 c0_i32
  let v38 : BitVec 32 := Scalar.extui v37
  let c0_i32_16 : BitVec 32 := 0#32
  let v39 : BitVec 1 := Scalar.cmpi .ne v38 c0_i32_16
  v39

def k0_cond2 (i : grid0.Coords) : BitVec 1 :=
  let arg0 : BitVec 32 := BitVec.ofNat 32 (i 0).val
  let c0_i32_17 : BitVec 32 := 0#32
  let v40 : BitVec 1 := Scalar.cmpi .sgt arg0 c0_i32_17
  let v41 : BitVec 32 := Scalar.extui v40
  let c0_i32_18 : BitVec 32 := 0#32
  let v42 : BitVec 1 := Scalar.cmpi .ne v41 c0_i32_18
  v42

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== RmsRefIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 49
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048, .f32⟩
  | .hbm, ⟨32, _⟩ => ⟨S2048x1, .f32⟩
  | .hbm, ⟨33, _⟩ => ⟨S2048x2048, .f32⟩
  | .hbm, ⟨34, _⟩ => ⟨S2048x2048, .f32⟩
  | .hbm, ⟨35, _⟩ => ⟨S2048x1, .f32⟩
  | .hbm, ⟨36, _⟩ => ⟨S_, .f32⟩
  | .hbm, ⟨37, _⟩ => ⟨S2048x1, .f32⟩
  | .hbm, ⟨38, _⟩ => ⟨S2048x1, .f32⟩
  | .hbm, ⟨39, _⟩ => ⟨S_, .f32⟩
  | .hbm, ⟨40, _⟩ => ⟨S2048, .f32⟩
  | .hbm, ⟨41, _⟩ => ⟨S2048x2048, .f32⟩
  | .hbm, ⟨42, _⟩ => ⟨S2048x2048, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== Pq.lean ====
abbrev S2048x2048 : Shape := ⟨2, ![2048, 2048]⟩
abbrev S11776x2048 : Shape := ⟨2, ![11776, 2048]⟩
abbrev S2048x1024 : Shape := ⟨2, ![2048, 1024]⟩
abbrev S512x2048 : Shape := ⟨2, ![512, 2048]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S11776x2048, .bf16⟩
  | .hbm, ⟨2, _⟩ => ⟨S2048x1024, .bf16⟩
  | .local _ .vmem, ⟨0, _⟩ => ⟨S2048x2048, .bf16⟩
  | .local _ .vmem, ⟨1, _⟩ => ⟨S512x2048, .bf16⟩
  | .local _ .vmem, ⟨2, _⟩ => ⟨S512x2048, .bf16⟩
  | .local _ .vmem, ⟨3, _⟩ => ⟨S2048x512, .bf16⟩
  | .local _ .vmem, ⟨4, _⟩ => ⟨S2048x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PqRefIdeal.lean ====
abbrev S2048x2048 : Shape := ⟨2, ![2048, 2048]⟩
abbrev S11776x2048 : Shape := ⟨2, ![11776, 2048]⟩
abbrev S2048x11776 : Shape := ⟨2, ![2048, 11776]⟩
abbrev S2048x1024 : Shape := ⟨2, ![2048, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S11776x2048, .bf16⟩
  | .hbm, ⟨2, _⟩ => ⟨S2048x2048, .f32⟩
  | .hbm, ⟨3, _⟩ => ⟨S11776x2048, .f32⟩
  | .hbm, ⟨4, _⟩ => ⟨S2048x11776, .f32⟩
  | .hbm, ⟨5, _⟩ => ⟨S2048x11776, .f32⟩
  | .hbm, ⟨6, _⟩ => ⟨S2048x1024, .f32⟩
  | .hbm, ⟨7, _⟩ => ⟨S2048x1024, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Pkv.lean ====
abbrev S2048x2048 : Shape := ⟨2, ![2048, 2048]⟩
abbrev S11776x2048 : Shape := ⟨2, ![11776, 2048]⟩
abbrev S2048x512 : Shape := ⟨2, ![2048, 512]⟩
abbrev S512x2048 : Shape := ⟨2, ![512, 2048]⟩

abbrev nBuf : Space → Nat
  | .hbm => 3
  | .vmem => 3
  | .smem => 0
  | _ => 0

abbrev bufTy : (tb : Table) → Fin (tcTables nBuf tb) → BufTy
  | .hbm, ⟨0, _⟩ => ⟨S2048x2048, .bf16⟩
  | .hbm, ⟨1, _⟩ => ⟨S11776x2048, .bf16⟩
  | .hbm, ⟨2, _⟩ => ⟨S2048x512, .bf16⟩
  | .local _ .vmem, ⟨0, _⟩ => ⟨S2048x2048, .bf16⟩
  | .local _ .vmem, ⟨1, _⟩ => ⟨S512x2048, .bf16⟩
  | .local _ .vmem, ⟨2, _⟩ => ⟨S2048x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg1 c2_i32
  let c0_i32 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== PkvRefIdeal.lean ====
abbrev S2048x2048 : Shape := ⟨2, ![2048, 2048]⟩
abbrev S11776x2048 : Shape := ⟨2, ![11776, 2048]⟩
abbrev S2048x11776 : Shape := ⟨2, ![2048, 11776]⟩
abbrev S2048x512 : Shape := ⟨2, ![2048, 512]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S11776x2048, .bf16⟩
  | .hbm, ⟨2, _⟩ => ⟨S2048x2048, .f32⟩
  | .hbm, ⟨3, _⟩ => ⟨S11776x2048, .f32⟩
  | .hbm, ⟨4, _⟩ => ⟨S2048x11776, .f32⟩
  | .hbm, ⟨5, _⟩ => ⟨S2048x11776, .f32⟩
  | .hbm, ⟨6, _⟩ => ⟨S2048x512, .f32⟩
  | .hbm, ⟨7, _⟩ => ⟨S2048x512, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Pconv.lean ====
abbrev S2048x2048 : Shape := ⟨2, ![2048, 2048]⟩
abbrev S11776x2048 : Shape := ⟨2, ![11776, 2048]⟩
abbrev S512x2048 : Shape := ⟨2, ![512, 2048]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S11776x2048, .bf16⟩
  | .hbm, ⟨2, _⟩ => ⟨S2048x2048, .bf16⟩
  | .local _ .vmem, ⟨0, _⟩ => ⟨S2048x2048, .bf16⟩
  | .local _ .vmem, ⟨1, _⟩ => ⟨S512x2048, .bf16⟩
  | .local _ .vmem, ⟨2, _⟩ => ⟨S512x2048, .bf16⟩
  | .local _ .vmem, ⟨3, _⟩ => ⟨S2048x512, .bf16⟩
  | .local _ .vmem, ⟨4, _⟩ => ⟨S2048x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi arg1 c3_i32
  let c0_i32 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PconvRefIdeal.lean ====
abbrev S2048x2048 : Shape := ⟨2, ![2048, 2048]⟩
abbrev S11776x2048 : Shape := ⟨2, ![11776, 2048]⟩
abbrev S2048x11776 : Shape := ⟨2, ![2048, 11776]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S11776x2048, .bf16⟩
  | .hbm, ⟨2, _⟩ => ⟨S2048x2048, .f32⟩
  | .hbm, ⟨3, _⟩ => ⟨S11776x2048, .f32⟩
  | .hbm, ⟨4, _⟩ => ⟨S2048x11776, .f32⟩
  | .hbm, ⟨5, _⟩ => ⟨S2048x11776, .f32⟩
  | .hbm, ⟨6, _⟩ => ⟨S2048x2048, .f32⟩
  | .hbm, ⟨7, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Psg.lean ====
abbrev S2048x2048 : Shape := ⟨2, ![2048, 2048]⟩
abbrev S11776x2048 : Shape := ⟨2, ![11776, 2048]⟩
abbrev S512x2048 : Shape := ⟨2, ![512, 2048]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S11776x2048, .bf16⟩
  | .hbm, ⟨2, _⟩ => ⟨S2048x2048, .bf16⟩
  | .local _ .vmem, ⟨0, _⟩ => ⟨S2048x2048, .bf16⟩
  | .local _ .vmem, ⟨1, _⟩ => ⟨S512x2048, .bf16⟩
  | .local _ .vmem, ⟨2, _⟩ => ⟨S512x2048, .bf16⟩
  | .local _ .vmem, ⟨3, _⟩ => ⟨S2048x512, .bf16⟩
  | .local _ .vmem, ⟨4, _⟩ => ⟨S2048x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.addi arg1 c7_i32
  let c0_i32 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PsgRefIdeal.lean ====
abbrev S2048x2048 : Shape := ⟨2, ![2048, 2048]⟩
abbrev S11776x2048 : Shape := ⟨2, ![11776, 2048]⟩
abbrev S2048x11776 : Shape := ⟨2, ![2048, 11776]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S11776x2048, .bf16⟩
  | .hbm, ⟨2, _⟩ => ⟨S2048x2048, .f32⟩
  | .hbm, ⟨3, _⟩ => ⟨S11776x2048, .f32⟩
  | .hbm, ⟨4, _⟩ => ⟨S2048x11776, .f32⟩
  | .hbm, ⟨5, _⟩ => ⟨S2048x11776, .f32⟩
  | .hbm, ⟨6, _⟩ => ⟨S2048x2048, .f32⟩
  | .hbm, ⟨7, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Pgate.lean ====
abbrev S2048x2048 : Shape := ⟨2, ![2048, 2048]⟩
abbrev S11776x2048 : Shape := ⟨2, ![11776, 2048]⟩
abbrev S2048x6144 : Shape := ⟨2, ![2048, 6144]⟩
abbrev S512x2048 : Shape := ⟨2, ![512, 2048]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S11776x2048, .bf16⟩
  | .hbm, ⟨2, _⟩ => ⟨S2048x6144, .bf16⟩
  | .local _ .vmem, ⟨0, _⟩ => ⟨S2048x2048, .bf16⟩
  | .local _ .vmem, ⟨1, _⟩ => ⟨S512x2048, .bf16⟩
  | .local _ .vmem, ⟨2, _⟩ => ⟨S512x2048, .bf16⟩
  | .local _ .vmem, ⟨3, _⟩ => ⟨S2048x512, .bf16⟩
  | .local _ .vmem, ⟨4, _⟩ => ⟨S2048x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 12, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.addi arg1 c11_i32
  let c0_i32 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PgateRefIdeal.lean ====
abbrev S2048x2048 : Shape := ⟨2, ![2048, 2048]⟩
abbrev S11776x2048 : Shape := ⟨2, ![11776, 2048]⟩
abbrev S2048x11776 : Shape := ⟨2, ![2048, 11776]⟩
abbrev S2048x6144 : Shape := ⟨2, ![2048, 6144]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S11776x2048, .bf16⟩
  | .hbm, ⟨2, _⟩ => ⟨S2048x2048, .f32⟩
  | .hbm, ⟨3, _⟩ => ⟨S11776x2048, .f32⟩
  | .hbm, ⟨4, _⟩ => ⟨S2048x11776, .f32⟩
  | .hbm, ⟨5, _⟩ => ⟨S2048x11776, .f32⟩
  | .hbm, ⟨6, _⟩ => ⟨S2048x6144, .f32⟩
  | .hbm, ⟨7, _⟩ => ⟨S2048x6144, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Atf.lean ====
abbrev S2048x1024 : Shape := ⟨2, ![2048, 1024]⟩
abbrev S2048x256 : Shape := ⟨2, ![2048, 256]⟩
abbrev S2048x512 : Shape := ⟨2, ![2048, 512]⟩
abbrev S256x512 : Shape := ⟨2, ![256, 512]⟩
abbrev S2048x128 : Shape := ⟨2, ![2048, 128]⟩
abbrev S256x128 : Shape := ⟨2, ![256, 128]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 8
  | .smem => 0
  | _ => 0

abbrev bufTy : (tb : Table) → Fin (tcTables nBuf tb) → BufTy
  | .hbm, ⟨0, _⟩ => ⟨S2048x1024, .bf16⟩
  | .hbm, ⟨1, _⟩ => ⟨S2048x256, .bf16⟩
  | .hbm, ⟨2, _⟩ => ⟨S2048x512, .bf16⟩
  | .hbm, ⟨3, _⟩ => ⟨S2048x1024, .bf16⟩
  | .local _ .vmem, ⟨0, _⟩ => ⟨S256x512, .bf16⟩
  | .local _ .vmem, ⟨1, _⟩ => ⟨S256x512, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S256x512, .bf16⟩
  | .local _ .vmem, ⟨7, _⟩ => ⟨S256x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AtfIdeal.lean ====
variable {F : FTy → Type} [FloatOps F] [Named F]
def κ : String → Option EReal := fun
  | "scale_log2e" => some (((11863283 / 134217728) * (Real.log 2)⁻¹ : ℝ) : EReal)
  | _ => none
-- ==== AtfRefIdeal.lean ====
abbrev S2048x1024 : Shape := ⟨2, ![2048, 1024]⟩
abbrev S2048x256 : Shape := ⟨2, ![2048, 256]⟩
abbrev S2048x512 : Shape := ⟨2, ![2048, 512]⟩
abbrev S2048x2x4x128 : Shape := ⟨4, ![2048, 2, 4, 128]⟩
abbrev S2048x2x128 : Shape := ⟨3, ![2048, 2, 128]⟩
abbrev S2x2048x2048x4 : Shape := ⟨4, ![2, 2048, 2048, 4]⟩
abbrev S2x4x2048x2048 : Shape := ⟨4, ![2, 4, 2048, 2048]⟩
abbrev S_ : Shape := ⟨0, ![]⟩
abbrev S2x4x2048 : Shape := ⟨3, ![2, 4, 2048]⟩
abbrev S2x4x2048x1 : Shape := ⟨4, ![2, 4, 2048, 1]⟩
abbrev S2x128x4x2048 : Shape := ⟨4, ![2, 128, 4, 2048]⟩

abbrev nBuf : Space → Nat
  | .hbm => 33
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x256, .bf16⟩
  | .hbm, ⟨2, _⟩ => ⟨S2048x512, .bf16⟩
  | .hbm, ⟨3, _⟩ => ⟨S2048x1024, .f32⟩
  | .hbm, ⟨4, _⟩ => ⟨S2048x2x4x128, .f32⟩
  | .hbm, ⟨5, _⟩ => ⟨S2048x256, .f32⟩
  | .hbm, ⟨6, _⟩ => ⟨S2048x2x128, .f32⟩
  | .hbm, ⟨7, _⟩ => ⟨S2048x256, .bf16⟩
  | .hbm, ⟨8, _⟩ => ⟨S2048x256, .f32⟩
  | .hbm, ⟨9, _⟩ => ⟨S2048x2x128, .f32⟩
  | .hbm, ⟨10, _⟩ => ⟨S2x2048x2048x4, .f32⟩
  | .hbm, ⟨11, _⟩ => ⟨S2x4x2048x2048, .f32⟩
  | .hbm, ⟨12, _⟩ => ⟨S_, .f32⟩
  | .hbm, ⟨13, _⟩ => ⟨S2x4x2048x2048, .f32⟩
  | .hbm, ⟨14, _⟩ => ⟨S2x4x2048x2048, .f32⟩
  | .hbm, ⟨15, _⟩ => ⟨S_, .f32⟩
  | .hbm, ⟨16, _⟩ => ⟨S2x4x2048, .f32⟩
  | .hbm, ⟨17, _⟩ => ⟨S_, .f32⟩
  | .hbm, ⟨18, _⟩ => ⟨S2x4x2048, .f32⟩
  | .hbm, ⟨19, _⟩ => ⟨S2x4x2048, .f32⟩
  | .hbm, ⟨20, _⟩ => ⟨S2x4x2048x1, .f32⟩
  | .hbm, ⟨21, _⟩ => ⟨S2x4x2048x2048, .f32⟩
  | .hbm, ⟨22, _⟩ => ⟨S2x4x2048x2048, .f32⟩
  | .hbm, ⟨23, _⟩ => ⟨S2x4x2048x2048, .f32⟩
  | .hbm, ⟨24, _⟩ => ⟨S_, .f32⟩
  | .hbm, ⟨25, _⟩ => ⟨S2x4x2048, .f32⟩
  | .hbm, ⟨26, _⟩ => ⟨S2x4x2048x1, .f32⟩
  | .hbm, ⟨27, _⟩ => ⟨S2x4x2048x2048, .f32⟩
  | .hbm, ⟨28, _⟩ => ⟨S2x4x2048x2048, .f32⟩
  | .hbm, ⟨29, _⟩ => ⟨S2x128x4x2048, .f32⟩
  | .hbm, ⟨30, _⟩ => ⟨S2048x2x4x128, .f32⟩
  | .hbm, ⟨31, _⟩ => ⟨S2048x1024, .f32⟩
  | .hbm, ⟨32, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== Mix.lean ====
abbrev S2048x1024 : Shape := ⟨2, ![2048, 1024]⟩
abbrev S2048x6144 : Shape := ⟨2, ![2048, 6144]⟩
abbrev S1x6144 : Shape := ⟨2, ![1, 6144]⟩
abbrev S2048x2048 : Shape := ⟨2, ![2048, 2048]⟩
abbrev S256x1024 : Shape := ⟨2, ![256, 1024]⟩
abbrev S2048x256 : Shape := ⟨2, ![2048, 256]⟩
abbrev S1x256 : Shape := ⟨2, ![1, 256]⟩

abbrev nBuf : Space → Nat
  | .hbm => 12
  | .vmem => 29
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x1024, .bf16⟩
  | .hbm, ⟨3, _⟩ => ⟨S2048x1024, .bf16⟩
  | .hbm, ⟨4, _⟩ => ⟨S2048x1024, .bf16⟩
  | .hbm, ⟨5, _⟩ => ⟨S2048x1024, .bf16⟩
  | .hbm, ⟨6, _⟩ => ⟨S2048x6144, .bf16⟩
  | .hbm, ⟨7, _⟩ => ⟨S1x6144, .f32⟩
  | .hbm, ⟨8, _⟩ => ⟨S2048x2048, .bf16⟩
  | .hbm, ⟨9, _⟩ => ⟨S2048x2048, .bf16⟩
  | .hbm, ⟨10, _⟩ => ⟨S2048x2048, .bf16⟩
  | .hbm, ⟨11, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S2048x256, .bf16⟩
  | .local _ .vmem, ⟨10, _⟩ => ⟨S2048x256, .bf16⟩
  | .local _ .vmem, ⟨11, _⟩ => ⟨S2048x256, .bf16⟩
  | .local _ .vmem, ⟨12, _⟩ => ⟨S2048x256, .bf16⟩
  | .local _ .vmem, ⟨13, _⟩ => ⟨S2048x256, .bf16⟩
  | .local _ .vmem, ⟨14, _⟩ => ⟨S2048x256, .bf16⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S1x256, .f32⟩
  | .local _ .vmem, ⟨19, _⟩ => ⟨S1x256, .f32⟩
  | .local _ .vmem, ⟨20, _⟩ => ⟨S1x256, .f32⟩
  | .local _ .vmem, ⟨21, _⟩ => ⟨S2048x256, .bf16⟩
  | .local _ .vmem, ⟨22, _⟩ => ⟨S2048x256, .bf16⟩
  | .local _ .vmem, ⟨23, _⟩ => ⟨S2048x256, .bf16⟩
  | .local _ .vmem, ⟨24, _⟩ => ⟨S2048x256, .bf16⟩
  | .local _ .vmem, ⟨25, _⟩ => ⟨S2048x256, .bf16⟩
  | .local _ .vmem, ⟨26, _⟩ => ⟨S2048x256, .bf16⟩
  | .local _ .vmem, ⟨27, _⟩ => ⟨S2048x256, .bf16⟩
  | .local _ .vmem, ⟨28, _⟩ => ⟨S2048x256, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_10 (i : grid0.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![c0_i32.toNat, v0.toNat]

def cc0_transform_11 (i : grid0.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![c0_i32.toNat, v0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2048x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2048x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S2048x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S2048x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== MixRefIdeal.lean ====
abbrev S2048x1024 : Shape := ⟨2, ![2048, 1024]⟩
abbrev S2048x6144 : Shape := ⟨2, ![2048, 6144]⟩
abbrev S1x6144 : Shape := ⟨2, ![1, 6144]⟩
abbrev S1024x2048 : Shape := ⟨2, ![1024, 2048]⟩
abbrev S2048x2048 : Shape := ⟨2, ![2048, 2048]⟩
abbrev S2048x3x2048 : Shape := ⟨3, ![2048, 3, 2048]⟩
abbrev S_ : Shape := ⟨0, ![]⟩
abbrev S2048x1x2048 : Shape := ⟨3, ![2048, 1, 2048]⟩

abbrev nBuf : Space → Nat
  | .hbm => 47
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x1024, .bf16⟩
  | .hbm, ⟨3, _⟩ => ⟨S2048x1024, .bf16⟩
  | .hbm, ⟨4, _⟩ => ⟨S2048x1024, .bf16⟩
  | .hbm, ⟨5, _⟩ => ⟨S2048x1024, .bf16⟩
  | .hbm, ⟨6, _⟩ => ⟨S2048x6144, .bf16⟩
  | .hbm, ⟨7, _⟩ => ⟨S1x6144, .f32⟩
  | .hbm, ⟨8, _⟩ => ⟨S2048x1024, .f32⟩
  | .hbm, ⟨9, _⟩ => ⟨S2048x1024, .f32⟩
  | .hbm, ⟨10, _⟩ => ⟨S1024x2048, .f32⟩
  | .hbm, ⟨11, _⟩ => ⟨S2048x2048, .f32⟩
  | .hbm, ⟨12, _⟩ => ⟨S2048x1024, .f32⟩
  | .hbm, ⟨13, _⟩ => ⟨S2048x1024, .f32⟩
  | .hbm, ⟨14, _⟩ => ⟨S1024x2048, .f32⟩
  | .hbm, ⟨15, _⟩ => ⟨S2048x2048, .f32⟩
  | .hbm, ⟨16, _⟩ => ⟨S2048x1024, .f32⟩
  | .hbm, ⟨17, _⟩ => ⟨S2048x1024, .f32⟩
  | .hbm, ⟨18, _⟩ => ⟨S1024x2048, .f32⟩
  | .hbm, ⟨19, _⟩ => ⟨S2048x2048, .f32⟩
  | .hbm, ⟨20, _⟩ => ⟨S2048x6144, .f32⟩
  | .hbm, ⟨21, _⟩ => ⟨S2048x6144, .f32⟩
  | .hbm, ⟨22, _⟩ => ⟨S2048x6144, .f32⟩
  | .hbm, ⟨23, _⟩ => ⟨S2048x3x2048, .f32⟩
  | .hbm, ⟨24, _⟩ => ⟨S2048x3x2048, .f32⟩
  | .hbm, ⟨25, _⟩ => ⟨S2048x3x2048, .f32⟩
  | .hbm, ⟨26, _⟩ => ⟨S_, .f32⟩
  | .hbm, ⟨27, _⟩ => ⟨S2048x3x2048, .f32⟩
  | .hbm, ⟨28, _⟩ => ⟨S2048x3x2048, .f32⟩
  | .hbm, ⟨29, _⟩ => ⟨S_, .f32⟩
  | .hbm, ⟨30, _⟩ => ⟨S2048x3x2048, .f32⟩
  | .hbm, ⟨31, _⟩ => ⟨S2048x3x2048, .f32⟩
  | .hbm, ⟨32, _⟩ => ⟨S2048x1x2048, .f32⟩
  | .hbm, ⟨33, _⟩ => ⟨S2048x2048, .f32⟩
  | .hbm, ⟨34, _⟩ => ⟨S2048x2048, .f32⟩
  | .hbm, ⟨35, _⟩ => ⟨S2048x1x2048, .f32⟩
  | .hbm, ⟨36, _⟩ => ⟨S2048x2048, .f32⟩
  | .hbm, ⟨37, _⟩ => ⟨S2048x2048, .f32⟩
  | .hbm, ⟨38, _⟩ => ⟨S2048x2048, .f32⟩
  | .hbm, ⟨39, _⟩ => ⟨S2048x1x2048, .f32⟩
  | .hbm, ⟨40, _⟩ => ⟨S2048x2048, .f32⟩
  | .hbm, ⟨41, _⟩ => ⟨S2048x2048, .f32⟩
  | .hbm, ⟨42, _⟩ => ⟨S2048x2048, .f32⟩
  | .hbm, ⟨43, _⟩ => ⟨S2048x2048, .bf16⟩
  | .hbm, ⟨44, _⟩ => ⟨S2048x2048, .bf16⟩
  | .hbm, ⟨45, _⟩ => ⟨S2048x2048, .bf16⟩
  | .hbm, ⟨46, _⟩ => ⟨S2048x2048, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst : Ref sig .tc := ⟨.hbm, 26, rfl⟩
abbrev main_v18 : Ref sig .tc := ⟨.hbm, 27, rfl⟩
abbrev main_v19 : Ref sig .tc := ⟨.hbm, 28, rfl⟩
abbrev main_cst_0 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩

abbrev nD : Nat := 1
abbrev τ : Topo := Topo.v7x

variable {F : FTy → Type} [FloatOps F]
-- ==== Ad.lean ====
abbrev S2x1024x256 : Shape := ⟨3, ![2, 1024, 256]⟩
abbrev S1x1024x256 : Shape := ⟨3, ![1, 1024, 256]⟩
abbrev S1024x256 : Shape := ⟨2, ![1024, 256]⟩

abbrev nBuf : Space → Nat
  | .hbm => 7
  | .vmem => 14
  | .smem => 0
  | _ => 0

abbrev bufTy : (tb : Table) → Fin (tcTables nBuf tb) → BufTy
  | .hbm, ⟨0, _⟩ => ⟨S2x1024x256, .f32⟩
  | .hbm, ⟨1, _⟩ => ⟨S2x1024x256, .f32⟩
  | .hbm, ⟨2, _⟩ => ⟨S2x1024x256, .f32⟩
  | .hbm, ⟨3, _⟩ => ⟨S2x1024x256, .f32⟩
  | .hbm, ⟨4, _⟩ => ⟨S2x1024x256, .f32⟩
  | .hbm, ⟨5, _⟩ => ⟨S2x1024x256, .f32⟩
  | .hbm, ⟨6, _⟩ => ⟨S2x1024x256, .f32⟩
  | .local _ .vmem, ⟨0, _⟩ => ⟨S1x1024x256, .f32⟩
  | .local _ .vmem, ⟨1, _⟩ => ⟨S1x1024x256, .f32⟩
  | .local _ .vmem, ⟨2, _⟩ => ⟨S1x1024x256, .f32⟩
  | .local _ .vmem, ⟨3, _⟩ => ⟨S1x1024x256, .f32⟩
  | .local _ .vmem, ⟨4, _⟩ => ⟨S1x1024x256, .f32⟩
  | .local _ .vmem, ⟨5, _⟩ => ⟨S1x1024x256, .f32⟩
  | .local _ .vmem, ⟨6, _⟩ => ⟨S1x1024x256, .f32⟩
  | .local _ .vmem, ⟨7, _⟩ => ⟨S1x1024x256, .f32⟩
  | .local _ .vmem, ⟨8, _⟩ => ⟨S1x1024x256, .f32⟩
  | .local _ .vmem, ⟨9, _⟩ => ⟨S1x1024x256, .f32⟩
  | .local _ .vmem, ⟨10, _⟩ => ⟨S1x1024x256, .f32⟩
  | .local _ .vmem, ⟨11, _⟩ => ⟨S1x1024x256, .f32⟩
  | .local _ .vmem, ⟨12, _⟩ => ⟨S1x1024x256, .f32⟩
  | .local _ .vmem, ⟨13, _⟩ => ⟨S1x1024x256, .f32⟩
  | _, _ => ⟨S2x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdIdeal.lean ====
abbrev S2x1024x256 : Shape := ⟨3, ![2, 1024, 256]⟩
abbrev S1x1024x256 : Shape := ⟨3, ![1, 1024, 256]⟩
abbrev S1024x256 : Shape := ⟨2, ![1024, 256]⟩

abbrev nBuf : Space → Nat
  | .hbm => 7
  | .vmem => 14
  | .smem => 0
  | _ => 0

abbrev bufTy : (tb : Table) → Fin (tcTables nBuf tb) → BufTy
  | .hbm, ⟨0, _⟩ => ⟨S2x1024x256, .f32⟩
  | .hbm, ⟨1, _⟩ => ⟨S2x1024x256, .f32⟩
  | .hbm, ⟨2, _⟩ => ⟨S2x1024x256, .f32⟩
  | .hbm, ⟨3, _⟩ => ⟨S2x1024x256, .f32⟩
  | .hbm, ⟨4, _⟩ => ⟨S2x1024x256, .f32⟩
  | .hbm, ⟨5, _⟩ => ⟨S2x1024x256, .f32⟩
  | .hbm, ⟨6, _⟩ => ⟨S2x1024x256, .f32⟩
  | .local _ .vmem, ⟨0, _⟩ => ⟨S1x1024x256, .f32⟩
  | .local _ .vmem, ⟨1, _⟩ => ⟨S1x1024x256, .f32⟩
  | .local _ .vmem, ⟨2, _⟩ => ⟨S1x1024x256, .f32⟩
  | .local _ .vmem, ⟨3, _⟩ => ⟨S1x1024x256, .f32⟩
  | .local _ .vmem, ⟨4, _⟩ => ⟨S1x1024x256, .f32⟩
  | .local _ .vmem, ⟨5, _⟩ => ⟨S1x1024x256, .f32⟩
  | .local _ .vmem, ⟨6, _⟩ => ⟨S1x1024x256, .f32⟩
  | .local _ .vmem, ⟨7, _⟩ => ⟨S1x1024x256, .f32⟩
  | .local _ .vmem, ⟨8, _⟩ => ⟨S1x1024x256, .f32⟩
  | .local _ .vmem, ⟨9, _⟩ => ⟨S1x1024x256, .f32⟩
  | .local _ .vmem, ⟨10, _⟩ => ⟨S1x1024x256, .f32⟩
  | .local _ .vmem, ⟨11, _⟩ => ⟨S1x1024x256, .f32⟩
  | .local _ .vmem, ⟨12, _⟩ => ⟨S1x1024x256, .f32⟩
  | .local _ .vmem, ⟨13, _⟩ => ⟨S1x1024x256, .f32⟩
  | _, _ => ⟨S2x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdRefIdeal.lean ====
abbrev S2x1024x256 : Shape := ⟨3, ![2, 1024, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024x256, .f32⟩
  | .hbm, ⟨1, _⟩ => ⟨S2x1024x256, .f32⟩
  | .hbm, ⟨2, _⟩ => ⟨S2x1024x256, .f32⟩
  | .hbm, ⟨3, _⟩ => ⟨S2x1024x256, .f32⟩
  | .hbm, ⟨4, _⟩ => ⟨S_, .f32⟩
  | .hbm, ⟨5, _⟩ => ⟨S2x1024x256, .f32⟩
  | .hbm, ⟨6, _⟩ => ⟨S2x1024x256, .f32⟩
  | .hbm, ⟨7, _⟩ => ⟨S_, .f32⟩
  | .hbm, ⟨8, _⟩ => ⟨S2x1024x256, .f32⟩
  | .hbm, ⟨9, _⟩ => ⟨S2x1024x256, .f32⟩
  | .hbm, ⟨10, _⟩ => ⟨S2x1024x256, .f32⟩
  | .hbm, ⟨11, _⟩ => ⟨S_, .f32⟩
  | .hbm, ⟨12, _⟩ => ⟨S2x1024x256, .f32⟩
  | .hbm, ⟨13, _⟩ => ⟨S2x1024x256, .f32⟩
  | .hbm, ⟨14, _⟩ => ⟨S2x1024x256, .f32⟩
  | .hbm, ⟨15, _⟩ => ⟨S_, .f32⟩
  | .hbm, ⟨16, _⟩ => ⟨S2x1024x256, .f32⟩
  | .hbm, ⟨17, _⟩ => ⟨S2x1024x256, .f32⟩
  | .hbm, ⟨18, _⟩ => ⟨S2x1024x256, .f32⟩
  | .hbm, ⟨19, _⟩ => ⟨S_, .f32⟩
  | .hbm, ⟨20, _⟩ => ⟨S2x1024x256, .f32⟩
  | .hbm, ⟨21, _⟩ => ⟨S2x1024x256, .f32⟩
  | .hbm, ⟨22, _⟩ => ⟨S_, .f32⟩
  | .hbm, ⟨23, _⟩ => ⟨S2x1024x256, .f32⟩
  | .hbm, ⟨24, _⟩ => ⟨S2x1024x256, .f32⟩
  | .hbm, ⟨25, _⟩ => ⟨S2x1024x256, .f32⟩
  | .hbm, ⟨26, _⟩ => ⟨S_, .f32⟩
  | .hbm, ⟨27, _⟩ => ⟨S2x1024x256, .f32⟩
  | .hbm, ⟨28, _⟩ => ⟨S2x1024x256, .f32⟩
  | .hbm, ⟨29, _⟩ => ⟨S2x1024x256, .f32⟩
  | .hbm, ⟨30, _⟩ => ⟨S_, .f32⟩
  | .hbm, ⟨31, _⟩ => ⟨S2x1024x256, .f32⟩
  | .hbm, ⟨32, _⟩ => ⟨S2x1024x256, .f32⟩
  | .hbm, ⟨33, _⟩ => ⟨S2x1024x256, .f32⟩
  | .hbm, ⟨34, _⟩ => ⟨S_, .f32⟩
  | .hbm, ⟨35, _⟩ => ⟨S2x1024x256, .f32⟩
  | .hbm, ⟨36, _⟩ => ⟨S2x1024x256, .f32⟩
  | _, _ => ⟨S2x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Ride.lean ====
abbrev S2048x5632 : Shape := ⟨2, ![2048, 5632]⟩
abbrev S2048x2048 : Shape := ⟨2, ![2048, 2048]⟩
abbrev S1 : Shape := ⟨1, ![1]⟩
abbrev S2x704x2048 : Shape := ⟨3, ![2, 704, 2048]⟩
abbrev S4x704x2048 : Shape := ⟨3, ![4, 704, 2048]⟩
abbrev S5632x2048 : Shape := ⟨2, ![5632, 2048]⟩
abbrev S2048x512 : Shape := ⟨2, ![2048, 512]⟩
abbrev S1x64x2048 : Shape := ⟨3, ![1, 64, 2048]⟩
abbrev S4x64x2048 : Shape := ⟨3, ![4, 64, 2048]⟩
abbrev S512x2048 : Shape := ⟨2, ![512, 2048]⟩
abbrev S64x2048 : Shape := ⟨2, ![64, 2048]⟩
abbrev S1x704x2048 : Shape := ⟨3, ![1, 704, 2048]⟩
abbrev S704x2048 : Shape := ⟨2, ![704, 2048]⟩

abbrev nBuf : Space → Nat
  | .hbm => 21
  | .vmem => 23
  | .smem => 1
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S1, .i32⟩
  | .hbm, ⟨3, _⟩ => ⟨S2x704x2048, .f32⟩
  | .hbm, ⟨4, _⟩ => ⟨S2x704x2048, .f32⟩
  | .hbm, ⟨5, _⟩ => ⟨S2x704x2048, .f32⟩
  | .hbm, ⟨6, _⟩ => ⟨S4x704x2048, .bf16⟩
  | .hbm, ⟨7, _⟩ => ⟨S4x704x2048, .bf16⟩
  | .hbm, ⟨8, _⟩ => ⟨S5632x2048, .bf16⟩
  | .hbm, ⟨9, _⟩ => ⟨S2x704x2048, .f32⟩
  | .hbm, ⟨10, _⟩ => ⟨S2x704x2048, .f32⟩
  | .hbm, ⟨11, _⟩ => ⟨S2x704x2048, .f32⟩
  | .hbm, ⟨12, _⟩ => ⟨S2x704x2048, .f32⟩
  | .hbm, ⟨13, _⟩ => ⟨S1x704x2048, .f32⟩
  | .hbm, ⟨14, _⟩ => ⟨S704x2048, .f32⟩
  | .hbm, ⟨15, _⟩ => ⟨S1x704x2048, .f32⟩
  | .hbm, ⟨16, _⟩ => ⟨S704x2048, .f32⟩
  | .hbm, ⟨17, _⟩ => ⟨S1x704x2048, .f32⟩
  | .hbm, ⟨18, _⟩ => ⟨S704x2048, .f32⟩
  | .hbm, ⟨19, _⟩ => ⟨S1x704x2048, .f32⟩
  | .hbm, ⟨20, _⟩ => ⟨S704x2048, .f32⟩
  | .local _ .vmem, ⟨0, _⟩ => ⟨S2048x512, .bf16⟩
  | .local _ .vmem, ⟨1, _⟩ => ⟨S2048x512, .bf16⟩
  | .local _ .vmem, ⟨2, _⟩ => ⟨S2048x2048, .bf16⟩
  | .local _ .vmem, ⟨3, _⟩ => ⟨S1x64x2048, .f32⟩
  | .local _ .vmem, ⟨4, _⟩ => ⟨S1x64x2048, .f32⟩
  | .local _ .vmem, ⟨5, _⟩ => ⟨S1x64x2048, .f32⟩
  | .local _ .vmem, ⟨6, _⟩ => ⟨S1x64x2048, .f32⟩
  | .local _ .vmem, ⟨7, _⟩ => ⟨S1x64x2048, .f32⟩
  | .local _ .vmem, ⟨8, _⟩ => ⟨S1x64x2048, .f32⟩
  | .local _ .vmem, ⟨9, _⟩ => ⟨S4x64x2048, .bf16⟩
  | .local _ .vmem, ⟨10, _⟩ => ⟨S4x64x2048, .bf16⟩
  | .local _ .vmem, ⟨11, _⟩ => ⟨S4x64x2048, .bf16⟩
  | .local _ .vmem, ⟨12, _⟩ => ⟨S4x64x2048, .bf16⟩
  | .local _ .vmem, ⟨13, _⟩ => ⟨S512x2048, .bf16⟩
  | .local _ .vmem, ⟨14, _⟩ => ⟨S512x2048, .bf16⟩
  | .local _ .vmem, ⟨15, _⟩ => ⟨S1x64x2048, .f32⟩
  | .local _ .vmem, ⟨16, _⟩ => ⟨S1x64x2048, .f32⟩
  | .local _ .vmem, ⟨17, _⟩ => ⟨S1x64x2048, .f32⟩
  | .local _ .vmem, ⟨18, _⟩ => ⟨S1x64x2048, .f32⟩
  | .local _ .vmem, ⟨19, _⟩ => ⟨S1x64x2048, .f32⟩
  | .local _ .vmem, ⟨20, _⟩ => ⟨S1x64x2048, .f32⟩
  | .local _ .vmem, ⟨21, _⟩ => ⟨S1x64x2048, .f32⟩
  | .local _ .vmem, ⟨22, _⟩ => ⟨S1x64x2048, .f32⟩
  | .local _ .smem, ⟨0, _⟩ => ⟨S1, .i32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨0, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg2_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨3, ![11, 1, 1], ![false, false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let arg2 : BitVec 32 := BitVec.ofNat 32 (i 2).val
  let c0_i32_0 : BitVec 32 := 0#32
  let v1 : BitVec 1 := Scalar.cmpi .eq arg2 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, arg0.toNat, c0_i32.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, arg0.toNat, c0_i32.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, arg0.toNat, c0_i32.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .smem S1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1x64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S4x64x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S4x64x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1x64x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, false]

abbrev stage0_10 : Fin 2 → Memref sig .tc .vmem S1x64x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false, false]

abbrev stage0_11 : Fin 2 → Memref sig .tc .vmem S1x64x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false, false]

abbrev stage0_12 : Fin 2 → Memref sig .tc .vmem S1x64x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false, false]
-- ==== RideRefIdeal.lean ====
abbrev S2048x5632 : Shape := ⟨2, ![2048, 5632]⟩
abbrev S2048x2048 : Shape := ⟨2, ![2048, 2048]⟩
abbrev S1 : Shape := ⟨1, ![1]⟩
abbrev S2x704x2048 : Shape := ⟨3, ![2, 704, 2048]⟩
abbrev S4x704x2048 : Shape := ⟨3, ![4, 704, 2048]⟩
abbrev S_ : Shape := ⟨0, ![]⟩
abbrev S5632x2048 : Shape := ⟨2, ![5632, 2048]⟩
abbrev S1x704x2048 : Shape := ⟨3, ![1, 704, 2048]⟩
abbrev S704x2048 : Shape := ⟨2, ![704, 2048]⟩
abbrev S4 : Shape := ⟨1, ![4]⟩
abbrev S4x1x1 : Shape := ⟨3, ![4, 1, 1]⟩
abbrev S1x1x1 : Shape := ⟨3, ![1, 1, 1]⟩

abbrev nBuf : Space → Nat
  | .hbm => 65
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S1, .i32⟩
  | .hbm, ⟨3, _⟩ => ⟨S2x704x2048, .f32⟩
  | .hbm, ⟨4, _⟩ => ⟨S2x704x2048, .f32⟩
  | .hbm, ⟨5, _⟩ => ⟨S2x704x2048, .f32⟩
  | .hbm, ⟨6, _⟩ => ⟨S4x704x2048, .bf16⟩
  | .hbm, ⟨7, _⟩ => ⟨S4x704x2048, .bf16⟩
  | .hbm, ⟨8, _⟩ => ⟨S_, .f32⟩
  | .hbm, ⟨9, _⟩ => ⟨S5632x2048, .f32⟩
  | .hbm, ⟨10, _⟩ => ⟨S2048x5632, .f32⟩
  | .hbm, ⟨11, _⟩ => ⟨S2048x2048, .f32⟩
  | .hbm, ⟨12, _⟩ => ⟨S2048x2048, .f32⟩
  | .hbm, ⟨13, _⟩ => ⟨S2048x5632, .f32⟩
  | .hbm, ⟨14, _⟩ => ⟨S5632x2048, .f32⟩
  | .hbm, ⟨15, _⟩ => ⟨S5632x2048, .bf16⟩
  | .hbm, ⟨16, _⟩ => ⟨S1x704x2048, .f32⟩
  | .hbm, ⟨17, _⟩ => ⟨S704x2048, .f32⟩
  | .hbm, ⟨18, _⟩ => ⟨S1x704x2048, .f32⟩
  | .hbm, ⟨19, _⟩ => ⟨S704x2048, .f32⟩
  | .hbm, ⟨20, _⟩ => ⟨S1x704x2048, .f32⟩
  | .hbm, ⟨21, _⟩ => ⟨S704x2048, .f32⟩
  | .hbm, ⟨22, _⟩ => ⟨S4, .i32⟩
  | .hbm, ⟨23, _⟩ => ⟨S4x1x1, .i32⟩
  | .hbm, ⟨24, _⟩ => ⟨S1x1x1, .i32⟩
  | .hbm, ⟨25, _⟩ => ⟨S4x1x1, .i32⟩
  | .hbm, ⟨26, _⟩ => ⟨S4x1x1, .i1⟩
  | .hbm, ⟨27, _⟩ => ⟨S4x704x2048, .i1⟩
  | .hbm, ⟨28, _⟩ => ⟨S4x704x2048, .bf16⟩
  | .hbm, ⟨29, _⟩ => ⟨S4x704x2048, .f32⟩
  | .hbm, ⟨30, _⟩ => ⟨S_, .f32⟩
  | .hbm, ⟨31, _⟩ => ⟨S704x2048, .f32⟩
  | .hbm, ⟨32, _⟩ => ⟨S_, .f32⟩
  | .hbm, ⟨33, _⟩ => ⟨S704x2048, .f32⟩
  | .hbm, ⟨34, _⟩ => ⟨S704x2048, .f32⟩
  | .hbm, ⟨35, _⟩ => ⟨S_, .f32⟩
  | .hbm, ⟨36, _⟩ => ⟨S704x2048, .f32⟩
  | .hbm, ⟨37, _⟩ => ⟨S704x2048, .f32⟩
  | .hbm, ⟨38, _⟩ => ⟨S704x2048, .f32⟩
  | .hbm, ⟨39, _⟩ => ⟨S_, .f32⟩
  | .hbm, ⟨40, _⟩ => ⟨S704x2048, .f32⟩
  | .hbm, ⟨41, _⟩ => ⟨S704x2048, .f32⟩
  | .hbm, ⟨42, _⟩ => ⟨S704x2048, .f32⟩
  | .hbm, ⟨43, _⟩ => ⟨S_, .f32⟩
  | .hbm, ⟨44, _⟩ => ⟨S704x2048, .f32⟩
  | .hbm, ⟨45, _⟩ => ⟨S704x2048, .f32⟩
  | .hbm, ⟨46, _⟩ => ⟨S704x2048, .f32⟩
  | .hbm, ⟨47, _⟩ => ⟨S_, .f32⟩
  | .hbm, ⟨48, _⟩ => ⟨S704x2048, .f32⟩
  | .hbm, ⟨49, _⟩ => ⟨S704x2048, .f32⟩
  | .hbm, ⟨50, _⟩ => ⟨S_, .f32⟩
  | .hbm, ⟨51, _⟩ => ⟨S704x2048, .f32⟩
  | .hbm, ⟨52, _⟩ => ⟨S704x2048, .f32⟩
  | .hbm, ⟨53, _⟩ => ⟨S704x2048, .f32⟩
  | .hbm, ⟨54, _⟩ => ⟨S_, .f32⟩
  | .hbm, ⟨55, _⟩ => ⟨S704x2048, .f32⟩
  | .hbm, ⟨56, _⟩ => ⟨S704x2048, .f32⟩
  | .hbm, ⟨57, _⟩ => ⟨S704x2048, .f32⟩
  | .hbm, ⟨58, _⟩ => ⟨S_, .f32⟩
  | .hbm, ⟨59, _⟩ => ⟨S704x2048, .f32⟩
  | .hbm, ⟨60, _⟩ => ⟨S704x2048, .f32⟩
  | .hbm, ⟨61, _⟩ => ⟨S704x2048, .f32⟩
  | .hbm, ⟨62, _⟩ => ⟨S_, .f32⟩
  | .hbm, ⟨63, _⟩ => ⟨S704x2048, .f32⟩
  | .hbm, ⟨64, _⟩ => ⟨S704x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_v18 : Ref sig .tc := ⟨.hbm, 28, rfl⟩
abbrev main_v19 : Ref sig .tc := ⟨.hbm, 29, rfl⟩
abbrev main_cst_0 : Ref sig .tc := ⟨.hbm, 30, rfl⟩
abbrev main_v20 : Ref sig .tc := ⟨.hbm, 31, rfl⟩
abbrev main_cst_1 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩

abbrev nD : Nat := 1
abbrev τ : Topo := Topo.v7x

variable {F : FTy → Type} [FloatOps F]
-- ==== Ads.lean ====
abbrev S2x1024x128 : Shape := ⟨3, ![2, 1024, 128]⟩
abbrev S1x1024x128 : Shape := ⟨3, ![1, 1024, 128]⟩
abbrev S1024x128 : Shape := ⟨2, ![1024, 128]⟩

abbrev nBuf : Space → Nat
  | .hbm => 7
  | .vmem => 14
  | .smem => 0
  | _ => 0

abbrev bufTy : (tb : Table) → Fin (tcTables nBuf tb) → BufTy
  | .hbm, ⟨0, _⟩ => ⟨S2x1024x128, .f32⟩
  | .hbm, ⟨1, _⟩ => ⟨S2x1024x128, .f32⟩
  | .hbm, ⟨2, _⟩ => ⟨S2x1024x128, .f32⟩
  | .hbm, ⟨3, _⟩ => ⟨S2x1024x128, .f32⟩
  | .hbm, ⟨4, _⟩ => ⟨S2x1024x128, .f32⟩
  | .hbm, ⟨5, _⟩ => ⟨S2x1024x128, .f32⟩
  | .hbm, ⟨6, _⟩ => ⟨S2x1024x128, .f32⟩
  | .local _ .vmem, ⟨0, _⟩ => ⟨S1x1024x128, .f32⟩
  | .local _ .vmem, ⟨1, _⟩ => ⟨S1x1024x128, .f32⟩
  | .local _ .vmem, ⟨2, _⟩ => ⟨S1x1024x128, .f32⟩
  | .local _ .vmem, ⟨3, _⟩ => ⟨S1x1024x128, .f32⟩
  | .local _ .vmem, ⟨4, _⟩ => ⟨S1x1024x128, .f32⟩
  | .local _ .vmem, ⟨5, _⟩ => ⟨S1x1024x128, .f32⟩
  | .local _ .vmem, ⟨6, _⟩ => ⟨S1x1024x128, .f32⟩
  | .local _ .vmem, ⟨7, _⟩ => ⟨S1x1024x128, .f32⟩
  | .local _ .vmem, ⟨8, _⟩ => ⟨S1x1024x128, .f32⟩
  | .local _ .vmem, ⟨9, _⟩ => ⟨S1x1024x128, .f32⟩
  | .local _ .vmem, ⟨10, _⟩ => ⟨S1x1024x128, .f32⟩
  | .local _ .vmem, ⟨11, _⟩ => ⟨S1x1024x128, .f32⟩
  | .local _ .vmem, ⟨12, _⟩ => ⟨S1x1024x128, .f32⟩
  | .local _ .vmem, ⟨13, _⟩ => ⟨S1x1024x128, .f32⟩
  | _, _ => ⟨S2x1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdsIdeal.lean ====
abbrev S2x1024x128 : Shape := ⟨3, ![2, 1024, 128]⟩
abbrev S1x1024x128 : Shape := ⟨3, ![1, 1024, 128]⟩
abbrev S1024x128 : Shape := ⟨2, ![1024, 128]⟩

abbrev nBuf : Space → Nat
  | .hbm => 7
  | .vmem => 14
  | .smem => 0
  | _ => 0

abbrev bufTy : (tb : Table) → Fin (tcTables nBuf tb) → BufTy
  | .hbm, ⟨0, _⟩ => ⟨S2x1024x128, .f32⟩
  | .hbm, ⟨1, _⟩ => ⟨S2x1024x128, .f32⟩
  | .hbm, ⟨2, _⟩ => ⟨S2x1024x128, .f32⟩
  | .hbm, ⟨3, _⟩ => ⟨S2x1024x128, .f32⟩
  | .hbm, ⟨4, _⟩ => ⟨S2x1024x128, .f32⟩
  | .hbm, ⟨5, _⟩ => ⟨S2x1024x128, .f32⟩
  | .hbm, ⟨6, _⟩ => ⟨S2x1024x128, .f32⟩
  | .local _ .vmem, ⟨0, _⟩ => ⟨S1x1024x128, .f32⟩
  | .local _ .vmem, ⟨1, _⟩ => ⟨S1x1024x128, .f32⟩
  | .local _ .vmem, ⟨2, _⟩ => ⟨S1x1024x128, .f32⟩
  | .local _ .vmem, ⟨3, _⟩ => ⟨S1x1024x128, .f32⟩
  | .local _ .vmem, ⟨4, _⟩ => ⟨S1x1024x128, .f32⟩
  | .local _ .vmem, ⟨5, _⟩ => ⟨S1x1024x128, .f32⟩
  | .local _ .vmem, ⟨6, _⟩ => ⟨S1x1024x128, .f32⟩
  | .local _ .vmem, ⟨7, _⟩ => ⟨S1x1024x128, .f32⟩
  | .local _ .vmem, ⟨8, _⟩ => ⟨S1x1024x128, .f32⟩
  | .local _ .vmem, ⟨9, _⟩ => ⟨S1x1024x128, .f32⟩
  | .local _ .vmem, ⟨10, _⟩ => ⟨S1x1024x128, .f32⟩
  | .local _ .vmem, ⟨11, _⟩ => ⟨S1x1024x128, .f32⟩
  | .local _ .vmem, ⟨12, _⟩ => ⟨S1x1024x128, .f32⟩
  | .local _ .vmem, ⟨13, _⟩ => ⟨S1x1024x128, .f32⟩
  | _, _ => ⟨S2x1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdsRefIdeal.lean ====
abbrev S2x1024x128 : Shape := ⟨3, ![2, 1024, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024x128, .f32⟩
  | .hbm, ⟨1, _⟩ => ⟨S2x1024x128, .f32⟩
  | .hbm, ⟨2, _⟩ => ⟨S2x1024x128, .f32⟩
  | .hbm, ⟨3, _⟩ => ⟨S2x1024x128, .f32⟩
  | .hbm, ⟨4, _⟩ => ⟨S_, .f32⟩
  | .hbm, ⟨5, _⟩ => ⟨S2x1024x128, .f32⟩
  | .hbm, ⟨6, _⟩ => ⟨S2x1024x128, .f32⟩
  | .hbm, ⟨7, _⟩ => ⟨S_, .f32⟩
  | .hbm, ⟨8, _⟩ => ⟨S2x1024x128, .f32⟩
  | .hbm, ⟨9, _⟩ => ⟨S2x1024x128, .f32⟩
  | .hbm, ⟨10, _⟩ => ⟨S2x1024x128, .f32⟩
  | .hbm, ⟨11, _⟩ => ⟨S_, .f32⟩
  | .hbm, ⟨12, _⟩ => ⟨S2x1024x128, .f32⟩
  | .hbm, ⟨13, _⟩ => ⟨S2x1024x128, .f32⟩
  | .hbm, ⟨14, _⟩ => ⟨S2x1024x128, .f32⟩
  | .hbm, ⟨15, _⟩ => ⟨S_, .f32⟩
  | .hbm, ⟨16, _⟩ => ⟨S2x1024x128, .f32⟩
  | .hbm, ⟨17, _⟩ => ⟨S2x1024x128, .f32⟩
  | .hbm, ⟨18, _⟩ => ⟨S2x1024x128, .f32⟩
  | .hbm, ⟨19, _⟩ => ⟨S_, .f32⟩
  | .hbm, ⟨20, _⟩ => ⟨S2x1024x128, .f32⟩
  | .hbm, ⟨21, _⟩ => ⟨S2x1024x128, .f32⟩
  | .hbm, ⟨22, _⟩ => ⟨S_, .f32⟩
  | .hbm, ⟨23, _⟩ => ⟨S2x1024x128, .f32⟩
  | .hbm, ⟨24, _⟩ => ⟨S2x1024x128, .f32⟩
  | .hbm, ⟨25, _⟩ => ⟨S2x1024x128, .f32⟩
  | .hbm, ⟨26, _⟩ => ⟨S_, .f32⟩
  | .hbm, ⟨27, _⟩ => ⟨S2x1024x128, .f32⟩
  | .hbm, ⟨28, _⟩ => ⟨S2x1024x128, .f32⟩
  | .hbm, ⟨29, _⟩ => ⟨S2x1024x128, .f32⟩
  | .hbm, ⟨30, _⟩ => ⟨S_, .f32⟩
  | .hbm, ⟨31, _⟩ => ⟨S2x1024x128, .f32⟩
  | .hbm, ⟨32, _⟩ => ⟨S2x1024x128, .f32⟩
  | .hbm, ⟨33, _⟩ => ⟨S2x1024x128, .f32⟩
  | .hbm, ⟨34, _⟩ => ⟨S_, .f32⟩
  | .hbm, ⟨35, _⟩ => ⟨S2x1024x128, .f32⟩
  | .hbm, ⟨36, _⟩ => ⟨S2x1024x128, .f32⟩
  | _, _ => ⟨S2x1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Adw.lean ====
abbrev S1x62x128 : Shape := ⟨3, ![1, 62, 128]⟩
abbrev S62x128 : Shape := ⟨2, ![62, 128]⟩

abbrev nBuf : Space → Nat
  | .hbm => 7
  | .vmem => 7
  | .smem => 0
  | _ => 0

abbrev bufTy : (tb : Table) → Fin (tcTables nBuf tb) → BufTy
  | .hbm, ⟨0, _⟩ => ⟨S1x62x128, .f32⟩
  | .hbm, ⟨1, _⟩ => ⟨S1x62x128, .f32⟩
  | .hbm, ⟨2, _⟩ => ⟨S1x62x128, .f32⟩
  | .hbm, ⟨3, _⟩ => ⟨S1x62x128, .f32⟩
  | .hbm, ⟨4, _⟩ => ⟨S1x62x128, .f32⟩
  | .hbm, ⟨5, _⟩ => ⟨S1x62x128, .f32⟩
  | .hbm, ⟨6, _⟩ => ⟨S1x62x128, .f32⟩
  | .local _ .vmem, ⟨0, _⟩ => ⟨S1x62x128, .f32⟩
  | .local _ .vmem, ⟨1, _⟩ => ⟨S1x62x128, .f32⟩
  | .local _ .vmem, ⟨2, _⟩ => ⟨S1x62x128, .f32⟩
  | .local _ .vmem, ⟨3, _⟩ => ⟨S1x62x128, .f32⟩
  | .local _ .vmem, ⟨4, _⟩ => ⟨S1x62x128, .f32⟩
  | .local _ .vmem, ⟨5, _⟩ => ⟨S1x62x128, .f32⟩
  | .local _ .vmem, ⟨6, _⟩ => ⟨S1x62x128, .f32⟩
  | _, _ => ⟨S1x62x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x62x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x62x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x62x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x62x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x62x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x62x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x62x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== AdwIdeal.lean ====
abbrev S1x62x128 : Shape := ⟨3, ![1, 62, 128]⟩
abbrev S62x128 : Shape := ⟨2, ![62, 128]⟩

abbrev nBuf : Space → Nat
  | .hbm => 7
  | .vmem => 7
  | .smem => 0
  | _ => 0

abbrev bufTy : (tb : Table) → Fin (tcTables nBuf tb) → BufTy
  | .hbm, ⟨0, _⟩ => ⟨S1x62x128, .f32⟩
  | .hbm, ⟨1, _⟩ => ⟨S1x62x128, .f32⟩
  | .hbm, ⟨2, _⟩ => ⟨S1x62x128, .f32⟩
  | .hbm, ⟨3, _⟩ => ⟨S1x62x128, .f32⟩
  | .hbm, ⟨4, _⟩ => ⟨S1x62x128, .f32⟩
  | .hbm, ⟨5, _⟩ => ⟨S1x62x128, .f32⟩
  | .hbm, ⟨6, _⟩ => ⟨S1x62x128, .f32⟩
  | .local _ .vmem, ⟨0, _⟩ => ⟨S1x62x128, .f32⟩
  | .local _ .vmem, ⟨1, _⟩ => ⟨S1x62x128, .f32⟩
  | .local _ .vmem, ⟨2, _⟩ => ⟨S1x62x128, .f32⟩
  | .local _ .vmem, ⟨3, _⟩ => ⟨S1x62x128, .f32⟩
  | .local _ .vmem, ⟨4, _⟩ => ⟨S1x62x128, .f32⟩
  | .local _ .vmem, ⟨5, _⟩ => ⟨S1x62x128, .f32⟩
  | .local _ .vmem, ⟨6, _⟩ => ⟨S1x62x128, .f32⟩
  | _, _ => ⟨S1x62x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x62x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x62x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x62x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x62x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x62x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x62x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x62x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== AdwRefIdeal.lean ====
abbrev S1x62x128 : Shape := ⟨3, ![1, 62, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x62x128, .f32⟩
  | .hbm, ⟨1, _⟩ => ⟨S1x62x128, .f32⟩
  | .hbm, ⟨2, _⟩ => ⟨S1x62x128, .f32⟩
  | .hbm, ⟨3, _⟩ => ⟨S1x62x128, .f32⟩
  | .hbm, ⟨4, _⟩ => ⟨S_, .f32⟩
  | .hbm, ⟨5, _⟩ => ⟨S1x62x128, .f32⟩
  | .hbm, ⟨6, _⟩ => ⟨S1x62x128, .f32⟩
  | .hbm, ⟨7, _⟩ => ⟨S_, .f32⟩
  | .hbm, ⟨8, _⟩ => ⟨S1x62x128, .f32⟩
  | .hbm, ⟨9, _⟩ => ⟨S1x62x128, .f32⟩
  | .hbm, ⟨10, _⟩ => ⟨S1x62x128, .f32⟩
  | .hbm, ⟨11, _⟩ => ⟨S_, .f32⟩
  | .hbm, ⟨12, _⟩ => ⟨S1x62x128, .f32⟩
  | .hbm, ⟨13, _⟩ => ⟨S1x62x128, .f32⟩
  | .hbm, ⟨14, _⟩ => ⟨S1x62x128, .f32⟩
  | .hbm, ⟨15, _⟩ => ⟨S_, .f32⟩
  | .hbm, ⟨16, _⟩ => ⟨S1x62x128, .f32⟩
  | .hbm, ⟨17, _⟩ => ⟨S1x62x128, .f32⟩
  | .hbm, ⟨18, _⟩ => ⟨S1x62x128, .f32⟩
  | .hbm, ⟨19, _⟩ => ⟨S_, .f32⟩
  | .hbm, ⟨20, _⟩ => ⟨S1x62x128, .f32⟩
  | .hbm, ⟨21, _⟩ => ⟨S1x62x128, .f32⟩
  | .hbm, ⟨22, _⟩ => ⟨S_, .f32⟩
  | .hbm, ⟨23, _⟩ => ⟨S1x62x128, .f32⟩
  | .hbm, ⟨24, _⟩ => ⟨S1x62x128, .f32⟩
  | .hbm, ⟨25, _⟩ => ⟨S1x62x128, .f32⟩
  | .hbm, ⟨26, _⟩ => ⟨S_, .f32⟩
  | .hbm, ⟨27, _⟩ => ⟨S1x62x128, .f32⟩
  | .hbm, ⟨28, _⟩ => ⟨S1x62x128, .f32⟩
  | .hbm, ⟨29, _⟩ => ⟨S1x62x128, .f32⟩
  | .hbm, ⟨30, _⟩ => ⟨S_, .f32⟩
  | .hbm, ⟨31, _⟩ => ⟨S1x62x128, .f32⟩
  | .hbm, ⟨32, _⟩ => ⟨S1x62x128, .f32⟩
  | .hbm, ⟨33, _⟩ => ⟨S1x62x128, .f32⟩
  | .hbm, ⟨34, _⟩ => ⟨S_, .f32⟩
  | .hbm, ⟨35, _⟩ => ⟨S1x62x128, .f32⟩
  | .hbm, ⟨36, _⟩ => ⟨S1x62x128, .f32⟩
  | _, _ => ⟨S1x62x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Adp.lean ====
abbrev S1x280x128 : Shape := ⟨3, ![1, 280, 128]⟩
abbrev S280x128 : Shape := ⟨2, ![280, 128]⟩

abbrev nBuf : Space → Nat
  | .hbm => 7
  | .vmem => 7
  | .smem => 0
  | _ => 0

abbrev bufTy : (tb : Table) → Fin (tcTables nBuf tb) → BufTy
  | .hbm, ⟨0, _⟩ => ⟨S1x280x128, .f32⟩
  | .hbm, ⟨1, _⟩ => ⟨S1x280x128, .f32⟩
  | .hbm, ⟨2, _⟩ => ⟨S1x280x128, .f32⟩
  | .hbm, ⟨3, _⟩ => ⟨S1x280x128, .f32⟩
  | .hbm, ⟨4, _⟩ => ⟨S1x280x128, .f32⟩
  | .hbm, ⟨5, _⟩ => ⟨S1x280x128, .f32⟩
  | .hbm, ⟨6, _⟩ => ⟨S1x280x128, .f32⟩
  | .local _ .vmem, ⟨0, _⟩ => ⟨S1x280x128, .f32⟩
  | .local _ .vmem, ⟨1, _⟩ => ⟨S1x280x128, .f32⟩
  | .local _ .vmem, ⟨2, _⟩ => ⟨S1x280x128, .f32⟩
  | .local _ .vmem, ⟨3, _⟩ => ⟨S1x280x128, .f32⟩
  | .local _ .vmem, ⟨4, _⟩ => ⟨S1x280x128, .f32⟩
  | .local _ .vmem, ⟨5, _⟩ => ⟨S1x280x128, .f32⟩
  | .local _ .vmem, ⟨6, _⟩ => ⟨S1x280x128, .f32⟩
  | _, _ => ⟨S1x280x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x280x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x280x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x280x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x280x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x280x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x280x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x280x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== AdpRefIdeal.lean ====
abbrev S1x280x128 : Shape := ⟨3, ![1, 280, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x280x128, .f32⟩
  | .hbm, ⟨1, _⟩ => ⟨S1x280x128, .f32⟩
  | .hbm, ⟨2, _⟩ => ⟨S1x280x128, .f32⟩
  | .hbm, ⟨3, _⟩ => ⟨S1x280x128, .f32⟩
  | .hbm, ⟨4, _⟩ => ⟨S_, .f32⟩
  | .hbm, ⟨5, _⟩ => ⟨S1x280x128, .f32⟩
  | .hbm, ⟨6, _⟩ => ⟨S1x280x128, .f32⟩
  | .hbm, ⟨7, _⟩ => ⟨S_, .f32⟩
  | .hbm, ⟨8, _⟩ => ⟨S1x280x128, .f32⟩
  | .hbm, ⟨9, _⟩ => ⟨S1x280x128, .f32⟩
  | .hbm, ⟨10, _⟩ => ⟨S1x280x128, .f32⟩
  | .hbm, ⟨11, _⟩ => ⟨S_, .f32⟩
  | .hbm, ⟨12, _⟩ => ⟨S1x280x128, .f32⟩
  | .hbm, ⟨13, _⟩ => ⟨S1x280x128, .f32⟩
  | .hbm, ⟨14, _⟩ => ⟨S1x280x128, .f32⟩
  | .hbm, ⟨15, _⟩ => ⟨S_, .f32⟩
  | .hbm, ⟨16, _⟩ => ⟨S1x280x128, .f32⟩
  | .hbm, ⟨17, _⟩ => ⟨S1x280x128, .f32⟩
  | .hbm, ⟨18, _⟩ => ⟨S1x280x128, .f32⟩
  | .hbm, ⟨19, _⟩ => ⟨S_, .f32⟩
  | .hbm, ⟨20, _⟩ => ⟨S1x280x128, .f32⟩
  | .hbm, ⟨21, _⟩ => ⟨S1x280x128, .f32⟩
  | .hbm, ⟨22, _⟩ => ⟨S_, .f32⟩
  | .hbm, ⟨23, _⟩ => ⟨S1x280x128, .f32⟩
  | .hbm, ⟨24, _⟩ => ⟨S1x280x128, .f32⟩
  | .hbm, ⟨25, _⟩ => ⟨S1x280x128, .f32⟩
  | .hbm, ⟨26, _⟩ => ⟨S_, .f32⟩
  | .hbm, ⟨27, _⟩ => ⟨S1x280x128, .f32⟩
  | .hbm, ⟨28, _⟩ => ⟨S1x280x128, .f32⟩
  | .hbm, ⟨29, _⟩ => ⟨S1x280x128, .f32⟩
  | .hbm, ⟨30, _⟩ => ⟨S_, .f32⟩
  | .hbm, ⟨31, _⟩ => ⟨S1x280x128, .f32⟩
  | .hbm, ⟨32, _⟩ => ⟨S1x280x128, .f32⟩
  | .hbm, ⟨33, _⟩ => ⟨S1x280x128, .f32⟩
  | .hbm, ⟨34, _⟩ => ⟨S_, .f32⟩
  | .hbm, ⟨35, _⟩ => ⟨S1x280x128, .f32⟩
  | .hbm, ⟨36, _⟩ => ⟨S1x280x128, .f32⟩
  | _, _ => ⟨S1x280x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Rmsf.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsfRefIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 18
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Loss.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 7
  | .vmem => 11
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S2048x2048, .bf16⟩
  | .hbm, ⟨5, _⟩ => ⟨S1x2048, .f32⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .bf16⟩
  | .local _ .vmem, ⟨8, _⟩ => ⟨S256x2048, .bf16⟩
  | .local _ .vmem, ⟨9, _⟩ => ⟨S1x2048, .f32⟩
  | .local _ .vmem, ⟨10, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v40 : BitVec 1 := Scalar.cmpi .eq arg0 c0_i32
  let v41 : BitVec 32 := Scalar.extui v40
  let c0_i32_15 : BitVec 32 := 0#32
  let v42 : BitVec 1 := Scalar.cmpi .ne v41 c0_i32_15
  v42

def k0_cond2 (i : grid0.Coords) : BitVec 1 :=
  let arg0 : BitVec 32 := BitVec.ofNat 32 (i 0).val
  let c0_i32_16 : BitVec 32 := 0#32
  let v43 : BitVec 1 := Scalar.cmpi .sgt arg0 c0_i32_16
  let v44 : BitVec 32 := Scalar.extui v43
  let c0_i32_17 : BitVec 32 := 0#32
  let v45 : BitVec 1 := Scalar.cmpi .ne v44 c0_i32_17
  v45

def k0_cond3 (i : grid0.Coords) : BitVec 1 :=
  let arg0 : BitVec 32 := BitVec.ofNat 32 (i 0).val
  let c0_i32_19 : BitVec 32 := 0#32
  let v49 : BitVec 1 := Scalar.cmpi .eq arg0 c0_i32_19
  let v50 : BitVec 32 := Scalar.extui v49
  let c0_i32_20 : BitVec 32 := 0#32
  let v51 : BitVec 1 := Scalar.cmpi .ne v50 c0_i32_20
  v51

def k0_cond4 (i : grid0.Coords) : BitVec 1 :=
  let arg0 : BitVec 32 := BitVec.ofNat 32 (i 0).val
  let c0_i32_21 : BitVec 32 := 0#32
  let v52 : BitVec 1 := Scalar.cmpi .sgt arg0 c0_i32_21
  let v53 : BitVec 32 := Scalar.extui v52
  let c0_i32_22 : BitVec 32 := 0#32
  let v54 : BitVec 1 := Scalar.cmpi .ne v53 c0_i32_22
  v54

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossRefIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 72
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S_, .f32⟩
  | .hbm, ⟨25, _⟩ => ⟨S2048x2048, .f32⟩
  | .hbm, ⟨26, _⟩ => ⟨S2048x2048, .f32⟩
  | .hbm, ⟨27, _⟩ => ⟨S_, .f32⟩
  | .hbm, ⟨28, _⟩ => ⟨S2048, .f32⟩
  | .hbm, ⟨29, _⟩ => ⟨S_, .f32⟩
  | .hbm, ⟨30, _⟩ => ⟨S2048, .f32⟩
  | .hbm, ⟨31, _⟩ => ⟨S2048, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S2048, .f32⟩
  | .hbm, ⟨40, _⟩ => ⟨S_, .f32⟩
  | .hbm, ⟨41, _⟩ => ⟨S2048, .f32⟩
  | .hbm, ⟨42, _⟩ => ⟨S2048, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S_, .f32⟩
  | .hbm, ⟨47, _⟩ => ⟨S2048, .f32⟩
  | .hbm, ⟨48, _⟩ => ⟨S1x2048, .f32⟩
  | .hbm, ⟨49, _⟩ => ⟨S2048x2048, .f32⟩
  | .hbm, ⟨50, _⟩ => ⟨S2048x2048, .f32⟩
  | .hbm, ⟨51, _⟩ => ⟨S2048x2048, .f32⟩
  | .hbm, ⟨52, _⟩ => ⟨S_, .f32⟩
  | .hbm, ⟨53, _⟩ => ⟨S2048, .f32⟩
  | .hbm, ⟨54, _⟩ => ⟨S2048x1, .f32⟩
  | .hbm, ⟨55, _⟩ => ⟨S2048x2048, .f32⟩
  | .hbm, ⟨56, _⟩ => ⟨S2048x2048, .f32⟩
  | .hbm, ⟨57, _⟩ => ⟨S2048x1, .f32⟩
  | .hbm, ⟨58, _⟩ => ⟨S_, .f32⟩
  | .hbm, ⟨59, _⟩ => ⟨S2048x1, .f32⟩
  | .hbm, ⟨60, _⟩ => ⟨S2048x1, .f32⟩
  | .hbm, ⟨61, _⟩ => ⟨S_, .f32⟩
  | .hbm, ⟨62, _⟩ => ⟨S2048, .f32⟩
  | .hbm, ⟨63, _⟩ => ⟨S2048x2048, .f32⟩
  | .hbm, ⟨64, _⟩ => ⟨S2048x2048, .f32⟩
  | .hbm, ⟨65, _⟩ => ⟨S2048x2048, .f32⟩
  | .hbm, ⟨66, _⟩ => ⟨S2048x2048, .f32⟩
  | .hbm, ⟨67, _⟩ => ⟨S2048x2048, .f32⟩
  | .hbm, ⟨68, _⟩ => ⟨S2048x2048, .bf16⟩
  | .hbm, ⟨69, _⟩ => ⟨S_, .f32⟩
  | .hbm, ⟨70, _⟩ => ⟨S2048, .f32⟩
  | .hbm, ⟨71, _⟩ => ⟨S1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_15 : Ref sig .tc := ⟨.hbm, 69, rfl⟩
abbrev main_v50 : Ref sig .tc := ⟨.hbm, 70, rfl⟩
abbrev main_v51 : Ref sig .tc := ⟨.hbm, 71, rfl⟩

abbrev nD : Nat := 1
abbrev τ : Topo := Topo.v7x

variable {F : FTy → Type} [FloatOps F]
-- ==== Lnf.lean ====
abbrev S2048x1024 : Shape := ⟨2, ![2048, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 4
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S2048x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S256x1024, .bf16⟩
  | .local _ .vmem, ⟨5, _⟩ => ⟨S256x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== LnfRefIdeal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩

abbrev nBuf : Space → Nat
  | .hbm => 38
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S2048, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v20 : Ref sig .tc := ⟨.hbm, 36, rfl⟩
abbrev main_v21 : Ref sig .tc := ⟨.hbm, 37, rfl⟩

abbrev nD : Nat := 1
abbrev τ : Topo := Topo.v7x

variable {F : FTy → Type} [FloatOps F]
-- ==== Lnb.lean ====
abbrev S2048x1024 : Shape := ⟨2, ![2048, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 7
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S2048x1024, .bf16⟩
  | .hbm, ⟨2, _⟩ => ⟨S1x1024, .f32⟩
  | .hbm, ⟨3, _⟩ => ⟨S1x1024, .f32⟩
  | .hbm, ⟨4, _⟩ => ⟨S2048x1024, .f32⟩
  | .hbm, ⟨5, _⟩ => ⟨S1x1024, .f32⟩
  | .hbm, ⟨6, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S1x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v58 : BitVec 1 := Scalar.cmpi .eq arg0 c0_i32
  let v59 : BitVec 32 := Scalar.extui v58
  let c0_i32_22 : BitVec 32 := 0#32
  let v60 : BitVec 1 := Scalar.cmpi .ne v59 c0_i32_22
  v60

def k0_cond2 (i : grid0.Coords) : BitVec 1 :=
  let arg0 : BitVec 32 := BitVec.ofNat 32 (i 0).val
  let c0_i32_23 : BitVec 32 := 0#32
  let v61 : BitVec 1 := Scalar.cmpi .sgt arg0 c0_i32_23
  let v62 : BitVec 32 := Scalar.extui v61
  let c0_i32_24 : BitVec 32 := 0#32
  let v63 : BitVec 1 := Scalar.cmpi .ne v62 c0_i32_24
  v63

def k0_cond3 (i : grid0.Coords) : BitVec 1 :=
  let arg0 : BitVec 32 := BitVec.ofNat 32 (i 0).val
  let c0_i32_26 : BitVec 32 := 0#32
  let v66 : BitVec 1 := Scalar.cmpi .eq arg0 c0_i32_26
  let v67 : BitVec 32 := Scalar.extui v66
  let c0_i32_27 : BitVec 32 := 0#32
  let v68 : BitVec 1 := Scalar.cmpi .ne v67 c0_i32_27
  v68

def k0_cond4 (i : grid0.Coords) : BitVec 1 :=
  let arg0 : BitVec 32 := BitVec.ofNat 32 (i 0).val
  let c0_i32_28 : BitVec 32 := 0#32
  let v69 : BitVec 1 := Scalar.cmpi .sgt arg0 c0_i32_28
  let v70 : BitVec 32 := Scalar.extui v69
  let c0_i32_29 : BitVec 32 := 0#32
  let v71 : BitVec 1 := Scalar.cmpi .ne v70 c0_i32_29
  v71

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LnbRefIdeal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 88
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .bf16⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S_, .f32⟩
  | .hbm, ⟨14, _⟩ => ⟨S2048, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x1, .f32⟩
  | .hbm, ⟨23, _⟩ => ⟨S2048x1, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S_, .f32⟩
  | .hbm, ⟨36, _⟩ => ⟨S2048x1024, .f32⟩
  | .hbm, ⟨37, _⟩ => ⟨S2048x1024, .f32⟩
  | .hbm, ⟨38, _⟩ => ⟨S_, .f32⟩
  | .hbm, ⟨39, _⟩ => ⟨S2048x1024, .f32⟩
  | .hbm, ⟨40, _⟩ => ⟨S2048x1024, .f32⟩
  | .hbm, ⟨41, _⟩ => ⟨S_, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S2048x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S2048x1024, .f32⟩
  | .hbm, ⟨59, _⟩ => ⟨S2048x1024, .f32⟩
  | .hbm, ⟨60, _⟩ => ⟨S2048x1024, .f32⟩
  | .hbm, ⟨61, _⟩ => ⟨S_, .f32⟩
  | .hbm, ⟨62, _⟩ => ⟨S2048, .f32⟩
  | .hbm, ⟨63, _⟩ => ⟨S2048x1, .f32⟩
  | .hbm, ⟨64, _⟩ => ⟨S2048x1024, .f32⟩
  | .hbm, ⟨65, _⟩ => ⟨S2048x1024, .f32⟩
  | .hbm, ⟨66, _⟩ => ⟨S2048x1, .f32⟩
  | .hbm, ⟨67, _⟩ => ⟨S_, .f32⟩
  | .hbm, ⟨68, _⟩ => ⟨S2048x1, .f32⟩
  | .hbm, ⟨69, _⟩ => ⟨S2048x1, .f32⟩
  | .hbm, ⟨70, _⟩ => ⟨S_, .f32⟩
  | .hbm, ⟨71, _⟩ => ⟨S2048, .f32⟩
  | .hbm, ⟨72, _⟩ => ⟨S2048x1024, .f32⟩
  | .hbm, ⟨73, _⟩ => ⟨S2048x1024, .f32⟩
  | .hbm, ⟨74, _⟩ => ⟨S2048x1024, .f32⟩
  | .hbm, ⟨75, _⟩ => ⟨S2048x1024, .f32⟩
  | .hbm, ⟨76, _⟩ => ⟨S2048x1024, .f32⟩
  | .hbm, ⟨77, _⟩ => ⟨S2048x1024, .f32⟩
  | .hbm, ⟨78, _⟩ => ⟨S_, .f32⟩
  | .hbm, ⟨79, _⟩ => ⟨S2048, .f32⟩
  | .hbm, ⟨80, _⟩ => ⟨S2048x1, .f32⟩
  | .hbm, ⟨81, _⟩ => ⟨S_, .f32⟩
  | .hbm, ⟨82, _⟩ => ⟨S2048x1, .f32⟩
  | .hbm, ⟨83, _⟩ => ⟨S2048x1, .f32⟩
  | .hbm, ⟨84, _⟩ => ⟨S_, .f32⟩
  | .hbm, ⟨85, _⟩ => ⟨S2048, .f32⟩
  | .hbm, ⟨86, _⟩ => ⟨S2048x1024, .f32⟩
  | .hbm, ⟨87, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_v23_2 : Ref sig .tc := ⟨.hbm, 40, rfl⟩
abbrev main_call0_cst_1 : Ref sig .tc := ⟨.hbm, 41, rfl⟩
abbrev main_call0_v6 : Ref sig .tc := ⟨.hbm, 42, rfl⟩
abbrev main_call0_v7 : Ref sig .tc := ⟨.hbm, 43, rfl⟩
abbrev main_v23_1 : Ref sig .tc := ⟨.hbm, 44, rfl⟩
abbrev main_v23_0 : Ref sig .tc := ⟨.hbm, 45, rfl⟩
abbrev main_v24 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_v25 : Ref sig .tc := ⟨.hbm, 50, rfl⟩
abbrev main_cst_5 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_cst_6 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_cst_7 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_8 : Ref sig .tc := ⟨.hbm, 67, rfl⟩
abbrev main_v39 : Ref sig .tc := ⟨.hbm, 68, rfl⟩
abbrev main_v40 : Ref sig .tc := ⟨.hbm, 69, rfl⟩
abbrev main_cst_9 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_cst_10 : Ref sig .tc := ⟨.hbm, 78, rfl⟩
abbrev main_v48 : Ref sig .tc := ⟨.hbm, 79, rfl⟩
abbrev main_v49 : Ref sig .tc := ⟨.hbm, 80, rfl⟩
abbrev main_cst_11 : Ref sig .tc := ⟨.hbm, 81, rfl⟩
abbrev main_v50 : Ref sig .tc := ⟨.hbm, 82, rfl⟩
abbrev main_v51 : Ref sig .tc := ⟨.hbm, 83, rfl⟩
abbrev main_cst_12 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩

abbrev nD : Nat := 1
abbrev τ : Topo := Topo.v7x

variable {F : FTy → Type} [FloatOps F]
-- ==== Firstf.lean ====
abbrev S1 : Shape := ⟨1, ![1]⟩
abbrev S2x704x2048 : Shape := ⟨3, ![2, 704, 2048]⟩
abbrev S4x704x2048 : Shape := ⟨3, ![4, 704, 2048]⟩
abbrev S1x64x2048 : Shape := ⟨3, ![1, 64, 2048]⟩
abbrev S4x64x2048 : Shape := ⟨3, ![4, 64, 2048]⟩
abbrev S64x2048 : Shape := ⟨2, ![64, 2048]⟩

abbrev nBuf : Space → Nat
  | .hbm => 13
  | .vmem => 18
  | .smem => 1
  | _ => 0

abbrev bufTy : (tb : Table) → Fin (tcTables nBuf tb) → BufTy
  | .hbm, ⟨0, _⟩ => ⟨S2x704x2048, .f32⟩
  | .hbm, ⟨1, _⟩ => ⟨S2x704x2048, .f32⟩
  | .hbm, ⟨2, _⟩ => ⟨S2x704x2048, .f32⟩
  | .hbm, ⟨3, _⟩ => ⟨S4x704x2048, .bf16⟩
  | .hbm, ⟨4, _⟩ => ⟨S4x704x2048, .bf16⟩
  | .hbm, ⟨5, _⟩ => ⟨S2x704x2048, .f32⟩
  | .hbm, ⟨6, _⟩ => ⟨S2x704x2048, .f32⟩
  | .hbm, ⟨7, _⟩ => ⟨S2x704x2048, .f32⟩
  | .hbm, ⟨8, _⟩ => ⟨S2x704x2048, .f32⟩
  | .hbm, ⟨9, _⟩ => ⟨S2x704x2048, .f32⟩
  | .hbm, ⟨10, _⟩ => ⟨S2x704x2048, .f32⟩
  | .hbm, ⟨11, _⟩ => ⟨S2x704x2048, .f32⟩
  | .hbm, ⟨12, _⟩ => ⟨S2x704x2048, .f32⟩
  | .local _ .vmem, ⟨0, _⟩ => ⟨S1x64x2048, .f32⟩
  | .local _ .vmem, ⟨1, _⟩ => ⟨S1x64x2048, .f32⟩
  | .local _ .vmem, ⟨2, _⟩ => ⟨S1x64x2048, .f32⟩
  | .local _ .vmem, ⟨3, _⟩ => ⟨S1x64x2048, .f32⟩
  | .local _ .vmem, ⟨4, _⟩ => ⟨S1x64x2048, .f32⟩
  | .local _ .vmem, ⟨5, _⟩ => ⟨S1x64x2048, .f32⟩
  | .local _ .vmem, ⟨6, _⟩ => ⟨S4x64x2048, .bf16⟩
  | .local _ .vmem, ⟨7, _⟩ => ⟨S4x64x2048, .bf16⟩
  | .local _ .vmem, ⟨8, _⟩ => ⟨S4x64x2048, .bf16⟩
  | .local _ .vmem, ⟨9, _⟩ => ⟨S4x64x2048, .bf16⟩
  | .local _ .vmem, ⟨10, _⟩ => ⟨S1x64x2048, .f32⟩
  | .local _ .vmem, ⟨11, _⟩ => ⟨S1x64x2048, .f32⟩
  | .local _ .vmem, ⟨12, _⟩ => ⟨S1x64x2048, .f32⟩
  | .local _ .vmem, ⟨13, _⟩ => ⟨S1x64x2048, .f32⟩
  | .local _ .vmem, ⟨14, _⟩ => ⟨S1x64x2048, .f32⟩
  | .local _ .vmem, ⟨15, _⟩ => ⟨S1x64x2048, .f32⟩
  | .local _ .vmem, ⟨16, _⟩ => ⟨S1x64x2048, .f32⟩
  | .local _ .vmem, ⟨17, _⟩ => ⟨S1x64x2048, .f32⟩
  | .local _ .smem, ⟨0, _⟩ => ⟨S1, .i32⟩
  | _, _ => ⟨S2x704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![11], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x64x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x64x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x64x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FirstfIdeal.lean ====
abbrev S1 : Shape := ⟨1, ![1]⟩
abbrev S2x704x2048 : Shape := ⟨3, ![2, 704, 2048]⟩
abbrev S4x704x2048 : Shape := ⟨3, ![4, 704, 2048]⟩
abbrev S1x64x2048 : Shape := ⟨3, ![1, 64, 2048]⟩
abbrev S4x64x2048 : Shape := ⟨3, ![4, 64, 2048]⟩
abbrev S64x2048 : Shape := ⟨2, ![64, 2048]⟩

abbrev nBuf : Space → Nat
  | .hbm => 13
  | .vmem => 18
  | .smem => 1
  | _ => 0

abbrev bufTy : (tb : Table) → Fin (tcTables nBuf tb) → BufTy
  | .hbm, ⟨0, _⟩ => ⟨S2x704x2048, .f32⟩
  | .hbm, ⟨1, _⟩ => ⟨S2x704x2048, .f32⟩
  | .hbm, ⟨2, _⟩ => ⟨S2x704x2048, .f32⟩
  | .hbm, ⟨3, _⟩ => ⟨S4x704x2048, .bf16⟩
  | .hbm, ⟨4, _⟩ => ⟨S4x704x2048, .bf16⟩
  | .hbm, ⟨5, _⟩ => ⟨S2x704x2048, .f32⟩
  | .hbm, ⟨6, _⟩ => ⟨S2x704x2048, .f32⟩
  | .hbm, ⟨7, _⟩ => ⟨S2x704x2048, .f32⟩
  | .hbm, ⟨8, _⟩ => ⟨S2x704x2048, .f32⟩
  | .hbm, ⟨9, _⟩ => ⟨S2x704x2048, .f32⟩
  | .hbm, ⟨10, _⟩ => ⟨S2x704x2048, .f32⟩
  | .hbm, ⟨11, _⟩ => ⟨S2x704x2048, .f32⟩
  | .hbm, ⟨12, _⟩ => ⟨S2x704x2048, .f32⟩
  | .local _ .vmem, ⟨0, _⟩ => ⟨S1x64x2048, .f32⟩
  | .local _ .vmem, ⟨1, _⟩ => ⟨S1x64x2048, .f32⟩
  | .local _ .vmem, ⟨2, _⟩ => ⟨S1x64x2048, .f32⟩
  | .local _ .vmem, ⟨3, _⟩ => ⟨S1x64x2048, .f32⟩
  | .local _ .vmem, ⟨4, _⟩ => ⟨S1x64x2048, .f32⟩
  | .local _ .vmem, ⟨5, _⟩ => ⟨S1x64x2048, .f32⟩
  | .local _ .vmem, ⟨6, _⟩ => ⟨S4x64x2048, .bf16⟩
  | .local _ .vmem, ⟨7, _⟩ => ⟨S4x64x2048, .bf16⟩
  | .local _ .vmem, ⟨8, _⟩ => ⟨S4x64x2048, .bf16⟩
  | .local _ .vmem, ⟨9, _⟩ => ⟨S4x64x2048, .bf16⟩
  | .local _ .vmem, ⟨10, _⟩ => ⟨S1x64x2048, .f32⟩
  | .local _ .vmem, ⟨11, _⟩ => ⟨S1x64x2048, .f32⟩
  | .local _ .vmem, ⟨12, _⟩ => ⟨S1x64x2048, .f32⟩
  | .local _ .vmem, ⟨13, _⟩ => ⟨S1x64x2048, .f32⟩
  | .local _ .vmem, ⟨14, _⟩ => ⟨S1x64x2048, .f32⟩
  | .local _ .vmem, ⟨15, _⟩ => ⟨S1x64x2048, .f32⟩
  | .local _ .vmem, ⟨16, _⟩ => ⟨S1x64x2048, .f32⟩
  | .local _ .vmem, ⟨17, _⟩ => ⟨S1x64x2048, .f32⟩
  | .local _ .smem, ⟨0, _⟩ => ⟨S1, .i32⟩
  | _, _ => ⟨S2x704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![11], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x64x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x64x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x64x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FirstfRefIdeal.lean ====
abbrev S1 : Shape := ⟨1, ![1]⟩
abbrev S2x704x2048 : Shape := ⟨3, ![2, 704, 2048]⟩
abbrev S4x704x2048 : Shape := ⟨3, ![4, 704, 2048]⟩
abbrev S1x704x2048 : Shape := ⟨3, ![1, 704, 2048]⟩
abbrev S704x2048 : Shape := ⟨2, ![704, 2048]⟩
abbrev S4 : Shape := ⟨1, ![4]⟩
abbrev S4x1x1 : Shape := ⟨3, ![4, 1, 1]⟩
abbrev S1x1x1 : Shape := ⟨3, ![1, 1, 1]⟩
abbrev S_ : Shape := ⟨0, ![]⟩

abbrev nBuf : Space → Nat
  | .hbm => 79
  | .vmem => 0
  | .smem => 0
  | _ => 0

abbrev bufTy : (tb : Table) → Fin (tcTables nBuf tb) → BufTy
  | .hbm, ⟨0, _⟩ => ⟨S1, .i32⟩
  | .hbm, ⟨1, _⟩ => ⟨S2x704x2048, .f32⟩
  | .hbm, ⟨2, _⟩ => ⟨S2x704x2048, .f32⟩
  | .hbm, ⟨3, _⟩ => ⟨S2x704x2048, .f32⟩
  | .hbm, ⟨4, _⟩ => ⟨S4x704x2048, .bf16⟩
  | .hbm, ⟨5, _⟩ => ⟨S4x704x2048, .bf16⟩
  | .hbm, ⟨6, _⟩ => ⟨S2x704x2048, .f32⟩
  | .hbm, ⟨7, _⟩ => ⟨S2x704x2048, .f32⟩
  | .hbm, ⟨8, _⟩ => ⟨S2x704x2048, .f32⟩
  | .hbm, ⟨9, _⟩ => ⟨S2x704x2048, .f32⟩
  | .hbm, ⟨10, _⟩ => ⟨S1x704x2048, .f32⟩
  | .hbm, ⟨11, _⟩ => ⟨S704x2048, .f32⟩
  | .hbm, ⟨12, _⟩ => ⟨S1x704x2048, .f32⟩
  | .hbm, ⟨13, _⟩ => ⟨S704x2048, .f32⟩
  | .hbm, ⟨14, _⟩ => ⟨S1x704x2048, .f32⟩
  | .hbm, ⟨15, _⟩ => ⟨S704x2048, .f32⟩
  | .hbm, ⟨16, _⟩ => ⟨S4, .i32⟩
  | .hbm, ⟨17, _⟩ => ⟨S4x1x1, .i32⟩
  | .hbm, ⟨18, _⟩ => ⟨S1x1x1, .i32⟩
  | .hbm, ⟨19, _⟩ => ⟨S4x1x1, .i32⟩
  | .hbm, ⟨20, _⟩ => ⟨S4x1x1, .i1⟩
  | .hbm, ⟨21, _⟩ => ⟨S4x704x2048, .i1⟩
  | .hbm, ⟨22, _⟩ => ⟨S4x704x2048, .bf16⟩
  | .hbm, ⟨23, _⟩ => ⟨S4x704x2048, .f32⟩
  | .hbm, ⟨24, _⟩ => ⟨S_, .f32⟩
  | .hbm, ⟨25, _⟩ => ⟨S704x2048, .f32⟩
  | .hbm, ⟨26, _⟩ => ⟨S_, .f32⟩
  | .hbm, ⟨27, _⟩ => ⟨S704x2048, .f32⟩
  | .hbm, ⟨28, _⟩ => ⟨S704x2048, .f32⟩
  | .hbm, ⟨29, _⟩ => ⟨S_, .f32⟩
  | .hbm, ⟨30, _⟩ => ⟨S704x2048, .f32⟩
  | .hbm, ⟨31, _⟩ => ⟨S704x2048, .f32⟩
  | .hbm, ⟨32, _⟩ => ⟨S704x2048, .f32⟩
  | .hbm, ⟨33, _⟩ => ⟨S_, .f32⟩
  | .hbm, ⟨34, _⟩ => ⟨S704x2048, .f32⟩
  | .hbm, ⟨35, _⟩ => ⟨S704x2048, .f32⟩
  | .hbm, ⟨36, _⟩ => ⟨S704x2048, .f32⟩
  | .hbm, ⟨37, _⟩ => ⟨S_, .f32⟩
  | .hbm, ⟨38, _⟩ => ⟨S704x2048, .f32⟩
  | .hbm, ⟨39, _⟩ => ⟨S704x2048, .f32⟩
  | .hbm, ⟨40, _⟩ => ⟨S704x2048, .f32⟩
  | .hbm, ⟨41, _⟩ => ⟨S_, .f32⟩
  | .hbm, ⟨42, _⟩ => ⟨S704x2048, .f32⟩
  | .hbm, ⟨43, _⟩ => ⟨S704x2048, .f32⟩
  | .hbm, ⟨44, _⟩ => ⟨S_, .f32⟩
  | .hbm, ⟨45, _⟩ => ⟨S704x2048, .f32⟩
  | .hbm, ⟨46, _⟩ => ⟨S704x2048, .f32⟩
  | .hbm, ⟨47, _⟩ => ⟨S704x2048, .f32⟩
  | .hbm, ⟨48, _⟩ => ⟨S_, .f32⟩
  | .hbm, ⟨49, _⟩ => ⟨S704x2048, .f32⟩
  | .hbm, ⟨50, _⟩ => ⟨S704x2048, .f32⟩
  | .hbm, ⟨51, _⟩ => ⟨S704x2048, .f32⟩
  | .hbm, ⟨52, _⟩ => ⟨S_, .f32⟩
  | .hbm, ⟨53, _⟩ => ⟨S704x2048, .f32⟩
  | .hbm, ⟨54, _⟩ => ⟨S704x2048, .f32⟩
  | .hbm, ⟨55, _⟩ => ⟨S704x2048, .f32⟩
  | .hbm, ⟨56, _⟩ => ⟨S_, .f32⟩
  | .hbm, ⟨57, _⟩ => ⟨S704x2048, .f32⟩
  | .hbm, ⟨58, _⟩ => ⟨S704x2048, .f32⟩
  | .hbm, ⟨59, _⟩ => ⟨S1x704x2048, .f32⟩
  | .hbm, ⟨60, _⟩ => ⟨S704x2048, .f32⟩
  | .hbm, ⟨61, _⟩ => ⟨S1x704x2048, .f32⟩
  | .hbm, ⟨62, _⟩ => ⟨S1x704x2048, .f32⟩
  | .hbm, ⟨63, _⟩ => ⟨S2x704x2048, .f32⟩
  | .hbm, ⟨64, _⟩ => ⟨S1x704x2048, .f32⟩
  | .hbm, ⟨65, _⟩ => ⟨S704x2048, .f32⟩
  | .hbm, ⟨66, _⟩ => ⟨S1x704x2048, .f32⟩
  | .hbm, ⟨67, _⟩ => ⟨S1x704x2048, .f32⟩
  | .hbm, ⟨68, _⟩ => ⟨S2x704x2048, .f32⟩
  | .hbm, ⟨69, _⟩ => ⟨S1x704x2048, .f32⟩
  | .hbm, ⟨70, _⟩ => ⟨S704x2048, .f32⟩
  | .hbm, ⟨71, _⟩ => ⟨S1x704x2048, .f32⟩
  | .hbm, ⟨72, _⟩ => ⟨S1x704x2048, .f32⟩
  | .hbm, ⟨73, _⟩ => ⟨S2x704x2048, .f32⟩
  | .hbm, ⟨74, _⟩ => ⟨S1x704x2048, .f32⟩
  | .hbm, ⟨75, _⟩ => ⟨S704x2048, .f32⟩
  | .hbm, ⟨76, _⟩ => ⟨S1x704x2048, .f32⟩
  | .hbm, ⟨77, _⟩ => ⟨S1x704x2048, .f32⟩
  | .hbm, ⟨78, _⟩ => ⟨S2x704x2048, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call0_v0 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_cst_0 : Ref sig .tc := ⟨.hbm, 26, rfl⟩
abbrev main_v14 : Ref sig .tc := ⟨.hbm, 27, rfl⟩
abbrev main_v15 : Ref sig .tc := ⟨.hbm, 28, rfl⟩
abbrev main_cst_1 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_4 : Ref sig .tc := ⟨.hbm, 41, rfl⟩
abbrev main_v25 : Ref sig .tc := ⟨.hbm, 42, rfl⟩
abbrev main_v26 : Ref sig .tc := ⟨.hbm, 43, rfl⟩
abbrev main_cst_5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_6 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_8 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩

abbrev nD : Nat := 1
abbrev τ : Topo := Topo.v7x

variable {F : FTy → Type} [FloatOps F]
-- ==== Lasto.lean ====
abbrev S1 : Shape := ⟨1, ![1]⟩
abbrev S2x256x2048 : Shape := ⟨3, ![2, 256, 2048]⟩
abbrev S4x256x2048 : Shape := ⟨3, ![4, 256, 2048]⟩
abbrev S1x128x2048 : Shape := ⟨3, ![1, 128, 2048]⟩
abbrev S4x128x2048 : Shape := ⟨3, ![4, 128, 2048]⟩
abbrev S128x2048 : Shape := ⟨2, ![128, 2048]⟩
abbrev S1x256x2048 : Shape := ⟨3, ![1, 256, 2048]⟩
abbrev S256x2048 : Shape := ⟨2, ![256, 2048]⟩

abbrev nBuf : Space → Nat
  | .hbm => 17
  | .vmem => 18
  | .smem => 1
  | _ => 0

abbrev bufTy : (tb : Table) → Fin (tcTables nBuf tb) → BufTy
  | .hbm, ⟨0, _⟩ => ⟨S2x256x2048, .f32⟩
  | .hbm, ⟨1, _⟩ => ⟨S2x256x2048, .f32⟩
  | .hbm, ⟨2, _⟩ => ⟨S2x256x2048, .f32⟩
  | .hbm, ⟨3, _⟩ => ⟨S4x256x2048, .bf16⟩
  | .hbm, ⟨4, _⟩ => ⟨S4x256x2048, .bf16⟩
  | .hbm, ⟨5, _⟩ => ⟨S2x256x2048, .f32⟩
  | .hbm, ⟨6, _⟩ => ⟨S2x256x2048, .f32⟩
  | .hbm, ⟨7, _⟩ => ⟨S2x256x2048, .f32⟩
  | .hbm, ⟨8, _⟩ => ⟨S2x256x2048, .f32⟩
  | .hbm, ⟨9, _⟩ => ⟨S1x256x2048, .f32⟩
  | .hbm, ⟨10, _⟩ => ⟨S256x2048, .f32⟩
  | .hbm, ⟨11, _⟩ => ⟨S1x256x2048, .f32⟩
  | .hbm, ⟨12, _⟩ => ⟨S256x2048, .f32⟩
  | .hbm, ⟨13, _⟩ => ⟨S1x256x2048, .f32⟩
  | .hbm, ⟨14, _⟩ => ⟨S256x2048, .f32⟩
  | .hbm, ⟨15, _⟩ => ⟨S1x256x2048, .f32⟩
  | .hbm, ⟨16, _⟩ => ⟨S256x2048, .f32⟩
  | .local _ .vmem, ⟨0, _⟩ => ⟨S1x128x2048, .f32⟩
  | .local _ .vmem, ⟨1, _⟩ => ⟨S1x128x2048, .f32⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S4x128x2048, .bf16⟩
  | .local _ .vmem, ⟨7, _⟩ => ⟨S4x128x2048, .bf16⟩
  | .local _ .vmem, ⟨8, _⟩ => ⟨S4x128x2048, .bf16⟩
  | .local _ .vmem, ⟨9, _⟩ => ⟨S4x128x2048, .bf16⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | .local _ .vmem, ⟨16, _⟩ => ⟨S1x128x2048, .f32⟩
  | .local _ .vmem, ⟨17, _⟩ => ⟨S1x128x2048, .f32⟩
  | .local _ .smem, ⟨0, _⟩ => ⟨S1, .i32⟩
  | _, _ => ⟨S2x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== LastoIdeal.lean ====
abbrev S1 : Shape := ⟨1, ![1]⟩
abbrev S2x256x2048 : Shape := ⟨3, ![2, 256, 2048]⟩
abbrev S4x256x2048 : Shape := ⟨3, ![4, 256, 2048]⟩
abbrev S1x128x2048 : Shape := ⟨3, ![1, 128, 2048]⟩
abbrev S4x128x2048 : Shape := ⟨3, ![4, 128, 2048]⟩
abbrev S128x2048 : Shape := ⟨2, ![128, 2048]⟩
abbrev S1x256x2048 : Shape := ⟨3, ![1, 256, 2048]⟩
abbrev S256x2048 : Shape := ⟨2, ![256, 2048]⟩

abbrev nBuf : Space → Nat
  | .hbm => 17
  | .vmem => 18
  | .smem => 1
  | _ => 0

abbrev bufTy : (tb : Table) → Fin (tcTables nBuf tb) → BufTy
  | .hbm, ⟨0, _⟩ => ⟨S2x256x2048, .f32⟩
  | .hbm, ⟨1, _⟩ => ⟨S2x256x2048, .f32⟩
  | .hbm, ⟨2, _⟩ => ⟨S2x256x2048, .f32⟩
  | .hbm, ⟨3, _⟩ => ⟨S4x256x2048, .bf16⟩
  | .hbm, ⟨4, _⟩ => ⟨S4x256x2048, .bf16⟩
  | .hbm, ⟨5, _⟩ => ⟨S2x256x2048, .f32⟩
  | .hbm, ⟨6, _⟩ => ⟨S2x256x2048, .f32⟩
  | .hbm, ⟨7, _⟩ => ⟨S2x256x2048, .f32⟩
  | .hbm, ⟨8, _⟩ => ⟨S2x256x2048, .f32⟩
  | .hbm, ⟨9, _⟩ => ⟨S1x256x2048, .f32⟩
  | .hbm, ⟨10, _⟩ => ⟨S256x2048, .f32⟩
  | .hbm, ⟨11, _⟩ => ⟨S1x256x2048, .f32⟩
  | .hbm, ⟨12, _⟩ => ⟨S256x2048, .f32⟩
  | .hbm, ⟨13, _⟩ => ⟨S1x256x2048, .f32⟩
  | .hbm, ⟨14, _⟩ => ⟨S256x2048, .f32⟩
  | .hbm, ⟨15, _⟩ => ⟨S1x256x2048, .f32⟩
  | .hbm, ⟨16, _⟩ => ⟨S256x2048, .f32⟩
  | .local _ .vmem, ⟨0, _⟩ => ⟨S1x128x2048, .f32⟩
  | .local _ .vmem, ⟨1, _⟩ => ⟨S1x128x2048, .f32⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S4x128x2048, .bf16⟩
  | .local _ .vmem, ⟨7, _⟩ => ⟨S4x128x2048, .bf16⟩
  | .local _ .vmem, ⟨8, _⟩ => ⟨S4x128x2048, .bf16⟩
  | .local _ .vmem, ⟨9, _⟩ => ⟨S4x128x2048, .bf16⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | .local _ .vmem, ⟨16, _⟩ => ⟨S1x128x2048, .f32⟩
  | .local _ .vmem, ⟨17, _⟩ => ⟨S1x128x2048, .f32⟩
  | .local _ .smem, ⟨0, _⟩ => ⟨S1, .i32⟩
  | _, _ => ⟨S2x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== LastoRefIdeal.lean ====
abbrev S1 : Shape := ⟨1, ![1]⟩
abbrev S2x256x2048 : Shape := ⟨3, ![2, 256, 2048]⟩
abbrev S4x256x2048 : Shape := ⟨3, ![4, 256, 2048]⟩
abbrev S1x256x2048 : Shape := ⟨3, ![1, 256, 2048]⟩
abbrev S256x2048 : Shape := ⟨2, ![256, 2048]⟩
abbrev S4 : Shape := ⟨1, ![4]⟩
abbrev S4x1x1 : Shape := ⟨3, ![4, 1, 1]⟩
abbrev S1x1x1 : Shape := ⟨3, ![1, 1, 1]⟩
abbrev S_ : Shape := ⟨0, ![]⟩

abbrev nBuf : Space → Nat
  | .hbm => 55
  | .vmem => 0
  | .smem => 0
  | _ => 0

abbrev bufTy : (tb : Table) → Fin (tcTables nBuf tb) → BufTy
  | .hbm, ⟨0, _⟩ => ⟨S1, .i32⟩
  | .hbm, ⟨1, _⟩ => ⟨S2x256x2048, .f32⟩
  | .hbm, ⟨2, _⟩ => ⟨S2x256x2048, .f32⟩
  | .hbm, ⟨3, _⟩ => ⟨S2x256x2048, .f32⟩
  | .hbm, ⟨4, _⟩ => ⟨S4x256x2048, .bf16⟩
  | .hbm, ⟨5, _⟩ => ⟨S4x256x2048, .bf16⟩
  | .hbm, ⟨6, _⟩ => ⟨S1x256x2048, .f32⟩
  | .hbm, ⟨7, _⟩ => ⟨S256x2048, .f32⟩
  | .hbm, ⟨8, _⟩ => ⟨S1x256x2048, .f32⟩
  | .hbm, ⟨9, _⟩ => ⟨S256x2048, .f32⟩
  | .hbm, ⟨10, _⟩ => ⟨S1x256x2048, .f32⟩
  | .hbm, ⟨11, _⟩ => ⟨S256x2048, .f32⟩
  | .hbm, ⟨12, _⟩ => ⟨S4, .i32⟩
  | .hbm, ⟨13, _⟩ => ⟨S4x1x1, .i32⟩
  | .hbm, ⟨14, _⟩ => ⟨S1x1x1, .i32⟩
  | .hbm, ⟨15, _⟩ => ⟨S4x1x1, .i32⟩
  | .hbm, ⟨16, _⟩ => ⟨S4x1x1, .i1⟩
  | .hbm, ⟨17, _⟩ => ⟨S4x256x2048, .i1⟩
  | .hbm, ⟨18, _⟩ => ⟨S4x256x2048, .bf16⟩
  | .hbm, ⟨19, _⟩ => ⟨S4x256x2048, .f32⟩
  | .hbm, ⟨20, _⟩ => ⟨S_, .f32⟩
  | .hbm, ⟨21, _⟩ => ⟨S256x2048, .f32⟩
  | .hbm, ⟨22, _⟩ => ⟨S_, .f32⟩
  | .hbm, ⟨23, _⟩ => ⟨S256x2048, .f32⟩
  | .hbm, ⟨24, _⟩ => ⟨S256x2048, .f32⟩
  | .hbm, ⟨25, _⟩ => ⟨S_, .f32⟩
  | .hbm, ⟨26, _⟩ => ⟨S256x2048, .f32⟩
  | .hbm, ⟨27, _⟩ => ⟨S256x2048, .f32⟩
  | .hbm, ⟨28, _⟩ => ⟨S256x2048, .f32⟩
  | .hbm, ⟨29, _⟩ => ⟨S_, .f32⟩
  | .hbm, ⟨30, _⟩ => ⟨S256x2048, .f32⟩
  | .hbm, ⟨31, _⟩ => ⟨S256x2048, .f32⟩
  | .hbm, ⟨32, _⟩ => ⟨S256x2048, .f32⟩
  | .hbm, ⟨33, _⟩ => ⟨S_, .f32⟩
  | .hbm, ⟨34, _⟩ => ⟨S256x2048, .f32⟩
  | .hbm, ⟨35, _⟩ => ⟨S256x2048, .f32⟩
  | .hbm, ⟨36, _⟩ => ⟨S256x2048, .f32⟩
  | .hbm, ⟨37, _⟩ => ⟨S_, .f32⟩
  | .hbm, ⟨38, _⟩ => ⟨S256x2048, .f32⟩
  | .hbm, ⟨39, _⟩ => ⟨S256x2048, .f32⟩
  | .hbm, ⟨40, _⟩ => ⟨S_, .f32⟩
  | .hbm, ⟨41, _⟩ => ⟨S256x2048, .f32⟩
  | .hbm, ⟨42, _⟩ => ⟨S256x2048, .f32⟩
  | .hbm, ⟨43, _⟩ => ⟨S256x2048, .f32⟩
  | .hbm, ⟨44, _⟩ => ⟨S_, .f32⟩
  | .hbm, ⟨45, _⟩ => ⟨S256x2048, .f32⟩
  | .hbm, ⟨46, _⟩ => ⟨S256x2048, .f32⟩
  | .hbm, ⟨47, _⟩ => ⟨S256x2048, .f32⟩
  | .hbm, ⟨48, _⟩ => ⟨S_, .f32⟩
  | .hbm, ⟨49, _⟩ => ⟨S256x2048, .f32⟩
  | .hbm, ⟨50, _⟩ => ⟨S256x2048, .f32⟩
  | .hbm, ⟨51, _⟩ => ⟨S256x2048, .f32⟩
  | .hbm, ⟨52, _⟩ => ⟨S_, .f32⟩
  | .hbm, ⟨53, _⟩ => ⟨S256x2048, .f32⟩
  | .hbm, ⟨54, _⟩ => ⟨S256x2048, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_call0_v0 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_8 : Ref sig .tc := ⟨.hbm, 52, rfl⟩
abbrev main_v36 : Ref sig .tc := ⟨.hbm, 53, rfl⟩
abbrev main_v37 : Ref sig .tc := ⟨.hbm, 54, rfl⟩

abbrev nD : Nat := 1
abbrev τ : Topo := Topo.v7x

variable {F : FTy → Type} [FloatOps F]
-- ==== Firsto.lean ====
abbrev S1 : Shape := ⟨1, ![1]⟩
abbrev S2x256x2048 : Shape := ⟨3, ![2, 256, 2048]⟩
abbrev S4x256x2048 : Shape := ⟨3, ![4, 256, 2048]⟩
abbrev S1x128x2048 : Shape := ⟨3, ![1, 128, 2048]⟩
abbrev S4x128x2048 : Shape := ⟨3, ![4, 128, 2048]⟩
abbrev S128x2048 : Shape := ⟨2, ![128, 2048]⟩

abbrev nBuf : Space → Nat
  | .hbm => 13
  | .vmem => 18
  | .smem => 1
  | _ => 0

abbrev bufTy : (tb : Table) → Fin (tcTables nBuf tb) → BufTy
  | .hbm, ⟨0, _⟩ => ⟨S2x256x2048, .f32⟩
  | .hbm, ⟨1, _⟩ => ⟨S2x256x2048, .f32⟩
  | .hbm, ⟨2, _⟩ => ⟨S2x256x2048, .f32⟩
  | .hbm, ⟨3, _⟩ => ⟨S4x256x2048, .bf16⟩
  | .hbm, ⟨4, _⟩ => ⟨S4x256x2048, .bf16⟩
  | .hbm, ⟨5, _⟩ => ⟨S2x256x2048, .f32⟩
  | .hbm, ⟨6, _⟩ => ⟨S2x256x2048, .f32⟩
  | .hbm, ⟨7, _⟩ => ⟨S2x256x2048, .f32⟩
  | .hbm, ⟨8, _⟩ => ⟨S2x256x2048, .f32⟩
  | .hbm, ⟨9, _⟩ => ⟨S2x256x2048, .f32⟩
  | .hbm, ⟨10, _⟩ => ⟨S2x256x2048, .f32⟩
  | .hbm, ⟨11, _⟩ => ⟨S2x256x2048, .f32⟩
  | .hbm, ⟨12, _⟩ => ⟨S2x256x2048, .f32⟩
  | .local _ .vmem, ⟨0, _⟩ => ⟨S1x128x2048, .f32⟩
  | .local _ .vmem, ⟨1, _⟩ => ⟨S1x128x2048, .f32⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S4x128x2048, .bf16⟩
  | .local _ .vmem, ⟨7, _⟩ => ⟨S4x128x2048, .bf16⟩
  | .local _ .vmem, ⟨8, _⟩ => ⟨S4x128x2048, .bf16⟩
  | .local _ .vmem, ⟨9, _⟩ => ⟨S4x128x2048, .bf16⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | .local _ .vmem, ⟨16, _⟩ => ⟨S1x128x2048, .f32⟩
  | .local _ .vmem, ⟨17, _⟩ => ⟨S1x128x2048, .f32⟩
  | .local _ .smem, ⟨0, _⟩ => ⟨S1, .i32⟩
  | _, _ => ⟨S2x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FirstoIdeal.lean ====
abbrev S1 : Shape := ⟨1, ![1]⟩
abbrev S2x256x2048 : Shape := ⟨3, ![2, 256, 2048]⟩
abbrev S4x256x2048 : Shape := ⟨3, ![4, 256, 2048]⟩
abbrev S1x128x2048 : Shape := ⟨3, ![1, 128, 2048]⟩
abbrev S4x128x2048 : Shape := ⟨3, ![4, 128, 2048]⟩
abbrev S128x2048 : Shape := ⟨2, ![128, 2048]⟩

abbrev nBuf : Space → Nat
  | .hbm => 13
  | .vmem => 18
  | .smem => 1
  | _ => 0

abbrev bufTy : (tb : Table) → Fin (tcTables nBuf tb) → BufTy
  | .hbm, ⟨0, _⟩ => ⟨S2x256x2048, .f32⟩
  | .hbm, ⟨1, _⟩ => ⟨S2x256x2048, .f32⟩
  | .hbm, ⟨2, _⟩ => ⟨S2x256x2048, .f32⟩
  | .hbm, ⟨3, _⟩ => ⟨S4x256x2048, .bf16⟩
  | .hbm, ⟨4, _⟩ => ⟨S4x256x2048, .bf16⟩
  | .hbm, ⟨5, _⟩ => ⟨S2x256x2048, .f32⟩
  | .hbm, ⟨6, _⟩ => ⟨S2x256x2048, .f32⟩
  | .hbm, ⟨7, _⟩ => ⟨S2x256x2048, .f32⟩
  | .hbm, ⟨8, _⟩ => ⟨S2x256x2048, .f32⟩
  | .hbm, ⟨9, _⟩ => ⟨S2x256x2048, .f32⟩
  | .hbm, ⟨10, _⟩ => ⟨S2x256x2048, .f32⟩
  | .hbm, ⟨11, _⟩ => ⟨S2x256x2048, .f32⟩
  | .hbm, ⟨12, _⟩ => ⟨S2x256x2048, .f32⟩
  | .local _ .vmem, ⟨0, _⟩ => ⟨S1x128x2048, .f32⟩
  | .local _ .vmem, ⟨1, _⟩ => ⟨S1x128x2048, .f32⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S4x128x2048, .bf16⟩
  | .local _ .vmem, ⟨7, _⟩ => ⟨S4x128x2048, .bf16⟩
  | .local _ .vmem, ⟨8, _⟩ => ⟨S4x128x2048, .bf16⟩
  | .local _ .vmem, ⟨9, _⟩ => ⟨S4x128x2048, .bf16⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | .local _ .vmem, ⟨16, _⟩ => ⟨S1x128x2048, .f32⟩
  | .local _ .vmem, ⟨17, _⟩ => ⟨S1x128x2048, .f32⟩
  | .local _ .smem, ⟨0, _⟩ => ⟨S1, .i32⟩
  | _, _ => ⟨S2x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FirstoRefIdeal.lean ====
abbrev S1 : Shape := ⟨1, ![1]⟩
abbrev S2x256x2048 : Shape := ⟨3, ![2, 256, 2048]⟩
abbrev S4x256x2048 : Shape := ⟨3, ![4, 256, 2048]⟩
abbrev S1x256x2048 : Shape := ⟨3, ![1, 256, 2048]⟩
abbrev S256x2048 : Shape := ⟨2, ![256, 2048]⟩
abbrev S4 : Shape := ⟨1, ![4]⟩
abbrev S4x1x1 : Shape := ⟨3, ![4, 1, 1]⟩
abbrev S1x1x1 : Shape := ⟨3, ![1, 1, 1]⟩
abbrev S_ : Shape := ⟨0, ![]⟩

abbrev nBuf : Space → Nat
  | .hbm => 79
  | .vmem => 0
  | .smem => 0
  | _ => 0

abbrev bufTy : (tb : Table) → Fin (tcTables nBuf tb) → BufTy
  | .hbm, ⟨0, _⟩ => ⟨S1, .i32⟩
  | .hbm, ⟨1, _⟩ => ⟨S2x256x2048, .f32⟩
  | .hbm, ⟨2, _⟩ => ⟨S2x256x2048, .f32⟩
  | .hbm, ⟨3, _⟩ => ⟨S2x256x2048, .f32⟩
  | .hbm, ⟨4, _⟩ => ⟨S4x256x2048, .bf16⟩
  | .hbm, ⟨5, _⟩ => ⟨S4x256x2048, .bf16⟩
  | .hbm, ⟨6, _⟩ => ⟨S2x256x2048, .f32⟩
  | .hbm, ⟨7, _⟩ => ⟨S2x256x2048, .f32⟩
  | .hbm, ⟨8, _⟩ => ⟨S2x256x2048, .f32⟩
  | .hbm, ⟨9, _⟩ => ⟨S2x256x2048, .f32⟩
  | .hbm, ⟨10, _⟩ => ⟨S1x256x2048, .f32⟩
  | .hbm, ⟨11, _⟩ => ⟨S256x2048, .f32⟩
  | .hbm, ⟨12, _⟩ => ⟨S1x256x2048, .f32⟩
  | .hbm, ⟨13, _⟩ => ⟨S256x2048, .f32⟩
  | .hbm, ⟨14, _⟩ => ⟨S1x256x2048, .f32⟩
  | .hbm, ⟨15, _⟩ => ⟨S256x2048, .f32⟩
  | .hbm, ⟨16, _⟩ => ⟨S4, .i32⟩
  | .hbm, ⟨17, _⟩ => ⟨S4x1x1, .i32⟩
  | .hbm, ⟨18, _⟩ => ⟨S1x1x1, .i32⟩
  | .hbm, ⟨19, _⟩ => ⟨S4x1x1, .i32⟩
  | .hbm, ⟨20, _⟩ => ⟨S4x1x1, .i1⟩
  | .hbm, ⟨21, _⟩ => ⟨S4x256x2048, .i1⟩
  | .hbm, ⟨22, _⟩ => ⟨S4x256x2048, .bf16⟩
  | .hbm, ⟨23, _⟩ => ⟨S4x256x2048, .f32⟩
  | .hbm, ⟨24, _⟩ => ⟨S_, .f32⟩
  | .hbm, ⟨25, _⟩ => ⟨S256x2048, .f32⟩
  | .hbm, ⟨26, _⟩ => ⟨S_, .f32⟩
  | .hbm, ⟨27, _⟩ => ⟨S256x2048, .f32⟩
  | .hbm, ⟨28, _⟩ => ⟨S256x2048, .f32⟩
  | .hbm, ⟨29, _⟩ => ⟨S_, .f32⟩
  | .hbm, ⟨30, _⟩ => ⟨S256x2048, .f32⟩
  | .hbm, ⟨31, _⟩ => ⟨S256x2048, .f32⟩
  | .hbm, ⟨32, _⟩ => ⟨S256x2048, .f32⟩
  | .hbm, ⟨33, _⟩ => ⟨S_, .f32⟩
  | .hbm, ⟨34, _⟩ => ⟨S256x2048, .f32⟩
  | .hbm, ⟨35, _⟩ => ⟨S256x2048, .f32⟩
  | .hbm, ⟨36, _⟩ => ⟨S256x2048, .f32⟩
  | .hbm, ⟨37, _⟩ => ⟨S_, .f32⟩
  | .hbm, ⟨38, _⟩ => ⟨S256x2048, .f32⟩
  | .hbm, ⟨39, _⟩ => ⟨S256x2048, .f32⟩
  | .hbm, ⟨40, _⟩ => ⟨S256x2048, .f32⟩
  | .hbm, ⟨41, _⟩ => ⟨S_, .f32⟩
  | .hbm, ⟨42, _⟩ => ⟨S256x2048, .f32⟩
  | .hbm, ⟨43, _⟩ => ⟨S256x2048, .f32⟩
  | .hbm, ⟨44, _⟩ => ⟨S_, .f32⟩
  | .hbm, ⟨45, _⟩ => ⟨S256x2048, .f32⟩
  | .hbm, ⟨46, _⟩ => ⟨S256x2048, .f32⟩
  | .hbm, ⟨47, _⟩ => ⟨S256x2048, .f32⟩
  | .hbm, ⟨48, _⟩ => ⟨S_, .f32⟩
  | .hbm, ⟨49, _⟩ => ⟨S256x2048, .f32⟩
  | .hbm, ⟨50, _⟩ => ⟨S256x2048, .f32⟩
  | .hbm, ⟨51, _⟩ => ⟨S256x2048, .f32⟩
  | .hbm, ⟨52, _⟩ => ⟨S_, .f32⟩
  | .hbm, ⟨53, _⟩ => ⟨S256x2048, .f32⟩
  | .hbm, ⟨54, _⟩ => ⟨S256x2048, .f32⟩
  | .hbm, ⟨55, _⟩ => ⟨S256x2048, .f32⟩
  | .hbm, ⟨56, _⟩ => ⟨S_, .f32⟩
  | .hbm, ⟨57, _⟩ => ⟨S256x2048, .f32⟩
  | .hbm, ⟨58, _⟩ => ⟨S256x2048, .f32⟩
  | .hbm, ⟨59, _⟩ => ⟨S1x256x2048, .f32⟩
  | .hbm, ⟨60, _⟩ => ⟨S256x2048, .f32⟩
  | .hbm, ⟨61, _⟩ => ⟨S1x256x2048, .f32⟩
  | .hbm, ⟨62, _⟩ => ⟨S1x256x2048, .f32⟩
  | .hbm, ⟨63, _⟩ => ⟨S2x256x2048, .f32⟩
  | .hbm, ⟨64, _⟩ => ⟨S1x256x2048, .f32⟩
  | .hbm, ⟨65, _⟩ => ⟨S256x2048, .f32⟩
  | .hbm, ⟨66, _⟩ => ⟨S1x256x2048, .f32⟩
  | .hbm, ⟨67, _⟩ => ⟨S1x256x2048, .f32⟩
  | .hbm, ⟨68, _⟩ => ⟨S2x256x2048, .f32⟩
  | .hbm, ⟨69, _⟩ => ⟨S1x256x2048, .f32⟩
  | .hbm, ⟨70, _⟩ => ⟨S256x2048, .f32⟩
  | .hbm, ⟨71, _⟩ => ⟨S1x256x2048, .f32⟩
  | .hbm, ⟨72, _⟩ => ⟨S1x256x2048, .f32⟩
  | .hbm, ⟨73, _⟩ => ⟨S2x256x2048, .f32⟩
  | .hbm, ⟨74, _⟩ => ⟨S1x256x2048, .f32⟩
  | .hbm, ⟨75, _⟩ => ⟨S256x2048, .f32⟩
  | .hbm, ⟨76, _⟩ => ⟨S1x256x2048, .f32⟩
  | .hbm, ⟨77, _⟩ => ⟨S1x256x2048, .f32⟩
  | .hbm, ⟨78, _⟩ => ⟨S2x256x2048, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call0_v0 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_cst_0 : Ref sig .tc := ⟨.hbm, 26, rfl⟩
abbrev main_v14 : Ref sig .tc := ⟨.hbm, 27, rfl⟩
abbrev main_v15 : Ref sig .tc := ⟨.hbm, 28, rfl⟩
abbrev main_cst_1 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_4 : Ref sig .tc := ⟨.hbm, 41, rfl⟩
abbrev main_v25 : Ref sig .tc := ⟨.hbm, 42, rfl⟩
abbrev main_v26 : Ref sig .tc := ⟨.hbm, 43, rfl⟩
abbrev main_cst_5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_6 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_8 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩

abbrev nD : Nat := 1
abbrev τ : Topo := Topo.v7x

variable {F : FTy → Type} [FloatOps F]
-- ==== Lasti.lean ====
abbrev S1 : Shape := ⟨1, ![1]⟩
abbrev S2x1472x2048 : Shape := ⟨3, ![2, 1472, 2048]⟩
abbrev S4x1472x2048 : Shape := ⟨3, ![4, 1472, 2048]⟩
abbrev S1x64x2048 : Shape := ⟨3, ![1, 64, 2048]⟩
abbrev S4x64x2048 : Shape := ⟨3, ![4, 64, 2048]⟩
abbrev S64x2048 : Shape := ⟨2, ![64, 2048]⟩
abbrev S1x1472x2048 : Shape := ⟨3, ![1, 1472, 2048]⟩
abbrev S1472x2048 : Shape := ⟨2, ![1472, 2048]⟩

abbrev nBuf : Space → Nat
  | .hbm => 17
  | .vmem => 18
  | .smem => 1
  | _ => 0

abbrev bufTy : (tb : Table) → Fin (tcTables nBuf tb) → BufTy
  | .hbm, ⟨0, _⟩ => ⟨S2x1472x2048, .f32⟩
  | .hbm, ⟨1, _⟩ => ⟨S2x1472x2048, .f32⟩
  | .hbm, ⟨2, _⟩ => ⟨S2x1472x2048, .f32⟩
  | .hbm, ⟨3, _⟩ => ⟨S4x1472x2048, .bf16⟩
  | .hbm, ⟨4, _⟩ => ⟨S4x1472x2048, .bf16⟩
  | .hbm, ⟨5, _⟩ => ⟨S2x1472x2048, .f32⟩
  | .hbm, ⟨6, _⟩ => ⟨S2x1472x2048, .f32⟩
  | .hbm, ⟨7, _⟩ => ⟨S2x1472x2048, .f32⟩
  | .hbm, ⟨8, _⟩ => ⟨S2x1472x2048, .f32⟩
  | .hbm, ⟨9, _⟩ => ⟨S1x1472x2048, .f32⟩
  | .hbm, ⟨10, _⟩ => ⟨S1472x2048, .f32⟩
  | .hbm, ⟨11, _⟩ => ⟨S1x1472x2048, .f32⟩
  | .hbm, ⟨12, _⟩ => ⟨S1472x2048, .f32⟩
  | .hbm, ⟨13, _⟩ => ⟨S1x1472x2048, .f32⟩
  | .hbm, ⟨14, _⟩ => ⟨S1472x2048, .f32⟩
  | .hbm, ⟨15, _⟩ => ⟨S1x1472x2048, .f32⟩
  | .hbm, ⟨16, _⟩ => ⟨S1472x2048, .f32⟩
  | .local _ .vmem, ⟨0, _⟩ => ⟨S1x64x2048, .f32⟩
  | .local _ .vmem, ⟨1, _⟩ => ⟨S1x64x2048, .f32⟩
  | .local _ .vmem, ⟨2, _⟩ => ⟨S1x64x2048, .f32⟩
  | .local _ .vmem, ⟨3, _⟩ => ⟨S1x64x2048, .f32⟩
  | .local _ .vmem, ⟨4, _⟩ => ⟨S1x64x2048, .f32⟩
  | .local _ .vmem, ⟨5, _⟩ => ⟨S1x64x2048, .f32⟩
  | .local _ .vmem, ⟨6, _⟩ => ⟨S4x64x2048, .bf16⟩
  | .local _ .vmem, ⟨7, _⟩ => ⟨S4x64x2048, .bf16⟩
  | .local _ .vmem, ⟨8, _⟩ => ⟨S4x64x2048, .bf16⟩
  | .local _ .vmem, ⟨9, _⟩ => ⟨S4x64x2048, .bf16⟩
  | .local _ .vmem, ⟨10, _⟩ => ⟨S1x64x2048, .f32⟩
  | .local _ .vmem, ⟨11, _⟩ => ⟨S1x64x2048, .f32⟩
  | .local _ .vmem, ⟨12, _⟩ => ⟨S1x64x2048, .f32⟩
  | .local _ .vmem, ⟨13, _⟩ => ⟨S1x64x2048, .f32⟩
  | .local _ .vmem, ⟨14, _⟩ => ⟨S1x64x2048, .f32⟩
  | .local _ .vmem, ⟨15, _⟩ => ⟨S1x64x2048, .f32⟩
  | .local _ .vmem, ⟨16, _⟩ => ⟨S1x64x2048, .f32⟩
  | .local _ .vmem, ⟨17, _⟩ => ⟨S1x64x2048, .f32⟩
  | .local _ .smem, ⟨0, _⟩ => ⟨S1, .i32⟩
  | _, _ => ⟨S2x1472x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![23], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S1x64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x64x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x64x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x64x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== LastiRefIdeal.lean ====
abbrev S1 : Shape := ⟨1, ![1]⟩
abbrev S2x1472x2048 : Shape := ⟨3, ![2, 1472, 2048]⟩
abbrev S4x1472x2048 : Shape := ⟨3, ![4, 1472, 2048]⟩
abbrev S1x1472x2048 : Shape := ⟨3, ![1, 1472, 2048]⟩
abbrev S1472x2048 : Shape := ⟨2, ![1472, 2048]⟩
abbrev S4 : Shape := ⟨1, ![4]⟩
abbrev S4x1x1 : Shape := ⟨3, ![4, 1, 1]⟩
abbrev S1x1x1 : Shape := ⟨3, ![1, 1, 1]⟩
abbrev S_ : Shape := ⟨0, ![]⟩

abbrev nBuf : Space → Nat
  | .hbm => 55
  | .vmem => 0
  | .smem => 0
  | _ => 0

abbrev bufTy : (tb : Table) → Fin (tcTables nBuf tb) → BufTy
  | .hbm, ⟨0, _⟩ => ⟨S1, .i32⟩
  | .hbm, ⟨1, _⟩ => ⟨S2x1472x2048, .f32⟩
  | .hbm, ⟨2, _⟩ => ⟨S2x1472x2048, .f32⟩
  | .hbm, ⟨3, _⟩ => ⟨S2x1472x2048, .f32⟩
  | .hbm, ⟨4, _⟩ => ⟨S4x1472x2048, .bf16⟩
  | .hbm, ⟨5, _⟩ => ⟨S4x1472x2048, .bf16⟩
  | .hbm, ⟨6, _⟩ => ⟨S1x1472x2048, .f32⟩
  | .hbm, ⟨7, _⟩ => ⟨S1472x2048, .f32⟩
  | .hbm, ⟨8, _⟩ => ⟨S1x1472x2048, .f32⟩
  | .hbm, ⟨9, _⟩ => ⟨S1472x2048, .f32⟩
  | .hbm, ⟨10, _⟩ => ⟨S1x1472x2048, .f32⟩
  | .hbm, ⟨11, _⟩ => ⟨S1472x2048, .f32⟩
  | .hbm, ⟨12, _⟩ => ⟨S4, .i32⟩
  | .hbm, ⟨13, _⟩ => ⟨S4x1x1, .i32⟩
  | .hbm, ⟨14, _⟩ => ⟨S1x1x1, .i32⟩
  | .hbm, ⟨15, _⟩ => ⟨S4x1x1, .i32⟩
  | .hbm, ⟨16, _⟩ => ⟨S4x1x1, .i1⟩
  | .hbm, ⟨17, _⟩ => ⟨S4x1472x2048, .i1⟩
  | .hbm, ⟨18, _⟩ => ⟨S4x1472x2048, .bf16⟩
  | .hbm, ⟨19, _⟩ => ⟨S4x1472x2048, .f32⟩
  | .hbm, ⟨20, _⟩ => ⟨S_, .f32⟩
  | .hbm, ⟨21, _⟩ => ⟨S1472x2048, .f32⟩
  | .hbm, ⟨22, _⟩ => ⟨S_, .f32⟩
  | .hbm, ⟨23, _⟩ => ⟨S1472x2048, .f32⟩
  | .hbm, ⟨24, _⟩ => ⟨S1472x2048, .f32⟩
  | .hbm, ⟨25, _⟩ => ⟨S_, .f32⟩
  | .hbm, ⟨26, _⟩ => ⟨S1472x2048, .f32⟩
  | .hbm, ⟨27, _⟩ => ⟨S1472x2048, .f32⟩
  | .hbm, ⟨28, _⟩ => ⟨S1472x2048, .f32⟩
  | .hbm, ⟨29, _⟩ => ⟨S_, .f32⟩
  | .hbm, ⟨30, _⟩ => ⟨S1472x2048, .f32⟩
  | .hbm, ⟨31, _⟩ => ⟨S1472x2048, .f32⟩
  | .hbm, ⟨32, _⟩ => ⟨S1472x2048, .f32⟩
  | .hbm, ⟨33, _⟩ => ⟨S_, .f32⟩
  | .hbm, ⟨34, _⟩ => ⟨S1472x2048, .f32⟩
  | .hbm, ⟨35, _⟩ => ⟨S1472x2048, .f32⟩
  | .hbm, ⟨36, _⟩ => ⟨S1472x2048, .f32⟩
  | .hbm, ⟨37, _⟩ => ⟨S_, .f32⟩
  | .hbm, ⟨38, _⟩ => ⟨S1472x2048, .f32⟩
  | .hbm, ⟨39, _⟩ => ⟨S1472x2048, .f32⟩
  | .hbm, ⟨40, _⟩ => ⟨S_, .f32⟩
  | .hbm, ⟨41, _⟩ => ⟨S1472x2048, .f32⟩
  | .hbm, ⟨42, _⟩ => ⟨S1472x2048, .f32⟩
  | .hbm, ⟨43, _⟩ => ⟨S1472x2048, .f32⟩
  | .hbm, ⟨44, _⟩ => ⟨S_, .f32⟩
  | .hbm, ⟨45, _⟩ => ⟨S1472x2048, .f32⟩
  | .hbm, ⟨46, _⟩ => ⟨S1472x2048, .f32⟩
  | .hbm, ⟨47, _⟩ => ⟨S1472x2048, .f32⟩
  | .hbm, ⟨48, _⟩ => ⟨S_, .f32⟩
  | .hbm, ⟨49, _⟩ => ⟨S1472x2048, .f32⟩
  | .hbm, ⟨50, _⟩ => ⟨S1472x2048, .f32⟩
  | .hbm, ⟨51, _⟩ => ⟨S1472x2048, .f32⟩
  | .hbm, ⟨52, _⟩ => ⟨S_, .f32⟩
  | .hbm, ⟨53, _⟩ => ⟨S1472x2048, .f32⟩
  | .hbm, ⟨54, _⟩ => ⟨S1472x2048, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_call0_v0 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_8 : Ref sig .tc := ⟨.hbm, 52, rfl⟩
abbrev main_v36 : Ref sig .tc := ⟨.hbm, 53, rfl⟩
abbrev main_v37 : Ref sig .tc := ⟨.hbm, 54, rfl⟩

abbrev nD : Nat := 1
abbrev τ : Topo := Topo.v7x

variable {F : FTy → Type} [FloatOps F]
-- ==== Firsti.lean ====
abbrev S1 : Shape := ⟨1, ![1]⟩
abbrev S2x1472x2048 : Shape := ⟨3, ![2, 1472, 2048]⟩
abbrev S4x1472x2048 : Shape := ⟨3, ![4, 1472, 2048]⟩
abbrev S1x64x2048 : Shape := ⟨3, ![1, 64, 2048]⟩
abbrev S4x64x2048 : Shape := ⟨3, ![4, 64, 2048]⟩
abbrev S64x2048 : Shape := ⟨2, ![64, 2048]⟩

abbrev nBuf : Space → Nat
  | .hbm => 13
  | .vmem => 18
  | .smem => 1
  | _ => 0

abbrev bufTy : (tb : Table) → Fin (tcTables nBuf tb) → BufTy
  | .hbm, ⟨0, _⟩ => ⟨S2x1472x2048, .f32⟩
  | .hbm, ⟨1, _⟩ => ⟨S2x1472x2048, .f32⟩
  | .hbm, ⟨2, _⟩ => ⟨S2x1472x2048, .f32⟩
  | .hbm, ⟨3, _⟩ => ⟨S4x1472x2048, .bf16⟩
  | .hbm, ⟨4, _⟩ => ⟨S4x1472x2048, .bf16⟩
  | .hbm, ⟨5, _⟩ => ⟨S2x1472x2048, .f32⟩
  | .hbm, ⟨6, _⟩ => ⟨S2x1472x2048, .f32⟩
  | .hbm, ⟨7, _⟩ => ⟨S2x1472x2048, .f32⟩
  | .hbm, ⟨8, _⟩ => ⟨S2x1472x2048, .f32⟩
  | .hbm, ⟨9, _⟩ => ⟨S2x1472x2048, .f32⟩
  | .hbm, ⟨10, _⟩ => ⟨S2x1472x2048, .f32⟩
  | .hbm, ⟨11, _⟩ => ⟨S2x1472x2048, .f32⟩
  | .hbm, ⟨12, _⟩ => ⟨S2x1472x2048, .f32⟩
  | .local _ .vmem, ⟨0, _⟩ => ⟨S1x64x2048, .f32⟩
  | .local _ .vmem, ⟨1, _⟩ => ⟨S1x64x2048, .f32⟩
  | .local _ .vmem, ⟨2, _⟩ => ⟨S1x64x2048, .f32⟩
  | .local _ .vmem, ⟨3, _⟩ => ⟨S1x64x2048, .f32⟩
  | .local _ .vmem, ⟨4, _⟩ => ⟨S1x64x2048, .f32⟩
  | .local _ .vmem, ⟨5, _⟩ => ⟨S1x64x2048, .f32⟩
  | .local _ .vmem, ⟨6, _⟩ => ⟨S4x64x2048, .bf16⟩
  | .local _ .vmem, ⟨7, _⟩ => ⟨S4x64x2048, .bf16⟩
  | .local _ .vmem, ⟨8, _⟩ => ⟨S4x64x2048, .bf16⟩
  | .local _ .vmem, ⟨9, _⟩ => ⟨S4x64x2048, .bf16⟩
  | .local _ .vmem, ⟨10, _⟩ => ⟨S1x64x2048, .f32⟩
  | .local _ .vmem, ⟨11, _⟩ => ⟨S1x64x2048, .f32⟩
  | .local _ .vmem, ⟨12, _⟩ => ⟨S1x64x2048, .f32⟩
  | .local _ .vmem, ⟨13, _⟩ => ⟨S1x64x2048, .f32⟩
  | .local _ .vmem, ⟨14, _⟩ => ⟨S1x64x2048, .f32⟩
  | .local _ .vmem, ⟨15, _⟩ => ⟨S1x64x2048, .f32⟩
  | .local _ .vmem, ⟨16, _⟩ => ⟨S1x64x2048, .f32⟩
  | .local _ .vmem, ⟨17, _⟩ => ⟨S1x64x2048, .f32⟩
  | .local _ .smem, ⟨0, _⟩ => ⟨S1, .i32⟩
  | _, _ => ⟨S2x1472x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![23], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x64x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x64x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x64x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FirstiRefIdeal.lean ====
abbrev S1 : Shape := ⟨1, ![1]⟩
abbrev S2x1472x2048 : Shape := ⟨3, ![2, 1472, 2048]⟩
abbrev S4x1472x2048 : Shape := ⟨3, ![4, 1472, 2048]⟩
abbrev S1x1472x2048 : Shape := ⟨3, ![1, 1472, 2048]⟩
abbrev S1472x2048 : Shape := ⟨2, ![1472, 2048]⟩
abbrev S4 : Shape := ⟨1, ![4]⟩
abbrev S4x1x1 : Shape := ⟨3, ![4, 1, 1]⟩
abbrev S1x1x1 : Shape := ⟨3, ![1, 1, 1]⟩
abbrev S_ : Shape := ⟨0, ![]⟩

abbrev nBuf : Space → Nat
  | .hbm => 79
  | .vmem => 0
  | .smem => 0
  | _ => 0

abbrev bufTy : (tb : Table) → Fin (tcTables nBuf tb) → BufTy
  | .hbm, ⟨0, _⟩ => ⟨S1, .i32⟩
  | .hbm, ⟨1, _⟩ => ⟨S2x1472x2048, .f32⟩
  | .hbm, ⟨2, _⟩ => ⟨S2x1472x2048, .f32⟩
  | .hbm, ⟨3, _⟩ => ⟨S2x1472x2048, .f32⟩
  | .hbm, ⟨4, _⟩ => ⟨S4x1472x2048, .bf16⟩
  | .hbm, ⟨5, _⟩ => ⟨S4x1472x2048, .bf16⟩
  | .hbm, ⟨6, _⟩ => ⟨S2x1472x2048, .f32⟩
  | .hbm, ⟨7, _⟩ => ⟨S2x1472x2048, .f32⟩
  | .hbm, ⟨8, _⟩ => ⟨S2x1472x2048, .f32⟩
  | .hbm, ⟨9, _⟩ => ⟨S2x1472x2048, .f32⟩
  | .hbm, ⟨10, _⟩ => ⟨S1x1472x2048, .f32⟩
  | .hbm, ⟨11, _⟩ => ⟨S1472x2048, .f32⟩
  | .hbm, ⟨12, _⟩ => ⟨S1x1472x2048, .f32⟩
  | .hbm, ⟨13, _⟩ => ⟨S1472x2048, .f32⟩
  | .hbm, ⟨14, _⟩ => ⟨S1x1472x2048, .f32⟩
  | .hbm, ⟨15, _⟩ => ⟨S1472x2048, .f32⟩
  | .hbm, ⟨16, _⟩ => ⟨S4, .i32⟩
  | .hbm, ⟨17, _⟩ => ⟨S4x1x1, .i32⟩
  | .hbm, ⟨18, _⟩ => ⟨S1x1x1, .i32⟩
  | .hbm, ⟨19, _⟩ => ⟨S4x1x1, .i32⟩
  | .hbm, ⟨20, _⟩ => ⟨S4x1x1, .i1⟩
  | .hbm, ⟨21, _⟩ => ⟨S4x1472x2048, .i1⟩
  | .hbm, ⟨22, _⟩ => ⟨S4x1472x2048, .bf16⟩
  | .hbm, ⟨23, _⟩ => ⟨S4x1472x2048, .f32⟩
  | .hbm, ⟨24, _⟩ => ⟨S_, .f32⟩
  | .hbm, ⟨25, _⟩ => ⟨S1472x2048, .f32⟩
  | .hbm, ⟨26, _⟩ => ⟨S_, .f32⟩
  | .hbm, ⟨27, _⟩ => ⟨S1472x2048, .f32⟩
  | .hbm, ⟨28, _⟩ => ⟨S1472x2048, .f32⟩
  | .hbm, ⟨29, _⟩ => ⟨S_, .f32⟩
  | .hbm, ⟨30, _⟩ => ⟨S1472x2048, .f32⟩
  | .hbm, ⟨31, _⟩ => ⟨S1472x2048, .f32⟩
  | .hbm, ⟨32, _⟩ => ⟨S1472x2048, .f32⟩
  | .hbm, ⟨33, _⟩ => ⟨S_, .f32⟩
  | .hbm, ⟨34, _⟩ => ⟨S1472x2048, .f32⟩
  | .hbm, ⟨35, _⟩ => ⟨S1472x2048, .f32⟩
  | .hbm, ⟨36, _⟩ => ⟨S1472x2048, .f32⟩
  | .hbm, ⟨37, _⟩ => ⟨S_, .f32⟩
  | .hbm, ⟨38, _⟩ => ⟨S1472x2048, .f32⟩
  | .hbm, ⟨39, _⟩ => ⟨S1472x2048, .f32⟩
  | .hbm, ⟨40, _⟩ => ⟨S1472x2048, .f32⟩
  | .hbm, ⟨41, _⟩ => ⟨S_, .f32⟩
  | .hbm, ⟨42, _⟩ => ⟨S1472x2048, .f32⟩
  | .hbm, ⟨43, _⟩ => ⟨S1472x2048, .f32⟩
  | .hbm, ⟨44, _⟩ => ⟨S_, .f32⟩
  | .hbm, ⟨45, _⟩ => ⟨S1472x2048, .f32⟩
  | .hbm, ⟨46, _⟩ => ⟨S1472x2048, .f32⟩
  | .hbm, ⟨47, _⟩ => ⟨S1472x2048, .f32⟩
  | .hbm, ⟨48, _⟩ => ⟨S_, .f32⟩
  | .hbm, ⟨49, _⟩ => ⟨S1472x2048, .f32⟩
  | .hbm, ⟨50, _⟩ => ⟨S1472x2048, .f32⟩
  | .hbm, ⟨51, _⟩ => ⟨S1472x2048, .f32⟩
  | .hbm, ⟨52, _⟩ => ⟨S_, .f32⟩
  | .hbm, ⟨53, _⟩ => ⟨S1472x2048, .f32⟩
  | .hbm, ⟨54, _⟩ => ⟨S1472x2048, .f32⟩
  | .hbm, ⟨55, _⟩ => ⟨S1472x2048, .f32⟩
  | .hbm, ⟨56, _⟩ => ⟨S_, .f32⟩
  | .hbm, ⟨57, _⟩ => ⟨S1472x2048, .f32⟩
  | .hbm, ⟨58, _⟩ => ⟨S1472x2048, .f32⟩
  | .hbm, ⟨59, _⟩ => ⟨S1x1472x2048, .f32⟩
  | .hbm, ⟨60, _⟩ => ⟨S1472x2048, .f32⟩
  | .hbm, ⟨61, _⟩ => ⟨S1x1472x2048, .f32⟩
  | .hbm, ⟨62, _⟩ => ⟨S1x1472x2048, .f32⟩
  | .hbm, ⟨63, _⟩ => ⟨S2x1472x2048, .f32⟩
  | .hbm, ⟨64, _⟩ => ⟨S1x1472x2048, .f32⟩
  | .hbm, ⟨65, _⟩ => ⟨S1472x2048, .f32⟩
  | .hbm, ⟨66, _⟩ => ⟨S1x1472x2048, .f32⟩
  | .hbm, ⟨67, _⟩ => ⟨S1x1472x2048, .f32⟩
  | .hbm, ⟨68, _⟩ => ⟨S2x1472x2048, .f32⟩
  | .hbm, ⟨69, _⟩ => ⟨S1x1472x2048, .f32⟩
  | .hbm, ⟨70, _⟩ => ⟨S1472x2048, .f32⟩
  | .hbm, ⟨71, _⟩ => ⟨S1x1472x2048, .f32⟩
  | .hbm, ⟨72, _⟩ => ⟨S1x1472x2048, .f32⟩
  | .hbm, ⟨73, _⟩ => ⟨S2x1472x2048, .f32⟩
  | .hbm, ⟨74, _⟩ => ⟨S1x1472x2048, .f32⟩
  | .hbm, ⟨75, _⟩ => ⟨S1472x2048, .f32⟩
  | .hbm, ⟨76, _⟩ => ⟨S1x1472x2048, .f32⟩
  | .hbm, ⟨77, _⟩ => ⟨S1x1472x2048, .f32⟩
  | .hbm, ⟨78, _⟩ => ⟨S2x1472x2048, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call0_v0 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_cst_0 : Ref sig .tc := ⟨.hbm, 26, rfl⟩
abbrev main_v14 : Ref sig .tc := ⟨.hbm, 27, rfl⟩
abbrev main_v15 : Ref sig .tc := ⟨.hbm, 28, rfl⟩
abbrev main_cst_1 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_4 : Ref sig .tc := ⟨.hbm, 41, rfl⟩
abbrev main_v25 : Ref sig .tc := ⟨.hbm, 42, rfl⟩
abbrev main_v26 : Ref sig .tc := ⟨.hbm, 43, rfl⟩
abbrev main_cst_5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_6 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_8 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩

abbrev nD : Nat := 1
abbrev τ : Topo := Topo.v7x

variable {F : FTy → Type} [FloatOps F]
-- ==== Sums.lean ====
abbrev S8x2840x128 : Shape := ⟨3, ![8, 2840, 128]⟩
abbrev S2840x128 : Shape := ⟨2, ![2840, 128]⟩
abbrev S1x2840x128 : Shape := ⟨3, ![1, 2840, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x2840x128, .f32⟩
  | .hbm, ⟨1, _⟩ => ⟨S2840x128, .f32⟩
  | .local _ .vmem, ⟨0, _⟩ => ⟨S8x2840x128, .f32⟩
  | .local _ .vmem, ⟨1, _⟩ => ⟨S2840x128, .f32⟩
  | _, _ => ⟨S8x2840x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x2840x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2840x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumsRefIdeal.lean ====
abbrev S8x2840x128 : Shape := ⟨3, ![8, 2840, 128]⟩
abbrev S_ : Shape := ⟨0, ![]⟩
abbrev S2840x128 : Shape := ⟨2, ![2840, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x2840x128, .f32⟩
  | .hbm, ⟨1, _⟩ => ⟨S_, .f32⟩
  | .hbm, ⟨2, _⟩ => ⟨S2840x128, .f32⟩
  | _, _ => ⟨S8x2840x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Rsum.lean ====
abbrev S4x256x1024 : Shape := ⟨3, ![4, 256, 1024]⟩
abbrev S1 : Shape := ⟨1, ![1]⟩
abbrev S256x1024 : Shape := ⟨2, ![256, 1024]⟩
abbrev S1x256x1024 : Shape := ⟨3, ![1, 256, 1024]⟩

abbrev nBuf : Space → Nat
  | .hbm => 3
  | .vmem => 3
  | .smem => 1
  | _ => 0

abbrev bufTy : (tb : Table) → Fin (tcTables nBuf tb) → BufTy
  | .hbm, ⟨0, _⟩ => ⟨S4x256x1024, .bf16⟩
  | .hbm, ⟨1, _⟩ => ⟨S4x256x1024, .bf16⟩
  | .hbm, ⟨2, _⟩ => ⟨S256x1024, .f32⟩
  | .local _ .vmem, ⟨0, _⟩ => ⟨S4x256x1024, .bf16⟩
  | .local _ .vmem, ⟨1, _⟩ => ⟨S4x256x1024, .bf16⟩
  | .local _ .vmem, ⟨2, _⟩ => ⟨S256x1024, .f32⟩
  | .local _ .smem, ⟨0, _⟩ => ⟨S1, .i32⟩
  | _, _ => ⟨S4x256x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== RsumRefIdeal.lean ====
abbrev S4x256x1024 : Shape := ⟨3, ![4, 256, 1024]⟩
abbrev S1 : Shape := ⟨1, ![1]⟩
abbrev S4 : Shape := ⟨1, ![4]⟩
abbrev S4x1x1 : Shape := ⟨3, ![4, 1, 1]⟩
abbrev S1x1x1 : Shape := ⟨3, ![1, 1, 1]⟩
abbrev S_ : Shape := ⟨0, ![]⟩
abbrev S256x1024 : Shape := ⟨2, ![256, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4x256x1024, .bf16⟩
  | .hbm, ⟨1, _⟩ => ⟨S4x256x1024, .bf16⟩
  | .hbm, ⟨2, _⟩ => ⟨S1, .i32⟩
  | .hbm, ⟨3, _⟩ => ⟨S4, .i32⟩
  | .hbm, ⟨4, _⟩ => ⟨S4x1x1, .i32⟩
  | .hbm, ⟨5, _⟩ => ⟨S1x1x1, .i32⟩
  | .hbm, ⟨6, _⟩ => ⟨S4x1x1, .i32⟩
  | .hbm, ⟨7, _⟩ => ⟨S4x1x1, .i1⟩
  | .hbm, ⟨8, _⟩ => ⟨S4x256x1024, .i1⟩
  | .hbm, ⟨9, _⟩ => ⟨S4x256x1024, .bf16⟩
  | .hbm, ⟨10, _⟩ => ⟨S4x256x1024, .f32⟩
  | .hbm, ⟨11, _⟩ => ⟨S_, .f32⟩
  | .hbm, ⟨12, _⟩ => ⟨S256x1024, .f32⟩
  | _, _ => ⟨S4x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Proof.Softmax.lean ====
/- One row of an attention's softmax and of its derivative, over the extended reals. The kernel writes the row with `exp2`
   and a reciprocal, the reference with `exp` and divisions; over finite scores the two rows are the same, and so are the
   two rows of derivatives, whatever the incoming row is. -/
module

public import Idealize.ShloMosaic.Lib.Pointwise
public import Idealize.ShloMosaic.Lib.IdealHost

@[expose] public section

noncomputable section

namespace Cert.Softmax

open Idealize.ShloMosaic

variable {n : ℕ}

/-- The scores' factor: the f32 number nearest `128 ^ (-1/2)`. -/
abbrev cs : ℝ := 11863283 / 134217728

/-- The factor with `log₂ e` folded in. -/
abbrev cs2 : ℝ := 11863283 / 134217728 * (Real.log 2)⁻¹

/-- The pattern of the scores' factor denotes it. -/
theorem ofBits_cs : Ideal.ofBits .f32 0x3DB504F3#32 = ((cs : ℝ) : EReal) := by
  simp [Ideal.ofBits, Ideal.ieee, -EReal.coe_mul]
  norm_num

/-- The pattern of minus infinity denotes it. -/
theorem ofBits_neg_inf : Ideal.ofBits .f32 0xFF800000#32 = (⊥ : EReal) := by
  simp [Ideal.ofBits, Ideal.ieee]

/-- The kernel's row of exponentials. -/
def kexp (s : Fin n → EReal) (j : Fin n) : EReal :=
  Ideal.exp2 (s j * (cs2 : ℝ) - Finset.univ.fold max ⊥ (fun x => s x * (cs2 : ℝ)))

/-- The kernel's row of probabilities. -/
def kprob (s : Fin n → EReal) (j : Fin n) : EReal := kexp s j * Ideal.div 1 (∑ x, kexp s x)

/-- The kernel's row of derivatives of the scores. -/
def kds (s dp : Fin n → EReal) (j : Fin n) : EReal :=
  kprob s j * (dp j - ∑ x, dp x * kprob s x) * (cs : ℝ)

/-- The reference's row of exponentials. -/
def rexp (s : Fin n → EReal) (j : Fin n) : EReal :=
  Ideal.exp (s j * (cs : ℝ) - max ⊥ (Finset.univ.fold max ⊥ (fun x => s x * (cs : ℝ))))

/-- The reference's row of probabilities. -/
def rprob (s : Fin n → EReal) (j : Fin n) : EReal := Ideal.div (rexp s j) (∑ x, rexp s x)

/-- The reference's row of derivatives of the scores. -/
def rds (s dp : Fin n → EReal) (j : Fin n) : EReal :=
  (Ideal.div (dp j) (∑ x, rexp s x)
    + ∑ _x : Fin 1, -∑ x, dp x * Ideal.div 1 ((∑ y, rexp s y) * ∑ y, rexp s y) * rexp s x) * rexp s j * (cs : ℝ)

/-- A nonnegative real factor moves into a finite sum of extended reals. -/
theorem mul_sum_of_nonneg {ι : Type} (a : ℝ) (ha : 0 ≤ a) (t : Finset ι) (f : ι → EReal) :
    (a : EReal) * ∑ x ∈ t, f x = ∑ x ∈ t, (a : EReal) * f x := by
  classical
  induction t using Finset.induction_on with
  | empty => simp
  | insert x t hx ih =>
    rw [Finset.sum_insert hx, Finset.sum_insert hx,
      EReal.left_distrib_of_nonneg_of_ne_top (EReal.coe_nonneg.mpr ha) (EReal.coe_ne_top a), ih]

/-- The largest of a nonempty row of real numbers is one of them. -/
theorem fold_max_coe [NeZero n] (f : Fin n → ℝ) :
    ∃ i, Finset.univ.fold max ⊥ (fun x => (f x : EReal)) = (f i : EReal) ∧ ∀ x, f x ≤ f i := by
  obtain ⟨i, _, hi⟩ := Finset.exists_max_image Finset.univ f ⟨0, Finset.mem_univ _⟩
  refine ⟨i, le_antisymm ?_ ?_, fun x => hi x (Finset.mem_univ x)⟩
  · rw [Finset.fold_max_le]
    exact ⟨bot_le, fun x hx => EReal.coe_le_coe_iff.mpr (hi x hx)⟩
  · rw [Finset.le_fold_max]
    exact Or.inr ⟨i, Finset.mem_univ i, le_refl _⟩

/-- Over real scores both rows of exponentials are the same row of real numbers. -/
theorem exp_rows [NeZero n] (σ : Fin n → ℝ) : ∃ e : Fin n → ℝ, (∀ j, 0 < e j)
    ∧ (∀ j, kexp (fun x => (σ x : EReal)) j = (e j : EReal)) ∧ ∀ j, rexp (fun x => (σ x : EReal)) j = (e j : EReal) := by
  obtain ⟨i, hi, hmax⟩ := fold_max_coe fun x => σ x * cs
  obtain ⟨i', hi', hmax'⟩ := fold_max_coe fun x => σ x * cs2
  have hl : 0 < Real.log 2 := Real.log_pos (by norm_num)
  have hcs : (0 : ℝ) < cs := by norm_num
  have hcs2 : (0 : ℝ) < cs2 := mul_pos hcs (inv_pos.mpr hl)
  have hσ : σ i' = σ i :=
    le_antisymm (le_of_mul_le_mul_right (hmax i') hcs) (le_of_mul_le_mul_right (hmax' i) hcs2)
  refine ⟨fun j => Real.exp (σ j * cs - σ i * cs), fun j => Real.exp_pos _, fun j => ?_, fun j => ?_⟩
  · unfold kexp
    simp only [← EReal.coe_mul] at hi' ⊢
    rw [hi', hσ, ← EReal.coe_sub]
    show ((Real.rpow 2 (σ j * cs2 - σ i * cs2) : ℝ) : EReal) = _
    congr 1
    show (2 : ℝ) ^ (σ j * cs2 - σ i * cs2) = _
    rw [Real.rpow_def_of_pos (by norm_num)]
    congr 1
    simp only [cs, cs2]
    field_simp
  · unfold rexp
    simp only [← EReal.coe_mul] at hi ⊢
    rw [hi, max_eq_right bot_le, ← EReal.coe_sub]
    rfl

/-- Real sums are sums of extended reals. -/
theorem coe_sum {ι : Type} (t : Finset ι) (f : ι → ℝ) : ((∑ x ∈ t, f x : ℝ) : EReal) = ∑ x ∈ t, (f x : EReal) := by
  classical
  induction t using Finset.induction_on with
  | empty => simp
  | insert x t hx ih => rw [Finset.sum_insert hx, Finset.sum_insert hx, EReal.coe_add, ih]

/-- Division by a real number that is not zero is multiplication by its inverse. -/
theorem div_coe (x : EReal) (a : ℝ) (ha : a ≠ 0) : Ideal.div x (a : EReal) = x * ((a⁻¹ : ℝ) : EReal) := by
  rw [Ideal.div, if_neg (by simpa using ha), EReal.coe_inv]

/-- Over real scores the two rows of probabilities agree. -/
theorem prob_eq [NeZero n] (s : Fin n → EReal) (hs : ∀ j, s j ≠ ⊥ ∧ s j ≠ ⊤) (j : Fin n) : kprob s j = rprob s j := by
  obtain ⟨σ, rfl⟩ : ∃ σ : Fin n → ℝ, s = fun x => (σ x : EReal) :=
    ⟨fun x => (s x).toReal, funext fun x => (EReal.coe_toReal (hs x).2 (hs x).1).symm⟩
  obtain ⟨e, he, hk, hr⟩ := exp_rows σ
  have hL : 0 < ∑ x, e x := Finset.sum_pos (fun x _ => he x) ⟨0, Finset.mem_univ _⟩
  unfold kprob rprob
  simp only [hk, hr, ← coe_sum]
  rw [div_coe _ _ hL.ne', div_coe _ _ hL.ne', one_mul]

/-- Over real scores the two rows of derivatives agree, whatever the incoming row is. -/
theorem ds_eq [NeZero n] (s dp : Fin n → EReal) (hs : ∀ j, s j ≠ ⊥ ∧ s j ≠ ⊤) (j : Fin n) :
    kds s dp j = rds s dp j := by
  obtain ⟨σ, rfl⟩ : ∃ σ : Fin n → ℝ, s = fun x => (σ x : EReal) :=
    ⟨fun x => (s x).toReal, funext fun x => (EReal.coe_toReal (hs x).2 (hs x).1).symm⟩
  obtain ⟨e, he, hk, hr⟩ := exp_rows σ
  have hL : 0 < ∑ x, e x := Finset.sum_pos (fun x _ => he x) ⟨0, Finset.mem_univ _⟩
  unfold kds rds kprob
  simp only [hk, hr, ← coe_sum, ← EReal.coe_mul]
  generalize hLe : ∑ x, e x = L at hL
  have hi : 0 ≤ L⁻¹ := (inv_pos.mpr hL).le
  simp only [div_coe _ _ hL.ne', div_coe _ _ (mul_pos hL hL).ne', one_mul, Finset.univ_unique, Finset.sum_singleton]
  have hD : ∑ x, dp x * (((L * L)⁻¹ : ℝ) : EReal) * (e x : EReal)
      = ((L⁻¹ : ℝ) : EReal) * ∑ x, dp x * ((e x : EReal) * ((L⁻¹ : ℝ) : EReal)) := by
    rw [mul_sum_of_nonneg _ hi]
    refine Finset.sum_congr rfl fun x _ => ?_
    rw [mul_inv, EReal.coe_mul]
    ac_rfl
  rw [hD]
  generalize ∑ x, dp x * ((e x : EReal) * ((L⁻¹ : ℝ) : EReal)) = D
  have : dp j * ((L⁻¹ : ℝ) : EReal) + -(((L⁻¹ : ℝ) : EReal) * D) = ((L⁻¹ : ℝ) : EReal) * (dp j - D) := by
    rw [sub_eq_add_neg, EReal.left_distrib_of_nonneg_of_ne_top (EReal.coe_nonneg.mpr hi) (EReal.coe_ne_top _),
      mul_comm (dp j), mul_neg]
  rw [this]
  ac_rfl

end Cert.Softmax

end
-- ==== Proof.AttnPay.lean ====
/- The attention kernel's stored values at an index of a block: the four heads of a group run one text, so each head's
   row of probabilities and of derivatives is that of `Softmax`, over the head's slices of the blocks. -/
module

public import proofs.«01_k».proof.Proof.Gen.AttnIdeal.Skeleton
public import proofs.«01_k».proof.Proof.Softmax

@[expose] public section

set_option maxRecDepth 16384

noncomputable section

namespace Cert.AttnIdeal.Pay

open Cert.AttnIdeal Cert.AttnIdeal.Gen Idealize.ShloMosaic Idealize.ShloMosaic.TcCoe Idealize.SL.Sem

variable (k v : FVec Ideal S2048x128 .bf16) (q o : FVec Ideal S256x128 .bf16)

/-- The scores of a head's query rows. -/
def sc (r : Fin 256) (j : Fin 2048) : EReal := ∑ d : Fin 128, q (ix2 r d) * k (ix2 j d)

/-- The probabilities' derivatives of a head's query rows. -/
def dp (r : Fin 256) (j : Fin 2048) : EReal := ∑ d : Fin 128, o (ix2 r d) * v (ix2 j d)

/-- The named constant is the factor with `log₂ e` folded in. -/
theorem named_cs2 : (Named.named (F := Ideal) κ "scale_log2e" (φ := .f32) 0x3E0293EE#32 : EReal) = ((Softmax.cs2 : ℝ) : EReal) :=
  IdealRules.named_const.ideal_named_scalar _ _ _ _ rfl

/-- A head's probabilities. -/
theorem pay10_at (r : Fin 256) (j : Fin 2048) :
    k0_pay10 (F := Ideal) k q (ix2 r j) = Softmax.kprob (sc k q r) j := by
  pointwise [k0_pay10, Softmax.kprob, Softmax.kexp, sc, named_cs2, Softmax.ofBits_neg_inf]
  rfl

/-- A head's derivatives of the scores. -/
theorem pay11_at (r : Fin 256) (j : Fin 2048) :
    k0_pay11 (F := Ideal) k v q o (ix2 r j) = Softmax.kds (sc k q r) (dp v o r) j := by
  unfold Softmax.kds
  simp only [← pay10_at]
  pointwise [k0_pay11, dp, Softmax.ofBits_cs]

/-- A head's gradient of the queries. -/
theorem pay12_at (r : Fin 256) (d : Fin 128) :
    k0_pay12 (F := Ideal) k v q o (ix2 r d)
      = ∑ j : Fin 2048, Softmax.kds (sc k q r) (dp v o r) j * k (ix2 j d) := by
  simp only [← pay11_at]
  pointwise [k0_pay12]

/-- A head's part of the values' gradient. -/
theorem pay13_at (j : Fin 2048) (d : Fin 128) :
    k0_pay13 (F := Ideal) k q o (ix2 j d) = ∑ r : Fin 256, Softmax.kprob (sc k q r) j * o (ix2 r d) := by
  simp only [← pay10_at]
  pointwise [k0_pay13]

/-- A head's part of the keys' gradient. -/
def dkPart (j : Fin 2048) (d : Fin 128) : EReal :=
  ∑ r : Fin 256, Softmax.kds (sc k q r) (dp v o r) j * q (ix2 r d)

/-- A head's part of the values' gradient. -/
def dvPart (j : Fin 2048) (d : Fin 128) : EReal :=
  ∑ r : Fin 256, Softmax.kprob (sc k q r) j * o (ix2 r d)

variable (q1 o1 q2 o2 q3 o3 : FVec Ideal S256x128 .bf16)

/-- The four heads' part of the values' gradient, over one block of query rows. -/
theorem dv_at (j : Fin 2048) (d : Fin 128) :
    k0_pay4 (F := Ideal) (k0_pay22 k (k0_pay17 k (k0_pay13 k q o) q1 o1) q2 o2) o3 (k0_pay24 k q3) k0_pay25 (ix2 j d)
      = dvPart k q o j d + dvPart k q1 o1 j d + dvPart k q2 o2 j d + dvPart k q3 o3 j d := by
  show k0_pay13 (F := Ideal) k q o (ix2 j d) + k0_pay13 (F := Ideal) k q1 o1 (ix2 j d)
    + k0_pay13 (F := Ideal) k q2 o2 (ix2 j d) + k0_pay13 (F := Ideal) k q3 o3 (ix2 j d) = _
  simp only [pay13_at]
  rfl

/-- A head's part of the keys' gradient, as a product of its derivatives and its query rows. -/
theorem dkPart_at (acc : FVec Ideal S2048x128 .f32) (hacc : ∀ i, acc i = 0) (j : Fin 2048) (d : Fin 128) :
    matmul dot_S256x2048_S256x128_S2048x128_0_0_1_1_n_n none (k0_pay11 (F := Ideal) k v q o) q acc (ix2 j d)
      = dkPart k v q o j d := by
  unfold dkPart
  simp only [← pay11_at]
  pointwise [hacc]

/-- The four heads' part of the keys' gradient, over one block of query rows. -/
theorem dk_at (j : Fin 2048) (d : Fin 128) :
    k0_pay5 (F := Ideal) v (k0_pay23 k v (k0_pay18 k v q (k0_pay11 k v q o) q1 o1) q2 o2) q3 o3 (k0_pay24 k q3) k0_pay25
        (ix2 j d)
      = dkPart k v q o j d + dkPart k v q1 o1 j d + dkPart k v q2 o2 j d + dkPart k v q3 o3 j d := by
  show matmul dot_S256x2048_S256x128_S2048x128_0_0_1_1_n_n none (k0_pay11 (F := Ideal) k v q o) q
      (constant S2048x128 .f32 0x00000000#32) (ix2 j d)
    + matmul dot_S256x2048_S256x128_S2048x128_0_0_1_1_n_n none (k0_pay11 (F := Ideal) k v q1 o1) q1
      (constant S2048x128 .f32 0x00000000#32) (ix2 j d)
    + matmul dot_S256x2048_S256x128_S2048x128_0_0_1_1_n_n none (k0_pay11 (F := Ideal) k v q2 o2) q2
      (constant S2048x128 .f32 0x00000000#32) (ix2 j d)
    + matmul dot_S256x2048_S256x128_S2048x128_0_0_1_1_n_n none (k0_pay11 (F := Ideal) k v q3 o3) q3
      (constant S2048x128 .f32 0x00000000#32) (ix2 j d) = _
  simp only [dkPart_at _ _ _ _ (constant S2048x128 .f32 0x00000000#32) (fun _ => Ideal.ofBits_zero_f32)]

end Cert.AttnIdeal.Pay

end
-- ==== Proof.AttnRef.lean ====
/- The attention reference's results at an index. Heads are (key head `h`, group `g`): column `h·512 + g·128 + d` of the
   queries and of the output's gradient, column `h·128 + d` of the keys and (after the first 256) of the values. -/
module

public import proofs.«01_k».proof.Proof.Gen.AttnRefIdeal.Read
public import proofs.«01_k».proof.Proof.Softmax

@[expose] public section

set_option maxRecDepth 16384

noncomputable section

namespace Cert.AttnRefIdeal.At

open Cert.AttnRefIdeal Cert.AttnRefIdeal.Gen Cert.AttnRefIdeal.Read
open Idealize.ShloMosaic Idealize.ShloMosaic.TcCoe Idealize.SL.Sem

variable (q0 : FVec Ideal S2048x1024 .bf16) (k0 : FVec Ideal S2048x256 .bf16) (v0 : FVec Ideal S2048x512 .bf16)
  (o0 : FVec Ideal S2048x1024 .bf16)

/-- Query-side column of head `(h, g)` and lane `d`. -/
abbrev qcol (h : Fin 2) (g : Fin 4) (d : Fin 128) : Fin 1024 := ⟨(h : ℕ) * 512 + (g : ℕ) * 128 + (d : ℕ), by omega⟩

/-- Key-side column of head `h` and lane `d`. -/
abbrev kcol (h : Fin 2) (d : Fin 128) : Fin 256 := ⟨(h : ℕ) * 128 + (d : ℕ), by omega⟩

/-- The values' column of head `h` and lane `d` among the keys' and values' columns together. -/
abbrev vcol (h : Fin 2) (d : Fin 128) : Fin 512 := ⟨256 + ((h : ℕ) * 128 + (d : ℕ)), by omega⟩

/-- The unscaled score of query row `q` and key row `j` in head `(h, g)`. -/
def score (h : Fin 2) (g : Fin 4) (q j : Fin 2048) : EReal :=
  ∑ d : Fin 128, q0 (ix2 q (qcol h g d)) * k0 (ix2 j (kcol h d))

/-- The derivative of the probability of query row `q` and key row `j` in head `(h, g)`. -/
def dprob (h : Fin 2) (g : Fin 4) (q j : Fin 2048) : EReal :=
  ∑ d : Fin 128, o0 (ix2 q (qcol h g d)) * v0 (ix2 j (vcol h d))

/-- The scaled scores. -/
theorem at12 (h : Fin 2) (g : Fin 4) (q j : Fin 2048) :
    val_main_v12 (F := Ideal) q0 k0 (ix4 h g q j) = score q0 k0 h g q j * ((Softmax.cs : ℝ) : EReal) := by
  pointwise [val_main_v12, val_main_v11, val_main_v10, val_main_v9, val_main_v3, val_main_v2, val_main_v1, val_main_v0,
    val_main_cst, Softmax.ofBits_cs, score]
  refine congrArg (· * _) (Finset.sum_congr rfl fun d _ => mul_comm _ _)

/-- A maximum over the last axis, read at an index. -/
theorem reduce_at (x : FVec Ideal S2x4x2048x2048 .f32) (init : FVec Ideal S_ .f32) (h : Fin 2) (g : Fin 4) (q : Fin 2048) :
    Host.reduce FloatOps.maximumf x init reducesTo_S2x4x2048x2048_S2x4x2048_d3 h_S_ (ix3 h g q)
      = Finset.univ.fold max (init (Shape.Idx.first h_S_)) (fun j => x (ix4 h g q j)) := by
  pointwise

/-- The maxima start from minus infinity. -/
theorem cst_0_at (i : S_.Idx) : val_main_cst_0 (F := Ideal) i = (⊥ : EReal) := Softmax.ofBits_neg_inf

/-- The rows' maxima. -/
theorem at13 (h : Fin 2) (g : Fin 4) (q : Fin 2048) :
    val_main_v13 (F := Ideal) q0 k0 (ix3 h g q)
      = Finset.univ.fold max ⊥ (fun j => score q0 k0 h g q j * ((Softmax.cs : ℝ) : EReal)) := by
  unfold val_main_v13
  refine (reduce_at _ _ h g q).trans ?_
  rw [cst_0_at]
  simp only [at12]

/-- The rows' maxima, taken once more against minus infinity. -/
theorem at20 (y : FVec Ideal S2x4x2048 .f32) (h : Fin 2) (g : Fin 4) (q j : Fin 2048) :
    broadcastInDim S2x4x2048x2048 ![0, 1, 2, 3] bcast_S2x4x2048x1_S2x4x2048x2048_0_1_2_3
        (broadcastInDim S2x4x2048x1 ![0, 1, 2] bcast_S2x4x2048_S2x4x2048x1_0_1_2
          (maximumf (val_main_v19 (F := Ideal)) y)) (ix4 h g q j)
      = max ⊥ (y (ix3 h g q)) := by
  rw [← Softmax.ofBits_neg_inf]
  pointwise [val_main_v19, val_main_cst_2]

/-- The exponentials. -/
theorem at33 (h : Fin 2) (g : Fin 4) (q j : Fin 2048) :
    val_main_v33 (F := Ideal) q0 k0 (ix4 h g q j) = Softmax.rexp (score q0 k0 h g q) j := by
  unfold Softmax.rexp
  rw [← at13, ← at12, ← at20 _ h g q j]
  rfl

/-- The probabilities. -/
theorem at37 (h : Fin 2) (g : Fin 4) (q j : Fin 2048) :
    val_main_v37 (F := Ideal) q0 k0 (ix4 h g q j) = Softmax.rprob (score q0 k0 h g q) j := by
  unfold Softmax.rprob
  simp only [← at33]
  unfold val_main_v37 val_main_v36 val_main_v35 val_main_v34
  generalize val_main_v33 (F := Ideal) q0 k0 = x
  pointwise [val_main_cst_8]

/-- The probabilities' derivatives. -/
theorem at44 (h : Fin 2) (g : Fin 4) (q j : Fin 2048) :
    val_main_v44 (F := Ideal) v0 o0 (ix4 h g q j) = dprob v0 o0 h g q j := by
  pointwise [val_main_v44, val_main_v43, val_main_v8, val_main_v7, val_main_v6, val_main_v5, val_main_v4, dprob]

/-- The unscaled scores' derivatives. -/
theorem at60 (h : Fin 2) (g : Fin 4) (q j : Fin 2048) :
    val_main_v60 (F := Ideal) q0 k0 v0 o0 (ix4 h g q j)
      = Softmax.rds (score q0 k0 h g q) (dprob v0 o0 h g q) j := by
  unfold Softmax.rds
  simp only [← at33, ← at44]
  unfold val_main_v60 val_main_v58 val_main_v57 val_main_v56 val_main_v55 val_main_v54 val_main_v53 val_main_v52
    val_main_v51 val_main_v50 val_main_v49 val_main_v48 val_main_v47 val_main_v40 val_main_v38 val_main_v35 val_main_v34
  generalize val_main_v33 (F := Ideal) q0 k0 = x
  generalize val_main_v44 (F := Ideal) v0 o0 = y
  pointwise [val_main_v59, val_main_v39, val_main_cst_8, val_main_cst_9, val_main_cst_10, val_main_cst_11,
    val_main_cst_12, Softmax.ofBits_cs]

/-- The queries' gradient. -/
theorem at67 (h : Fin 2) (g : Fin 4) (d : Fin 128) (q : Fin 2048) :
    val_main_v67 (F := Ideal) q0 k0 v0 o0 (ix2 q (qcol h g d))
      = ∑ j : Fin 2048, Softmax.rds (score q0 k0 h g q) (dprob v0 o0 h g q) j * k0 (ix2 j (kcol h d)) := by
  simp only [← at60]
  unfold val_main_v67 val_main_v66 val_main_v63 val_main_v62 val_main_v61
  generalize val_main_v60 (F := Ideal) q0 k0 v0 o0 = x
  pointwise [val_main_v3, val_main_v2]
  refine Finset.sum_congr rfl fun j _ => ?_
  have e1 : ((h : ℕ) * 512 + g * 128 + d) / 512 = h := by omega
  have e2 : ((h : ℕ) * 512 + g * 128 + d) / 128 % 4 = g := by omega
  have e3 : ((h : ℕ) * 512 + g * 128 + d) % 128 = d := by omega
  simp only [e1, e2, e3, Fin.eta]

/-- The keys' gradient. -/
theorem at68 (h : Fin 2) (d : Fin 128) (j : Fin 2048) :
    val_main_v68 (F := Ideal) q0 k0 v0 o0 (ix2 j (kcol h d))
      = ∑ q : Fin 2048, ∑ g : Fin 4, Softmax.rds (score q0 k0 h g q) (dprob v0 o0 h g q) j * q0 (ix2 q (qcol h g d)) := by
  simp only [← at60]
  unfold val_main_v68 val_main_v65 val_main_v64 val_main_v61
  generalize val_main_v60 (F := Ideal) q0 k0 v0 o0 = x
  pointwise [val_main_v1, val_main_v0]
  refine Finset.sum_congr rfl fun q _ => Finset.sum_congr rfl fun g _ => ?_
  have e1 : ((h : ℕ) * 128 + d) / 128 = h := by omega
  have e2 : ((h : ℕ) * 128 + d) % 128 = d := by omega
  simp only [e1, e2, Fin.eta]

/-- The values' gradient. -/
theorem at69 (h : Fin 2) (d : Fin 128) (j : Fin 2048) :
    val_main_v69 (F := Ideal) q0 k0 o0 (ix2 j (kcol h d))
      = ∑ g : Fin 4, ∑ q : Fin 2048, o0 (ix2 q (qcol h g d)) * Softmax.rprob (score q0 k0 h g q) j := by
  simp only [← at37]
  unfold val_main_v69 val_main_v46 val_main_v45 val_main_v43
  generalize val_main_v37 (F := Ideal) q0 k0 = x
  pointwise [val_main_v8, val_main_v7]
  refine Finset.sum_congr rfl fun g _ => Finset.sum_congr rfl fun q _ => ?_
  have e1 : ((h : ℕ) * 128 + d) / 128 = h := by omega
  have e2 : ((h : ℕ) * 128 + d) % 128 = d := by omega
  simp only [e1, e2, Fin.eta]

end Cert.AttnRefIdeal.At

end
-- ==== Proof.AttnBlocks.lean ====
/- What the attention kernel computes from blocks of its arrays is what the reference computes at the blocks' places:
   stated of any vectors whose entries are the arrays' at those places. The queries and keys are finite, so the
   scores are, and the rows of `Softmax` agree. -/
module

public import proofs.«01_k».proof.Proof.AttnPay
public import proofs.«01_k».proof.Proof.AttnRef
public import Idealize.ShloMosaic.Lib.Pipeline.ValueKit

@[expose] public section

set_option maxRecDepth 16384

noncomputable section

namespace Cert.AttnIdeal.Blocks

open Cert.AttnIdeal Cert.AttnIdeal.Gen Idealize.ShloMosaic Idealize.ShloMosaic.TcCoe Idealize.SL.Sem
open Cert.AttnRefIdeal.At (qcol kcol vcol score dprob)

/-- Sums and products of finite numbers are finite. -/
theorem finite_sum {ι : Type} (s : Finset ι) (f g : ι → EReal) (hf : ∀ i, f i ≠ ⊥ ∧ f i ≠ ⊤) (hg : ∀ i, g i ≠ ⊥ ∧ g i ≠ ⊤) :
    ∑ i ∈ s, f i * g i ≠ ⊥ ∧ ∑ i ∈ s, f i * g i ≠ ⊤ := by
  have e : ∑ i ∈ s, f i * g i = ((∑ i ∈ s, (f i).toReal * (g i).toReal : ℝ) : EReal) := by
    rw [Softmax.coe_sum]
    refine Finset.sum_congr rfl fun i _ => ?_
    rw [EReal.coe_mul, EReal.coe_toReal (hf i).2 (hf i).1, EReal.coe_toReal (hg i).2 (hg i).1]
  rw [e]
  exact ⟨EReal.coe_ne_bot _, EReal.coe_ne_top _⟩

variable (A0 : FVec Ideal S2048x1024 .bf16) (A1 : FVec Ideal S2048x256 .bf16) (A2 : FVec Ideal S2048x512 .bf16)
  (A3 : FVec Ideal S2048x1024 .bf16)

/-- Every entry is a real number. -/
def Fin0 {S : Shape} {φ : FTy} (x : FVec Ideal S φ) : Prop := ∀ i, (show EReal from x i) ≠ ⊥ ∧ (show EReal from x i) ≠ ⊤

/-- The scores are real numbers. -/
theorem score_finite (h0 : Fin0 A0) (h1 : Fin0 A1) (h : Fin 2) (g : Fin 4) (q j : Fin 2048) :
    score A0 A1 h g q j ≠ ⊥ ∧ score A0 A1 h g q j ≠ ⊤ :=
  finite_sum _ _ _ (fun _ => h0 _) fun _ => h1 _

/-- Row `r` of query tile `T`. -/
abbrev row (T : Fin 8) (r : Fin 256) : Fin 2048 := ⟨(T : ℕ) * 256 + r, by omega⟩

variable (k v : FVec Ideal S2048x128 .bf16) (q o : FVec Ideal S256x128 .bf16) (h : Fin 2) (g : Fin 4) (T : Fin 8)

/-- A head's scores, from its blocks. -/
theorem sc_eq (hk : ∀ j d, k (ix2 j d) = A1 (ix2 j (kcol h d))) (hq : ∀ r d, q (ix2 r d) = A0 (ix2 (row T r) (qcol h g d)))
    (r : Fin 256) : Pay.sc k q r = score A0 A1 h g (row T r) := by
  funext j
  simp only [Pay.sc, score, hk, hq]

/-- A head's derivatives of the probabilities, from its blocks. -/
theorem dp_eq (hv : ∀ j d, v (ix2 j d) = A2 (ix2 j (vcol h d))) (ho : ∀ r d, o (ix2 r d) = A3 (ix2 (row T r) (qcol h g d)))
    (r : Fin 256) : Pay.dp v o r = dprob A2 A3 h g (row T r) := by
  funext j
  simp only [Pay.dp, dprob, hv, ho]

/-- A head's rows of the queries' gradient. -/
theorem dq_eq (h0 : Fin0 A0) (h1 : Fin0 A1)
    (hk : ∀ j d, k (ix2 j d) = A1 (ix2 j (kcol h d))) (hv : ∀ j d, v (ix2 j d) = A2 (ix2 j (vcol h d)))
    (hq : ∀ r d, q (ix2 r d) = A0 (ix2 (row T r) (qcol h g d))) (ho : ∀ r d, o (ix2 r d) = A3 (ix2 (row T r) (qcol h g d)))
    (x : S256x128.Idx) (i : S2048x1024.Idx) (hi0 : (i 0 : ℕ) = T * 256 + x 0) (hi1 : (i 1 : ℕ) = h * 512 + g * 128 + x 1) :
    k0_pay12 (F := Ideal) k v q o x = Cert.AttnRefIdeal.Read.val_main_v67 (F := Ideal) A0 A1 A2 A3 i := by
  idx_vars x
  have hi : i = ix2 (row T x0) (qcol h g x1) := by
    idx_ext
  rw [hi, Cert.AttnRefIdeal.At.at67, Pay.pay12_at]
  refine Finset.sum_congr rfl fun j _ => ?_
  rw [Softmax.ds_eq _ _ (fun j => by rw [sc_eq A0 A1 k q h g T hk hq]; exact score_finite A0 A1 h0 h1 h g _ j),
    sc_eq A0 A1 k q h g T hk hq, dp_eq A2 A3 v o h g T hv ho, hk]

/-- The columns of one head of a group's block. -/
def col (X : FVec Ideal S256x512 .bf16) (g : Fin 4) : FVec Ideal S256x128 .bf16 :=
  fun i => X (ix2 (i 0) ⟨(g : ℕ) * 128 + (i 1 : ℕ), by have := (i 1).isLt; have : (i 1 : ℕ) < 128 := this; omega⟩)

/-- The part of the keys' gradient one block of query rows gives. -/
def dkPt (k v : FVec Ideal S2048x128 .bf16) (X O : FVec Ideal S256x512 .bf16) (j : Fin 2048) (d : Fin 128) : EReal :=
  ∑ g : Fin 4, Pay.dkPart k v (col X g) (col O g) j d

/-- The part of the values' gradient one block of query rows gives. -/
def dvPt (k : FVec Ideal S2048x128 .bf16) (X O : FVec Ideal S256x512 .bf16) (j : Fin 2048) (d : Fin 128) : EReal :=
  ∑ g : Fin 4, Pay.dvPart k (col X g) (col O g) j d

variable (X O : FVec Ideal S256x512 .bf16) (q0 q1 q2 q3 o0 o1 o2 o3 : FVec Ideal S256x128 .bf16)

/-- The four heads' part of the keys' gradient, their rows the four column tiles of the blocks. -/
theorem dk_pt (hq0 : q0 = col X 0) (hq1 : q1 = col X 1) (hq2 : q2 = col X 2) (hq3 : q3 = col X 3)
    (ho0 : o0 = col O 0) (ho1 : o1 = col O 1) (ho2 : o2 = col O 2) (ho3 : o3 = col O 3) (j : S2048x128.Idx) :
    k0_pay5 (F := Ideal) v (k0_pay23 k v (k0_pay18 k v q0 (k0_pay11 k v q0 o0) q1 o1) q2 o2) q3 o3 (k0_pay24 k q3) k0_pay25 j
      = dkPt k v X O (j 0) (j 1) := by
  subst hq0 hq1 hq2 hq3 ho0 ho1 ho2 ho3
  idx_vars j
  rw [Pay.dk_at, dkPt, Fin.sum_univ_four]

/-- The four heads' part of the values' gradient, their rows the four column tiles of the blocks. -/
theorem dv_pt (hq0 : q0 = col X 0) (hq1 : q1 = col X 1) (hq2 : q2 = col X 2) (hq3 : q3 = col X 3)
    (ho0 : o0 = col O 0) (ho1 : o1 = col O 1) (ho2 : o2 = col O 2) (ho3 : o3 = col O 3) (j : S2048x128.Idx) :
    k0_pay4 (F := Ideal) (k0_pay22 k (k0_pay17 k (k0_pay13 k q0 o0) q1 o1) q2 o2) o3 (k0_pay24 k q3) k0_pay25 j
      = dvPt k X O (j 0) (j 1) := by
  subst hq0 hq1 hq2 hq3 ho0 ho1 ho2 ho3
  idx_vars j
  rw [Pay.dv_at, dvPt, Fin.sum_univ_four]

/-- The first block of rows stores its part of the keys' gradient, -/
theorem pay7_at (v : FVec Ideal S2048x128 .bf16) (x : FVec Ideal S2048x128 .f32) (q o : FVec Ideal S256x128 .bf16)
    (a b : FVec Ideal S256x2048 .f32) (j : S2048x128.Idx) :
    k0_pay7 (F := Ideal) v x q o a b j = k0_pay5 (F := Ideal) v x q o a b j := by
  unfold k0_pay7
  generalize k0_pay5 (F := Ideal) v x q o a b = y
  pointwise

/-- a later one adds its part to what is stored. -/
theorem pay9_at (v : FVec Ideal S2048x128 .bf16) (x : FVec Ideal S2048x128 .f32) (q o : FVec Ideal S256x128 .bf16)
    (a b : FVec Ideal S256x2048 .f32) (p : FVec Ideal S2048x128 .f32) (j : S2048x128.Idx) :
    k0_pay9 (F := Ideal) v x q o a b p j = p j + k0_pay5 (F := Ideal) v x q o a b j := by
  unfold k0_pay9
  generalize k0_pay5 (F := Ideal) v x q o a b = y
  pointwise

/-- The first block of rows stores its part of the values' gradient, -/
theorem pay6_at (x : FVec Ideal S2048x128 .f32) (o : FVec Ideal S256x128 .bf16) (a b : FVec Ideal S256x2048 .f32)
    (j : S2048x128.Idx) : k0_pay6 (F := Ideal) x o a b j = k0_pay4 (F := Ideal) x o a b j := by
  unfold k0_pay6
  generalize k0_pay4 (F := Ideal) x o a b = y
  pointwise

/-- a later one adds its part to what is stored. -/
theorem pay8_at (x : FVec Ideal S2048x128 .f32) (o : FVec Ideal S256x128 .bf16) (a b : FVec Ideal S256x2048 .f32)
    (p : FVec Ideal S2048x128 .f32) (j : S2048x128.Idx) :
    k0_pay8 (F := Ideal) x o a b p j = p j + k0_pay4 (F := Ideal) x o a b j := by
  unfold k0_pay8
  generalize k0_pay4 (F := Ideal) x o a b = y
  pointwise

/-- The four heads' rows of the queries' gradient are one function of their blocks. -/
theorem pay16_eq : k0_pay16 (F := Ideal) k v q o = k0_pay12 (F := Ideal) k v q o := rfl
theorem pay21_eq : k0_pay21 (F := Ideal) k v q o = k0_pay12 (F := Ideal) k v q o := rfl
theorem pay3_eq : k0_pay3 (F := Ideal) k v o (k0_pay24 k q) k0_pay25 = k0_pay12 (F := Ideal) k v q o := rfl

/-- Eight tiles of 256 rows are all 2048 rows. -/
theorem sum_rows (f : Fin 8 → Fin 4 → Fin 256 → EReal) (F : Fin 2048 → Fin 4 → EReal) (hf : ∀ s g r, f s g r = F (row s r) g) :
    ∑ s, ∑ g, ∑ r, f s g r = ∑ q, ∑ g, F q g := by
  simp only [hf]
  rw [Finset.sum_congr rfl fun s _ => Finset.sum_comm]
  refine Fin.sum_mul_add_congr fun s r hl => rfl

variable (Xs Os : Fin 8 → FVec Ideal S256x512 .bf16) (K W : Fin 8 → FVec Ideal S2048x128 .bf16)

/-- The eight blocks' parts of the keys' gradient sum to the reference's. -/
theorem dk_eq (h0 : Fin0 A0) (h1 : Fin0 A1)
    (hk : ∀ s j d, K s (ix2 j d) = A1 (ix2 j (kcol h d))) (hv : ∀ s j d, W s (ix2 j d) = A2 (ix2 j (vcol h d)))
    (hq : ∀ s g r d, col (Xs s) g (ix2 r d) = A0 (ix2 (row s r) (qcol h g d)))
    (ho : ∀ s g r d, col (Os s) g (ix2 r d) = A3 (ix2 (row s r) (qcol h g d))) (j : Fin 2048) (d : Fin 128) :
    ∑ s : Fin 8, dkPt (K s) (W s) (Xs s) (Os s) j d
      = Cert.AttnRefIdeal.Read.val_main_v68 (F := Ideal) A0 A1 A2 A3 (ix2 j (kcol h d)) := by
  rw [Cert.AttnRefIdeal.At.at68]
  refine sum_rows _ _ fun s g r => ?_
  rw [Softmax.ds_eq _ _ (fun j => by rw [sc_eq A0 A1 _ _ h g s (hk s) (hq s g)]; exact score_finite A0 A1 h0 h1 h g _ j),
    sc_eq A0 A1 _ _ h g s (hk s) (hq s g), dp_eq A2 A3 _ _ h g s (hv s) (ho s g), hq]

/-- The eight blocks' parts of the values' gradient sum to the reference's. -/
theorem dv_eq (h0 : Fin0 A0) (h1 : Fin0 A1)
    (hk : ∀ s j d, K s (ix2 j d) = A1 (ix2 j (kcol h d)))
    (hq : ∀ s g r d, col (Xs s) g (ix2 r d) = A0 (ix2 (row s r) (qcol h g d)))
    (ho : ∀ s g r d, col (Os s) g (ix2 r d) = A3 (ix2 (row s r) (qcol h g d))) (j : Fin 2048) (d : Fin 128) :
    ∑ s : Fin 8, dvPt (K s) (Xs s) (Os s) j d
      = Cert.AttnRefIdeal.Read.val_main_v69 (F := Ideal) A0 A1 A3 (ix2 j (kcol h d)) := by
  rw [Cert.AttnRefIdeal.At.at69, Finset.sum_comm]
  refine sum_rows _ _ fun s g r => ?_
  rw [Softmax.prob_eq _ (fun j => by rw [sc_eq A0 A1 _ _ h g s (hk s) (hq s g)]; exact score_finite A0 A1 h0 h1 h g _ j),
    sc_eq A0 A1 _ _ h g s (hk s) (hq s g), ho, mul_comm]

end Cert.AttnIdeal.Blocks

end
-- ==== Proof.AttnValue.lean ====
/- The attention kernel's three arrays after the run are the reference's results: the queries' gradient block by block,
   the keys' and values' gradients as the sums of eight points' parts. -/
module

public import proofs.«01_k».proof.Proof.Gen.AttnIdeal.Value
public import proofs.«01_k».proof.Proof.AttnBlocks
public import Idealize.ShloMosaic.Lib.Pipeline.ValueKit

@[expose] public section

set_option maxRecDepth 16384

noncomputable section

namespace Cert.AttnIdeal.Bridge

open Cert.AttnIdeal Cert.AttnIdeal.Gen Idealize.ShloMosaic Idealize.ShloMosaic.TcCoe Idealize.SL.Sem
open Idealize.ShloMosaic.Pipeline (Dat)

variable (m : (ℓ : Loc nD τ sig) → Buf (Elt Ideal) ℓ)

/-- Every window's block at a grid point: key head `t / 8`, query tile `t % 8`. -/
theorem idx : ∀ t : Fin cfg0.N, win0_0.index t = ![t.val % 8, t.val / 8] ∧ win0_1.index t = ![0, t.val / 8]
    ∧ win0_2.index t = ![0, 2 + t.val / 8] ∧ win0_3.index t = ![t.val % 8, t.val / 8]
    ∧ win0_4.index t = ![t.val % 8, t.val / 8] ∧ win0_5.index t = ![0, t.val / 8] ∧ win0_6.index t = ![0, t.val / 8] :=
  (by decide +kernel : ∀ t : Fin grid0.N, win0_0.index t = ![t.val % 8, t.val / 8] ∧ win0_1.index t = ![0, t.val / 8]
    ∧ win0_2.index t = ![0, 2 + t.val / 8] ∧ win0_3.index t = ![t.val % 8, t.val / 8]
    ∧ win0_4.index t = ![t.val % 8, t.val / 8] ∧ win0_5.index t = ![0, t.val / 8] ∧ win0_6.index t = ![0, t.val / 8])

/-- The grid's sixteen points. -/
theorem lt16 (t : Fin cfg0.N) : t.val < 16 := lt_of_lt_of_eq t.isLt (show cfg0.N = 16 from N_0)

/-- A point's key head, -/
abbrev hd (t : Fin cfg0.N) : Fin 2 := ⟨t.val / 8, by have := lt16 t; omega⟩

/-- and its query tile. -/
abbrev tl (t : Fin cfg0.N) : Fin 8 := ⟨t.val % 8, by omega⟩

/-- The point `t`'s block of the keys, read at an index. -/
theorem k_at (c : Dev nD) (t : Fin cfg0.N) (j : Fin 2048) (d : Fin 128) :
    (show FVec Ideal S2048x128 .bf16 from iblk m c 1 t) (ix2 j d)
      = (show FVec Ideal S2048x256 .bf16 from m ((c : Thread nD τ).loc main_arg1)) (ix2 j (Cert.AttnRefIdeal.At.kcol (hd t) d)) := by
  blk_point [iblk, V, idx t]

/-- The point `t`'s block of the values, read at an index. -/
theorem v_at (c : Dev nD) (t : Fin cfg0.N) (j : Fin 2048) (d : Fin 128) :
    (show FVec Ideal S2048x128 .bf16 from iblk m c 2 t) (ix2 j d)
      = (show FVec Ideal S2048x512 .bf16 from m ((c : Thread nD τ).loc main_arg2)) (ix2 j (Cert.AttnRefIdeal.At.vcol (hd t) d)) := by
  blk_point [iblk, V, idx t]

/-- One head's columns of the point `t`'s block of the queries, read at an index. -/
theorem q_at (c : Dev nD) (t : Fin cfg0.N) (g : Fin 4) (r : Fin 256) (d : Fin 128) :
    Blocks.col (iblk m c 0 t) g (ix2 r d)
      = (show FVec Ideal S2048x1024 .bf16 from m ((c : Thread nD τ).loc main_arg0))
          (ix2 (Blocks.row (tl t) r) (Cert.AttnRefIdeal.At.qcol (hd t) g d)) := by
  unfold Blocks.col
  blk_point [iblk, V, idx t]

/-- One head's columns of the point `t`'s block of the output's gradient, read at an index. -/
theorem o_at (c : Dev nD) (t : Fin cfg0.N) (g : Fin 4) (r : Fin 256) (d : Fin 128) :
    Blocks.col (iblk m c 3 t) g (ix2 r d)
      = (show FVec Ideal S2048x1024 .bf16 from m ((c : Thread nD τ).loc main_arg3))
          (ix2 (Blocks.row (tl t) r) (Cert.AttnRefIdeal.At.qcol (hd t) g d)) := by
  unfold Blocks.col
  blk_point [iblk, V, idx t]

/-- The four column tiles a point of case A stores are the reference's queries' gradient at their places. -/
theorem point4_A (c : Dev nD) (f0 : Blocks.Fin0 (φ := .bf16) (S := S2048x1024) (m ((c : Thread nD τ).loc main_arg0)))
    (f1 : Blocks.Fin0 (φ := .bf16) (S := S2048x256) (m ((c : Thread nD τ).loc main_arg1)))
    (t : Fin cfg0.N) (e : t.val % 8 = 0) (y : S256x512.Idx) :
    (outsAt0 m c t.val t.isLt).1 y
      = Cert.AttnRefIdeal.Read.val_main_v67 (F := Ideal) (m ((c : Thread nD τ).loc main_arg0)) (m ((c : Thread nD τ).loc main_arg1))
          (m ((c : Thread nD τ).loc main_arg2)) (m ((c : Thread nD τ).loc main_arg3)) ((win0_4.blk t).view.emb y) := by
  rw [outsAt0_A m c t e (by omega)]
  frame_out
  clear e
  canon_tiles x h
  case piece0 =>
    refine (congrFun (Blocks.pay3_eq _ _ _ _) x).trans ?_
    refine Blocks.dq_eq _ _ (m ((c : Thread nD τ).loc main_arg2)) (m ((c : Thread nD τ).loc main_arg3)) _ _ _ _ (hd t) 3 (tl t) f0 f1 (k_at m c t) (v_at m c t)
      (fun r d => ?_) (fun r d => ?_) x _ ?_ ?_
    · refine Eq.trans ?_ (q_at m c t 3 r d); unfold Blocks.col; pointwise; blk_ext
    · refine Eq.trans ?_ (o_at m c t 3 r d); unfold Blocks.col; pointwise; blk_ext
    · blk_simp [idx t]; show t.val % 8 * 256 + (y 0 : ℕ) = t.val % 8 * 256 + (x 0 : ℕ); omega
    · blk_simp [idx t]; show t.val / 8 * 512 + (y 1 : ℕ) = t.val / 8 * 512 + 3 * 128 + (x 1 : ℕ); omega
  case piece1 =>
    refine (congrFun (Blocks.pay21_eq _ _ _ _) x).trans ?_
    refine Blocks.dq_eq _ _ (m ((c : Thread nD τ).loc main_arg2)) (m ((c : Thread nD τ).loc main_arg3)) _ _ _ _ (hd t) 2 (tl t) f0 f1 (k_at m c t) (v_at m c t)
      (fun r d => ?_) (fun r d => ?_) x _ ?_ ?_
    · refine Eq.trans ?_ (q_at m c t 2 r d); unfold Blocks.col; pointwise; blk_ext
    · refine Eq.trans ?_ (o_at m c t 2 r d); unfold Blocks.col; pointwise; blk_ext
    · blk_simp [idx t]; show t.val % 8 * 256 + (y 0 : ℕ) = t.val % 8 * 256 + (x 0 : ℕ); omega
    · blk_simp [idx t]; show t.val / 8 * 512 + (y 1 : ℕ) = t.val / 8 * 512 + 2 * 128 + (x 1 : ℕ); omega
  case piece2 =>
    refine (congrFun (Blocks.pay16_eq _ _ _ _) x).trans ?_
    refine Blocks.dq_eq _ _ (m ((c : Thread nD τ).loc main_arg2)) (m ((c : Thread nD τ).loc main_arg3)) _ _ _ _ (hd t) 1 (tl t) f0 f1 (k_at m c t) (v_at m c t)
      (fun r d => ?_) (fun r d => ?_) x _ ?_ ?_
    · refine Eq.trans ?_ (q_at m c t 1 r d); unfold Blocks.col; pointwise; blk_ext
    · refine Eq.trans ?_ (o_at m c t 1 r d); unfold Blocks.col; pointwise; blk_ext
    · blk_simp [idx t]; show t.val % 8 * 256 + (y 0 : ℕ) = t.val % 8 * 256 + (x 0 : ℕ); omega
    · blk_simp [idx t]; show t.val / 8 * 512 + (y 1 : ℕ) = t.val / 8 * 512 + 1 * 128 + (x 1 : ℕ); omega
  case piece3 =>
    refine Blocks.dq_eq _ _ (m ((c : Thread nD τ).loc main_arg2)) (m ((c : Thread nD τ).loc main_arg3)) _ _ _ _ (hd t) 0 (tl t) f0 f1 (k_at m c t) (v_at m c t)
      (fun r d => ?_) (fun r d => ?_) x _ ?_ ?_
    · refine Eq.trans ?_ (q_at m c t 0 r d); unfold Blocks.col; pointwise; blk_ext
    · refine Eq.trans ?_ (o_at m c t 0 r d); unfold Blocks.col; pointwise; blk_ext
    · blk_simp [idx t]; show t.val % 8 * 256 + (y 0 : ℕ) = t.val % 8 * 256 + (x 0 : ℕ); omega
    · blk_simp [idx t]; show t.val / 8 * 512 + (y 1 : ℕ) = t.val / 8 * 512 + 0 * 128 + (x 1 : ℕ); omega

/-- The four column tiles a point of case B stores are the reference's queries' gradient at their places. -/
theorem point4_B (c : Dev nD) (f0 : Blocks.Fin0 (φ := .bf16) (S := S2048x1024) (m ((c : Thread nD τ).loc main_arg0)))
    (f1 : Blocks.Fin0 (φ := .bf16) (S := S2048x256) (m ((c : Thread nD τ).loc main_arg1)))
    (t : Fin cfg0.N) (e : ¬t.val % 8 = 0) (y : S256x512.Idx) :
    (outsAt0 m c t.val t.isLt).1 y
      = Cert.AttnRefIdeal.Read.val_main_v67 (F := Ideal) (m ((c : Thread nD τ).loc main_arg0)) (m ((c : Thread nD τ).loc main_arg1))
          (m ((c : Thread nD τ).loc main_arg2)) (m ((c : Thread nD τ).loc main_arg3)) ((win0_4.blk t).view.emb y) := by
  rw [outsAt0_B m c t e (by omega)]
  frame_out
  clear e
  canon_tiles x h
  case piece0 =>
    refine (congrFun (Blocks.pay3_eq _ _ _ _) x).trans ?_
    refine Blocks.dq_eq _ _ (m ((c : Thread nD τ).loc main_arg2)) (m ((c : Thread nD τ).loc main_arg3)) _ _ _ _ (hd t) 3 (tl t) f0 f1 (k_at m c t) (v_at m c t)
      (fun r d => ?_) (fun r d => ?_) x _ ?_ ?_
    · refine Eq.trans ?_ (q_at m c t 3 r d); unfold Blocks.col; pointwise; blk_ext
    · refine Eq.trans ?_ (o_at m c t 3 r d); unfold Blocks.col; pointwise; blk_ext
    · blk_simp [idx t]; show t.val % 8 * 256 + (y 0 : ℕ) = t.val % 8 * 256 + (x 0 : ℕ); omega
    · blk_simp [idx t]; show t.val / 8 * 512 + (y 1 : ℕ) = t.val / 8 * 512 + 3 * 128 + (x 1 : ℕ); omega
  case piece1 =>
    refine (congrFun (Blocks.pay21_eq _ _ _ _) x).trans ?_
    refine Blocks.dq_eq _ _ (m ((c : Thread nD τ).loc main_arg2)) (m ((c : Thread nD τ).loc main_arg3)) _ _ _ _ (hd t) 2 (tl t) f0 f1 (k_at m c t) (v_at m c t)
      (fun r d => ?_) (fun r d => ?_) x _ ?_ ?_
    · refine Eq.trans ?_ (q_at m c t 2 r d); unfold Blocks.col; pointwise; blk_ext
    · refine Eq.trans ?_ (o_at m c t 2 r d); unfold Blocks.col; pointwise; blk_ext
    · blk_simp [idx t]; show t.val % 8 * 256 + (y 0 : ℕ) = t.val % 8 * 256 + (x 0 : ℕ); omega
    · blk_simp [idx t]; show t.val / 8 * 512 + (y 1 : ℕ) = t.val / 8 * 512 + 2 * 128 + (x 1 : ℕ); omega
  case piece2 =>
    refine (congrFun (Blocks.pay16_eq _ _ _ _) x).trans ?_
    refine Blocks.dq_eq _ _ (m ((c : Thread nD τ).loc main_arg2)) (m ((c : Thread nD τ).loc main_arg3)) _ _ _ _ (hd t) 1 (tl t) f0 f1 (k_at m c t) (v_at m c t)
      (fun r d => ?_) (fun r d => ?_) x _ ?_ ?_
    · refine Eq.trans ?_ (q_at m c t 1 r d); unfold Blocks.col; pointwise; blk_ext
    · refine Eq.trans ?_ (o_at m c t 1 r d); unfold Blocks.col; pointwise; blk_ext
    · blk_simp [idx t]; show t.val % 8 * 256 + (y 0 : ℕ) = t.val % 8 * 256 + (x 0 : ℕ); omega
    · blk_simp [idx t]; show t.val / 8 * 512 + (y 1 : ℕ) = t.val / 8 * 512 + 1 * 128 + (x 1 : ℕ); omega
  case piece3 =>
    refine Blocks.dq_eq _ _ (m ((c : Thread nD τ).loc main_arg2)) (m ((c : Thread nD τ).loc main_arg3)) _ _ _ _ (hd t) 0 (tl t) f0 f1 (k_at m c t) (v_at m c t)
      (fun r d => ?_) (fun r d => ?_) x _ ?_ ?_
    · refine Eq.trans ?_ (q_at m c t 0 r d); unfold Blocks.col; pointwise; blk_ext
    · refine Eq.trans ?_ (o_at m c t 0 r d); unfold Blocks.col; pointwise; blk_ext
    · blk_simp [idx t]; show t.val % 8 * 256 + (y 0 : ℕ) = t.val % 8 * 256 + (x 0 : ℕ); omega
    · blk_simp [idx t]; show t.val / 8 * 512 + (y 1 : ℕ) = t.val / 8 * 512 + 0 * 128 + (x 1 : ℕ); omega

/-- The queries' gradient. -/
theorem fin4 (c : Dev nD) (f0 : Blocks.Fin0 (φ := .bf16) (S := S2048x1024) (m ((c : Thread nD τ).loc main_arg0)))
    (f1 : Blocks.Fin0 (φ := .bf16) (S := S2048x256) (m ((c : Thread nD τ).loc main_arg1))) :
    (dats m 0 c).arrAt 4 cfg0.N = Cert.AttnRefIdeal.Read.val_main_v67 (F := Ideal) (m ((c : Thread nD τ).loc main_arg0)) (m ((c : Thread nD τ).loc main_arg1))
      (m ((c : Thread nD τ).loc main_arg2)) (m ((c : Thread nD τ).loc main_arg3)) := by
  refine (dats m 0 c).arrAt_eq_of_covers 4 _ (by decide +kernel) fun t _ y => ?_
  blk_simp
  rw [after0_4]
  by_cases e : t.val % 8 = 0
  · exact point4_A m c f0 f1 t e y
  · exact point4_B m c f0 f1 t e y

/-- The keys' gradient. -/
theorem fin5 (c : Dev nD) (f0 : Blocks.Fin0 (φ := .bf16) (S := S2048x1024) (m ((c : Thread nD τ).loc main_arg0)))
    (f1 : Blocks.Fin0 (φ := .bf16) (S := S2048x256) (m ((c : Thread nD τ).loc main_arg1))) :
    (dats m 0 c).arrAt 5 cfg0.N = Cert.AttnRefIdeal.Read.val_main_v68 (F := Ideal) (m ((c : Thread nD τ).loc main_arg0)) (m ((c : Thread nD τ).loc main_arg1))
      (m ((c : Thread nD τ).loc main_arg2)) (m ((c : Thread nD τ).loc main_arg3)) := by
  refine (dats m 0 c).arrAt_eq_of_covers 5 _ (by decide +kernel) fun t hf y => ?_
  blk_simp
  rw [after0_5, Pipeline.eq_sum_fin_of_reset_step_apply_of_flush (fun n h => (outsAt0 m c n h).2.1) 8 (fun _ => 0)
    (fun p j => Blocks.dkPt (iblk m c 1 p) (iblk m c 2 p) (iblk m c 0 p) (iblk m c 3 p) (j 0) (j 1))
    (fun t h j => by
      rw [outsAt0_A m c t h (by omega)]; frame_out
      refine (Blocks.pay7_at ..).trans ((Blocks.dk_pt _ _ (iblk m c 0 t) (iblk m c 3 t) _ _ _ _ _ _ _ _ ?_ ?_ ?_ ?_ ?_ ?_ ?_ ?_ j).trans (zero_add _).symm)
      all_goals (funext i; idx_vars i; pointwise [Blocks.col]; blk_ext))
    (fun t h j => by
      rw [outsAt0_B m c t h (by omega)]; frame_out
      refine (Blocks.pay9_at ..).trans (congrArg _ (Blocks.dk_pt _ _ (iblk m c 0 t) (iblk m c 3 t) _ _ _ _ _ _ _ _ ?_ ?_ ?_ ?_ ?_ ?_ ?_ ?_ j))
      all_goals (funext i; idx_vars i; pointwise [Blocks.col]; blk_ext))
    t ((flush0_5 t).mp hf) _, zero_add]
  let run : Fin 8 → Fin cfg0.N := fun s => ⟨_, Pipeline.run_point_lt_of_flush t ((flush0_5 t).mp hf) s⟩
  have hh : ∀ s, hd (run s) = hd t := fun s => Fin.ext (by show (8 * (t.val / 8) + s.val) / 8 = t.val / 8; omega)
  have ht : ∀ s, tl (run s) = s := fun s => Fin.ext (by show (8 * (t.val / 8) + s.val) % 8 = s.val; omega)
  refine (Blocks.dk_eq (m ((c : Thread nD τ).loc main_arg0)) (m ((c : Thread nD τ).loc main_arg1)) (m ((c : Thread nD τ).loc main_arg2)) (m ((c : Thread nD τ).loc main_arg3)) (hd t)
    (fun s => iblk m c 0 (run s)) (fun s => iblk m c 3 (run s)) (fun s => iblk m c 1 (run s)) (fun s => iblk m c 2 (run s)) f0 f1
    (fun s j d => (k_at m c (run s) j d).trans (by rw [hh s]))
    (fun s j d => (v_at m c (run s) j d).trans (by rw [hh s]))
    (fun s g r d => (q_at m c (run s) g r d).trans (by rw [hh s, ht s]))
    (fun s g r d => (o_at m c (run s) g r d).trans (by rw [hh s, ht s])) (y 0) (y 1)).trans (congrArg _ ?_)
  blk_ext [idx t]

/-- The values' gradient. -/
theorem fin6 (c : Dev nD) (f0 : Blocks.Fin0 (φ := .bf16) (S := S2048x1024) (m ((c : Thread nD τ).loc main_arg0)))
    (f1 : Blocks.Fin0 (φ := .bf16) (S := S2048x256) (m ((c : Thread nD τ).loc main_arg1))) :
    (dats m 0 c).arrAt 6 cfg0.N = Cert.AttnRefIdeal.Read.val_main_v69 (F := Ideal) (m ((c : Thread nD τ).loc main_arg0)) (m ((c : Thread nD τ).loc main_arg1))
      (m ((c : Thread nD τ).loc main_arg3)) := by
  refine (dats m 0 c).arrAt_eq_of_covers 6 _ (by decide +kernel) fun t hf y => ?_
  blk_simp
  rw [after0_6, Pipeline.eq_sum_fin_of_reset_step_apply_of_flush (fun n h => (outsAt0 m c n h).2.2) 8 (fun _ => 0)
    (fun p j => Blocks.dvPt (iblk m c 1 p) (iblk m c 0 p) (iblk m c 3 p) (j 0) (j 1))
    (fun t h j => by
      rw [outsAt0_A m c t h (by omega)]; frame_out
      refine (Blocks.pay6_at ..).trans ((Blocks.dv_pt _ (iblk m c 0 t) (iblk m c 3 t) _ _ _ _ _ _ _ _ ?_ ?_ ?_ ?_ ?_ ?_ ?_ ?_ j).trans (zero_add _).symm)
      all_goals (funext i; idx_vars i; pointwise [Blocks.col]; blk_ext))
    (fun t h j => by
      rw [outsAt0_B m c t h (by omega)]; frame_out
      refine (Blocks.pay8_at ..).trans (congrArg _ (Blocks.dv_pt _ (iblk m c 0 t) (iblk m c 3 t) _ _ _ _ _ _ _ _ ?_ ?_ ?_ ?_ ?_ ?_ ?_ ?_ j))
      all_goals (funext i; idx_vars i; pointwise [Blocks.col]; blk_ext))
    t ((flush0_6 t).mp hf) _, zero_add]
  let run : Fin 8 → Fin cfg0.N := fun s => ⟨_, Pipeline.run_point_lt_of_flush t ((flush0_6 t).mp hf) s⟩
  have hh : ∀ s, hd (run s) = hd t := fun s => Fin.ext (by show (8 * (t.val / 8) + s.val) / 8 = t.val / 8; omega)
  have ht : ∀ s, tl (run s) = s := fun s => Fin.ext (by show (8 * (t.val / 8) + s.val) % 8 = s.val; omega)
  refine (Blocks.dv_eq (m ((c : Thread nD τ).loc main_arg0)) (m ((c : Thread nD τ).loc main_arg1)) (m ((c : Thread nD τ).loc main_arg3)) (hd t)
    (fun s => iblk m c 0 (run s)) (fun s => iblk m c 3 (run s)) (fun s => iblk m c 1 (run s)) f0 f1
    (fun s j d => (k_at m c (run s) j d).trans (by rw [hh s]))
    (fun s g r d => (q_at m c (run s) g r d).trans (by rw [hh s, ht s]))
    (fun s g r d => (o_at m c (run s) g r d).trans (by rw [hh s, ht s])) (y 0) (y 1)).trans (congrArg _ ?_)
  blk_ext [idx t]

end Cert.AttnIdeal.Bridge

end
-- ==== Proof.Finite.lean ====
/- Real numbers among the extended reals: what the preconditions of the certificate say of an array's entry. -/
module

public import Idealize.ShloMosaic.Lib.Pointwise
public import Idealize.ShloMosaic.Lib.IdealHost

@[expose] public section

noncomputable section

namespace Cert.Finite

open Idealize.ShloMosaic

/-- The pattern of infinity denotes it. -/
theorem ofBits_inf : Ideal.ofBits .f32 0x7F800000#32 = (⊤ : EReal) := by
  simp [Ideal.ofBits, Ideal.ieee]

/-- A number whose absolute value is below infinity is a real number. -/
theorem ne_of_abs (x : EReal) (h : Ideal.cmp .olt (max x (-x)) (Ideal.ofBits .f32 0x7F800000#32) = 1#1) : x ≠ ⊥ ∧ x ≠ ⊤ := by
  rw [ofBits_inf] at h
  have : max x (-x) < ⊤ := by
    by_contra hn
    simp [Ideal.cmp, hn] at h
  refine ⟨?_, ?_⟩ <;> rintro rfl <;> simp at this

end Cert.Finite

end
-- ==== Proof.AttnClaims.lean ====
/- The claims of the attention's backward call: the frames, the named constant, and the value claim under finite queries
   and keys. -/
module

public import proofs.«01_k».proof.Defs
public import proofs.«01_k».proof.Proof.AttnValue
public import proofs.«01_k».proof.Proof.Finite
public import proofs.«01_k».proof.Proof.Gen.Attn.Frame
public import proofs.«01_k».proof.Proof.Gen.AttnRefIdeal.Run
public import proofs.«01_k».proof.Proof.Gen.AttnRefIdeal.Read
public import proofs.«01_k».proof.Proof.Gen.Pre_finite_qk
public import Idealize.ShloMosaic.Lib.Claim
public import Idealize.ShloMosaic.Lib.Quiescent

@[expose] public section

set_option maxRecDepth 16384

noncomputable section

namespace Cert.AttnClaims

open Idealize.ShloMosaic Idealize.ShloMosaic.TcCoe Idealize.SL.Sem

/-- The kernel's constant is named for a multiple of the scores' factor. -/
theorem preserves : Cert.preserves_Attn_AttnIdeal :=
  IdealRules.named_const.statement Cert.AttnIdeal.κ "scale_log2e" .f32 0x3E0293EE#32
    (((11863283 / 134217728) * (Real.log 2)⁻¹ : ℝ) : EReal) rfl

/-- The precondition's first array says the queries are finite, -/
theorem finite_q (A0 : FVec Ideal Cert.Pre_finite_qk.S2048x1024 .bf16) (A1 : FVec Ideal Cert.Pre_finite_qk.S2048x256 .bf16)
    (A2 : FVec Ideal Cert.Pre_finite_qk.S2048x512 .bf16) (A3 : FVec Ideal Cert.Pre_finite_qk.S2048x1024 .bf16)
    (h : (Cert.Pre_finite_qk.fn (F := Ideal) A0 A1 A2 A3).1 = fun _ => 1#1) (i : Cert.Pre_finite_qk.S2048x1024.Idx) :
    (show EReal from A0 i) ≠ ⊥ ∧ (show EReal from A0 i) ≠ ⊤ := by
  exact Finite.ne_of_abs _ (congrFun h i)

/-- and its second array that the keys are. -/
theorem finite_k (A0 : FVec Ideal Cert.Pre_finite_qk.S2048x1024 .bf16) (A1 : FVec Ideal Cert.Pre_finite_qk.S2048x256 .bf16)
    (A2 : FVec Ideal Cert.Pre_finite_qk.S2048x512 .bf16) (A3 : FVec Ideal Cert.Pre_finite_qk.S2048x1024 .bf16)
    (h : (Cert.Pre_finite_qk.fn (F := Ideal) A0 A1 A2 A3).2 = fun _ => 1#1) (i : Cert.Pre_finite_qk.S2048x256.Idx) :
    (show EReal from A1 i) ≠ ⊥ ∧ (show EReal from A1 i) ≠ ⊤ := by
  exact Finite.ne_of_abs _ (congrFun h i)

section
open Cert.AttnRefIdeal Cert.AttnRefIdeal.Gen

/-- The reference's run, its results named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v67) = Read.val_main_v67 (F := Ideal) (m ((c.tc : Thread nD τ).loc main_arg0))
          (m ((c.tc : Thread nD τ).loc main_arg1)) (m ((c.tc : Thread nD τ).loc main_arg2)) (m ((c.tc : Thread nD τ).loc main_arg3))
      ∧ r.2.mem ((c.tc : Thread nD τ).loc main_v68) = Read.val_main_v68 (F := Ideal) (m ((c.tc : Thread nD τ).loc main_arg0))
          (m ((c.tc : Thread nD τ).loc main_arg1)) (m ((c.tc : Thread nD τ).loc main_arg2)) (m ((c.tc : Thread nD τ).loc main_arg3))
      ∧ r.2.mem ((c.tc : Thread nD τ).loc main_v69) = Read.val_main_v69 (F := Ideal) (m ((c.tc : Thread nD τ).loc main_arg0))
          (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (Read.val_main_v67_eq m c), (h c).2.1.trans (Read.val_main_v68_eq m c),
    (h c).2.2.1.trans (Read.val_main_v69_eq _ _ _), (h c).2.2.2⟩) (Value.run m ρ)

end

theorem frame_p : Cert.quiescent_Attn := fun m ρ _ => Cert.Attn.Gen.frame m ρ
theorem frame_pi : Cert.quiescent_AttnIdeal := fun m ρ _ => Cert.AttnIdeal.Gen.frame m ρ
theorem frame_pi_pre : Cert.quiescent_AttnIdeal_pre_finite_qk := fun m ρ _ => Cert.AttnIdeal.Gen.frame m ρ
theorem frame_ri : Cert.quiescent_AttnRefIdeal := fun m g _ =>
  (θ_run Cert.AttnRefIdeal.defs _ _).mono (fun r h => ⟨fun c => (h c).2.2.2, sem_eq_zero_of_no_sems (by decide) r.2⟩)
    (Cert.AttnRefIdeal.Value.run (F := Ideal) m g)
theorem frame_ri_pre : Cert.quiescent_AttnRefIdeal_pre_finite_qk := fun m g _ => frame_ri m g trivial

theorem algebraic : Cert.algebraic_AttnIdeal_AttnRefIdeal_pre_finite_qk := by
  pair_intro
  · run_from Cert.AttnIdeal.Value.run_blocks m g
  · have f0 : ∀ c : Dev Cert.AttnIdeal.nD, Cert.AttnIdeal.Blocks.Fin0 (φ := .bf16) (S := Cert.AttnIdeal.S2048x1024)
        (m ((c.tc : Thread Cert.AttnIdeal.nD Cert.AttnIdeal.τ).loc Cert.AttnIdeal.main_arg0)) :=
      fun c => finite_q _ _ _ _ (hpre c).1
    have f1 : ∀ c : Dev Cert.AttnIdeal.nD, Cert.AttnIdeal.Blocks.Fin0 (φ := .bf16) (S := Cert.AttnIdeal.S2048x256)
        (m ((c.tc : Thread Cert.AttnIdeal.nD Cert.AttnIdeal.τ).loc Cert.AttnIdeal.main_arg1)) :=
      fun c => finite_k _ _ _ _ (hpre c).2
    run_from run_ref m' g'
    · exact (Cert.AttnIdeal.Bridge.fin4 m c (f0 c) (f1 c)).symm
    · exact (Cert.AttnIdeal.Bridge.fin5 m c (f0 c) (f1 c)).symm
    · exact (Cert.AttnIdeal.Bridge.fin6 m c (f0 c) (f1 c)).symm

end Cert.AttnClaims

end
-- ==== Proof.Gate.lean ====
/- The sigmoid gate over the extended reals: the derivative of `g · σ(g)`, in the two forms it is written in. -/
module

public import Idealize.ShloMosaic.PureOps.Ideal
public import proofs.«01_k».proof.Proof.Softmax

@[expose] public section

noncomputable section

namespace Cert.Gate

open Idealize.ShloMosaic

/-- The pattern of one denotes it. -/
theorem ofBits_one : Ideal.ofBits .f32 0x3F800000#32 = (1 : EReal) := by
  simp [Ideal.ofBits, Ideal.ieee]
  rw [← EReal.coe_mul, ← EReal.coe_one]
  norm_num

/-- The sigmoid, spelt out. -/
theorem sigmoid_eq (g : EReal) :
    Ideal.div (Ideal.ofBits .f32 0x3F800000#32) (Ideal.ofBits .f32 0x3F800000#32 + Ideal.exp (-g)) = Ideal.logistic g := by
  rw [ofBits_one]; rfl

/-- For a finite cotangent `e`, the derivative of `g · σ(g)` by the product rule is the one with `σ(g)` taken out.
    The gate itself may be infinite. -/
theorem silu_bwd (e g : EReal) (h : e ≠ ⊥ ∧ e ≠ ⊤) :
    e * Ideal.logistic g * (1 + g * (1 - Ideal.logistic g))
      = e * Ideal.logistic g + g * e * (Ideal.logistic g * (1 - Ideal.logistic g)) := by
  lift e to ℝ using ⟨h.2, h.1⟩
  have one_sub_one : (1 : EReal) - 1 = 0 := by
    rw [← EReal.coe_one, ← EReal.coe_sub, sub_self, EReal.coe_zero]
  induction g with
  | bot => simp only [Ideal.logistic_bot, mul_zero, zero_mul, add_zero]
  | top => simp only [Ideal.logistic_top, one_sub_one, mul_zero, add_zero, mul_one]
  | coe g =>
    rw [Ideal.logistic_coe, ← EReal.coe_one]
    norm_cast
    ring

/-- A sum of products of finite numbers is finite. -/
theorem finite_sum {ι : Type} (s : Finset ι) (f g : ι → EReal) (hf : ∀ i, f i ≠ ⊥ ∧ f i ≠ ⊤) (hg : ∀ i, g i ≠ ⊥ ∧ g i ≠ ⊤) :
    ∑ i ∈ s, f i * g i ≠ ⊥ ∧ ∑ i ∈ s, f i * g i ≠ ⊤ := by
  have e : ∑ i ∈ s, f i * g i = ((∑ i ∈ s, (f i).toReal * (g i).toReal : ℝ) : EReal) := by
    rw [Softmax.coe_sum]
    refine Finset.sum_congr rfl fun i _ => ?_
    rw [EReal.coe_mul, EReal.coe_toReal (hf i).2 (hf i).1, EReal.coe_toReal (hg i).2 (hg i).1]
  rw [e]
  exact ⟨EReal.coe_ne_bot _, EReal.coe_ne_top _⟩

/-- A product of finite numbers is finite. -/
theorem finite_mul (a b : EReal) (ha : a ≠ ⊥ ∧ a ≠ ⊤) (hb : b ≠ ⊥ ∧ b ≠ ⊤) : a * b ≠ ⊥ ∧ a * b ≠ ⊤ := by
  lift a to ℝ using ⟨ha.2, ha.1⟩
  lift b to ℝ using ⟨hb.2, hb.1⟩
  rw [← EReal.coe_mul]
  exact ⟨EReal.coe_ne_bot _, EReal.coe_ne_top _⟩

end Cert.Gate

end
-- ==== Proof.FfnValue.lean ====
/- The gradient of the gated feed-forward through its last product: the kernel's arrays are the reference's where the
   cotangent, the weight and the linear branch are finite. -/
module

public import proofs.«01_k».proof.Proof.Gen.FfnIdeal.Value
public import proofs.«01_k».proof.Proof.Gen.FfnRefIdeal.Read
public import proofs.«01_k».proof.Proof.Gate
public import Idealize.ShloMosaic.Lib.Pipeline.ValueKit

@[expose] public section

set_option maxRecDepth 16384

noncomputable section

namespace Cert.FfnRefIdeal.At

open Cert.FfnRefIdeal Cert.FfnRefIdeal.Gen Cert.FfnRefIdeal.Read
open Idealize.ShloMosaic Idealize.ShloMosaic.TcCoe Idealize.SL.Sem

variable (dx : FVec Ideal S2048x2048 .bf16) (w : FVec Ideal S5632x2048 .bf16) (fg fu : FVec Ideal S2048x5632 .bf16)

/-- The cotangent of the product's left side. -/
theorem at7 (i : Fin 2048) (j : Fin 5632) :
    val_main_v7 (F := Ideal) dx w (ix2 i j) = ∑ k : Fin 2048, dx (ix2 i k) * w (ix2 j k) := by
  pointwise [val_main_v7, val_main_v6, val_main_v4]

/-- The gate's sigmoid, -/
theorem at2_2 (i : Fin 2048) (j : Fin 5632) : val_main_v2_2 (F := Ideal) fg (ix2 i j) = Ideal.logistic (fg (ix2 i j)) := by
  rw [← Gate.sigmoid_eq]
  pointwise [val_main_v2_2, val_main_call0_v4, val_main_call0_cst_0, val_main_call0_v3, val_main_call0_v2, val_main_call0_cst,
    val_main_call0_v1, val_main_call0_v0, val_main_v0]

/-- its derivative, -/
theorem at2_1 (i : Fin 2048) (j : Fin 5632) :
    val_main_v2_1 (F := Ideal) fg (ix2 i j) = Ideal.logistic (fg (ix2 i j)) * (1 - Ideal.logistic (fg (ix2 i j))) := by
  rw [val_main_v2_1_apply, val_main_call0_v7_apply, at2_2, ← Gate.ofBits_one]
  pointwise [val_main_call0_v6, val_main_call0_cst_1]

/-- and the gated value. -/
theorem at2_0 (i : Fin 2048) (j : Fin 5632) :
    val_main_v2_0 (F := Ideal) fg (ix2 i j) = fg (ix2 i j) * Ideal.logistic (fg (ix2 i j)) := by
  rw [val_main_v2_0_apply, at2_2]
  pointwise [val_main_v0]

/-- The gate's gradient. -/
theorem at11 (i : Fin 2048) (j : Fin 5632) :
    val_main_v11 (F := Ideal) dx w fg fu (ix2 i j)
      = (∑ k : Fin 2048, dx (ix2 i k) * w (ix2 j k)) * fu (ix2 i j) * Ideal.logistic (fg (ix2 i j))
        + fg (ix2 i j) * ((∑ k : Fin 2048, dx (ix2 i k) * w (ix2 j k)) * fu (ix2 i j))
          * (Ideal.logistic (fg (ix2 i j)) * (1 - Ideal.logistic (fg (ix2 i j)))) := by
  rw [← at7]
  rw [val_main_v11_apply, val_main_v10_apply, val_main_call1_v1_apply, val_main_call1_v2_apply, val_main_call1_v0_apply,
    val_main_v9_apply, at2_2, at2_1]
  pointwise [val_main_v0, val_main_v1]

/-- The linear branch's gradient. -/
theorem at12 (i : Fin 2048) (j : Fin 5632) :
    val_main_v12 (F := Ideal) dx w fg (ix2 i j)
      = fg (ix2 i j) * Ideal.logistic (fg (ix2 i j)) * ∑ k : Fin 2048, dx (ix2 i k) * w (ix2 j k) := by
  rw [← at7, val_main_v12_apply, val_main_v8_apply, at2_0]
  pointwise

end Cert.FfnRefIdeal.At

namespace Cert.FfnIdeal.Bridge

open Cert.FfnIdeal Cert.FfnIdeal.Gen Idealize.ShloMosaic Idealize.ShloMosaic.TcCoe Idealize.SL.Sem
open Idealize.ShloMosaic.Pipeline (Dat)

variable (m : (ℓ : Loc nD τ sig) → Buf (Elt Ideal) ℓ)

/-- Every window's block at a grid point: the point is the tile of hidden features. -/
theorem idx : ∀ t : Fin cfg0.N, win0_0.index t = ![0, 0] ∧ win0_1.index t = ![t.val, 0] ∧ win0_2.index t = ![0, t.val]
    ∧ win0_3.index t = ![0, t.val] ∧ win0_4.index t = ![0, t.val] ∧ win0_5.index t = ![0, t.val] :=
  (by decide +kernel : ∀ t : Fin grid0.N, win0_0.index t = ![0, 0] ∧ win0_1.index t = ![t.val, 0] ∧ win0_2.index t = ![0, t.val]
    ∧ win0_3.index t = ![0, t.val] ∧ win0_4.index t = ![0, t.val] ∧ win0_5.index t = ![0, t.val])

section
variable (dx : FVec Ideal S2048x2048 .bf16) (w : FVec Ideal S512x2048 .bf16) (fg fu : FVec Ideal S2048x512 .bf16)

/-- A tile's product. -/
theorem pay1_at (i : Fin 2048) (j : Fin 512) :
    k0_pay1 (F := Ideal) dx w (ix2 i j) = ∑ k : Fin 2048, dx (ix2 i k) * w (ix2 j k) := by
  pointwise [k0_pay1]

/-- The gate's gradient on a tile, -/
theorem pay4_at (y : S2048x512.Idx) :
    k0_pay4 (F := Ideal) dx w fg fu y
      = k0_pay1 (F := Ideal) dx w y * fu y * Ideal.logistic (fg y) * (1 + fg y * (1 - Ideal.logistic (fg y))) := by
  rw [← Gate.ofBits_one]
  pointwise [k0_pay4, k0_pay3, k0_pay2]

/-- and the linear branch's. -/
theorem pay5_at (y : S2048x512.Idx) :
    k0_pay5 (F := Ideal) dx w fg y = k0_pay1 (F := Ideal) dx w y * fg y * Ideal.logistic (fg y) := by
  pointwise [k0_pay5, k0_pay3, k0_pay2]

end

/-- The tile's column. -/
abbrev col (t : Fin cfg0.N) (j : Fin 512) : Fin 5632 := ⟨t.val * 512 + j.val, by have := lt_of_lt_of_eq t.isLt (show cfg0.N = 11 from N_0); omega⟩

/-- The tile's product, from the arrays. -/
theorem prod_at (c : Dev nD) (t : Fin cfg0.N) (i : Fin 2048) (j : Fin 512) :
    k0_pay1 (F := Ideal) (iblk m c 0 t) (iblk m c 1 t) (ix2 i j)
      = ∑ k : Fin 2048, (show FVec Ideal S2048x2048 .bf16 from m ((c : Thread nD τ).loc main_arg0)) (ix2 i k)
          * (show FVec Ideal S5632x2048 .bf16 from m ((c : Thread nD τ).loc main_arg1)) (ix2 (col t j) k) := by
  rw [pay1_at]
  refine Finset.sum_congr rfl fun k _ => ?_
  blk_point [iblk, V, idx t]

theorem fg_at (c : Dev nD) (t : Fin cfg0.N) (i : Fin 2048) (j : Fin 512) :
    (show FVec Ideal S2048x512 .bf16 from iblk m c 2 t) (ix2 i j)
      = (show FVec Ideal S2048x5632 .bf16 from m ((c : Thread nD τ).loc main_arg2)) (ix2 i (col t j)) := by
  blk_point [iblk, V, idx t]

theorem fu_at (c : Dev nD) (t : Fin cfg0.N) (i : Fin 2048) (j : Fin 512) :
    (show FVec Ideal S2048x512 .bf16 from iblk m c 3 t) (ix2 i j)
      = (show FVec Ideal S2048x5632 .bf16 from m ((c : Thread nD τ).loc main_arg3)) (ix2 i (col t j)) := by
  blk_point [iblk, V, idx t]

/-- The gate's gradient. -/
theorem fin4 (c : Dev nD)
    (h0 : ∀ i, (show FVec Ideal S2048x2048 .bf16 from m ((c : Thread nD τ).loc main_arg0)) i ≠ (⊥ : EReal) ∧ (show FVec Ideal S2048x2048 .bf16 from m ((c : Thread nD τ).loc main_arg0)) i ≠ (⊤ : EReal))
    (h1 : ∀ i, (show FVec Ideal S5632x2048 .bf16 from m ((c : Thread nD τ).loc main_arg1)) i ≠ (⊥ : EReal) ∧ (show FVec Ideal S5632x2048 .bf16 from m ((c : Thread nD τ).loc main_arg1)) i ≠ (⊤ : EReal))
    (h3 : ∀ i, (show FVec Ideal S2048x5632 .bf16 from m ((c : Thread nD τ).loc main_arg3)) i ≠ (⊥ : EReal) ∧ (show FVec Ideal S2048x5632 .bf16 from m ((c : Thread nD τ).loc main_arg3)) i ≠ (⊤ : EReal)) :
    (dats m 0 c).arrAt 4 cfg0.N = Cert.FfnRefIdeal.Read.val_main_v11 (F := Ideal) (m ((c : Thread nD τ).loc main_arg0))
      (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  idx_vars y
  refine Eq.trans ?_ ((Cert.FfnRefIdeal.At.at11 _ _ _ _ y0 (col t y1)).symm.trans (congrArg _ (by blk_ext [idx t])))
  frame_out
  refine (pay4_at ..).trans ?_
  have e2 := fg_at m c t y0 y1
  have e3 := fu_at m c t y0 y1
  dsimp only at e2 e3
  rw [prod_at, e2, e3]
  exact Gate.silu_bwd _ _ (Gate.finite_mul _ _ (Gate.finite_sum _ _ _ (fun _ => h0 _) fun _ => h1 _) (h3 _))

/-- The linear branch's gradient. -/
theorem fin5 (c : Dev nD) :
    (dats m 0 c).arrAt 5 cfg0.N = Cert.FfnRefIdeal.Read.val_main_v12 (F := Ideal) (m ((c : Thread nD τ).loc main_arg0))
      (m ((c : Thread nD τ).loc main_arg1)) (m ((c : Thread nD τ).loc main_arg2)) := by
  refine (dats m 0 c).arrAt_eq_of_covers 5 _ (by decide +kernel) fun t _ y => ?_
  blk_simp
  rw [after0_5]
  idx_vars y
  refine Eq.trans ?_ ((Cert.FfnRefIdeal.At.at12 _ _ _ y0 (col t y1)).symm.trans (congrArg _ (by blk_ext [idx t])))
  frame_out
  refine (pay5_at ..).trans ?_
  have e2 := fg_at m c t y0 y1
  dsimp only at e2
  rw [prod_at, e2, mul_assoc, mul_comm]

end Cert.FfnIdeal.Bridge

end
-- ==== Proof.FfnClaims.lean ====
/- The claims of the feed-forward gradient: the frames, the constants kept, and the value claim under finite factors. -/
module

public import proofs.«01_k».proof.Defs
public import proofs.«01_k».proof.Proof.FfnValue
public import proofs.«01_k».proof.Proof.Finite
public import proofs.«01_k».proof.Proof.Gen.Pre_finite_ffn
public import proofs.«01_k».proof.Proof.Gen.Ffn.Frame
public import proofs.«01_k».proof.Proof.Gen.FfnRefIdeal.Run
public import proofs.«01_k».proof.Proof.Gen.FfnRefIdeal.Read
public import Idealize.ShloMosaic.Lib.Claim
public import Idealize.ShloMosaic.Lib.Quiescent

@[expose] public section

set_option maxRecDepth 16384

noncomputable section

namespace Cert.FfnClaims

open Idealize.ShloMosaic Idealize.ShloMosaic.TcCoe Idealize.SL.Sem

/-- No constant of the kernel is named. -/
theorem preserves : Cert.preserves_Ffn_FfnIdeal := trivial

/-- The precondition's first array says the cotangent is finite, -/
theorem finite_dx (A0 : FVec Ideal Cert.Pre_finite_ffn.S2048x2048 .bf16) (A1 : FVec Ideal Cert.Pre_finite_ffn.S5632x2048 .bf16) (A2 : FVec Ideal Cert.Pre_finite_ffn.S2048x5632 .bf16) (A3 : FVec Ideal Cert.Pre_finite_ffn.S2048x5632 .bf16)
    (h : (Cert.Pre_finite_ffn.fn (F := Ideal) A0 A1 A2 A3).1 = fun _ => 1#1) (i : Cert.Pre_finite_ffn.S2048x2048.Idx) :
    (show EReal from A0 i) ≠ ⊥ ∧ (show EReal from A0 i) ≠ ⊤ := by
  exact Finite.ne_of_abs _ (congrFun h i)

/-- its second that the weight is, -/
theorem finite_w (A0 : FVec Ideal Cert.Pre_finite_ffn.S2048x2048 .bf16) (A1 : FVec Ideal Cert.Pre_finite_ffn.S5632x2048 .bf16) (A2 : FVec Ideal Cert.Pre_finite_ffn.S2048x5632 .bf16) (A3 : FVec Ideal Cert.Pre_finite_ffn.S2048x5632 .bf16)
    (h : (Cert.Pre_finite_ffn.fn (F := Ideal) A0 A1 A2 A3).2.1 = fun _ => 1#1) (i : Cert.Pre_finite_ffn.S5632x2048.Idx) :
    (show EReal from A1 i) ≠ ⊥ ∧ (show EReal from A1 i) ≠ ⊤ := by
  exact Finite.ne_of_abs _ (congrFun h i)

/-- and its third that the product the gate multiplies is. -/
theorem finite_fu (A0 : FVec Ideal Cert.Pre_finite_ffn.S2048x2048 .bf16) (A1 : FVec Ideal Cert.Pre_finite_ffn.S5632x2048 .bf16) (A2 : FVec Ideal Cert.Pre_finite_ffn.S2048x5632 .bf16) (A3 : FVec Ideal Cert.Pre_finite_ffn.S2048x5632 .bf16)
    (h : (Cert.Pre_finite_ffn.fn (F := Ideal) A0 A1 A2 A3).2.2 = fun _ => 1#1) (i : Cert.Pre_finite_ffn.S2048x5632.Idx) :
    (show EReal from A3 i) ≠ ⊥ ∧ (show EReal from A3 i) ≠ ⊤ := by
  exact Finite.ne_of_abs _ (congrFun h i)

section
open Cert.FfnRefIdeal Cert.FfnRefIdeal.Gen

/-- The reference's run, its results named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v11) = Read.val_main_v11 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v12) = Read.val_main_v12 (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (Read.val_main_v11_eq _ _ _ _),
    (h c).2.1.trans (Read.val_main_v12_eq _ _ _),
    (h c).2.2⟩) (Value.run m ρ)

end

theorem frame_p : Cert.quiescent_Ffn := fun m ρ _ => Cert.Ffn.Gen.frame m ρ
theorem frame_pi : Cert.quiescent_FfnIdeal := fun m ρ _ => Cert.FfnIdeal.Gen.frame m ρ
theorem frame_ri : Cert.quiescent_FfnRefIdeal := fun m g _ =>
  (θ_run Cert.FfnRefIdeal.defs _ _).mono (fun r h => ⟨fun c => (h c).2.2, sem_eq_zero_of_no_sems (by decide) r.2⟩)
    (Cert.FfnRefIdeal.Value.run (F := Ideal) m g)
theorem frame_pi_pre : Cert.quiescent_FfnIdeal_pre_finite_ffn := fun m ρ _ => Cert.FfnIdeal.Gen.frame m ρ
theorem frame_ri_pre : Cert.quiescent_FfnRefIdeal_pre_finite_ffn := fun m g _ => frame_ri m g trivial

theorem algebraic : Cert.algebraic_FfnIdeal_FfnRefIdeal_pre_finite_ffn := by
  pair_intro
  · run_from Cert.FfnIdeal.Value.run_blocks m g
  · run_from run_ref m' g'
    · exact (Cert.FfnIdeal.Bridge.fin4 m c (finite_dx _ _ _ _ (hpre c).1) (finite_w _ _ _ _ (hpre c).2.1) (finite_fu _ _ _ _ (hpre c).2.2)).symm
    · exact (Cert.FfnIdeal.Bridge.fin5 m c).symm

end Cert.FfnClaims

end
-- ==== Proof.WffValue.lean ====
/- The gradient of a feed-forward weight: row tile by row tile, the kernel's array is the reference's product. -/
module

public import proofs.«01_k».proof.Proof.Gen.WffIdeal.Value
public import proofs.«01_k».proof.Proof.Gen.WffRefIdeal.Read
public import Idealize.ShloMosaic.Lib.Pipeline.ValueKit

@[expose] public section

set_option maxRecDepth 16384

noncomputable section

namespace Cert.WffRefIdeal.At

open Cert.WffRefIdeal Cert.WffRefIdeal.Gen Cert.WffRefIdeal.Read
open Idealize.ShloMosaic Idealize.ShloMosaic.TcCoe Idealize.SL.Sem

/-- The reference's gradient at an index: the sum over the tokens. -/
theorem at6 (x : FVec Ideal S2048x5632 .bf16) (ct : FVec Ideal S2048x2048 .bf16) (i : Fin 5632) (j : Fin 2048) :
    val_main_v6 (F := Ideal) x ct (ix2 i j) = ∑ k : Fin 2048, x (ix2 k i) * ct (ix2 k j) := by
  pointwise [val_main_v6, val_main_v5, val_main_v4, val_main_v3, val_main_v1]
  exact Finset.sum_congr rfl fun k _ => mul_comm _ _

end Cert.WffRefIdeal.At

namespace Cert.WffIdeal.Bridge

open Cert.WffIdeal Cert.WffIdeal.Gen Idealize.ShloMosaic Idealize.ShloMosaic.TcCoe Idealize.SL.Sem
open Idealize.ShloMosaic.Pipeline (Dat)

variable (m : (ℓ : Loc nD τ sig) → Buf (Elt Ideal) ℓ)

/-- Every window's block at a grid point: the point is the row tile. -/
theorem idx : ∀ t : Fin cfg0.N, win0_0.index t = ![0, t.val] ∧ win0_1.index t = ![0, 0] ∧ win0_2.index t = ![t.val, 0] :=
  (by decide +kernel : ∀ t : Fin grid0.N, win0_0.index t = ![0, t.val] ∧ win0_1.index t = ![0, 0] ∧ win0_2.index t = ![t.val, 0])

/-- A tile's stored values: products over all tokens. -/
theorem pay1_at (x : FVec Ideal S2048x512 .bf16) (ct : FVec Ideal S2048x2048 .bf16) (i : Fin 512) (j : Fin 2048) :
    k0_pay1 (F := Ideal) x ct (ix2 i j) = ∑ k : Fin 2048, x (ix2 k i) * ct (ix2 k j) := by
  pointwise [k0_pay1]

/-- What the point `t` stores is the reference's gradient at its place. -/
theorem point2 (c : Dev nD) (t : Fin cfg0.N) (y : S512x2048.Idx) :
    out0_2 (iblk m c 0 t) (iblk m c 1 t) y
      = Cert.WffRefIdeal.Read.val_main_v6 (F := Ideal) (m ((c : Thread nD τ).loc main_arg0)) (m ((c : Thread nD τ).loc main_arg1))
          ((win0_2.blk t).view.emb y) := by
  idx_vars y
  refine Eq.trans ?_ ((Cert.WffRefIdeal.At.at6 _ _ ⟨t.val * 512 + y0.val, by have := lt_of_lt_of_eq t.isLt (show cfg0.N = 11 from N_0); omega⟩ y1).symm.trans
    (congrArg _ (by blk_ext [idx t])))
  frame_out
  rw [pay1_at]
  refine Finset.sum_congr rfl fun k _ => ?_
  blk_point [iblk, V, idx t]

/-- The kernel's array is the reference's. -/
theorem fin2 (c : Dev nD) :
    (dats m 0 c).arrAt 2 cfg0.N
      = Cert.WffRefIdeal.Read.val_main_v6 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  exact point2 m c t y

end Cert.WffIdeal.Bridge

end
-- ==== Proof.WffClaims.lean ====
/- The claims of the weight gradient of a feed-forward product: the frames, the constants kept, and the value claim. -/
module

public import proofs.«01_k».proof.Defs
public import proofs.«01_k».proof.Proof.WffValue
public import proofs.«01_k».proof.Proof.Gen.Wff.Frame
public import proofs.«01_k».proof.Proof.Gen.WffRefIdeal.Run
public import proofs.«01_k».proof.Proof.Gen.WffRefIdeal.Read
public import Idealize.ShloMosaic.Lib.Claim
public import Idealize.ShloMosaic.Lib.Quiescent

@[expose] public section

set_option maxRecDepth 16384

noncomputable section

namespace Cert.WffClaims

open Idealize.ShloMosaic Idealize.ShloMosaic.TcCoe Idealize.SL.Sem

/-- No constant of the kernel is named. -/
theorem preserves : Cert.preserves_Wff_WffIdeal := trivial

section
open Cert.WffRefIdeal Cert.WffRefIdeal.Gen

/-- The reference's run, its results named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v6) = Read.val_main_v6 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (Read.val_main_v6_eq _ _),
    (h c).2⟩) (Value.run m ρ)

end

theorem frame_p : Cert.quiescent_Wff := fun m ρ _ => Cert.Wff.Gen.frame m ρ
theorem frame_pi : Cert.quiescent_WffIdeal := fun m ρ _ => Cert.WffIdeal.Gen.frame m ρ
theorem frame_ri : Cert.quiescent_WffRefIdeal := fun m g _ =>
  (θ_run Cert.WffRefIdeal.defs _ _).mono (fun r h => ⟨fun c => (h c).2, sem_eq_zero_of_no_sems (by decide) r.2⟩)
    (Cert.WffRefIdeal.Value.run (F := Ideal) m g)

theorem algebraic : Cert.algebraic_WffIdeal_WffRefIdeal := by
  pair_intro
  · run_from Cert.WffIdeal.Value.run_blocks m g
  · run_from run_ref m' g'
    exact (Cert.WffIdeal.Bridge.fin2 m c).symm

end Cert.WffClaims

end
-- ==== Proof.HfValue.lean ====
/- A product added to what there is (the feed-forward input's gradient through its linear branch): tile by tile and slice by
   slice of the contraction, the kernel's array is the reference's. -/
module

public import proofs.«01_k».proof.Proof.Gen.HfIdeal.Value
public import proofs.«01_k».proof.Proof.Gen.HfRefIdeal.Read
public import Idealize.ShloMosaic.Lib.Pipeline.ValueKit
public import Idealize.ShloMosaic.Lib.Pipeline.ReadBack

@[expose] public section

set_option maxRecDepth 16384

noncomputable section

namespace Cert.HfRefIdeal.At

open Cert.HfRefIdeal Cert.HfRefIdeal.Gen Cert.HfRefIdeal.Read
open Idealize.ShloMosaic Idealize.ShloMosaic.TcCoe Idealize.SL.Sem

/-- The reference's gradient at an index: the sum over the hidden features, and what there is. -/
theorem at6 (x : FVec Ideal S2048x5632 .bf16) (w : FVec Ideal S5632x2048 .bf16) (r : FVec Ideal S2048x2048 .f32) (i j : Fin 2048) :
    val_main_v6 (F := Ideal) x w r (ix2 i j) = (∑ k : Fin 5632, x (ix2 i k) * w (ix2 k j)) + r (ix2 i j) := by
  pointwise [val_main_v6, val_main_v5, val_main_v4, val_main_v2, val_main_v1]

end Cert.HfRefIdeal.At

namespace Cert.HfIdeal.Bridge

open Cert.HfIdeal Cert.HfIdeal.Gen Idealize.ShloMosaic Idealize.ShloMosaic.TcCoe Idealize.SL.Sem
open Idealize.ShloMosaic.Pipeline (Dat)

variable (m : (ℓ : Loc nD τ sig) → Buf (Elt Ideal) ℓ)

/-- Every window's block at a grid point: row tile, column tile, slice of the contraction. -/
theorem idx : ∀ t : Fin cfg0.N, win0_0.index t = ![t.val / 4, t.val % 2] ∧ win0_1.index t = ![t.val % 2, t.val / 2 % 2]
    ∧ win0_2.index t = ![t.val / 4, t.val / 2 % 2] ∧ win0_3.index t = ![t.val / 4, t.val / 2 % 2] :=
  (by decide +kernel : ∀ t : Fin grid0.N, win0_0.index t = ![t.val / 4, t.val % 2] ∧ win0_1.index t = ![t.val % 2, t.val / 2 % 2]
    ∧ win0_2.index t = ![t.val / 4, t.val / 2 % 2] ∧ win0_3.index t = ![t.val / 4, t.val / 2 % 2])

/-- A slice's products. -/
theorem pay1_at (x : FVec Ideal S1024x2816 .bf16) (w : FVec Ideal S2816x1024 .bf16) (i j : Fin 1024) :
    k0_pay1 (F := Ideal) x w (ix2 i j) = ∑ k : Fin 2816, x (ix2 i k) * w (ix2 k j) := by
  pointwise [k0_pay1]

/-- The first slice's store, -/
theorem pay2_at (x : FVec Ideal S1024x2816 .bf16) (w : FVec Ideal S2816x1024 .bf16) (y : S1024x1024.Idx) :
    k0_pay2 (F := Ideal) x w y = k0_pay1 (F := Ideal) x w y := by
  pointwise [k0_pay2]

/-- the later slices', added to what is there, -/
theorem pay3_at (x : FVec Ideal S1024x2816 .bf16) (w : FVec Ideal S2816x1024 .bf16) (a : FVec Ideal S1024x1024 .f32) (y : S1024x1024.Idx) :
    k0_pay3 (F := Ideal) x w a y = a y + k0_pay1 (F := Ideal) x w y := by
  pointwise [k0_pay3]

/-- and the last store of the tile. -/
theorem pay4_at (a r : FVec Ideal S1024x1024 .f32) (y : S1024x1024.Idx) : k0_pay4 (F := Ideal) a r y = a y + r y := by
  pointwise [k0_pay4]

/-- Where a tile is stored, the output's buffer holds what the accumulator does and what there was. -/
theorem stored (c : Dev nD) (t : Fin cfg0.N) (h : t.val % 2 = 1) (y : S1024x1024.Idx) :
    (outsAt0 m c t.val t.isLt).1 y = (outsAt0 m c t.val t.isLt).2 y + (show FVec Ideal S1024x1024 .f32 from iblk m c 2 t) y := by
  rw [outsAt0_B m c t (by omega) h h]
  frame_out
  rw [pay4_at]

/-- The accumulator where a tile is stored: its slices' products summed. -/
theorem acc (c : Dev nD) (t : Fin cfg0.N) (h : t.val % 2 = 1) (y : S1024x1024.Idx) :
    (outsAt0 m c t.val t.isLt).2 y
      = ∑ s : Fin 2, k0_pay1 (F := Ideal) (iblk m c 0 ⟨_, Pipeline.run_point_lt_of_flush t h s⟩)
          (iblk m c 1 ⟨_, Pipeline.run_point_lt_of_flush t h s⟩) y := by
  rw [Pipeline.eq_sum_fin_of_reset_step_apply_of_flush (fun n h => (outsAt0 m c n h).2) 2 (fun _ => 0)
    (fun p j => k0_pay1 (F := Ideal) (iblk m c 0 p) (iblk m c 1 p) j)
    (fun t h j => by
      rw [outsAt0_A m c t h (by omega) (by omega)]; frame_out
      rw [pay2_at, zero_add])
    (fun t h j => by
      rw [outsAt0_B m c t h (by omega) (by omega)]; frame_out
      rw [pay3_at, read_unread_whole])
    t h _, zero_add]

/-- The kernel's array is the reference's. -/
theorem fin3 (c : Dev nD) :
    (dats m 0 c).arrAt 3 cfg0.N
      = Cert.HfRefIdeal.Read.val_main_v6 (F := Ideal) (m ((c : Thread nD τ).loc main_arg0)) (m ((c : Thread nD τ).loc main_arg1))
          (m ((c : Thread nD τ).loc main_arg2)) := by
  refine (dats m 0 c).arrAt_eq_of_covers 3 _ (by decide +kernel) fun t hf y => ?_
  blk_simp
  have hN : t.val < 8 := lt_of_lt_of_eq t.isLt (show cfg0.N = 8 from N_0)
  have h2 : t.val % 2 = 1 := (flush0_3 t).mp hf
  rw [after0_3, stored m c t h2, acc m c t h2]
  idx_vars y
  refine Eq.trans ?_ ((Cert.HfRefIdeal.At.at6 _ _ _ ⟨t.val / 4 * 1024 + y0.val, by omega⟩ ⟨t.val / 2 % 2 * 1024 + y1.val, by omega⟩).symm.trans
    (congrArg _ (by blk_ext [idx t])))
  simp only [pay1_at]
  refine congr (congrArg _ (Fin.sum_mul_add_congr ?_)) ?_
  · intro s k hl
    blk_point [iblk, V, idx]
  · blk_point [iblk, V, idx]

end Cert.HfIdeal.Bridge

end
-- ==== Proof.HfClaims.lean ====
/- The claims of a product with an addend: the frames, the constants kept, and the value claim. -/
module

public import proofs.«01_k».proof.Defs
public import proofs.«01_k».proof.Proof.HfValue
public import proofs.«01_k».proof.Proof.Gen.Hf.Frame
public import proofs.«01_k».proof.Proof.Gen.HfRefIdeal.Run
public import proofs.«01_k».proof.Proof.Gen.HfRefIdeal.Read
public import Idealize.ShloMosaic.Lib.Claim
public import Idealize.ShloMosaic.Lib.Quiescent

@[expose] public section

set_option maxRecDepth 16384

noncomputable section

namespace Cert.HfClaims

open Idealize.ShloMosaic Idealize.ShloMosaic.TcCoe Idealize.SL.Sem

/-- No constant of the kernel is named. -/
theorem preserves : Cert.preserves_Hf_HfIdeal := trivial

section
open Cert.HfRefIdeal Cert.HfRefIdeal.Gen

/-- The reference's run, its results named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v6) = Read.val_main_v6 (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (Read.val_main_v6_eq _ _ _),
    (h c).2⟩) (Value.run m ρ)

end

theorem frame_p : Cert.quiescent_Hf := fun m ρ _ => Cert.Hf.Gen.frame m ρ
theorem frame_pi : Cert.quiescent_HfIdeal := fun m ρ _ => Cert.HfIdeal.Gen.frame m ρ
theorem frame_ri : Cert.quiescent_HfRefIdeal := fun m g _ =>
  (θ_run Cert.HfRefIdeal.defs _ _).mono (fun r h => ⟨fun c => (h c).2, sem_eq_zero_of_no_sems (by decide) r.2⟩)
    (Cert.HfRefIdeal.Value.run (F := Ideal) m g)

theorem algebraic : Cert.algebraic_HfIdeal_HfRefIdeal := by
  pair_intro
  · run_from Cert.HfIdeal.Value.run_blocks m g
  · run_from run_ref m' g'
    exact (Cert.HfIdeal.Bridge.fin3 m c).symm

end Cert.HfClaims

end
-- ==== Proof.HgValue.lean ====
/- The feed-forward input's gradient through the gate: tile by tile and slice by slice of the contraction, the kernel's
   array is the reference's product. -/
module

public import proofs.«01_k».proof.Proof.Gen.HgIdeal.Value
public import proofs.«01_k».proof.Proof.Gen.HgRefIdeal.Read
public import Idealize.ShloMosaic.Lib.Pipeline.ValueKit
public import Idealize.ShloMosaic.Lib.Pipeline.ReadBack

@[expose] public section

set_option maxRecDepth 16384

noncomputable section

namespace Cert.HgRefIdeal.At

open Cert.HgRefIdeal Cert.HgRefIdeal.Gen Cert.HgRefIdeal.Read
open Idealize.ShloMosaic Idealize.ShloMosaic.TcCoe Idealize.SL.Sem

/-- The reference's gradient at an index: the sum over the hidden features. -/
theorem at5 (x : FVec Ideal S2048x5632 .bf16) (w : FVec Ideal S5632x2048 .bf16) (i j : Fin 2048) :
    val_main_v5 (F := Ideal) x w (ix2 i j) = ∑ k : Fin 5632, x (ix2 i k) * w (ix2 k j) := by
  pointwise [val_main_v5, val_main_v4, val_main_v2, val_main_v1]

end Cert.HgRefIdeal.At

namespace Cert.HgIdeal.Bridge

open Cert.HgIdeal Cert.HgIdeal.Gen Idealize.ShloMosaic Idealize.ShloMosaic.TcCoe Idealize.SL.Sem
open Idealize.ShloMosaic.Pipeline (Dat)

variable (m : (ℓ : Loc nD τ sig) → Buf (Elt Ideal) ℓ)

/-- Every window's block at a grid point: row tile, column tile, slice of the contraction. -/
theorem idx : ∀ t : Fin cfg0.N, win0_0.index t = ![t.val / 4, t.val % 2] ∧ win0_1.index t = ![t.val % 2, t.val / 2 % 2]
    ∧ win0_2.index t = ![t.val / 4, t.val / 2 % 2] :=
  (by decide +kernel : ∀ t : Fin grid0.N, win0_0.index t = ![t.val / 4, t.val % 2] ∧ win0_1.index t = ![t.val % 2, t.val / 2 % 2]
    ∧ win0_2.index t = ![t.val / 4, t.val / 2 % 2])

/-- A slice's products. -/
theorem pay1_at (x : FVec Ideal S1024x2816 .bf16) (w : FVec Ideal S2816x1024 .bf16) (i j : Fin 1024) :
    k0_pay1 (F := Ideal) x w (ix2 i j) = ∑ k : Fin 2816, x (ix2 i k) * w (ix2 k j) := by
  pointwise [k0_pay1]

/-- The first slice's store, -/
theorem pay2_at (x : FVec Ideal S1024x2816 .bf16) (w : FVec Ideal S2816x1024 .bf16) (y : S1024x1024.Idx) :
    k0_pay2 (F := Ideal) x w y = k0_pay1 (F := Ideal) x w y := by
  pointwise [k0_pay2]

/-- the later slices', added to what is there, -/
theorem pay3_at (x : FVec Ideal S1024x2816 .bf16) (w : FVec Ideal S2816x1024 .bf16) (a : FVec Ideal S1024x1024 .f32) (y : S1024x1024.Idx) :
    k0_pay3 (F := Ideal) x w a y = a y + k0_pay1 (F := Ideal) x w y := by
  pointwise [k0_pay3]

/-- and the last store of the tile. -/
theorem pay4_at (a : FVec Ideal S1024x1024 .f32) (y : S1024x1024.Idx) : k0_pay4 (F := Ideal) a y = a y := by
  pointwise [k0_pay4]

/-- Where a tile is stored, the output's buffer holds what the accumulator does. -/
theorem stored (c : Dev nD) (t : Fin cfg0.N) (h : t.val % 2 = 1) (y : S1024x1024.Idx) :
    (outsAt0 m c t.val t.isLt).1 y = (outsAt0 m c t.val t.isLt).2 y := by
  rw [outsAt0_B m c t (by omega) h h]
  frame_out
  rw [pay4_at]

/-- The accumulator where a tile is stored: its slices' products summed. -/
theorem acc (c : Dev nD) (t : Fin cfg0.N) (h : t.val % 2 = 1) (y : S1024x1024.Idx) :
    (outsAt0 m c t.val t.isLt).2 y
      = ∑ s : Fin 2, k0_pay1 (F := Ideal) (iblk m c 0 ⟨_, Pipeline.run_point_lt_of_flush t h s⟩)
          (iblk m c 1 ⟨_, Pipeline.run_point_lt_of_flush t h s⟩) y := by
  rw [Pipeline.eq_sum_fin_of_reset_step_apply_of_flush (fun n h => (outsAt0 m c n h).2) 2 (fun _ => 0)
    (fun p j => k0_pay1 (F := Ideal) (iblk m c 0 p) (iblk m c 1 p) j)
    (fun t h j => by
      rw [outsAt0_A m c t h (by omega) (by omega)]; frame_out
      rw [pay2_at, zero_add])
    (fun t h j => by
      rw [outsAt0_B m c t h (by omega) (by omega)]; frame_out
      rw [pay3_at, read_unread_whole])
    t h _, zero_add]

/-- The kernel's array is the reference's. -/
theorem fin2 (c : Dev nD) :
    (dats m 0 c).arrAt 2 cfg0.N
      = Cert.HgRefIdeal.Read.val_main_v5 (F := Ideal) (m ((c : Thread nD τ).loc main_arg0)) (m ((c : Thread nD τ).loc main_arg1)) := by
  refine (dats m 0 c).arrAt_eq_of_covers 2 _ (by decide +kernel) fun t hf y => ?_
  blk_simp
  have hN : t.val < 8 := lt_of_lt_of_eq t.isLt (show cfg0.N = 8 from N_0)
  have h2 : t.val % 2 = 1 := (flush0_2 t).mp hf
  rw [after0_2, stored m c t h2, acc m c t h2]
  idx_vars y
  refine Eq.trans ?_ ((Cert.HgRefIdeal.At.at5 _ _ ⟨t.val / 4 * 1024 + y0.val, by omega⟩ ⟨t.val / 2 % 2 * 1024 + y1.val, by omega⟩).symm.trans
    (congrArg _ (by blk_ext [idx t])))
  simp only [pay1_at]
  refine Fin.sum_mul_add_congr ?_
  intro s k hl
  blk_point [iblk, V, idx]

end Cert.HgIdeal.Bridge

end
-- ==== Proof.HgClaims.lean ====
/- The claims of the feed-forward input's cotangent through the gate product: the frames, the constants kept, and the value claim. -/
module

public import proofs.«01_k».proof.Defs
public import proofs.«01_k».proof.Proof.HgValue
public import proofs.«01_k».proof.Proof.Gen.Hg.Frame
public import proofs.«01_k».proof.Proof.Gen.HgRefIdeal.Run
public import proofs.«01_k».proof.Proof.Gen.HgRefIdeal.Read
public import Idealize.ShloMosaic.Lib.Claim
public import Idealize.ShloMosaic.Lib.Quiescent

@[expose] public section

set_option maxRecDepth 16384

noncomputable section

namespace Cert.HgClaims

open Idealize.ShloMosaic Idealize.ShloMosaic.TcCoe Idealize.SL.Sem

/-- No constant of the kernel is named. -/
theorem preserves : Cert.preserves_Hg_HgIdeal := trivial

section
open Cert.HgRefIdeal Cert.HgRefIdeal.Gen

/-- The reference's run, its results named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v5) = Read.val_main_v5 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (Read.val_main_v5_eq _ _),
    (h c).2⟩) (Value.run m ρ)

end

theorem frame_p : Cert.quiescent_Hg := fun m ρ _ => Cert.Hg.Gen.frame m ρ
theorem frame_pi : Cert.quiescent_HgIdeal := fun m ρ _ => Cert.HgIdeal.Gen.frame m ρ
theorem frame_ri : Cert.quiescent_HgRefIdeal := fun m g _ =>
  (θ_run Cert.HgRefIdeal.defs _ _).mono (fun r h => ⟨fun c => (h c).2, sem_eq_zero_of_no_sems (by decide) r.2⟩)
    (Cert.HgRefIdeal.Value.run (F := Ideal) m g)

theorem algebraic : Cert.algebraic_HgIdeal_HgRefIdeal := by
  pair_intro
  · run_from Cert.HgIdeal.Value.run_blocks m g
  · run_from run_ref m' g'
    exact (Cert.HgIdeal.Bridge.fin2 m c).symm

end Cert.HgClaims

end
-- ==== Proof.WinValue.lean ====
/- The gradient of the input projection's weight: row tile by row tile, the kernel's array is the reference's product. -/
module

public import proofs.«01_k».proof.Proof.Gen.WinIdeal.Value
public import proofs.«01_k».proof.Proof.Gen.WinRefIdeal.Read
public import Idealize.ShloMosaic.Lib.Pipeline.ValueKit

@[expose] public section

set_option maxRecDepth 16384

noncomputable section

namespace Cert.WinRefIdeal.At

open Cert.WinRefIdeal Cert.WinRefIdeal.Gen Cert.WinRefIdeal.Read
open Idealize.ShloMosaic Idealize.ShloMosaic.TcCoe Idealize.SL.Sem

/-- The reference's gradient at an index: the sum over the tokens. -/
theorem at7 (x : FVec Ideal S2048x11776 .bf16) (ct : FVec Ideal S2048x2048 .bf16) (i : Fin 11776) (j : Fin 2048) :
    val_main_v7 (F := Ideal) x ct (ix2 i j) = ∑ k : Fin 2048, x (ix2 k i) * ct (ix2 k j) := by
  pointwise [val_main_v7, val_main_v6, val_main_v5, val_main_v4, val_main_v3, val_main_v1]

end Cert.WinRefIdeal.At

namespace Cert.WinIdeal.Bridge

open Cert.WinIdeal Cert.WinIdeal.Gen Idealize.ShloMosaic Idealize.ShloMosaic.TcCoe Idealize.SL.Sem
open Idealize.ShloMosaic.Pipeline (Dat)

variable (m : (ℓ : Loc nD τ sig) → Buf (Elt Ideal) ℓ)

/-- Every window's block at a grid point: the point is the row tile. -/
theorem idx : ∀ t : Fin cfg0.N, win0_0.index t = ![0, t.val] ∧ win0_1.index t = ![0, 0] ∧ win0_2.index t = ![t.val, 0] :=
  (by decide +kernel : ∀ t : Fin grid0.N, win0_0.index t = ![0, t.val] ∧ win0_1.index t = ![0, 0] ∧ win0_2.index t = ![t.val, 0])

/-- A tile's stored values: products over all tokens. -/
theorem pay1_at (x : FVec Ideal S2048x512 .bf16) (ct : FVec Ideal S2048x2048 .bf16) (i : Fin 512) (j : Fin 2048) :
    k0_pay1 (F := Ideal) x ct (ix2 i j) = ∑ k : Fin 2048, x (ix2 k i) * ct (ix2 k j) := by
  pointwise [k0_pay1]

/-- What the point `t` stores is the reference's gradient at its place. -/
theorem point2 (c : Dev nD) (t : Fin cfg0.N) (y : S512x2048.Idx) :
    out0_2 (iblk m c 0 t) (iblk m c 1 t) y
      = Cert.WinRefIdeal.Read.val_main_v7 (F := Ideal) (m ((c : Thread nD τ).loc main_arg0)) (m ((c : Thread nD τ).loc main_arg1))
          ((win0_2.blk t).view.emb y) := by
  idx_vars y
  refine Eq.trans ?_ ((Cert.WinRefIdeal.At.at7 _ _ ⟨t.val * 512 + y0.val, by have := lt_of_lt_of_eq t.isLt (show cfg0.N = 23 from N_0); omega⟩ y1).symm.trans
    (congrArg _ (by blk_ext [idx t])))
  frame_out
  rw [pay1_at]
  refine Finset.sum_congr rfl fun k _ => ?_
  blk_point [iblk, V, idx t]

/-- The kernel's array is the reference's. -/
theorem fin2 (c : Dev nD) :
    (dats m 0 c).arrAt 2 cfg0.N
      = Cert.WinRefIdeal.Read.val_main_v7 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  exact point2 m c t y

end Cert.WinIdeal.Bridge

end
-- ==== Proof.WinClaims.lean ====
/- The claims of the input projection's weight gradient: the frames, the constants kept, and the value claim. -/
module

public import proofs.«01_k».proof.Defs
public import proofs.«01_k».proof.Proof.WinValue
public import proofs.«01_k».proof.Proof.Gen.Win.Frame
public import proofs.«01_k».proof.Proof.Gen.WinRefIdeal.Run
public import proofs.«01_k».proof.Proof.Gen.WinRefIdeal.Read
public import Idealize.ShloMosaic.Lib.Claim
public import Idealize.ShloMosaic.Lib.Quiescent

@[expose] public section

set_option maxRecDepth 16384

noncomputable section

namespace Cert.WinClaims

open Idealize.ShloMosaic Idealize.ShloMosaic.TcCoe Idealize.SL.Sem

/-- No constant of the kernel is named. -/
theorem preserves : Cert.preserves_Win_WinIdeal := trivial

section
open Cert.WinRefIdeal Cert.WinRefIdeal.Gen

/-- The reference's run, its results named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v7) = Read.val_main_v7 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (Read.val_main_v7_eq _ _),
    (h c).2⟩) (Value.run m ρ)

end

theorem frame_p : Cert.quiescent_Win := fun m ρ _ => Cert.Win.Gen.frame m ρ
theorem frame_pi : Cert.quiescent_WinIdeal := fun m ρ _ => Cert.WinIdeal.Gen.frame m ρ
theorem frame_ri : Cert.quiescent_WinRefIdeal := fun m g _ =>
  (θ_run Cert.WinRefIdeal.defs _ _).mono (fun r h => ⟨fun c => (h c).2, sem_eq_zero_of_no_sems (by decide) r.2⟩)
    (Cert.WinRefIdeal.Value.run (F := Ideal) m g)

theorem algebraic : Cert.algebraic_WinIdeal_WinRefIdeal := by
  pair_intro
  · run_from Cert.WinIdeal.Value.run_blocks m g
  · run_from run_ref m' g'
    exact (Cert.WinIdeal.Bridge.fin2 m c).symm

end Cert.WinClaims

end
-- ==== Proof.DhValue.lean ====
/- The gradient of the mixers' normalised input: tile by tile and slice by slice of the contraction, the kernel's
   array is the reference's product. -/
module

public import proofs.«01_k».proof.Proof.Gen.DhIdeal.Value
public import proofs.«01_k».proof.Proof.Gen.DhRefIdeal.Read
public import Idealize.ShloMosaic.Lib.Pipeline.ValueKit
public import Idealize.ShloMosaic.Lib.Pipeline.ReadBack

@[expose] public section

set_option maxRecDepth 16384

noncomputable section

namespace Cert.DhRefIdeal.At

open Cert.DhRefIdeal Cert.DhRefIdeal.Gen Cert.DhRefIdeal.Read
open Idealize.ShloMosaic Idealize.ShloMosaic.TcCoe Idealize.SL.Sem

/-- The reference's gradient at an index: the sum over the projected features. -/
theorem at5 (x : FVec Ideal S2048x11776 .bf16) (w : FVec Ideal S11776x2048 .bf16) (i j : Fin 2048) :
    val_main_v5 (F := Ideal) x w (ix2 i j) = ∑ k : Fin 11776, x (ix2 i k) * w (ix2 k j) := by
  pointwise [val_main_v5, val_main_v4, val_main_v2, val_main_v1]

end Cert.DhRefIdeal.At

namespace Cert.DhIdeal.Bridge

open Cert.DhIdeal Cert.DhIdeal.Gen Idealize.ShloMosaic Idealize.ShloMosaic.TcCoe Idealize.SL.Sem
open Idealize.ShloMosaic.Pipeline (Dat)

variable (m : (ℓ : Loc nD τ sig) → Buf (Elt Ideal) ℓ)

/-- Every window's block at a grid point: row tile, column tile, slice of the contraction. -/
theorem idx : ∀ t : Fin cfg0.N, win0_0.index t = ![t.val / 8, t.val % 4] ∧ win0_1.index t = ![t.val % 4, t.val / 4 % 2]
    ∧ win0_2.index t = ![t.val / 8, t.val / 4 % 2] :=
  (by decide +kernel : ∀ t : Fin grid0.N, win0_0.index t = ![t.val / 8, t.val % 4] ∧ win0_1.index t = ![t.val % 4, t.val / 4 % 2]
    ∧ win0_2.index t = ![t.val / 8, t.val / 4 % 2])

/-- A slice's products. -/
theorem pay1_at (x : FVec Ideal S1024x2944 .bf16) (w : FVec Ideal S2944x1024 .bf16) (i j : Fin 1024) :
    k0_pay1 (F := Ideal) x w (ix2 i j) = ∑ k : Fin 2944, x (ix2 i k) * w (ix2 k j) := by
  pointwise [k0_pay1]

/-- The first slice's store, -/
theorem pay2_at (x : FVec Ideal S1024x2944 .bf16) (w : FVec Ideal S2944x1024 .bf16) (y : S1024x1024.Idx) :
    k0_pay2 (F := Ideal) x w y = k0_pay1 (F := Ideal) x w y := by
  pointwise [k0_pay2]

/-- the later slices', added to what is there, -/
theorem pay3_at (x : FVec Ideal S1024x2944 .bf16) (w : FVec Ideal S2944x1024 .bf16) (a : FVec Ideal S1024x1024 .f32) (y : S1024x1024.Idx) :
    k0_pay3 (F := Ideal) x w a y = a y + k0_pay1 (F := Ideal) x w y := by
  pointwise [k0_pay3]

/-- and the last store of the tile. -/
theorem pay4_at (a : FVec Ideal S1024x1024 .f32) (y : S1024x1024.Idx) : k0_pay4 (F := Ideal) a y = a y := by
  pointwise [k0_pay4]

/-- Where a tile is stored, the output's buffer holds what the accumulator does. -/
theorem stored (c : Dev nD) (t : Fin cfg0.N) (h : t.val % 4 = 3) (y : S1024x1024.Idx) :
    (outsAt0 m c t.val t.isLt).1 y = (outsAt0 m c t.val t.isLt).2 y := by
  rw [outsAt0_C m c t (by omega) (by omega) h]
  frame_out
  rw [pay4_at]

/-- The accumulator where a tile is stored: its slices' products summed. -/
theorem acc (c : Dev nD) (t : Fin cfg0.N) (h : t.val % 4 = 3) (y : S1024x1024.Idx) :
    (outsAt0 m c t.val t.isLt).2 y
      = ∑ s : Fin 4, k0_pay1 (F := Ideal) (iblk m c 0 ⟨_, Pipeline.run_point_lt_of_flush t h s⟩)
          (iblk m c 1 ⟨_, Pipeline.run_point_lt_of_flush t h s⟩) y := by
  rw [Pipeline.eq_sum_fin_of_reset_step_apply_of_flush (fun n h => (outsAt0 m c n h).2) 4 (fun _ => 0)
    (fun p j => k0_pay1 (F := Ideal) (iblk m c 0 p) (iblk m c 1 p) j)
    (fun t h j => by
      rw [outsAt0_A m c t h (by omega) (by omega)]; frame_out
      rw [pay2_at, zero_add])
    (fun t h j => by
      by_cases h3 : t.val % 4 = 3
      · rw [outsAt0_C m c t h (by omega) h3]; frame_out
        rw [pay3_at, read_unread_whole]
      · rw [outsAt0_B m c t h (by omega) h3]; frame_out
        rw [pay3_at, read_unread_whole])
    t h _, zero_add]

/-- The kernel's array is the reference's. -/
theorem fin2 (c : Dev nD) :
    (dats m 0 c).arrAt 2 cfg0.N
      = Cert.DhRefIdeal.Read.val_main_v5 (F := Ideal) (m ((c : Thread nD τ).loc main_arg0)) (m ((c : Thread nD τ).loc main_arg1)) := by
  refine (dats m 0 c).arrAt_eq_of_covers 2 _ (by decide +kernel) fun t hf y => ?_
  blk_simp
  have hN : t.val < 16 := lt_of_lt_of_eq t.isLt (show cfg0.N = 16 from N_0)
  have h2 : t.val % 4 = 3 := (flush0_2 t).mp hf
  rw [after0_2, stored m c t h2, acc m c t h2]
  idx_vars y
  refine Eq.trans ?_ ((Cert.DhRefIdeal.At.at5 _ _ ⟨t.val / 8 * 1024 + y0.val, by omega⟩ ⟨t.val / 4 % 2 * 1024 + y1.val, by omega⟩).symm.trans
    (congrArg _ (by blk_ext [idx t])))
  simp only [pay1_at]
  refine Fin.sum_mul_add_congr ?_
  intro s k hl
  blk_point [iblk, V, idx]

end Cert.DhIdeal.Bridge

end
-- ==== Proof.DhClaims.lean ====
/- The claims of the cotangent of the input projection's input: the frames, the constants kept, and the value claim. -/
module

public import proofs.«01_k».proof.Defs
public import proofs.«01_k».proof.Proof.DhValue
public import proofs.«01_k».proof.Proof.Gen.Dh.Frame
public import proofs.«01_k».proof.Proof.Gen.DhRefIdeal.Run
public import proofs.«01_k».proof.Proof.Gen.DhRefIdeal.Read
public import Idealize.ShloMosaic.Lib.Claim
public import Idealize.ShloMosaic.Lib.Quiescent

@[expose] public section

set_option maxRecDepth 16384

noncomputable section

namespace Cert.DhClaims

open Idealize.ShloMosaic Idealize.ShloMosaic.TcCoe Idealize.SL.Sem

/-- No constant of the kernel is named. -/
theorem preserves : Cert.preserves_Dh_DhIdeal := trivial

section
open Cert.DhRefIdeal Cert.DhRefIdeal.Gen

/-- The reference's run, its results named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v5) = Read.val_main_v5 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (Read.val_main_v5_eq _ _),
    (h c).2⟩) (Value.run m ρ)

end

theorem frame_p : Cert.quiescent_Dh := fun m ρ _ => Cert.Dh.Gen.frame m ρ
theorem frame_pi : Cert.quiescent_DhIdeal := fun m ρ _ => Cert.DhIdeal.Gen.frame m ρ
theorem frame_ri : Cert.quiescent_DhRefIdeal := fun m g _ =>
  (θ_run Cert.DhRefIdeal.defs _ _).mono (fun r h => ⟨fun c => (h c).2, sem_eq_zero_of_no_sems (by decide) r.2⟩)
    (Cert.DhRefIdeal.Value.run (F := Ideal) m g)

theorem algebraic : Cert.algebraic_DhIdeal_DhRefIdeal := by
  pair_intro
  · run_from Cert.DhIdeal.Value.run_blocks m g
  · run_from run_ref m' g'
    exact (Cert.DhIdeal.Bridge.fin2 m c).symm

end Cert.DhClaims

end
-- ==== Proof.UpValue.lean ====
/- The gated feed-forward up to its activation: the kernel's three arrays are the reference's. -/
module

public import proofs.«01_k».proof.Proof.Gen.UpIdeal.Value
public import proofs.«01_k».proof.Proof.Gen.UpRefIdeal.Read
public import proofs.«01_k».proof.Proof.Gate
public import Idealize.ShloMosaic.Lib.Pipeline.ValueKit

@[expose] public section

set_option maxRecDepth 16384

noncomputable section

namespace Cert.UpRefIdeal.At

open Cert.UpRefIdeal Cert.UpRefIdeal.Gen Cert.UpRefIdeal.Read
open Idealize.ShloMosaic Idealize.ShloMosaic.TcCoe Idealize.SL.Sem

variable (x : FVec Ideal S2048x2048 .bf16) (w v : FVec Ideal S5632x2048 .bf16) (i : Fin 2048) (j : Fin 5632)

/-- The gate, -/
theorem at3 : val_main_v3 (F := Ideal) x w (ix2 i j) = ∑ k : Fin 2048, x (ix2 i k) * w (ix2 j k) := by
  pointwise [val_main_v3, val_main_v2, val_main_v1, val_main_v0]

/-- the linear branch, -/
theorem at7 : val_main_v7 (F := Ideal) x v (ix2 i j) = ∑ k : Fin 2048, x (ix2 i k) * v (ix2 j k) := by
  pointwise [val_main_v7, val_main_v6, val_main_v5, val_main_v4]

/-- as they are saved, -/
theorem at8 : val_main_v8 (F := Ideal) x w (ix2 i j) = ∑ k : Fin 2048, x (ix2 i k) * w (ix2 j k) := by
  rw [← at3]; rfl

theorem at9 : val_main_v9 (F := Ideal) x v (ix2 i j) = ∑ k : Fin 2048, x (ix2 i k) * v (ix2 j k) := by
  rw [← at7]; rfl

/-- the gate's sigmoid, -/
theorem sigmoid : val_main_call0_v5 (F := Ideal) x w (ix2 i j) = Ideal.logistic (val_main_v3 (F := Ideal) x w (ix2 i j)) := by
  rw [← Gate.sigmoid_eq]
  pointwise [val_main_call0_v5, val_main_call0_v4, val_main_call0_cst_0, val_main_call0_v3, val_main_call0_v2, val_main_call0_cst,
    val_main_call0_v1, val_main_call0_v0]

/-- and the activation. -/
theorem at12 :
    val_main_v12 (F := Ideal) x w v (ix2 i j)
      = (∑ k : Fin 2048, x (ix2 i k) * w (ix2 j k)) * Ideal.logistic (∑ k : Fin 2048, x (ix2 i k) * w (ix2 j k))
        * ∑ k : Fin 2048, x (ix2 i k) * v (ix2 j k) := by
  rw [← at3, ← at7, ← sigmoid]; rfl

end Cert.UpRefIdeal.At

namespace Cert.UpIdeal.Bridge

open Cert.UpIdeal Cert.UpIdeal.Gen Idealize.ShloMosaic Idealize.ShloMosaic.TcCoe Idealize.SL.Sem
open Idealize.ShloMosaic.Pipeline (Dat)

variable (m : (ℓ : Loc nD τ sig) → Buf (Elt Ideal) ℓ)

/-- Every window's block at a grid point: the point is the tile of hidden features. -/
theorem idx : ∀ t : Fin cfg0.N, win0_0.index t = ![0, 0] ∧ win0_1.index t = ![t.val, 0] ∧ win0_2.index t = ![t.val, 0]
    ∧ win0_3.index t = ![0, t.val] ∧ win0_4.index t = ![0, t.val] ∧ win0_5.index t = ![0, t.val] :=
  (by decide +kernel : ∀ t : Fin grid0.N, win0_0.index t = ![0, 0] ∧ win0_1.index t = ![t.val, 0] ∧ win0_2.index t = ![t.val, 0]
    ∧ win0_3.index t = ![0, t.val] ∧ win0_4.index t = ![0, t.val] ∧ win0_5.index t = ![0, t.val])

section
variable (x : FVec Ideal S2048x2048 .bf16) (w v : FVec Ideal S512x2048 .bf16)

/-- A tile's products. -/
theorem pay1_at (i : Fin 2048) (j : Fin 512) :
    k0_pay1 (F := Ideal) x w (ix2 i j) = ∑ k : Fin 2048, x (ix2 i k) * w (ix2 j k) := by
  pointwise [k0_pay1]

theorem pay2_at (i : Fin 2048) (j : Fin 512) :
    k0_pay2 (F := Ideal) x v (ix2 i j) = ∑ k : Fin 2048, x (ix2 i k) * v (ix2 j k) := by
  pointwise [k0_pay2]

theorem pay3_at (y : S2048x512.Idx) : k0_pay3 (F := Ideal) x w y = k0_pay1 (F := Ideal) x w y := by
  pointwise [k0_pay3]

theorem pay4_at (y : S2048x512.Idx) : k0_pay4 (F := Ideal) x v y = k0_pay2 (F := Ideal) x v y := by
  pointwise [k0_pay4]

/-- A tile of the activation. -/
theorem pay5_at (y : S2048x512.Idx) :
    k0_pay5 (F := Ideal) x w v y
      = k0_pay1 (F := Ideal) x w y * Ideal.logistic (k0_pay1 (F := Ideal) x w y) * k0_pay2 (F := Ideal) x v y := by
  pointwise [k0_pay5]

end

/-- The tile's column. -/
abbrev col (t : Fin cfg0.N) (j : Fin 512) : Fin 5632 := ⟨t.val * 512 + j.val, by have := lt_of_lt_of_eq t.isLt (show cfg0.N = 11 from N_0); omega⟩

/-- The tile of the gate, from the arrays, -/
theorem gate_at (c : Dev nD) (t : Fin cfg0.N) (i : Fin 2048) (j : Fin 512) :
    k0_pay1 (F := Ideal) (iblk m c 0 t) (iblk m c 1 t) (ix2 i j)
      = ∑ k : Fin 2048, (show FVec Ideal S2048x2048 .bf16 from m ((c : Thread nD τ).loc main_arg0)) (ix2 i k)
          * (show FVec Ideal S5632x2048 .bf16 from m ((c : Thread nD τ).loc main_arg1)) (ix2 (col t j) k) := by
  rw [pay1_at]
  refine Finset.sum_congr rfl fun k _ => ?_
  blk_point [iblk, V, idx t]

/-- and the linear branch's. -/
theorem up_at (c : Dev nD) (t : Fin cfg0.N) (i : Fin 2048) (j : Fin 512) :
    k0_pay2 (F := Ideal) (iblk m c 0 t) (iblk m c 2 t) (ix2 i j)
      = ∑ k : Fin 2048, (show FVec Ideal S2048x2048 .bf16 from m ((c : Thread nD τ).loc main_arg0)) (ix2 i k)
          * (show FVec Ideal S5632x2048 .bf16 from m ((c : Thread nD τ).loc main_arg2)) (ix2 (col t j) k) := by
  rw [pay2_at]
  refine Finset.sum_congr rfl fun k _ => ?_
  blk_point [iblk, V, idx t]

/-- The saved gate. -/
theorem fin3 (c : Dev nD) :
    (dats m 0 c).arrAt 3 cfg0.N = Cert.UpRefIdeal.Read.val_main_v8 (F := Ideal) (m ((c : Thread nD τ).loc main_arg0))
      (m ((c : Thread nD τ).loc main_arg1)) := by
  refine (dats m 0 c).arrAt_eq_of_covers 3 _ (by decide +kernel) fun t _ y => ?_
  blk_simp
  rw [after0_3]
  idx_vars y
  refine Eq.trans ?_ ((Cert.UpRefIdeal.At.at8 _ _ y0 (col t y1)).symm.trans (congrArg _ (by blk_ext [idx t])))
  frame_out
  refine (pay3_at ..).trans ?_
  rw [gate_at]

/-- The saved linear branch. -/
theorem fin4 (c : Dev nD) :
    (dats m 0 c).arrAt 4 cfg0.N = Cert.UpRefIdeal.Read.val_main_v9 (F := Ideal) (m ((c : Thread nD τ).loc main_arg0))
      (m ((c : Thread nD τ).loc main_arg2)) := by
  refine (dats m 0 c).arrAt_eq_of_covers 4 _ (by decide +kernel) fun t _ y => ?_
  blk_simp
  rw [after0_4]
  idx_vars y
  refine Eq.trans ?_ ((Cert.UpRefIdeal.At.at9 _ _ y0 (col t y1)).symm.trans (congrArg _ (by blk_ext [idx t])))
  frame_out
  refine (pay4_at ..).trans ?_
  rw [up_at]

/-- The activation. -/
theorem fin5 (c : Dev nD) :
    (dats m 0 c).arrAt 5 cfg0.N = Cert.UpRefIdeal.Read.val_main_v12 (F := Ideal) (m ((c : Thread nD τ).loc main_arg0))
      (m ((c : Thread nD τ).loc main_arg1)) (m ((c : Thread nD τ).loc main_arg2)) := by
  refine (dats m 0 c).arrAt_eq_of_covers 5 _ (by decide +kernel) fun t _ y => ?_
  blk_simp
  rw [after0_5]
  idx_vars y
  refine Eq.trans ?_ ((Cert.UpRefIdeal.At.at12 _ _ _ y0 (col t y1)).symm.trans (congrArg _ (by blk_ext [idx t])))
  frame_out
  refine (pay5_at ..).trans ?_
  rw [gate_at, up_at]

end Cert.UpIdeal.Bridge

end
-- ==== Proof.UpClaims.lean ====
/- The claims of the feed-forward block's first half: the frames, the constants kept, and the value claim. -/
module

public import proofs.«01_k».proof.Defs
public import proofs.«01_k».proof.Proof.UpValue
public import proofs.«01_k».proof.Proof.Gen.Up.Frame
public import proofs.«01_k».proof.Proof.Gen.UpRefIdeal.Run
public import proofs.«01_k».proof.Proof.Gen.UpRefIdeal.Read
public import Idealize.ShloMosaic.Lib.Claim
public import Idealize.ShloMosaic.Lib.Quiescent

@[expose] public section

set_option maxRecDepth 16384

noncomputable section

namespace Cert.UpClaims

open Idealize.ShloMosaic Idealize.ShloMosaic.TcCoe Idealize.SL.Sem

/-- No constant of the kernel is named. -/
theorem preserves : Cert.preserves_Up_UpIdeal := trivial

section
open Cert.UpRefIdeal Cert.UpRefIdeal.Gen

/-- The reference's run, its results named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v8) = Read.val_main_v8 (F := Ideal) (m ((c.tc : Thread nD τ).loc main_arg0)) (m ((c.tc : Thread nD τ).loc main_arg1))
      ∧ r.2.mem ((c.tc : Thread nD τ).loc main_v9) = Read.val_main_v9 (F := Ideal) (m ((c.tc : Thread nD τ).loc main_arg0)) (m ((c.tc : Thread nD τ).loc main_arg2))
      ∧ r.2.mem ((c.tc : Thread nD τ).loc main_v12) = Read.val_main_v12 (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (Read.val_main_v8_eq _ _),
    (h c).2.1.trans (Read.val_main_v9_eq _ _),
    (h c).2.2.1.trans (Read.val_main_v12_eq _ _ _),
    (h c).2.2.2⟩) (Value.run m ρ)

end

theorem frame_p : Cert.quiescent_Up := fun m ρ _ => Cert.Up.Gen.frame m ρ
theorem frame_pi : Cert.quiescent_UpIdeal := fun m ρ _ => Cert.UpIdeal.Gen.frame m ρ
theorem frame_ri : Cert.quiescent_UpRefIdeal := fun m g _ =>
  (θ_run Cert.UpRefIdeal.defs _ _).mono (fun r h => ⟨fun c => (h c).2.2.2, sem_eq_zero_of_no_sems (by decide) r.2⟩)
    (Cert.UpRefIdeal.Value.run (F := Ideal) m g)

theorem algebraic : Cert.algebraic_UpIdeal_UpRefIdeal := by
  pair_intro
  · run_from Cert.UpIdeal.Value.run_blocks m g
  · run_from run_ref m' g'
    · exact (Cert.UpIdeal.Bridge.fin3 m c).symm
    · exact (Cert.UpIdeal.Bridge.fin4 m c).symm
    · exact (Cert.UpIdeal.Bridge.fin5 m c).symm

end Cert.UpClaims

end
-- ==== Proof.MergeRef.lean ====
/- What the reference of the gated merge's gradient holds, index by index. -/
module

public import proofs.«01_k».proof.Proof.Gen.MergeRefIdeal.Read
public import proofs.«01_k».proof.Proof.Gate

@[expose] public section

set_option maxRecDepth 16384

noncomputable section

namespace Cert.MergeRefIdeal.At

open Cert.MergeRefIdeal Cert.MergeRefIdeal.Gen Cert.MergeRefIdeal.Read
open Idealize.ShloMosaic Idealize.ShloMosaic.TcCoe Idealize.SL.Sem

variable (dx w : FVec Ideal S2048x2048 .bf16) (gl : FVec Ideal S2048x6144 .bf16) (bg : FVec Ideal S1x6144 .f32)
  (ya yc ys : FVec Ideal S2048x2048 .bf16)

/-- The column of gate `b` for feature `j`. -/
abbrev gcol (b : Fin 3) (j : Fin 2048) : Fin 6144 := ⟨(b : ℕ) * 2048 + j, by omega⟩

theorem gcol_zero (j : Fin 2048) : gcol 0 j = ⟨j, by omega⟩ := Fin.ext (by simp)

theorem gcol_one (j : Fin 2048) : gcol 1 j = ⟨2048 + j, by omega⟩ := Fin.ext (by simp)

theorem gcol_two (j : Fin 2048) : gcol 2 j = ⟨4096 + j, by omega⟩ := Fin.ext (by simp)

/-- The merged value's cotangent. -/
def dm (s j : Fin 2048) : EReal := ∑ k : Fin 2048, dx (ix2 s k) * w (ix2 j k)

/-- A gate. -/
def gate (b : Fin 3) (s j : Fin 2048) : EReal := Ideal.logistic (gl (ix2 s (gcol b j)) + bg (ix2 0 (gcol b j)))

/-- A gate's logit's gradient, `y` the value gated. -/
def dlog (y : FVec Ideal S2048x2048 .bf16) (b : Fin 3) (s j : Fin 2048) : EReal :=
  dm dx w s j * y (ix2 s j) * (gate gl bg b s j * (1 - gate gl bg b s j))

theorem at30 (s j : Fin 2048) : val_main_v30 (F := Ideal) dx w (ix2 s j) = dm dx w s j := by
  pointwise [val_main_v30, val_main_v29, val_main_v27, dm]

/-- The logits. -/
theorem at6 (s : Fin 2048) (b : Fin 3) (j : Fin 2048) :
    val_main_v6 (F := Ideal) gl bg (ix3 s b j) = gl (ix2 s (gcol b j)) + bg (ix2 0 (gcol b j)) := by
  pointwise [val_main_v6, val_main_v5, val_main_v4, val_main_v0]

/-- The gates. -/
theorem at12 (s : Fin 2048) (b : Fin 3) (j : Fin 2048) : val_main_v12 (F := Ideal) gl bg (ix3 s b j) = gate gl bg b s j := by
  unfold gate
  rw [← Gate.sigmoid_eq, ← at6]
  unfold val_main_v12 val_main_v10 val_main_v8 val_main_v7
  generalize val_main_v6 (F := Ideal) gl bg = x
  pointwise [val_main_v11, val_main_cst_0, val_main_v9, val_main_cst]

/-- The gates' derivatives. -/
theorem at15 (s : Fin 2048) (b : Fin 3) (j : Fin 2048) :
    val_main_v15 (F := Ideal) gl bg (ix3 s b j) = gate gl bg b s j * (1 - gate gl bg b s j) := by
  rw [← at12, ← Gate.ofBits_one]
  unfold val_main_v15 val_main_v14
  generalize val_main_v12 (F := Ideal) gl bg = x
  pointwise [val_main_v13, val_main_cst_1]

/-- The three gates apart. -/
theorem at17 (s j : Fin 2048) : val_main_v17 (F := Ideal) gl bg (ix2 s j) = gate gl bg 0 s j := by
  rw [← at12]
  unfold val_main_v17 val_main_v16
  generalize val_main_v12 (F := Ideal) gl bg = x
  pointwise

theorem at20 (s j : Fin 2048) : val_main_v20 (F := Ideal) gl bg (ix2 s j) = gate gl bg 1 s j := by
  rw [← at12]
  unfold val_main_v20 val_main_v19
  generalize val_main_v12 (F := Ideal) gl bg = x
  pointwise

theorem at24 (s j : Fin 2048) : val_main_v24 (F := Ideal) gl bg (ix2 s j) = gate gl bg 2 s j := by
  rw [← at12]
  unfold val_main_v24 val_main_v23
  generalize val_main_v12 (F := Ideal) gl bg = x
  pointwise

/-- The gated values' gradients. -/
theorem at60 (s j : Fin 2048) : val_main_v60 (F := Ideal) dx w gl bg (ix2 s j) = gate gl bg 0 s j * dm dx w s j := by
  rw [← at17, ← at30]; rfl

theorem at61 (s j : Fin 2048) : val_main_v61 (F := Ideal) dx w gl bg (ix2 s j) = gate gl bg 1 s j * dm dx w s j := by
  rw [← at20, ← at30]; rfl

theorem at62 (s j : Fin 2048) : val_main_v62 (F := Ideal) dx w gl bg (ix2 s j) = gate gl bg 2 s j * dm dx w s j := by
  rw [← at24, ← at30]; rfl

/-- The gates' gradients: each from its own gated value, nothing from the others'. -/
theorem at44_0 (s j : Fin 2048) :
    val_main_v44 (F := Ideal) dx w ya yc ys (ix3 s 0 j) = dm dx w s j * ya (ix2 s j) := by
  rw [← at30]
  unfold val_main_v44 val_main_v43 val_main_v42 val_main_v41 val_main_v39 val_main_v38 val_main_v37 val_main_v36 val_main_v34
    val_main_v33 val_main_v32
  generalize val_main_v30 (F := Ideal) dx w = x
  pointwise [val_main_cst_2, val_main_cst_3, val_main_cst_4, val_main_v1, val_main_v2, val_main_v3]

theorem at44_1 (s j : Fin 2048) :
    val_main_v44 (F := Ideal) dx w ya yc ys (ix3 s 1 j) = dm dx w s j * yc (ix2 s j) := by
  rw [← at30]
  unfold val_main_v44 val_main_v43 val_main_v42 val_main_v41 val_main_v39 val_main_v38 val_main_v37 val_main_v36 val_main_v34
    val_main_v33 val_main_v32
  generalize val_main_v30 (F := Ideal) dx w = x
  pointwise [val_main_cst_2, val_main_cst_3, val_main_cst_4, val_main_v1, val_main_v2, val_main_v3]

theorem at44_2 (s j : Fin 2048) :
    val_main_v44 (F := Ideal) dx w ya yc ys (ix3 s 2 j) = dm dx w s j * ys (ix2 s j) := by
  rw [← at30]
  unfold val_main_v44 val_main_v43 val_main_v42 val_main_v41 val_main_v39 val_main_v38 val_main_v37 val_main_v36 val_main_v34
    val_main_v33 val_main_v32
  generalize val_main_v30 (F := Ideal) dx w = x
  pointwise [val_main_cst_2, val_main_cst_3, val_main_cst_4, val_main_v1, val_main_v2, val_main_v3]

/-- The logits' gradients, flat. -/
theorem at46 (s : Fin 2048) (b : Fin 3) (j : Fin 2048) :
    val_main_v46 (F := Ideal) dx w gl bg ya yc ys (ix2 s (gcol b j))
      = val_main_v44 (F := Ideal) dx w ya yc ys (ix3 s b j) * (gate gl bg b s j * (1 - gate gl bg b s j)) := by
  rw [← at15]
  unfold val_main_v46 val_main_v45
  generalize val_main_v44 (F := Ideal) dx w ya yc ys = x
  generalize val_main_v15 (F := Ideal) gl bg = z
  pointwise
  have e1 : ((b : ℕ) * 2048 + j) / 2048 = b := by omega
  have e2 : ((b : ℕ) * 2048 + j) % 2048 = j := by omega
  simp only [e1, e2, Fin.eta]

theorem at46_0 (s j : Fin 2048) : val_main_v46 (F := Ideal) dx w gl bg ya yc ys (ix2 s (gcol 0 j)) = dlog dx w gl bg ya 0 s j := by
  rw [at46, at44_0]; rfl

theorem at46_1 (s j : Fin 2048) : val_main_v46 (F := Ideal) dx w gl bg ya yc ys (ix2 s (gcol 1 j)) = dlog dx w gl bg yc 1 s j := by
  rw [at46, at44_1]; rfl

theorem at46_2 (s j : Fin 2048) : val_main_v46 (F := Ideal) dx w gl bg ya yc ys (ix2 s (gcol 2 j)) = dlog dx w gl bg ys 2 s j := by
  rw [at46, at44_2]; rfl

/-- The logits' gradients apart. -/
theorem at53 (s j : Fin 2048) : val_main_v53 (F := Ideal) dx w gl bg ya yc ys (ix2 s j) = dlog dx w gl bg ya 0 s j := by
  rw [← at46_0 dx w gl bg ya yc ys]
  unfold val_main_v53 val_main_v52 val_main_v51 val_main_v49
  generalize val_main_v46 (F := Ideal) dx w gl bg ya yc ys = x
  rw [gcol_zero]
  pointwise

theorem at56 (s j : Fin 2048) : val_main_v56 (F := Ideal) dx w gl bg ya yc ys (ix2 s j) = dlog dx w gl bg yc 1 s j := by
  rw [← at46_1 dx w gl bg ya yc ys]
  unfold val_main_v56 val_main_v55 val_main_v54 val_main_v49
  generalize val_main_v46 (F := Ideal) dx w gl bg ya yc ys = x
  rw [gcol_one]
  pointwise

theorem at59 (s j : Fin 2048) : val_main_v59 (F := Ideal) dx w gl bg ya yc ys (ix2 s j) = dlog dx w gl bg ys 2 s j := by
  rw [← at46_2 dx w gl bg ya yc ys]
  unfold val_main_v59 val_main_v58 val_main_v57 val_main_v49
  generalize val_main_v46 (F := Ideal) dx w gl bg ya yc ys = x
  rw [gcol_two]
  pointwise

/-- The biases' gradients: the logits' summed over the tokens. -/
theorem at64 (j : Fin 2048) : val_main_v64 (F := Ideal) dx w gl bg ya yc ys (ix2 0 j) = ∑ s : Fin 2048, dlog dx w gl bg ya 0 s j := by
  simp only [← at46_0 dx w gl bg ya yc ys]
  unfold val_main_v64 val_main_v63 val_main_v50 val_main_v48 val_main_v47
  generalize val_main_v46 (F := Ideal) dx w gl bg ya yc ys = x
  simp only [gcol_zero]
  pointwise [val_main_cst_5]

theorem at66 (j : Fin 2048) : val_main_v66 (F := Ideal) dx w gl bg ya yc ys (ix2 0 j) = ∑ s : Fin 2048, dlog dx w gl bg yc 1 s j := by
  simp only [← at46_1 dx w gl bg ya yc ys]
  unfold val_main_v66 val_main_v65 val_main_v50 val_main_v48 val_main_v47
  generalize val_main_v46 (F := Ideal) dx w gl bg ya yc ys = x
  simp only [gcol_one]
  pointwise [val_main_cst_5]

theorem at68 (j : Fin 2048) : val_main_v68 (F := Ideal) dx w gl bg ya yc ys (ix2 0 j) = ∑ s : Fin 2048, dlog dx w gl bg ys 2 s j := by
  simp only [← at46_2 dx w gl bg ya yc ys]
  unfold val_main_v68 val_main_v67 val_main_v50 val_main_v48 val_main_v47
  generalize val_main_v46 (F := Ideal) dx w gl bg ya yc ys = x
  simp only [gcol_two]
  pointwise [val_main_cst_5]

end Cert.MergeRefIdeal.At

end
-- ==== Proof.MergeTiles.lean ====
/- The gradient of the gated merge through the output projection: the kernel's tiles from the argument arrays. -/
module

public import proofs.«01_k».proof.Proof.Gen.MergeIdeal.Value
public import proofs.«01_k».proof.Proof.MergeRef
public import Idealize.ShloMosaic.Lib.Pipeline.ValueKit

@[expose] public section

set_option maxRecDepth 16384

noncomputable section

namespace Cert.MergeIdeal.Bridge

open Cert.MergeIdeal Cert.MergeIdeal.Gen Idealize.ShloMosaic Idealize.ShloMosaic.TcCoe Idealize.SL.Sem
open Idealize.ShloMosaic.Pipeline (Dat)

section
variable (dx : FVec Ideal S2048x2048 .bf16) (w : FVec Ideal S256x2048 .bf16) (gl y : FVec Ideal S2048x256 .bf16) (bg : FVec Ideal S1x256 .f32)

/-- A tile of the merged value's cotangent. -/
theorem pay2_at (s : Fin 2048) (j : Fin 256) : k0_pay2 (F := Ideal) dx w (ix2 s j) = ∑ k : Fin 2048, dx (ix2 s k) * w (ix2 j k) := by
  pointwise [k0_pay2]

/-- The three gates' tiles. -/
theorem pay3_at (s : Fin 2048) (j : Fin 256) : k0_pay3 (F := Ideal) gl bg (ix2 s j) = Ideal.logistic (gl (ix2 s j) + bg (ix2 0 j)) := by
  pointwise [k0_pay3]

theorem pay7_at (s : Fin 2048) (j : Fin 256) : k0_pay7 (F := Ideal) gl bg (ix2 s j) = Ideal.logistic (gl (ix2 s j) + bg (ix2 0 j)) := by
  pointwise [k0_pay7]

theorem pay12_at (s : Fin 2048) (j : Fin 256) : k0_pay12 (F := Ideal) gl bg (ix2 s j) = Ideal.logistic (gl (ix2 s j) + bg (ix2 0 j)) := by
  pointwise [k0_pay12]

/-- The logits' gradients, -/
theorem pay4_at (i : S2048x256.Idx) :
    k0_pay4 (F := Ideal) dx w gl bg y i
      = k0_pay2 (F := Ideal) dx w i * y i * (k0_pay3 (F := Ideal) gl bg i * (1 - k0_pay3 (F := Ideal) gl bg i)) := by
  rw [← mul_assoc, ← Gate.ofBits_one]
  pointwise [k0_pay4]

theorem pay10_at (i : S2048x256.Idx) :
    k0_pay10 (F := Ideal) (k0_pay7 gl bg) (k0_pay8 dx w gl bg y) k0_pay9 i
      = k0_pay2 (F := Ideal) dx w i * y i * (k0_pay7 (F := Ideal) gl bg i * (1 - k0_pay7 (F := Ideal) gl bg i)) := by
  rw [← mul_assoc, ← Gate.ofBits_one]
  pointwise [k0_pay10, k0_pay9, k0_pay8]

theorem pay13_at (i : S2048x256.Idx) :
    k0_pay13 (F := Ideal) (k0_pay2 dx w) gl bg y i
      = k0_pay2 (F := Ideal) dx w i * y i * (k0_pay12 (F := Ideal) gl bg i * (1 - k0_pay12 (F := Ideal) gl bg i)) := by
  rw [← mul_assoc, ← Gate.ofBits_one]
  pointwise [k0_pay13]

/-- as they are stored, -/
theorem pay15_at (x : FVec Ideal S2048x256 .f32) (i : S2048x256.Idx) : k0_pay15 (F := Ideal) x i = x i := by
  pointwise [k0_pay15]

theorem pay16_at (a b c : FVec Ideal S2048x256 .f32) (i : S2048x256.Idx) : k0_pay16 (F := Ideal) a b c i = k0_pay10 (F := Ideal) a b c i := by
  pointwise [k0_pay16]

theorem pay17_at (x : FVec Ideal S2048x256 .f32) (i : S2048x256.Idx) :
    k0_pay17 (F := Ideal) x gl bg y i = k0_pay13 (F := Ideal) x gl bg y i := by
  pointwise [k0_pay17]

/-- the gated values' gradients, -/
theorem pay18_at (i : S2048x256.Idx) :
    k0_pay18 (F := Ideal) (k0_pay5 dx w gl bg) i = k0_pay3 (F := Ideal) gl bg i * k0_pay2 (F := Ideal) dx w i := by
  rw [mul_comm]
  pointwise [k0_pay18, k0_pay5]

theorem pay19_at (x g : FVec Ideal S2048x256 .f32) (i : S2048x256.Idx) : k0_pay19 (F := Ideal) x g i = g i * x i := by
  rw [mul_comm]
  pointwise [k0_pay19]

theorem pay1_at (x : FVec Ideal S2048x256 .f32) (i : S2048x256.Idx) :
    k0_pay1 (F := Ideal) (k0_pay20 x gl bg) i = k0_pay12 (F := Ideal) gl bg i * x i := by
  rw [mul_comm]
  pointwise [k0_pay1, k0_pay20]

/-- and the logits' gradients summed over the tokens. -/
theorem pay6_at (j : Fin 256) : k0_pay6 (F := Ideal) dx w gl bg y (ix2 0 j) = ∑ s : Fin 2048, k0_pay4 (F := Ideal) dx w gl bg y (ix2 s j) := by
  unfold k0_pay6
  generalize k0_pay4 (F := Ideal) dx w gl bg y = x
  pointwise

theorem pay11_at (a b c : FVec Ideal S2048x256 .f32) (j : Fin 256) :
    k0_pay11 (F := Ideal) a b c (ix2 0 j) = ∑ s : Fin 2048, k0_pay10 (F := Ideal) a b c (ix2 s j) := by
  unfold k0_pay11
  generalize k0_pay10 (F := Ideal) a b c = x
  pointwise

theorem pay14_at (z : FVec Ideal S2048x256 .f32) (j : Fin 256) :
    k0_pay14 (F := Ideal) z gl bg y (ix2 0 j) = ∑ s : Fin 2048, k0_pay13 (F := Ideal) z gl bg y (ix2 s j) := by
  unfold k0_pay14
  generalize k0_pay13 (F := Ideal) z gl bg y = x
  pointwise

end

variable (m : (ℓ : Loc nD τ sig) → Buf (Elt Ideal) ℓ)

/-- Every window's block at a grid point: the point is the tile of features, the gates' tiles further along. -/
theorem idx : ∀ t : Fin cfg0.N, win0_0.index t = ![0, 0] ∧ win0_1.index t = ![t.val, 0] ∧ win0_2.index t = ![0, t.val]
    ∧ win0_3.index t = ![0, t.val + 8] ∧ win0_4.index t = ![0, t.val + 16] ∧ win0_5.index t = ![0, t.val]
    ∧ win0_6.index t = ![0, t.val + 8] ∧ win0_7.index t = ![0, t.val + 16] ∧ win0_8.index t = ![0, t.val]
    ∧ win0_9.index t = ![0, t.val] ∧ win0_10.index t = ![0, t.val] ∧ win0_11.index t = ![0, t.val]
    ∧ win0_12.index t = ![0, t.val] ∧ win0_13.index t = ![0, t.val] ∧ win0_14.index t = ![0, t.val]
    ∧ win0_15.index t = ![0, t.val] ∧ win0_16.index t = ![0, t.val] ∧ win0_17.index t = ![0, t.val]
    ∧ win0_18.index t = ![0, t.val] ∧ win0_19.index t = ![0, t.val] :=
  (by decide +kernel : ∀ t : Fin grid0.N, win0_0.index t = ![0, 0] ∧ win0_1.index t = ![t.val, 0] ∧ win0_2.index t = ![0, t.val]
    ∧ win0_3.index t = ![0, t.val + 8] ∧ win0_4.index t = ![0, t.val + 16] ∧ win0_5.index t = ![0, t.val]
    ∧ win0_6.index t = ![0, t.val + 8] ∧ win0_7.index t = ![0, t.val + 16] ∧ win0_8.index t = ![0, t.val]
    ∧ win0_9.index t = ![0, t.val] ∧ win0_10.index t = ![0, t.val] ∧ win0_11.index t = ![0, t.val]
    ∧ win0_12.index t = ![0, t.val] ∧ win0_13.index t = ![0, t.val] ∧ win0_14.index t = ![0, t.val]
    ∧ win0_15.index t = ![0, t.val] ∧ win0_16.index t = ![0, t.val] ∧ win0_17.index t = ![0, t.val]
    ∧ win0_18.index t = ![0, t.val] ∧ win0_19.index t = ![0, t.val])

/-- The tile's column. -/
abbrev col (t : Fin cfg0.N) (j : Fin 256) : Fin 2048 := ⟨t.val * 256 + j.val, by have := lt_of_lt_of_eq t.isLt (show cfg0.N = 8 from N_0); omega⟩

/-- The argument arrays. -/
abbrev A0 (c : Dev nD) : FVec Ideal S2048x2048 .bf16 := m ((c : Thread nD τ).loc main_arg0)
abbrev A1 (c : Dev nD) : FVec Ideal S2048x2048 .bf16 := m ((c : Thread nD τ).loc main_arg1)
abbrev A2 (c : Dev nD) : FVec Ideal S2048x6144 .bf16 := m ((c : Thread nD τ).loc main_arg2)
abbrev A3 (c : Dev nD) : FVec Ideal S1x6144 .f32 := m ((c : Thread nD τ).loc main_arg3)
abbrev A4 (c : Dev nD) : FVec Ideal S2048x2048 .bf16 := m ((c : Thread nD τ).loc main_arg4)
abbrev A5 (c : Dev nD) : FVec Ideal S2048x2048 .bf16 := m ((c : Thread nD τ).loc main_arg5)
abbrev A6 (c : Dev nD) : FVec Ideal S2048x2048 .bf16 := m ((c : Thread nD τ).loc main_arg6)

variable (c : Dev nD) (t : Fin cfg0.N) (s : Fin 2048) (j : Fin 256)

/-- The tile of the merged value's cotangent, from the arrays. -/
theorem dm_at : k0_pay2 (F := Ideal) (iblk m c 0 t) (iblk m c 1 t) (ix2 s j) = Cert.MergeRefIdeal.At.dm (A0 m c) (A1 m c) s (col t j) := by
  rw [pay2_at]
  unfold Cert.MergeRefIdeal.At.dm
  refine Finset.sum_congr rfl fun k _ => ?_
  blk_point [iblk, V, idx t]

/-- The gates' tiles, from the arrays. -/
theorem gate0_at : k0_pay3 (F := Ideal) (iblk m c 2 t) (iblk m c 5 t) (ix2 s j) = Cert.MergeRefIdeal.At.gate (A2 m c) (A3 m c) 0 s (col t j) := by
  rw [pay3_at]
  unfold Cert.MergeRefIdeal.At.gate
  refine congrArg _ (congr (congrArg _ ?_) ?_)
  · blk_point [iblk, V, idx t]
  · blk_point [iblk, V, idx t]

theorem gate1_at : k0_pay7 (F := Ideal) (iblk m c 3 t) (iblk m c 6 t) (ix2 s j) = Cert.MergeRefIdeal.At.gate (A2 m c) (A3 m c) 1 s (col t j) := by
  rw [pay7_at]
  unfold Cert.MergeRefIdeal.At.gate
  refine congrArg _ (congr (congrArg _ ?_) ?_)
  · blk_point [iblk, V, idx t]
  · blk_point [iblk, V, idx t]

theorem gate2_at : k0_pay12 (F := Ideal) (iblk m c 4 t) (iblk m c 7 t) (ix2 s j) = Cert.MergeRefIdeal.At.gate (A2 m c) (A3 m c) 2 s (col t j) := by
  rw [pay12_at]
  unfold Cert.MergeRefIdeal.At.gate
  refine congrArg _ (congr (congrArg _ ?_) ?_)
  · blk_point [iblk, V, idx t]
  · blk_point [iblk, V, idx t]

/-- The gated values' tiles. -/
theorem y0_at : (show FVec Ideal S2048x256 .bf16 from iblk m c 8 t) (ix2 s j) = A4 m c (ix2 s (col t j)) := by
  blk_point [iblk, V, idx t]

theorem y1_at : (show FVec Ideal S2048x256 .bf16 from iblk m c 9 t) (ix2 s j) = A5 m c (ix2 s (col t j)) := by
  blk_point [iblk, V, idx t]

theorem y2_at : (show FVec Ideal S2048x256 .bf16 from iblk m c 10 t) (ix2 s j) = A6 m c (ix2 s (col t j)) := by
  blk_point [iblk, V, idx t]

/-- The logits' gradients on a tile. -/
theorem dlog0_at : k0_pay4 (F := Ideal) (iblk m c 0 t) (iblk m c 1 t) (iblk m c 2 t) (iblk m c 5 t) (iblk m c 8 t) (ix2 s j)
    = Cert.MergeRefIdeal.At.dlog (A0 m c) (A1 m c) (A2 m c) (A3 m c) (A4 m c) 0 s (col t j) := by
  have e := y0_at m c t s j
  dsimp only at e
  rw [pay4_at, dm_at, gate0_at, e]
  rfl

theorem dlog1_at : k0_pay10 (F := Ideal) (k0_pay7 (iblk m c 3 t) (iblk m c 6 t)) (k0_pay8 (iblk m c 0 t) (iblk m c 1 t) (iblk m c 3 t) (iblk m c 6 t) (iblk m c 9 t)) k0_pay9 (ix2 s j)
    = Cert.MergeRefIdeal.At.dlog (A0 m c) (A1 m c) (A2 m c) (A3 m c) (A5 m c) 1 s (col t j) := by
  have e := y1_at m c t s j
  dsimp only at e
  rw [pay10_at, dm_at, gate1_at, e]
  rfl

theorem dlog2_at : k0_pay13 (F := Ideal) (k0_pay2 (iblk m c 0 t) (iblk m c 1 t)) (iblk m c 4 t) (iblk m c 7 t) (iblk m c 10 t) (ix2 s j)
    = Cert.MergeRefIdeal.At.dlog (A0 m c) (A1 m c) (A2 m c) (A3 m c) (A6 m c) 2 s (col t j) := by
  have e := y2_at m c t s j
  dsimp only at e
  rw [pay13_at, dm_at, gate2_at, e]
  rfl

end Cert.MergeIdeal.Bridge

end
-- ==== Proof.MergeValue.lean ====
/- The gradient of the gated merge through the output projection: the kernel's nine arrays are the reference's. -/
module

public import proofs.«01_k».proof.Proof.Gen.MergeIdeal.Value
public import proofs.«01_k».proof.Proof.MergeTiles
public import Idealize.ShloMosaic.Lib.Pipeline.ValueKit

@[expose] public section

set_option maxRecDepth 16384

noncomputable section

namespace Cert.MergeIdeal.Bridge

open Cert.MergeIdeal Cert.MergeIdeal.Gen Idealize.ShloMosaic Idealize.ShloMosaic.TcCoe Idealize.SL.Sem
open Idealize.ShloMosaic.Pipeline (Dat)

variable (m : (ℓ : Loc nD τ sig) → Buf (Elt Ideal) ℓ)

/-- The logits' gradients. -/
theorem fin11 (c : Dev nD) :
    (dats m 0 c).arrAt 11 cfg0.N = Cert.MergeRefIdeal.Read.val_main_v53 (F := Ideal) (A0 m c) (A1 m c) (A2 m c) (A3 m c) (A4 m c) (A5 m c) (A6 m c) := by
  refine (dats m 0 c).arrAt_eq_of_covers 11 _ (by decide +kernel) fun t _ y => ?_
  blk_simp
  rw [after0_11]
  idx_vars y
  refine Eq.trans ?_ ((Cert.MergeRefIdeal.At.at53 _ _ _ _ _ _ _ y0 (col t y1)).symm.trans (congrArg _ (by blk_ext [idx t])))
  unfold_out out0_11
  frame_out
  refine (pay15_at ..).trans ?_
  exact dlog0_at m c t y0 y1

theorem fin12 (c : Dev nD) :
    (dats m 0 c).arrAt 12 cfg0.N = Cert.MergeRefIdeal.Read.val_main_v56 (F := Ideal) (A0 m c) (A1 m c) (A2 m c) (A3 m c) (A4 m c) (A5 m c) (A6 m c) := by
  refine (dats m 0 c).arrAt_eq_of_covers 12 _ (by decide +kernel) fun t _ y => ?_
  blk_simp
  rw [after0_12]
  idx_vars y
  refine Eq.trans ?_ ((Cert.MergeRefIdeal.At.at56 _ _ _ _ _ _ _ y0 (col t y1)).symm.trans (congrArg _ (by blk_ext [idx t])))
  unfold_out out0_12
  frame_out
  refine (pay16_at ..).trans ?_
  exact dlog1_at m c t y0 y1

theorem fin13 (c : Dev nD) :
    (dats m 0 c).arrAt 13 cfg0.N = Cert.MergeRefIdeal.Read.val_main_v59 (F := Ideal) (A0 m c) (A1 m c) (A2 m c) (A3 m c) (A4 m c) (A5 m c) (A6 m c) := by
  refine (dats m 0 c).arrAt_eq_of_covers 13 _ (by decide +kernel) fun t _ y => ?_
  blk_simp
  rw [after0_13]
  idx_vars y
  refine Eq.trans ?_ ((Cert.MergeRefIdeal.At.at59 _ _ _ _ _ _ _ y0 (col t y1)).symm.trans (congrArg _ (by blk_ext [idx t])))
  unfold_out out0_13
  frame_out
  refine (pay17_at ..).trans ?_
  exact dlog2_at m c t y0 y1

/-- The gated values' gradients. -/
theorem fin14 (c : Dev nD) :
    (dats m 0 c).arrAt 14 cfg0.N = Cert.MergeRefIdeal.Read.val_main_v60 (F := Ideal) (A0 m c) (A1 m c) (A2 m c) (A3 m c) := by
  refine (dats m 0 c).arrAt_eq_of_covers 14 _ (by decide +kernel) fun t _ y => ?_
  blk_simp
  rw [after0_14]
  idx_vars y
  refine Eq.trans ?_ ((Cert.MergeRefIdeal.At.at60 _ _ _ _ y0 (col t y1)).symm.trans (congrArg _ (by blk_ext [idx t])))
  unfold_out out0_14
  frame_out
  refine (pay18_at ..).trans ?_
  exact congr (congrArg _ (gate0_at m c t y0 y1)) (dm_at m c t y0 y1)

theorem fin15 (c : Dev nD) :
    (dats m 0 c).arrAt 15 cfg0.N = Cert.MergeRefIdeal.Read.val_main_v61 (F := Ideal) (A0 m c) (A1 m c) (A2 m c) (A3 m c) := by
  refine (dats m 0 c).arrAt_eq_of_covers 15 _ (by decide +kernel) fun t _ y => ?_
  blk_simp
  rw [after0_15]
  idx_vars y
  refine Eq.trans ?_ ((Cert.MergeRefIdeal.At.at61 _ _ _ _ y0 (col t y1)).symm.trans (congrArg _ (by blk_ext [idx t])))
  unfold_out out0_15
  frame_out
  refine (pay19_at ..).trans ?_
  exact congr (congrArg _ (gate1_at m c t y0 y1)) (dm_at m c t y0 y1)

theorem fin16 (c : Dev nD) :
    (dats m 0 c).arrAt 16 cfg0.N = Cert.MergeRefIdeal.Read.val_main_v62 (F := Ideal) (A0 m c) (A1 m c) (A2 m c) (A3 m c) := by
  refine (dats m 0 c).arrAt_eq_of_covers 16 _ (by decide +kernel) fun t _ y => ?_
  blk_simp
  rw [after0_16]
  idx_vars y
  refine Eq.trans ?_ ((Cert.MergeRefIdeal.At.at62 _ _ _ _ y0 (col t y1)).symm.trans (congrArg _ (by blk_ext [idx t])))
  unfold_out out0_16
  frame_out
  refine (pay1_at ..).trans ?_
  exact congr (congrArg _ (gate2_at m c t y0 y1)) (dm_at m c t y0 y1)

/-- The biases' gradients. -/
theorem fin17 (c : Dev nD) :
    (dats m 0 c).arrAt 17 cfg0.N = Cert.MergeRefIdeal.Read.val_main_v64 (F := Ideal) (A0 m c) (A1 m c) (A2 m c) (A3 m c) (A4 m c) (A5 m c) (A6 m c) := by
  refine (dats m 0 c).arrAt_eq_of_covers 17 _ (by decide +kernel) fun t _ y => ?_
  blk_simp
  rw [after0_17]
  idx_vars y
  obtain rfl : y0 = 0 := Subsingleton.elim _ _
  refine Eq.trans ?_ ((Cert.MergeRefIdeal.At.at64 _ _ _ _ _ _ _ (col t y1)).symm.trans (congrArg _ (by blk_ext [idx t])))
  unfold_out out0_17
  frame_out
  refine (pay6_at ..).trans ?_
  exact Finset.sum_congr rfl fun s _ => dlog0_at m c t s y1

theorem fin18 (c : Dev nD) :
    (dats m 0 c).arrAt 18 cfg0.N = Cert.MergeRefIdeal.Read.val_main_v66 (F := Ideal) (A0 m c) (A1 m c) (A2 m c) (A3 m c) (A4 m c) (A5 m c) (A6 m c) := by
  refine (dats m 0 c).arrAt_eq_of_covers 18 _ (by decide +kernel) fun t _ y => ?_
  blk_simp
  rw [after0_18]
  idx_vars y
  obtain rfl : y0 = 0 := Subsingleton.elim _ _
  refine Eq.trans ?_ ((Cert.MergeRefIdeal.At.at66 _ _ _ _ _ _ _ (col t y1)).symm.trans (congrArg _ (by blk_ext [idx t])))
  unfold_out out0_18
  frame_out
  refine (pay11_at ..).trans ?_
  exact Finset.sum_congr rfl fun s _ => dlog1_at m c t s y1

theorem fin19 (c : Dev nD) :
    (dats m 0 c).arrAt 19 cfg0.N = Cert.MergeRefIdeal.Read.val_main_v68 (F := Ideal) (A0 m c) (A1 m c) (A2 m c) (A3 m c) (A4 m c) (A5 m c) (A6 m c) := by
  refine (dats m 0 c).arrAt_eq_of_covers 19 _ (by decide +kernel) fun t _ y => ?_
  blk_simp
  rw [after0_19]
  idx_vars y
  obtain rfl : y0 = 0 := Subsingleton.elim _ _
  refine Eq.trans ?_ ((Cert.MergeRefIdeal.At.at68 _ _ _ _ _ _ _ (col t y1)).symm.trans (congrArg _ (by blk_ext [idx t])))
  unfold_out out0_19
  frame_out
  refine (pay14_at ..).trans ?_
  exact Finset.sum_congr rfl fun s _ => dlog2_at m c t s y1

end Cert.MergeIdeal.Bridge

end
-- ==== Proof.MergeClaims.lean ====
/- The claims of the gated merge's gradient: the frames, the constants kept, and the value claim. -/
module

public import proofs.«01_k».proof.Defs
public import proofs.«01_k».proof.Proof.MergeValue
public import proofs.«01_k».proof.Proof.Gen.Merge.Frame
public import proofs.«01_k».proof.Proof.Gen.MergeRefIdeal.Run
public import proofs.«01_k».proof.Proof.Gen.MergeRefIdeal.Read
public import Idealize.ShloMosaic.Lib.Claim
public import Idealize.ShloMosaic.Lib.Quiescent

@[expose] public section

set_option maxRecDepth 16384

noncomputable section

namespace Cert.MergeClaims

open Idealize.ShloMosaic Idealize.ShloMosaic.TcCoe Idealize.SL.Sem

/-- No constant of the kernel is named. -/
theorem preserves : Cert.preserves_Merge_MergeIdeal := trivial

section
open Cert.MergeRefIdeal Cert.MergeRefIdeal.Gen

/-- The reference's run, its results named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v53) = Read.val_main_v53 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v56) = Read.val_main_v56 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v59) = Read.val_main_v59 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v60) = Read.val_main_v60 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v61) = Read.val_main_v61 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v62) = Read.val_main_v62 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v64) = Read.val_main_v64 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v66) = Read.val_main_v66 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v68) = Read.val_main_v68 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans (Read.val_main_v53_eq _ _ _ _ _ _ _),
    (h c).2.1.trans (Read.val_main_v56_eq _ _ _ _ _ _ _),
    (h c).2.2.1.trans (Read.val_main_v59_eq _ _ _ _ _ _ _),
    (h c).2.2.2.1.trans (Read.val_main_v60_eq _ _ _ _),
    (h c).2.2.2.2.1.trans (Read.val_main_v61_eq _ _ _ _),
    (h c).2.2.2.2.2.1.trans (Read.val_main_v62_eq _ _ _ _),
    (h c).2.2.2.2.2.2.1.trans (Read.val_main_v64_eq _ _ _ _ _ _ _),
    (h c).2.2.2.2.2.2.2.1.trans (Read.val_main_v66_eq _ _ _ _ _ _ _),
    (h c).2.2.2.2.2.2.2.2.1.trans (Read.val_main_v68_eq _ _ _ _ _ _ _),
    (h c).2.2.2.2.2.2.2.2.2⟩) (Value.run m ρ)

end

theorem frame_p : Cert.quiescent_Merge := fun m ρ _ => Cert.Merge.Gen.frame m ρ
theorem frame_pi : Cert.quiescent_MergeIdeal := fun m ρ _ => Cert.MergeIdeal.Gen.frame m ρ
theorem frame_ri : Cert.quiescent_MergeRefIdeal := fun m g _ =>
  (θ_run Cert.MergeRefIdeal.defs _ _).mono (fun r h => ⟨fun c => (h c).2.2.2.2.2.2.2.2.2, sem_eq_zero_of_no_sems (by decide) r.2⟩)
    (Cert.MergeRefIdeal.Value.run (F := Ideal) m g)

theorem algebraic : Cert.algebraic_MergeIdeal_MergeRefIdeal := by
  pair_intro
  · run_from Cert.MergeIdeal.Value.run_blocks m g
  · run_from run_ref m' g'
    · exact (Cert.MergeIdeal.Bridge.fin11 m c).symm
    · exact (Cert.MergeIdeal.Bridge.fin12 m c).symm
    · exact (Cert.MergeIdeal.Bridge.fin13 m c).symm
    · exact (Cert.MergeIdeal.Bridge.fin14 m c).symm
    · exact (Cert.MergeIdeal.Bridge.fin15 m c).symm
    · exact (Cert.MergeIdeal.Bridge.fin16 m c).symm
    · exact (Cert.MergeIdeal.Bridge.fin17 m c).symm
    · exact (Cert.MergeIdeal.Bridge.fin18 m c).symm
    · exact (Cert.MergeIdeal.Bridge.fin19 m c).symm

end Cert.MergeClaims

end
-- ==== Proof.DoValue.lean ====
/- The gradient of a branch's value through its projection: column tile by column tile, the kernel's array is the reference's product. -/
module

public import proofs.«01_k».proof.Proof.Gen.DoIdeal.Value
public import proofs.«01_k».proof.Proof.Gen.DoRefIdeal.Read
public import Idealize.ShloMosaic.Lib.Pipeline.ValueKit

@[expose] public section

set_option maxRecDepth 16384

noncomputable section

namespace Cert.DoRefIdeal.At

open Cert.DoRefIdeal Cert.DoRefIdeal.Gen Cert.DoRefIdeal.Read
open Idealize.ShloMosaic Idealize.ShloMosaic.TcCoe Idealize.SL.Sem

/-- The reference's gradient at an index: the sum over the model's features. -/
theorem at6 (x : FVec Ideal S2048x2048 .bf16) (w : FVec Ideal S2048x1024 .bf16) (i : Fin 2048) (j : Fin 1024) :
    val_main_v6 (F := Ideal) x w (ix2 i j) = ∑ k : Fin 2048, x (ix2 i k) * w (ix2 k j) := by
  pointwise [val_main_v6, val_main_v5, val_main_v4, val_main_v2, val_main_v1]

end Cert.DoRefIdeal.At

namespace Cert.DoIdeal.Bridge

open Cert.DoIdeal Cert.DoIdeal.Gen Idealize.ShloMosaic Idealize.ShloMosaic.TcCoe Idealize.SL.Sem
open Idealize.ShloMosaic.Pipeline (Dat)

variable (m : (ℓ : Loc nD τ sig) → Buf (Elt Ideal) ℓ)

/-- Every window's block at a grid point: the point is the column tile. -/
theorem idx : ∀ t : Fin cfg0.N, win0_0.index t = ![0, 0] ∧ win0_1.index t = ![0, t.val] ∧ win0_2.index t = ![0, t.val] :=
  (by decide +kernel : ∀ t : Fin grid0.N, win0_0.index t = ![0, 0] ∧ win0_1.index t = ![0, t.val] ∧ win0_2.index t = ![0, t.val])

/-- A tile's stored values. -/
theorem pay1_at (x : FVec Ideal S2048x2048 .bf16) (w : FVec Ideal S2048x512 .bf16) (i : Fin 2048) (j : Fin 512) :
    k0_pay1 (F := Ideal) x w (ix2 i j) = ∑ k : Fin 2048, x (ix2 i k) * w (ix2 k j) := by
  pointwise [k0_pay1]

/-- What the point `t` stores is the reference's value at its place. -/
theorem point2 (c : Dev nD) (t : Fin cfg0.N) (y : S2048x512.Idx) :
    out0_2 (iblk m c 0 t) (iblk m c 1 t) y
      = Cert.DoRefIdeal.Read.val_main_v6 (F := Ideal) (m ((c : Thread nD τ).loc main_arg0)) (m ((c : Thread nD τ).loc main_arg1))
          ((win0_2.blk t).view.emb y) := by
  idx_vars y
  refine Eq.trans ?_ ((Cert.DoRefIdeal.At.at6 _ _ y0 ⟨t.val * 512 + y1.val, by have := lt_of_lt_of_eq t.isLt (show cfg0.N = 2 from N_0); omega⟩).symm.trans
    (congrArg _ (by blk_ext [idx t])))
  frame_out
  rw [pay1_at]
  refine Finset.sum_congr rfl fun k _ => ?_
  blk_point [iblk, V, idx t]

/-- The kernel's array is the reference's. -/
theorem fin2 (c : Dev nD) :
    (dats m 0 c).arrAt 2 cfg0.N
      = Cert.DoRefIdeal.Read.val_main_v6 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  exact point2 m c t y

end Cert.DoIdeal.Bridge

end
-- ==== Proof.DoClaims.lean ====
/- The claims of the gradient of a branch's value: the frames, the constants kept, and the value claim. -/
module

public import proofs.«01_k».proof.Defs
public import proofs.«01_k».proof.Proof.DoValue
public import proofs.«01_k».proof.Proof.Gen.Do.Frame
public import proofs.«01_k».proof.Proof.Gen.DoRefIdeal.Run
public import proofs.«01_k».proof.Proof.Gen.DoRefIdeal.Read
public import Idealize.ShloMosaic.Lib.Claim
public import Idealize.ShloMosaic.Lib.Quiescent

@[expose] public section

set_option maxRecDepth 16384

noncomputable section

namespace Cert.DoClaims

open Idealize.ShloMosaic Idealize.ShloMosaic.TcCoe Idealize.SL.Sem

/-- No constant of the kernel is named. -/
theorem preserves : Cert.preserves_Do_DoIdeal := trivial

section
open Cert.DoRefIdeal Cert.DoRefIdeal.Gen

/-- The reference's run, its result named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v6) = Read.val_main_v6 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (Read.val_main_v6_eq _ _),
    (h c).2⟩) (Value.run m ρ)

end

theorem frame_p : Cert.quiescent_Do := fun m ρ _ => Cert.Do.Gen.frame m ρ
theorem frame_pi : Cert.quiescent_DoIdeal := fun m ρ _ => Cert.DoIdeal.Gen.frame m ρ
theorem frame_ri : Cert.quiescent_DoRefIdeal := fun m g _ =>
  (θ_run Cert.DoRefIdeal.defs _ _).mono (fun r h => ⟨fun c => (h c).2, sem_eq_zero_of_no_sems (by decide) r.2⟩)
    (Cert.DoRefIdeal.Value.run (F := Ideal) m g)

theorem algebraic : Cert.algebraic_DoIdeal_DoRefIdeal := by
  pair_intro
  · run_from Cert.DoIdeal.Value.run_blocks m g
  · run_from run_ref m' g'
    exact (Cert.DoIdeal.Bridge.fin2 m c).symm

end Cert.DoClaims

end
-- ==== Proof.WoValue.lean ====
/- The gradient of a branch's projection's weight: row tile by row tile, the kernel's array is the reference's product. -/
module

public import proofs.«01_k».proof.Proof.Gen.WoIdeal.Value
public import proofs.«01_k».proof.Proof.Gen.WoRefIdeal.Read
public import Idealize.ShloMosaic.Lib.Pipeline.ValueKit

@[expose] public section

set_option maxRecDepth 16384

noncomputable section

namespace Cert.WoRefIdeal.At

open Cert.WoRefIdeal Cert.WoRefIdeal.Gen Cert.WoRefIdeal.Read
open Idealize.ShloMosaic Idealize.ShloMosaic.TcCoe Idealize.SL.Sem

/-- The reference's gradient at an index: the sum over the tokens. -/
theorem at7 (x : FVec Ideal S2048x2048 .bf16) (w : FVec Ideal S2048x1024 .bf16) (i : Fin 2048) (j : Fin 1024) :
    val_main_v7 (F := Ideal) x w (ix2 i j) = ∑ k : Fin 2048, x (ix2 k i) * w (ix2 k j) := by
  pointwise [val_main_v7, val_main_v6, val_main_v5, val_main_v4, val_main_v3, val_main_v1]

end Cert.WoRefIdeal.At

namespace Cert.WoIdeal.Bridge

open Cert.WoIdeal Cert.WoIdeal.Gen Idealize.ShloMosaic Idealize.ShloMosaic.TcCoe Idealize.SL.Sem
open Idealize.ShloMosaic.Pipeline (Dat)

variable (m : (ℓ : Loc nD τ sig) → Buf (Elt Ideal) ℓ)

/-- Every window's block at a grid point: the point is the row tile. -/
theorem idx : ∀ t : Fin cfg0.N, win0_0.index t = ![0, t.val] ∧ win0_1.index t = ![0, 0] ∧ win0_2.index t = ![t.val, 0] :=
  (by decide +kernel : ∀ t : Fin grid0.N, win0_0.index t = ![0, t.val] ∧ win0_1.index t = ![0, 0] ∧ win0_2.index t = ![t.val, 0])

/-- A tile's stored values. -/
theorem pay1_at (x : FVec Ideal S2048x512 .bf16) (w : FVec Ideal S2048x1024 .bf16) (i : Fin 512) (j : Fin 1024) :
    k0_pay1 (F := Ideal) x w (ix2 i j) = ∑ k : Fin 2048, x (ix2 k i) * w (ix2 k j) := by
  pointwise [k0_pay1]

/-- What the point `t` stores is the reference's value at its place. -/
theorem point2 (c : Dev nD) (t : Fin cfg0.N) (y : S512x1024.Idx) :
    out0_2 (iblk m c 0 t) (iblk m c 1 t) y
      = Cert.WoRefIdeal.Read.val_main_v7 (F := Ideal) (m ((c : Thread nD τ).loc main_arg0)) (m ((c : Thread nD τ).loc main_arg1))
          ((win0_2.blk t).view.emb y) := by
  idx_vars y
  refine Eq.trans ?_ ((Cert.WoRefIdeal.At.at7 _ _ ⟨t.val * 512 + y0.val, by have := lt_of_lt_of_eq t.isLt (show cfg0.N = 4 from N_0); omega⟩ y1).symm.trans
    (congrArg _ (by blk_ext [idx t])))
  frame_out
  rw [pay1_at]
  refine Finset.sum_congr rfl fun k _ => ?_
  blk_point [iblk, V, idx t]

/-- The kernel's array is the reference's. -/
theorem fin2 (c : Dev nD) :
    (dats m 0 c).arrAt 2 cfg0.N
      = Cert.WoRefIdeal.Read.val_main_v7 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  exact point2 m c t y

end Cert.WoIdeal.Bridge

end
-- ==== Proof.WoClaims.lean ====
/- The claims of the gradient of a branch's projection's weight: the frames, the constants kept, and the value claim. -/
module

public import proofs.«01_k».proof.Defs
public import proofs.«01_k».proof.Proof.WoValue
public import proofs.«01_k».proof.Proof.Gen.Wo.Frame
public import proofs.«01_k».proof.Proof.Gen.WoRefIdeal.Run
public import proofs.«01_k».proof.Proof.Gen.WoRefIdeal.Read
public import Idealize.ShloMosaic.Lib.Claim
public import Idealize.ShloMosaic.Lib.Quiescent

@[expose] public section

set_option maxRecDepth 16384

noncomputable section

namespace Cert.WoClaims

open Idealize.ShloMosaic Idealize.ShloMosaic.TcCoe Idealize.SL.Sem

/-- No constant of the kernel is named. -/
theorem preserves : Cert.preserves_Wo_WoIdeal := trivial

section
open Cert.WoRefIdeal Cert.WoRefIdeal.Gen

/-- The reference's run, its result named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v7) = Read.val_main_v7 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (Read.val_main_v7_eq _ _),
    (h c).2⟩) (Value.run m ρ)

end

theorem frame_p : Cert.quiescent_Wo := fun m ρ _ => Cert.Wo.Gen.frame m ρ
theorem frame_pi : Cert.quiescent_WoIdeal := fun m ρ _ => Cert.WoIdeal.Gen.frame m ρ
theorem frame_ri : Cert.quiescent_WoRefIdeal := fun m g _ =>
  (θ_run Cert.WoRefIdeal.defs _ _).mono (fun r h => ⟨fun c => (h c).2, sem_eq_zero_of_no_sems (by decide) r.2⟩)
    (Cert.WoRefIdeal.Value.run (F := Ideal) m g)

theorem algebraic : Cert.algebraic_WoIdeal_WoRefIdeal := by
  pair_intro
  · run_from Cert.WoIdeal.Value.run_blocks m g
  · run_from run_ref m' g'
    exact (Cert.WoIdeal.Bridge.fin2 m c).symm

end Cert.WoClaims

end
-- ==== Proof.WoutValue.lean ====
/- The gradient of the output projection's weight: row tile by row tile, the kernel's array is the reference's product. -/
module

public import proofs.«01_k».proof.Proof.Gen.WoutIdeal.Value
public import proofs.«01_k».proof.Proof.Gen.WoutRefIdeal.Read
public import Idealize.ShloMosaic.Lib.Pipeline.ValueKit

@[expose] public section

set_option maxRecDepth 16384

noncomputable section

namespace Cert.WoutRefIdeal.At

open Cert.WoutRefIdeal Cert.WoutRefIdeal.Gen Cert.WoutRefIdeal.Read
open Idealize.ShloMosaic Idealize.ShloMosaic.TcCoe Idealize.SL.Sem

/-- The reference's gradient at an index: the sum over the tokens. -/
theorem at6 (x : FVec Ideal S2048x2048 .bf16) (w : FVec Ideal S2048x2048 .bf16) (i : Fin 2048) (j : Fin 2048) :
    val_main_v6 (F := Ideal) x w (ix2 i j) = ∑ k : Fin 2048, x (ix2 k i) * w (ix2 k j) := by
  refine Eq.trans ?_ (Finset.sum_congr rfl fun k _ => mul_comm _ _)
  pointwise [val_main_v6, val_main_v5, val_main_v4, val_main_v3, val_main_v1]

end Cert.WoutRefIdeal.At

namespace Cert.WoutIdeal.Bridge

open Cert.WoutIdeal Cert.WoutIdeal.Gen Idealize.ShloMosaic Idealize.ShloMosaic.TcCoe Idealize.SL.Sem
open Idealize.ShloMosaic.Pipeline (Dat)

variable (m : (ℓ : Loc nD τ sig) → Buf (Elt Ideal) ℓ)

/-- Every window's block at a grid point: the point is the row tile. -/
theorem idx : ∀ t : Fin cfg0.N, win0_0.index t = ![0, t.val] ∧ win0_1.index t = ![0, 0] ∧ win0_2.index t = ![t.val, 0] :=
  (by decide +kernel : ∀ t : Fin grid0.N, win0_0.index t = ![0, t.val] ∧ win0_1.index t = ![0, 0] ∧ win0_2.index t = ![t.val, 0])

/-- A tile's stored values. -/
theorem pay1_at (x : FVec Ideal S2048x512 .bf16) (w : FVec Ideal S2048x2048 .bf16) (i : Fin 512) (j : Fin 2048) :
    k0_pay1 (F := Ideal) x w (ix2 i j) = ∑ k : Fin 2048, x (ix2 k i) * w (ix2 k j) := by
  pointwise [k0_pay1]

/-- What the point `t` stores is the reference's value at its place. -/
theorem point2 (c : Dev nD) (t : Fin cfg0.N) (y : S512x2048.Idx) :
    out0_2 (iblk m c 0 t) (iblk m c 1 t) y
      = Cert.WoutRefIdeal.Read.val_main_v6 (F := Ideal) (m ((c : Thread nD τ).loc main_arg0)) (m ((c : Thread nD τ).loc main_arg1))
          ((win0_2.blk t).view.emb y) := by
  idx_vars y
  refine Eq.trans ?_ ((Cert.WoutRefIdeal.At.at6 _ _ ⟨t.val * 512 + y0.val, by have := lt_of_lt_of_eq t.isLt (show cfg0.N = 4 from N_0); omega⟩ y1).symm.trans
    (congrArg _ (by blk_ext [idx t])))
  frame_out
  rw [pay1_at]
  refine Finset.sum_congr rfl fun k _ => ?_
  blk_point [iblk, V, idx t]

/-- The kernel's array is the reference's. -/
theorem fin2 (c : Dev nD) :
    (dats m 0 c).arrAt 2 cfg0.N
      = Cert.WoutRefIdeal.Read.val_main_v6 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  exact point2 m c t y

end Cert.WoutIdeal.Bridge

end
-- ==== Proof.WoutClaims.lean ====
/- The claims of the gradient of the output projection's weight: the frames, the constants kept, and the value claim. -/
module

public import proofs.«01_k».proof.Defs
public import proofs.«01_k».proof.Proof.WoutValue
public import proofs.«01_k».proof.Proof.Gen.Wout.Frame
public import proofs.«01_k».proof.Proof.Gen.WoutRefIdeal.Run
public import proofs.«01_k».proof.Proof.Gen.WoutRefIdeal.Read
public import Idealize.ShloMosaic.Lib.Claim
public import Idealize.ShloMosaic.Lib.Quiescent

@[expose] public section

set_option maxRecDepth 16384

noncomputable section

namespace Cert.WoutClaims

open Idealize.ShloMosaic Idealize.ShloMosaic.TcCoe Idealize.SL.Sem

/-- No constant of the kernel is named. -/
theorem preserves : Cert.preserves_Wout_WoutIdeal := trivial

section
open Cert.WoutRefIdeal Cert.WoutRefIdeal.Gen

/-- The reference's run, its result named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v6) = Read.val_main_v6 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (Read.val_main_v6_eq _ _),
    (h c).2⟩) (Value.run m ρ)

end

theorem frame_p : Cert.quiescent_Wout := fun m ρ _ => Cert.Wout.Gen.frame m ρ
theorem frame_pi : Cert.quiescent_WoutIdeal := fun m ρ _ => Cert.WoutIdeal.Gen.frame m ρ
theorem frame_ri : Cert.quiescent_WoutRefIdeal := fun m g _ =>
  (θ_run Cert.WoutRefIdeal.defs _ _).mono (fun r h => ⟨fun c => (h c).2, sem_eq_zero_of_no_sems (by decide) r.2⟩)
    (Cert.WoutRefIdeal.Value.run (F := Ideal) m g)

theorem algebraic : Cert.algebraic_WoutIdeal_WoutRefIdeal := by
  pair_intro
  · run_from Cert.WoutIdeal.Value.run_blocks m g
  · run_from run_ref m' g'
    exact (Cert.WoutIdeal.Bridge.fin2 m c).symm

end Cert.WoutClaims

end
-- ==== Proof.OutValue.lean ====
/- The output projection added to the residual: column tile by column tile, the kernel's array is the reference's. -/
module

public import proofs.«01_k».proof.Proof.Gen.OutIdeal.Value
public import proofs.«01_k».proof.Proof.Gen.OutRefIdeal.Read
public import Idealize.ShloMosaic.Lib.Pipeline.ValueKit

@[expose] public section

set_option maxRecDepth 16384

noncomputable section

namespace Cert.OutRefIdeal.At

open Cert.OutRefIdeal Cert.OutRefIdeal.Gen Cert.OutRefIdeal.Read
open Idealize.ShloMosaic Idealize.ShloMosaic.TcCoe Idealize.SL.Sem

/-- The reference's value at an index. -/
theorem at3 (x : FVec Ideal S2048x2048 .bf16) (w : FVec Ideal S2048x2048 .bf16) (r : FVec Ideal S2048x2048 .f32) (i : Fin 2048) (j : Fin 2048) :
    val_main_v3 (F := Ideal) x w r (ix2 i j) = r (ix2 i j) + ∑ k : Fin 2048, x (ix2 i k) * w (ix2 k j) := by
  pointwise [val_main_v3, val_main_v2, val_main_v1, val_main_v0]

end Cert.OutRefIdeal.At

namespace Cert.OutIdeal.Bridge

open Cert.OutIdeal Cert.OutIdeal.Gen Idealize.ShloMosaic Idealize.ShloMosaic.TcCoe Idealize.SL.Sem
open Idealize.ShloMosaic.Pipeline (Dat)

variable (m : (ℓ : Loc nD τ sig) → Buf (Elt Ideal) ℓ)

/-- Every window's block at a grid point: the point is the column tile. -/
theorem idx : ∀ t : Fin cfg0.N, win0_0.index t = ![0, 0] ∧ win0_1.index t = ![0, t.val]
    ∧ win0_2.index t = ![0, t.val] ∧ win0_3.index t = ![0, t.val] :=
  (by decide +kernel : ∀ t : Fin grid0.N, win0_0.index t = ![0, 0] ∧ win0_1.index t = ![0, t.val]
    ∧ win0_2.index t = ![0, t.val] ∧ win0_3.index t = ![0, t.val])

/-- A tile's stored values. -/
theorem pay1_at (x : FVec Ideal S2048x2048 .bf16) (w : FVec Ideal S2048x256 .bf16) (r : FVec Ideal S2048x256 .f32) (i : Fin 2048) (j : Fin 256) :
    k0_pay1 (F := Ideal) x w r (ix2 i j) = r (ix2 i j) + ∑ k : Fin 2048, x (ix2 i k) * w (ix2 k j) := by
  rw [add_comm]
  pointwise [k0_pay1]

/-- What the point `t` stores is the reference's value at its place. -/
theorem point3 (c : Dev nD) (t : Fin cfg0.N) (y : S2048x256.Idx) :
    out0_3 (iblk m c 0 t) (iblk m c 1 t) (iblk m c 2 t) y
      = Cert.OutRefIdeal.Read.val_main_v3 (F := Ideal) (m ((c : Thread nD τ).loc main_arg0)) (m ((c : Thread nD τ).loc main_arg1)) (m ((c : Thread nD τ).loc main_arg2))
          ((win0_3.blk t).view.emb y) := by
  idx_vars y
  refine Eq.trans ?_ ((Cert.OutRefIdeal.At.at3 _ _ _ y0 ⟨t.val * 256 + y1.val, by have := lt_of_lt_of_eq t.isLt (show cfg0.N = 8 from N_0); omega⟩).symm.trans
    (congrArg _ (by blk_ext [idx t])))
  frame_out
  rw [pay1_at]
  refine congr (congrArg _ ?_) (Finset.sum_congr rfl fun k _ => ?_)
  · blk_point [iblk, V, idx t]
  · blk_point [iblk, V, idx t]

/-- The kernel's array is the reference's. -/
theorem fin3 (c : Dev nD) :
    (dats m 0 c).arrAt 3 cfg0.N
      = Cert.OutRefIdeal.Read.val_main_v3 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  exact point3 m c t y

end Cert.OutIdeal.Bridge

end
-- ==== Proof.OutClaims.lean ====
/- The claims of the output projection: the frames, the constants kept, and the value claim. -/
module

public import proofs.«01_k».proof.Defs
public import proofs.«01_k».proof.Proof.OutValue
public import proofs.«01_k».proof.Proof.Gen.Out.Frame
public import proofs.«01_k».proof.Proof.Gen.OutRefIdeal.Run
public import proofs.«01_k».proof.Proof.Gen.OutRefIdeal.Read
public import Idealize.ShloMosaic.Lib.Claim
public import Idealize.ShloMosaic.Lib.Quiescent

@[expose] public section

set_option maxRecDepth 16384

noncomputable section

namespace Cert.OutClaims

open Idealize.ShloMosaic Idealize.ShloMosaic.TcCoe Idealize.SL.Sem

/-- No constant of the kernel is named. -/
theorem preserves : Cert.preserves_Out_OutIdeal := trivial

section
open Cert.OutRefIdeal Cert.OutRefIdeal.Gen

/-- The reference's run, its result named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3) = Read.val_main_v3 (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (Read.val_main_v3_eq _ _ _),
    (h c).2⟩) (Value.run m ρ)

end

theorem frame_p : Cert.quiescent_Out := fun m ρ _ => Cert.Out.Gen.frame m ρ
theorem frame_pi : Cert.quiescent_OutIdeal := fun m ρ _ => Cert.OutIdeal.Gen.frame m ρ
theorem frame_ri : Cert.quiescent_OutRefIdeal := fun m g _ =>
  (θ_run Cert.OutRefIdeal.defs _ _).mono (fun r h => ⟨fun c => (h c).2, sem_eq_zero_of_no_sems (by decide) r.2⟩)
    (Cert.OutRefIdeal.Value.run (F := Ideal) m g)

theorem algebraic : Cert.algebraic_OutIdeal_OutRefIdeal := by
  pair_intro
  · run_from Cert.OutIdeal.Value.run_blocks m g
  · run_from run_ref m' g'
    exact (Cert.OutIdeal.Bridge.fin3 m c).symm

end Cert.OutClaims

end
-- ==== Proof.ProjValue.lean ====
/- The input projection's five pieces: column tile by column tile, each kernel's array is the reference's. -/
module

public import proofs.«01_k».proof.Proof.Gen.PqIdeal.Value
public import proofs.«01_k».proof.Proof.Gen.PqRefIdeal.Read
public import proofs.«01_k».proof.Proof.Gen.PkvIdeal.Value
public import proofs.«01_k».proof.Proof.Gen.PkvRefIdeal.Read
public import proofs.«01_k».proof.Proof.Gen.PconvIdeal.Value
public import proofs.«01_k».proof.Proof.Gen.PconvRefIdeal.Read
public import proofs.«01_k».proof.Proof.Gen.PsgIdeal.Value
public import proofs.«01_k».proof.Proof.Gen.PsgRefIdeal.Read
public import proofs.«01_k».proof.Proof.Gen.PgateIdeal.Value
public import proofs.«01_k».proof.Proof.Gen.PgateRefIdeal.Read
public import Idealize.ShloMosaic.Lib.Pipeline.ValueKit

@[expose] public section

set_option maxRecDepth 16384

noncomputable section

namespace Cert.PqRefIdeal.At

open Cert.PqRefIdeal Cert.PqRefIdeal.Gen Cert.PqRefIdeal.Read
open Idealize.ShloMosaic Idealize.ShloMosaic.TcCoe Idealize.SL.Sem

/-- The reference's piece at an index: the sum over the features. -/
theorem at5 (x : FVec Ideal S2048x2048 .bf16) (w : FVec Ideal S11776x2048 .bf16) (i : Fin 2048) (j : Fin 1024) :
    val_main_v5 (F := Ideal) x w (ix2 i j) = ∑ k : Fin 2048, x (ix2 i k) * w (ix2 (⟨j.val, by omega⟩ : Fin 11776) k) := by
  pointwise [val_main_v5, val_main_v4, val_main_v3, val_main_v2, val_main_v1, val_main_v0]

end Cert.PqRefIdeal.At

namespace Cert.PqIdeal.Bridge

open Cert.PqIdeal Cert.PqIdeal.Gen Idealize.ShloMosaic Idealize.ShloMosaic.TcCoe Idealize.SL.Sem
open Idealize.ShloMosaic.Pipeline (Dat)

variable (m : (ℓ : Loc nD τ sig) → Buf (Elt Ideal) ℓ)

/-- Every window's block at a grid point: the point is the column tile, counted from the piece's first. -/
theorem idx : ∀ t : Fin cfg0.N, win0_0.index t = ![0, 0] ∧ win0_1.index t = ![t.val, 0] ∧ win0_2.index t = ![0, t.val] :=
  (by decide +kernel : ∀ t : Fin grid0.N, win0_0.index t = ![0, 0] ∧ win0_1.index t = ![t.val, 0] ∧ win0_2.index t = ![0, t.val])

/-- A tile's stored values. -/
theorem pay1_at (x : FVec Ideal S2048x2048 .bf16) (w : FVec Ideal S512x2048 .bf16) (i : Fin 2048) (j : Fin 512) :
    k0_pay1 (F := Ideal) x w (ix2 i j) = ∑ k : Fin 2048, x (ix2 i k) * w (ix2 j k) := by
  pointwise [k0_pay1]

/-- What the point `t` stores is the reference's value at its place. -/
theorem point2 (c : Dev nD) (t : Fin cfg0.N) (y : S2048x512.Idx) :
    out0_2 (iblk m c 0 t) (iblk m c 1 t) y
      = Cert.PqRefIdeal.Read.val_main_v5 (F := Ideal) (m ((c : Thread nD τ).loc main_arg0)) (m ((c : Thread nD τ).loc main_arg1))
          ((win0_2.blk t).view.emb y) := by
  idx_vars y
  refine Eq.trans ?_ ((Cert.PqRefIdeal.At.at5 _ _ y0 ⟨t.val * 512 + y1.val, by have := lt_of_lt_of_eq t.isLt (show cfg0.N = 2 from N_0); omega⟩).symm.trans
    (congrArg _ (by blk_ext [idx t])))
  frame_out
  rw [pay1_at]
  refine Finset.sum_congr rfl fun k _ => ?_
  blk_point [iblk, V, idx t]

/-- The kernel's array is the reference's. -/
theorem fin2 (c : Dev nD) :
    (dats m 0 c).arrAt 2 cfg0.N
      = Cert.PqRefIdeal.Read.val_main_v5 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  exact point2 m c t y

end Cert.PqIdeal.Bridge

namespace Cert.PkvRefIdeal.At

open Cert.PkvRefIdeal Cert.PkvRefIdeal.Gen Cert.PkvRefIdeal.Read
open Idealize.ShloMosaic Idealize.ShloMosaic.TcCoe Idealize.SL.Sem

/-- The reference's piece at an index: the sum over the features. -/
theorem at5 (x : FVec Ideal S2048x2048 .bf16) (w : FVec Ideal S11776x2048 .bf16) (i : Fin 2048) (j : Fin 512) :
    val_main_v5 (F := Ideal) x w (ix2 i j) = ∑ k : Fin 2048, x (ix2 i k) * w (ix2 (⟨1024 + j.val, by omega⟩ : Fin 11776) k) := by
  pointwise [val_main_v5, val_main_v4, val_main_v3, val_main_v2, val_main_v1, val_main_v0]

end Cert.PkvRefIdeal.At

namespace Cert.PkvIdeal.Bridge

open Cert.PkvIdeal Cert.PkvIdeal.Gen Idealize.ShloMosaic Idealize.ShloMosaic.TcCoe Idealize.SL.Sem
open Idealize.ShloMosaic.Pipeline (Dat)

variable (m : (ℓ : Loc nD τ sig) → Buf (Elt Ideal) ℓ)

/-- Every window's block at a grid point: the point is the column tile, counted from the piece's first. -/
theorem idx : ∀ t : Fin cfg0.N, win0_0.index t = ![0, 0] ∧ win0_1.index t = ![t.val + 2, 0] ∧ win0_2.index t = ![0, t.val] :=
  (by decide +kernel : ∀ t : Fin grid0.N, win0_0.index t = ![0, 0] ∧ win0_1.index t = ![t.val + 2, 0] ∧ win0_2.index t = ![0, t.val])

/-- A tile's stored values. -/
theorem pay1_at (x : FVec Ideal S2048x2048 .bf16) (w : FVec Ideal S512x2048 .bf16) (i : Fin 2048) (j : Fin 512) :
    k0_pay1 (F := Ideal) x w (ix2 i j) = ∑ k : Fin 2048, x (ix2 i k) * w (ix2 j k) := by
  pointwise [k0_pay1]

/-- What the point `t` stores is the reference's value at its place. -/
theorem point2 (c : Dev nD) (t : Fin cfg0.N) (y : S2048x512.Idx) :
    out0_2 (iblk m c 0 t) (iblk m c 1 t) y
      = Cert.PkvRefIdeal.Read.val_main_v5 (F := Ideal) (m ((c : Thread nD τ).loc main_arg0)) (m ((c : Thread nD τ).loc main_arg1))
          ((win0_2.blk t).view.emb y) := by
  idx_vars y
  refine Eq.trans ?_ ((Cert.PkvRefIdeal.At.at5 _ _ y0 y1).symm.trans
    (congrArg _ (by blk_ext [idx t])))
  frame_out
  rw [pay1_at]
  refine Finset.sum_congr rfl fun k _ => ?_
  blk_point [iblk, V, idx t]

/-- The kernel's array is the reference's. -/
theorem fin2 (c : Dev nD) :
    (dats m 0 c).arrAt 2 cfg0.N
      = Cert.PkvRefIdeal.Read.val_main_v5 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  exact point2 m c t y

end Cert.PkvIdeal.Bridge

namespace Cert.PconvRefIdeal.At

open Cert.PconvRefIdeal Cert.PconvRefIdeal.Gen Cert.PconvRefIdeal.Read
open Idealize.ShloMosaic Idealize.ShloMosaic.TcCoe Idealize.SL.Sem

/-- The reference's piece at an index: the sum over the features. -/
theorem at5 (x : FVec Ideal S2048x2048 .bf16) (w : FVec Ideal S11776x2048 .bf16) (i : Fin 2048) (j : Fin 2048) :
    val_main_v5 (F := Ideal) x w (ix2 i j) = ∑ k : Fin 2048, x (ix2 i k) * w (ix2 (⟨1536 + j.val, by omega⟩ : Fin 11776) k) := by
  pointwise [val_main_v5, val_main_v4, val_main_v3, val_main_v2, val_main_v1, val_main_v0]

end Cert.PconvRefIdeal.At

namespace Cert.PconvIdeal.Bridge

open Cert.PconvIdeal Cert.PconvIdeal.Gen Idealize.ShloMosaic Idealize.ShloMosaic.TcCoe Idealize.SL.Sem
open Idealize.ShloMosaic.Pipeline (Dat)

variable (m : (ℓ : Loc nD τ sig) → Buf (Elt Ideal) ℓ)

/-- Every window's block at a grid point: the point is the column tile, counted from the piece's first. -/
theorem idx : ∀ t : Fin cfg0.N, win0_0.index t = ![0, 0] ∧ win0_1.index t = ![t.val + 3, 0] ∧ win0_2.index t = ![0, t.val] :=
  (by decide +kernel : ∀ t : Fin grid0.N, win0_0.index t = ![0, 0] ∧ win0_1.index t = ![t.val + 3, 0] ∧ win0_2.index t = ![0, t.val])

/-- A tile's stored values. -/
theorem pay1_at (x : FVec Ideal S2048x2048 .bf16) (w : FVec Ideal S512x2048 .bf16) (i : Fin 2048) (j : Fin 512) :
    k0_pay1 (F := Ideal) x w (ix2 i j) = ∑ k : Fin 2048, x (ix2 i k) * w (ix2 j k) := by
  pointwise [k0_pay1]

/-- What the point `t` stores is the reference's value at its place. -/
theorem point2 (c : Dev nD) (t : Fin cfg0.N) (y : S2048x512.Idx) :
    out0_2 (iblk m c 0 t) (iblk m c 1 t) y
      = Cert.PconvRefIdeal.Read.val_main_v5 (F := Ideal) (m ((c : Thread nD τ).loc main_arg0)) (m ((c : Thread nD τ).loc main_arg1))
          ((win0_2.blk t).view.emb y) := by
  idx_vars y
  refine Eq.trans ?_ ((Cert.PconvRefIdeal.At.at5 _ _ y0 ⟨t.val * 512 + y1.val, by have := lt_of_lt_of_eq t.isLt (show cfg0.N = 4 from N_0); omega⟩).symm.trans
    (congrArg _ (by blk_ext [idx t])))
  frame_out
  rw [pay1_at]
  refine Finset.sum_congr rfl fun k _ => ?_
  blk_point [iblk, V, idx t]

/-- The kernel's array is the reference's. -/
theorem fin2 (c : Dev nD) :
    (dats m 0 c).arrAt 2 cfg0.N
      = Cert.PconvRefIdeal.Read.val_main_v5 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  exact point2 m c t y

end Cert.PconvIdeal.Bridge

namespace Cert.PsgRefIdeal.At

open Cert.PsgRefIdeal Cert.PsgRefIdeal.Gen Cert.PsgRefIdeal.Read
open Idealize.ShloMosaic Idealize.ShloMosaic.TcCoe Idealize.SL.Sem

/-- The reference's piece at an index: the sum over the features. -/
theorem at5 (x : FVec Ideal S2048x2048 .bf16) (w : FVec Ideal S11776x2048 .bf16) (i : Fin 2048) (j : Fin 2048) :
    val_main_v5 (F := Ideal) x w (ix2 i j) = ∑ k : Fin 2048, x (ix2 i k) * w (ix2 (⟨3584 + j.val, by omega⟩ : Fin 11776) k) := by
  pointwise [val_main_v5, val_main_v4, val_main_v3, val_main_v2, val_main_v1, val_main_v0]

end Cert.PsgRefIdeal.At

namespace Cert.PsgIdeal.Bridge

open Cert.PsgIdeal Cert.PsgIdeal.Gen Idealize.ShloMosaic Idealize.ShloMosaic.TcCoe Idealize.SL.Sem
open Idealize.ShloMosaic.Pipeline (Dat)

variable (m : (ℓ : Loc nD τ sig) → Buf (Elt Ideal) ℓ)

/-- Every window's block at a grid point: the point is the column tile, counted from the piece's first. -/
theorem idx : ∀ t : Fin cfg0.N, win0_0.index t = ![0, 0] ∧ win0_1.index t = ![t.val + 7, 0] ∧ win0_2.index t = ![0, t.val] :=
  (by decide +kernel : ∀ t : Fin grid0.N, win0_0.index t = ![0, 0] ∧ win0_1.index t = ![t.val + 7, 0] ∧ win0_2.index t = ![0, t.val])

/-- A tile's stored values. -/
theorem pay1_at (x : FVec Ideal S2048x2048 .bf16) (w : FVec Ideal S512x2048 .bf16) (i : Fin 2048) (j : Fin 512) :
    k0_pay1 (F := Ideal) x w (ix2 i j) = ∑ k : Fin 2048, x (ix2 i k) * w (ix2 j k) := by
  pointwise [k0_pay1]

/-- What the point `t` stores is the reference's value at its place. -/
theorem point2 (c : Dev nD) (t : Fin cfg0.N) (y : S2048x512.Idx) :
    out0_2 (iblk m c 0 t) (iblk m c 1 t) y
      = Cert.PsgRefIdeal.Read.val_main_v5 (F := Ideal) (m ((c : Thread nD τ).loc main_arg0)) (m ((c : Thread nD τ).loc main_arg1))
          ((win0_2.blk t).view.emb y) := by
  idx_vars y
  refine Eq.trans ?_ ((Cert.PsgRefIdeal.At.at5 _ _ y0 ⟨t.val * 512 + y1.val, by have := lt_of_lt_of_eq t.isLt (show cfg0.N = 4 from N_0); omega⟩).symm.trans
    (congrArg _ (by blk_ext [idx t])))
  frame_out
  rw [pay1_at]
  refine Finset.sum_congr rfl fun k _ => ?_
  blk_point [iblk, V, idx t]

/-- The kernel's array is the reference's. -/
theorem fin2 (c : Dev nD) :
    (dats m 0 c).arrAt 2 cfg0.N
      = Cert.PsgRefIdeal.Read.val_main_v5 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  exact point2 m c t y

end Cert.PsgIdeal.Bridge

namespace Cert.PgateRefIdeal.At

open Cert.PgateRefIdeal Cert.PgateRefIdeal.Gen Cert.PgateRefIdeal.Read
open Idealize.ShloMosaic Idealize.ShloMosaic.TcCoe Idealize.SL.Sem

/-- The reference's piece at an index: the sum over the features. -/
theorem at5 (x : FVec Ideal S2048x2048 .bf16) (w : FVec Ideal S11776x2048 .bf16) (i : Fin 2048) (j : Fin 6144) :
    val_main_v5 (F := Ideal) x w (ix2 i j) = ∑ k : Fin 2048, x (ix2 i k) * w (ix2 (⟨5632 + j.val, by omega⟩ : Fin 11776) k) := by
  pointwise [val_main_v5, val_main_v4, val_main_v3, val_main_v2, val_main_v1, val_main_v0]

end Cert.PgateRefIdeal.At

namespace Cert.PgateIdeal.Bridge

open Cert.PgateIdeal Cert.PgateIdeal.Gen Idealize.ShloMosaic Idealize.ShloMosaic.TcCoe Idealize.SL.Sem
open Idealize.ShloMosaic.Pipeline (Dat)

variable (m : (ℓ : Loc nD τ sig) → Buf (Elt Ideal) ℓ)

/-- Every window's block at a grid point: the point is the column tile, counted from the piece's first. -/
theorem idx : ∀ t : Fin cfg0.N, win0_0.index t = ![0, 0] ∧ win0_1.index t = ![t.val + 11, 0] ∧ win0_2.index t = ![0, t.val] :=
  (by decide +kernel : ∀ t : Fin grid0.N, win0_0.index t = ![0, 0] ∧ win0_1.index t = ![t.val + 11, 0] ∧ win0_2.index t = ![0, t.val])

/-- A tile's stored values. -/
theorem pay1_at (x : FVec Ideal S2048x2048 .bf16) (w : FVec Ideal S512x2048 .bf16) (i : Fin 2048) (j : Fin 512) :
    k0_pay1 (F := Ideal) x w (ix2 i j) = ∑ k : Fin 2048, x (ix2 i k) * w (ix2 j k) := by
  pointwise [k0_pay1]

/-- What the point `t` stores is the reference's value at its place. -/
theorem point2 (c : Dev nD) (t : Fin cfg0.N) (y : S2048x512.Idx) :
    out0_2 (iblk m c 0 t) (iblk m c 1 t) y
      = Cert.PgateRefIdeal.Read.val_main_v5 (F := Ideal) (m ((c : Thread nD τ).loc main_arg0)) (m ((c : Thread nD τ).loc main_arg1))
          ((win0_2.blk t).view.emb y) := by
  idx_vars y
  refine Eq.trans ?_ ((Cert.PgateRefIdeal.At.at5 _ _ y0 ⟨t.val * 512 + y1.val, by have := lt_of_lt_of_eq t.isLt (show cfg0.N = 12 from N_0); omega⟩).symm.trans
    (congrArg _ (by blk_ext [idx t])))
  frame_out
  rw [pay1_at]
  refine Finset.sum_congr rfl fun k _ => ?_
  blk_point [iblk, V, idx t]

/-- The kernel's array is the reference's. -/
theorem fin2 (c : Dev nD) :
    (dats m 0 c).arrAt 2 cfg0.N
      = Cert.PgateRefIdeal.Read.val_main_v5 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  exact point2 m c t y

end Cert.PgateIdeal.Bridge

end
-- ==== Proof.ProjClaims.lean ====
/- The claims of the input projection's five pieces: the frames, the constants kept, and the value claim. -/
module

public import proofs.«01_k».proof.Defs
public import proofs.«01_k».proof.Proof.ProjValue
public import proofs.«01_k».proof.Proof.Gen.Pq.Frame
public import proofs.«01_k».proof.Proof.Gen.PqRefIdeal.Run
public import proofs.«01_k».proof.Proof.Gen.PqRefIdeal.Read
public import proofs.«01_k».proof.Proof.Gen.Pkv.Frame
public import proofs.«01_k».proof.Proof.Gen.PkvRefIdeal.Run
public import proofs.«01_k».proof.Proof.Gen.PkvRefIdeal.Read
public import proofs.«01_k».proof.Proof.Gen.Pconv.Frame
public import proofs.«01_k».proof.Proof.Gen.PconvRefIdeal.Run
public import proofs.«01_k».proof.Proof.Gen.PconvRefIdeal.Read
public import proofs.«01_k».proof.Proof.Gen.Psg.Frame
public import proofs.«01_k».proof.Proof.Gen.PsgRefIdeal.Run
public import proofs.«01_k».proof.Proof.Gen.PsgRefIdeal.Read
public import proofs.«01_k».proof.Proof.Gen.Pgate.Frame
public import proofs.«01_k».proof.Proof.Gen.PgateRefIdeal.Run
public import proofs.«01_k».proof.Proof.Gen.PgateRefIdeal.Read
public import Idealize.ShloMosaic.Lib.Claim
public import Idealize.ShloMosaic.Lib.Quiescent

@[expose] public section

set_option maxRecDepth 16384

noncomputable section

namespace Cert.PqClaims

open Idealize.ShloMosaic Idealize.ShloMosaic.TcCoe Idealize.SL.Sem

/-- No constant of the kernel is named. -/
theorem preserves : Cert.preserves_Pq_PqIdeal := trivial

section
open Cert.PqRefIdeal Cert.PqRefIdeal.Gen

/-- The reference's run, its result named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v5) = Read.val_main_v5 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (Read.val_main_v5_eq _ _),
    (h c).2⟩) (Value.run m ρ)

end

theorem frame_p : Cert.quiescent_Pq := fun m ρ _ => Cert.Pq.Gen.frame m ρ
theorem frame_pi : Cert.quiescent_PqIdeal := fun m ρ _ => Cert.PqIdeal.Gen.frame m ρ
theorem frame_ri : Cert.quiescent_PqRefIdeal := fun m g _ =>
  (θ_run Cert.PqRefIdeal.defs _ _).mono (fun r h => ⟨fun c => (h c).2, sem_eq_zero_of_no_sems (by decide) r.2⟩)
    (Cert.PqRefIdeal.Value.run (F := Ideal) m g)

theorem algebraic : Cert.algebraic_PqIdeal_PqRefIdeal := by
  pair_intro
  · run_from Cert.PqIdeal.Value.run_blocks m g
  · run_from run_ref m' g'
    exact (Cert.PqIdeal.Bridge.fin2 m c).symm

end Cert.PqClaims

namespace Cert.PkvClaims

open Idealize.ShloMosaic Idealize.ShloMosaic.TcCoe Idealize.SL.Sem

/-- No constant of the kernel is named. -/
theorem preserves : Cert.preserves_Pkv_PkvIdeal := trivial

section
open Cert.PkvRefIdeal Cert.PkvRefIdeal.Gen

/-- The reference's run, its result named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v5) = Read.val_main_v5 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (Read.val_main_v5_eq _ _),
    (h c).2⟩) (Value.run m ρ)

end

theorem frame_p : Cert.quiescent_Pkv := fun m ρ _ => Cert.Pkv.Gen.frame m ρ
theorem frame_pi : Cert.quiescent_PkvIdeal := fun m ρ _ => Cert.PkvIdeal.Gen.frame m ρ
theorem frame_ri : Cert.quiescent_PkvRefIdeal := fun m g _ =>
  (θ_run Cert.PkvRefIdeal.defs _ _).mono (fun r h => ⟨fun c => (h c).2, sem_eq_zero_of_no_sems (by decide) r.2⟩)
    (Cert.PkvRefIdeal.Value.run (F := Ideal) m g)

theorem algebraic : Cert.algebraic_PkvIdeal_PkvRefIdeal := by
  pair_intro
  · run_from Cert.PkvIdeal.Value.run_blocks m g
  · run_from run_ref m' g'
    exact (Cert.PkvIdeal.Bridge.fin2 m c).symm

end Cert.PkvClaims

namespace Cert.PconvClaims

open Idealize.ShloMosaic Idealize.ShloMosaic.TcCoe Idealize.SL.Sem

/-- No constant of the kernel is named. -/
theorem preserves : Cert.preserves_Pconv_PconvIdeal := trivial

section
open Cert.PconvRefIdeal Cert.PconvRefIdeal.Gen

/-- The reference's run, its result named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v5) = Read.val_main_v5 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (Read.val_main_v5_eq _ _),
    (h c).2⟩) (Value.run m ρ)

end

theorem frame_p : Cert.quiescent_Pconv := fun m ρ _ => Cert.Pconv.Gen.frame m ρ
theorem frame_pi : Cert.quiescent_PconvIdeal := fun m ρ _ => Cert.PconvIdeal.Gen.frame m ρ
theorem frame_ri : Cert.quiescent_PconvRefIdeal := fun m g _ =>
  (θ_run Cert.PconvRefIdeal.defs _ _).mono (fun r h => ⟨fun c => (h c).2, sem_eq_zero_of_no_sems (by decide) r.2⟩)
    (Cert.PconvRefIdeal.Value.run (F := Ideal) m g)

theorem algebraic : Cert.algebraic_PconvIdeal_PconvRefIdeal := by
  pair_intro
  · run_from Cert.PconvIdeal.Value.run_blocks m g
  · run_from run_ref m' g'
    exact (Cert.PconvIdeal.Bridge.fin2 m c).symm

end Cert.PconvClaims

namespace Cert.PsgClaims

open Idealize.ShloMosaic Idealize.ShloMosaic.TcCoe Idealize.SL.Sem

/-- No constant of the kernel is named. -/
theorem preserves : Cert.preserves_Psg_PsgIdeal := trivial

section
open Cert.PsgRefIdeal Cert.PsgRefIdeal.Gen

/-- The reference's run, its result named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v5) = Read.val_main_v5 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (Read.val_main_v5_eq _ _),
    (h c).2⟩) (Value.run m ρ)

end

theorem frame_p : Cert.quiescent_Psg := fun m ρ _ => Cert.Psg.Gen.frame m ρ
theorem frame_pi : Cert.quiescent_PsgIdeal := fun m ρ _ => Cert.PsgIdeal.Gen.frame m ρ
theorem frame_ri : Cert.quiescent_PsgRefIdeal := fun m g _ =>
  (θ_run Cert.PsgRefIdeal.defs _ _).mono (fun r h => ⟨fun c => (h c).2, sem_eq_zero_of_no_sems (by decide) r.2⟩)
    (Cert.PsgRefIdeal.Value.run (F := Ideal) m g)

theorem algebraic : Cert.algebraic_PsgIdeal_PsgRefIdeal := by
  pair_intro
  · run_from Cert.PsgIdeal.Value.run_blocks m g
  · run_from run_ref m' g'
    exact (Cert.PsgIdeal.Bridge.fin2 m c).symm

end Cert.PsgClaims

namespace Cert.PgateClaims

open Idealize.ShloMosaic Idealize.ShloMosaic.TcCoe Idealize.SL.Sem

/-- No constant of the kernel is named. -/
theorem preserves : Cert.preserves_Pgate_PgateIdeal := trivial

section
open Cert.PgateRefIdeal Cert.PgateRefIdeal.Gen

/-- The reference's run, its result named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v5) = Read.val_main_v5 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (Read.val_main_v5_eq _ _),
    (h c).2⟩) (Value.run m ρ)

end

theorem frame_p : Cert.quiescent_Pgate := fun m ρ _ => Cert.Pgate.Gen.frame m ρ
theorem frame_pi : Cert.quiescent_PgateIdeal := fun m ρ _ => Cert.PgateIdeal.Gen.frame m ρ
theorem frame_ri : Cert.quiescent_PgateRefIdeal := fun m g _ =>
  (θ_run Cert.PgateRefIdeal.defs _ _).mono (fun r h => ⟨fun c => (h c).2, sem_eq_zero_of_no_sems (by decide) r.2⟩)
    (Cert.PgateRefIdeal.Value.run (F := Ideal) m g)

theorem algebraic : Cert.algebraic_PgateIdeal_PgateRefIdeal := by
  pair_intro
  · run_from Cert.PgateIdeal.Value.run_blocks m g
  · run_from run_ref m' g'
    exact (Cert.PgateIdeal.Bridge.fin2 m c).symm

end Cert.PgateClaims

end
-- ==== Proof.MixValue.lean ====
/- The three branches' projections and their gated merge: the kernel's four arrays are the reference's. -/
module

public import proofs.«01_k».proof.Proof.Gen.MixIdeal.Value
public import proofs.«01_k».proof.Proof.Gen.MixRefIdeal.Read
public import proofs.«01_k».proof.Proof.MergeRef
public import Idealize.ShloMosaic.Lib.Pipeline.ValueKit

@[expose] public section

set_option maxRecDepth 16384

noncomputable section

namespace Cert.MixRefIdeal.At

open Cert.MixRefIdeal Cert.MixRefIdeal.Gen Cert.MixRefIdeal.Read
open Idealize.ShloMosaic Idealize.ShloMosaic.TcCoe Idealize.SL.Sem
open Cert.MergeRefIdeal.At (gate gcol gcol_zero gcol_one gcol_two)

variable (o cz sz wo wc ws : FVec Ideal S2048x1024 .bf16) (gl : FVec Ideal S2048x6144 .bf16) (bg : FVec Ideal S1x6144 .f32)

/-- A branch's projection. -/
def proj (x w : FVec Ideal S2048x1024 .bf16) (s j : Fin 2048) : EReal := ∑ k : Fin 1024, x (ix2 s k) * w (ix2 j k)

theorem at3 (s j : Fin 2048) : val_main_v3 (F := Ideal) o wo (ix2 s j) = proj o wo s j := by
  pointwise [val_main_v3, val_main_v2, val_main_v1, val_main_v0, proj]

theorem at7 (s j : Fin 2048) : val_main_v7 (F := Ideal) cz wc (ix2 s j) = proj cz wc s j := by
  pointwise [val_main_v7, val_main_v6, val_main_v5, val_main_v4, proj]

theorem at11 (s j : Fin 2048) : val_main_v11 (F := Ideal) sz ws (ix2 s j) = proj sz ws s j := by
  pointwise [val_main_v11, val_main_v10, val_main_v9, val_main_v8, proj]

/-- The projections as they are stored. -/
theorem at33 (s j : Fin 2048) : val_main_v33 (F := Ideal) o wo (ix2 s j) = proj o wo s j := at3 o wo s j

theorem at34 (s j : Fin 2048) : val_main_v34 (F := Ideal) cz wc (ix2 s j) = proj cz wc s j := at7 cz wc s j

theorem at35 (s j : Fin 2048) : val_main_v35 (F := Ideal) sz ws (ix2 s j) = proj sz ws s j := at11 sz ws s j

/-- The gates' logits. -/
theorem at15 (s : Fin 2048) (b : Fin 3) (j : Fin 2048) :
    val_main_v15 (F := Ideal) gl bg (ix3 s b j) = gl (ix2 s (gcol b j)) + bg (ix2 0 (gcol b j)) := by
  pointwise [val_main_v15, val_main_v14, val_main_v13, val_main_v12]

/-- The gates. -/
theorem at21 (s : Fin 2048) (b : Fin 3) (j : Fin 2048) : val_main_v21 (F := Ideal) gl bg (ix3 s b j) = gate gl bg b s j := by
  unfold gate
  rw [← Gate.sigmoid_eq, ← at15]
  unfold val_main_v21 val_main_v19 val_main_v17 val_main_v16
  generalize val_main_v15 (F := Ideal) gl bg = x
  pointwise [val_main_v20, val_main_cst_0, val_main_v18, val_main_cst]

theorem at23 (s j : Fin 2048) : val_main_v23 (F := Ideal) gl bg (ix2 s j) = gate gl bg 0 s j := by
  rw [← at21]
  unfold val_main_v23 val_main_v22
  generalize val_main_v21 (F := Ideal) gl bg = x
  pointwise

theorem at26 (s j : Fin 2048) : val_main_v26 (F := Ideal) gl bg (ix2 s j) = gate gl bg 1 s j := by
  rw [← at21]
  unfold val_main_v26 val_main_v25
  generalize val_main_v21 (F := Ideal) gl bg = x
  pointwise

theorem at30 (s j : Fin 2048) : val_main_v30 (F := Ideal) gl bg (ix2 s j) = gate gl bg 2 s j := by
  rw [← at21]
  unfold val_main_v30 val_main_v29
  generalize val_main_v21 (F := Ideal) gl bg = x
  pointwise

/-- The merged value. -/
theorem at36 (s j : Fin 2048) :
    val_main_v36 (F := Ideal) o cz sz wo wc ws gl bg (ix2 s j)
      = gate gl bg 0 s j * proj o wo s j + gate gl bg 1 s j * proj cz wc s j + gate gl bg 2 s j * proj sz ws s j := by
  rw [← at23, ← at26, ← at30, ← at3, ← at7, ← at11]
  rfl

end Cert.MixRefIdeal.At

namespace Cert.MixIdeal.Bridge

open Cert.MixIdeal Cert.MixIdeal.Gen Idealize.ShloMosaic Idealize.ShloMosaic.TcCoe Idealize.SL.Sem
open Idealize.ShloMosaic.Pipeline (Dat)
open Cert.MergeRefIdeal.At (gate gcol)
open Cert.MixRefIdeal.At (proj)

section
variable (x : FVec Ideal S2048x1024 .bf16) (w : FVec Ideal S256x1024 .bf16) (s : Fin 2048) (j : Fin 256)

/-- A tile of a branch's projection, -/
theorem pay5_at : k0_pay5 (F := Ideal) x w (ix2 s j) = ∑ k : Fin 1024, x (ix2 s k) * w (ix2 j k) := by
  pointwise [k0_pay5]

theorem pay6_at : k0_pay6 (F := Ideal) x w (ix2 s j) = ∑ k : Fin 1024, x (ix2 s k) * w (ix2 j k) := by
  pointwise [k0_pay6]

theorem pay7_at : k0_pay7 (F := Ideal) x w (ix2 s j) = ∑ k : Fin 1024, x (ix2 s k) * w (ix2 j k) := by
  pointwise [k0_pay7]

/-- as it is stored. -/
theorem pay1_at (y : FVec Ideal S2048x256 .bf16) (i : S2048x256.Idx) : k0_pay1 (F := Ideal) y i = y i := by
  pointwise [k0_pay1]

theorem pay2_at (y : FVec Ideal S2048x256 .bf16) (i : S2048x256.Idx) : k0_pay2 (F := Ideal) y i = y i := by
  pointwise [k0_pay2]

theorem pay3_at (y : FVec Ideal S2048x256 .bf16) (i : S2048x256.Idx) : k0_pay3 (F := Ideal) y i = y i := by
  pointwise [k0_pay3]

end

section
variable (x0 x1 : FVec Ideal S2048x1024 .bf16) (w0 w1 : FVec Ideal S256x1024 .bf16) (g0 g1 g2 : FVec Ideal S2048x256 .bf16)
  (b0 b1 b2 : FVec Ideal S1x256 .f32) (s : Fin 2048) (j : Fin 256)

/-- The first two gated projections' sum on a tile. -/
theorem pay8_at :
    k0_pay8 (F := Ideal) x0 x1 w0 w1 g0 g1 b0 b1 (ix2 s j)
      = Ideal.logistic (g0 (ix2 s j) + b0 (ix2 0 j)) * k0_pay5 (F := Ideal) x0 w0 (ix2 s j)
        + Ideal.logistic (g1 (ix2 s j) + b1 (ix2 0 j)) * k0_pay6 (F := Ideal) x1 w1 (ix2 s j) := by
  unfold k0_pay8
  generalize k0_pay5 (F := Ideal) x0 w0 = p
  generalize k0_pay6 (F := Ideal) x1 w1 = q
  pointwise

/-- The third added. -/
theorem pay4_at (y : FVec Ideal S2048x256 .bf16) (a : FVec Ideal S2048x256 .f32) :
    k0_pay4 (F := Ideal) b2 y a (k0_pay9 (F := Ideal) g2) (ix2 s j)
      = a (ix2 s j) + Ideal.logistic (g2 (ix2 s j) + b2 (ix2 0 j)) * y (ix2 s j) := by
  pointwise [k0_pay4, k0_pay9]

end

variable (m : (ℓ : Loc nD τ sig) → Buf (Elt Ideal) ℓ)

/-- Every window's block at a grid point: the point is the tile of features, the gates' tiles further along. -/
theorem idx : ∀ t : Fin cfg0.N, win0_0.index t = ![0, 0] ∧ win0_1.index t = ![0, 0] ∧ win0_2.index t = ![0, 0]
    ∧ win0_3.index t = ![t.val, 0] ∧ win0_4.index t = ![t.val, 0] ∧ win0_5.index t = ![t.val, 0]
    ∧ win0_6.index t = ![0, t.val] ∧ win0_7.index t = ![0, t.val + 8] ∧ win0_8.index t = ![0, t.val + 16]
    ∧ win0_9.index t = ![0, t.val] ∧ win0_10.index t = ![0, t.val + 8] ∧ win0_11.index t = ![0, t.val + 16]
    ∧ win0_12.index t = ![0, t.val] ∧ win0_13.index t = ![0, t.val] ∧ win0_14.index t = ![0, t.val] ∧ win0_15.index t = ![0, t.val] :=
  (by decide +kernel : ∀ t : Fin grid0.N, win0_0.index t = ![0, 0] ∧ win0_1.index t = ![0, 0] ∧ win0_2.index t = ![0, 0]
    ∧ win0_3.index t = ![t.val, 0] ∧ win0_4.index t = ![t.val, 0] ∧ win0_5.index t = ![t.val, 0]
    ∧ win0_6.index t = ![0, t.val] ∧ win0_7.index t = ![0, t.val + 8] ∧ win0_8.index t = ![0, t.val + 16]
    ∧ win0_9.index t = ![0, t.val] ∧ win0_10.index t = ![0, t.val + 8] ∧ win0_11.index t = ![0, t.val + 16]
    ∧ win0_12.index t = ![0, t.val] ∧ win0_13.index t = ![0, t.val] ∧ win0_14.index t = ![0, t.val] ∧ win0_15.index t = ![0, t.val])

/-- The tile's column. -/
abbrev col (t : Fin cfg0.N) (j : Fin 256) : Fin 2048 := ⟨t.val * 256 + j.val, by have := lt_of_lt_of_eq t.isLt (show cfg0.N = 8 from N_0); omega⟩

/-- The argument arrays. -/
abbrev A0 (c : Dev nD) : FVec Ideal S2048x1024 .bf16 := m ((c : Thread nD τ).loc main_arg0)
abbrev A1 (c : Dev nD) : FVec Ideal S2048x1024 .bf16 := m ((c : Thread nD τ).loc main_arg1)
abbrev A2 (c : Dev nD) : FVec Ideal S2048x1024 .bf16 := m ((c : Thread nD τ).loc main_arg2)
abbrev A3 (c : Dev nD) : FVec Ideal S2048x1024 .bf16 := m ((c : Thread nD τ).loc main_arg3)
abbrev A4 (c : Dev nD) : FVec Ideal S2048x1024 .bf16 := m ((c : Thread nD τ).loc main_arg4)
abbrev A5 (c : Dev nD) : FVec Ideal S2048x1024 .bf16 := m ((c : Thread nD τ).loc main_arg5)
abbrev A6 (c : Dev nD) : FVec Ideal S2048x6144 .bf16 := m ((c : Thread nD τ).loc main_arg6)
abbrev A7 (c : Dev nD) : FVec Ideal S1x6144 .f32 := m ((c : Thread nD τ).loc main_arg7)

section
variable (c : Dev nD) (t : Fin cfg0.N) (s : Fin 2048) (j : Fin 256)

/-- The projections' tiles, from the arrays. -/
theorem proj0_at : k0_pay5 (F := Ideal) (iblk m c 0 t) (iblk m c 3 t) (ix2 s j) = proj (A0 m c) (A3 m c) s (col t j) := by
  rw [pay5_at]
  unfold proj
  refine Finset.sum_congr rfl fun k _ => ?_
  blk_point [iblk, V, idx t]

theorem proj1_at : k0_pay6 (F := Ideal) (iblk m c 1 t) (iblk m c 4 t) (ix2 s j) = proj (A1 m c) (A4 m c) s (col t j) := by
  rw [pay6_at]
  unfold proj
  refine Finset.sum_congr rfl fun k _ => ?_
  blk_point [iblk, V, idx t]

theorem proj2_at : k0_pay7 (F := Ideal) (iblk m c 2 t) (iblk m c 5 t) (ix2 s j) = proj (A2 m c) (A5 m c) s (col t j) := by
  rw [pay7_at]
  unfold proj
  refine Finset.sum_congr rfl fun k _ => ?_
  blk_point [iblk, V, idx t]

/-- The gates', from the arrays. -/
theorem gate0_at :
    Ideal.logistic ((show FVec Ideal S2048x256 .bf16 from iblk m c 6 t) (ix2 s j) + (show FVec Ideal S1x256 .f32 from iblk m c 9 t) (ix2 0 j))
      = gate (A6 m c) (A7 m c) 0 s (col t j) := by
  unfold gate
  dsimp only
  refine congrArg _ (congr (congrArg _ ?_) ?_)
  · blk_point [iblk, V, idx t]
  · blk_point [iblk, V, idx t]

theorem gate1_at :
    Ideal.logistic ((show FVec Ideal S2048x256 .bf16 from iblk m c 7 t) (ix2 s j) + (show FVec Ideal S1x256 .f32 from iblk m c 10 t) (ix2 0 j))
      = gate (A6 m c) (A7 m c) 1 s (col t j) := by
  unfold gate
  dsimp only
  refine congrArg _ (congr (congrArg _ ?_) ?_)
  · blk_point [iblk, V, idx t]
  · blk_point [iblk, V, idx t]

theorem gate2_at :
    Ideal.logistic ((show FVec Ideal S2048x256 .bf16 from iblk m c 8 t) (ix2 s j) + (show FVec Ideal S1x256 .f32 from iblk m c 11 t) (ix2 0 j))
      = gate (A6 m c) (A7 m c) 2 s (col t j) := by
  unfold gate
  dsimp only
  refine congrArg _ (congr (congrArg _ ?_) ?_)
  · blk_point [iblk, V, idx t]
  · blk_point [iblk, V, idx t]

end

/-- The three projections. -/
theorem fin12 (c : Dev nD) : (dats m 0 c).arrAt 12 cfg0.N = Cert.MixRefIdeal.Read.val_main_v33 (F := Ideal) (A0 m c) (A3 m c) := by
  refine (dats m 0 c).arrAt_eq_of_covers 12 _ (by decide +kernel) fun t _ y => ?_
  blk_simp
  rw [after0_12]
  idx_vars y
  refine Eq.trans ?_ ((Cert.MixRefIdeal.At.at33 _ _ y0 (col t y1)).symm.trans (congrArg _ (by blk_ext [idx t])))
  unfold_out out0_12
  frame_out
  exact (pay1_at ..).trans (proj0_at m c t y0 y1)

theorem fin13 (c : Dev nD) : (dats m 0 c).arrAt 13 cfg0.N = Cert.MixRefIdeal.Read.val_main_v34 (F := Ideal) (A1 m c) (A4 m c) := by
  refine (dats m 0 c).arrAt_eq_of_covers 13 _ (by decide +kernel) fun t _ y => ?_
  blk_simp
  rw [after0_13]
  idx_vars y
  refine Eq.trans ?_ ((Cert.MixRefIdeal.At.at34 _ _ y0 (col t y1)).symm.trans (congrArg _ (by blk_ext [idx t])))
  unfold_out out0_13
  frame_out
  exact (pay2_at ..).trans (proj1_at m c t y0 y1)

theorem fin14 (c : Dev nD) : (dats m 0 c).arrAt 14 cfg0.N = Cert.MixRefIdeal.Read.val_main_v35 (F := Ideal) (A2 m c) (A5 m c) := by
  refine (dats m 0 c).arrAt_eq_of_covers 14 _ (by decide +kernel) fun t _ y => ?_
  blk_simp
  rw [after0_14]
  idx_vars y
  refine Eq.trans ?_ ((Cert.MixRefIdeal.At.at35 _ _ y0 (col t y1)).symm.trans (congrArg _ (by blk_ext [idx t])))
  unfold_out out0_14
  frame_out
  exact (pay3_at ..).trans (proj2_at m c t y0 y1)

/-- The merged value. -/
theorem fin15 (c : Dev nD) :
    (dats m 0 c).arrAt 15 cfg0.N
      = Cert.MixRefIdeal.Read.val_main_v36 (F := Ideal) (A0 m c) (A1 m c) (A2 m c) (A3 m c) (A4 m c) (A5 m c) (A6 m c) (A7 m c) := by
  refine (dats m 0 c).arrAt_eq_of_covers 15 _ (by decide +kernel) fun t _ y => ?_
  blk_simp
  rw [after0_15]
  idx_vars y
  refine Eq.trans ?_ ((Cert.MixRefIdeal.At.at36 _ _ _ _ _ _ _ _ y0 (col t y1)).symm.trans (congrArg _ (by blk_ext [idx t])))
  unfold_out out0_15
  frame_out
  refine (pay4_at ..).trans ?_
  rw [pay8_at]
  have e0 := proj0_at m c t y0 y1
  have e1 := proj1_at m c t y0 y1
  have e2 := proj2_at m c t y0 y1
  have h0 := gate0_at m c t y0 y1
  have h1 := gate1_at m c t y0 y1
  have h2 := gate2_at m c t y0 y1
  dsimp only at h0 h1 h2
  rw [e0, e1, e2, h0, h1, h2]

end Cert.MixIdeal.Bridge

end
-- ==== Proof.MixClaims.lean ====
/- The claims of the branches' projections and their merge: the frames, the constants kept, and the value claim. -/
module

public import proofs.«01_k».proof.Defs
public import proofs.«01_k».proof.Proof.MixValue
public import proofs.«01_k».proof.Proof.Gen.Mix.Frame
public import proofs.«01_k».proof.Proof.Gen.MixRefIdeal.Run
public import proofs.«01_k».proof.Proof.Gen.MixRefIdeal.Read
public import Idealize.ShloMosaic.Lib.Claim
public import Idealize.ShloMosaic.Lib.Quiescent

@[expose] public section

set_option maxRecDepth 16384

noncomputable section

namespace Cert.MixClaims

open Idealize.ShloMosaic Idealize.ShloMosaic.TcCoe Idealize.SL.Sem

/-- No constant of the kernel is named. -/
theorem preserves : Cert.preserves_Mix_MixIdeal := trivial

section
open Cert.MixRefIdeal Cert.MixRefIdeal.Gen

/-- The reference's run, its results named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v33) = Read.val_main_v33 (F := Ideal) (m ((c.tc : Thread nD τ).loc main_arg0)) (m ((c.tc : Thread nD τ).loc main_arg3))
      ∧ r.2.mem ((c.tc : Thread nD τ).loc main_v34) = Read.val_main_v34 (F := Ideal) (m ((c.tc : Thread nD τ).loc main_arg1)) (m ((c.tc : Thread nD τ).loc main_arg4))
      ∧ r.2.mem ((c.tc : Thread nD τ).loc main_v35) = Read.val_main_v35 (F := Ideal) (m ((c.tc : Thread nD τ).loc main_arg2)) (m ((c.tc : Thread nD τ).loc main_arg5))
      ∧ r.2.mem ((c.tc : Thread nD τ).loc main_v36) = Read.val_main_v36 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans (Read.val_main_v33_eq _ _),
    (h c).2.1.trans (Read.val_main_v34_eq _ _),
    (h c).2.2.1.trans (Read.val_main_v35_eq _ _),
    (h c).2.2.2.1.trans (Read.val_main_v36_eq _ _ _ _ _ _ _ _),
    (h c).2.2.2.2⟩) (Value.run m ρ)

end

theorem frame_p : Cert.quiescent_Mix := fun m ρ _ => Cert.Mix.Gen.frame m ρ
theorem frame_pi : Cert.quiescent_MixIdeal := fun m ρ _ => Cert.MixIdeal.Gen.frame m ρ
theorem frame_ri : Cert.quiescent_MixRefIdeal := fun m g _ =>
  (θ_run Cert.MixRefIdeal.defs _ _).mono (fun r h => ⟨fun c => (h c).2.2.2.2, sem_eq_zero_of_no_sems (by decide) r.2⟩)
    (Cert.MixRefIdeal.Value.run (F := Ideal) m g)

theorem algebraic : Cert.algebraic_MixIdeal_MixRefIdeal := by
  pair_intro
  · run_from Cert.MixIdeal.Value.run_blocks m g
  · run_from run_ref m' g'
    · exact (Cert.MixIdeal.Bridge.fin12 m c).symm
    · exact (Cert.MixIdeal.Bridge.fin13 m c).symm
    · exact (Cert.MixIdeal.Bridge.fin14 m c).symm
    · exact (Cert.MixIdeal.Bridge.fin15 m c).symm

end Cert.MixClaims

end
-- ==== Proof.AtfValue.lean ====
/- The grouped-query attention: block by block, the kernel's array is the reference's. The queries and keys are finite,
   so the scores are, and the rows of `Softmax` agree; the values may be anything. -/
module

public import proofs.«01_k».proof.Proof.Gen.AtfIdeal.Value
public import proofs.«01_k».proof.Proof.Gen.AtfRefIdeal.Read
public import proofs.«01_k».proof.Proof.AttnBlocks
public import Idealize.ShloMosaic.Lib.Pipeline.ValueKit

@[expose] public section

set_option maxRecDepth 16384

noncomputable section

namespace Cert.AtfRefIdeal.At

open Cert.AtfRefIdeal Cert.AtfRefIdeal.Gen Cert.AtfRefIdeal.Read
open Idealize.ShloMosaic Idealize.ShloMosaic.TcCoe Idealize.SL.Sem
open Cert.AttnRefIdeal.At (qcol kcol vcol score)

variable (q0 : FVec Ideal S2048x1024 .bf16) (k0 : FVec Ideal S2048x256 .bf16) (v0 : FVec Ideal S2048x512 .bf16)

/-- The scaled scores. -/
theorem at10 (h : Fin 2) (g : Fin 4) (q j : Fin 2048) :
    val_main_v10 (F := Ideal) q0 k0 (ix4 h g q j) = score q0 k0 h g q j * ((Softmax.cs : ℝ) : EReal) := by
  pointwise [val_main_v10, val_main_v9, val_main_v8, val_main_v7, val_main_v3, val_main_v2, val_main_v1, val_main_v0,
    val_main_cst, Softmax.ofBits_cs, score]
  refine congrArg (· * _) (Finset.sum_congr rfl fun d _ => mul_comm _ _)

/-- A maximum over the last axis, read at an index. -/
theorem reduce_at (x : FVec Ideal S2x4x2048x2048 .f32) (init : FVec Ideal S_ .f32) (h : Fin 2) (g : Fin 4) (q : Fin 2048) :
    Host.reduce FloatOps.maximumf x init reducesTo_S2x4x2048x2048_S2x4x2048_d3 h_S_ (ix3 h g q)
      = Finset.univ.fold max (init (Shape.Idx.first h_S_)) (fun j => x (ix4 h g q j)) := by
  pointwise

/-- The maxima start from minus infinity. -/
theorem cst_0_at (i : S_.Idx) : val_main_cst_0 (F := Ideal) i = (⊥ : EReal) := Softmax.ofBits_neg_inf

/-- The rows' maxima. -/
theorem at11 (h : Fin 2) (g : Fin 4) (q : Fin 2048) :
    val_main_v11 (F := Ideal) q0 k0 (ix3 h g q)
      = Finset.univ.fold max ⊥ (fun j => score q0 k0 h g q j * ((Softmax.cs : ℝ) : EReal)) := by
  unfold val_main_v11
  refine (reduce_at _ _ h g q).trans ?_
  rw [cst_0_at]
  simp only [at10]

/-- The rows' maxima, taken once more against minus infinity. -/
theorem at15 (y : FVec Ideal S2x4x2048 .f32) (h : Fin 2) (g : Fin 4) (q j : Fin 2048) :
    broadcastInDim S2x4x2048x2048 ![0, 1, 2, 3] bcast_S2x4x2048x1_S2x4x2048x2048_0_1_2_3
        (broadcastInDim S2x4x2048x1 ![0, 1, 2] bcast_S2x4x2048_S2x4x2048x1_0_1_2
          (maximumf (val_main_v12 (F := Ideal)) y)) (ix4 h g q j)
      = max ⊥ (y (ix3 h g q)) := by
  rw [← Softmax.ofBits_neg_inf]
  pointwise [val_main_v12, val_main_cst_1]

/-- The exponentials. -/
theorem at17 (h : Fin 2) (g : Fin 4) (q j : Fin 2048) :
    val_main_v17 (F := Ideal) q0 k0 (ix4 h g q j) = Softmax.rexp (score q0 k0 h g q) j := by
  unfold Softmax.rexp
  rw [← at11, ← at10, ← at15 _ h g q j]
  rfl

/-- The probabilities. -/
theorem at21 (h : Fin 2) (g : Fin 4) (q j : Fin 2048) :
    val_main_v21 (F := Ideal) q0 k0 (ix4 h g q j) = Softmax.rprob (score q0 k0 h g q) j := by
  unfold Softmax.rprob
  simp only [← at17]
  unfold val_main_v21 val_main_v20 val_main_v19 val_main_v18
  generalize val_main_v17 (F := Ideal) q0 k0 = x
  pointwise [val_main_cst_2]

/-- The attention's output. -/
theorem at25 (h : Fin 2) (g : Fin 4) (d : Fin 128) (q : Fin 2048) :
    val_main_v25 (F := Ideal) q0 k0 v0 (ix2 q (qcol h g d))
      = ∑ j : Fin 2048, v0 (ix2 j (vcol h d)) * Softmax.rprob (score q0 k0 h g q) j := by
  simp only [← at21]
  unfold val_main_v25 val_main_v24 val_main_v23 val_main_v22
  generalize val_main_v21 (F := Ideal) q0 k0 = x
  pointwise [val_main_v6, val_main_v5, val_main_v4]
  refine Finset.sum_congr rfl fun j _ => ?_
  have e1 : ((h : ℕ) * 512 + g * 128 + d) / 512 = h := by omega
  have e2 : ((h : ℕ) * 512 + g * 128 + d) / 128 % 4 = g := by omega
  have e3 : ((h : ℕ) * 512 + g * 128 + d) % 128 = d := by omega
  simp only [e1, e2, e3, Fin.eta]

end Cert.AtfRefIdeal.At

namespace Cert.AtfIdeal.Bridge

open Cert.AtfIdeal Cert.AtfIdeal.Gen Idealize.ShloMosaic Idealize.ShloMosaic.TcCoe Idealize.SL.Sem
open Idealize.ShloMosaic.Pipeline (Dat)
open Cert.AttnRefIdeal.At (qcol kcol vcol score)
open Cert.AttnIdeal.Blocks (row col Fin0 score_finite sc_eq)
open Cert.AttnIdeal.Pay (sc)

/-- The named constant is the factor with `log₂ e` folded in. -/
theorem named_cs2 : (Named.named (F := Ideal) κ "scale_log2e" (φ := .f32) 0x3E0293EE#32 : EReal) = ((Softmax.cs2 : ℝ) : EReal) :=
  IdealRules.named_const.ideal_named_scalar _ _ _ _ rfl

section
variable (k v : FVec Ideal S2048x128 .bf16) (q : FVec Ideal S256x128 .bf16)

/-- A head's output rows. -/
theorem pay2_at (r : Fin 256) (d : Fin 128) :
    k0_pay2 (F := Ideal) k v q (ix2 r d) = ∑ j : Fin 2048, Softmax.kprob (sc k q r) j * v (ix2 j d) := by
  pointwise [k0_pay2, Softmax.kprob, Softmax.kexp, sc, named_cs2, Softmax.ofBits_neg_inf]
  rfl

/-- The four heads' rows are one function of their blocks. -/
theorem pay5_eq : k0_pay5 (F := Ideal) v (k0_pay3 k q) (k0_pay4 k q) = k0_pay2 (F := Ideal) k v q := rfl
theorem pay6_eq : k0_pay6 (F := Ideal) k v q = k0_pay2 (F := Ideal) k v q := rfl
theorem pay1_eq : k0_pay1 (F := Ideal) v (k0_pay7 k q) (k0_pay8 k q) = k0_pay2 (F := Ideal) k v q := rfl

variable (A0 : FVec Ideal S2048x1024 .bf16) (A1 : FVec Ideal S2048x256 .bf16) (A2 : FVec Ideal S2048x512 .bf16)
  (h : Fin 2) (g : Fin 4) (T : Fin 8)

/-- A head's rows, its blocks those of the arrays. -/
theorem out_eq (h0 : Fin0 A0) (h1 : Fin0 A1)
    (hk : ∀ j d, k (ix2 j d) = A1 (ix2 j (kcol h d))) (hv : ∀ j d, v (ix2 j d) = A2 (ix2 j (vcol h d)))
    (hq : ∀ r d, q (ix2 r d) = A0 (ix2 (row T r) (qcol h g d)))
    (x : S256x128.Idx) (i : S2048x1024.Idx) (hi0 : (i 0 : ℕ) = T * 256 + x 0) (hi1 : (i 1 : ℕ) = h * 512 + g * 128 + x 1) :
    k0_pay2 (F := Ideal) k v q x = Cert.AtfRefIdeal.Read.val_main_v25 (F := Ideal) A0 A1 A2 i := by
  idx_vars x
  have hi : i = ix2 (row T x0) (qcol h g x1) := by
    idx_ext
  rw [hi, Cert.AtfRefIdeal.At.at25, pay2_at]
  refine Finset.sum_congr rfl fun j _ => ?_
  rw [Softmax.prob_eq _ (fun j => by rw [sc_eq A0 A1 k q h g T hk hq]; exact score_finite A0 A1 h0 h1 h g _ j),
    sc_eq A0 A1 k q h g T hk hq, hv, mul_comm]

end

variable (m : (ℓ : Loc nD τ sig) → Buf (Elt Ideal) ℓ)

/-- Every window's block at a grid point: key head `t / 8`, query tile `t % 8`. -/
theorem idx : ∀ t : Fin cfg0.N, win0_0.index t = ![t.val % 8, t.val / 8] ∧ win0_1.index t = ![0, t.val / 8]
    ∧ win0_2.index t = ![0, 2 + t.val / 8] ∧ win0_3.index t = ![t.val % 8, t.val / 8] :=
  (by decide +kernel : ∀ t : Fin grid0.N, win0_0.index t = ![t.val % 8, t.val / 8] ∧ win0_1.index t = ![0, t.val / 8]
    ∧ win0_2.index t = ![0, 2 + t.val / 8] ∧ win0_3.index t = ![t.val % 8, t.val / 8])

/-- A point's key head, -/
abbrev hd (t : Fin cfg0.N) : Fin 2 := ⟨t.val / 8, by have := lt_of_lt_of_eq t.isLt (show cfg0.N = 16 from N_0); omega⟩

/-- and its query tile. -/
abbrev tl (t : Fin cfg0.N) : Fin 8 := ⟨t.val % 8, by omega⟩

/-- The argument arrays. -/
abbrev A0 (c : Dev nD) : FVec Ideal S2048x1024 .bf16 := m ((c : Thread nD τ).loc main_arg0)
abbrev A1 (c : Dev nD) : FVec Ideal S2048x256 .bf16 := m ((c : Thread nD τ).loc main_arg1)
abbrev A2 (c : Dev nD) : FVec Ideal S2048x512 .bf16 := m ((c : Thread nD τ).loc main_arg2)

/-- The point `t`'s block of the keys, read at an index. -/
theorem k_at (c : Dev nD) (t : Fin cfg0.N) (j : Fin 2048) (d : Fin 128) :
    (show FVec Ideal S2048x128 .bf16 from iblk m c 1 t) (ix2 j d) = A1 m c (ix2 j (kcol (hd t) d)) := by
  blk_point [iblk, V, idx t]

/-- The point `t`'s block of the values, read at an index. -/
theorem v_at (c : Dev nD) (t : Fin cfg0.N) (j : Fin 2048) (d : Fin 128) :
    (show FVec Ideal S2048x128 .bf16 from iblk m c 2 t) (ix2 j d) = A2 m c (ix2 j (vcol (hd t) d)) := by
  blk_point [iblk, V, idx t]

/-- One head's columns of the point `t`'s block of the queries, read at an index. -/
theorem q_at (c : Dev nD) (t : Fin cfg0.N) (g : Fin 4) (r : Fin 256) (d : Fin 128) :
    col (iblk m c 0 t) g (ix2 r d) = A0 m c (ix2 (row (tl t) r) (qcol (hd t) g d)) := by
  unfold col
  blk_point [iblk, V, idx t]

/-- The four column tiles a point stores are the reference's output at their places. -/
theorem point3 (c : Dev nD) (f0 : Fin0 (A0 m c)) (f1 : Fin0 (A1 m c)) (t : Fin cfg0.N) (y : S256x512.Idx) :
    out0_3 (iblk m c 0 t) (iblk m c 1 t) (iblk m c 2 t) y
      = Cert.AtfRefIdeal.Read.val_main_v25 (F := Ideal) (A0 m c) (A1 m c) (A2 m c) ((win0_3.blk t).view.emb y) := by
  frame_out
  canon_tiles x h
  case piece0 =>
    refine (congrFun (pay1_eq _ _ _) x).trans ?_
    refine out_eq _ _ _ _ _ _ (hd t) 3 (tl t) f0 f1 (k_at m c t) (v_at m c t) (fun r d => ?_) x _ ?_ ?_
    · refine Eq.trans ?_ (q_at m c t 3 r d); unfold col; pointwise; blk_ext
    · blk_simp [idx t]; show t.val % 8 * 256 + (y 0 : ℕ) = t.val % 8 * 256 + (x 0 : ℕ); omega
    · blk_simp [idx t]; show t.val / 8 * 512 + (y 1 : ℕ) = t.val / 8 * 512 + 3 * 128 + (x 1 : ℕ); omega
  case piece1 =>
    refine (congrFun (pay6_eq _ _ _) x).trans ?_
    refine out_eq _ _ _ _ _ _ (hd t) 2 (tl t) f0 f1 (k_at m c t) (v_at m c t) (fun r d => ?_) x _ ?_ ?_
    · refine Eq.trans ?_ (q_at m c t 2 r d); unfold col; pointwise; blk_ext
    · blk_simp [idx t]; show t.val % 8 * 256 + (y 0 : ℕ) = t.val % 8 * 256 + (x 0 : ℕ); omega
    · blk_simp [idx t]; show t.val / 8 * 512 + (y 1 : ℕ) = t.val / 8 * 512 + 2 * 128 + (x 1 : ℕ); omega
  case piece2 =>
    refine (congrFun (pay5_eq _ _ _) x).trans ?_
    refine out_eq _ _ _ _ _ _ (hd t) 1 (tl t) f0 f1 (k_at m c t) (v_at m c t) (fun r d => ?_) x _ ?_ ?_
    · refine Eq.trans ?_ (q_at m c t 1 r d); unfold col; pointwise; blk_ext
    · blk_simp [idx t]; show t.val % 8 * 256 + (y 0 : ℕ) = t.val % 8 * 256 + (x 0 : ℕ); omega
    · blk_simp [idx t]; show t.val / 8 * 512 + (y 1 : ℕ) = t.val / 8 * 512 + 1 * 128 + (x 1 : ℕ); omega
  case piece3 =>
    refine out_eq _ _ _ _ _ _ (hd t) 0 (tl t) f0 f1 (k_at m c t) (v_at m c t) (fun r d => ?_) x _ ?_ ?_
    · refine Eq.trans ?_ (q_at m c t 0 r d); unfold col; pointwise; blk_ext
    · blk_simp [idx t]; show t.val % 8 * 256 + (y 0 : ℕ) = t.val % 8 * 256 + (x 0 : ℕ); omega
    · blk_simp [idx t]; show t.val / 8 * 512 + (y 1 : ℕ) = t.val / 8 * 512 + 0 * 128 + (x 1 : ℕ); omega

/-- The kernel's array is the reference's. -/
theorem fin3 (c : Dev nD) (f0 : Fin0 (A0 m c)) (f1 : Fin0 (A1 m c)) :
    (dats m 0 c).arrAt 3 cfg0.N = Cert.AtfRefIdeal.Read.val_main_v25 (F := Ideal) (A0 m c) (A1 m c) (A2 m c) := by
  refine (dats m 0 c).arrAt_eq_of_covers 3 _ (by decide +kernel) fun t _ y => ?_
  blk_simp
  rw [after0_3]
  exact point3 m c f0 f1 t y

end Cert.AtfIdeal.Bridge

end
-- ==== Proof.AtfClaims.lean ====
/- The claims of the attention: the frames, the named constant, and the value claim. -/
module

public import proofs.«01_k».proof.Defs
public import proofs.«01_k».proof.Proof.AtfValue
public import proofs.«01_k».proof.Proof.Finite
public import proofs.«01_k».proof.Proof.Gen.Atf.Frame
public import proofs.«01_k».proof.Proof.Gen.Pre_finite_scores
public import proofs.«01_k».proof.Proof.Gen.AtfRefIdeal.Run
public import proofs.«01_k».proof.Proof.Gen.AtfRefIdeal.Read
public import Idealize.ShloMosaic.Lib.Claim
public import Idealize.ShloMosaic.Lib.Quiescent

@[expose] public section

set_option maxRecDepth 16384

noncomputable section

namespace Cert.AtfClaims

open Idealize.ShloMosaic Idealize.ShloMosaic.TcCoe Idealize.SL.Sem

/-- The kernel's constant is named for a multiple of the scores' factor. -/
theorem preserves : Cert.preserves_Atf_AtfIdeal :=
  IdealRules.named_const.statement Cert.AtfIdeal.κ "scale_log2e" .f32 0x3E0293EE#32
    (((11863283 / 134217728) * (Real.log 2)⁻¹ : ℝ) : EReal) rfl

/-- The precondition's first array says the queries are finite, -/
theorem finite_q (A0 : FVec Ideal Cert.Pre_finite_scores.S2048x1024 .bf16) (A1 : FVec Ideal Cert.Pre_finite_scores.S2048x256 .bf16)
    (A2 : FVec Ideal Cert.Pre_finite_scores.S2048x512 .bf16)
    (h : (Cert.Pre_finite_scores.fn (F := Ideal) A0 A1 A2).1 = fun _ => 1#1) (i : Cert.Pre_finite_scores.S2048x1024.Idx) :
    (show EReal from A0 i) ≠ ⊥ ∧ (show EReal from A0 i) ≠ ⊤ := by
  exact Finite.ne_of_abs _ (congrFun h i)

/-- and its second array that the keys are. -/
theorem finite_k (A0 : FVec Ideal Cert.Pre_finite_scores.S2048x1024 .bf16) (A1 : FVec Ideal Cert.Pre_finite_scores.S2048x256 .bf16)
    (A2 : FVec Ideal Cert.Pre_finite_scores.S2048x512 .bf16)
    (h : (Cert.Pre_finite_scores.fn (F := Ideal) A0 A1 A2).2 = fun _ => 1#1) (i : Cert.Pre_finite_scores.S2048x256.Idx) :
    (show EReal from A1 i) ≠ ⊥ ∧ (show EReal from A1 i) ≠ ⊤ := by
  exact Finite.ne_of_abs _ (congrFun h i)

section
open Cert.AtfRefIdeal Cert.AtfRefIdeal.Gen

/-- The reference's run, its result named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v25) = Read.val_main_v25 (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (Read.val_main_v25_eq _ _ _),
    (h c).2⟩) (Value.run m ρ)

end

theorem frame_p : Cert.quiescent_Atf := fun m ρ _ => Cert.Atf.Gen.frame m ρ
theorem frame_pi : Cert.quiescent_AtfIdeal := fun m ρ _ => Cert.AtfIdeal.Gen.frame m ρ
theorem frame_pi_pre : Cert.quiescent_AtfIdeal_pre_finite_scores := fun m ρ _ => Cert.AtfIdeal.Gen.frame m ρ
theorem frame_ri : Cert.quiescent_AtfRefIdeal := fun m g _ =>
  (θ_run Cert.AtfRefIdeal.defs _ _).mono (fun r h => ⟨fun c => (h c).2, sem_eq_zero_of_no_sems (by decide) r.2⟩)
    (Cert.AtfRefIdeal.Value.run (F := Ideal) m g)

theorem frame_ri_pre : Cert.quiescent_AtfRefIdeal_pre_finite_scores := fun m g _ => frame_ri m g trivial

theorem algebraic : Cert.algebraic_AtfIdeal_AtfRefIdeal_pre_finite_scores := by
  pair_intro
  · run_from Cert.AtfIdeal.Value.run_blocks m g
  · have f0 : ∀ c : Dev Cert.AtfIdeal.nD, Cert.AttnIdeal.Blocks.Fin0 (Cert.AtfIdeal.Bridge.A0 m c) :=
      fun c => finite_q _ _ _ (hpre c).1
    have f1 : ∀ c : Dev Cert.AtfIdeal.nD, Cert.AttnIdeal.Blocks.Fin0 (Cert.AtfIdeal.Bridge.A1 m c) :=
      fun c => finite_k _ _ _ (hpre c).2
    run_from run_ref m' g'
    exact (Cert.AtfIdeal.Bridge.fin3 m c (f0 c) (f1 c)).symm

end Cert.AtfClaims

end
-- ==== Proof.AdValue.lean ====
/- One AdamW step of an array of weights: layer by layer, the kernel's three arrays are the reference's. -/
module

public import proofs.«01_k».proof.Proof.Gen.AdIdeal.Value
public import proofs.«01_k».proof.Proof.Gen.AdRefIdeal.Read
public import Idealize.ShloMosaic.Lib.Pipeline.ValueKit

@[expose] public section

set_option maxRecDepth 16384

noncomputable section

namespace Cert.AdRefIdeal.At

open Cert.AdRefIdeal Cert.AdRefIdeal.Gen Cert.AdRefIdeal.Read
open Idealize.ShloMosaic Idealize.ShloMosaic.TcCoe Idealize.SL.Sem

/-- The first moment, at one place. -/
def moment (g m : EReal) : EReal := Ideal.ofBits .f32 0x3F666666#32 * m + Ideal.ofBits .f32 0x3DCCCCCD#32 * g

/-- The second. -/
def square (g v : EReal) : EReal := Ideal.ofBits .f32 0x3F7FBE77#32 * v + Ideal.ofBits .f32 0x3A83126F#32 * (g * g)

/-- The step. -/
def step (w g m v : EReal) : EReal :=
  Ideal.ofBits .f32 0xBA83126F#32
    * (Ideal.div (Ideal.div (moment g m) (Ideal.ofBits .f32 0x3F26BD02#32))
          (Ideal.sqrt (Ideal.div (square g v) (Ideal.ofBits .f32 0x3C231ACC#32)) + Ideal.ofBits .f32 0x322BCC77#32)
        + Ideal.ofBits .f32 0x3C23D70A#32 * w)

variable (w g m v : FVec Ideal S2x1024x256 .f32) (i : S2x1024x256.Idx)

theorem at4 : val_main_v4 (F := Ideal) g m i = moment (g i) (m i) := by
  unfold moment
  pointwise [val_main_v4, val_main_v3, val_main_v2, val_main_cst_0, val_main_v1, val_main_v0, val_main_cst]

theorem at10 : val_main_v10 (F := Ideal) g v i = square (g i) (v i) := by
  unfold square
  pointwise [val_main_v10, val_main_v9, val_main_v8, val_main_cst_2, val_main_v7, val_main_v6, val_main_v5, val_main_cst_1]

theorem at23 : val_main_v23 (F := Ideal) w g m v i = step (w i) (g i) (m i) (v i) := by
  unfold step
  rw [← at4, ← at10]
  unfold val_main_v23 val_main_v21 val_main_v20 val_main_v18 val_main_v17 val_main_v15 val_main_v14 val_main_v12
  generalize val_main_v4 (F := Ideal) g m = a
  generalize val_main_v10 (F := Ideal) g v = b
  pointwise [val_main_v22, val_main_cst_7, val_main_v19, val_main_cst_6, val_main_v16, val_main_cst_5, val_main_v13, val_main_cst_4, val_main_v11, val_main_cst_3]

end Cert.AdRefIdeal.At

namespace Cert.AdIdeal.Bridge

open Cert.AdIdeal Cert.AdIdeal.Gen Idealize.ShloMosaic Idealize.ShloMosaic.TcCoe Idealize.SL.Sem
open Idealize.ShloMosaic.Pipeline (Dat)
open Cert.AdRefIdeal.At (moment square step)

variable (m : (ℓ : Loc nD τ sig) → Buf (Elt Ideal) ℓ)

/-- Every window's block at a grid point: the point is the layer. -/
theorem idx : ∀ t : Fin cfg0.N, win0_0.index t = ![t.val, 0, 0] ∧ win0_1.index t = ![t.val, 0, 0] ∧ win0_2.index t = ![t.val, 0, 0]
    ∧ win0_3.index t = ![t.val, 0, 0] ∧ win0_4.index t = ![t.val, 0, 0] ∧ win0_5.index t = ![t.val, 0, 0] ∧ win0_6.index t = ![t.val, 0, 0] :=
  (by decide +kernel : ∀ t : Fin grid0.N, win0_0.index t = ![t.val, 0, 0] ∧ win0_1.index t = ![t.val, 0, 0] ∧ win0_2.index t = ![t.val, 0, 0]
    ∧ win0_3.index t = ![t.val, 0, 0] ∧ win0_4.index t = ![t.val, 0, 0] ∧ win0_5.index t = ![t.val, 0, 0] ∧ win0_6.index t = ![t.val, 0, 0])

section
variable (w g mo v : FVec Ideal S1x1024x256 .f32) (i : Fin 1024) (j : Fin 256)

/-- A layer's first moment, -/
theorem pay5_at : k0_pay5 (F := Ideal) g mo (ix2 i j) = moment (g (ix3 0 i j)) (mo (ix3 0 i j)) := by
  unfold moment
  pointwise [k0_pay5, k0_pay4]

/-- its second -/
theorem pay6_at : k0_pay6 (F := Ideal) g v (ix2 i j) = square (g (ix3 0 i j)) (v (ix3 0 i j)) := by
  unfold square
  pointwise [k0_pay6, k0_pay4]

/-- and its step. -/
theorem pay7_at : k0_pay7 (F := Ideal) g mo v w (ix2 i j) = step (w (ix3 0 i j)) (g (ix3 0 i j)) (mo (ix3 0 i j)) (v (ix3 0 i j)) := by
  unfold step
  rw [← pay5_at, ← pay6_at]
  unfold k0_pay7
  generalize k0_pay5 (F := Ideal) g mo = a
  generalize k0_pay6 (F := Ideal) g v = b
  pointwise

/-- As they are stored. -/
theorem pay1_at (x : FVec Ideal S1024x256 .f32) : k0_pay1 (F := Ideal) x (ix3 0 i j) = x (ix2 i j) := by
  pointwise [k0_pay1]

theorem pay2_at (x : FVec Ideal S1024x256 .f32) : k0_pay2 (F := Ideal) x (ix3 0 i j) = x (ix2 i j) := by
  pointwise [k0_pay2]

theorem pay3_at (x : FVec Ideal S1024x256 .f32) : k0_pay3 (F := Ideal) x (ix3 0 i j) = x (ix2 i j) := by
  pointwise [k0_pay3]

end

/-- The layer of a grid point. -/
abbrev layer (t : Fin cfg0.N) : Fin 2 := ⟨t.val, by have := lt_of_lt_of_eq t.isLt (show cfg0.N = 2 from N_0); omega⟩

/-- The argument arrays. -/
abbrev A0 (c : Dev nD) : FVec Ideal S2x1024x256 .f32 := m ((c : Thread nD τ).loc main_arg0)
abbrev A1 (c : Dev nD) : FVec Ideal S2x1024x256 .f32 := m ((c : Thread nD τ).loc main_arg1)
abbrev A2 (c : Dev nD) : FVec Ideal S2x1024x256 .f32 := m ((c : Thread nD τ).loc main_arg2)
abbrev A3 (c : Dev nD) : FVec Ideal S2x1024x256 .f32 := m ((c : Thread nD τ).loc main_arg3)

/-- The steps. -/
theorem fin4 (c : Dev nD) :
    (dats m 0 c).arrAt 4 cfg0.N = Cert.AdRefIdeal.Read.val_main_v23 (F := Ideal) (A0 m c) (A1 m c) (A2 m c) (A3 m c) := by
  refine (dats m 0 c).arrAt_eq_of_covers 4 _ (by decide +kernel) fun t _ y => ?_
  blk_simp
  rw [after0_4]
  idx_vars y
  obtain rfl : y0 = 0 := Subsingleton.elim _ _
  refine Eq.trans ?_ ((Cert.AdRefIdeal.At.at23 _ _ _ _ (ix3 (layer t) y1 y2)).symm.trans (congrArg _ (by blk_ext [idx t])))
  frame_out
  refine (pay1_at ..).trans ((pay7_at ..).trans ?_)
  blk_point [iblk, V, idx t]

/-- The first moments. -/
theorem fin5 (c : Dev nD) :
    (dats m 0 c).arrAt 5 cfg0.N = Cert.AdRefIdeal.Read.val_main_v4 (F := Ideal) (A1 m c) (A2 m c) := by
  refine (dats m 0 c).arrAt_eq_of_covers 5 _ (by decide +kernel) fun t _ y => ?_
  blk_simp
  rw [after0_5]
  idx_vars y
  obtain rfl : y0 = 0 := Subsingleton.elim _ _
  refine Eq.trans ?_ ((Cert.AdRefIdeal.At.at4 _ _ (ix3 (layer t) y1 y2)).symm.trans (congrArg _ (by blk_ext [idx t])))
  frame_out
  refine (pay2_at ..).trans ((pay5_at ..).trans ?_)
  blk_point [iblk, V, idx t]

/-- The second moments. -/
theorem fin6 (c : Dev nD) :
    (dats m 0 c).arrAt 6 cfg0.N = Cert.AdRefIdeal.Read.val_main_v10 (F := Ideal) (A1 m c) (A3 m c) := by
  refine (dats m 0 c).arrAt_eq_of_covers 6 _ (by decide +kernel) fun t _ y => ?_
  blk_simp
  rw [after0_6]
  idx_vars y
  obtain rfl : y0 = 0 := Subsingleton.elim _ _
  refine Eq.trans ?_ ((Cert.AdRefIdeal.At.at10 _ _ (ix3 (layer t) y1 y2)).symm.trans (congrArg _ (by blk_ext [idx t])))
  frame_out
  refine (pay3_at ..).trans ((pay6_at ..).trans ?_)
  blk_point [iblk, V, idx t]

end Cert.AdIdeal.Bridge

end
-- ==== Proof.AdClaims.lean ====
/- The claims of an AdamW step: the frames, the constants kept, and the value claim. -/
module

public import proofs.«01_k».proof.Defs
public import proofs.«01_k».proof.Proof.AdValue
public import proofs.«01_k».proof.Proof.Gen.Ad.Frame
public import proofs.«01_k».proof.Proof.Gen.AdRefIdeal.Run
public import proofs.«01_k».proof.Proof.Gen.AdRefIdeal.Read
public import Idealize.ShloMosaic.Lib.Claim
public import Idealize.ShloMosaic.Lib.Quiescent

@[expose] public section

set_option maxRecDepth 16384

noncomputable section

namespace Cert.AdClaims

open Idealize.ShloMosaic Idealize.ShloMosaic.TcCoe Idealize.SL.Sem

/-- No constant of the kernel is named. -/
theorem preserves : Cert.preserves_Ad_AdIdeal := trivial

section
open Cert.AdRefIdeal Cert.AdRefIdeal.Gen

/-- The reference's run, its results named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v23) = Read.val_main_v23 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v4) = Read.val_main_v4 (F := Ideal) (m ((c.tc : Thread nD τ).loc main_arg1)) (m ((c.tc : Thread nD τ).loc main_arg2))
      ∧ r.2.mem ((c.tc : Thread nD τ).loc main_v10) = Read.val_main_v10 (F := Ideal) (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (Read.val_main_v23_eq _ _ _ _),
    (h c).2.1.trans (Read.val_main_v4_eq _ _),
    (h c).2.2.1.trans (Read.val_main_v10_eq _ _),
    (h c).2.2.2⟩) (Value.run m ρ)

end

theorem frame_p : Cert.quiescent_Ad := fun m ρ _ => Cert.Ad.Gen.frame m ρ
theorem frame_pi : Cert.quiescent_AdIdeal := fun m ρ _ => Cert.AdIdeal.Gen.frame m ρ
theorem frame_ri : Cert.quiescent_AdRefIdeal := fun m g _ =>
  (θ_run Cert.AdRefIdeal.defs _ _).mono (fun r h => ⟨fun c => (h c).2.2.2, sem_eq_zero_of_no_sems (by decide) r.2⟩)
    (Cert.AdRefIdeal.Value.run (F := Ideal) m g)

theorem algebraic : Cert.algebraic_AdIdeal_AdRefIdeal := by
  pair_intro
  · run_from Cert.AdIdeal.Value.run_blocks m g
  · run_from run_ref m' g'
    · exact (Cert.AdIdeal.Bridge.fin4 m c).symm
    · exact (Cert.AdIdeal.Bridge.fin5 m c).symm
    · exact (Cert.AdIdeal.Bridge.fin6 m c).symm

end Cert.AdClaims

end
-- ==== Proof.RmsRow.lean ====
/- The gradient of a row's root-mean-square normalisation over the extended reals: the derivative by the chain rule and the
   projected form of the kernel agree, whatever the row holds. -/
module

public import Idealize.ShloMosaic.PureOps.Ideal
public import proofs.«01_k».proof.Proof.Softmax

@[expose] public section

noncomputable section

namespace Cert.RmsRow

open Idealize.ShloMosaic

/-- The patterns of the row's length, of the small number under the root and of minus a half denote them. -/
theorem ofBits_len : Ideal.ofBits .f32 0x45000000#32 = ((2048 : ℝ) : EReal) := by
  simp [Ideal.ofBits, Ideal.ieee, -EReal.coe_mul]
  norm_num

theorem ofBits_eps : Ideal.ofBits .f32 0x358637BD#32 = ((8796093 / 8796093022208 : ℝ) : EReal) := by
  simp [Ideal.ofBits, Ideal.ieee, -EReal.coe_mul]
  norm_num

theorem ofBits_neg_half : Ideal.ofBits .f32 0xBF000000#32 = ((-(1 / 2) : ℝ) : EReal) := by
  simp [Ideal.ofBits, Ideal.ieee, -EReal.coe_mul]
  norm_num

variable (x d : Fin 2048 → EReal) (p : EReal)

/-- The row's mean square, with the small number added. -/
def ms : EReal := Ideal.div (∑ k, x k * x k) (Ideal.ofBits .f32 0x45000000#32) + Ideal.ofBits .f32 0x358637BD#32

/-- The inverse of its root. -/
def rs : EReal := Ideal.rsqrt (ms x)

/-- The kernel's gradient: `d` the normalised row's, `p` the residual's. -/
def kdx (j : Fin 2048) : EReal :=
  p + rs x * (d j - x j * rs x * Ideal.div (∑ k, d k * (x k * rs x)) (Ideal.ofBits .f32 0x45000000#32))

/-- The mean square's derivative, half of it. -/
def dms : EReal :=
  ∑ _x : Fin 1, Ideal.div ((∑ k, x k * d k) * (Ideal.ofBits .f32 0xBF000000#32 * Ideal.div (rs x) (ms x)))
    (Ideal.ofBits .f32 0x45000000#32)

/-- The reference's gradient. -/
def rdx (j : Fin 2048) : EReal := d j * rs x + x j * dms x d + dms x d * x j + p

/-- A square is not negative. -/
theorem square_nonneg (a : EReal) : 0 ≤ a * a := by
  induction a with
  | bot => simp
  | top => simp
  | coe a => rw [← EReal.coe_mul]; exact EReal.coe_nonneg.mpr (mul_self_nonneg a)

/-- The mean square is infinite or a positive real number. -/
theorem ms_cases : ms x = ⊤ ∨ ∃ a : ℝ, 0 < a ∧ ms x = (a : EReal) := by
  have h : 0 < ms x := by
    unfold ms
    rw [ofBits_len, ofBits_eps, Softmax.div_coe _ _ (by norm_num)]
    refine lt_of_lt_of_le (EReal.coe_pos.mpr (by norm_num : (0 : ℝ) < 8796093 / 8796093022208)) ?_
    refine le_add_of_nonneg_left (mul_nonneg (Finset.sum_nonneg fun k _ => square_nonneg _) ?_)
    exact EReal.coe_nonneg.mpr (by norm_num)
  generalize ms x = a at h
  induction a with
  | bot => simp at h
  | top => exact Or.inl rfl
  | coe a => exact Or.inr ⟨a, EReal.coe_pos.mp h, rfl⟩

/-- Twice a multiple by a negative number. -/
theorem twice_neg (z : EReal) (h : ℝ) (hh : 0 ≤ h) :
    z * ((-h : ℝ) : EReal) + z * ((-h : ℝ) : EReal) = -(z * ((h + h : ℝ) : EReal)) := by
  have h0 : (0 : EReal) ≤ (h : EReal) := EReal.coe_nonneg.mpr hh
  rw [← neg_mul, EReal.coe_add, EReal.left_distrib_of_nonneg h0 h0, EReal.coe_neg, mul_neg, neg_mul]

/-- The two gradients agree. -/
theorem dx_eq (j : Fin 2048) : kdx x d p j = rdx x d p j := by
  unfold kdx rdx dms
  rcases ms_cases x with h | ⟨a, ha, h⟩
  · have hr : rs x = 0 := by rw [rs, h, Ideal.rsqrt_top]
    have hd : Ideal.div 0 (⊤ : EReal) = 0 := by simp [Ideal.div]
    rw [hr, h, hd]
    simp [ofBits_len, Softmax.div_coe _ _ (by norm_num : (2048 : ℝ) ≠ 0)]
  · have hs : 0 < Real.sqrt a := Real.sqrt_pos.mpr ha
    have hr : rs x = (((Real.sqrt a)⁻¹ : ℝ) : EReal) := by
      rw [rs, h, Ideal.rsqrt_coe, if_neg (not_lt.mpr ha.le), if_neg ha.ne']
    have hi : (Real.sqrt a)⁻¹ * (Real.sqrt a)⁻¹ = a⁻¹ := by rw [← mul_inv, Real.mul_self_sqrt ha.le]
    have hp : 0 < (Real.sqrt a)⁻¹ := inv_pos.mpr hs
    rw [hr, h, Softmax.div_coe _ _ ha.ne', ← hi, ofBits_len, ofBits_neg_half, Softmax.div_coe _ _ (by norm_num)]
    generalize (Real.sqrt a)⁻¹ = r at hp
    have hS : ∑ k, d k * (x k * (r : EReal)) = (r : EReal) * ∑ k, x k * d k := by
      rw [Softmax.mul_sum_of_nonneg _ hp.le]
      refine Finset.sum_congr rfl fun k _ => ?_
      ac_rfl
    rw [hS]
    generalize ∑ k, x k * d k = S
    simp only [Finset.univ_unique, Finset.sum_singleton, Softmax.div_coe _ _ (by norm_num : (2048 : ℝ) ≠ 0), ← EReal.coe_mul]
    have e1 : x j * (S * ((-(1 / 2) * (r * (r * r)) : ℝ) : EReal) * ((2048⁻¹ : ℝ) : EReal))
        = x j * S * ((-(r * r * r / 4096) : ℝ) : EReal) := by
      rw [mul_assoc S, ← EReal.coe_mul, ← mul_assoc]
      congr 2
      ring
    have e2 : S * ((-(1 / 2) * (r * (r * r)) : ℝ) : EReal) * ((2048⁻¹ : ℝ) : EReal) * x j
        = x j * S * ((-(r * r * r / 4096) : ℝ) : EReal) := by
      rw [mul_comm _ (x j), e1]
    have e3 : (r : EReal) * (x j * (r : EReal) * ((r : EReal) * S * ((2048⁻¹ : ℝ) : EReal)))
        = x j * S * ((r * r * r / 4096 + r * r * r / 4096 : ℝ) : EReal) := by
      have : (r * r * r / 4096 + r * r * r / 4096 : ℝ) = r * r * r * 2048⁻¹ := by ring
      rw [this, EReal.coe_mul, EReal.coe_mul, EReal.coe_mul]
      ac_rfl
    rw [e1, e2, add_assoc (d j * (r : EReal)), twice_neg _ _ (by positivity), ← e3, sub_eq_add_neg,
      EReal.left_distrib_of_nonneg_of_ne_top (EReal.coe_nonneg.mpr hp.le) (EReal.coe_ne_top _), mul_neg, mul_comm (d j),
      add_comm p]

end Cert.RmsRow

end
-- ==== Proof.RmsValue.lean ====
/- The gradient of a root-mean-square normalisation, with the residual's added: row tile by row tile the kernel's arrays are
   the reference's, the scale's gradient the sum of eight tiles' parts. -/
module

public import proofs.«01_k».proof.Proof.Gen.RmsIdeal.Value
public import proofs.«01_k».proof.Proof.Gen.RmsRefIdeal.Read
public import proofs.«01_k».proof.Proof.RmsRow
public import Idealize.ShloMosaic.Lib.Pipeline.ValueKit
public import Idealize.ShloMosaic.Lib.Pipeline.ReadBack

@[expose] public section

set_option maxRecDepth 16384

noncomputable section

namespace Cert.RmsRefIdeal.At

open Cert.RmsRefIdeal Cert.RmsRefIdeal.Gen Cert.RmsRefIdeal.Read
open Idealize.ShloMosaic Idealize.ShloMosaic.TcCoe Idealize.SL.Sem
open Cert.RmsRow (ms rs dms rdx)

variable (x : FVec Ideal S2048x2048 .f32) (g : FVec Ideal S1x2048 .f32) (dh dr : FVec Ideal S2048x2048 .f32)

/-- A row of the normalisation's argument. -/
abbrev xrow (i : Fin 2048) : Fin 2048 → EReal := fun k => x (ix2 i k)

/-- A row of the normalised argument's gradient. -/
abbrev drow (i : Fin 2048) : Fin 2048 → EReal := fun k => dh (ix2 i k) * g (ix2 0 k)

/-- The mean squares. -/
theorem at6 (i : Fin 2048) : val_main_v6 (F := Ideal) x (ix2 i 0) = ms (xrow x i) := by
  unfold ms
  pointwise [val_main_v6, val_main_v5, val_main_cst_1, val_main_v4, val_main_v3, val_main_cst_0, val_main_v2, val_main_v1,
    val_main_cst, val_main_v0]

/-- The inverses of their roots. -/
theorem at7 (i : Fin 2048) : val_main_v7 (F := Ideal) x (ix2 i 0) = rs (xrow x i) := by
  unfold rs
  rw [← at6]
  rfl

/-- The mean squares' derivatives. -/
theorem at28 (i : Fin 2048) : val_main_v28 (F := Ideal) x g dh (ix1 i) = dms (xrow x i) (drow g dh i) := by
  unfold dms
  rw [← at7, ← at6]
  unfold val_main_v28 val_main_v27 val_main_v25 val_main_v10 val_main_v8
  generalize val_main_v7 (F := Ideal) x = a
  generalize val_main_v6 (F := Ideal) x = b
  pointwise [val_main_cst_6, val_main_v26, val_main_cst_5, val_main_v22, val_main_v21, val_main_cst_4, val_main_v20, val_main_v19,
    val_main_v18, val_main_v9, val_main_cst_2]
  refine Finset.sum_congr rfl fun k _ => ?_
  obtain rfl : k = 0 := Subsingleton.elim _ _
  rfl

/-- The argument's gradient. -/
theorem at35 (i j : Fin 2048) :
    val_main_v35 (F := Ideal) x g dh dr (ix2 i j) = rdx (xrow x i) (drow g dh i) (dr (ix2 i j)) j := by
  unfold rdx
  rw [← at7, ← at28]
  unfold val_main_v35 val_main_v33 val_main_v32 val_main_v31 val_main_v30 val_main_v29 val_main_v24 val_main_v23
  generalize val_main_v7 (F := Ideal) x = a
  generalize val_main_v28 (F := Ideal) x g dh = b
  pointwise [val_main_v19, val_main_v18]

theorem at34 (i j : Fin 2048) :
    val_main_v34 (F := Ideal) x g dh dr (ix2 i j) = rdx (xrow x i) (drow g dh i) (dr (ix2 i j)) j := at35 x g dh dr i j

theorem at36 (i j : Fin 2048) :
    val_main_v36 (F := Ideal) x g dh dr (ix2 i j) = rdx (xrow x i) (drow g dh i) (dr (ix2 i j)) j := at35 x g dh dr i j

/-- The scale's gradient. -/
theorem at17 (j : Fin 2048) :
    val_main_v17 (F := Ideal) x dh (ix2 0 j) = ∑ i : Fin 2048, x (ix2 i j) * rs (xrow x i) * dh (ix2 i j) := by
  simp only [← at7]
  unfold val_main_v17 val_main_v16 val_main_v15 val_main_v12 val_main_v11
  generalize val_main_v7 (F := Ideal) x = a
  pointwise [val_main_cst_3]

end Cert.RmsRefIdeal.At

namespace Cert.RmsIdeal.Bridge

open Cert.RmsIdeal Cert.RmsIdeal.Gen Idealize.ShloMosaic Idealize.ShloMosaic.TcCoe Idealize.SL.Sem
open Idealize.ShloMosaic.Pipeline (Dat)
open Cert.RmsRow (ms rs kdx)
open Cert.RmsRefIdeal.At (xrow drow)

section
variable (x dh dr : FVec Ideal S256x2048 .f32) (g : FVec Ideal S1x2048 .f32) (i : Fin 256) (j : Fin 2048)

/-- The inverses of a tile's rows' roots, -/
theorem pay2_at : k0_pay2 (F := Ideal) x (ix2 i 0) = rs (fun k => x (ix2 i k)) := by
  unfold rs ms
  pointwise [k0_pay2]

/-- the rows normalised -/
theorem pay3_at : k0_pay3 (F := Ideal) x (ix2 i j) = x (ix2 i j) * rs (fun k => x (ix2 i k)) := by
  rw [← pay2_at]
  unfold k0_pay3
  generalize k0_pay2 (F := Ideal) x = a
  pointwise

/-- and their gradients, -/
theorem pay4_at :
    k0_pay4 (F := Ideal) x dh g dr (ix2 i j) = kdx (fun k => x (ix2 i k)) (fun k => dh (ix2 i k) * g (ix2 0 k)) (dr (ix2 i j)) j := by
  unfold kdx
  simp only [← pay3_at]
  simp only [← pay2_at]
  unfold k0_pay4
  generalize k0_pay2 (F := Ideal) x = a
  generalize k0_pay3 (F := Ideal) x = b
  pointwise

/-- as they are stored. -/
theorem pay5_at : k0_pay5 (F := Ideal) x dh g dr (ix2 i j) = k0_pay4 (F := Ideal) x dh g dr (ix2 i j) := by
  unfold k0_pay5
  generalize k0_pay4 (F := Ideal) x dh g dr = a
  pointwise

theorem pay6_at : k0_pay6 (F := Ideal) x dh g dr (ix2 i j) = k0_pay4 (F := Ideal) x dh g dr (ix2 i j) := by
  unfold k0_pay6
  generalize k0_pay4 (F := Ideal) x dh g dr = a
  pointwise

/-- A tile's part of the scale's gradient. -/
def dgPart (j : Fin 2048) : EReal := ∑ i : Fin 256, x (ix2 i j) * rs (fun k => x (ix2 i k)) * dh (ix2 i j)

theorem pay7_at : k0_pay7 (F := Ideal) x dh (ix2 0 j) = dgPart x dh j := by
  unfold dgPart
  simp only [← pay3_at]
  refine Eq.trans ?_ (Finset.sum_congr rfl fun i _ => mul_comm _ _)
  unfold k0_pay7
  generalize k0_pay3 (F := Ideal) x = a
  pointwise

/-- A later tile adds its part to what is stored. -/
theorem pay1_at (a b : FVec Ideal S1x2048 .f32) (y : S1x2048.Idx) : k0_pay1 (F := Ideal) a b y = b y + a y := by
  pointwise [k0_pay1]

end

variable (m : (ℓ : Loc nD τ sig) → Buf (Elt Ideal) ℓ)

/-- Every window's block at a grid point: the point is the row tile. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0] ∧ win0_6.index t = ![0, 0] :=
  (by decide +kernel : ∀ t : Fin grid0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0] ∧ win0_6.index t = ![0, 0])

/-- The tile's row. -/
abbrev row (t : Fin cfg0.N) (r : Fin 256) : Fin 2048 := ⟨t.val * 256 + r.val, by have := lt_of_lt_of_eq t.isLt (show cfg0.N = 8 from N_0); omega⟩

/-- The argument arrays. -/
abbrev A0 (c : Dev nD) : FVec Ideal S2048x2048 .f32 := m ((c : Thread nD τ).loc main_arg0)
abbrev A1 (c : Dev nD) : FVec Ideal S1x2048 .f32 := m ((c : Thread nD τ).loc main_arg1)
abbrev A2 (c : Dev nD) : FVec Ideal S2048x2048 .f32 := m ((c : Thread nD τ).loc main_arg2)
abbrev A3 (c : Dev nD) : FVec Ideal S2048x2048 .f32 := m ((c : Thread nD τ).loc main_arg3)

section
variable (c : Dev nD) (t : Fin cfg0.N) (i : Fin 256) (j : Fin 2048)

/-- The tiles, read at an index. -/
theorem x_at : (show FVec Ideal S256x2048 .f32 from iblk m c 0 t) (ix2 i j) = A0 m c (ix2 (row t i) j) := by
  blk_point [iblk, V, idx t]

theorem g_at : (show FVec Ideal S1x2048 .f32 from iblk m c 1 t) (ix2 0 j) = A1 m c (ix2 0 j) := by
  blk_point [iblk, V, idx t]

theorem dh_at : (show FVec Ideal S256x2048 .f32 from iblk m c 2 t) (ix2 i j) = A2 m c (ix2 (row t i) j) := by
  blk_point [iblk, V, idx t]

theorem dr_at : (show FVec Ideal S256x2048 .f32 from iblk m c 3 t) (ix2 i j) = A3 m c (ix2 (row t i) j) := by
  blk_point [iblk, V, idx t]

/-- A tile's gradient, from the arrays. -/
theorem dx_at :
    k0_pay4 (F := Ideal) (iblk m c 0 t) (iblk m c 2 t) (iblk m c 1 t) (iblk m c 3 t) (ix2 i j)
      = Cert.RmsRow.rdx (xrow (A0 m c) (row t i)) (drow (A1 m c) (A2 m c) (row t i)) (A3 m c (ix2 (row t i) j)) j := by
  rw [pay4_at, Cert.RmsRow.dx_eq]
  have ex : (fun k => (show FVec Ideal S256x2048 .f32 from iblk m c 0 t) (ix2 i k)) = xrow (A0 m c) (row t i) :=
    funext fun k => x_at m c t i k
  have ed : (fun k => (show FVec Ideal S256x2048 .f32 from iblk m c 2 t) (ix2 i k) * (show FVec Ideal S1x2048 .f32 from iblk m c 1 t) (ix2 0 k))
      = drow (A1 m c) (A2 m c) (row t i) :=
    funext fun k => congr (congrArg _ (dh_at m c t i k)) (g_at m c t k)
  have ep := dr_at m c t i j
  dsimp only at ex ed ep
  rw [ex, ed, ep]

end

/-- The argument's gradient. -/
theorem fin4 (c : Dev nD) :
    (dats m 0 c).arrAt 4 cfg0.N = Cert.RmsRefIdeal.Read.val_main_v34 (F := Ideal) (A0 m c) (A1 m c) (A2 m c) (A3 m c) := by
  refine (dats m 0 c).arrAt_eq_of_covers 4 _ (by decide +kernel) fun t _ y => ?_
  blk_simp
  rw [after0_4]
  idx_vars y
  refine Eq.trans ?_ ((Cert.RmsRefIdeal.At.at34 _ _ _ _ (row t y0) y1).symm.trans (congrArg _ (by blk_ext [idx t])))
  refine Eq.trans ?_ (dx_at m c t y0 y1)
  by_cases e : t.val % 8 = 0
  · rw [outsAt0_A m c t e (by have := lt_of_lt_of_eq t.isLt (show cfg0.N = 8 from N_0); omega)]
    frame_out
    exact pay5_at ..
  · rw [outsAt0_B m c t e (by omega)]
    frame_out
    exact pay5_at ..

/-- Its copy. -/
theorem fin5 (c : Dev nD) :
    (dats m 0 c).arrAt 5 cfg0.N = Cert.RmsRefIdeal.Read.val_main_v36 (F := Ideal) (A0 m c) (A1 m c) (A2 m c) (A3 m c) := by
  refine (dats m 0 c).arrAt_eq_of_covers 5 _ (by decide +kernel) fun t _ y => ?_
  blk_simp
  rw [after0_5]
  idx_vars y
  refine Eq.trans ?_ ((Cert.RmsRefIdeal.At.at36 _ _ _ _ (row t y0) y1).symm.trans (congrArg _ (by blk_ext [idx t])))
  refine Eq.trans ?_ (dx_at m c t y0 y1)
  by_cases e : t.val % 8 = 0
  · rw [outsAt0_A m c t e (by have := lt_of_lt_of_eq t.isLt (show cfg0.N = 8 from N_0); omega)]
    frame_out
    exact pay6_at ..
  · rw [outsAt0_B m c t e (by omega)]
    frame_out
    exact pay6_at ..

/-- The scale's gradient. -/
theorem fin6 (c : Dev nD) :
    (dats m 0 c).arrAt 6 cfg0.N = Cert.RmsRefIdeal.Read.val_main_v17 (F := Ideal) (A0 m c) (A2 m c) := by
  refine (dats m 0 c).arrAt_eq_of_covers 6 _ (by decide +kernel) fun t hf y => ?_
  blk_simp
  have h7 : t.val % 8 = 7 := (flush0_6 t).mp hf
  have hN : t.val < 8 := lt_of_lt_of_eq t.isLt (show cfg0.N = 8 from N_0)
  rw [after0_6, Pipeline.eq_sum_fin_of_reset_step_apply_of_flush (fun n h => (outsAt0 m c n h).2.2) 8 (fun _ => 0)
    (fun p j => k0_pay7 (F := Ideal) (iblk m c 0 p) (iblk m c 2 p) j)
    (fun t h j => by
      rw [outsAt0_A m c t h (by have := lt_of_lt_of_eq t.isLt (show cfg0.N = 8 from N_0); omega)]; frame_out
      exact (zero_add _).symm)
    (fun t h j => by
      rw [outsAt0_B m c t h (by omega)]; frame_out
      rw [pay1_at])
    t h7 _, zero_add]
  idx_vars y
  obtain rfl : y0 = 0 := Subsingleton.elim _ _
  refine Eq.trans ?_ ((Cert.RmsRefIdeal.At.at17 _ _ y1).symm.trans (congrArg _ (by blk_ext [idx t])))
  simp only [pay7_at]
  unfold dgPart
  refine Fin.sum_mul_add_congr ?_
  intro s k hl
  let p : Fin cfg0.N := ⟨_, Pipeline.run_point_lt_of_flush t h7 s⟩
  have hp : (row p k : Fin 2048) = ⟨s.val * 256 + k.val, hl⟩ := Fin.ext (by show (8 * (t.val / 8) + s.val) * 256 + k.val = s.val * 256 + k.val; omega)
  have ex : (fun j => (show FVec Ideal S256x2048 .f32 from iblk m c 0 p) (ix2 k j)) = xrow (A0 m c) ⟨s.val * 256 + k.val, hl⟩ :=
    funext fun j => (x_at m c p k j).trans (by rw [hp])
  have eh := dh_at m c p k y1
  rw [hp] at eh
  dsimp only at ex eh
  have key : ∀ (f g : Fin 2048 → EReal) (a b : EReal), f = g → a = b → f y1 * rs f * a = g y1 * rs g * b := by
    rintro f _ a _ rfl rfl
    rfl
  exact key _ _ _ _ ex eh

end Cert.RmsIdeal.Bridge

end
-- ==== Proof.RmsClaims.lean ====
/- The claims of the gradient of a root-mean-square normalisation: the frames, the constants kept, and the value claim. -/
module

public import proofs.«01_k».proof.Defs
public import proofs.«01_k».proof.Proof.RmsValue
public import proofs.«01_k».proof.Proof.Gen.Rms.Frame
public import proofs.«01_k».proof.Proof.Gen.RmsRefIdeal.Run
public import proofs.«01_k».proof.Proof.Gen.RmsRefIdeal.Read
public import Idealize.ShloMosaic.Lib.Claim
public import Idealize.ShloMosaic.Lib.Quiescent

@[expose] public section

set_option maxRecDepth 16384

noncomputable section

namespace Cert.RmsClaims

open Idealize.ShloMosaic Idealize.ShloMosaic.TcCoe Idealize.SL.Sem

/-- No constant of the kernel is named. -/
theorem preserves : Cert.preserves_Rms_RmsIdeal := trivial

section
open Cert.RmsRefIdeal Cert.RmsRefIdeal.Gen

/-- The reference's run, its results named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v34) = Read.val_main_v34 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v36) = Read.val_main_v36 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v17) = Read.val_main_v17 (F := Ideal) (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (Read.val_main_v34_eq _ _ _ _),
    (h c).2.1.trans (Read.val_main_v36_eq _ _ _ _),
    (h c).2.2.1.trans (Read.val_main_v17_eq _ _),
    (h c).2.2.2⟩) (Value.run m ρ)

end

theorem frame_p : Cert.quiescent_Rms := fun m ρ _ => Cert.Rms.Gen.frame m ρ
theorem frame_pi : Cert.quiescent_RmsIdeal := fun m ρ _ => Cert.RmsIdeal.Gen.frame m ρ
theorem frame_ri : Cert.quiescent_RmsRefIdeal := fun m g _ =>
  (θ_run Cert.RmsRefIdeal.defs _ _).mono (fun r h => ⟨fun c => (h c).2.2.2, sem_eq_zero_of_no_sems (by decide) r.2⟩)
    (Cert.RmsRefIdeal.Value.run (F := Ideal) m g)

theorem algebraic : Cert.algebraic_RmsIdeal_RmsRefIdeal := by
  pair_intro
  · run_from Cert.RmsIdeal.Value.run_blocks m g
  · run_from run_ref m' g'
    · exact (Cert.RmsIdeal.Bridge.fin4 m c).symm
    · exact (Cert.RmsIdeal.Bridge.fin5 m c).symm
    · exact (Cert.RmsIdeal.Bridge.fin6 m c).symm

end Cert.RmsClaims

end
-- ==== Proof.RideRef.lean ====
/- The ridden product's reference: the product at an index, and the step of the weights that ride along. -/
module

public import proofs.«01_k».proof.Proof.Gen.RideRefIdeal.Read
public import Idealize.ShloMosaic.Lib.Pipeline.ValueKit

@[expose] public section

set_option maxRecDepth 16384

noncomputable section

namespace Cert.RideRefIdeal.At

open Cert.RideRefIdeal Cert.RideRefIdeal.Gen Cert.RideRefIdeal.Read
open Idealize.ShloMosaic Idealize.ShloMosaic.TcCoe Idealize.SL.Sem

/-- The reference's gradient at an index: the sum over the tokens. -/
theorem at6 (x : FVec Ideal S2048x5632 .bf16) (ct : FVec Ideal S2048x2048 .bf16) (i : Fin 5632) (j : Fin 2048) :
    val_main_v6 (F := Ideal) x ct (ix2 i j) = ∑ k : Fin 2048, x (ix2 k i) * ct (ix2 k j) := by
  pointwise [val_main_v6, val_main_v5, val_main_v4, val_main_v3, val_main_v1]
  exact Finset.sum_congr rfl fun k _ => mul_comm _ _

/-- Of one chip's place: its own sum where the place is this chip's, else what landed there. -/
def pick (b : BitVec 32) (k : BitVec 32) (s l : EReal) : EReal := if b = k then s else l

/-- The whole gradient at one place. -/
def whole (b : BitVec 32) (s l : Fin 4 → EReal) : EReal :=
  pick b 0#32 (s 0) (l 0) + pick b 1#32 (s 1) (l 1) + pick b 2#32 (s 2) (l 2) + pick b 3#32 (s 3) (l 3)

/-- The first moment, at one place. -/
def moment (g m : EReal) : EReal := Ideal.ofBits .f32 0x3F666666#32 * m + Ideal.ofBits .f32 0x3DCCCCCD#32 * g

/-- The second. -/
def square (g v : EReal) : EReal := Ideal.ofBits .f32 0x3F7FBE77#32 * v + Ideal.ofBits .f32 0x3A83126F#32 * (g * g)

/-- The step. -/
def step (w g m v : EReal) : EReal :=
  Ideal.ofBits .f32 0xBA83126F#32
    * (Ideal.div (Ideal.div (moment g m) (Ideal.ofBits .f32 0x3F26BD02#32))
          (Ideal.sqrt (Ideal.div (square g v) (Ideal.ofBits .f32 0x3C231ACC#32)) + Ideal.ofBits .f32 0x322BCC77#32)
        + Ideal.ofBits .f32 0x3C23D70A#32 * w)

variable (b : Vec Ideal S1 .i32) (w m v : FVec Ideal S2x704x2048 .f32) (l s : FVec Ideal S4x704x2048 .bf16) (i : Fin 704) (j : Fin 2048)

theorem at18 (k : Fin 4) : val_main_v18 (F := Ideal) b l s (ix3 k i j) = pick (b (ix1 0)) (BitVec.ofNat 32 k.val) (s (ix3 k i j)) (l (ix3 k i j)) := by
  unfold pick
  pointwise [val_main_v18, val_main_call0_v0, val_main_v17, val_main_v16, val_main_v15, val_main_v14, val_main_v13]
  simp only [Scalar.select, IntOp.cmpi]
  by_cases h : b (ix1 0) = BitVec.ofNat 32 k.val
  · simp [h]
  · have e : (BitVec.ofNat 32 k.val == b (ix1 0)) = false := beq_false_of_ne (Ne.symm h)
    simp [e, h]

theorem at20 : val_main_v20 (F := Ideal) b l s (ix2 i j) = whole (b (ix1 0)) (fun k => s (ix3 k i j)) (fun k => l (ix3 k i j)) := by
  unfold val_main_v20 val_main_v19
  have e := at18 b l s i j
  generalize val_main_v18 (F := Ideal) b l s = p at e ⊢
  pointwise [val_main_cst_0]
  unfold whole
  rw [Fin.sum_univ_four, e 0, e 1, e 2, e 3]
  rfl

theorem at25 : val_main_v25 (F := Ideal) b m l s (ix2 i j) = moment (val_main_v20 (F := Ideal) b l s (ix2 i j)) (m (ix3 1 i j)) := by
  unfold moment val_main_v25 val_main_v24
  generalize val_main_v20 (F := Ideal) b l s = g
  pointwise [val_main_v23, val_main_cst_2, val_main_v22, val_main_v21, val_main_cst_1, val_main_v10, val_main_v9]

theorem at31 : val_main_v31 (F := Ideal) b v l s (ix2 i j) = square (val_main_v20 (F := Ideal) b l s (ix2 i j)) (v (ix3 1 i j)) := by
  unfold square val_main_v31 val_main_v30 val_main_v28
  generalize val_main_v20 (F := Ideal) b l s = g
  pointwise [val_main_v29, val_main_cst_4, val_main_v27, val_main_v26, val_main_cst_3, val_main_v12, val_main_v11]

theorem at44 : val_main_v44 (F := Ideal) b w m v l s (ix2 i j)
    = step (w (ix3 1 i j)) (val_main_v20 (F := Ideal) b l s (ix2 i j)) (m (ix3 1 i j)) (v (ix3 1 i j)) := by
  unfold step
  rw [← at25, ← at31]
  unfold val_main_v44 val_main_v42 val_main_v39 val_main_v38 val_main_v36 val_main_v35 val_main_v33
  generalize val_main_v25 (F := Ideal) b m l s = a
  generalize val_main_v31 (F := Ideal) b v l s = c
  pointwise [val_main_v43, val_main_cst_9, val_main_v41, val_main_v40, val_main_cst_8, val_main_v37, val_main_cst_7, val_main_v34, val_main_cst_6, val_main_v32, val_main_cst_5, val_main_v8, val_main_v7]

end Cert.RideRefIdeal.At

end
-- ==== Proof.RideValue.lean ====
/- The gradient of a feed-forward weight with the step of the layer above riding along: tile by tile, the kernel's arrays are
   the reference's, the step's on the last layer. -/
module

public import proofs.«01_k».proof.Proof.Gen.RideIdeal.Frame
public import proofs.«01_k».proof.Proof.RideRef
public import Idealize.ShloMosaic.Lib.Pipeline.ValueKit
public import Idealize.ShloMosaic.Lib.Pipeline.ReadBack

@[expose] public section

set_option maxRecDepth 16384

noncomputable section

namespace Cert.RideIdeal.Bridge

open Cert.RideIdeal Cert.RideIdeal.Gen Idealize.ShloMosaic Idealize.ShloMosaic.TcCoe Idealize.SL.Sem
open Idealize.ShloMosaic.Pipeline (Dat)
open Cert.RideRefIdeal.At (pick whole moment square step)

/-- A tile of the product. -/
theorem pay4_at (x : FVec Ideal S2048x512 .bf16) (ct : FVec Ideal S2048x2048 .bf16) (i : Fin 512) (j : Fin 2048) :
    k0_pay4 (F := Ideal) x ct (ix2 i j) = ∑ k : Fin 2048, x (ix2 k i) * ct (ix2 k j) := by
  pointwise [k0_pay4]

/-- A place's row, chosen. -/
theorem select_eq (b k : BitVec 32) (s l : FVec Ideal S64x2048 .bf16) (y : S64x2048.Idx) :
    Scalar.select (Scalar.cmpi .eq b k) s l y = pick b k (s y) (l y) := by
  unfold pick
  simp only [Scalar.select, Scalar.cmpi, IntOp.cmpi]
  by_cases h : b = k
  · simp [h]
  · have e : (b == k) = false := beq_false_of_ne h
    simp [e, h]

section
variable (b : BitVec 32) (s0 s1 s2 s3 l0 l1 l2 l3 : FVec Ideal S1x64x2048 .bf16) (i : Fin 64) (j : Fin 2048)

/-- The four chips' rows, in the order they are added. -/
abbrev four (r0 r1 r2 r3 : FVec Ideal S1x64x2048 .bf16) (i : Fin 64) (j : Fin 2048) : Fin 4 → EReal :=
  ![r0 (ix3 0 i j), r1 (ix3 0 i j), r2 (ix3 0 i j), r3 (ix3 0 i j)]

/-- The whole gradient in a tile. -/
abbrev grad : FVec Ideal S64x2048 .f32 :=
  k0_pay7 (F := Ideal) (k0_pay5 (F := Ideal) b s0 l0 b s1 l1 b s2 l2) (Scalar.cmpi .eq b 3#32) (k0_pay6 (F := Ideal) s3) l3

theorem grad_at : grad b s0 s1 s2 s3 l0 l1 l2 l3 (ix2 i j) = whole b (four s0 s1 s2 s3 i j) (four l0 l1 l2 l3 i j) := by
  unfold grad whole
  pointwise [k0_pay7, k0_pay5, k0_pay6, select_eq]

end

section
variable (p : FVec Ideal S64x2048 .f32) (k : BitVec 1) (q : FVec Ideal S64x2048 .bf16) (l m v w : FVec Ideal S1x64x2048 .f32)
  (u : FVec Ideal S1x64x2048 .bf16) (i : Fin 64) (j : Fin 2048)

/-- The gradient as it is stored, -/
theorem pay10_at : k0_pay10 (F := Ideal) p k q u (ix3 0 i j) = k0_pay7 (F := Ideal) p k q u (ix2 i j) := by
  unfold k0_pay10
  generalize k0_pay7 (F := Ideal) p k q u = g
  pointwise

/-- the first moment, -/
theorem pay8_at : k0_pay8 (F := Ideal) p k q u m (ix2 i j) = moment (k0_pay7 (F := Ideal) p k q u (ix2 i j)) (m (ix3 0 i j)) := by
  unfold moment k0_pay8
  generalize k0_pay7 (F := Ideal) p k q u = g
  pointwise

theorem pay2_at : k0_pay2 (F := Ideal) p (ix3 0 i j) = p (ix2 i j) := by pointwise [k0_pay2]

/-- the second -/
theorem pay9_at : k0_pay9 (F := Ideal) p k q u v (ix2 i j) = square (k0_pay7 (F := Ideal) p k q u (ix2 i j)) (v (ix3 0 i j)) := by
  unfold square k0_pay9
  generalize k0_pay7 (F := Ideal) p k q u = g
  pointwise

theorem pay3_at : k0_pay3 (F := Ideal) p (ix3 0 i j) = p (ix2 i j) := by pointwise [k0_pay3]

/-- and the step. -/
theorem pay1_at : k0_pay1 (F := Ideal) (k0_pay11 (F := Ideal) p k q u m v w) (Scalar.ofBits .f32 0xBA83126F#32) (ix3 0 i j)
    = step (w (ix3 0 i j)) (k0_pay7 (F := Ideal) p k q u (ix2 i j)) (m (ix3 0 i j)) (v (ix3 0 i j)) := by
  unfold step
  rw [← pay8_at, ← pay9_at]
  unfold k0_pay1 k0_pay11
  generalize k0_pay8 (F := Ideal) p k q u m = a
  generalize k0_pay9 (F := Ideal) p k q u v = b
  pointwise

end

variable (m : (ℓ : Loc nD τ sig) → Buf (Elt Ideal) ℓ)

/-- Every window's block at a grid point: the point is the row tile. -/
theorem idx : ∀ t : Fin cfg0.N, win0_0.index t = ![0, t.val] ∧ win0_1.index t = ![0, 0] ∧ win0_2.index t = ![0]
    ∧ win0_3.index t = ![1, t.val, 0] ∧ win0_4.index t = ![1, t.val, 0] ∧ win0_5.index t = ![1, t.val, 0]
    ∧ win0_6.index t = ![0, t.val, 0] ∧ win0_7.index t = ![0, t.val, 0] ∧ win0_8.index t = ![t.val, 0]
    ∧ win0_9.index t = ![1, t.val, 0] ∧ win0_10.index t = ![1, t.val, 0] ∧ win0_11.index t = ![1, t.val, 0] ∧ win0_12.index t = ![1, t.val, 0] :=
  (by decide +kernel : ∀ t : Fin grid0.N, win0_0.index t = ![0, t.val] ∧ win0_1.index t = ![0, 0] ∧ win0_2.index t = ![0]
    ∧ win0_3.index t = ![1, t.val, 0] ∧ win0_4.index t = ![1, t.val, 0] ∧ win0_5.index t = ![1, t.val, 0]
    ∧ win0_6.index t = ![0, t.val, 0] ∧ win0_7.index t = ![0, t.val, 0] ∧ win0_8.index t = ![t.val, 0]
    ∧ win0_9.index t = ![1, t.val, 0] ∧ win0_10.index t = ![1, t.val, 0] ∧ win0_11.index t = ![1, t.val, 0] ∧ win0_12.index t = ![1, t.val, 0])

/-- The argument arrays. -/
abbrev A0 (c : Dev nD) : FVec Ideal S2048x5632 .bf16 := m ((c : Thread nD τ).loc main_arg0)
abbrev A1 (c : Dev nD) : FVec Ideal S2048x2048 .bf16 := m ((c : Thread nD τ).loc main_arg1)
abbrev A2 (c : Dev nD) : Vec Ideal S1 .i32 := m ((c : Thread nD τ).loc main_arg2)
abbrev A3 (c : Dev nD) : FVec Ideal S2x704x2048 .f32 := m ((c : Thread nD τ).loc main_arg3)
abbrev A4 (c : Dev nD) : FVec Ideal S2x704x2048 .f32 := m ((c : Thread nD τ).loc main_arg4)
abbrev A5 (c : Dev nD) : FVec Ideal S2x704x2048 .f32 := m ((c : Thread nD τ).loc main_arg5)
abbrev A6 (c : Dev nD) : FVec Ideal S4x704x2048 .bf16 := m ((c : Thread nD τ).loc main_arg6)
abbrev A7 (c : Dev nD) : FVec Ideal S4x704x2048 .bf16 := m ((c : Thread nD τ).loc main_arg7)

/-- The tile's rows. -/
theorem lt_N (t : Fin cfg0.N) : t.val < 11 := lt_of_lt_of_eq t.isLt (show cfg0.N = 11 from N_0)
abbrev col (t : Fin cfg0.N) (r : Fin 512) : Fin 5632 := ⟨t.val * 512 + r.val, by have := lt_N t; omega⟩
abbrev row (t : Fin cfg0.N) (r : Fin 64) : Fin 704 := ⟨t.val * 64 + r.val, by have := lt_N t; omega⟩

section
variable (c : Dev nD) (t : Fin cfg0.N)

theorem x_at (i : Fin 2048) (j : Fin 512) : (show FVec Ideal S2048x512 .bf16 from iblk m c 0 t) (ix2 i j) = A0 m c (ix2 i (col t j)) := by
  blk_point [iblk, V, idx t]

theorem ct_at (i j : Fin 2048) : (show FVec Ideal S2048x2048 .bf16 from iblk m c 1 t) (ix2 i j) = A1 m c (ix2 i j) := by
  blk_point [iblk, V, idx t]

theorem chip_at : (show Vec Ideal S1 .i32 from iblk m c 2 t) (ix1 0) = A2 m c (ix1 0) := by
  blk_point [iblk, V, idx t]

theorem w_at (i : Fin 64) (j : Fin 2048) : (show FVec Ideal S1x64x2048 .f32 from iblk m c 3 t) (ix3 0 i j) = A3 m c (ix3 1 (row t i) j) := by
  blk_point [iblk, V, idx t]

theorem m_at (i : Fin 64) (j : Fin 2048) : (show FVec Ideal S1x64x2048 .f32 from iblk m c 4 t) (ix3 0 i j) = A4 m c (ix3 1 (row t i) j) := by
  blk_point [iblk, V, idx t]

theorem v_at (i : Fin 64) (j : Fin 2048) : (show FVec Ideal S1x64x2048 .f32 from iblk m c 5 t) (ix3 0 i j) = A5 m c (ix3 1 (row t i) j) := by
  blk_point [iblk, V, idx t]

theorem l_at (k : Fin 4) (i : Fin 64) (j : Fin 2048) : (show FVec Ideal S4x64x2048 .bf16 from iblk m c 6 t) (ix3 k i j) = A6 m c (ix3 k (row t i) j) := by
  blk_point [iblk, V, idx t]

theorem s_at (k : Fin 4) (i : Fin 64) (j : Fin 2048) : (show FVec Ideal S4x64x2048 .bf16 from iblk m c 7 t) (ix3 k i j) = A7 m c (ix3 k (row t i) j) := by
  blk_point [iblk, V, idx t]

end

/-- One chip's rows of a tile of all four's. -/
theorem ld_row (x : FVec Ideal S4x64x2048 .bf16) (k : Fin 4) (h : ∀ d, (![k.val, 0, 0] : Fin 3 → Nat) d + S1x64x2048.size d ≤ S4x64x2048.size d)
    (i : Fin 64) (j : Fin 2048) :
    View.ld (Val := Elt Ideal) (e' := .bf16) x (Rect.unit (s := S4x64x2048) ![k.val, 0, 0] S1x64x2048.size h) (ix3 0 i j) = x (ix3 k i j) := by
  refine View.ld_unit_apply_of _ _ _ _ _ _ fun d => ?_
  fin_cases d
  · show k.val = k.val + 0
    omega
  · show i.val = 0 + i.val
    omega
  · show j.val = 0 + j.val
    omega

/-- The place of this chip. -/
theorem ld_chip (x : Vec Ideal S1 .i32) (h : ∀ d, (![0] : Fin 1 → Nat) d + S1.size d ≤ S1.size d) (y : S1.Idx) :
    View.ld (Val := Elt Ideal) (e' := .i32) x (Rect.unit (s := S1) ![0] S1.size h) y = x (ix1 0) := by
  refine View.ld_unit_apply_of _ _ _ _ _ _ fun d => ?_
  have e := (y d).isLt
  fin_cases d
  have e : (y 0).val < 1 := e
  show 0 = 0 + (y 0).val
  omega

section
variable (c : Dev nD) (t : Fin cfg0.N) (i : Fin 64) (j : Fin 2048)

/-- The loads of a point: this chip's place, and one chip's rows of the sums and of what landed. -/
abbrev chip (y : S1.Idx) : BitVec 32 :=
  View.ld (Val := Elt Ideal) (e' := .i32) (show Vec Ideal S1 .i32 from iblk m c 2 t) (Rect.unit (s := S1) ![0] S1.size inb_S1_S1_0) y

theorem four_eq (x : FVec Ideal S4x64x2048 .bf16) :
    four (View.ld (Val := Elt Ideal) (e' := .bf16) x (Rect.unit (s := S4x64x2048) ![0, 0, 0] S1x64x2048.size inb_S4x64x2048_S1x64x2048_0_0_0))
        (View.ld (Val := Elt Ideal) (e' := .bf16) x (Rect.unit (s := S4x64x2048) ![1, 0, 0] S1x64x2048.size inb_S4x64x2048_S1x64x2048_1_0_0))
        (View.ld (Val := Elt Ideal) (e' := .bf16) x (Rect.unit (s := S4x64x2048) ![2, 0, 0] S1x64x2048.size inb_S4x64x2048_S1x64x2048_2_0_0))
        (View.ld (Val := Elt Ideal) (e' := .bf16) x (Rect.unit (s := S4x64x2048) ![3, 0, 0] S1x64x2048.size inb_S4x64x2048_S1x64x2048_3_0_0)) i j
      = fun k => x (ix3 k i j) := by
  funext k
  fin_cases k
  · exact ld_row x 0 _ i j
  · exact ld_row x 1 _ i j
  · exact ld_row x 2 _ i j
  · exact ld_row x 3 _ i j

/-- The whole gradient in a point's tile is the reference's. -/
theorem grad_point (y : S1.Idx) :
    grad (chip m c t y)
        (View.ld (Val := Elt Ideal) (e' := .bf16) (iblk m c 7 t) (Rect.unit (s := S4x64x2048) ![0, 0, 0] S1x64x2048.size inb_S4x64x2048_S1x64x2048_0_0_0))
        (View.ld (Val := Elt Ideal) (e' := .bf16) (iblk m c 7 t) (Rect.unit (s := S4x64x2048) ![1, 0, 0] S1x64x2048.size inb_S4x64x2048_S1x64x2048_1_0_0))
        (View.ld (Val := Elt Ideal) (e' := .bf16) (iblk m c 7 t) (Rect.unit (s := S4x64x2048) ![2, 0, 0] S1x64x2048.size inb_S4x64x2048_S1x64x2048_2_0_0))
        (View.ld (Val := Elt Ideal) (e' := .bf16) (iblk m c 7 t) (Rect.unit (s := S4x64x2048) ![3, 0, 0] S1x64x2048.size inb_S4x64x2048_S1x64x2048_3_0_0))
        (View.ld (Val := Elt Ideal) (e' := .bf16) (iblk m c 6 t) (Rect.unit (s := S4x64x2048) ![0, 0, 0] S1x64x2048.size inb_S4x64x2048_S1x64x2048_0_0_0))
        (View.ld (Val := Elt Ideal) (e' := .bf16) (iblk m c 6 t) (Rect.unit (s := S4x64x2048) ![1, 0, 0] S1x64x2048.size inb_S4x64x2048_S1x64x2048_1_0_0))
        (View.ld (Val := Elt Ideal) (e' := .bf16) (iblk m c 6 t) (Rect.unit (s := S4x64x2048) ![2, 0, 0] S1x64x2048.size inb_S4x64x2048_S1x64x2048_2_0_0))
        (View.ld (Val := Elt Ideal) (e' := .bf16) (iblk m c 6 t) (Rect.unit (s := S4x64x2048) ![3, 0, 0] S1x64x2048.size inb_S4x64x2048_S1x64x2048_3_0_0)) (ix2 i j)
      = Cert.RideRefIdeal.Read.val_main_v20 (F := Ideal) (A2 m c) (A6 m c) (A7 m c) (ix2 (row t i) j) := by
  refine (grad_at _ _ _ _ _ _ _ _ _ i j).trans ?_
  rw [Cert.RideRefIdeal.At.at20]
  have es : (fun k => (show FVec Ideal S4x64x2048 .bf16 from iblk m c 7 t) (ix3 k i j)) = fun k => A7 m c (ix3 k (row t i) j) :=
    funext fun k => s_at m c t k i j
  have el : (fun k => (show FVec Ideal S4x64x2048 .bf16 from iblk m c 6 t) (ix3 k i j)) = fun k => A6 m c (ix3 k (row t i) j) :=
    funext fun k => l_at m c t k i j
  exact congr (congr (congrArg whole ((ld_chip _ _ y).trans (chip_at m c t))) ((four_eq i j _).trans es)) ((four_eq i j _).trans el)

end

/-- A point's tile of the product. -/
theorem prod_point (c : Dev nD) (t : Fin cfg0.N) (i : Fin 512) (j : Fin 2048) :
    k0_pay4 (F := Ideal) (iblk m c 0 t) (iblk m c 1 t) (ix2 i j) = ∑ k : Fin 2048, A0 m c (ix2 k (col t i)) * A1 m c (ix2 k j) :=
  (pay4_at _ _ i j).trans (Finset.sum_congr rfl fun k _ => congr (congrArg _ (x_at m c t k i)) (ct_at m c t k j))

/-- The product. -/
theorem fin8 (c : Dev nD) :
    (dats m 0 c).arrAt 8 cfg0.N = Cert.RideRefIdeal.Read.val_main_v6 (F := Ideal) (A0 m c) (A1 m c) := by
  refine (dats m 0 c).arrAt_eq_of_covers 8 _ (by decide +kernel) fun t _ y => ?_
  blk_simp
  rw [after0_8]
  idx_vars y
  refine Eq.trans ?_ ((Cert.RideRefIdeal.At.at6 _ _ (col t y0) y1).symm.trans (congrArg _ (by blk_ext [idx t])))
  unfold outsAt0
  dsimp only
  frame_out
  exact prod_point m c t y0 y1

/-- The gradient's last layer, -/
theorem fin9 (c : Dev nD) (i : Fin 704) (j : Fin 2048) :
    (dats m 0 c).arrAt 9 cfg0.N (ix3 1 i j) = Cert.RideRefIdeal.Read.val_main_v20 (F := Ideal) (A2 m c) (A6 m c) (A7 m c) (ix2 i j) := by
  refine ((dats m 0 c).arrAt_apply_of_coversWhere 9
    (fun q => Cert.RideRefIdeal.Read.val_main_v20 (F := Ideal) (A2 m c) (A6 m c) (A7 m c) (ix2 (q 1) (q 2)))
    (P := fun q => (q 0).val = 1) (fun β => β 0 = 1) (by decide +kernel) (fun t _ y => ?_)
    (fun j => by blk_simp [Pipeline.Window.cell_apply]; omega) _).trans (if_pos rfl)
  blk_simp
  rw [after0_9]
  idx_vars y
  obtain rfl : y0 = 0 := Subsingleton.elim _ _
  refine Eq.trans ?_ ((Cert.RideRefIdeal.At.at20 _ _ _ (row t y1) y2).symm.trans <| congrArg _ (by blk_ext [idx t]))
  frame_out
  rw [← Cert.RideRefIdeal.At.at20]
  exact (pay10_at _ _ _ _ y1 y2).trans (grad_point m c t y1 y2 _)

/-- the step's, -/
theorem fin10 (c : Dev nD) (i : Fin 704) (j : Fin 2048) :
    (dats m 0 c).arrAt 10 cfg0.N (ix3 1 i j) = Cert.RideRefIdeal.Read.val_main_v44 (F := Ideal) (A2 m c) (A3 m c) (A4 m c) (A5 m c) (A6 m c) (A7 m c) (ix2 i j) := by
  refine ((dats m 0 c).arrAt_apply_of_coversWhere 10
    (fun q => Cert.RideRefIdeal.Read.val_main_v44 (F := Ideal) (A2 m c) (A3 m c) (A4 m c) (A5 m c) (A6 m c) (A7 m c) (ix2 (q 1) (q 2)))
    (P := fun q => (q 0).val = 1) (fun β => β 0 = 1) (by decide +kernel) (fun t _ y => ?_)
    (fun j => by blk_simp [Pipeline.Window.cell_apply]; omega) _).trans (if_pos rfl)
  blk_simp
  rw [after0_10]
  idx_vars y
  obtain rfl : y0 = 0 := Subsingleton.elim _ _
  refine Eq.trans ?_ ((Cert.RideRefIdeal.At.at44 _ _ _ _ _ _ (row t y1) y2).symm.trans <| congrArg _ (by blk_ext [idx t]))
  frame_out
  refine (pay1_at _ _ _ _ _ _ _ y1 y2).trans ?_
  exact congr (congr (congr (congrArg step (w_at m c t y1 y2)) (grad_point m c t y1 y2 _)) (m_at m c t y1 y2)) (v_at m c t y1 y2)

/-- the first moment's -/
theorem fin11 (c : Dev nD) (i : Fin 704) (j : Fin 2048) :
    (dats m 0 c).arrAt 11 cfg0.N (ix3 1 i j) = Cert.RideRefIdeal.Read.val_main_v25 (F := Ideal) (A2 m c) (A4 m c) (A6 m c) (A7 m c) (ix2 i j) := by
  refine ((dats m 0 c).arrAt_apply_of_coversWhere 11
    (fun q => Cert.RideRefIdeal.Read.val_main_v25 (F := Ideal) (A2 m c) (A4 m c) (A6 m c) (A7 m c) (ix2 (q 1) (q 2)))
    (P := fun q => (q 0).val = 1) (fun β => β 0 = 1) (by decide +kernel) (fun t _ y => ?_)
    (fun j => by blk_simp [Pipeline.Window.cell_apply]; omega) _).trans (if_pos rfl)
  blk_simp
  rw [after0_11]
  idx_vars y
  obtain rfl : y0 = 0 := Subsingleton.elim _ _
  refine Eq.trans ?_ ((Cert.RideRefIdeal.At.at25 _ _ _ _ (row t y1) y2).symm.trans <| congrArg _ (by blk_ext [idx t]))
  frame_out
  refine (pay2_at _ y1 y2).trans ((pay8_at _ _ _ _ _ y1 y2).trans ?_)
  exact congr (congrArg moment (grad_point m c t y1 y2 _)) (m_at m c t y1 y2)

/-- and the second's. -/
theorem fin12 (c : Dev nD) (i : Fin 704) (j : Fin 2048) :
    (dats m 0 c).arrAt 12 cfg0.N (ix3 1 i j) = Cert.RideRefIdeal.Read.val_main_v31 (F := Ideal) (A2 m c) (A5 m c) (A6 m c) (A7 m c) (ix2 i j) := by
  refine ((dats m 0 c).arrAt_apply_of_coversWhere 12
    (fun q => Cert.RideRefIdeal.Read.val_main_v31 (F := Ideal) (A2 m c) (A5 m c) (A6 m c) (A7 m c) (ix2 (q 1) (q 2)))
    (P := fun q => (q 0).val = 1) (fun β => β 0 = 1) (by decide +kernel) (fun t _ y => ?_)
    (fun j => by blk_simp [Pipeline.Window.cell_apply]; omega) _).trans (if_pos rfl)
  blk_simp
  rw [after0_12]
  idx_vars y
  obtain rfl : y0 = 0 := Subsingleton.elim _ _
  refine Eq.trans ?_ ((Cert.RideRefIdeal.At.at31 _ _ _ _ (row t y1) y2).symm.trans <| congrArg _ (by blk_ext [idx t]))
  frame_out
  refine (pay3_at _ y1 y2).trans ((pay9_at _ _ _ _ _ y1 y2).trans ?_)
  exact congr (congrArg square (grad_point m c t y1 y2 _)) (v_at m c t y1 y2)

end Cert.RideIdeal.Bridge

end
-- ==== Proof.RideTail.lean ====
/- The lines after the region of the ridden gradient: each reads the last layer of one of the step's arrays. -/
module

public import proofs.«01_k».proof.Proof.Gen.RideIdeal.Frame
public import Idealize.ShloMosaic.Lib.Pipeline.ValueKit
public import Idealize.ShloMosaic.Lib.Claim

@[expose] public section

set_option maxRecDepth 16384

noncomputable section

namespace Cert.RideIdeal.Tail

open Cert.RideIdeal Cert.RideIdeal.Gen Idealize.ShloMosaic Idealize.ShloMosaic.TcCoe Idealize.SL.Sem

/-- An array's last layer, the layer's axis dropped. -/
theorem last_at (x : FVec Ideal S2x704x2048 .f32) (i : Fin 704) (j : Fin 2048) :
    shapeCast S704x2048 (extractStridedSlice S1x704x2048 ![1, 0, 0] x slices_S2x704x2048_S1x704x2048_1_0_0) shapeCasts_S1x704x2048_S704x2048 (ix2 i j)
      = x (ix3 1 i j) := by
  pointwise

theorem line2 (W : Valuation τ sig (Elt Ideal)) (i : Fin 704) (j : Fin 2048) :
    (show FVec Ideal S704x2048 .f32 from StableHlo.after hostOps1 W (Proc.devRef .tc main_v2)) (ix2 i j)
      = (show FVec Ideal S2x704x2048 .f32 from W (Proc.devRef .tc main_v0_1)) (ix3 1 i j) := by
  after_results
  exact last_at _ i j

theorem line4 (W : Valuation τ sig (Elt Ideal)) (i : Fin 704) (j : Fin 2048) :
    (show FVec Ideal S704x2048 .f32 from StableHlo.after hostOps1 W (Proc.devRef .tc main_v4)) (ix2 i j)
      = (show FVec Ideal S2x704x2048 .f32 from W (Proc.devRef .tc main_v0_2)) (ix3 1 i j) := by
  after_results
  exact last_at _ i j

theorem line6 (W : Valuation τ sig (Elt Ideal)) (i : Fin 704) (j : Fin 2048) :
    (show FVec Ideal S704x2048 .f32 from StableHlo.after hostOps1 W (Proc.devRef .tc main_v6)) (ix2 i j)
      = (show FVec Ideal S2x704x2048 .f32 from W (Proc.devRef .tc main_v0_3)) (ix3 1 i j) := by
  after_results
  exact last_at _ i j

theorem line8 (W : Valuation τ sig (Elt Ideal)) (i : Fin 704) (j : Fin 2048) :
    (show FVec Ideal S704x2048 .f32 from StableHlo.after hostOps1 W (Proc.devRef .tc main_v8)) (ix2 i j)
      = (show FVec Ideal S2x704x2048 .f32 from W (Proc.devRef .tc main_v0_4)) (ix3 1 i j) := by
  after_results
  exact last_at _ i j

variable (m : (ℓ : Loc nD τ sig) → Buf (Elt Ideal) ℓ) (c : Dev nD) (i : Fin 704) (j : Fin 2048)

/-- What @main returns for window 9's array. -/
theorem out2 : Pipeline.afterTail₀ cfgs (dats m) 0 (V0 m) [hostOps1] c main_v2 (ix2 i j) = (dats m 0 c).arrAt 9 cfg0.N (ix3 1 i j) :=
  (line2 _ i j).trans (congrFun (Pipeline.withArrays_arr (cfgs 0).spec launch0.win.arr_inj c (V0 m c) (fun w => (dats m 0 c).arrAt w (cfgs 0).N) 9) _)

/-- What @main returns for window 10's array. -/
theorem out4 : Pipeline.afterTail₀ cfgs (dats m) 0 (V0 m) [hostOps1] c main_v4 (ix2 i j) = (dats m 0 c).arrAt 10 cfg0.N (ix3 1 i j) :=
  (line4 _ i j).trans (congrFun (Pipeline.withArrays_arr (cfgs 0).spec launch0.win.arr_inj c (V0 m c) (fun w => (dats m 0 c).arrAt w (cfgs 0).N) 10) _)

/-- What @main returns for window 11's array. -/
theorem out6 : Pipeline.afterTail₀ cfgs (dats m) 0 (V0 m) [hostOps1] c main_v6 (ix2 i j) = (dats m 0 c).arrAt 11 cfg0.N (ix3 1 i j) :=
  (line6 _ i j).trans (congrFun (Pipeline.withArrays_arr (cfgs 0).spec launch0.win.arr_inj c (V0 m c) (fun w => (dats m 0 c).arrAt w (cfgs 0).N) 11) _)

/-- What @main returns for window 12's array. -/
theorem out8 : Pipeline.afterTail₀ cfgs (dats m) 0 (V0 m) [hostOps1] c main_v8 (ix2 i j) = (dats m 0 c).arrAt 12 cfg0.N (ix3 1 i j) :=
  (line8 _ i j).trans (congrFun (Pipeline.withArrays_arr (cfgs 0).spec launch0.win.arr_inj c (V0 m c) (fun w => (dats m 0 c).arrAt w (cfgs 0).N) 12) _)

end Cert.RideIdeal.Tail

end
-- ==== Proof.RideClaims.lean ====
/- The claims of the ridden gradient: the frames, the constants kept, and the value claim. -/
module

public import proofs.«01_k».proof.Defs
public import proofs.«01_k».proof.Proof.RideValue
public import proofs.«01_k».proof.Proof.RideTail
public import proofs.«01_k».proof.Proof.Gen.Ride.Frame
public import proofs.«01_k».proof.Proof.Gen.RideRefIdeal.Run
public import proofs.«01_k».proof.Proof.Gen.RideRefIdeal.Read
public import Idealize.ShloMosaic.Lib.Claim
public import Idealize.ShloMosaic.Lib.Quiescent

@[expose] public section

set_option maxRecDepth 16384

noncomputable section

namespace Cert.RideClaims

open Idealize.ShloMosaic Idealize.ShloMosaic.TcCoe Idealize.SL.Sem

/-- No constant of the kernel is named. -/
theorem preserves : Cert.preserves_Ride_RideIdeal := trivial

section
open Cert.RideRefIdeal Cert.RideRefIdeal.Gen

/-- The reference's run, its results named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v6) = Read.val_main_v6 (F := Ideal) (m ((c.tc : Thread nD τ).loc main_arg0)) (m ((c.tc : Thread nD τ).loc main_arg1))
      ∧ r.2.mem ((c.tc : Thread nD τ).loc main_v20) = Read.val_main_v20 (F := Ideal) (m ((c.tc : Thread nD τ).loc main_arg2)) (m ((c.tc : Thread nD τ).loc main_arg6)) (m ((c.tc : Thread nD τ).loc main_arg7))
      ∧ r.2.mem ((c.tc : Thread nD τ).loc main_v44) = Read.val_main_v44 (F := Ideal) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v25) = Read.val_main_v25 (F := Ideal) (m ((c.tc : Thread nD τ).loc main_arg2)) (m ((c.tc : Thread nD τ).loc main_arg4)) (m ((c.tc : Thread nD τ).loc main_arg6)) (m ((c.tc : Thread nD τ).loc main_arg7))
      ∧ r.2.mem ((c.tc : Thread nD τ).loc main_v31) = Read.val_main_v31 (F := Ideal) (m ((c.tc : Thread nD τ).loc main_arg2)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans (Read.val_main_v6_eq _ _),
    (h c).2.1.trans (Read.val_main_v20_eq _ _ _),
    (h c).2.2.1.trans (Read.val_main_v44_eq _ _ _ _ _ _),
    (h c).2.2.2.1.trans (Read.val_main_v25_eq _ _ _ _),
    (h c).2.2.2.2.1.trans (Read.val_main_v31_eq _ _ _ _),
    (h c).2.2.2.2.2⟩) (Value.run m ρ)

end

theorem frame_p : Cert.quiescent_Ride := fun m ρ _ => Cert.Ride.Gen.frame m ρ
theorem frame_pi : Cert.quiescent_RideIdeal := fun m ρ _ => Cert.RideIdeal.Gen.frame m ρ
theorem frame_ri : Cert.quiescent_RideRefIdeal := fun m g _ =>
  (θ_run Cert.RideRefIdeal.defs _ _).mono (fun r h => ⟨fun c => (h c).2.2.2.2.2, sem_eq_zero_of_no_sems (by decide) r.2⟩)
    (Cert.RideRefIdeal.Value.run (F := Ideal) m g)

theorem algebraic : Cert.algebraic_RideIdeal_RideRefIdeal := by
  pair_intro
  · run_from Cert.RideIdeal.Gen.run_main m g
  · run_from run_ref m' g'
    · exact (Cert.RideIdeal.Bridge.fin8 m c).symm
    · funext y
      idx_vars y
      exact (Cert.RideIdeal.Bridge.fin9 m c y0 y1).symm.trans (Cert.RideIdeal.Tail.out2 m c y0 y1).symm
    · funext y
      idx_vars y
      exact (Cert.RideIdeal.Bridge.fin10 m c y0 y1).symm.trans (Cert.RideIdeal.Tail.out4 m c y0 y1).symm
    · funext y
      idx_vars y
      exact (Cert.RideIdeal.Bridge.fin11 m c y0 y1).symm.trans (Cert.RideIdeal.Tail.out6 m c y0 y1).symm
    · funext y
      idx_vars y
      exact (Cert.RideIdeal.Bridge.fin12 m c y0 y1).symm.trans (Cert.RideIdeal.Tail.out8 m c y0 y1).symm

end Cert.RideClaims

end
-- ==== Proof.AdsValue.lean ====
/- One AdamW step, of the spatial gate's weights, of the convolution's and of the small weights packed: the same lines as for
   the branches' projections, at the other three shapes. -/
module

public import proofs.«01_k».proof.Proof.AdValue
public import proofs.«01_k».proof.Proof.Gen.AdsIdeal.Value
public import proofs.«01_k».proof.Proof.Gen.AdsRefIdeal.Read
public import proofs.«01_k».proof.Proof.Gen.AdwIdeal.Value
public import proofs.«01_k».proof.Proof.Gen.AdwRefIdeal.Read
public import proofs.«01_k».proof.Proof.Gen.AdpIdeal.Value
public import proofs.«01_k».proof.Proof.Gen.AdpRefIdeal.Read
public import Idealize.ShloMosaic.Lib.Pipeline.ValueKit

@[expose] public section

set_option maxRecDepth 16384

noncomputable section

namespace Cert.AdsRefIdeal.At

open Cert.AdsRefIdeal Cert.AdsRefIdeal.Gen Cert.AdsRefIdeal.Read
open Idealize.ShloMosaic Idealize.ShloMosaic.TcCoe Idealize.SL.Sem
open Cert.AdRefIdeal.At (moment square step)

variable (w g m v : FVec Ideal S2x1024x128 .f32) (i : S2x1024x128.Idx)

theorem at4 : val_main_v4 (F := Ideal) g m i = moment (g i) (m i) := by
  unfold moment
  pointwise [val_main_v4, val_main_v3, val_main_v2, val_main_cst_0, val_main_v1, val_main_v0, val_main_cst]

theorem at10 : val_main_v10 (F := Ideal) g v i = square (g i) (v i) := by
  unfold square
  pointwise [val_main_v10, val_main_v9, val_main_v8, val_main_cst_2, val_main_v7, val_main_v6, val_main_v5, val_main_cst_1]

theorem at23 : val_main_v23 (F := Ideal) w g m v i = step (w i) (g i) (m i) (v i) := by
  unfold step
  rw [← at4, ← at10]
  unfold val_main_v23 val_main_v21 val_main_v20 val_main_v18 val_main_v17 val_main_v15 val_main_v14 val_main_v12
  generalize val_main_v4 (F := Ideal) g m = a
  generalize val_main_v10 (F := Ideal) g v = b
  pointwise [val_main_v22, val_main_cst_7, val_main_v19, val_main_cst_6, val_main_v16, val_main_cst_5, val_main_v13, val_main_cst_4, val_main_v11, val_main_cst_3]

end Cert.AdsRefIdeal.At

namespace Cert.AdsIdeal.Bridge

open Cert.AdsIdeal Cert.AdsIdeal.Gen Idealize.ShloMosaic Idealize.ShloMosaic.TcCoe Idealize.SL.Sem
open Idealize.ShloMosaic.Pipeline (Dat)
open Cert.AdRefIdeal.At (moment square step)

variable (m : (ℓ : Loc nD τ sig) → Buf (Elt Ideal) ℓ)

/-- Every window's block at a grid point: the point is the layer. -/
theorem idx : ∀ t : Fin cfg0.N, win0_0.index t = ![t.val, 0, 0] ∧ win0_1.index t = ![t.val, 0, 0] ∧ win0_2.index t = ![t.val, 0, 0]
    ∧ win0_3.index t = ![t.val, 0, 0] ∧ win0_4.index t = ![t.val, 0, 0] ∧ win0_5.index t = ![t.val, 0, 0] ∧ win0_6.index t = ![t.val, 0, 0] :=
  (by decide +kernel : ∀ t : Fin grid0.N, win0_0.index t = ![t.val, 0, 0] ∧ win0_1.index t = ![t.val, 0, 0] ∧ win0_2.index t = ![t.val, 0, 0]
    ∧ win0_3.index t = ![t.val, 0, 0] ∧ win0_4.index t = ![t.val, 0, 0] ∧ win0_5.index t = ![t.val, 0, 0] ∧ win0_6.index t = ![t.val, 0, 0])

section
variable (w g mo v : FVec Ideal S1x1024x128 .f32) (i : Fin 1024) (j : Fin 128)

/-- A layer's first moment, -/
theorem pay5_at : k0_pay5 (F := Ideal) g mo (ix2 i j) = moment (g (ix3 0 i j)) (mo (ix3 0 i j)) := by
  unfold moment
  pointwise [k0_pay5, k0_pay4]

/-- its second -/
theorem pay6_at : k0_pay6 (F := Ideal) g v (ix2 i j) = square (g (ix3 0 i j)) (v (ix3 0 i j)) := by
  unfold square
  pointwise [k0_pay6, k0_pay4]

/-- and its step. -/
theorem pay7_at : k0_pay7 (F := Ideal) g mo v w (ix2 i j) = step (w (ix3 0 i j)) (g (ix3 0 i j)) (mo (ix3 0 i j)) (v (ix3 0 i j)) := by
  unfold step
  rw [← pay5_at, ← pay6_at]
  unfold k0_pay7
  generalize k0_pay5 (F := Ideal) g mo = a
  generalize k0_pay6 (F := Ideal) g v = b
  pointwise

/-- As they are stored. -/
theorem pay1_at (x : FVec Ideal S1024x128 .f32) : k0_pay1 (F := Ideal) x (ix3 0 i j) = x (ix2 i j) := by
  pointwise [k0_pay1]

theorem pay2_at (x : FVec Ideal S1024x128 .f32) : k0_pay2 (F := Ideal) x (ix3 0 i j) = x (ix2 i j) := by
  pointwise [k0_pay2]

theorem pay3_at (x : FVec Ideal S1024x128 .f32) : k0_pay3 (F := Ideal) x (ix3 0 i j) = x (ix2 i j) := by
  pointwise [k0_pay3]

end

/-- The layer of a grid point. -/
abbrev layer (t : Fin cfg0.N) : Fin 2 := ⟨t.val, by have := lt_of_lt_of_eq t.isLt (show cfg0.N = 2 from N_0); omega⟩

/-- The argument arrays. -/
abbrev A0 (c : Dev nD) : FVec Ideal S2x1024x128 .f32 := m ((c : Thread nD τ).loc main_arg0)
abbrev A1 (c : Dev nD) : FVec Ideal S2x1024x128 .f32 := m ((c : Thread nD τ).loc main_arg1)
abbrev A2 (c : Dev nD) : FVec Ideal S2x1024x128 .f32 := m ((c : Thread nD τ).loc main_arg2)
abbrev A3 (c : Dev nD) : FVec Ideal S2x1024x128 .f32 := m ((c : Thread nD τ).loc main_arg3)

/-- The steps. -/
theorem fin4 (c : Dev nD) :
    (dats m 0 c).arrAt 4 cfg0.N = Cert.AdsRefIdeal.Read.val_main_v23 (F := Ideal) (A0 m c) (A1 m c) (A2 m c) (A3 m c) := by
  refine (dats m 0 c).arrAt_eq_of_covers 4 _ (by decide +kernel) fun t _ y => ?_
  blk_simp
  rw [after0_4]
  idx_vars y
  obtain rfl : y0 = 0 := Subsingleton.elim _ _
  refine Eq.trans ?_ ((Cert.AdsRefIdeal.At.at23 _ _ _ _ (ix3 (layer t) y1 y2)).symm.trans (congrArg _ (by blk_ext [idx t])))
  frame_out
  refine (pay1_at ..).trans ((pay7_at ..).trans ?_)
  blk_point [iblk, V, idx t]

/-- The first moments. -/
theorem fin5 (c : Dev nD) :
    (dats m 0 c).arrAt 5 cfg0.N = Cert.AdsRefIdeal.Read.val_main_v4 (F := Ideal) (A1 m c) (A2 m c) := by
  refine (dats m 0 c).arrAt_eq_of_covers 5 _ (by decide +kernel) fun t _ y => ?_
  blk_simp
  rw [after0_5]
  idx_vars y
  obtain rfl : y0 = 0 := Subsingleton.elim _ _
  refine Eq.trans ?_ ((Cert.AdsRefIdeal.At.at4 _ _ (ix3 (layer t) y1 y2)).symm.trans (congrArg _ (by blk_ext [idx t])))
  frame_out
  refine (pay2_at ..).trans ((pay5_at ..).trans ?_)
  blk_point [iblk, V, idx t]

/-- The second moments. -/
theorem fin6 (c : Dev nD) :
    (dats m 0 c).arrAt 6 cfg0.N = Cert.AdsRefIdeal.Read.val_main_v10 (F := Ideal) (A1 m c) (A3 m c) := by
  refine (dats m 0 c).arrAt_eq_of_covers 6 _ (by decide +kernel) fun t _ y => ?_
  blk_simp
  rw [after0_6]
  idx_vars y
  obtain rfl : y0 = 0 := Subsingleton.elim _ _
  refine Eq.trans ?_ ((Cert.AdsRefIdeal.At.at10 _ _ (ix3 (layer t) y1 y2)).symm.trans (congrArg _ (by blk_ext [idx t])))
  frame_out
  refine (pay3_at ..).trans ((pay6_at ..).trans ?_)
  blk_point [iblk, V, idx t]

end Cert.AdsIdeal.Bridge

namespace Cert.AdwRefIdeal.At

open Cert.AdwRefIdeal Cert.AdwRefIdeal.Gen Cert.AdwRefIdeal.Read
open Idealize.ShloMosaic Idealize.ShloMosaic.TcCoe Idealize.SL.Sem
open Cert.AdRefIdeal.At (moment square step)

variable (w g m v : FVec Ideal S1x62x128 .f32) (i : S1x62x128.Idx)

theorem at4 : val_main_v4 (F := Ideal) g m i = moment (g i) (m i) := by
  unfold moment
  pointwise [val_main_v4, val_main_v3, val_main_v2, val_main_cst_0, val_main_v1, val_main_v0, val_main_cst]

theorem at10 : val_main_v10 (F := Ideal) g v i = square (g i) (v i) := by
  unfold square
  pointwise [val_main_v10, val_main_v9, val_main_v8, val_main_cst_2, val_main_v7, val_main_v6, val_main_v5, val_main_cst_1]

theorem at23 : val_main_v23 (F := Ideal) w g m v i = step (w i) (g i) (m i) (v i) := by
  unfold step
  rw [← at4, ← at10]
  unfold val_main_v23 val_main_v21 val_main_v20 val_main_v18 val_main_v17 val_main_v15 val_main_v14 val_main_v12
  generalize val_main_v4 (F := Ideal) g m = a
  generalize val_main_v10 (F := Ideal) g v = b
  pointwise [val_main_v22, val_main_cst_7, val_main_v19, val_main_cst_6, val_main_v16, val_main_cst_5, val_main_v13, val_main_cst_4, val_main_v11, val_main_cst_3]

end Cert.AdwRefIdeal.At

namespace Cert.AdwIdeal.Bridge

open Cert.AdwIdeal Cert.AdwIdeal.Gen Idealize.ShloMosaic Idealize.ShloMosaic.TcCoe Idealize.SL.Sem
open Idealize.ShloMosaic.Pipeline (Dat)
open Cert.AdRefIdeal.At (moment square step)

variable (m : (ℓ : Loc nD τ sig) → Buf (Elt Ideal) ℓ)

/-- Every window's block at a grid point: the point is the layer. -/
theorem idx : ∀ t : Fin cfg0.N, win0_0.index t = ![t.val, 0, 0] ∧ win0_1.index t = ![t.val, 0, 0] ∧ win0_2.index t = ![t.val, 0, 0]
    ∧ win0_3.index t = ![t.val, 0, 0] ∧ win0_4.index t = ![t.val, 0, 0] ∧ win0_5.index t = ![t.val, 0, 0] ∧ win0_6.index t = ![t.val, 0, 0] :=
  (by decide +kernel : ∀ t : Fin grid0.N, win0_0.index t = ![t.val, 0, 0] ∧ win0_1.index t = ![t.val, 0, 0] ∧ win0_2.index t = ![t.val, 0, 0]
    ∧ win0_3.index t = ![t.val, 0, 0] ∧ win0_4.index t = ![t.val, 0, 0] ∧ win0_5.index t = ![t.val, 0, 0] ∧ win0_6.index t = ![t.val, 0, 0])

section
variable (w g mo v : FVec Ideal S1x62x128 .f32) (i : Fin 62) (j : Fin 128)

/-- A layer's first moment, -/
theorem pay5_at : k0_pay5 (F := Ideal) g mo (ix2 i j) = moment (g (ix3 0 i j)) (mo (ix3 0 i j)) := by
  unfold moment
  pointwise [k0_pay5, k0_pay4]

/-- its second -/
theorem pay6_at : k0_pay6 (F := Ideal) g v (ix2 i j) = square (g (ix3 0 i j)) (v (ix3 0 i j)) := by
  unfold square
  pointwise [k0_pay6, k0_pay4]

/-- and its step. -/
theorem pay7_at : k0_pay7 (F := Ideal) g mo v w (ix2 i j) = step (w (ix3 0 i j)) (g (ix3 0 i j)) (mo (ix3 0 i j)) (v (ix3 0 i j)) := by
  unfold step
  rw [← pay5_at, ← pay6_at]
  unfold k0_pay7
  generalize k0_pay5 (F := Ideal) g mo = a
  generalize k0_pay6 (F := Ideal) g v = b
  pointwise

/-- As they are stored. -/
theorem pay1_at (x : FVec Ideal S62x128 .f32) : k0_pay1 (F := Ideal) x (ix3 0 i j) = x (ix2 i j) := by
  pointwise [k0_pay1]

theorem pay2_at (x : FVec Ideal S62x128 .f32) : k0_pay2 (F := Ideal) x (ix3 0 i j) = x (ix2 i j) := by
  pointwise [k0_pay2]

theorem pay3_at (x : FVec Ideal S62x128 .f32) : k0_pay3 (F := Ideal) x (ix3 0 i j) = x (ix2 i j) := by
  pointwise [k0_pay3]

end

/-- The layer of a grid point. -/
abbrev layer (t : Fin cfg0.N) : Fin 1 := ⟨t.val, by have := lt_of_lt_of_eq t.isLt (show cfg0.N = 1 from N_0); omega⟩

/-- The argument arrays. -/
abbrev A0 (c : Dev nD) : FVec Ideal S1x62x128 .f32 := m ((c : Thread nD τ).loc main_arg0)
abbrev A1 (c : Dev nD) : FVec Ideal S1x62x128 .f32 := m ((c : Thread nD τ).loc main_arg1)
abbrev A2 (c : Dev nD) : FVec Ideal S1x62x128 .f32 := m ((c : Thread nD τ).loc main_arg2)
abbrev A3 (c : Dev nD) : FVec Ideal S1x62x128 .f32 := m ((c : Thread nD τ).loc main_arg3)

/-- The steps. -/
theorem fin4 (c : Dev nD) :
    (dats m 0 c).arrAt 4 cfg0.N = Cert.AdwRefIdeal.Read.val_main_v23 (F := Ideal) (A0 m c) (A1 m c) (A2 m c) (A3 m c) := by
  refine (dats m 0 c).arrAt_eq_of_covers 4 _ (by decide +kernel) fun t _ y => ?_
  blk_simp
  rw [after0_4]
  idx_vars y
  obtain rfl : y0 = 0 := Subsingleton.elim _ _
  refine Eq.trans ?_ ((Cert.AdwRefIdeal.At.at23 _ _ _ _ (ix3 (layer t) y1 y2)).symm.trans (congrArg _ (by blk_ext [idx t])))
  frame_out
  refine (pay1_at ..).trans ((pay7_at ..).trans ?_)
  blk_point [iblk, V, idx t]

/-- The first moments. -/
theorem fin5 (c : Dev nD) :
    (dats m 0 c).arrAt 5 cfg0.N = Cert.AdwRefIdeal.Read.val_main_v4 (F := Ideal) (A1 m c) (A2 m c) := by
  refine (dats m 0 c).arrAt_eq_of_covers 5 _ (by decide +kernel) fun t _ y => ?_
  blk_simp
  rw [after0_5]
  idx_vars y
  obtain rfl : y0 = 0 := Subsingleton.elim _ _
  refine Eq.trans ?_ ((Cert.AdwRefIdeal.At.at4 _ _ (ix3 (layer t) y1 y2)).symm.trans (congrArg _ (by blk_ext [idx t])))
  frame_out
  refine (pay2_at ..).trans ((pay5_at ..).trans ?_)
  blk_point [iblk, V, idx t]

/-- The second moments. -/
theorem fin6 (c : Dev nD) :
    (dats m 0 c).arrAt 6 cfg0.N = Cert.AdwRefIdeal.Read.val_main_v10 (F := Ideal) (A1 m c) (A3 m c) := by
  refine (dats m 0 c).arrAt_eq_of_covers 6 _ (by decide +kernel) fun t _ y => ?_
  blk_simp
  rw [after0_6]
  idx_vars y
  obtain rfl : y0 = 0 := Subsingleton.elim _ _
  refine Eq.trans ?_ ((Cert.AdwRefIdeal.At.at10 _ _ (ix3 (layer t) y1 y2)).symm.trans (congrArg _ (by blk_ext [idx t])))
  frame_out
  refine (pay3_at ..).trans ((pay6_at ..).trans ?_)
  blk_point [iblk, V, idx t]

end Cert.AdwIdeal.Bridge

namespace Cert.AdpRefIdeal.At

open Cert.AdpRefIdeal Cert.AdpRefIdeal.Gen Cert.AdpRefIdeal.Read
open Idealize.ShloMosaic Idealize.ShloMosaic.TcCoe Idealize.SL.Sem
open Cert.AdRefIdeal.At (moment square step)

variable (w g m v : FVec Ideal S1x280x128 .f32) (i : S1x280x128.Idx)

theorem at4 : val_main_v4 (F := Ideal) g m i = moment (g i) (m i) := by
  unfold moment
  pointwise [val_main_v4, val_main_v3, val_main_v2, val_main_cst_0, val_main_v1, val_main_v0, val_main_cst]

theorem at10 : val_main_v10 (F := Ideal) g v i = square (g i) (v i) := by
  unfold square
  pointwise [val_main_v10, val_main_v9, val_main_v8, val_main_cst_2, val_main_v7, val_main_v6, val_main_v5, val_main_cst_1]

theorem at23 : val_main_v23 (F := Ideal) w g m v i = step (w i) (g i) (m i) (v i) := by
  unfold step
  rw [← at4, ← at10]
  unfold val_main_v23 val_main_v21 val_main_v20 val_main_v18 val_main_v17 val_main_v15 val_main_v14 val_main_v12
  generalize val_main_v4 (F := Ideal) g m = a
  generalize val_main_v10 (F := Ideal) g v = b
  pointwise [val_main_v22, val_main_cst_7, val_main_v19, val_main_cst_6, val_main_v16, val_main_cst_5, val_main_v13, val_main_cst_4, val_main_v11, val_main_cst_3]

end Cert.AdpRefIdeal.At

namespace Cert.AdpIdeal.Bridge

open Cert.AdpIdeal Cert.AdpIdeal.Gen Idealize.ShloMosaic Idealize.ShloMosaic.TcCoe Idealize.SL.Sem
open Idealize.ShloMosaic.Pipeline (Dat)
open Cert.AdRefIdeal.At (moment square step)

variable (m : (ℓ : Loc nD τ sig) → Buf (Elt Ideal) ℓ)

/-- Every window's block at a grid point: the point is the layer. -/
theorem idx : ∀ t : Fin cfg0.N, win0_0.index t = ![t.val, 0, 0] ∧ win0_1.index t = ![t.val, 0, 0] ∧ win0_2.index t = ![t.val, 0, 0]
    ∧ win0_3.index t = ![t.val, 0, 0] ∧ win0_4.index t = ![t.val, 0, 0] ∧ win0_5.index t = ![t.val, 0, 0] ∧ win0_6.index t = ![t.val, 0, 0] :=
  (by decide +kernel : ∀ t : Fin grid0.N, win0_0.index t = ![t.val, 0, 0] ∧ win0_1.index t = ![t.val, 0, 0] ∧ win0_2.index t = ![t.val, 0, 0]
    ∧ win0_3.index t = ![t.val, 0, 0] ∧ win0_4.index t = ![t.val, 0, 0] ∧ win0_5.index t = ![t.val, 0, 0] ∧ win0_6.index t = ![t.val, 0, 0])

section
variable (w g mo v : FVec Ideal S1x280x128 .f32) (i : Fin 280) (j : Fin 128)

/-- A layer's first moment, -/
theorem pay5_at : k0_pay5 (F := Ideal) g mo (ix2 i j) = moment (g (ix3 0 i j)) (mo (ix3 0 i j)) := by
  unfold moment
  pointwise [k0_pay5, k0_pay4]

/-- its second -/
theorem pay6_at : k0_pay6 (F := Ideal) g v (ix2 i j) = square (g (ix3 0 i j)) (v (ix3 0 i j)) := by
  unfold square
  pointwise [k0_pay6, k0_pay4]

/-- and its step. -/
theorem pay7_at : k0_pay7 (F := Ideal) g mo v w (ix2 i j) = step (w (ix3 0 i j)) (g (ix3 0 i j)) (mo (ix3 0 i j)) (v (ix3 0 i j)) := by
  unfold step
  rw [← pay5_at, ← pay6_at]
  unfold k0_pay7
  generalize k0_pay5 (F := Ideal) g mo = a
  generalize k0_pay6 (F := Ideal) g v = b
  pointwise

/-- As they are stored. -/
theorem pay1_at (x : FVec Ideal S280x128 .f32) : k0_pay1 (F := Ideal) x (ix3 0 i j) = x (ix2 i j) := by
  pointwise [k0_pay1]

theorem pay2_at (x : FVec Ideal S280x128 .f32) : k0_pay2 (F := Ideal) x (ix3 0 i j) = x (ix2 i j) := by
  pointwise [k0_pay2]

theorem pay3_at (x : FVec Ideal S280x128 .f32) : k0_pay3 (F := Ideal) x (ix3 0 i j) = x (ix2 i j) := by
  pointwise [k0_pay3]

end

/-- The layer of a grid point. -/
abbrev layer (t : Fin cfg0.N) : Fin 1 := ⟨t.val, by have := lt_of_lt_of_eq t.isLt (show cfg0.N = 1 from N_0); omega⟩

/-- The argument arrays. -/
abbrev A0 (c : Dev nD) : FVec Ideal S1x280x128 .f32 := m ((c : Thread nD τ).loc main_arg0)
abbrev A1 (c : Dev nD) : FVec Ideal S1x280x128 .f32 := m ((c : Thread nD τ).loc main_arg1)
abbrev A2 (c : Dev nD) : FVec Ideal S1x280x128 .f32 := m ((c : Thread nD τ).loc main_arg2)
abbrev A3 (c : Dev nD) : FVec Ideal S1x280x128 .f32 := m ((c : Thread nD τ).loc main_arg3)

/-- The steps. -/
theorem fin4 (c : Dev nD) :
    (dats m 0 c).arrAt 4 cfg0.N = Cert.AdpRefIdeal.Read.val_main_v23 (F := Ideal) (A0 m c) (A1 m c) (A2 m c) (A3 m c) := by
  refine (dats m 0 c).arrAt_eq_of_covers 4 _ (by decide +kernel) fun t _ y => ?_
  blk_simp
  rw [after0_4]
  idx_vars y
  obtain rfl : y0 = 0 := Subsingleton.elim _ _
  refine Eq.trans ?_ ((Cert.AdpRefIdeal.At.at23 _ _ _ _ (ix3 (layer t) y1 y2)).symm.trans (congrArg _ (by blk_ext [idx t])))
  frame_out
  refine (pay1_at ..).trans ((pay7_at ..).trans ?_)
  blk_point [iblk, V, idx t]

/-- The first moments. -/
theorem fin5 (c : Dev nD) :
    (dats m 0 c).arrAt 5 cfg0.N = Cert.AdpRefIdeal.Read.val_main_v4 (F := Ideal) (A1 m c) (A2 m c) := by
  refine (dats m 0 c).arrAt_eq_of_covers 5 _ (by decide +kernel) fun t _ y => ?_
  blk_simp
  rw [after0_5]
  idx_vars y
  obtain rfl : y0 = 0 := Subsingleton.elim _ _
  refine Eq.trans ?_ ((Cert.AdpRefIdeal.At.at4 _ _ (ix3 (layer t) y1 y2)).symm.trans (congrArg _ (by blk_ext [idx t])))
  frame_out
  refine (pay2_at ..).trans ((pay5_at ..).trans ?_)
  blk_point [iblk, V, idx t]

/-- The second moments. -/
theorem fin6 (c : Dev nD) :
    (dats m 0 c).arrAt 6 cfg0.N = Cert.AdpRefIdeal.Read.val_main_v10 (F := Ideal) (A1 m c) (A3 m c) := by
  refine (dats m 0 c).arrAt_eq_of_covers 6 _ (by decide +kernel) fun t _ y => ?_
  blk_simp
  rw [after0_6]
  idx_vars y
  obtain rfl : y0 = 0 := Subsingleton.elim _ _
  refine Eq.trans ?_ ((Cert.AdpRefIdeal.At.at10 _ _ (ix3 (layer t) y1 y2)).symm.trans (congrArg _ (by blk_ext [idx t])))
  frame_out
  refine (pay3_at ..).trans ((pay6_at ..).trans ?_)
  blk_point [iblk, V, idx t]

end Cert.AdpIdeal.Bridge

end
-- ==== Proof.AdsClaims.lean ====
/- The claims of three more AdamW steps, of the spatial gate's weights, the convolution's and the small ones packed: the frames, the constants kept, and the value claim. -/
module

public import proofs.«01_k».proof.Defs
public import proofs.«01_k».proof.Proof.AdsValue
public import proofs.«01_k».proof.Proof.Gen.Ads.Frame
public import proofs.«01_k».proof.Proof.Gen.AdsRefIdeal.Run
public import proofs.«01_k».proof.Proof.Gen.AdsRefIdeal.Read
public import proofs.«01_k».proof.Proof.Gen.Adw.Frame
public import proofs.«01_k».proof.Proof.Gen.AdwRefIdeal.Run
public import proofs.«01_k».proof.Proof.Gen.AdwRefIdeal.Read
public import proofs.«01_k».proof.Proof.Gen.Adp.Frame
public import proofs.«01_k».proof.Proof.Gen.AdpRefIdeal.Run
public import proofs.«01_k».proof.Proof.Gen.AdpRefIdeal.Read
public import Idealize.ShloMosaic.Lib.Claim
public import Idealize.ShloMosaic.Lib.Quiescent

@[expose] public section

set_option maxRecDepth 16384

noncomputable section

namespace Cert.AdsClaims

open Idealize.ShloMosaic Idealize.ShloMosaic.TcCoe Idealize.SL.Sem

/-- No constant of the kernel is named. -/
theorem preserves : Cert.preserves_Ads_AdsIdeal := trivial

section
open Cert.AdsRefIdeal Cert.AdsRefIdeal.Gen

/-- The reference's run, its results named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v23) = Read.val_main_v23 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v4) = Read.val_main_v4 (F := Ideal) (m ((c.tc : Thread nD τ).loc main_arg1)) (m ((c.tc : Thread nD τ).loc main_arg2))
      ∧ r.2.mem ((c.tc : Thread nD τ).loc main_v10) = Read.val_main_v10 (F := Ideal) (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (Read.val_main_v23_eq _ _ _ _),
    (h c).2.1.trans (Read.val_main_v4_eq _ _),
    (h c).2.2.1.trans (Read.val_main_v10_eq _ _),
    (h c).2.2.2⟩) (Value.run m ρ)

end

theorem frame_p : Cert.quiescent_Ads := fun m ρ _ => Cert.Ads.Gen.frame m ρ
theorem frame_pi : Cert.quiescent_AdsIdeal := fun m ρ _ => Cert.AdsIdeal.Gen.frame m ρ
theorem frame_ri : Cert.quiescent_AdsRefIdeal := fun m g _ =>
  (θ_run Cert.AdsRefIdeal.defs _ _).mono (fun r h => ⟨fun c => (h c).2.2.2, sem_eq_zero_of_no_sems (by decide) r.2⟩)
    (Cert.AdsRefIdeal.Value.run (F := Ideal) m g)

theorem algebraic : Cert.algebraic_AdsIdeal_AdsRefIdeal := by
  pair_intro
  · run_from Cert.AdsIdeal.Value.run_blocks m g
  · run_from run_ref m' g'
    · exact (Cert.AdsIdeal.Bridge.fin4 m c).symm
    · exact (Cert.AdsIdeal.Bridge.fin5 m c).symm
    · exact (Cert.AdsIdeal.Bridge.fin6 m c).symm

end Cert.AdsClaims

namespace Cert.AdwClaims

open Idealize.ShloMosaic Idealize.ShloMosaic.TcCoe Idealize.SL.Sem

/-- No constant of the kernel is named. -/
theorem preserves : Cert.preserves_Adw_AdwIdeal := trivial

section
open Cert.AdwRefIdeal Cert.AdwRefIdeal.Gen

/-- The reference's run, its results named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v23) = Read.val_main_v23 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v4) = Read.val_main_v4 (F := Ideal) (m ((c.tc : Thread nD τ).loc main_arg1)) (m ((c.tc : Thread nD τ).loc main_arg2))
      ∧ r.2.mem ((c.tc : Thread nD τ).loc main_v10) = Read.val_main_v10 (F := Ideal) (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (Read.val_main_v23_eq _ _ _ _),
    (h c).2.1.trans (Read.val_main_v4_eq _ _),
    (h c).2.2.1.trans (Read.val_main_v10_eq _ _),
    (h c).2.2.2⟩) (Value.run m ρ)

end

theorem frame_p : Cert.quiescent_Adw := fun m ρ _ => Cert.Adw.Gen.frame m ρ
theorem frame_pi : Cert.quiescent_AdwIdeal := fun m ρ _ => Cert.AdwIdeal.Gen.frame m ρ
theorem frame_ri : Cert.quiescent_AdwRefIdeal := fun m g _ =>
  (θ_run Cert.AdwRefIdeal.defs _ _).mono (fun r h => ⟨fun c => (h c).2.2.2, sem_eq_zero_of_no_sems (by decide) r.2⟩)
    (Cert.AdwRefIdeal.Value.run (F := Ideal) m g)

theorem algebraic : Cert.algebraic_AdwIdeal_AdwRefIdeal := by
  pair_intro
  · run_from Cert.AdwIdeal.Value.run_blocks m g
  · run_from run_ref m' g'
    · exact (Cert.AdwIdeal.Bridge.fin4 m c).symm
    · exact (Cert.AdwIdeal.Bridge.fin5 m c).symm
    · exact (Cert.AdwIdeal.Bridge.fin6 m c).symm

end Cert.AdwClaims

namespace Cert.AdpClaims

open Idealize.ShloMosaic Idealize.ShloMosaic.TcCoe Idealize.SL.Sem

/-- No constant of the kernel is named. -/
theorem preserves : Cert.preserves_Adp_AdpIdeal := trivial

section
open Cert.AdpRefIdeal Cert.AdpRefIdeal.Gen

/-- The reference's run, its results named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v23) = Read.val_main_v23 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v4) = Read.val_main_v4 (F := Ideal) (m ((c.tc : Thread nD τ).loc main_arg1)) (m ((c.tc : Thread nD τ).loc main_arg2))
      ∧ r.2.mem ((c.tc : Thread nD τ).loc main_v10) = Read.val_main_v10 (F := Ideal) (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (Read.val_main_v23_eq _ _ _ _),
    (h c).2.1.trans (Read.val_main_v4_eq _ _),
    (h c).2.2.1.trans (Read.val_main_v10_eq _ _),
    (h c).2.2.2⟩) (Value.run m ρ)

end

theorem frame_p : Cert.quiescent_Adp := fun m ρ _ => Cert.Adp.Gen.frame m ρ
theorem frame_pi : Cert.quiescent_AdpIdeal := fun m ρ _ => Cert.AdpIdeal.Gen.frame m ρ
theorem frame_ri : Cert.quiescent_AdpRefIdeal := fun m g _ =>
  (θ_run Cert.AdpRefIdeal.defs _ _).mono (fun r h => ⟨fun c => (h c).2.2.2, sem_eq_zero_of_no_sems (by decide) r.2⟩)
    (Cert.AdpRefIdeal.Value.run (F := Ideal) m g)

theorem algebraic : Cert.algebraic_AdpIdeal_AdpRefIdeal := by
  pair_intro
  · run_from Cert.AdpIdeal.Value.run_blocks m g
  · run_from run_ref m' g'
    · exact (Cert.AdpIdeal.Bridge.fin4 m c).symm
    · exact (Cert.AdpIdeal.Bridge.fin5 m c).symm
    · exact (Cert.AdpIdeal.Bridge.fin6 m c).symm

end Cert.AdpClaims

end
-- ==== Proof.RmsfValue.lean ====
/- The root-mean-square normalisation: row tile by row tile, the kernel's array is the reference's. -/
module

public import proofs.«01_k».proof.Proof.Gen.RmsfIdeal.Value
public import proofs.«01_k».proof.Proof.Gen.RmsfRefIdeal.Read
public import proofs.«01_k».proof.Proof.RmsRow
public import Idealize.ShloMosaic.Lib.Pipeline.ValueKit

@[expose] public section

set_option maxRecDepth 16384

noncomputable section

namespace Cert.RmsfRefIdeal.At

open Cert.RmsfRefIdeal Cert.RmsfRefIdeal.Gen Cert.RmsfRefIdeal.Read
open Idealize.ShloMosaic Idealize.ShloMosaic.TcCoe Idealize.SL.Sem
open Cert.RmsRow (ms rs)

variable (x : FVec Ideal S2048x2048 .f32) (g : FVec Ideal S1x2048 .f32)

/-- The inverses of the rows' roots. -/
theorem at7 (i : Fin 2048) : val_main_v7 (F := Ideal) x (ix2 i 0) = rs (fun k => x (ix2 i k)) := by
  unfold rs ms
  pointwise [val_main_v7, val_main_v6, val_main_v5, val_main_cst_1, val_main_v4, val_main_v3, val_main_cst_0, val_main_v2, val_main_v1,
    val_main_cst, val_main_v0]

/-- The rows normalised and scaled. -/
theorem at12 (i j : Fin 2048) :
    val_main_v12 (F := Ideal) x g (ix2 i j) = x (ix2 i j) * rs (fun k => x (ix2 i k)) * g (ix2 0 j) := by
  rw [← at7]
  unfold val_main_v12 val_main_v11 val_main_v9 val_main_v8
  generalize val_main_v7 (F := Ideal) x = a
  pointwise [val_main_v10]

end Cert.RmsfRefIdeal.At

namespace Cert.RmsfIdeal.Bridge

open Cert.RmsfIdeal Cert.RmsfIdeal.Gen Idealize.ShloMosaic Idealize.ShloMosaic.TcCoe Idealize.SL.Sem
open Idealize.ShloMosaic.Pipeline (Dat)
open Cert.RmsRow (ms rs)

/-- A tile's rows normalised and scaled. -/
theorem pay1_at (x : FVec Ideal S256x2048 .f32) (g : FVec Ideal S1x2048 .f32) (i : Fin 256) (j : Fin 2048) :
    k0_pay1 (F := Ideal) x g (ix2 i j) = x (ix2 i j) * rs (fun k => x (ix2 i k)) * g (ix2 0 j) := by
  unfold rs ms
  pointwise [k0_pay1]

variable (m : (ℓ : Loc nD τ sig) → Buf (Elt Ideal) ℓ)

/-- Every window's block at a grid point: the point is the row tile. -/
theorem idx : ∀ t : Fin cfg0.N, win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0])

/-- The tile's row. -/
abbrev row (t : Fin cfg0.N) (r : Fin 256) : Fin 2048 := ⟨t.val * 256 + r.val, by have := lt_of_lt_of_eq t.isLt (show cfg0.N = 8 from N_0); omega⟩

/-- The argument arrays. -/
abbrev A0 (c : Dev nD) : FVec Ideal S2048x2048 .f32 := m ((c : Thread nD τ).loc main_arg0)
abbrev A1 (c : Dev nD) : FVec Ideal S1x2048 .f32 := m ((c : Thread nD τ).loc main_arg1)

section
variable (c : Dev nD) (t : Fin cfg0.N) (i : Fin 256) (j : Fin 2048)

/-- The tiles, read at an index. -/
theorem x_at : (show FVec Ideal S256x2048 .f32 from iblk m c 0 t) (ix2 i j) = A0 m c (ix2 (row t i) j) := by
  blk_point [iblk, V, idx t]

theorem g_at : (show FVec Ideal S1x2048 .f32 from iblk m c 1 t) (ix2 0 j) = A1 m c (ix2 0 j) := by
  blk_point [iblk, V, idx t]

end

/-- The kernel's array is the reference's. -/
theorem fin2 (c : Dev nD) :
    (dats m 0 c).arrAt 2 cfg0.N = Cert.RmsfRefIdeal.Read.val_main_v12 (F := Ideal) (A0 m c) (A1 m c) := by
  refine (dats m 0 c).arrAt_eq_of_covers 2 _ (by decide +kernel) fun t _ y => ?_
  blk_simp
  rw [after0_2]
  idx_vars y
  refine Eq.trans ?_ ((Cert.RmsfRefIdeal.At.at12 _ _ (row t y0) y1).symm.trans (congrArg _ (by blk_ext [idx t])))
  frame_out
  rw [pay1_at]
  have ex : (fun k => (show FVec Ideal S256x2048 .f32 from iblk m c 0 t) (ix2 y0 k)) = fun k => A0 m c (ix2 (row t y0) k) :=
    funext fun k => x_at m c t y0 k
  have eg := g_at m c t y1
  dsimp only at ex eg
  have key : ∀ (f g : Fin 2048 → EReal) (a b : EReal), f = g → a = b → f y1 * rs f * a = g y1 * rs g * b := by
    rintro f _ a _ rfl rfl
    rfl
  exact key _ _ _ _ ex eg

end Cert.RmsfIdeal.Bridge

end
-- ==== Proof.RmsfClaims.lean ====
/- The claims of the root-mean-square normalisation: the frames, the constants kept, and the value claim. -/
module

public import proofs.«01_k».proof.Defs
public import proofs.«01_k».proof.Proof.RmsfValue
public import proofs.«01_k».proof.Proof.Gen.Rmsf.Frame
public import proofs.«01_k».proof.Proof.Gen.RmsfRefIdeal.Run
public import proofs.«01_k».proof.Proof.Gen.RmsfRefIdeal.Read
public import Idealize.ShloMosaic.Lib.Claim
public import Idealize.ShloMosaic.Lib.Quiescent

@[expose] public section

set_option maxRecDepth 16384

noncomputable section

namespace Cert.RmsfClaims

open Idealize.ShloMosaic Idealize.ShloMosaic.TcCoe Idealize.SL.Sem

/-- No constant of the kernel is named. -/
theorem preserves : Cert.preserves_Rmsf_RmsfIdeal := trivial

section
open Cert.RmsfRefIdeal Cert.RmsfRefIdeal.Gen

/-- The reference's run, its result named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v12) = Read.val_main_v12 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (Read.val_main_v12_eq _ _),
    (h c).2⟩) (Value.run m ρ)

end

theorem frame_p : Cert.quiescent_Rmsf := fun m ρ _ => Cert.Rmsf.Gen.frame m ρ
theorem frame_pi : Cert.quiescent_RmsfIdeal := fun m ρ _ => Cert.RmsfIdeal.Gen.frame m ρ
theorem frame_ri : Cert.quiescent_RmsfRefIdeal := fun m g _ =>
  (θ_run Cert.RmsfRefIdeal.defs _ _).mono (fun r h => ⟨fun c => (h c).2, sem_eq_zero_of_no_sems (by decide) r.2⟩)
    (Cert.RmsfRefIdeal.Value.run (F := Ideal) m g)

theorem algebraic : Cert.algebraic_RmsfIdeal_RmsfRefIdeal := by
  pair_intro
  · run_from Cert.RmsfIdeal.Value.run_blocks m g
  · run_from run_ref m' g'
    exact (Cert.RmsfIdeal.Bridge.fin2 m c).symm

end Cert.RmsfClaims

end
-- ==== Proof.LossValue.lean ====
/- The loss after the final normalisation: the squared errors summed over the tokens, and the gradients of the
   normalisation's argument and scale. -/
module

public import proofs.«01_k».proof.Proof.Gen.LossIdeal.Value
public import proofs.«01_k».proof.Proof.Gen.LossRefIdeal.Read
public import proofs.«01_k».proof.Proof.RmsRow
public import Idealize.ShloMosaic.Lib.Pipeline.ValueKit
public import Idealize.ShloMosaic.Lib.Pipeline.ReadBack

@[expose] public section

set_option maxRecDepth 16384

noncomputable section

namespace Cert.LossRefIdeal.At

open Cert.LossRefIdeal Cert.LossRefIdeal.Gen Cert.LossRefIdeal.Read
open Idealize.ShloMosaic Idealize.ShloMosaic.TcCoe Idealize.SL.Sem
open Cert.RmsRow (ms rs dms rdx)

/-- A token's error at one place, -/
def err (x g t : Fin 2048 → EReal) (j : Fin 2048) : EReal := x j * rs x * g j - t j

/-- and the loss's derivative by it. -/
def derr (x g t : Fin 2048 → EReal) (j : Fin 2048) : EReal := err x g t j * Ideal.ofBits .f32 0x3A000000#32

theorem ofBits_two : Ideal.ofBits .f32 0x40000000#32 = ((2 : ℝ) : EReal) := by
  simp [Ideal.ofBits, Ideal.ieee, -EReal.coe_mul]
  norm_num

theorem ofBits_one : Ideal.ofBits .f32 0x3F800000#32 = ((1 : ℝ) : EReal) := by
  simp [Ideal.ofBits, Ideal.ieee, -EReal.coe_mul]
  norm_num

theorem ofBits_half : Ideal.ofBits .f32 0x3F000000#32 = ((1 / 2 : ℝ) : EReal) := by
  simp [Ideal.ofBits, Ideal.ieee, -EReal.coe_mul]
  norm_num

theorem ofBits_inv_len : Ideal.ofBits .f32 0x3A000000#32 = ((1 / 2048 : ℝ) : EReal) := by
  simp [Ideal.ofBits, Ideal.ieee, -EReal.coe_mul]
  norm_num

/-- Half of the doubled error over the row's length is the error over it. -/
theorem scale (z : EReal) :
    Ideal.div (Ideal.ofBits .f32 0x3F000000#32 * Ideal.ofBits .f32 0x3F800000#32) (Ideal.ofBits .f32 0x45000000#32)
        * (Ideal.ofBits .f32 0x40000000#32 * z)
      = z * Ideal.ofBits .f32 0x3A000000#32 := by
  rw [ofBits_two, ofBits_one, ofBits_half, ofBits_inv_len, RmsRow.ofBits_len, Softmax.div_coe _ _ (by norm_num), ← mul_assoc,
    ← EReal.coe_mul, ← EReal.coe_mul, ← EReal.coe_mul, mul_comm]
  norm_num

variable (x : FVec Ideal S2048x2048 .f32) (g : FVec Ideal S1x2048 .f32) (t : FVec Ideal S2048x2048 .f32)

/-- A row of an array, -/
abbrev rowOf (x : FVec Ideal S2048x2048 .f32) (i : Fin 2048) : Fin 2048 → EReal := fun k => x (ix2 i k)

/-- and the scale's. -/
abbrev grow : Fin 2048 → EReal := fun k => g (ix2 0 k)

/-- The mean squares. -/
theorem at6 (i : Fin 2048) : val_main_v6 (F := Ideal) x (ix2 i 0) = ms (rowOf x i) := by
  unfold ms
  pointwise [val_main_v6, val_main_v5, val_main_cst_1, val_main_v4, val_main_v3, val_main_cst_0, val_main_v2, val_main_v1,
    val_main_cst, val_main_v0]

/-- The inverses of their roots. -/
theorem at7 (i : Fin 2048) : val_main_v7 (F := Ideal) x (ix2 i 0) = rs (rowOf x i) := by
  unfold rs
  rw [← at6]
  rfl

/-- The errors. -/
theorem at15 (i j : Fin 2048) : val_main_v15 (F := Ideal) x g t (ix2 i j) = err (rowOf x i) (grow g) (rowOf t i) j := by
  unfold err
  rw [← at7]
  unfold val_main_v15 val_main_v14 val_main_v12 val_main_v11
  generalize val_main_v7 (F := Ideal) x = a
  pointwise [val_main_v13]

/-- The loss's derivatives. -/
theorem at29 (i j : Fin 2048) : val_main_v29 (F := Ideal) x g t (ix2 i j) = derr (rowOf x i) (grow g) (rowOf t i) j := by
  unfold derr
  rw [← at15, ← scale]
  unfold val_main_v29 val_main_v18
  generalize val_main_v15 (F := Ideal) x g t = a
  pointwise [val_main_v28, val_main_v27, val_main_v26, val_main_cst_10, val_main_v25, val_main_v24, val_main_cst_9, val_main_cst_8,
    val_main_v17, val_main_cst_3]

/-- The squared errors of every column. -/
theorem at51 (j : Fin 2048) :
    val_main_v51 (F := Ideal) x g t (ix2 0 j)
      = ∑ i : Fin 2048, err (rowOf x i) (grow g) (rowOf t i) j * err (rowOf x i) (grow g) (rowOf t i) j := by
  simp only [← at15]
  unfold val_main_v51 val_main_v50 val_main_v16
  generalize val_main_v15 (F := Ideal) x g t = a
  pointwise [val_main_cst_15]

/-- The scale's gradient. -/
theorem at32 (j : Fin 2048) :
    val_main_v32 (F := Ideal) x g t (ix2 0 j)
      = ∑ i : Fin 2048, x (ix2 i j) * rs (rowOf x i) * derr (rowOf x i) (grow g) (rowOf t i) j := by
  simp only [← at29]
  simp only [← at7]
  unfold val_main_v32 val_main_v31 val_main_v30 val_main_v12 val_main_v11
  generalize val_main_v7 (F := Ideal) x = a
  generalize val_main_v29 (F := Ideal) x g t = b
  pointwise [val_main_cst_11]

/-- A row of the normalised argument's gradient. -/
abbrev drow (i : Fin 2048) : Fin 2048 → EReal := fun k => derr (rowOf x i) (grow g) (rowOf t i) k * g (ix2 0 k)

theorem at34 (i j : Fin 2048) : val_main_v34 (F := Ideal) x g t (ix2 i j) = drow x g t i j := by
  unfold drow
  rw [← at29]
  unfold val_main_v34
  generalize val_main_v29 (F := Ideal) x g t = b
  pointwise [val_main_v33]

/-- The mean squares' derivatives. -/
theorem at43 (i : Fin 2048) : val_main_v43 (F := Ideal) x g t (ix1 i) = dms (rowOf x i) (drow x g t i) := by
  have e : drow x g t i = fun k => val_main_v34 (F := Ideal) x g t (ix2 i k) := funext fun k => (at34 x g t i k).symm
  rw [e]
  unfold dms
  rw [← at7, ← at6]
  unfold val_main_v43 val_main_v42 val_main_v40 val_main_v37 val_main_v36 val_main_v35 val_main_v10 val_main_v8
  generalize val_main_v7 (F := Ideal) x = a
  generalize val_main_v6 (F := Ideal) x = b
  generalize val_main_v34 (F := Ideal) x g t = d
  pointwise [val_main_cst_14, val_main_v41, val_main_cst_13, val_main_cst_12, val_main_v9, val_main_cst_2]
  refine Finset.sum_congr rfl fun k _ => ?_
  obtain rfl : k = 0 := Subsingleton.elim _ _
  rfl

/-- The argument's gradient. -/
theorem at48 (i j : Fin 2048) : val_main_v48 (F := Ideal) x g t (ix2 i j) = rdx (rowOf x i) (drow x g t i) 0 j := by
  unfold rdx
  rw [← at7, ← at43, ← at34, add_zero]
  unfold val_main_v48 val_main_v47 val_main_v46 val_main_v45 val_main_v44 val_main_v39 val_main_v38
  generalize val_main_v7 (F := Ideal) x = a
  generalize val_main_v43 (F := Ideal) x g t = b
  generalize val_main_v34 (F := Ideal) x g t = d
  pointwise

theorem at49 (i j : Fin 2048) : val_main_v49 (F := Ideal) x g t (ix2 i j) = rdx (rowOf x i) (drow x g t i) 0 j := at48 x g t i j

end Cert.LossRefIdeal.At

namespace Cert.LossIdeal.Bridge

open Cert.LossIdeal Cert.LossIdeal.Gen Idealize.ShloMosaic Idealize.ShloMosaic.TcCoe Idealize.SL.Sem
open Idealize.ShloMosaic.Pipeline (Dat)
open Cert.RmsRow (ms rs kdx)
open Cert.LossRefIdeal.At (err derr rowOf grow drow)

section
variable (x : FVec Ideal S256x2048 .f32) (g : FVec Ideal S1x2048 .f32) (o : FVec Ideal S256x2048 .f32) (i : Fin 256) (j : Fin 2048)

/-- A row of a tile. -/
abbrev trow (x : FVec Ideal S256x2048 .f32) (i : Fin 256) : Fin 2048 → EReal := fun k => x (ix2 i k)

/-- The inverses of a tile's rows' roots, -/
theorem pay4_at : k0_pay4 (F := Ideal) x (ix2 i 0) = rs (trow x i) := by
  unfold rs ms
  pointwise [k0_pay4]

/-- the rows normalised, -/
theorem pay5_at : k0_pay5 (F := Ideal) x (ix2 i j) = trow x i j * rs (trow x i) := by
  rw [← pay4_at]
  unfold k0_pay5
  generalize k0_pay4 (F := Ideal) x = a
  pointwise

/-- their errors -/
theorem pay6_at : k0_pay6 (F := Ideal) x g o (ix2 i j) = err (trow x i) (grow g) (trow o i) j := by
  unfold err
  rw [← pay5_at]
  unfold k0_pay6
  generalize k0_pay5 (F := Ideal) x = a
  pointwise

/-- and the loss's derivatives. -/
theorem pay7_at : k0_pay7 (F := Ideal) x g o (ix2 i j) = derr (trow x i) (grow g) (trow o i) j := by
  unfold derr
  rw [← pay6_at]
  unfold k0_pay7
  generalize k0_pay6 (F := Ideal) x g o = a
  pointwise

/-- The rows' gradients, -/
theorem pay8_at :
    k0_pay8 (F := Ideal) x g o (ix2 i j)
      = kdx (trow x i) (fun k => derr (trow x i) (grow g) (trow o i) k * g (ix2 0 k)) 0 j := by
  unfold kdx
  rw [zero_add]
  simp only [← pay7_at]
  simp only [← pay5_at]
  simp only [← pay4_at]
  unfold k0_pay8
  generalize k0_pay4 (F := Ideal) x = a
  generalize k0_pay5 (F := Ideal) x = b
  generalize k0_pay7 (F := Ideal) x g o = d
  pointwise

/-- as they are stored. -/
theorem pay9_at : k0_pay9 (F := Ideal) x g o (ix2 i j) = k0_pay8 (F := Ideal) x g o (ix2 i j) := by
  unfold k0_pay9
  generalize k0_pay8 (F := Ideal) x g o = a
  pointwise

theorem pay10_at : k0_pay10 (F := Ideal) x g o (ix2 i j) = k0_pay8 (F := Ideal) x g o (ix2 i j) := by
  unfold k0_pay10
  generalize k0_pay8 (F := Ideal) x g o = a
  pointwise

/-- A tile's squared errors, -/
theorem pay11_at : k0_pay11 (F := Ideal) x g o (ix2 0 j)
    = ∑ i : Fin 256, err (trow x i) (grow g) (trow o i) j * err (trow x i) (grow g) (trow o i) j := by
  simp only [← pay6_at]
  unfold k0_pay11
  generalize k0_pay6 (F := Ideal) x g o = a
  pointwise

/-- and its part of the scale's gradient. -/
theorem pay2_at : k0_pay2 (F := Ideal) (k0_pay5 (F := Ideal) x) (k0_pay7 (F := Ideal) x g o) (ix2 0 j)
    = ∑ i : Fin 256, trow x i j * rs (trow x i) * derr (trow x i) (grow g) (trow o i) j := by
  simp only [← pay7_at]
  simp only [← pay5_at]
  refine Eq.trans ?_ (Finset.sum_congr rfl fun i _ => mul_comm _ _)
  generalize k0_pay5 (F := Ideal) x = b
  generalize k0_pay7 (F := Ideal) x g o = d
  pointwise [k0_pay2]

/-- A later tile adds its part to what is stored. -/
theorem pay1_at (a b : FVec Ideal S1x2048 .f32) (y : S1x2048.Idx) : k0_pay1 (F := Ideal) a b y = b y + a y := by
  pointwise [k0_pay1]

theorem pay3_at (a d : FVec Ideal S256x2048 .f32) (b : FVec Ideal S1x2048 .f32) (y : S1x2048.Idx) :
    k0_pay3 (F := Ideal) a d b y = b y + k0_pay2 (F := Ideal) a d y := by
  unfold k0_pay3
  generalize k0_pay2 (F := Ideal) a d = p
  pointwise

end

variable (m : (ℓ : Loc nD τ sig) → Buf (Elt Ideal) ℓ)

/-- Every window's block at a grid point: the point is the row tile. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![0, 0] ∧ win0_6.index t = ![0, 0] :=
  (by decide +kernel : ∀ t : Fin grid0.N, win0_0.index t = ![t.val, 0] ∧ win0_1.index t = ![0, 0] ∧ win0_2.index t = ![t.val, 0]
    ∧ win0_3.index t = ![t.val, 0] ∧ win0_4.index t = ![t.val, 0] ∧ win0_5.index t = ![0, 0] ∧ win0_6.index t = ![0, 0])

/-- The tile's row. -/
abbrev row (t : Fin cfg0.N) (r : Fin 256) : Fin 2048 := ⟨t.val * 256 + r.val, by have := lt_of_lt_of_eq t.isLt (show cfg0.N = 8 from N_0); omega⟩

/-- The argument arrays. -/
abbrev A0 (c : Dev nD) : FVec Ideal S2048x2048 .f32 := m ((c : Thread nD τ).loc main_arg0)
abbrev A1 (c : Dev nD) : FVec Ideal S1x2048 .f32 := m ((c : Thread nD τ).loc main_arg1)
abbrev A2 (c : Dev nD) : FVec Ideal S2048x2048 .f32 := m ((c : Thread nD τ).loc main_arg2)

section
variable (c : Dev nD) (t : Fin cfg0.N) (i : Fin 256) (j : Fin 2048)

/-- The tiles' rows. -/
theorem x_row : trow (iblk m c 0 t) i = rowOf (A0 m c) (row t i) := by
  funext k
  show (show FVec Ideal S256x2048 .f32 from iblk m c 0 t) (ix2 i k) = A0 m c (ix2 (row t i) k)
  blk_point [iblk, V, idx t]

theorem o_row : trow (iblk m c 2 t) i = rowOf (A2 m c) (row t i) := by
  funext k
  show (show FVec Ideal S256x2048 .f32 from iblk m c 2 t) (ix2 i k) = A2 m c (ix2 (row t i) k)
  blk_point [iblk, V, idx t]

theorem g_row : (show FVec Ideal S1x2048 .f32 from iblk m c 1 t) = A1 m c := by
  funext y
  idx_vars y
  obtain rfl : y0 = 0 := Subsingleton.elim _ _
  blk_point [iblk, V, idx t]

/-- A tile's gradient, from the arrays. -/
theorem dx_at :
    k0_pay8 (F := Ideal) (iblk m c 0 t) (iblk m c 1 t) (iblk m c 2 t) (ix2 i j)
      = Cert.RmsRow.rdx (rowOf (A0 m c) (row t i)) (drow (A0 m c) (A1 m c) (A2 m c) (row t i)) 0 j := by
  rw [pay8_at, Cert.RmsRow.dx_eq, x_row, o_row]
  have eg := g_row m c t
  dsimp only at eg
  rw [eg]

end

/-- The argument's gradient. -/
theorem fin3 (c : Dev nD) :
    (dats m 0 c).arrAt 3 cfg0.N = Cert.LossRefIdeal.Read.val_main_v48 (F := Ideal) (A0 m c) (A1 m c) (A2 m c) := by
  refine (dats m 0 c).arrAt_eq_of_covers 3 _ (by decide +kernel) fun t _ y => ?_
  blk_simp
  rw [after0_3]
  idx_vars y
  refine Eq.trans ?_ ((Cert.LossRefIdeal.At.at48 _ _ _ (row t y0) y1).symm.trans (congrArg _ (by blk_ext [idx t])))
  refine Eq.trans ?_ (dx_at m c t y0 y1)
  by_cases e : t.val % 8 = 0
  · have ht : ¬1 ≤ t.val := by have := lt_of_lt_of_eq t.isLt (show cfg0.N = 8 from N_0); omega
    rw [outsAt0_A m c t e ht e ht]
    frame_out
    exact pay9_at ..
  · rw [outsAt0_B m c t e (by omega) e (by omega)]
    frame_out
    exact pay9_at ..

/-- Its copy. -/
theorem fin4 (c : Dev nD) :
    (dats m 0 c).arrAt 4 cfg0.N = Cert.LossRefIdeal.Read.val_main_v49 (F := Ideal) (A0 m c) (A1 m c) (A2 m c) := by
  refine (dats m 0 c).arrAt_eq_of_covers 4 _ (by decide +kernel) fun t _ y => ?_
  blk_simp
  rw [after0_4]
  idx_vars y
  refine Eq.trans ?_ ((Cert.LossRefIdeal.At.at49 _ _ _ (row t y0) y1).symm.trans (congrArg _ (by blk_ext [idx t])))
  refine Eq.trans ?_ (dx_at m c t y0 y1)
  by_cases e : t.val % 8 = 0
  · have ht : ¬1 ≤ t.val := by have := lt_of_lt_of_eq t.isLt (show cfg0.N = 8 from N_0); omega
    rw [outsAt0_A m c t e ht e ht]
    frame_out
    exact pay10_at ..
  · rw [outsAt0_B m c t e (by omega) e (by omega)]
    frame_out
    exact pay10_at ..

/-- The tiles' parts, as parts of the sum over all rows. -/
theorem sum_rows (c : Dev nD) (t : Fin cfg0.N) (h7 : t.val % 8 = 7) (h : (Fin 2048 → EReal) → (Fin 2048 → EReal) → EReal) :
    ∑ s : Fin 8, ∑ i : Fin 256, h (trow (iblk m c 0 ⟨_, Pipeline.run_point_lt_of_flush t h7 s⟩) i)
        (trow (iblk m c 2 ⟨_, Pipeline.run_point_lt_of_flush t h7 s⟩) i)
      = ∑ i : Fin 2048, h (rowOf (A0 m c) i) (rowOf (A2 m c) i) := by
  refine Fin.sum_mul_add_congr ?_
  intro s k hl
  have hN : t.val < 8 := lt_of_lt_of_eq t.isLt (show cfg0.N = 8 from N_0)
  have hp : row ⟨_, Pipeline.run_point_lt_of_flush t h7 s⟩ k = ⟨s.val * 256 + k.val, hl⟩ :=
    Fin.ext (by show (8 * (t.val / 8) + s.val) * 256 + k.val = s.val * 256 + k.val; omega)
  rw [x_row, o_row, hp]

/-- The squared errors. -/
theorem fin5 (c : Dev nD) :
    (dats m 0 c).arrAt 5 cfg0.N = Cert.LossRefIdeal.Read.val_main_v51 (F := Ideal) (A0 m c) (A1 m c) (A2 m c) := by
  refine (dats m 0 c).arrAt_eq_of_covers 5 _ (by decide +kernel) fun t hf y => ?_
  blk_simp
  have h7 : t.val % 8 = 7 := (flush0_5 t).mp hf
  rw [after0_5, Pipeline.eq_sum_fin_of_reset_step_apply_of_flush (fun n h => (outsAt0 m c n h).2.2.1) 8 (fun _ => 0)
    (fun p j => k0_pay11 (F := Ideal) (iblk m c 0 p) (iblk m c 1 p) (iblk m c 2 p) j)
    (fun t h j => by
      have ht : ¬1 ≤ t.val := by have := lt_of_lt_of_eq t.isLt (show cfg0.N = 8 from N_0); omega
      rw [outsAt0_A m c t h ht h ht]; frame_out
      exact (zero_add _).symm)
    (fun t h j => by
      rw [outsAt0_B m c t h (by omega) h (by omega)]; frame_out
      rw [pay1_at])
    t h7 _, zero_add]
  idx_vars y
  obtain rfl : y0 = 0 := Subsingleton.elim _ _
  refine Eq.trans ?_ ((Cert.LossRefIdeal.At.at51 _ _ _ y1).symm.trans (congrArg _ (by blk_ext [idx t])))
  have eg := g_row m c
  dsimp only at eg
  simp only [pay11_at, eg]
  exact sum_rows m c t h7 fun x o => err x (grow (A1 m c)) o y1 * err x (grow (A1 m c)) o y1

/-- The scale's gradient. -/
theorem fin6 (c : Dev nD) :
    (dats m 0 c).arrAt 6 cfg0.N = Cert.LossRefIdeal.Read.val_main_v32 (F := Ideal) (A0 m c) (A1 m c) (A2 m c) := by
  refine (dats m 0 c).arrAt_eq_of_covers 6 _ (by decide +kernel) fun t hf y => ?_
  blk_simp
  have h7 : t.val % 8 = 7 := (flush0_6 t).mp hf
  rw [after0_6, Pipeline.eq_sum_fin_of_reset_step_apply_of_flush (fun n h => (outsAt0 m c n h).2.2.2) 8 (fun _ => 0)
    (fun p j => k0_pay2 (F := Ideal) (k0_pay5 (F := Ideal) (iblk m c 0 p)) (k0_pay7 (F := Ideal) (iblk m c 0 p) (iblk m c 1 p) (iblk m c 2 p)) j)
    (fun t h j => by
      have ht : ¬1 ≤ t.val := by have := lt_of_lt_of_eq t.isLt (show cfg0.N = 8 from N_0); omega
      rw [outsAt0_A m c t h ht h ht]; frame_out
      exact (zero_add _).symm)
    (fun t h j => by
      rw [outsAt0_B m c t h (by omega) h (by omega)]; frame_out
      rw [pay3_at])
    t h7 _, zero_add]
  idx_vars y
  obtain rfl : y0 = 0 := Subsingleton.elim _ _
  refine Eq.trans ?_ ((Cert.LossRefIdeal.At.at32 _ _ _ y1).symm.trans (congrArg _ (by blk_ext [idx t])))
  have eg := g_row m c
  dsimp only at eg
  simp only [pay2_at, eg]
  exact sum_rows m c t h7 fun x o => x y1 * rs x * derr x (grow (A1 m c)) o y1

end Cert.LossIdeal.Bridge

end
-- ==== Proof.LossClaims.lean ====
/- The claims of the loss head: the frames, the constants kept, and the value claim. -/
module

public import proofs.«01_k».proof.Defs
public import proofs.«01_k».proof.Proof.LossValue
public import proofs.«01_k».proof.Proof.Gen.Loss.Frame
public import proofs.«01_k».proof.Proof.Gen.LossRefIdeal.Run
public import proofs.«01_k».proof.Proof.Gen.LossRefIdeal.Read
public import Idealize.ShloMosaic.Lib.Claim
public import Idealize.ShloMosaic.Lib.Quiescent

@[expose] public section

set_option maxRecDepth 16384

noncomputable section

namespace Cert.LossClaims

open Idealize.ShloMosaic Idealize.ShloMosaic.TcCoe Idealize.SL.Sem

/-- No constant of the kernel is named. -/
theorem preserves : Cert.preserves_Loss_LossIdeal := trivial

section
open Cert.LossRefIdeal Cert.LossRefIdeal.Gen

/-- The reference's run, its results named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v48) = Read.val_main_v48 (F := Ideal) (m ((c.tc : Thread nD τ).loc main_arg0)) (m ((c.tc : Thread nD τ).loc main_arg1)) (m ((c.tc : Thread nD τ).loc main_arg2))
      ∧ r.2.mem ((c.tc : Thread nD τ).loc main_v49) = Read.val_main_v49 (F := Ideal) (m ((c.tc : Thread nD τ).loc main_arg0)) (m ((c.tc : Thread nD τ).loc main_arg1)) (m ((c.tc : Thread nD τ).loc main_arg2))
      ∧ r.2.mem ((c.tc : Thread nD τ).loc main_v51) = Read.val_main_v51 (F := Ideal) (m ((c.tc : Thread nD τ).loc main_arg0)) (m ((c.tc : Thread nD τ).loc main_arg1)) (m ((c.tc : Thread nD τ).loc main_arg2))
      ∧ r.2.mem ((c.tc : Thread nD τ).loc main_v32) = Read.val_main_v32 (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (Read.val_main_v48_eq m c),
    (h c).2.1.trans (Read.val_main_v49_eq m c),
    (h c).2.2.1.trans (Read.val_main_v51_eq _ _ _),
    (h c).2.2.2.1.trans (Read.val_main_v32_eq _ _ _),
    (h c).2.2.2.2⟩) (Value.run m ρ)

end

theorem frame_p : Cert.quiescent_Loss := fun m ρ _ => Cert.Loss.Gen.frame m ρ
theorem frame_pi : Cert.quiescent_LossIdeal := fun m ρ _ => Cert.LossIdeal.Gen.frame m ρ
theorem frame_ri : Cert.quiescent_LossRefIdeal := fun m g _ =>
  (θ_run Cert.LossRefIdeal.defs _ _).mono (fun r h => ⟨fun c => (h c).2.2.2.2, sem_eq_zero_of_no_sems (by decide) r.2⟩)
    (Cert.LossRefIdeal.Value.run (F := Ideal) m g)

theorem algebraic : Cert.algebraic_LossIdeal_LossRefIdeal := by
  pair_intro
  · run_from Cert.LossIdeal.Value.run_blocks m g
  · run_from run_ref m' g'
    · exact (Cert.LossIdeal.Bridge.fin3 m c).symm
    · exact (Cert.LossIdeal.Bridge.fin4 m c).symm
    · exact (Cert.LossIdeal.Bridge.fin5 m c).symm
    · exact (Cert.LossIdeal.Bridge.fin6 m c).symm

end Cert.LossClaims

end
-- ==== Proof.LnRow.lean ====
/- A row's normalisation by its mean and variance, and the gradient through it: the derivative by the chain rule and the
   projected form of the kernel agree where the gradient of the normalised row is real, whatever the row holds. -/
module

public import Idealize.ShloMosaic.PureOps.Ideal
public import proofs.«01_k».proof.Proof.RmsRow

@[expose] public section

noncomputable section

namespace Cert.LnRow

open Idealize.ShloMosaic

/-- The patterns of the row's length and of the small number under the root denote them. -/
theorem ofBits_len : Ideal.ofBits .f32 0x44800000#32 = ((1024 : ℝ) : EReal) := by
  simp [Ideal.ofBits, Ideal.ieee, -EReal.coe_mul]
  norm_num

theorem ofBits_eps : Ideal.ofBits .f32 0x3727C5AC#32 = ((10995116 / 1099511627776 : ℝ) : EReal) := by
  simp [Ideal.ofBits, Ideal.ieee, -EReal.coe_mul]
  norm_num

variable (x d : Fin 1024 → EReal)

/-- The row's mean, -/
def mean : EReal := Ideal.div (∑ k, x k) (Ideal.ofBits .f32 0x44800000#32)

/-- the row centred, -/
def xc (j : Fin 1024) : EReal := x j - mean x

/-- its variance, with the small number added, -/
def ms : EReal := Ideal.div (∑ k, xc x k * xc x k) (Ideal.ofBits .f32 0x44800000#32) + Ideal.ofBits .f32 0x3727C5AC#32

/-- and the inverse of its root. -/
def rs : EReal := Ideal.rsqrt (ms x)

/-- The kernel's gradient, `d` the normalised row's. -/
def kdx (j : Fin 1024) : EReal :=
  rs x * (d j - Ideal.div (∑ k, d k) (Ideal.ofBits .f32 0x44800000#32)
    - xc x j * rs x * Ideal.div (∑ k, d k * (xc x k * rs x)) (Ideal.ofBits .f32 0x44800000#32))

/-- The variance's derivative, half of it. -/
def dms : EReal :=
  ∑ _x : Fin 1, Ideal.div ((∑ k, xc x k * d k) * (Ideal.ofBits .f32 0xBF000000#32 * Ideal.div (rs x) (ms x)))
    (Ideal.ofBits .f32 0x44800000#32)

/-- The centred row's gradient, -/
def dxc (j : Fin 1024) : EReal := d j * rs x + xc x j * dms x d + dms x d * xc x j

/-- and the reference's. -/
def rdx (j : Fin 1024) : EReal :=
  dxc x d j + ∑ _x : Fin 1, Ideal.div (∑ k, -dxc x d k) (Ideal.ofBits .f32 0x44800000#32)

/-- The variance is infinite, or a positive real number and the row real. -/
theorem ms_cases : ms x = ⊤ ∨ ∃ a : ℝ, 0 < a ∧ ms x = (a : EReal) ∧ ∀ k, xc x k ≠ ⊥ ∧ xc x k ≠ ⊤ := by
  have hs : 0 ≤ ∑ k, xc x k * xc x k := Finset.sum_nonneg fun k _ => RmsRow.square_nonneg _
  by_cases hf : ∀ k, xc x k ≠ ⊥ ∧ xc x k ≠ ⊤
  · right
    choose h0 h1 using hf
    obtain ⟨X, hX⟩ : ∃ X : Fin 1024 → ℝ, ∀ k, xc x k = (X k : EReal) :=
      ⟨fun k => (xc x k).toReal, fun k => (EReal.coe_toReal (h1 k) (h0 k)).symm⟩
    refine ⟨(∑ k, X k * X k) * 1024⁻¹ + 10995116 / 1099511627776, ?_, ?_, fun k => ⟨h0 k, h1 k⟩⟩
    · have : 0 ≤ ∑ k, X k * X k := Finset.sum_nonneg fun k _ => mul_self_nonneg _
      positivity
    · unfold ms
      simp only [hX, ofBits_len, ofBits_eps, Softmax.div_coe _ _ (by norm_num : (1024 : ℝ) ≠ 0), ← EReal.coe_mul,
        ← Softmax.coe_sum, ← EReal.coe_add]
  · left
    obtain ⟨k, hk⟩ := not_forall.mp hf
    have hk' : xc x k * xc x k = ⊤ := by
      rcases eq_or_ne (xc x k) ⊥ with h | h
      · simp [h]
      · rcases eq_or_ne (xc x k) ⊤ with h' | h'
        · simp [h']
        · exact absurd ⟨h, h'⟩ hk
    have ht : ∑ k, xc x k * xc x k = ⊤ :=
      top_le_iff.mp (hk' ▸ Finset.single_le_sum (f := fun k => xc x k * xc x k) (fun k _ => RmsRow.square_nonneg _) (Finset.mem_univ k))
    rw [ms, ht, ofBits_len, ofBits_eps, Softmax.div_coe _ _ (by norm_num), EReal.top_mul_coe_of_pos (by norm_num), EReal.top_add_coe]

/-- A centred row that is real sums to zero. -/
theorem sum_xc (h : ∀ k, xc x k ≠ ⊥ ∧ xc x k ≠ ⊤) :
    ∃ C : Fin 1024 → ℝ, (∀ k, xc x k = (C k : EReal)) ∧ ∑ k, C k = 0 := by
  have hm : mean x ≠ ⊤ ∧ mean x ≠ ⊥ := by
    refine ⟨fun e => (h 0).1 (by rw [xc, e, EReal.sub_top]), fun e => ?_⟩
    rcases eq_or_ne (x 0) ⊥ with h0 | h0
    · exact (h 0).1 (by rw [xc, e, h0]; rfl)
    · exact (h 0).2 (by rw [xc, e, sub_eq_add_neg, EReal.neg_bot, EReal.add_top_of_ne_bot h0])
  have hx : ∀ k, x k ≠ ⊤ ∧ x k ≠ ⊥ := fun k => by
    refine ⟨fun e => (h k).2 ?_, fun e => (h k).1 ?_⟩
    · rw [xc, e, ← EReal.coe_toReal hm.1 hm.2, EReal.top_sub_coe]
    · rw [xc, e, ← EReal.coe_toReal hm.1 hm.2, EReal.bot_sub]
  obtain ⟨X, rfl⟩ : ∃ X : Fin 1024 → ℝ, x = fun k => (X k : EReal) :=
    ⟨fun k => (x k).toReal, funext fun k => (EReal.coe_toReal (hx k).1 (hx k).2).symm⟩
  refine ⟨fun k => X k - (∑ k, X k) * 1024⁻¹, fun k => ?_, ?_⟩
  · unfold xc mean
    rw [ofBits_len, Softmax.div_coe _ _ (by norm_num), ← Softmax.coe_sum, ← EReal.coe_mul, ← EReal.coe_sub]
  · rw [Finset.sum_sub_distrib, Finset.sum_const, Finset.card_univ, Fintype.card_fin, nsmul_eq_mul]
    push_cast
    ring

/-- The two gradients agree. -/
theorem dx_eq (hd : ∀ k, d k ≠ ⊥ ∧ d k ≠ ⊤) (j : Fin 1024) : kdx x d j = rdx x d j := by
  rcases ms_cases x with h | ⟨a, ha, h, hf⟩
  · have hr : rs x = 0 := by rw [rs, h, Ideal.rsqrt_top]
    have hz : Ideal.div 0 (⊤ : EReal) = 0 := by simp [Ideal.div]
    have hm : dms x d = 0 := by
      unfold dms
      rw [hr, h, hz]
      simp [ofBits_len, Softmax.div_coe _ _ (by norm_num : (1024 : ℝ) ≠ 0)]
    unfold kdx rdx dxc
    rw [hm, hr]
    simp [ofBits_len, Softmax.div_coe _ _ (by norm_num : (1024 : ℝ) ≠ 0)]
  · obtain ⟨C, hC, hC0⟩ := sum_xc x hf
    obtain ⟨D, rfl⟩ : ∃ D : Fin 1024 → ℝ, d = fun k => (D k : EReal) :=
      ⟨fun k => (d k).toReal, funext fun k => (EReal.coe_toReal (hd k).2 (hd k).1).symm⟩
    have hr : rs x = (((Real.sqrt a)⁻¹ : ℝ) : EReal) := by
      rw [rs, h, Ideal.rsqrt_coe, if_neg (not_lt.mpr ha.le), if_neg ha.ne']
    have hi : (Real.sqrt a)⁻¹ * (Real.sqrt a)⁻¹ = a⁻¹ := by rw [← mul_inv, Real.mul_self_sqrt ha.le]
    unfold kdx rdx dxc dms
    rw [hr, h, Softmax.div_coe _ _ ha.ne', ← hi]
    generalize (Real.sqrt a)⁻¹ = r
    simp only [hC, Finset.univ_unique, Finset.sum_singleton, ofBits_len, RmsRow.ofBits_neg_half,
      Softmax.div_coe _ _ (by norm_num : (1024 : ℝ) ≠ 0), ← EReal.coe_mul, ← EReal.coe_sub, ← EReal.coe_add, ← EReal.coe_neg,
      ← Softmax.coe_sum]
    refine congrArg _ ?_
    generalize hS : ∑ k, C k * D k = S
    have hDC : ∑ k, D k * (C k * r) = r * S := by
      rw [← hS, Finset.mul_sum]
      exact Finset.sum_congr rfl fun k _ => by ring
    have hn : ∀ u : ℝ, ∑ k, -(D k * r + C k * u + u * C k) = -(r * ∑ k, D k) := fun u => by
      rw [Finset.sum_neg_distrib, Finset.sum_add_distrib, Finset.sum_add_distrib, ← Finset.sum_mul, ← Finset.sum_mul, ← Finset.mul_sum,
        hC0]
      ring
    rw [hDC, hn]
    ring

end Cert.LnRow

end
-- ==== Proof.LnfValue.lean ====
/- The normalised, scaled and gated rows: row tile by row tile, the kernel's array is the reference's. -/
module

public import proofs.«01_k».proof.Proof.Gen.LnfIdeal.Value
public import proofs.«01_k».proof.Proof.Gen.LnfRefIdeal.Read
public import proofs.«01_k».proof.Proof.LnRow
public import proofs.«01_k».proof.Proof.Gate
public import Idealize.ShloMosaic.Lib.Pipeline.ValueKit
public import Idealize.ShloMosaic.Lib.Pipeline.ReadBack

@[expose] public section

set_option maxRecDepth 16384

noncomputable section

namespace Cert.LnfRefIdeal.At

open Cert.LnfRefIdeal Cert.LnfRefIdeal.Gen Cert.LnfRefIdeal.Read
open Idealize.ShloMosaic Idealize.ShloMosaic.TcCoe Idealize.SL.Sem
open Cert.LnRow (mean xc ms rs)

variable (x : FVec Ideal S2048x1024 .f32) (g b : FVec Ideal S1x1024 .f32) (i : Fin 2048) (j : Fin 1024)

/-- A row. -/
abbrev rowOf : Fin 1024 → EReal := fun k => x (ix2 i k)

/-- The rows centred. -/
theorem at5 : val_main_v5 (F := Ideal) x (ix2 i j) = xc (rowOf x i) j := by
  unfold xc mean
  pointwise [val_main_v5, val_main_v4, val_main_v3, val_main_v2, val_main_cst_0, val_main_v1, val_main_v0, val_main_cst]

/-- The inverses of their roots. -/
theorem at13 : val_main_v13 (F := Ideal) x (ix2 i 0) = rs (rowOf x i) := by
  unfold rs ms
  simp only [← at5]
  unfold val_main_v13 val_main_v12 val_main_v10 val_main_v8 val_main_v7 val_main_v6
  generalize val_main_v5 (F := Ideal) x = a
  pointwise [val_main_v11, val_main_cst_3, val_main_v9, val_main_cst_2, val_main_cst_1]

/-- A row normalised, scaled and shifted, -/
def lin (x g b : Fin 1024 → EReal) (j : Fin 1024) : EReal := xc x j * rs x * g j + b j

theorem at19 : val_main_v19 (F := Ideal) x g b (ix2 i j) = lin (rowOf x i) (fun k => g (ix2 0 k)) (fun k => b (ix2 0 k)) j := by
  unfold lin
  rw [← at5, ← at13]
  unfold val_main_v19 val_main_v17 val_main_v15 val_main_v14
  generalize val_main_v5 (F := Ideal) x = a
  generalize val_main_v13 (F := Ideal) x = r
  pointwise [val_main_v16, val_main_v18]

/-- and gated. -/
theorem at21 : val_main_v21 (F := Ideal) x g b (ix2 i j)
    = lin (rowOf x i) (fun k => g (ix2 0 k)) (fun k => b (ix2 0 k)) j
      * Ideal.logistic (lin (rowOf x i) (fun k => g (ix2 0 k)) (fun k => b (ix2 0 k)) j) := by
  rw [← at19, ← Gate.sigmoid_eq]
  unfold val_main_v21 val_main_v20 val_main_call0_v5 val_main_call0_v3 val_main_call0_v1 val_main_call0_v0
  generalize val_main_v19 (F := Ideal) x g b = a
  pointwise [val_main_call0_v4, val_main_call0_v2, val_main_call0_cst, val_main_call0_cst_0]

end Cert.LnfRefIdeal.At

namespace Cert.LnfIdeal.Bridge

open Cert.LnfIdeal Cert.LnfIdeal.Gen Idealize.ShloMosaic Idealize.ShloMosaic.TcCoe Idealize.SL.Sem
open Idealize.ShloMosaic.Pipeline (Dat)
open Cert.LnRow (mean xc ms rs)
open Cert.LnfRefIdeal.At (lin)

/-- A tile's rows. -/
theorem pay1_at (x : FVec Ideal S256x1024 .f32) (g b : FVec Ideal S1x1024 .f32) (i : Fin 256) (j : Fin 1024) :
    k0_pay1 (F := Ideal) x g b (ix2 i j)
      = lin (fun k => x (ix2 i k)) (fun k => g (ix2 0 k)) (fun k => b (ix2 0 k)) j
        * Ideal.logistic (lin (fun k => x (ix2 i k)) (fun k => g (ix2 0 k)) (fun k => b (ix2 0 k)) j) := by
  unfold lin rs ms xc mean
  pointwise [k0_pay1]

variable (m : (ℓ : Loc nD τ sig) → Buf (Elt Ideal) ℓ)

/-- Every window's block at a grid point: the point is the row tile. -/
theorem idx : ∀ t : Fin cfg0.N, win0_0.index t = ![t.val, 0] ∧ win0_1.index t = ![0, 0] ∧ win0_2.index t = ![0, 0] ∧ win0_3.index t = ![t.val, 0] :=
  (by decide +kernel : ∀ t : Fin grid0.N, win0_0.index t = ![t.val, 0] ∧ win0_1.index t = ![0, 0] ∧ win0_2.index t = ![0, 0] ∧ win0_3.index t = ![t.val, 0])

/-- The tile's row. -/
abbrev row (t : Fin cfg0.N) (r : Fin 256) : Fin 2048 := ⟨t.val * 256 + r.val, by have := lt_of_lt_of_eq t.isLt (show cfg0.N = 8 from N_0); omega⟩

/-- The argument arrays. -/
abbrev A0 (c : Dev nD) : FVec Ideal S2048x1024 .f32 := m ((c : Thread nD τ).loc main_arg0)
abbrev A1 (c : Dev nD) : FVec Ideal S1x1024 .f32 := m ((c : Thread nD τ).loc main_arg1)
abbrev A2 (c : Dev nD) : FVec Ideal S1x1024 .f32 := m ((c : Thread nD τ).loc main_arg2)

section
variable (c : Dev nD) (t : Fin cfg0.N) (i : Fin 256) (j : Fin 1024)

/-- The tiles, read at an index. -/
theorem x_at : (show FVec Ideal S256x1024 .f32 from iblk m c 0 t) (ix2 i j) = A0 m c (ix2 (row t i) j) := by
  blk_point [iblk, V, idx t]

theorem g_at : (show FVec Ideal S1x1024 .f32 from iblk m c 1 t) (ix2 0 j) = A1 m c (ix2 0 j) := by
  blk_point [iblk, V, idx t]

theorem b_at : (show FVec Ideal S1x1024 .f32 from iblk m c 2 t) (ix2 0 j) = A2 m c (ix2 0 j) := by
  blk_point [iblk, V, idx t]

end

/-- The kernel's array is the reference's. -/
theorem fin3 (c : Dev nD) :
    (dats m 0 c).arrAt 3 cfg0.N = Cert.LnfRefIdeal.Read.val_main_v21 (F := Ideal) (A0 m c) (A1 m c) (A2 m c) := by
  refine (dats m 0 c).arrAt_eq_of_covers 3 _ (by decide +kernel) fun t _ y => ?_
  blk_simp
  rw [after0_3]
  idx_vars y
  refine Eq.trans ?_ ((Cert.LnfRefIdeal.At.at21 _ _ _ (row t y0) y1).symm.trans (congrArg _ (by blk_ext [idx t])))
  frame_out
  rw [pay1_at]
  have ex : (fun k => (show FVec Ideal S256x1024 .f32 from iblk m c 0 t) (ix2 y0 k)) = fun k => A0 m c (ix2 (row t y0) k) :=
    funext fun k => x_at m c t y0 k
  have eg : (fun k => (show FVec Ideal S1x1024 .f32 from iblk m c 1 t) (ix2 0 k)) = fun k => A1 m c (ix2 0 k) :=
    funext fun k => g_at m c t k
  have eb : (fun k => (show FVec Ideal S1x1024 .f32 from iblk m c 2 t) (ix2 0 k)) = fun k => A2 m c (ix2 0 k) :=
    funext fun k => b_at m c t k
  dsimp only at ex eg eb
  rw [ex, eg, eb]

end Cert.LnfIdeal.Bridge

end
-- ==== Proof.LnfClaims.lean ====
/- The claims of the convolution branch's norm and gate: the frames, the constants kept, and the value claim. -/
module

public import proofs.«01_k».proof.Defs
public import proofs.«01_k».proof.Proof.LnfValue
public import proofs.«01_k».proof.Proof.Gen.Lnf.Frame
public import proofs.«01_k».proof.Proof.Gen.LnfRefIdeal.Run
public import proofs.«01_k».proof.Proof.Gen.LnfRefIdeal.Read
public import Idealize.ShloMosaic.Lib.Claim
public import Idealize.ShloMosaic.Lib.Quiescent

@[expose] public section

set_option maxRecDepth 16384

noncomputable section

namespace Cert.LnfClaims

open Idealize.ShloMosaic Idealize.ShloMosaic.TcCoe Idealize.SL.Sem

/-- No constant of the kernel is named. -/
theorem preserves : Cert.preserves_Lnf_LnfIdeal := trivial

section
open Cert.LnfRefIdeal Cert.LnfRefIdeal.Gen

/-- The reference's run, its result named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v21) = Read.val_main_v21 (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (Read.val_main_v21_eq _ _ _),
    (h c).2⟩) (Value.run m ρ)

end

theorem frame_p : Cert.quiescent_Lnf := fun m ρ _ => Cert.Lnf.Gen.frame m ρ
theorem frame_pi : Cert.quiescent_LnfIdeal := fun m ρ _ => Cert.LnfIdeal.Gen.frame m ρ
theorem frame_ri : Cert.quiescent_LnfRefIdeal := fun m g _ =>
  (θ_run Cert.LnfRefIdeal.defs _ _).mono (fun r h => ⟨fun c => (h c).2, sem_eq_zero_of_no_sems (by decide) r.2⟩)
    (Cert.LnfRefIdeal.Value.run (F := Ideal) m g)

theorem algebraic : Cert.algebraic_LnfIdeal_LnfRefIdeal := by
  pair_intro
  · run_from Cert.LnfIdeal.Value.run_blocks m g
  · run_from run_ref m' g'
    exact (Cert.LnfIdeal.Bridge.fin3 m c).symm

end Cert.LnfClaims

end
-- ==== Proof.LnbValue.lean ====
/- The gradient through the normalised, scaled and gated rows: row tile by row tile the kernel's arrays are the reference's,
   the scale's and the shift's gradients the sums of eight tiles' parts. -/
module

public import proofs.«01_k».proof.Proof.Gen.LnbIdeal.Value
public import proofs.«01_k».proof.Proof.Gen.LnbRefIdeal.Read
public import proofs.«01_k».proof.Proof.LnRow
public import proofs.«01_k».proof.Proof.Gate
public import Idealize.ShloMosaic.Lib.Pipeline.ValueKit
public import Idealize.ShloMosaic.Lib.Pipeline.ReadBack

@[expose] public section

set_option maxRecDepth 16384

noncomputable section

namespace Cert.LnbRefIdeal.At

open Cert.LnbRefIdeal Cert.LnbRefIdeal.Gen Cert.LnbRefIdeal.Read
open Idealize.ShloMosaic Idealize.ShloMosaic.TcCoe Idealize.SL.Sem
open Cert.LnRow (mean xc ms rs dms dxc rdx)

variable (x : FVec Ideal S2048x1024 .f32) (d : FVec Ideal S2048x1024 .bf16) (g b : FVec Ideal S1x1024 .f32) (i : Fin 2048) (j : Fin 1024)

/-- A row of the argument, of the result's gradient, and of the scale and the shift. -/
abbrev rowOf : Fin 1024 → EReal := fun k => x (ix2 i k)
abbrev crow : Fin 1024 → EReal := fun k => d (ix2 i k)
abbrev prow : Fin 1024 → EReal := fun k => g (ix2 0 k)

/-- The rows centred. -/
theorem at5 : val_main_v5 (F := Ideal) x (ix2 i j) = xc (rowOf x i) j := by
  unfold xc mean
  pointwise [val_main_v5, val_main_v4, val_main_v3, val_main_v2, val_main_cst_0, val_main_v1, val_main_v0, val_main_cst]

/-- Their variances -/
theorem at12 : val_main_v12 (F := Ideal) x (ix2 i 0) = ms (rowOf x i) := by
  unfold ms
  simp only [← at5]
  unfold val_main_v12 val_main_v10 val_main_v8 val_main_v7 val_main_v6
  generalize val_main_v5 (F := Ideal) x = a
  pointwise [val_main_v11, val_main_cst_3, val_main_v9, val_main_cst_2, val_main_cst_1]

/-- and the inverses of their roots. -/
theorem at13 : val_main_v13 (F := Ideal) x (ix2 i 0) = rs (rowOf x i) := by
  unfold rs
  rw [← at12]
  rfl

/-- A row normalised, scaled and shifted, -/
def lin (x g b : Fin 1024 → EReal) (j : Fin 1024) : EReal := xc x j * rs x * g j + b j

/-- and its gradient through the gate. -/
def dlin (x d g b : Fin 1024 → EReal) (j : Fin 1024) : EReal :=
  d j * Ideal.logistic (lin x g b j)
    + lin x g b j * d j * (Ideal.logistic (lin x g b j) * (1 - Ideal.logistic (lin x g b j)))

/-- The rows normalised, -/
theorem at18 : val_main_v18 (F := Ideal) x (ix2 i j) = xc (rowOf x i) j * rs (rowOf x i) := by
  rw [← at5, ← at13]
  unfold val_main_v18 val_main_v17
  generalize val_main_v5 (F := Ideal) x = a
  generalize val_main_v13 (F := Ideal) x = r
  pointwise

/-- scaled and shifted, -/
theorem at22 : val_main_v22 (F := Ideal) x g b (ix2 i j) = lin (rowOf x i) (prow g) (prow b) j := by
  unfold lin
  rw [← at18]
  unfold val_main_v22 val_main_v20
  generalize val_main_v18 (F := Ideal) x = a
  pointwise [val_main_v19, val_main_v21]

/-- and their gradients through the gate. -/
theorem at25 : val_main_v25 (F := Ideal) x d g b (ix2 i j) = dlin (rowOf x i) (crow d i) (prow g) (prow b) j := by
  unfold dlin
  rw [← at22, ← Gate.sigmoid_eq, ← Gate.ofBits_one]
  unfold val_main_v25 val_main_call1_v2 val_main_call1_v1 val_main_call1_v0 val_main_v23_1 val_main_call0_v7 val_main_v23_2 val_main_call0_v3 val_main_call0_v1 val_main_call0_v0
  generalize val_main_v22 (F := Ideal) x g b = a
  pointwise [val_main_v24, val_main_call0_v6, val_main_call0_cst_1, val_main_call0_v4, val_main_call0_cst_0, val_main_call0_v2, val_main_call0_cst]

/-- The shift's gradient. -/
theorem at27 : val_main_v27 (F := Ideal) x d g b (ix2 0 j) = ∑ i : Fin 2048, dlin (rowOf x i) (crow d i) (prow g) (prow b) j := by
  simp only [← at25]
  unfold val_main_v27 val_main_v26
  generalize val_main_v25 (F := Ideal) x d g b = a
  pointwise [val_main_cst_5]

/-- The scale's gradient. -/
theorem at30 : val_main_v30 (F := Ideal) x d g b (ix2 0 j)
    = ∑ i : Fin 2048, xc (rowOf x i) j * rs (rowOf x i) * dlin (rowOf x i) (crow d i) (prow g) (prow b) j := by
  simp only [← at25]
  simp only [← at18]
  unfold val_main_v30 val_main_v29 val_main_v28
  generalize val_main_v25 (F := Ideal) x d g b = a
  generalize val_main_v18 (F := Ideal) x = r
  pointwise [val_main_cst_6]

/-- A row of the normalised rows' gradient. -/
abbrev drow (x d g b : Fin 1024 → EReal) : Fin 1024 → EReal := fun k => dlin x d g b k * g k

theorem at32 : val_main_v32 (F := Ideal) x d g b (ix2 i j) = drow (rowOf x i) (crow d i) (prow g) (prow b) j := by
  unfold drow
  rw [← at25]
  unfold val_main_v32
  generalize val_main_v25 (F := Ideal) x d g b = a
  pointwise [val_main_v31]

/-- The variances' derivatives. -/
theorem at41 : val_main_v41 (F := Ideal) x d g b (ix1 i) = dms (rowOf x i) (drow (rowOf x i) (crow d i) (prow g) (prow b)) := by
  have e : drow (rowOf x i) (crow d i) (prow g) (prow b) = fun k => val_main_v32 (F := Ideal) x d g b (ix2 i k) :=
    funext fun k => (at32 x d g b i k).symm
  rw [e]
  unfold dms
  simp only [← at5]
  rw [← at13, ← at12]
  unfold val_main_v41 val_main_v40 val_main_v38 val_main_v35 val_main_v34 val_main_v33 val_main_v16 val_main_v14
  generalize val_main_v13 (F := Ideal) x = r
  generalize val_main_v12 (F := Ideal) x = s
  generalize val_main_v5 (F := Ideal) x = a
  generalize val_main_v32 (F := Ideal) x d g b = f
  pointwise [val_main_cst_9, val_main_v39, val_main_cst_8, val_main_cst_7, val_main_v15, val_main_cst_4]
  refine Finset.sum_congr rfl fun k _ => ?_
  obtain rfl : k = 0 := Subsingleton.elim _ _
  rfl

/-- The centred rows' gradients. -/
theorem at46 : val_main_v46 (F := Ideal) x d g b (ix2 i j)
    = dxc (rowOf x i) (drow (rowOf x i) (crow d i) (prow g) (prow b)) j := by
  unfold dxc
  rw [← at41, ← at32, ← at5, ← at13]
  unfold val_main_v46 val_main_v45 val_main_v44 val_main_v43 val_main_v42 val_main_v37 val_main_v36
  generalize val_main_v13 (F := Ideal) x = r
  generalize val_main_v5 (F := Ideal) x = a
  generalize val_main_v32 (F := Ideal) x d g b = f
  generalize val_main_v41 (F := Ideal) x d g b = e
  pointwise

/-- The argument's gradient. -/
theorem at54 : val_main_v54 (F := Ideal) x d g b (ix2 i j)
    = rdx (rowOf x i) (drow (rowOf x i) (crow d i) (prow g) (prow b)) j := by
  unfold rdx
  simp only [← at46]
  unfold val_main_v54 val_main_v53 val_main_v52 val_main_v51 val_main_v49 val_main_v48 val_main_v47
  generalize val_main_v46 (F := Ideal) x d g b = a
  pointwise [val_main_v50, val_main_cst_12, val_main_cst_11, val_main_cst_10]

end Cert.LnbRefIdeal.At

namespace Cert.LnbIdeal.Bridge

open Cert.LnbIdeal Cert.LnbIdeal.Gen Idealize.ShloMosaic Idealize.ShloMosaic.TcCoe Idealize.SL.Sem
open Idealize.ShloMosaic.Pipeline (Dat)
open Cert.LnRow (mean xc ms rs kdx)
open Cert.LnbRefIdeal.At (lin dlin drow rowOf crow prow)

/-- The gate's gradient is finite where the result's is. -/
theorem finite_gate (e y : EReal) (h : e ≠ ⊥ ∧ e ≠ ⊤) :
    e * Ideal.logistic y + y * e * (Ideal.logistic y * (1 - Ideal.logistic y)) ≠ ⊥
      ∧ e * Ideal.logistic y + y * e * (Ideal.logistic y * (1 - Ideal.logistic y)) ≠ ⊤ := by
  lift e to ℝ using ⟨h.2, h.1⟩
  have one_sub_one : (1 : EReal) - 1 = 0 := by
    rw [← EReal.coe_one, ← EReal.coe_sub, sub_self, EReal.coe_zero]
  induction y with
  | bot => simp only [Ideal.logistic_bot, mul_zero, zero_mul, add_zero]; exact ⟨EReal.zero_ne_bot, EReal.zero_ne_top⟩
  | top =>
    simp only [Ideal.logistic_top, one_sub_one, mul_zero, add_zero, mul_one]
    exact ⟨EReal.coe_ne_bot _, EReal.coe_ne_top _⟩
  | coe y =>
    rw [Ideal.logistic_coe, ← EReal.coe_one]
    norm_cast
    exact ⟨EReal.coe_ne_bot _, EReal.coe_ne_top _⟩

section
variable (x : FVec Ideal S256x1024 .f32) (g b : FVec Ideal S1x1024 .f32) (d : FVec Ideal S256x1024 .bf16) (i : Fin 256) (j : Fin 1024)

/-- A row of a tile. -/
abbrev trow : Fin 1024 → EReal := fun k => x (ix2 i k)

/-- A tile's rows centred, -/
theorem pay6_at : k0_pay6 (F := Ideal) x (ix2 i j) = xc (trow x i) j := by
  unfold xc mean
  pointwise [k0_pay6]

/-- the inverses of their roots, -/
theorem pay7_at : k0_pay7 (F := Ideal) x (ix2 i 0) = rs (trow x i) := by
  unfold rs ms
  simp only [← pay6_at]
  unfold k0_pay7
  generalize k0_pay6 (F := Ideal) x = a
  pointwise

/-- the rows normalised, -/
theorem pay8_at : k0_pay8 (F := Ideal) x (ix2 i j) = xc (trow x i) j * rs (trow x i) := by
  rw [← pay6_at, ← pay7_at]
  unfold k0_pay8
  generalize k0_pay6 (F := Ideal) x = a
  generalize k0_pay7 (F := Ideal) x = r
  pointwise

/-- their gradients through the gate, -/
theorem pay9_at (h : ∀ k, d (ix2 i k) ≠ (⊥ : EReal) ∧ d (ix2 i k) ≠ (⊤ : EReal)) :
    k0_pay9 (F := Ideal) x g b d (ix2 i j) = dlin (trow x i) (fun k => d (ix2 i k)) (prow g) (prow b) j := by
  unfold dlin
  rw [← Gate.silu_bwd _ _ (h j), mul_assoc]
  unfold lin
  rw [← pay8_at, ← Gate.ofBits_one]
  unfold k0_pay9
  generalize k0_pay8 (F := Ideal) x = a
  pointwise

/-- and scaled. -/
theorem pay10_at (h : ∀ k, d (ix2 i k) ≠ (⊥ : EReal) ∧ d (ix2 i k) ≠ (⊤ : EReal)) :
    k0_pay10 (F := Ideal) x g b d g (ix2 i j) = drow (trow x i) (fun k => d (ix2 i k)) (prow g) (prow b) j := by
  unfold drow
  rw [← pay9_at x g b d i j h]
  unfold k0_pay10
  generalize k0_pay9 (F := Ideal) x g b d = a
  pointwise

/-- The gradient stored. -/
theorem pay1_at (h : ∀ k, d (ix2 i k) ≠ (⊥ : EReal) ∧ d (ix2 i k) ≠ (⊤ : EReal)) :
    k0_pay1 (F := Ideal) (k0_pay7 x) (k0_pay8 x) (k0_pay10 x g b d g) (k0_pay11 x g b d g) (ix2 i j)
      = kdx (trow x i) (drow (trow x i) (fun k => d (ix2 i k)) (prow g) (prow b)) j := by
  have e : drow (trow x i) (fun k => d (ix2 i k)) (prow g) (prow b) = fun k => k0_pay10 (F := Ideal) x g b d g (ix2 i k) :=
    funext fun k => (pay10_at x g b d i k h).symm
  rw [e]
  unfold kdx
  simp only [← pay8_at]
  rw [← pay7_at]
  unfold k0_pay1 k0_pay11
  generalize k0_pay7 (F := Ideal) x = r
  generalize k0_pay8 (F := Ideal) x = a
  generalize k0_pay10 (F := Ideal) x g b d g = f
  pointwise

/-- A tile's parts of the scale's gradient -/
def dgPart (j : Fin 1024) : EReal :=
  ∑ i : Fin 256, xc (trow x i) j * rs (trow x i) * dlin (trow x i) (fun k => d (ix2 i k)) (prow g) (prow b) j

theorem pay2_at (h : ∀ i k, d (ix2 i k) ≠ (⊥ : EReal) ∧ d (ix2 i k) ≠ (⊤ : EReal)) :
    k0_pay2 (F := Ideal) (k0_pay8 x) (k0_pay9 x g b d) (ix2 0 j) = dgPart x g b d j := by
  unfold dgPart
  refine Eq.trans ?_ (Finset.sum_congr rfl fun i _ => ((mul_comm _ _).trans
    (congr (congrArg _ (pay8_at x i j)) (pay9_at x g b d i j (h i)))))
  generalize k0_pay8 (F := Ideal) x = r
  generalize k0_pay9 (F := Ideal) x g b d = a
  pointwise [k0_pay2]

/-- and of the shift's. -/
def dbPart (j : Fin 1024) : EReal := ∑ i : Fin 256, dlin (trow x i) (fun k => d (ix2 i k)) (prow g) (prow b) j

theorem pay4_at (h : ∀ i k, d (ix2 i k) ≠ (⊥ : EReal) ∧ d (ix2 i k) ≠ (⊤ : EReal)) :
    k0_pay4 (F := Ideal) (k0_pay9 x g b d) (ix2 0 j) = dbPart x g b d j := by
  unfold dbPart
  refine Eq.trans ?_ (Finset.sum_congr rfl fun i _ => pay9_at x g b d i j (h i))
  generalize k0_pay9 (F := Ideal) x g b d = a
  pointwise [k0_pay4]

/-- A later tile adds its part to what is stored. -/
theorem pay3_at (a f : FVec Ideal S256x1024 .f32) (s : FVec Ideal S1x1024 .f32) (y : S1x1024.Idx) :
    k0_pay3 (F := Ideal) a f s y = s y + k0_pay2 (F := Ideal) a f y := by
  unfold k0_pay3
  generalize k0_pay2 (F := Ideal) a f = p
  pointwise

theorem pay5_at (f : FVec Ideal S256x1024 .f32) (s : FVec Ideal S1x1024 .f32) (y : S1x1024.Idx) :
    k0_pay5 (F := Ideal) f s y = s y + k0_pay4 (F := Ideal) f y := by
  unfold k0_pay5
  generalize k0_pay4 (F := Ideal) f = p
  pointwise

end

variable (m : (ℓ : Loc nD τ sig) → Buf (Elt Ideal) ℓ)

/-- Every window's block at a grid point: the point is the row tile. -/
theorem idx : ∀ t : Fin cfg0.N, win0_0.index t = ![t.val, 0] ∧ win0_1.index t = ![t.val, 0] ∧ win0_2.index t = ![0, 0] ∧ win0_3.index t = ![0, 0] ∧ win0_4.index t = ![t.val, 0] ∧ win0_5.index t = ![0, 0] ∧ win0_6.index t = ![0, 0] :=
  (by decide +kernel : ∀ t : Fin grid0.N, win0_0.index t = ![t.val, 0] ∧ win0_1.index t = ![t.val, 0] ∧ win0_2.index t = ![0, 0] ∧ win0_3.index t = ![0, 0] ∧ win0_4.index t = ![t.val, 0] ∧ win0_5.index t = ![0, 0] ∧ win0_6.index t = ![0, 0])

/-- The tile's row. -/
abbrev row (t : Fin cfg0.N) (r : Fin 256) : Fin 2048 := ⟨t.val * 256 + r.val, by have := lt_of_lt_of_eq t.isLt (show cfg0.N = 8 from N_0); omega⟩

/-- The argument arrays. -/
abbrev A0 (c : Dev nD) : FVec Ideal S2048x1024 .f32 := m ((c : Thread nD τ).loc main_arg0)
abbrev A1 (c : Dev nD) : FVec Ideal S2048x1024 .bf16 := m ((c : Thread nD τ).loc main_arg1)
abbrev A2 (c : Dev nD) : FVec Ideal S1x1024 .f32 := m ((c : Thread nD τ).loc main_arg2)
abbrev A3 (c : Dev nD) : FVec Ideal S1x1024 .f32 := m ((c : Thread nD τ).loc main_arg3)

section
variable (c : Dev nD) (t : Fin cfg0.N) (i : Fin 256) (j : Fin 1024)

/-- The tiles, read at an index, -/
theorem x_at : (show FVec Ideal S256x1024 .f32 from iblk m c 0 t) (ix2 i j) = A0 m c (ix2 (row t i) j) := by
  blk_point [iblk, V, idx t]

theorem d_at : (show FVec Ideal S256x1024 .bf16 from iblk m c 1 t) (ix2 i j) = A1 m c (ix2 (row t i) j) := by
  blk_point [iblk, V, idx t]

theorem g_at : (show FVec Ideal S1x1024 .f32 from iblk m c 2 t) (ix2 0 j) = A2 m c (ix2 0 j) := by
  blk_point [iblk, V, idx t]

theorem b_at : (show FVec Ideal S1x1024 .f32 from iblk m c 3 t) (ix2 0 j) = A3 m c (ix2 0 j) := by
  blk_point [iblk, V, idx t]

/-- and their rows. -/
theorem xrow_eq : trow (show FVec Ideal S256x1024 .f32 from iblk m c 0 t) i = rowOf (A0 m c) (row t i) :=
  funext fun k => x_at m c t i k

theorem drow_eq : (fun k => (show FVec Ideal S256x1024 .bf16 from iblk m c 1 t) (ix2 i k)) = crow (A1 m c) (row t i) :=
  funext fun k => d_at m c t i k

theorem grow_eq : prow (show FVec Ideal S1x1024 .f32 from iblk m c 2 t) = prow (A2 m c) :=
  funext fun k => g_at m c t k

theorem brow_eq : prow (show FVec Ideal S1x1024 .f32 from iblk m c 3 t) = prow (A3 m c) :=
  funext fun k => b_at m c t k

/-- The result's gradient is finite in every tile. -/
theorem fin_at (hd : ∀ i, A1 m c i ≠ (⊥ : EReal) ∧ A1 m c i ≠ (⊤ : EReal)) :
    (show FVec Ideal S256x1024 .bf16 from iblk m c 1 t) (ix2 i j) ≠ (⊥ : EReal)
      ∧ (show FVec Ideal S256x1024 .bf16 from iblk m c 1 t) (ix2 i j) ≠ (⊤ : EReal) := by
  rw [d_at]
  exact hd _

end

/-- The argument's gradient. -/
theorem fin4 (c : Dev nD) (hd : ∀ i, A1 m c i ≠ (⊥ : EReal) ∧ A1 m c i ≠ (⊤ : EReal))
    (hg : ∀ i, A2 m c i ≠ (⊥ : EReal) ∧ A2 m c i ≠ (⊤ : EReal)) :
    (dats m 0 c).arrAt 4 cfg0.N = Cert.LnbRefIdeal.Read.val_main_v54 (F := Ideal) (A0 m c) (A1 m c) (A2 m c) (A3 m c) := by
  refine (dats m 0 c).arrAt_eq_of_covers 4 _ (by decide +kernel) fun t _ y => ?_
  blk_simp
  rw [after0_4]
  idx_vars y
  refine Eq.trans ?_ ((Cert.LnbRefIdeal.At.at54 _ _ _ _ (row t y0) y1).symm.trans (congrArg _ (by blk_ext [idx t])))
  refine Eq.trans ?_ (Cert.LnRow.dx_eq _ (drow (rowOf (A0 m c) (row t y0)) (crow (A1 m c) (row t y0)) (prow (A2 m c)) (prow (A3 m c))) (fun k => Gate.finite_mul _ _ (finite_gate _ _ (hd _)) (hg _)) y1)
  rw [← xrow_eq m c t y0, ← drow_eq m c t y0, ← grow_eq m c t, ← brow_eq m c t]
  refine Eq.trans ?_ (pay1_at _ _ _ _ y0 y1 fun k => fin_at m c t y0 k hd)
  by_cases e : t.val % 8 = 0
  · have ht : ¬1 ≤ t.val := by have := lt_of_lt_of_eq t.isLt (show cfg0.N = 8 from N_0); omega
    rw [outsAt0_A m c t e ht e ht]
    frame_out
  · rw [outsAt0_B m c t e (by omega) e (by omega)]
    frame_out

/-- The scale's gradient. -/
theorem fin5 (c : Dev nD) (hd : ∀ i, A1 m c i ≠ (⊥ : EReal) ∧ A1 m c i ≠ (⊤ : EReal)) :
    (dats m 0 c).arrAt 5 cfg0.N = Cert.LnbRefIdeal.Read.val_main_v30 (F := Ideal) (A0 m c) (A1 m c) (A2 m c) (A3 m c) := by
  refine (dats m 0 c).arrAt_eq_of_covers 5 _ (by decide +kernel) fun t hf y => ?_
  blk_simp
  have h7 : t.val % 8 = 7 := (flush0_5 t).mp hf
  have hN : t.val < 8 := lt_of_lt_of_eq t.isLt (show cfg0.N = 8 from N_0)
  rw [after0_5, Pipeline.eq_sum_fin_of_reset_step_apply_of_flush (fun n h => (outsAt0 m c n h).2.1) 8 (fun _ => 0)
    (fun p j => k0_pay2 (F := Ideal) (k0_pay8 (iblk m c 0 p)) (k0_pay9 (F := Ideal) (iblk m c 0 p) (iblk m c 2 p) (iblk m c 3 p) (iblk m c 1 p)) j)
    (fun t h j => by
      have ht : ¬1 ≤ t.val := by have := lt_of_lt_of_eq t.isLt (show cfg0.N = 8 from N_0); omega
      rw [outsAt0_A m c t h ht h ht]; frame_out
      exact (zero_add _).symm)
    (fun t h j => by
      rw [outsAt0_B m c t h (by omega) h (by omega)]; frame_out
      rw [pay3_at])
    t h7 _, zero_add]
  idx_vars y
  obtain rfl : y0 = 0 := Subsingleton.elim _ _
  refine Eq.trans ?_ ((Cert.LnbRefIdeal.At.at30 _ _ _ _ y1).symm.trans (congrArg _ (by blk_ext [idx t])))
  have e := fun p => pay2_at (iblk m c 0 p) (iblk m c 2 p) (iblk m c 3 p) (iblk m c 1 p) y1 fun i k => fin_at m c p i k hd
  simp only [e]
  unfold dgPart
  refine Fin.sum_mul_add_congr ?_
  intro s k hl
  let p : Fin cfg0.N := ⟨_, Pipeline.run_point_lt_of_flush t h7 s⟩
  have hp : (row p k : Fin 2048) = ⟨s.val * 256 + k.val, hl⟩ := Fin.ext (by show (8 * (t.val / 8) + s.val) * 256 + k.val = s.val * 256 + k.val; omega)
  rw [← hp]
  rw [← xrow_eq m c p k, ← drow_eq m c p k, ← grow_eq m c p, ← brow_eq m c p]

/-- The shift's gradient. -/
theorem fin6 (c : Dev nD) (hd : ∀ i, A1 m c i ≠ (⊥ : EReal) ∧ A1 m c i ≠ (⊤ : EReal)) :
    (dats m 0 c).arrAt 6 cfg0.N = Cert.LnbRefIdeal.Read.val_main_v27 (F := Ideal) (A0 m c) (A1 m c) (A2 m c) (A3 m c) := by
  refine (dats m 0 c).arrAt_eq_of_covers 6 _ (by decide +kernel) fun t hf y => ?_
  blk_simp
  have h7 : t.val % 8 = 7 := (flush0_6 t).mp hf
  have hN : t.val < 8 := lt_of_lt_of_eq t.isLt (show cfg0.N = 8 from N_0)
  rw [after0_6, Pipeline.eq_sum_fin_of_reset_step_apply_of_flush (fun n h => (outsAt0 m c n h).2.2) 8 (fun _ => 0)
    (fun p j => k0_pay4 (F := Ideal) (k0_pay9 (F := Ideal) (iblk m c 0 p) (iblk m c 2 p) (iblk m c 3 p) (iblk m c 1 p)) j)
    (fun t h j => by
      have ht : ¬1 ≤ t.val := by have := lt_of_lt_of_eq t.isLt (show cfg0.N = 8 from N_0); omega
      rw [outsAt0_A m c t h ht h ht]; frame_out
      exact (zero_add _).symm)
    (fun t h j => by
      rw [outsAt0_B m c t h (by omega) h (by omega)]; frame_out
      rw [pay5_at])
    t h7 _, zero_add]
  idx_vars y
  obtain rfl : y0 = 0 := Subsingleton.elim _ _
  refine Eq.trans ?_ ((Cert.LnbRefIdeal.At.at27 _ _ _ _ y1).symm.trans (congrArg _ (by blk_ext [idx t])))
  have e := fun p => pay4_at (iblk m c 0 p) (iblk m c 2 p) (iblk m c 3 p) (iblk m c 1 p) y1 fun i k => fin_at m c p i k hd
  simp only [e]
  unfold dbPart
  refine Fin.sum_mul_add_congr ?_
  intro s k hl
  let p : Fin cfg0.N := ⟨_, Pipeline.run_point_lt_of_flush t h7 s⟩
  have hp : (row p k : Fin 2048) = ⟨s.val * 256 + k.val, hl⟩ := Fin.ext (by show (8 * (t.val / 8) + s.val) * 256 + k.val = s.val * 256 + k.val; omega)
  rw [← hp]
  rw [← xrow_eq m c p k, ← drow_eq m c p k, ← grow_eq m c p, ← brow_eq m c p]

end Cert.LnbIdeal.Bridge

end
-- ==== Proof.LnbClaims.lean ====
/- The claims of the gradient of the convolution branch's norm and gate: the frames, the constants kept, and the value claim. -/
module

public import proofs.«01_k».proof.Defs
public import proofs.«01_k».proof.Proof.LnbValue
public import proofs.«01_k».proof.Proof.Finite
public import proofs.«01_k».proof.Proof.Gen.Lnb.Frame
public import proofs.«01_k».proof.Proof.Gen.Pre_finite_norm
public import proofs.«01_k».proof.Proof.Gen.LnbRefIdeal.Run
public import proofs.«01_k».proof.Proof.Gen.LnbRefIdeal.Read
public import Idealize.ShloMosaic.Lib.Claim
public import Idealize.ShloMosaic.Lib.Quiescent

@[expose] public section

set_option maxRecDepth 16384

noncomputable section

namespace Cert.LnbClaims

open Idealize.ShloMosaic Idealize.ShloMosaic.TcCoe Idealize.SL.Sem

/-- No constant of the kernel is named. -/
theorem preserves : Cert.preserves_Lnb_LnbIdeal := trivial

/-- The precondition's first array says the result's gradient is finite, -/
theorem finite_d (A0 : FVec Ideal Cert.Pre_finite_norm.S2048x1024 .f32) (A1 : FVec Ideal Cert.Pre_finite_norm.S2048x1024 .bf16)
    (A2 A3 : FVec Ideal Cert.Pre_finite_norm.S1x1024 .f32)
    (h : (Cert.Pre_finite_norm.fn (F := Ideal) A0 A1 A2 A3).1 = fun _ => 1#1) (i : Cert.Pre_finite_norm.S2048x1024.Idx) :
    (show EReal from A1 i) ≠ ⊥ ∧ (show EReal from A1 i) ≠ ⊤ := by
  exact Finite.ne_of_abs _ (congrFun h i)

/-- and its second array that the scale is. -/
theorem finite_g (A0 : FVec Ideal Cert.Pre_finite_norm.S2048x1024 .f32) (A1 : FVec Ideal Cert.Pre_finite_norm.S2048x1024 .bf16)
    (A2 A3 : FVec Ideal Cert.Pre_finite_norm.S1x1024 .f32)
    (h : (Cert.Pre_finite_norm.fn (F := Ideal) A0 A1 A2 A3).2 = fun _ => 1#1) (i : Cert.Pre_finite_norm.S1x1024.Idx) :
    (show EReal from A2 i) ≠ ⊥ ∧ (show EReal from A2 i) ≠ ⊤ := by
  exact Finite.ne_of_abs _ (congrFun h i)

section
open Cert.LnbRefIdeal Cert.LnbRefIdeal.Gen

/-- The reference's run, its results named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v54) = Read.val_main_v54 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v30) = Read.val_main_v30 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v27) = Read.val_main_v27 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (Read.val_main_v54_eq m c),
    (h c).2.1.trans (Read.val_main_v30_eq m c),
    (h c).2.2.1.trans (Read.val_main_v27_eq m c),
    (h c).2.2.2⟩) (Value.run m ρ)

end

theorem frame_p : Cert.quiescent_Lnb := fun m ρ _ => Cert.Lnb.Gen.frame m ρ
theorem frame_pi : Cert.quiescent_LnbIdeal := fun m ρ _ => Cert.LnbIdeal.Gen.frame m ρ
theorem frame_pi_pre : Cert.quiescent_LnbIdeal_pre_finite_norm := fun m ρ _ => Cert.LnbIdeal.Gen.frame m ρ
theorem frame_ri : Cert.quiescent_LnbRefIdeal := fun m g _ =>
  (θ_run Cert.LnbRefIdeal.defs _ _).mono (fun r h => ⟨fun c => (h c).2.2.2, sem_eq_zero_of_no_sems (by decide) r.2⟩)
    (Cert.LnbRefIdeal.Value.run (F := Ideal) m g)

theorem frame_ri_pre : Cert.quiescent_LnbRefIdeal_pre_finite_norm := fun m g _ => frame_ri m g trivial

theorem algebraic : Cert.algebraic_LnbIdeal_LnbRefIdeal_pre_finite_norm := by
  pair_intro
  · run_from Cert.LnbIdeal.Value.run_blocks m g
  · have fd : ∀ (c : Dev Cert.LnbIdeal.nD) i, Cert.LnbIdeal.Bridge.A1 m c i ≠ (⊥ : EReal) ∧ Cert.LnbIdeal.Bridge.A1 m c i ≠ (⊤ : EReal) :=
      fun c => finite_d _ _ _ _ (hpre c).1
    have fg : ∀ (c : Dev Cert.LnbIdeal.nD) i, Cert.LnbIdeal.Bridge.A2 m c i ≠ (⊥ : EReal) ∧ Cert.LnbIdeal.Bridge.A2 m c i ≠ (⊤ : EReal) :=
      fun c => finite_g _ _ _ _ (hpre c).2
    run_from run_ref m' g'
    · exact (Cert.LnbIdeal.Bridge.fin4 m c (fd c) (fg c)).symm
    · exact (Cert.LnbIdeal.Bridge.fin5 m c (fd c)).symm
    · exact (Cert.LnbIdeal.Bridge.fin6 m c (fd c)).symm

end Cert.LnbClaims

end
-- ==== Proof.SumsValue.lean ====
/- The sum of the devices' packed gradients: the kernel's result is the reference's. -/
module

public import proofs.«01_k».proof.Proof.Gen.SumsIdeal.Frame
public import proofs.«01_k».proof.Proof.Gen.SumsRefIdeal.Read
public import Idealize.ShloMosaic.Lib.Pipeline.ValueKit
public import Idealize.ShloMosaic.Lib.Pipeline.ReadBack

@[expose] public section

set_option maxRecDepth 16384

noncomputable section

namespace Cert.SumsRefIdeal.At

open Cert.SumsRefIdeal Cert.SumsRefIdeal.Gen Cert.SumsRefIdeal.Read
open Idealize.ShloMosaic Idealize.ShloMosaic.TcCoe Idealize.SL.Sem

/-- The reference at an index: the sum over the devices. -/
theorem at0 (x : FVec Ideal S8x2840x128 .f32) (i : Fin 2840) (j : Fin 128) :
    val_main_v0 (F := Ideal) x (ix2 i j) = ∑ k : Fin 8, x (ix3 k i j) := by
  pointwise [val_main_v0, val_main_cst]

end Cert.SumsRefIdeal.At

namespace Cert.SumsIdeal.Bridge

open Cert.SumsIdeal Cert.SumsIdeal.Gen Idealize.ShloMosaic Idealize.ShloMosaic.TcCoe Idealize.SL.Sem
open Idealize.ShloMosaic.Pipeline (Dat)

/-- The kernel's chain of seven additions at an index. -/
theorem pay1_at (a b c d e f g h : FVec Ideal S1x2840x128 .f32) (i : Fin 2840) (j : Fin 128) :
    k0_pay1 (F := Ideal) a b c d e f g h (ix2 i j)
      = a (ix3 0 i j) + b (ix3 0 i j) + c (ix3 0 i j) + d (ix3 0 i j) + e (ix3 0 i j) + f (ix3 0 i j) + g (ix3 0 i j) + h (ix3 0 i j) := by
  pointwise [k0_pay1]

/-- One device's slot of the whole buffer. -/
theorem ld_slot (x : FVec Ideal S8x2840x128 .f32) (k : Fin 8) (h : ∀ d, (![k.val, 0, 0] : Fin 3 → Nat) d + S1x2840x128.size d ≤ S8x2840x128.size d)
    (i : Fin 2840) (j : Fin 128) :
    View.ld (Val := Elt Ideal) (e' := .f32) x (Rect.unit (s := S8x2840x128) ![k.val, 0, 0] S1x2840x128.size h) (ix3 0 i j) = x (ix3 k i j) := by
  refine View.ld_unit_apply_of _ _ _ _ _ _ fun d => ?_
  fin_cases d
  · show k.val = k.val + 0
    omega
  · show i.val = 0 + i.val
    omega
  · show j.val = 0 + j.val
    omega

variable (m : (ℓ : Loc nD τ sig) → Buf (Elt Ideal) ℓ)

/-- The one grid point's blocks are the whole arrays. -/
theorem idx : ∀ t : Fin cfg0.N, win0_0.index t = ![0, 0, 0] ∧ win0_1.index t = ![0, 0] :=
  (by decide +kernel : ∀ t : Fin grid0.N, win0_0.index t = ![0, 0, 0] ∧ win0_1.index t = ![0, 0])

/-- The argument array. -/
abbrev A0 (c : Dev nD) : FVec Ideal S8x2840x128 .f32 := m ((c : Thread nD τ).loc main_arg0)

theorem x_at (c : Dev nD) (t : Fin cfg0.N) (k : Fin 8) (i : Fin 2840) (j : Fin 128) :
    (show FVec Ideal S8x2840x128 .f32 from iblk m c 0 t) (ix3 k i j) = A0 m c (ix3 k i j) := by
  blk_point [iblk, V, idx t]

/-- Eight slots of one buffer, added in order. -/
theorem sum_slots (x y : FVec Ideal S8x2840x128 .f32) (i : Fin 2840) (j : Fin 128) (h : ∀ k, x (ix3 k i j) = y (ix3 k i j))
    (a b c d e f g l : EReal) (ha : a = x (ix3 0 i j)) (hb : b = x (ix3 1 i j)) (hc : c = x (ix3 2 i j)) (hd : d = x (ix3 3 i j))
    (he : e = x (ix3 4 i j)) (hf : f = x (ix3 5 i j)) (hg : g = x (ix3 6 i j)) (hl : l = x (ix3 7 i j)) :
    a + b + c + d + e + f + g + l = ∑ k : Fin 8, y (ix3 k i j) := by
  rw [Fin.sum_univ_eight, ha, hb, hc, hd, he, hf, hg, hl]
  simp only [h]

/-- The sum. -/
theorem fin1 (c : Dev nD) :
    (dats m 0 c).arrAt 1 cfg0.N = Cert.SumsRefIdeal.Read.val_main_v0 (F := Ideal) (A0 m c) := by
  refine (dats m 0 c).arrAt_eq_of_covers 1 _ (by decide +kernel) fun t _ y => ?_
  blk_simp
  rw [after0_1]
  idx_vars y
  refine Eq.trans ?_ ((Cert.SumsRefIdeal.At.at0 _ y0 y1).symm.trans (congrArg _ (by blk_ext [idx t])))
  frame_out
  refine (pay1_at _ _ _ _ _ _ _ _ y0 y1).trans ?_
  exact sum_slots (iblk m c 0 t) (A0 m c) y0 y1 (fun k => x_at m c t k y0 y1) _ _ _ _ _ _ _ _
    (ld_slot _ 0 _ y0 y1) (ld_slot _ 1 _ y0 y1) (ld_slot _ 2 _ y0 y1) (ld_slot _ 3 _ y0 y1)
    (ld_slot _ 4 _ y0 y1) (ld_slot _ 5 _ y0 y1) (ld_slot _ 6 _ y0 y1) (ld_slot _ 7 _ y0 y1)

end Cert.SumsIdeal.Bridge

end
-- ==== Proof.SumsClaims.lean ====
/- The claims of the sum of the devices' packed gradients: the frames, the constants kept, and the value claim. -/
module

public import proofs.«01_k».proof.Defs
public import proofs.«01_k».proof.Proof.SumsValue
public import proofs.«01_k».proof.Proof.Gen.Sums.Frame
public import proofs.«01_k».proof.Proof.Gen.SumsRefIdeal.Run
public import Idealize.ShloMosaic.Lib.Claim
public import Idealize.ShloMosaic.Lib.Quiescent

@[expose] public section

set_option maxRecDepth 16384

noncomputable section

namespace Cert.SumsClaims

open Idealize.ShloMosaic Idealize.ShloMosaic.TcCoe Idealize.SL.Sem

/-- No constant of the kernel is named. -/
theorem preserves : Cert.preserves_Sums_SumsIdeal := trivial

section
open Cert.SumsRefIdeal Cert.SumsRefIdeal.Gen

/-- The reference's run, its result named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v0) = Read.val_main_v0 (F := Ideal) (m ((c.tc : Thread nD τ).loc main_arg0))
      ∧ r.2.mem ((c.tc : Thread nD τ).loc main_arg0) = m ((c.tc : Thread nD τ).loc main_arg0) :=
  (θ_run defs _ _).mono (fun _ h c => ⟨(h c).1.trans (Read.val_main_v0_eq _), (h c).2⟩) (Value.run m ρ)

end

theorem frame_p : Cert.quiescent_Sums := fun m ρ _ => Cert.Sums.Gen.frame m ρ
theorem frame_pi : Cert.quiescent_SumsIdeal := fun m ρ _ => Cert.SumsIdeal.Gen.frame m ρ
theorem frame_ri : Cert.quiescent_SumsRefIdeal := fun m g _ =>
  (θ_run Cert.SumsRefIdeal.defs _ _).mono (fun r h => ⟨fun c => (h c).2, sem_eq_zero_of_no_sems (by decide) r.2⟩)
    (Cert.SumsRefIdeal.Value.run (F := Ideal) m g)

theorem algebraic : Cert.algebraic_SumsIdeal_SumsRefIdeal := by
  pair_intro
  · run_from Cert.SumsIdeal.Gen.run_main m g
  · run_from run_ref m' g'
    · exact (Cert.SumsIdeal.Bridge.fin1 m c).symm

end Cert.SumsClaims

end
-- ==== Proof.RsumValue.lean ====
/- The sum of the four chips' rows of a gradient: the kernel's result is the reference's. -/
module

public import proofs.«01_k».proof.Proof.Gen.RsumIdeal.Frame
public import proofs.«01_k».proof.Proof.Gen.RsumRefIdeal.Read
public import proofs.«01_k».proof.Proof.RideRef
public import Idealize.ShloMosaic.Lib.Pipeline.ValueKit
public import Idealize.ShloMosaic.Lib.Pipeline.ReadBack

@[expose] public section

set_option maxRecDepth 16384

noncomputable section

namespace Cert.RsumRefIdeal.At

open Cert.RsumRefIdeal Cert.RsumRefIdeal.Gen Cert.RsumRefIdeal.Read
open Idealize.ShloMosaic Idealize.ShloMosaic.TcCoe Idealize.SL.Sem
open Cert.RideRefIdeal.At (pick whole)

variable (b : Vec Ideal S1 .i32) (l s : FVec Ideal S4x256x1024 .bf16) (i : Fin 256) (j : Fin 1024)

/-- Of one chip's place: its own sum where the place is this chip's, else what landed there. -/
theorem at5 (k : Fin 4) : val_main_v5 (F := Ideal) l s b (ix3 k i j) = pick (b (ix1 0)) (BitVec.ofNat 32 k.val) (s (ix3 k i j)) (l (ix3 k i j)) := by
  unfold pick
  pointwise [val_main_v5, val_main_call0_v0, val_main_v4, val_main_v3, val_main_v2, val_main_v1, val_main_v0]
  simp only [Scalar.select, IntOp.cmpi]
  by_cases h : b (ix1 0) = BitVec.ofNat 32 k.val
  · simp [h]
  · have e : (BitVec.ofNat 32 k.val == b (ix1 0)) = false := beq_false_of_ne (Ne.symm h)
    simp [e, h]

/-- The sum over the chips. -/
theorem at7 : val_main_v7 (F := Ideal) l s b (ix2 i j) = whole (b (ix1 0)) (fun k => s (ix3 k i j)) (fun k => l (ix3 k i j)) := by
  unfold val_main_v7 val_main_v6
  have e := at5 b l s i j
  generalize val_main_v5 (F := Ideal) l s b = p at e ⊢
  pointwise [val_main_cst]
  unfold whole
  rw [Fin.sum_univ_four, e 0, e 1, e 2, e 3]
  rfl

end Cert.RsumRefIdeal.At

namespace Cert.RsumIdeal.Bridge

open Cert.RsumIdeal Cert.RsumIdeal.Gen Idealize.ShloMosaic Idealize.ShloMosaic.TcCoe Idealize.SL.Sem
open Idealize.ShloMosaic.Pipeline (Dat)
open Cert.RideRefIdeal.At (pick whole)

/-- A place's row, chosen. -/
theorem select_eq (b k : BitVec 32) (s l : FVec Ideal S256x1024 .bf16) (y : S256x1024.Idx) :
    Scalar.select (Scalar.cmpi .eq b k) s l y = pick b k (s y) (l y) := by
  unfold pick
  simp only [Scalar.select, Scalar.cmpi, IntOp.cmpi]
  by_cases h : b = k
  · simp [h]
  · have e : (b == k) = false := beq_false_of_ne h
    simp [e, h]

section
variable (b : BitVec 32) (s0 s1 s2 s3 l0 l1 l2 l3 : FVec Ideal S1x256x1024 .bf16) (i : Fin 256) (j : Fin 1024)

/-- The four chips' rows, in the order they are added. -/
abbrev four (r0 r1 r2 r3 : FVec Ideal S1x256x1024 .bf16) (i : Fin 256) (j : Fin 1024) : Fin 4 → EReal :=
  ![r0 (ix3 0 i j), r1 (ix3 0 i j), r2 (ix3 0 i j), r3 (ix3 0 i j)]

/-- Their sum, as the kernel stores it. -/
theorem pay1_at : k0_pay1 (F := Ideal) (k0_pay2 (F := Ideal) b s0 l0 b s1 l1 b s2 l2) (Scalar.cmpi .eq b 3#32) (k0_pay3 (F := Ideal) s3) l3 (ix2 i j)
    = whole b (four s0 s1 s2 s3 i j) (four l0 l1 l2 l3 i j) := by
  unfold whole
  pointwise [k0_pay1, k0_pay2, k0_pay3, select_eq]

end

/-- No index map reads the table, so any contents of it will do to read the windows' geometry. -/
abbrev any : (pcfg0 (F := Ideal)).Adm := ⟨Fin.cases (fun _ => (0#32 : BitVec 32)) fun j => j.elim0, trivial⟩

/-- The one grid point's blocks are the whole arrays. -/
theorem idx (a : (pcfg0 (F := Ideal)).Adm) : ∀ t : Fin (cfg0 a).N, ((cfg0 a).win 0).index t = ![0, 0, 0] ∧ ((cfg0 a).win 1).index t = ![0, 0, 0] ∧ ((cfg0 a).win 2).index t = ![0, 0] :=
  (by decide +kernel : ∀ t : Fin (cfg0 (F := Ideal) any).N, ((cfg0 (F := Ideal) any).win 0).index t = ![0, 0, 0] ∧ ((cfg0 (F := Ideal) any).win 1).index t = ![0, 0, 0] ∧ ((cfg0 (F := Ideal) any).win 2).index t = ![0, 0])

theorem covers2 (a : (pcfg0 (F := Ideal)).Adm) : ((cfg0 a).win 2).Covers :=
  (by decide +kernel : ((cfg0 (F := Ideal) any).win 2).Covers)

variable (m : (ℓ : Loc nD τ sig) → Buf (Elt Ideal) ℓ) (hO : Ok m)

/-- The argument arrays. -/
abbrev A0 (c : Dev nD) : FVec Ideal S4x256x1024 .bf16 := m ((c : Thread nD τ).loc main_arg0)
abbrev A1 (c : Dev nD) : FVec Ideal S4x256x1024 .bf16 := m ((c : Thread nD τ).loc main_arg1)
abbrev A2 (c : Dev nD) : Vec Ideal S1 .i32 := m ((c : Thread nD τ).loc main_arg2)

section
variable (c : Dev nD) (t : Fin (cfgM m hO).N) (i : Fin 256) (j : Fin 1024)

theorem l_at (k : Fin 4) : (show FVec Ideal S4x256x1024 .bf16 from iblk m hO c 0 t) (ix3 k i j) = A0 m c (ix3 k i j) := by
  blk_point [iblk, V, idx (adm m hO) t]

theorem s_at (k : Fin 4) : (show FVec Ideal S4x256x1024 .bf16 from iblk m hO c 1 t) (ix3 k i j) = A1 m c (ix3 k i j) := by
  blk_point [iblk, V, idx (adm m hO) t]

/-- One chip's rows of all four's. -/
theorem ld_row (x : FVec Ideal S4x256x1024 .bf16) (k : Fin 4) (h : ∀ d, (![k.val, 0, 0] : Fin 3 → Nat) d + S1x256x1024.size d ≤ S4x256x1024.size d) :
    View.ld (Val := Elt Ideal) (e' := .bf16) x (Rect.unit (s := S4x256x1024) ![k.val, 0, 0] S1x256x1024.size h) (ix3 0 i j) = x (ix3 k i j) := by
  refine View.ld_unit_apply_of _ _ _ _ _ _ fun d => ?_
  fin_cases d
  · show k.val = k.val + 0
    omega
  · show i.val = 0 + i.val
    omega
  · show j.val = 0 + j.val
    omega

/-- The place of this chip, read from the table. -/
theorem chip (h : ∀ d, (![0] : Fin 1 → Nat) d + Shape.size S1 d ≤ Shape.size S1 d) (y : Shape.Idx S1) :
    View.readAt (Elt Ideal) (View.whole main_arg2) (Rect.unit (s := S1) ![0] (Shape.size S1) h).toLoadRect (tbl m 0) y = A2 m c (ix1 0) := by
  obtain rfl : c = 0 := Subsingleton.elim _ _
  refine congrArg (A2 m 0) (funext fun d => ?_)
  fin_cases d
  exact Subsingleton.elim (α := Fin 1) _ _

theorem four_eq (x : FVec Ideal S4x256x1024 .bf16) :
    four
        (View.ld (Val := Elt Ideal) (e' := .bf16) x (Rect.unit (s := S4x256x1024) ![0, 0, 0] S1x256x1024.size inb_S4x256x1024_S1x256x1024_0_0_0))
        (View.ld (Val := Elt Ideal) (e' := .bf16) x (Rect.unit (s := S4x256x1024) ![1, 0, 0] S1x256x1024.size inb_S4x256x1024_S1x256x1024_1_0_0))
        (View.ld (Val := Elt Ideal) (e' := .bf16) x (Rect.unit (s := S4x256x1024) ![2, 0, 0] S1x256x1024.size inb_S4x256x1024_S1x256x1024_2_0_0))
        (View.ld (Val := Elt Ideal) (e' := .bf16) x (Rect.unit (s := S4x256x1024) ![3, 0, 0] S1x256x1024.size inb_S4x256x1024_S1x256x1024_3_0_0)) i j
      = fun k => x (ix3 k i j) := by
  funext k
  fin_cases k
  · exact ld_row i j x 0 _
  · exact ld_row i j x 1 _
  · exact ld_row i j x 2 _
  · exact ld_row i j x 3 _

/-- The point's sum is the reference's. -/
theorem sum_point (b : BitVec 32) (hb : b = A2 m c (ix1 0)) :
    whole b (four
        (View.ld (Val := Elt Ideal) (e' := .bf16) (iblk m hO c 1 t) (Rect.unit (s := S4x256x1024) ![0, 0, 0] S1x256x1024.size inb_S4x256x1024_S1x256x1024_0_0_0))
        (View.ld (Val := Elt Ideal) (e' := .bf16) (iblk m hO c 1 t) (Rect.unit (s := S4x256x1024) ![1, 0, 0] S1x256x1024.size inb_S4x256x1024_S1x256x1024_1_0_0))
        (View.ld (Val := Elt Ideal) (e' := .bf16) (iblk m hO c 1 t) (Rect.unit (s := S4x256x1024) ![2, 0, 0] S1x256x1024.size inb_S4x256x1024_S1x256x1024_2_0_0))
        (View.ld (Val := Elt Ideal) (e' := .bf16) (iblk m hO c 1 t) (Rect.unit (s := S4x256x1024) ![3, 0, 0] S1x256x1024.size inb_S4x256x1024_S1x256x1024_3_0_0)) i j) (four
        (View.ld (Val := Elt Ideal) (e' := .bf16) (iblk m hO c 0 t) (Rect.unit (s := S4x256x1024) ![0, 0, 0] S1x256x1024.size inb_S4x256x1024_S1x256x1024_0_0_0))
        (View.ld (Val := Elt Ideal) (e' := .bf16) (iblk m hO c 0 t) (Rect.unit (s := S4x256x1024) ![1, 0, 0] S1x256x1024.size inb_S4x256x1024_S1x256x1024_1_0_0))
        (View.ld (Val := Elt Ideal) (e' := .bf16) (iblk m hO c 0 t) (Rect.unit (s := S4x256x1024) ![2, 0, 0] S1x256x1024.size inb_S4x256x1024_S1x256x1024_2_0_0))
        (View.ld (Val := Elt Ideal) (e' := .bf16) (iblk m hO c 0 t) (Rect.unit (s := S4x256x1024) ![3, 0, 0] S1x256x1024.size inb_S4x256x1024_S1x256x1024_3_0_0)) i j)
      = Cert.RsumRefIdeal.Read.val_main_v7 (F := Ideal) (A0 m c) (A1 m c) (A2 m c) (ix2 i j) := by
  rw [Cert.RsumRefIdeal.At.at7]
  have es : (fun k => (show FVec Ideal S4x256x1024 .bf16 from iblk m hO c 1 t) (ix3 k i j)) = fun k => A1 m c (ix3 k i j) := funext fun k => s_at m hO c t i j k
  have el : (fun k => (show FVec Ideal S4x256x1024 .bf16 from iblk m hO c 0 t) (ix3 k i j)) = fun k => A0 m c (ix3 k i j) := funext fun k => l_at m hO c t i j k
  exact congr (congr (congrArg whole hb) ((four_eq i j _).trans es)) ((four_eq i j _).trans el)

end

/-- The sum. -/
theorem fin2 (c : Dev nD) :
    (dats m hO 0 c).arrAt 2 (cfgM m hO).N = Cert.RsumRefIdeal.Read.val_main_v7 (F := Ideal) (A0 m c) (A1 m c) (A2 m c) := by
  refine (dats m hO 0 c).arrAt_eq_of_covers 2 _ (covers2 (adm m hO)) fun t _ y => ?_
  blk_simp
  rw [after0_2]
  revert y
  show ∀ y : S256x1024.Idx, _
  intro y
  idx_vars y
  refine Eq.trans ?_ ((Cert.RsumRefIdeal.At.at7 _ _ _ y0 y1).symm.trans (congrArg _ (by blk_ext [idx (adm m hO) t])))
  dsimp only [outsAt0]
  frame_out
  rw [(hs0_0 m hO t).read_unread (iblk m hO c 0 t), (hs0_1 m hO t).read_unread (iblk m hO c 1 t), ← Cert.RsumRefIdeal.At.at7]
  exact (pay1_at _ _ _ _ _ _ _ _ _ y0 y1).trans (sum_point m hO c t y0 y1 _ (chip m c _ _))

end Cert.RsumIdeal.Bridge

end
-- ==== Proof.RsumClaims.lean ====
/- The claims of the sum of the four chips' rows of a gradient: the frames, the constants kept, and the value claim. -/
module

public import proofs.«01_k».proof.Defs
public import proofs.«01_k».proof.Proof.RsumValue
public import proofs.«01_k».proof.Proof.Gen.Rsum.Frame
public import proofs.«01_k».proof.Proof.Gen.RsumRefIdeal.Run
public import Idealize.ShloMosaic.Lib.Claim
public import Idealize.ShloMosaic.Lib.Quiescent

@[expose] public section

set_option maxRecDepth 16384

noncomputable section

namespace Cert.RsumClaims

open Idealize.ShloMosaic Idealize.ShloMosaic.TcCoe Idealize.SL.Sem

/-- No constant of the kernel is named. -/
theorem preserves : Cert.preserves_Rsum_RsumIdeal := trivial

section
open Cert.RsumRefIdeal Cert.RsumRefIdeal.Gen

/-- The reference's run, its results named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v7) = Read.val_main_v7 (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (Read.val_main_v7_eq _ _ _),
    (h c).2⟩) (Value.run m ρ)

end

section
open Cert.RsumIdeal Cert.RsumIdeal.Gen

/-- The kernel's run, its results the reference's functions of the arguments. -/
theorem run_ker (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v0) = Cert.RsumRefIdeal.Read.val_main_v7 (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  run_from run_main m ρ trivial & unchanged m ρ trivial
  · exact Cert.RsumIdeal.Bridge.fin2 m trivial c

end

theorem frame_p : Cert.quiescent_Rsum := fun m ρ _ => Cert.Rsum.Gen.frame m ρ trivial
theorem frame_pi : Cert.quiescent_RsumIdeal := fun m ρ _ => Cert.RsumIdeal.Gen.frame m ρ trivial
theorem frame_ri : Cert.quiescent_RsumRefIdeal := fun m g _ =>
  (θ_run Cert.RsumRefIdeal.defs _ _).mono (fun r h => ⟨fun c => (h c).2, sem_eq_zero_of_no_sems (by decide) r.2⟩)
    (Cert.RsumRefIdeal.Value.run (F := Ideal) m g)

theorem algebraic : Cert.algebraic_RsumIdeal_RsumRefIdeal := by
  pair_intro
  · run_from run_ker m g
  · run_from run_ref m' g'

end Cert.RsumClaims

end
-- ==== Proof.FirstfRef.lean ====
/- The step of layer 0 of the feed-forward weight: its reference at an index. -/
module

public import proofs.«01_k».proof.Proof.Gen.FirstfRefIdeal.Read
public import proofs.«01_k».proof.Proof.RideRef
public import Idealize.ShloMosaic.Lib.Pipeline.ValueKit

@[expose] public section

set_option maxRecDepth 16384

noncomputable section

namespace Cert.FirstfRefIdeal.At

open Cert.FirstfRefIdeal Cert.FirstfRefIdeal.Gen Cert.FirstfRefIdeal.Read
open Idealize.ShloMosaic Idealize.ShloMosaic.TcCoe Idealize.SL.Sem
open Cert.RideRefIdeal.At (pick whole moment square step)

variable (b : Vec Ideal S1 .i32) (w m v : FVec Ideal S2x704x2048 .f32) (l s : FVec Ideal S4x704x2048 .bf16) (i : Fin 704) (j : Fin 2048)

/-- Of one chip's place: its own sum where the place is this chip's, else what landed there. -/
theorem at11 (k : Fin 4) : val_main_v11 (F := Ideal) b l s (ix3 k i j) = pick (b (ix1 0)) (BitVec.ofNat 32 k.val) (s (ix3 k i j)) (l (ix3 k i j)) := by
  unfold pick
  pointwise [val_main_v11, val_main_call0_v0, val_main_v10, val_main_v9, val_main_v8, val_main_v7, val_main_v6]
  simp only [Scalar.select, IntOp.cmpi]
  by_cases h : b (ix1 0) = BitVec.ofNat 32 k.val
  · simp [h]
  · have e : (BitVec.ofNat 32 k.val == b (ix1 0)) = false := beq_false_of_ne (Ne.symm h)
    simp [e, h]

/-- The whole gradient, -/
theorem at13 : val_main_v13 (F := Ideal) b l s (ix2 i j) = whole (b (ix1 0)) (fun k => s (ix3 k i j)) (fun k => l (ix3 k i j)) := by
  unfold val_main_v13 val_main_v12
  have e := at11 b l s i j
  generalize val_main_v11 (F := Ideal) b l s = p at e ⊢
  pointwise [val_main_cst]
  unfold whole
  rw [Fin.sum_univ_four, e 0, e 1, e 2, e 3]
  rfl

/-- the first moment, -/
theorem at18 : val_main_v18 (F := Ideal) b m l s (ix2 i j) = moment (val_main_v13 (F := Ideal) b l s (ix2 i j)) (m (ix3 0 i j)) := by
  unfold moment val_main_v18 val_main_v17
  generalize val_main_v13 (F := Ideal) b l s = g
  pointwise [val_main_v16, val_main_cst_1, val_main_v15, val_main_v14, val_main_cst_0, val_main_v3, val_main_v2]

/-- the second -/
theorem at24 : val_main_v24 (F := Ideal) b v l s (ix2 i j) = square (val_main_v13 (F := Ideal) b l s (ix2 i j)) (v (ix3 0 i j)) := by
  unfold square val_main_v24 val_main_v23 val_main_v21
  generalize val_main_v13 (F := Ideal) b l s = g
  pointwise [val_main_v22, val_main_cst_3, val_main_v20, val_main_v19, val_main_cst_2, val_main_v5, val_main_v4]

/-- and the step. -/
theorem at37 : val_main_v37 (F := Ideal) b w m v l s (ix2 i j)
    = step (w (ix3 0 i j)) (val_main_v13 (F := Ideal) b l s (ix2 i j)) (m (ix3 0 i j)) (v (ix3 0 i j)) := by
  unfold step
  rw [← at18, ← at24]
  unfold val_main_v37 val_main_v35 val_main_v32 val_main_v31 val_main_v29 val_main_v28 val_main_v26
  generalize val_main_v18 (F := Ideal) b m l s = a
  generalize val_main_v24 (F := Ideal) b v l s = c
  pointwise [val_main_v36, val_main_cst_8, val_main_v34, val_main_v33, val_main_cst_7, val_main_v30, val_main_cst_6, val_main_v27, val_main_cst_5, val_main_v25, val_main_cst_4, val_main_v1, val_main_v0]

/-- Two layers, one of each array, at an index of the first -/
theorem stack_first (x y : FVec Ideal S1x704x2048 .f32) :
    concatenate S2x704x2048 0 [⟨S1x704x2048, x⟩, ⟨S1x704x2048, y⟩] concatenates_S1x704x2048_S1x704x2048_S2x704x2048_d0 (ix3 0 i j) = x (ix3 0 i j) :=
  concatenate_pair_apply_left (t := S2x704x2048) (s₁ := S1x704x2048) (s₂ := S1x704x2048) 0 x y _ (ix3 0 i j) rfl (ix3 0 i j) fun a => by
    fin_cases a <;> rfl

/-- and of the second. -/
theorem stack_last (x y : FVec Ideal S1x704x2048 .f32) :
    concatenate S2x704x2048 0 [⟨S1x704x2048, x⟩, ⟨S1x704x2048, y⟩] concatenates_S1x704x2048_S1x704x2048_S2x704x2048_d0 (ix3 1 i j) = y (ix3 0 i j) := by
  refine concatenate_pair_apply_right (t := S2x704x2048) (s₁ := S1x704x2048) (s₂ := S1x704x2048) 0 x y _ (ix3 1 i j) rfl rfl (ix3 0 i j) (fun a ha => ?_) ?_
  · match a, ha with
    | ⟨0, _⟩, h => exact absurd rfl h
    | ⟨1, _⟩, _ => rfl
    | ⟨2, _⟩, _ => rfl
  · rfl

variable (p : FVec Ideal S2x704x2048 .f32)

theorem at42_first : val_main_v42 (F := Ideal) b l s p (ix3 0 i j) = val_main_v13 (F := Ideal) b l s (ix2 i j) := by
  refine (stack_first i j _ _).trans ?_
  unfold val_main_v40
  generalize val_main_v13 (F := Ideal) b l s = g
  pointwise

theorem at42_last : val_main_v42 (F := Ideal) b l s p (ix3 1 i j) = p (ix3 1 i j) := by
  refine (stack_last i j _ _).trans ?_
  pointwise [val_main_v41, val_main_v39, val_main_v38]

theorem at47_first : val_main_v47 (F := Ideal) b w m v l s p (ix3 0 i j) = val_main_v37 (F := Ideal) b w m v l s (ix2 i j) := by
  refine (stack_first i j _ _).trans ?_
  unfold val_main_v45
  generalize val_main_v37 (F := Ideal) b w m v l s = g
  pointwise

theorem at47_last : val_main_v47 (F := Ideal) b w m v l s p (ix3 1 i j) = p (ix3 1 i j) := by
  refine (stack_last i j _ _).trans ?_
  pointwise [val_main_v46, val_main_v44, val_main_v43]

theorem at52_first : val_main_v52 (F := Ideal) b m l s p (ix3 0 i j) = val_main_v18 (F := Ideal) b m l s (ix2 i j) := by
  refine (stack_first i j _ _).trans ?_
  unfold val_main_v50
  generalize val_main_v18 (F := Ideal) b m l s = g
  pointwise

theorem at52_last : val_main_v52 (F := Ideal) b m l s p (ix3 1 i j) = p (ix3 1 i j) := by
  refine (stack_last i j _ _).trans ?_
  pointwise [val_main_v51, val_main_v49, val_main_v48]

theorem at57_first : val_main_v57 (F := Ideal) b v l s p (ix3 0 i j) = val_main_v24 (F := Ideal) b v l s (ix2 i j) := by
  refine (stack_first i j _ _).trans ?_
  unfold val_main_v55
  generalize val_main_v24 (F := Ideal) b v l s = g
  pointwise

theorem at57_last : val_main_v57 (F := Ideal) b v l s p (ix3 1 i j) = p (ix3 1 i j) := by
  refine (stack_last i j _ _).trans ?_
  pointwise [val_main_v56, val_main_v54, val_main_v53]

end Cert.FirstfRefIdeal.At

end
-- ==== Proof.FirstfValue.lean ====
/- The step of layer 0 of the feed-forward weight: tile by tile, the kernel's arrays are the reference's on that layer. -/
module

public import proofs.«01_k».proof.Proof.Gen.FirstfIdeal.Frame
public import proofs.«01_k».proof.Proof.FirstfRef
public import Idealize.ShloMosaic.Lib.Pipeline.ValueKit
public import Idealize.ShloMosaic.Lib.Pipeline.ReadBack

@[expose] public section

set_option maxRecDepth 16384

noncomputable section

namespace Cert.FirstfIdeal.Bridge

open Cert.FirstfIdeal Cert.FirstfIdeal.Gen Idealize.ShloMosaic Idealize.ShloMosaic.TcCoe Idealize.SL.Sem
open Idealize.ShloMosaic.Pipeline (Dat)
open Cert.RideRefIdeal.At (pick whole moment square step)

/-- A place's row, chosen. -/
theorem select_eq (b k : BitVec 32) (s l : FVec Ideal S64x2048 .bf16) (y : S64x2048.Idx) :
    Scalar.select (Scalar.cmpi .eq b k) s l y = pick b k (s y) (l y) := by
  unfold pick
  simp only [Scalar.select, Scalar.cmpi, IntOp.cmpi]
  by_cases h : b = k
  · simp [h]
  · have e : (b == k) = false := beq_false_of_ne h
    simp [e, h]

section
variable (b : BitVec 32) (s0 s1 s2 s3 l0 l1 l2 l3 : FVec Ideal S1x64x2048 .bf16) (i : Fin 64) (j : Fin 2048)

/-- The four chips' rows, in the order they are added. -/
abbrev four (r0 r1 r2 r3 : FVec Ideal S1x64x2048 .bf16) (i : Fin 64) (j : Fin 2048) : Fin 4 → EReal :=
  ![r0 (ix3 0 i j), r1 (ix3 0 i j), r2 (ix3 0 i j), r3 (ix3 0 i j)]

/-- The whole gradient in a tile. -/
abbrev grad : FVec Ideal S64x2048 .f32 :=
  k0_pay6 (F := Ideal) (k0_pay4 (F := Ideal) b s0 l0 b s1 l1 b s2 l2) (Scalar.cmpi .eq b 3#32) (k0_pay5 (F := Ideal) s3) l3

theorem grad_at : grad b s0 s1 s2 s3 l0 l1 l2 l3 (ix2 i j) = whole b (four s0 s1 s2 s3 i j) (four l0 l1 l2 l3 i j) := by
  unfold grad whole
  pointwise [k0_pay6, k0_pay4, k0_pay5, select_eq]

end

section
variable (p : FVec Ideal S64x2048 .f32) (k : BitVec 1) (q : FVec Ideal S64x2048 .bf16) (u : FVec Ideal S1x64x2048 .bf16) (m v w : FVec Ideal S1x64x2048 .f32)
  (i : Fin 64) (j : Fin 2048)

/-- The gradient as it is stored, -/
theorem pay9_at : k0_pay9 (F := Ideal) p k q u (ix3 0 i j) = k0_pay6 (F := Ideal) p k q u (ix2 i j) := by
  unfold k0_pay9
  generalize k0_pay6 (F := Ideal) p k q u = g
  pointwise

/-- the first moment, -/
theorem pay7_at : k0_pay7 (F := Ideal) p k q u m (ix2 i j) = moment (k0_pay6 (F := Ideal) p k q u (ix2 i j)) (m (ix3 0 i j)) := by
  unfold moment k0_pay7
  generalize k0_pay6 (F := Ideal) p k q u = g
  pointwise

theorem pay2_at : k0_pay2 (F := Ideal) p (ix3 0 i j) = p (ix2 i j) := by pointwise [k0_pay2]

/-- the second -/
theorem pay8_at : k0_pay8 (F := Ideal) p k q u v (ix2 i j) = square (k0_pay6 (F := Ideal) p k q u (ix2 i j)) (v (ix3 0 i j)) := by
  unfold square k0_pay8
  generalize k0_pay6 (F := Ideal) p k q u = g
  pointwise

theorem pay3_at : k0_pay3 (F := Ideal) p (ix3 0 i j) = p (ix2 i j) := by pointwise [k0_pay3]

/-- and the step. -/
theorem pay1_at : k0_pay1 (F := Ideal) (k0_pay10 (F := Ideal) p k q u m v w) (ix3 0 i j)
    = step (w (ix3 0 i j)) (k0_pay6 (F := Ideal) p k q u (ix2 i j)) (m (ix3 0 i j)) (v (ix3 0 i j)) := by
  unfold step
  rw [← pay7_at, ← pay8_at]
  unfold k0_pay1 k0_pay10
  generalize k0_pay7 (F := Ideal) p k q u m = a
  generalize k0_pay8 (F := Ideal) p k q u v = b
  pointwise

end

/-- No index map reads the table, so any contents of it will do to read the windows' geometry. -/
abbrev any : (pcfg0 (F := Ideal)).Adm := ⟨Fin.cases (fun _ => (0#32 : BitVec 32)) fun j => j.elim0, trivial⟩

/-- Every window's block at a grid point: the point is the row tile. -/
theorem idx (a : (pcfg0 (F := Ideal)).Adm) : ∀ t : Fin (cfg0 a).N, ((cfg0 a).win 0).index t = ![0, t.val, 0] ∧ ((cfg0 a).win 1).index t = ![0, t.val, 0] ∧ ((cfg0 a).win 2).index t = ![0, t.val, 0] ∧ ((cfg0 a).win 3).index t = ![0, t.val, 0] ∧ ((cfg0 a).win 4).index t = ![0, t.val, 0] ∧ ((cfg0 a).win 5).index t = ![0, t.val, 0] ∧ ((cfg0 a).win 6).index t = ![0, t.val, 0] ∧ ((cfg0 a).win 7).index t = ![0, t.val, 0] ∧ ((cfg0 a).win 8).index t = ![0, t.val, 0] :=
  (by decide +kernel : ∀ t : Fin (cfg0 (F := Ideal) any).N, ((cfg0 (F := Ideal) any).win 0).index t = ![0, t.val, 0] ∧ ((cfg0 (F := Ideal) any).win 1).index t = ![0, t.val, 0] ∧ ((cfg0 (F := Ideal) any).win 2).index t = ![0, t.val, 0] ∧ ((cfg0 (F := Ideal) any).win 3).index t = ![0, t.val, 0] ∧ ((cfg0 (F := Ideal) any).win 4).index t = ![0, t.val, 0] ∧ ((cfg0 (F := Ideal) any).win 5).index t = ![0, t.val, 0] ∧ ((cfg0 (F := Ideal) any).win 6).index t = ![0, t.val, 0] ∧ ((cfg0 (F := Ideal) any).win 7).index t = ![0, t.val, 0] ∧ ((cfg0 (F := Ideal) any).win 8).index t = ![0, t.val, 0])

/-- The tiles written back are layer 0's. -/
theorem covers5 (a : (pcfg0 (F := Ideal)).Adm) : ((cfg0 a).win 5).CoversWhere fun β : Fin 3 → Nat => β 0 = 0 :=
  (by decide +kernel : ((cfg0 (F := Ideal) any).win 5).CoversWhere fun β : Fin 3 → Nat => β 0 = 0)
theorem covers6 (a : (pcfg0 (F := Ideal)).Adm) : ((cfg0 a).win 6).CoversWhere fun β : Fin 3 → Nat => β 0 = 0 :=
  (by decide +kernel : ((cfg0 (F := Ideal) any).win 6).CoversWhere fun β : Fin 3 → Nat => β 0 = 0)
theorem covers7 (a : (pcfg0 (F := Ideal)).Adm) : ((cfg0 a).win 7).CoversWhere fun β : Fin 3 → Nat => β 0 = 0 :=
  (by decide +kernel : ((cfg0 (F := Ideal) any).win 7).CoversWhere fun β : Fin 3 → Nat => β 0 = 0)
theorem covers8 (a : (pcfg0 (F := Ideal)).Adm) : ((cfg0 a).win 8).CoversWhere fun β : Fin 3 → Nat => β 0 = 0 :=
  (by decide +kernel : ((cfg0 (F := Ideal) any).win 8).CoversWhere fun β : Fin 3 → Nat => β 0 = 0)

variable (m : (ℓ : Loc nD τ sig) → Buf (Elt Ideal) ℓ) (hO : Ok m)

/-- The argument arrays. -/
abbrev A0 (c : Dev nD) : Vec Ideal S1 .i32 := m ((c : Thread nD τ).loc main_arg0)
abbrev A1 (c : Dev nD) : FVec Ideal S2x704x2048 .f32 := m ((c : Thread nD τ).loc main_arg1)
abbrev A2 (c : Dev nD) : FVec Ideal S2x704x2048 .f32 := m ((c : Thread nD τ).loc main_arg2)
abbrev A3 (c : Dev nD) : FVec Ideal S2x704x2048 .f32 := m ((c : Thread nD τ).loc main_arg3)
abbrev A4 (c : Dev nD) : FVec Ideal S4x704x2048 .bf16 := m ((c : Thread nD τ).loc main_arg4)
abbrev A5 (c : Dev nD) : FVec Ideal S4x704x2048 .bf16 := m ((c : Thread nD τ).loc main_arg5)
abbrev A6 (c : Dev nD) : FVec Ideal S2x704x2048 .f32 := m ((c : Thread nD τ).loc main_arg6)
abbrev A7 (c : Dev nD) : FVec Ideal S2x704x2048 .f32 := m ((c : Thread nD τ).loc main_arg7)
abbrev A8 (c : Dev nD) : FVec Ideal S2x704x2048 .f32 := m ((c : Thread nD τ).loc main_arg8)
abbrev A9 (c : Dev nD) : FVec Ideal S2x704x2048 .f32 := m ((c : Thread nD τ).loc main_arg9)

/-- The tile's rows. -/
theorem lt_N (t : Fin (cfgM m hO).N) : t.val < 11 := lt_of_lt_of_eq t.isLt (by decide +kernel : (cfg0 (F := Ideal) any).N = 11)
abbrev row (t : Fin (cfgM m hO).N) (r : Fin 64) : Fin 704 := ⟨t.val * 64 + r.val, by have := lt_N m hO t; omega⟩

section
variable (c : Dev nD) (t : Fin (cfgM m hO).N)

theorem w_at (i : Fin 64) (j : Fin 2048) : (show FVec Ideal S1x64x2048 .f32 from iblk m hO c 0 t) (ix3 0 i j) = A1 m c (ix3 0 (row m hO t i) j) := by
  blk_point [iblk, V, idx (adm m hO) t]

theorem m_at (i : Fin 64) (j : Fin 2048) : (show FVec Ideal S1x64x2048 .f32 from iblk m hO c 1 t) (ix3 0 i j) = A2 m c (ix3 0 (row m hO t i) j) := by
  blk_point [iblk, V, idx (adm m hO) t]

theorem v_at (i : Fin 64) (j : Fin 2048) : (show FVec Ideal S1x64x2048 .f32 from iblk m hO c 2 t) (ix3 0 i j) = A3 m c (ix3 0 (row m hO t i) j) := by
  blk_point [iblk, V, idx (adm m hO) t]

theorem l_at (k : Fin 4) (i : Fin 64) (j : Fin 2048) : (show FVec Ideal S4x64x2048 .bf16 from iblk m hO c 3 t) (ix3 k i j) = A4 m c (ix3 k (row m hO t i) j) := by
  blk_point [iblk, V, idx (adm m hO) t]

theorem s_at (k : Fin 4) (i : Fin 64) (j : Fin 2048) : (show FVec Ideal S4x64x2048 .bf16 from iblk m hO c 4 t) (ix3 k i j) = A5 m c (ix3 k (row m hO t i) j) := by
  blk_point [iblk, V, idx (adm m hO) t]

end

/-- One chip's rows of a tile of all four's. -/
theorem ld_row (x : FVec Ideal S4x64x2048 .bf16) (k : Fin 4) (h : ∀ d, (![k.val, 0, 0] : Fin 3 → Nat) d + S1x64x2048.size d ≤ S4x64x2048.size d)
    (i : Fin 64) (j : Fin 2048) :
    View.ld (Val := Elt Ideal) (e' := .bf16) x (Rect.unit (s := S4x64x2048) ![k.val, 0, 0] S1x64x2048.size h) (ix3 0 i j) = x (ix3 k i j) := by
  refine View.ld_unit_apply_of _ _ _ _ _ _ fun d => ?_
  fin_cases d
  · show k.val = k.val + 0
    omega
  · show i.val = 0 + i.val
    omega
  · show j.val = 0 + j.val
    omega

/-- The place of this chip, read from the table. -/
theorem chip (c : Dev nD) (h : ∀ d, (![0] : Fin 1 → Nat) d + Shape.size S1 d ≤ Shape.size S1 d) (y : Shape.Idx S1) :
    View.readAt (Elt Ideal) (View.whole main_arg0) (Rect.unit (s := S1) ![0] (Shape.size S1) h).toLoadRect (tbl m 0) y = A0 m c (ix1 0) := by
  obtain rfl : c = 0 := Subsingleton.elim _ _
  refine congrArg (A0 m 0) (funext fun d => ?_)
  fin_cases d
  exact Subsingleton.elim (α := Fin 1) _ _

section
variable (c : Dev nD) (t : Fin (cfgM m hO).N) (i : Fin 64) (j : Fin 2048)

theorem four_eq (x : FVec Ideal S4x64x2048 .bf16) :
    four
        (View.ld (Val := Elt Ideal) (e' := .bf16) x (Rect.unit (s := S4x64x2048) ![0, 0, 0] S1x64x2048.size inb_S4x64x2048_S1x64x2048_0_0_0))
        (View.ld (Val := Elt Ideal) (e' := .bf16) x (Rect.unit (s := S4x64x2048) ![1, 0, 0] S1x64x2048.size inb_S4x64x2048_S1x64x2048_1_0_0))
        (View.ld (Val := Elt Ideal) (e' := .bf16) x (Rect.unit (s := S4x64x2048) ![2, 0, 0] S1x64x2048.size inb_S4x64x2048_S1x64x2048_2_0_0))
        (View.ld (Val := Elt Ideal) (e' := .bf16) x (Rect.unit (s := S4x64x2048) ![3, 0, 0] S1x64x2048.size inb_S4x64x2048_S1x64x2048_3_0_0)) i j
      = fun k => x (ix3 k i j) := by
  funext k
  fin_cases k
  · exact ld_row x 0 _ i j
  · exact ld_row x 1 _ i j
  · exact ld_row x 2 _ i j
  · exact ld_row x 3 _ i j

/-- The whole gradient in a point's tile is the reference's. -/
theorem grad_point (b : BitVec 32) (hb : b = A0 m c (ix1 0)) :
    grad b
        (View.ld (Val := Elt Ideal) (e' := .bf16) (iblk m hO c 4 t) (Rect.unit (s := S4x64x2048) ![0, 0, 0] S1x64x2048.size inb_S4x64x2048_S1x64x2048_0_0_0))
        (View.ld (Val := Elt Ideal) (e' := .bf16) (iblk m hO c 4 t) (Rect.unit (s := S4x64x2048) ![1, 0, 0] S1x64x2048.size inb_S4x64x2048_S1x64x2048_1_0_0))
        (View.ld (Val := Elt Ideal) (e' := .bf16) (iblk m hO c 4 t) (Rect.unit (s := S4x64x2048) ![2, 0, 0] S1x64x2048.size inb_S4x64x2048_S1x64x2048_2_0_0))
        (View.ld (Val := Elt Ideal) (e' := .bf16) (iblk m hO c 4 t) (Rect.unit (s := S4x64x2048) ![3, 0, 0] S1x64x2048.size inb_S4x64x2048_S1x64x2048_3_0_0))
        (View.ld (Val := Elt Ideal) (e' := .bf16) (iblk m hO c 3 t) (Rect.unit (s := S4x64x2048) ![0, 0, 0] S1x64x2048.size inb_S4x64x2048_S1x64x2048_0_0_0))
        (View.ld (Val := Elt Ideal) (e' := .bf16) (iblk m hO c 3 t) (Rect.unit (s := S4x64x2048) ![1, 0, 0] S1x64x2048.size inb_S4x64x2048_S1x64x2048_1_0_0))
        (View.ld (Val := Elt Ideal) (e' := .bf16) (iblk m hO c 3 t) (Rect.unit (s := S4x64x2048) ![2, 0, 0] S1x64x2048.size inb_S4x64x2048_S1x64x2048_2_0_0))
        (View.ld (Val := Elt Ideal) (e' := .bf16) (iblk m hO c 3 t) (Rect.unit (s := S4x64x2048) ![3, 0, 0] S1x64x2048.size inb_S4x64x2048_S1x64x2048_3_0_0)) (ix2 i j)
      = Cert.FirstfRefIdeal.Read.val_main_v13 (F := Ideal) (A0 m c) (A4 m c) (A5 m c) (ix2 (row m hO t i) j) := by
  refine (grad_at _ _ _ _ _ _ _ _ _ i j).trans ?_
  rw [Cert.FirstfRefIdeal.At.at13]
  have es : (fun k => (show FVec Ideal S4x64x2048 .bf16 from iblk m hO c 4 t) (ix3 k i j)) = fun k => A5 m c (ix3 k (row m hO t i) j) :=
    funext fun k => s_at m hO c t k i j
  have el : (fun k => (show FVec Ideal S4x64x2048 .bf16 from iblk m hO c 3 t) (ix3 k i j)) = fun k => A4 m c (ix3 k (row m hO t i) j) :=
    funext fun k => l_at m hO c t k i j
  exact congr (congr (congrArg whole hb) ((four_eq i j _).trans es)) ((four_eq i j _).trans el)

end

/-- The gradient's layer written, -/
theorem tile5 (c : Dev nD) (i : Fin 704) (j : Fin 2048) :
    (show FVec Ideal S2x704x2048 .f32 from (dats m hO 0 c).arrAt 5 (cfgM m hO).N) (ix3 0 i j) = Cert.FirstfRefIdeal.Read.val_main_v13 (F := Ideal) (A0 m c) (A4 m c) (A5 m c) (ix2 i j) := by
  refine ((dats m hO 0 c).arrAt_apply_of_coversWhere 5
    (fun q : S2x704x2048.Idx => Cert.FirstfRefIdeal.Read.val_main_v13 (F := Ideal) (A0 m c) (A4 m c) (A5 m c) (ix2 (q 1) (q 2)))
    (P := fun q : S2x704x2048.Idx => (q 0).val = 0) (fun β : Fin 3 → Nat => β 0 = 0) (covers5 (adm m hO)) (fun t _ y => ?_)
    (fun j : S2x704x2048.Idx => by show (j 0).val = 0 ↔ (j 0).val / 1 = 0; rw [Nat.div_one]) _).trans (if_pos rfl)
  blk_simp
  rw [after0_5]
  revert y
  show ∀ y : S1x64x2048.Idx, _
  intro y
  idx_vars y
  obtain rfl : y0 = 0 := Subsingleton.elim _ _
  refine Eq.trans ?_ ((Cert.FirstfRefIdeal.At.at13 _ _ _ (row m hO t y1) y2).symm.trans <| congrArg _ (by blk_ext [idx (adm m hO) t]))
  dsimp only [outsAt0]
  frame_out
  rw [(hs0_3 m hO t).read_unread (iblk m hO c 3 t), (hs0_4 m hO t).read_unread (iblk m hO c 4 t)]
  rw [← Cert.FirstfRefIdeal.At.at13]
  exact (pay9_at _ _ _ _ y1 y2).trans (grad_point m hO c t y1 y2 _ (chip m c _ _))

/-- the step's, -/
theorem tile6 (c : Dev nD) (i : Fin 704) (j : Fin 2048) :
    (show FVec Ideal S2x704x2048 .f32 from (dats m hO 0 c).arrAt 6 (cfgM m hO).N) (ix3 0 i j) = Cert.FirstfRefIdeal.Read.val_main_v37 (F := Ideal) (A0 m c) (A1 m c) (A2 m c) (A3 m c) (A4 m c) (A5 m c) (ix2 i j) := by
  refine ((dats m hO 0 c).arrAt_apply_of_coversWhere 6
    (fun q : S2x704x2048.Idx => Cert.FirstfRefIdeal.Read.val_main_v37 (F := Ideal) (A0 m c) (A1 m c) (A2 m c) (A3 m c) (A4 m c) (A5 m c) (ix2 (q 1) (q 2)))
    (P := fun q : S2x704x2048.Idx => (q 0).val = 0) (fun β : Fin 3 → Nat => β 0 = 0) (covers6 (adm m hO)) (fun t _ y => ?_)
    (fun j : S2x704x2048.Idx => by show (j 0).val = 0 ↔ (j 0).val / 1 = 0; rw [Nat.div_one]) _).trans (if_pos rfl)
  blk_simp
  rw [after0_6]
  revert y
  show ∀ y : S1x64x2048.Idx, _
  intro y
  idx_vars y
  obtain rfl : y0 = 0 := Subsingleton.elim _ _
  refine Eq.trans ?_ ((Cert.FirstfRefIdeal.At.at37 _ _ _ _ _ _ (row m hO t y1) y2).symm.trans <| congrArg _ (by blk_ext [idx (adm m hO) t]))
  dsimp only [outsAt0]
  frame_out
  rw [(hs0_0 m hO t).read_unread (iblk m hO c 0 t), (hs0_1 m hO t).read_unread (iblk m hO c 1 t), (hs0_2 m hO t).read_unread (iblk m hO c 2 t), (hs0_3 m hO t).read_unread (iblk m hO c 3 t), (hs0_4 m hO t).read_unread (iblk m hO c 4 t)]
  refine (pay1_at _ _ _ _ _ _ _ y1 y2).trans ?_
  exact congr (congr (congr (congrArg step (w_at m hO c t y1 y2)) (grad_point m hO c t y1 y2 _ (chip m c _ _))) (m_at m hO c t y1 y2)) (v_at m hO c t y1 y2)

/-- the first moment's -/
theorem tile7 (c : Dev nD) (i : Fin 704) (j : Fin 2048) :
    (show FVec Ideal S2x704x2048 .f32 from (dats m hO 0 c).arrAt 7 (cfgM m hO).N) (ix3 0 i j) = Cert.FirstfRefIdeal.Read.val_main_v18 (F := Ideal) (A0 m c) (A2 m c) (A4 m c) (A5 m c) (ix2 i j) := by
  refine ((dats m hO 0 c).arrAt_apply_of_coversWhere 7
    (fun q : S2x704x2048.Idx => Cert.FirstfRefIdeal.Read.val_main_v18 (F := Ideal) (A0 m c) (A2 m c) (A4 m c) (A5 m c) (ix2 (q 1) (q 2)))
    (P := fun q : S2x704x2048.Idx => (q 0).val = 0) (fun β : Fin 3 → Nat => β 0 = 0) (covers7 (adm m hO)) (fun t _ y => ?_)
    (fun j : S2x704x2048.Idx => by show (j 0).val = 0 ↔ (j 0).val / 1 = 0; rw [Nat.div_one]) _).trans (if_pos rfl)
  blk_simp
  rw [after0_7]
  revert y
  show ∀ y : S1x64x2048.Idx, _
  intro y
  idx_vars y
  obtain rfl : y0 = 0 := Subsingleton.elim _ _
  refine Eq.trans ?_ ((Cert.FirstfRefIdeal.At.at18 _ _ _ _ (row m hO t y1) y2).symm.trans <| congrArg _ (by blk_ext [idx (adm m hO) t]))
  dsimp only [outsAt0]
  frame_out
  rw [(hs0_1 m hO t).read_unread (iblk m hO c 1 t), (hs0_3 m hO t).read_unread (iblk m hO c 3 t), (hs0_4 m hO t).read_unread (iblk m hO c 4 t)]
  refine (pay2_at _ y1 y2).trans ((pay7_at _ _ _ _ _ y1 y2).trans ?_)
  exact congr (congrArg moment (grad_point m hO c t y1 y2 _ (chip m c _ _))) (m_at m hO c t y1 y2)

/-- and the second's. -/
theorem tile8 (c : Dev nD) (i : Fin 704) (j : Fin 2048) :
    (show FVec Ideal S2x704x2048 .f32 from (dats m hO 0 c).arrAt 8 (cfgM m hO).N) (ix3 0 i j) = Cert.FirstfRefIdeal.Read.val_main_v24 (F := Ideal) (A0 m c) (A3 m c) (A4 m c) (A5 m c) (ix2 i j) := by
  refine ((dats m hO 0 c).arrAt_apply_of_coversWhere 8
    (fun q : S2x704x2048.Idx => Cert.FirstfRefIdeal.Read.val_main_v24 (F := Ideal) (A0 m c) (A3 m c) (A4 m c) (A5 m c) (ix2 (q 1) (q 2)))
    (P := fun q : S2x704x2048.Idx => (q 0).val = 0) (fun β : Fin 3 → Nat => β 0 = 0) (covers8 (adm m hO)) (fun t _ y => ?_)
    (fun j : S2x704x2048.Idx => by show (j 0).val = 0 ↔ (j 0).val / 1 = 0; rw [Nat.div_one]) _).trans (if_pos rfl)
  blk_simp
  rw [after0_8]
  revert y
  show ∀ y : S1x64x2048.Idx, _
  intro y
  idx_vars y
  obtain rfl : y0 = 0 := Subsingleton.elim _ _
  refine Eq.trans ?_ ((Cert.FirstfRefIdeal.At.at24 _ _ _ _ (row m hO t y1) y2).symm.trans <| congrArg _ (by blk_ext [idx (adm m hO) t]))
  dsimp only [outsAt0]
  frame_out
  rw [(hs0_2 m hO t).read_unread (iblk m hO c 2 t), (hs0_3 m hO t).read_unread (iblk m hO c 3 t), (hs0_4 m hO t).read_unread (iblk m hO c 4 t)]
  refine (pay3_at _ y1 y2).trans ((pay8_at _ _ _ _ _ y1 y2).trans ?_)
  exact congr (congrArg square (grad_point m hO c t y1 y2 _ (chip m c _ _))) (v_at m hO c t y1 y2)

theorem entry5 (c : Dev nD) : V m c main_v0_0 = A6 m c := by
  unfold V
  after_results
  rfl

/-- The layer kept: the gradient's, -/
theorem kept5 (c : Dev nD) (i : Fin 704) (j : Fin 2048) :
    (show FVec Ideal S2x704x2048 .f32 from (dats m hO 0 c).arrAt 5 (cfgM m hO).N) (ix3 1 i j) = A6 m c (ix3 1 i j) := by
  have e : (show FVec Ideal S2x704x2048 .f32 from (dats m hO 0 c).arrAt 5 (cfgM m hO).N) (ix3 1 i j) = (show FVec Ideal S2x704x2048 .f32 from (dats m hO 0 c).A 5) (ix3 1 i j) :=
    (dats m hO 0 c).arrAt_emb_eq_entry 5 _ (covers5 (adm m hO)) (ix3 (1 : Fin 2) i j) (by show ¬ (1 / 1 = 0); omega)
  rw [e, A_eq]
  exact congrFun (entry5 m c) _

theorem entry6 (c : Dev nD) : V m c main_v0_1 = A7 m c := by
  unfold V
  after_results
  rfl

/-- the step's, -/
theorem kept6 (c : Dev nD) (i : Fin 704) (j : Fin 2048) :
    (show FVec Ideal S2x704x2048 .f32 from (dats m hO 0 c).arrAt 6 (cfgM m hO).N) (ix3 1 i j) = A7 m c (ix3 1 i j) := by
  have e : (show FVec Ideal S2x704x2048 .f32 from (dats m hO 0 c).arrAt 6 (cfgM m hO).N) (ix3 1 i j) = (show FVec Ideal S2x704x2048 .f32 from (dats m hO 0 c).A 6) (ix3 1 i j) :=
    (dats m hO 0 c).arrAt_emb_eq_entry 6 _ (covers6 (adm m hO)) (ix3 (1 : Fin 2) i j) (by show ¬ (1 / 1 = 0); omega)
  rw [e, A_eq]
  exact congrFun (entry6 m c) _

theorem entry7 (c : Dev nD) : V m c main_v0_2 = A8 m c := by
  unfold V
  after_results
  rfl

/-- the first moment's -/
theorem kept7 (c : Dev nD) (i : Fin 704) (j : Fin 2048) :
    (show FVec Ideal S2x704x2048 .f32 from (dats m hO 0 c).arrAt 7 (cfgM m hO).N) (ix3 1 i j) = A8 m c (ix3 1 i j) := by
  have e : (show FVec Ideal S2x704x2048 .f32 from (dats m hO 0 c).arrAt 7 (cfgM m hO).N) (ix3 1 i j) = (show FVec Ideal S2x704x2048 .f32 from (dats m hO 0 c).A 7) (ix3 1 i j) :=
    (dats m hO 0 c).arrAt_emb_eq_entry 7 _ (covers7 (adm m hO)) (ix3 (1 : Fin 2) i j) (by show ¬ (1 / 1 = 0); omega)
  rw [e, A_eq]
  exact congrFun (entry7 m c) _

theorem entry8 (c : Dev nD) : V m c main_v0_3 = A9 m c := by
  unfold V
  after_results
  rfl

/-- and the second's. -/
theorem kept8 (c : Dev nD) (i : Fin 704) (j : Fin 2048) :
    (show FVec Ideal S2x704x2048 .f32 from (dats m hO 0 c).arrAt 8 (cfgM m hO).N) (ix3 1 i j) = A9 m c (ix3 1 i j) := by
  have e : (show FVec Ideal S2x704x2048 .f32 from (dats m hO 0 c).arrAt 8 (cfgM m hO).N) (ix3 1 i j) = (show FVec Ideal S2x704x2048 .f32 from (dats m hO 0 c).A 8) (ix3 1 i j) :=
    (dats m hO 0 c).arrAt_emb_eq_entry 8 _ (covers8 (adm m hO)) (ix3 (1 : Fin 2) i j) (by show ¬ (1 / 1 = 0); omega)
  rw [e, A_eq]
  exact congrFun (entry8 m c) _

theorem fin5 (c : Dev nD) :
    (dats m hO 0 c).arrAt 5 (cfgM m hO).N = Cert.FirstfRefIdeal.Read.val_main_v42 (F := Ideal) (A0 m c) (A4 m c) (A5 m c) (A6 m c) := by
  funext y
  revert y
  show ∀ y : S2x704x2048.Idx, _
  intro y
  idx_vars y
  match y0 with
  | ⟨0, _⟩ => exact (tile5 m hO c y1 y2).trans (Cert.FirstfRefIdeal.At.at42_first _ _ _ y1 y2 _).symm
  | ⟨1, _⟩ => exact (kept5 m hO c y1 y2).trans (Cert.FirstfRefIdeal.At.at42_last _ _ _ y1 y2 _).symm

theorem fin6 (c : Dev nD) :
    (dats m hO 0 c).arrAt 6 (cfgM m hO).N = Cert.FirstfRefIdeal.Read.val_main_v47 (F := Ideal) (A0 m c) (A1 m c) (A2 m c) (A3 m c) (A4 m c) (A5 m c) (A7 m c) := by
  funext y
  revert y
  show ∀ y : S2x704x2048.Idx, _
  intro y
  idx_vars y
  match y0 with
  | ⟨0, _⟩ => exact (tile6 m hO c y1 y2).trans (Cert.FirstfRefIdeal.At.at47_first _ _ _ _ _ _ y1 y2 _).symm
  | ⟨1, _⟩ => exact (kept6 m hO c y1 y2).trans (Cert.FirstfRefIdeal.At.at47_last _ _ _ _ _ _ y1 y2 _).symm

theorem fin7 (c : Dev nD) :
    (dats m hO 0 c).arrAt 7 (cfgM m hO).N = Cert.FirstfRefIdeal.Read.val_main_v52 (F := Ideal) (A0 m c) (A2 m c) (A4 m c) (A5 m c) (A8 m c) := by
  funext y
  revert y
  show ∀ y : S2x704x2048.Idx, _
  intro y
  idx_vars y
  match y0 with
  | ⟨0, _⟩ => exact (tile7 m hO c y1 y2).trans (Cert.FirstfRefIdeal.At.at52_first _ _ _ _ y1 y2 _).symm
  | ⟨1, _⟩ => exact (kept7 m hO c y1 y2).trans (Cert.FirstfRefIdeal.At.at52_last _ _ _ _ y1 y2 _).symm

theorem fin8 (c : Dev nD) :
    (dats m hO 0 c).arrAt 8 (cfgM m hO).N = Cert.FirstfRefIdeal.Read.val_main_v57 (F := Ideal) (A0 m c) (A3 m c) (A4 m c) (A5 m c) (A9 m c) := by
  funext y
  revert y
  show ∀ y : S2x704x2048.Idx, _
  intro y
  idx_vars y
  match y0 with
  | ⟨0, _⟩ => exact (tile8 m hO c y1 y2).trans (Cert.FirstfRefIdeal.At.at57_first _ _ _ _ y1 y2 _).symm
  | ⟨1, _⟩ => exact (kept8 m hO c y1 y2).trans (Cert.FirstfRefIdeal.At.at57_last _ _ _ _ y1 y2 _).symm

end Cert.FirstfIdeal.Bridge

end
-- ==== Proof.FirstfClaims.lean ====
/- The claims of the step of layer 0 of the feed-forward weight: the frames, the constants kept, and the value claim. -/
module

public import proofs.«01_k».proof.Defs
public import proofs.«01_k».proof.Proof.FirstfValue
public import proofs.«01_k».proof.Proof.Gen.Firstf.Frame
public import proofs.«01_k».proof.Proof.Gen.FirstfRefIdeal.Run
public import Idealize.ShloMosaic.Lib.Claim
public import Idealize.ShloMosaic.Lib.Quiescent

@[expose] public section

set_option maxRecDepth 16384

noncomputable section

namespace Cert.FirstfClaims

open Idealize.ShloMosaic Idealize.ShloMosaic.TcCoe Idealize.SL.Sem

/-- No constant of the kernel is named. -/
theorem preserves : Cert.preserves_Firstf_FirstfIdeal := trivial

section
open Cert.FirstfRefIdeal Cert.FirstfRefIdeal.Gen

/-- The reference's run, its results named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v42) = Read.val_main_v42 (F := Ideal) (m ((c.tc : Thread nD τ).loc main_arg0)) (m ((c.tc : Thread nD τ).loc main_arg4)) (m ((c.tc : Thread nD τ).loc main_arg5)) (m ((c.tc : Thread nD τ).loc main_arg6))
      ∧ r.2.mem ((c.tc : Thread nD τ).loc main_v47) = Read.val_main_v47 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7))
      ∧ r.2.mem ((c.tc : Thread nD τ).loc main_v52) = Read.val_main_v52 (F := Ideal) (m ((c.tc : Thread nD τ).loc main_arg0)) (m ((c.tc : Thread nD τ).loc main_arg2)) (m ((c.tc : Thread nD τ).loc main_arg4)) (m ((c.tc : Thread nD τ).loc main_arg5)) (m ((c.tc : Thread nD τ).loc main_arg8))
      ∧ r.2.mem ((c.tc : Thread nD τ).loc main_v57) = Read.val_main_v57 (F := Ideal) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c).1.trans (Read.val_main_v42_eq _ _ _ _),
    (h c).2.1.trans (Read.val_main_v47_eq _ _ _ _ _ _ _),
    (h c).2.2.1.trans (Read.val_main_v52_eq _ _ _ _ _),
    (h c).2.2.2.1.trans (Read.val_main_v57_eq _ _ _ _ _),
    (h c).2.2.2.2⟩) (Value.run m ρ)

end

section
open Cert.FirstfIdeal Cert.FirstfIdeal.Gen

/-- The kernel's run, its results the reference's functions of the arguments. -/
theorem run_ker (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v0_0) = Cert.FirstfRefIdeal.Read.val_main_v42 (F := Ideal) (m ((c.tc : Thread nD τ).loc main_arg0)) (m ((c.tc : Thread nD τ).loc main_arg4)) (m ((c.tc : Thread nD τ).loc main_arg5)) (m ((c.tc : Thread nD τ).loc main_arg6))
      ∧ r.2.mem ((c.tc : Thread nD τ).loc main_v0_1) = Cert.FirstfRefIdeal.Read.val_main_v47 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7))
      ∧ r.2.mem ((c.tc : Thread nD τ).loc main_v0_2) = Cert.FirstfRefIdeal.Read.val_main_v52 (F := Ideal) (m ((c.tc : Thread nD τ).loc main_arg0)) (m ((c.tc : Thread nD τ).loc main_arg2)) (m ((c.tc : Thread nD τ).loc main_arg4)) (m ((c.tc : Thread nD τ).loc main_arg5)) (m ((c.tc : Thread nD τ).loc main_arg8))
      ∧ r.2.mem ((c.tc : Thread nD τ).loc main_v0_3) = Cert.FirstfRefIdeal.Read.val_main_v57 (F := Ideal) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  run_from run_main m ρ trivial & unchanged m ρ trivial
  · exact Cert.FirstfIdeal.Bridge.fin5 m trivial c
  · exact Cert.FirstfIdeal.Bridge.fin6 m trivial c
  · exact Cert.FirstfIdeal.Bridge.fin7 m trivial c
  · exact Cert.FirstfIdeal.Bridge.fin8 m trivial c

end

theorem frame_p : Cert.quiescent_Firstf := fun m ρ _ => Cert.Firstf.Gen.frame m ρ trivial
theorem frame_pi : Cert.quiescent_FirstfIdeal := fun m ρ _ => Cert.FirstfIdeal.Gen.frame m ρ trivial
theorem frame_ri : Cert.quiescent_FirstfRefIdeal := fun m g _ =>
  (θ_run Cert.FirstfRefIdeal.defs _ _).mono (fun r h => ⟨fun c => (h c).2.2.2.2, sem_eq_zero_of_no_sems (by decide) r.2⟩)
    (Cert.FirstfRefIdeal.Value.run (F := Ideal) m g)

theorem algebraic : Cert.algebraic_FirstfIdeal_FirstfRefIdeal := by
  intro m g m' g' _ hagree
  refine ⟨fun c => Cert.FirstfRefIdeal.Read.val_main_v42 (F := Ideal) (m ((c.tc : Thread Cert.FirstfIdeal.nD Cert.FirstfIdeal.τ).loc Cert.FirstfIdeal.main_arg0)) (m ((c.tc : Thread Cert.FirstfIdeal.nD Cert.FirstfIdeal.τ).loc Cert.FirstfIdeal.main_arg4)) (m ((c.tc : Thread Cert.FirstfIdeal.nD Cert.FirstfIdeal.τ).loc Cert.FirstfIdeal.main_arg5)) (m ((c.tc : Thread Cert.FirstfIdeal.nD Cert.FirstfIdeal.τ).loc Cert.FirstfIdeal.main_arg6)), fun c => Cert.FirstfRefIdeal.Read.val_main_v47 (F := Ideal) (m ((c.tc : Thread Cert.FirstfIdeal.nD Cert.FirstfIdeal.τ).loc Cert.FirstfIdeal.main_arg0)) (m ((c.tc : Thread Cert.FirstfIdeal.nD Cert.FirstfIdeal.τ).loc Cert.FirstfIdeal.main_arg1)) (m ((c.tc : Thread Cert.FirstfIdeal.nD Cert.FirstfIdeal.τ).loc Cert.FirstfIdeal.main_arg2)) (m ((c.tc : Thread Cert.FirstfIdeal.nD Cert.FirstfIdeal.τ).loc Cert.FirstfIdeal.main_arg3)) (m ((c.tc : Thread Cert.FirstfIdeal.nD Cert.FirstfIdeal.τ).loc Cert.FirstfIdeal.main_arg4)) (m ((c.tc : Thread Cert.FirstfIdeal.nD Cert.FirstfIdeal.τ).loc Cert.FirstfIdeal.main_arg5)) (m ((c.tc : Thread Cert.FirstfIdeal.nD Cert.FirstfIdeal.τ).loc Cert.FirstfIdeal.main_arg7)), fun c => Cert.FirstfRefIdeal.Read.val_main_v52 (F := Ideal) (m ((c.tc : Thread Cert.FirstfIdeal.nD Cert.FirstfIdeal.τ).loc Cert.FirstfIdeal.main_arg0)) (m ((c.tc : Thread Cert.FirstfIdeal.nD Cert.FirstfIdeal.τ).loc Cert.FirstfIdeal.main_arg2)) (m ((c.tc : Thread Cert.FirstfIdeal.nD Cert.FirstfIdeal.τ).loc Cert.FirstfIdeal.main_arg4)) (m ((c.tc : Thread Cert.FirstfIdeal.nD Cert.FirstfIdeal.τ).loc Cert.FirstfIdeal.main_arg5)) (m ((c.tc : Thread Cert.FirstfIdeal.nD Cert.FirstfIdeal.τ).loc Cert.FirstfIdeal.main_arg8)), fun c => Cert.FirstfRefIdeal.Read.val_main_v57 (F := Ideal) (m ((c.tc : Thread Cert.FirstfIdeal.nD Cert.FirstfIdeal.τ).loc Cert.FirstfIdeal.main_arg0)) (m ((c.tc : Thread Cert.FirstfIdeal.nD Cert.FirstfIdeal.τ).loc Cert.FirstfIdeal.main_arg3)) (m ((c.tc : Thread Cert.FirstfIdeal.nD Cert.FirstfIdeal.τ).loc Cert.FirstfIdeal.main_arg4)) (m ((c.tc : Thread Cert.FirstfIdeal.nD Cert.FirstfIdeal.τ).loc Cert.FirstfIdeal.main_arg5)) (m ((c.tc : Thread Cert.FirstfIdeal.nD Cert.FirstfIdeal.τ).loc Cert.FirstfIdeal.main_arg9)), run_ker m g, θ_run_mono (run_ref m' g') fun r h c => ?_⟩
  obtain ⟨a0, a1, a2, a3, a4, a5, a6, a7, a8, a9⟩ := hagree c
  exact ⟨(h c).1.trans (congr (congr (congr (congrArg (Cert.FirstfRefIdeal.Read.val_main_v42 (F := Ideal)) a0) a4) a5) a6),
    (h c).2.1.trans (congr (congr (congr (congr (congr (congr (congrArg (Cert.FirstfRefIdeal.Read.val_main_v47 (F := Ideal)) a0) a1) a2) a3) a4) a5) a7),
    (h c).2.2.1.trans (congr (congr (congr (congr (congrArg (Cert.FirstfRefIdeal.Read.val_main_v52 (F := Ideal)) a0) a2) a4) a5) a8),
    (h c).2.2.2.1.trans (congr (congr (congr (congr (congrArg (Cert.FirstfRefIdeal.Read.val_main_v57 (F := Ideal)) a0) a3) a4) a5) a9), (h c).2.2.2.2⟩

end Cert.FirstfClaims

end
-- ==== Proof.FirstoRef.lean ====
/- The step of layer 0 of the output projection: its reference at an index. -/
module

public import proofs.«01_k».proof.Proof.Gen.FirstoRefIdeal.Read
public import proofs.«01_k».proof.Proof.RideRef
public import Idealize.ShloMosaic.Lib.Pipeline.ValueKit

@[expose] public section

set_option maxRecDepth 16384

noncomputable section

namespace Cert.FirstoRefIdeal.At

open Cert.FirstoRefIdeal Cert.FirstoRefIdeal.Gen Cert.FirstoRefIdeal.Read
open Idealize.ShloMosaic Idealize.ShloMosaic.TcCoe Idealize.SL.Sem
open Cert.RideRefIdeal.At (pick whole moment square step)

variable (b : Vec Ideal S1 .i32) (w m v : FVec Ideal S2x256x2048 .f32) (l s : FVec Ideal S4x256x2048 .bf16) (i : Fin 256) (j : Fin 2048)

/-- Of one chip's place: its own sum where the place is this chip's, else what landed there. -/
theorem at11 (k : Fin 4) : val_main_v11 (F := Ideal) b l s (ix3 k i j) = pick (b (ix1 0)) (BitVec.ofNat 32 k.val) (s (ix3 k i j)) (l (ix3 k i j)) := by
  unfold pick
  pointwise [val_main_v11, val_main_call0_v0, val_main_v10, val_main_v9, val_main_v8, val_main_v7, val_main_v6]
  simp only [Scalar.select, IntOp.cmpi]
  by_cases h : b (ix1 0) = BitVec.ofNat 32 k.val
  · simp [h]
  · have e : (BitVec.ofNat 32 k.val == b (ix1 0)) = false := beq_false_of_ne (Ne.symm h)
    simp [e, h]

/-- The whole gradient, -/
theorem at13 : val_main_v13 (F := Ideal) b l s (ix2 i j) = whole (b (ix1 0)) (fun k => s (ix3 k i j)) (fun k => l (ix3 k i j)) := by
  unfold val_main_v13 val_main_v12
  have e := at11 b l s i j
  generalize val_main_v11 (F := Ideal) b l s = p at e ⊢
  pointwise [val_main_cst]
  unfold whole
  rw [Fin.sum_univ_four, e 0, e 1, e 2, e 3]
  rfl

/-- the first moment, -/
theorem at18 : val_main_v18 (F := Ideal) b m l s (ix2 i j) = moment (val_main_v13 (F := Ideal) b l s (ix2 i j)) (m (ix3 0 i j)) := by
  unfold moment val_main_v18 val_main_v17
  generalize val_main_v13 (F := Ideal) b l s = g
  pointwise [val_main_v16, val_main_cst_1, val_main_v15, val_main_v14, val_main_cst_0, val_main_v3, val_main_v2]

/-- the second -/
theorem at24 : val_main_v24 (F := Ideal) b v l s (ix2 i j) = square (val_main_v13 (F := Ideal) b l s (ix2 i j)) (v (ix3 0 i j)) := by
  unfold square val_main_v24 val_main_v23 val_main_v21
  generalize val_main_v13 (F := Ideal) b l s = g
  pointwise [val_main_v22, val_main_cst_3, val_main_v20, val_main_v19, val_main_cst_2, val_main_v5, val_main_v4]

/-- and the step. -/
theorem at37 : val_main_v37 (F := Ideal) b w m v l s (ix2 i j)
    = step (w (ix3 0 i j)) (val_main_v13 (F := Ideal) b l s (ix2 i j)) (m (ix3 0 i j)) (v (ix3 0 i j)) := by
  unfold step
  rw [← at18, ← at24]
  unfold val_main_v37 val_main_v35 val_main_v32 val_main_v31 val_main_v29 val_main_v28 val_main_v26
  generalize val_main_v18 (F := Ideal) b m l s = a
  generalize val_main_v24 (F := Ideal) b v l s = c
  pointwise [val_main_v36, val_main_cst_8, val_main_v34, val_main_v33, val_main_cst_7, val_main_v30, val_main_cst_6, val_main_v27, val_main_cst_5, val_main_v25, val_main_cst_4, val_main_v1, val_main_v0]

/-- Two layers, one of each array, at an index of the first -/
theorem stack_first (x y : FVec Ideal S1x256x2048 .f32) :
    concatenate S2x256x2048 0 [⟨S1x256x2048, x⟩, ⟨S1x256x2048, y⟩] concatenates_S1x256x2048_S1x256x2048_S2x256x2048_d0 (ix3 0 i j) = x (ix3 0 i j) :=
  concatenate_pair_apply_left (t := S2x256x2048) (s₁ := S1x256x2048) (s₂ := S1x256x2048) 0 x y _ (ix3 0 i j) rfl (ix3 0 i j) fun a => by
    fin_cases a <;> rfl

/-- and of the second. -/
theorem stack_last (x y : FVec Ideal S1x256x2048 .f32) :
    concatenate S2x256x2048 0 [⟨S1x256x2048, x⟩, ⟨S1x256x2048, y⟩] concatenates_S1x256x2048_S1x256x2048_S2x256x2048_d0 (ix3 1 i j) = y (ix3 0 i j) := by
  refine concatenate_pair_apply_right (t := S2x256x2048) (s₁ := S1x256x2048) (s₂ := S1x256x2048) 0 x y _ (ix3 1 i j) rfl rfl (ix3 0 i j) (fun a ha => ?_) ?_
  · match a, ha with
    | ⟨0, _⟩, h => exact absurd rfl h
    | ⟨1, _⟩, _ => rfl
    | ⟨2, _⟩, _ => rfl
  · rfl

variable (p : FVec Ideal S2x256x2048 .f32)

theorem at42_first : val_main_v42 (F := Ideal) b l s p (ix3 0 i j) = val_main_v13 (F := Ideal) b l s (ix2 i j) := by
  refine (stack_first i j _ _).trans ?_
  unfold val_main_v40
  generalize val_main_v13 (F := Ideal) b l s = g
  pointwise

theorem at42_last : val_main_v42 (F := Ideal) b l s p (ix3 1 i j) = p (ix3 1 i j) := by
  refine (stack_last i j _ _).trans ?_
  pointwise [val_main_v41, val_main_v39, val_main_v38]

theorem at47_first : val_main_v47 (F := Ideal) b w m v l s p (ix3 0 i j) = val_main_v37 (F := Ideal) b w m v l s (ix2 i j) := by
  refine (stack_first i j _ _).trans ?_
  unfold val_main_v45
  generalize val_main_v37 (F := Ideal) b w m v l s = g
  pointwise

theorem at47_last : val_main_v47 (F := Ideal) b w m v l s p (ix3 1 i j) = p (ix3 1 i j) := by
  refine (stack_last i j _ _).trans ?_
  pointwise [val_main_v46, val_main_v44, val_main_v43]

theorem at52_first : val_main_v52 (F := Ideal) b m l s p (ix3 0 i j) = val_main_v18 (F := Ideal) b m l s (ix2 i j) := by
  refine (stack_first i j _ _).trans ?_
  unfold val_main_v50
  generalize val_main_v18 (F := Ideal) b m l s = g
  pointwise

theorem at52_last : val_main_v52 (F := Ideal) b m l s p (ix3 1 i j) = p (ix3 1 i j) := by
  refine (stack_last i j _ _).trans ?_
  pointwise [val_main_v51, val_main_v49, val_main_v48]

theorem at57_first : val_main_v57 (F := Ideal) b v l s p (ix3 0 i j) = val_main_v24 (F := Ideal) b v l s (ix2 i j) := by
  refine (stack_first i j _ _).trans ?_
  unfold val_main_v55
  generalize val_main_v24 (F := Ideal) b v l s = g
  pointwise

theorem at57_last : val_main_v57 (F := Ideal) b v l s p (ix3 1 i j) = p (ix3 1 i j) := by
  refine (stack_last i j _ _).trans ?_
  pointwise [val_main_v56, val_main_v54, val_main_v53]

end Cert.FirstoRefIdeal.At

end
-- ==== Proof.FirstoValue.lean ====
/- The step of layer 0 of the output projection: tile by tile, the kernel's arrays are the reference's on that layer. -/
module

public import proofs.«01_k».proof.Proof.Gen.FirstoIdeal.Frame
public import proofs.«01_k».proof.Proof.FirstoRef
public import Idealize.ShloMosaic.Lib.Pipeline.ValueKit
public import Idealize.ShloMosaic.Lib.Pipeline.ReadBack

@[expose] public section

set_option maxRecDepth 16384

noncomputable section

namespace Cert.FirstoIdeal.Bridge

open Cert.FirstoIdeal Cert.FirstoIdeal.Gen Idealize.ShloMosaic Idealize.ShloMosaic.TcCoe Idealize.SL.Sem
open Idealize.ShloMosaic.Pipeline (Dat)
open Cert.RideRefIdeal.At (pick whole moment square step)

/-- A place's row, chosen. -/
theorem select_eq (b k : BitVec 32) (s l : FVec Ideal S128x2048 .bf16) (y : S128x2048.Idx) :
    Scalar.select (Scalar.cmpi .eq b k) s l y = pick b k (s y) (l y) := by
  unfold pick
  simp only [Scalar.select, Scalar.cmpi, IntOp.cmpi]
  by_cases h : b = k
  · simp [h]
  · have e : (b == k) = false := beq_false_of_ne h
    simp [e, h]

section
variable (b : BitVec 32) (s0 s1 s2 s3 l0 l1 l2 l3 : FVec Ideal S1x128x2048 .bf16) (i : Fin 128) (j : Fin 2048)

/-- The four chips' rows, in the order they are added. -/
abbrev four (r0 r1 r2 r3 : FVec Ideal S1x128x2048 .bf16) (i : Fin 128) (j : Fin 2048) : Fin 4 → EReal :=
  ![r0 (ix3 0 i j), r1 (ix3 0 i j), r2 (ix3 0 i j), r3 (ix3 0 i j)]

/-- The whole gradient in a tile. -/
abbrev grad : FVec Ideal S128x2048 .f32 :=
  k0_pay6 (F := Ideal) (k0_pay4 (F := Ideal) b s0 l0 b s1 l1 b s2 l2) (Scalar.cmpi .eq b 3#32) (k0_pay5 (F := Ideal) s3) l3

theorem grad_at : grad b s0 s1 s2 s3 l0 l1 l2 l3 (ix2 i j) = whole b (four s0 s1 s2 s3 i j) (four l0 l1 l2 l3 i j) := by
  unfold grad whole
  pointwise [k0_pay6, k0_pay4, k0_pay5, select_eq]

end

section
variable (p : FVec Ideal S128x2048 .f32) (k : BitVec 1) (q : FVec Ideal S128x2048 .bf16) (u : FVec Ideal S1x128x2048 .bf16) (m v w : FVec Ideal S1x128x2048 .f32)
  (i : Fin 128) (j : Fin 2048)

/-- The gradient as it is stored, -/
theorem pay9_at : k0_pay9 (F := Ideal) p k q u (ix3 0 i j) = k0_pay6 (F := Ideal) p k q u (ix2 i j) := by
  unfold k0_pay9
  generalize k0_pay6 (F := Ideal) p k q u = g
  pointwise

/-- the first moment, -/
theorem pay7_at : k0_pay7 (F := Ideal) p k q u m (ix2 i j) = moment (k0_pay6 (F := Ideal) p k q u (ix2 i j)) (m (ix3 0 i j)) := by
  unfold moment k0_pay7
  generalize k0_pay6 (F := Ideal) p k q u = g
  pointwise

theorem pay2_at : k0_pay2 (F := Ideal) p (ix3 0 i j) = p (ix2 i j) := by pointwise [k0_pay2]

/-- the second -/
theorem pay8_at : k0_pay8 (F := Ideal) p k q u v (ix2 i j) = square (k0_pay6 (F := Ideal) p k q u (ix2 i j)) (v (ix3 0 i j)) := by
  unfold square k0_pay8
  generalize k0_pay6 (F := Ideal) p k q u = g
  pointwise

theorem pay3_at : k0_pay3 (F := Ideal) p (ix3 0 i j) = p (ix2 i j) := by pointwise [k0_pay3]

/-- and the step. -/
theorem pay1_at : k0_pay1 (F := Ideal) (k0_pay10 (F := Ideal) p k q u m v w) (ix3 0 i j)
    = step (w (ix3 0 i j)) (k0_pay6 (F := Ideal) p k q u (ix2 i j)) (m (ix3 0 i j)) (v (ix3 0 i j)) := by
  unfold step
  rw [← pay7_at, ← pay8_at]
  unfold k0_pay1 k0_pay10
  generalize k0_pay7 (F := Ideal) p k q u m = a
  generalize k0_pay8 (F := Ideal) p k q u v = b
  pointwise

end

/-- No index map reads the table, so any contents of it will do to read the windows' geometry. -/
abbrev any : (pcfg0 (F := Ideal)).Adm := ⟨Fin.cases (fun _ => (0#32 : BitVec 32)) fun j => j.elim0, trivial⟩

/-- Every window's block at a grid point: the point is the row tile. -/
theorem idx (a : (pcfg0 (F := Ideal)).Adm) : ∀ t : Fin (cfg0 a).N, ((cfg0 a).win 0).index t = ![0, t.val, 0] ∧ ((cfg0 a).win 1).index t = ![0, t.val, 0] ∧ ((cfg0 a).win 2).index t = ![0, t.val, 0] ∧ ((cfg0 a).win 3).index t = ![0, t.val, 0] ∧ ((cfg0 a).win 4).index t = ![0, t.val, 0] ∧ ((cfg0 a).win 5).index t = ![0, t.val, 0] ∧ ((cfg0 a).win 6).index t = ![0, t.val, 0] ∧ ((cfg0 a).win 7).index t = ![0, t.val, 0] ∧ ((cfg0 a).win 8).index t = ![0, t.val, 0] :=
  (by decide +kernel : ∀ t : Fin (cfg0 (F := Ideal) any).N, ((cfg0 (F := Ideal) any).win 0).index t = ![0, t.val, 0] ∧ ((cfg0 (F := Ideal) any).win 1).index t = ![0, t.val, 0] ∧ ((cfg0 (F := Ideal) any).win 2).index t = ![0, t.val, 0] ∧ ((cfg0 (F := Ideal) any).win 3).index t = ![0, t.val, 0] ∧ ((cfg0 (F := Ideal) any).win 4).index t = ![0, t.val, 0] ∧ ((cfg0 (F := Ideal) any).win 5).index t = ![0, t.val, 0] ∧ ((cfg0 (F := Ideal) any).win 6).index t = ![0, t.val, 0] ∧ ((cfg0 (F := Ideal) any).win 7).index t = ![0, t.val, 0] ∧ ((cfg0 (F := Ideal) any).win 8).index t = ![0, t.val, 0])

/-- The tiles written back are layer 0's. -/
theorem covers5 (a : (pcfg0 (F := Ideal)).Adm) : ((cfg0 a).win 5).CoversWhere fun β : Fin 3 → Nat => β 0 = 0 :=
  (by decide +kernel : ((cfg0 (F := Ideal) any).win 5).CoversWhere fun β : Fin 3 → Nat => β 0 = 0)
theorem covers6 (a : (pcfg0 (F := Ideal)).Adm) : ((cfg0 a).win 6).CoversWhere fun β : Fin 3 → Nat => β 0 = 0 :=
  (by decide +kernel : ((cfg0 (F := Ideal) any).win 6).CoversWhere fun β : Fin 3 → Nat => β 0 = 0)
theorem covers7 (a : (pcfg0 (F := Ideal)).Adm) : ((cfg0 a).win 7).CoversWhere fun β : Fin 3 → Nat => β 0 = 0 :=
  (by decide +kernel : ((cfg0 (F := Ideal) any).win 7).CoversWhere fun β : Fin 3 → Nat => β 0 = 0)
theorem covers8 (a : (pcfg0 (F := Ideal)).Adm) : ((cfg0 a).win 8).CoversWhere fun β : Fin 3 → Nat => β 0 = 0 :=
  (by decide +kernel : ((cfg0 (F := Ideal) any).win 8).CoversWhere fun β : Fin 3 → Nat => β 0 = 0)

variable (m : (ℓ : Loc nD τ sig) → Buf (Elt Ideal) ℓ) (hO : Ok m)

/-- The argument arrays. -/
abbrev A0 (c : Dev nD) : Vec Ideal S1 .i32 := m ((c : Thread nD τ).loc main_arg0)
abbrev A1 (c : Dev nD) : FVec Ideal S2x256x2048 .f32 := m ((c : Thread nD τ).loc main_arg1)
abbrev A2 (c : Dev nD) : FVec Ideal S2x256x2048 .f32 := m ((c : Thread nD τ).loc main_arg2)
abbrev A3 (c : Dev nD) : FVec Ideal S2x256x2048 .f32 := m ((c : Thread nD τ).loc main_arg3)
abbrev A4 (c : Dev nD) : FVec Ideal S4x256x2048 .bf16 := m ((c : Thread nD τ).loc main_arg4)
abbrev A5 (c : Dev nD) : FVec Ideal S4x256x2048 .bf16 := m ((c : Thread nD τ).loc main_arg5)
abbrev A6 (c : Dev nD) : FVec Ideal S2x256x2048 .f32 := m ((c : Thread nD τ).loc main_arg6)
abbrev A7 (c : Dev nD) : FVec Ideal S2x256x2048 .f32 := m ((c : Thread nD τ).loc main_arg7)
abbrev A8 (c : Dev nD) : FVec Ideal S2x256x2048 .f32 := m ((c : Thread nD τ).loc main_arg8)
abbrev A9 (c : Dev nD) : FVec Ideal S2x256x2048 .f32 := m ((c : Thread nD τ).loc main_arg9)

/-- The tile's rows. -/
theorem lt_N (t : Fin (cfgM m hO).N) : t.val < 2 := lt_of_lt_of_eq t.isLt (by decide +kernel : (cfg0 (F := Ideal) any).N = 2)
abbrev row (t : Fin (cfgM m hO).N) (r : Fin 128) : Fin 256 := ⟨t.val * 128 + r.val, by have := lt_N m hO t; omega⟩

section
variable (c : Dev nD) (t : Fin (cfgM m hO).N)

theorem w_at (i : Fin 128) (j : Fin 2048) : (show FVec Ideal S1x128x2048 .f32 from iblk m hO c 0 t) (ix3 0 i j) = A1 m c (ix3 0 (row m hO t i) j) := by
  blk_point [iblk, V, idx (adm m hO) t]

theorem m_at (i : Fin 128) (j : Fin 2048) : (show FVec Ideal S1x128x2048 .f32 from iblk m hO c 1 t) (ix3 0 i j) = A2 m c (ix3 0 (row m hO t i) j) := by
  blk_point [iblk, V, idx (adm m hO) t]

theorem v_at (i : Fin 128) (j : Fin 2048) : (show FVec Ideal S1x128x2048 .f32 from iblk m hO c 2 t) (ix3 0 i j) = A3 m c (ix3 0 (row m hO t i) j) := by
  blk_point [iblk, V, idx (adm m hO) t]

theorem l_at (k : Fin 4) (i : Fin 128) (j : Fin 2048) : (show FVec Ideal S4x128x2048 .bf16 from iblk m hO c 3 t) (ix3 k i j) = A4 m c (ix3 k (row m hO t i) j) := by
  blk_point [iblk, V, idx (adm m hO) t]

theorem s_at (k : Fin 4) (i : Fin 128) (j : Fin 2048) : (show FVec Ideal S4x128x2048 .bf16 from iblk m hO c 4 t) (ix3 k i j) = A5 m c (ix3 k (row m hO t i) j) := by
  blk_point [iblk, V, idx (adm m hO) t]

end

/-- One chip's rows of a tile of all four's. -/
theorem ld_row (x : FVec Ideal S4x128x2048 .bf16) (k : Fin 4) (h : ∀ d, (![k.val, 0, 0] : Fin 3 → Nat) d + S1x128x2048.size d ≤ S4x128x2048.size d)
    (i : Fin 128) (j : Fin 2048) :
    View.ld (Val := Elt Ideal) (e' := .bf16) x (Rect.unit (s := S4x128x2048) ![k.val, 0, 0] S1x128x2048.size h) (ix3 0 i j) = x (ix3 k i j) := by
  refine View.ld_unit_apply_of _ _ _ _ _ _ fun d => ?_
  fin_cases d
  · show k.val = k.val + 0
    omega
  · show i.val = 0 + i.val
    omega
  · show j.val = 0 + j.val
    omega

/-- The place of this chip, read from the table. -/
theorem chip (c : Dev nD) (h : ∀ d, (![0] : Fin 1 → Nat) d + Shape.size S1 d ≤ Shape.size S1 d) (y : Shape.Idx S1) :
    View.readAt (Elt Ideal) (View.whole main_arg0) (Rect.unit (s := S1) ![0] (Shape.size S1) h).toLoadRect (tbl m 0) y = A0 m c (ix1 0) := by
  obtain rfl : c = 0 := Subsingleton.elim _ _
  refine congrArg (A0 m 0) (funext fun d => ?_)
  fin_cases d
  exact Subsingleton.elim (α := Fin 1) _ _

section
variable (c : Dev nD) (t : Fin (cfgM m hO).N) (i : Fin 128) (j : Fin 2048)

theorem four_eq (x : FVec Ideal S4x128x2048 .bf16) :
    four
        (View.ld (Val := Elt Ideal) (e' := .bf16) x (Rect.unit (s := S4x128x2048) ![0, 0, 0] S1x128x2048.size inb_S4x128x2048_S1x128x2048_0_0_0))
        (View.ld (Val := Elt Ideal) (e' := .bf16) x (Rect.unit (s := S4x128x2048) ![1, 0, 0] S1x128x2048.size inb_S4x128x2048_S1x128x2048_1_0_0))
        (View.ld (Val := Elt Ideal) (e' := .bf16) x (Rect.unit (s := S4x128x2048) ![2, 0, 0] S1x128x2048.size inb_S4x128x2048_S1x128x2048_2_0_0))
        (View.ld (Val := Elt Ideal) (e' := .bf16) x (Rect.unit (s := S4x128x2048) ![3, 0, 0] S1x128x2048.size inb_S4x128x2048_S1x128x2048_3_0_0)) i j
      = fun k => x (ix3 k i j) := by
  funext k
  fin_cases k
  · exact ld_row x 0 _ i j
  · exact ld_row x 1 _ i j
  · exact ld_row x 2 _ i j
  · exact ld_row x 3 _ i j

/-- The whole gradient in a point's tile is the reference's. -/
theorem grad_point (b : BitVec 32) (hb : b = A0 m c (ix1 0)) :
    grad b
        (View.ld (Val := Elt Ideal) (e' := .bf16) (iblk m hO c 4 t) (Rect.unit (s := S4x128x2048) ![0, 0, 0] S1x128x2048.size inb_S4x128x2048_S1x128x2048_0_0_0))
        (View.ld (Val := Elt Ideal) (e' := .bf16) (iblk m hO c 4 t) (Rect.unit (s := S4x128x2048) ![1, 0, 0] S1x128x2048.size inb_S4x128x2048_S1x128x2048_1_0_0))
        (View.ld (Val := Elt Ideal) (e' := .bf16) (iblk m hO c 4 t) (Rect.unit (s := S4x128x2048) ![2, 0, 0] S1x128x2048.size inb_S4x128x2048_S1x128x2048_2_0_0))
        (View.ld (Val := Elt Ideal) (e' := .bf16) (iblk m hO c 4 t) (Rect.unit (s := S4x128x2048) ![3, 0, 0] S1x128x2048.size inb_S4x128x2048_S1x128x2048_3_0_0))
        (View.ld (Val := Elt Ideal) (e' := .bf16) (iblk m hO c 3 t) (Rect.unit (s := S4x128x2048) ![0, 0, 0] S1x128x2048.size inb_S4x128x2048_S1x128x2048_0_0_0))
        (View.ld (Val := Elt Ideal) (e' := .bf16) (iblk m hO c 3 t) (Rect.unit (s := S4x128x2048) ![1, 0, 0] S1x128x2048.size inb_S4x128x2048_S1x128x2048_1_0_0))
        (View.ld (Val := Elt Ideal) (e' := .bf16) (iblk m hO c 3 t) (Rect.unit (s := S4x128x2048) ![2, 0, 0] S1x128x2048.size inb_S4x128x2048_S1x128x2048_2_0_0))
        (View.ld (Val := Elt Ideal) (e' := .bf16) (iblk m hO c 3 t) (Rect.unit (s := S4x128x2048) ![3, 0, 0] S1x128x2048.size inb_S4x128x2048_S1x128x2048_3_0_0)) (ix2 i j)
      = Cert.FirstoRefIdeal.Read.val_main_v13 (F := Ideal) (A0 m c) (A4 m c) (A5 m c) (ix2 (row m hO t i) j) := by
  refine (grad_at _ _ _ _ _ _ _ _ _ i j).trans ?_
  rw [Cert.FirstoRefIdeal.At.at13]
  have es : (fun k => (show FVec Ideal S4x128x2048 .bf16 from iblk m hO c 4 t) (ix3 k i j)) = fun k => A5 m c (ix3 k (row m hO t i) j) :=
    funext fun k => s_at m hO c t k i j
  have el : (fun k => (show FVec Ideal S4x128x2048 .bf16 from iblk m hO c 3 t) (ix3 k i j)) = fun k => A4 m c (ix3 k (row m hO t i) j) :=
    funext fun k => l_at m hO c t k i j
  exact congr (congr (congrArg whole hb) ((four_eq i j _).trans es)) ((four_eq i j _).trans el)

end

/-- The gradient's layer written, -/
theorem tile5 (c : Dev nD) (i : Fin 256) (j : Fin 2048) :
    (show FVec Ideal S2x256x2048 .f32 from (dats m hO 0 c).arrAt 5 (cfgM m hO).N) (ix3 0 i j) = Cert.FirstoRefIdeal.Read.val_main_v13 (F := Ideal) (A0 m c) (A4 m c) (A5 m c) (ix2 i j) := by
  refine ((dats m hO 0 c).arrAt_apply_of_coversWhere 5
    (fun q : S2x256x2048.Idx => Cert.FirstoRefIdeal.Read.val_main_v13 (F := Ideal) (A0 m c) (A4 m c) (A5 m c) (ix2 (q 1) (q 2)))
    (P := fun q : S2x256x2048.Idx => (q 0).val = 0) (fun β : Fin 3 → Nat => β 0 = 0) (covers5 (adm m hO)) (fun t _ y => ?_)
    (fun j : S2x256x2048.Idx => by show (j 0).val = 0 ↔ (j 0).val / 1 = 0; rw [Nat.div_one]) _).trans (if_pos rfl)
  blk_simp
  rw [after0_5]
  revert y
  show ∀ y : S1x128x2048.Idx, _
  intro y
  idx_vars y
  obtain rfl : y0 = 0 := Subsingleton.elim _ _
  refine Eq.trans ?_ ((Cert.FirstoRefIdeal.At.at13 _ _ _ (row m hO t y1) y2).symm.trans <| congrArg _ (by blk_ext [idx (adm m hO) t]))
  dsimp only [outsAt0]
  frame_out
  rw [(hs0_3 m hO t).read_unread (iblk m hO c 3 t), (hs0_4 m hO t).read_unread (iblk m hO c 4 t)]
  rw [← Cert.FirstoRefIdeal.At.at13]
  exact (pay9_at _ _ _ _ y1 y2).trans (grad_point m hO c t y1 y2 _ (chip m c _ _))

/-- the step's, -/
theorem tile6 (c : Dev nD) (i : Fin 256) (j : Fin 2048) :
    (show FVec Ideal S2x256x2048 .f32 from (dats m hO 0 c).arrAt 6 (cfgM m hO).N) (ix3 0 i j) = Cert.FirstoRefIdeal.Read.val_main_v37 (F := Ideal) (A0 m c) (A1 m c) (A2 m c) (A3 m c) (A4 m c) (A5 m c) (ix2 i j) := by
  refine ((dats m hO 0 c).arrAt_apply_of_coversWhere 6
    (fun q : S2x256x2048.Idx => Cert.FirstoRefIdeal.Read.val_main_v37 (F := Ideal) (A0 m c) (A1 m c) (A2 m c) (A3 m c) (A4 m c) (A5 m c) (ix2 (q 1) (q 2)))
    (P := fun q : S2x256x2048.Idx => (q 0).val = 0) (fun β : Fin 3 → Nat => β 0 = 0) (covers6 (adm m hO)) (fun t _ y => ?_)
    (fun j : S2x256x2048.Idx => by show (j 0).val = 0 ↔ (j 0).val / 1 = 0; rw [Nat.div_one]) _).trans (if_pos rfl)
  blk_simp
  rw [after0_6]
  revert y
  show ∀ y : S1x128x2048.Idx, _
  intro y
  idx_vars y
  obtain rfl : y0 = 0 := Subsingleton.elim _ _
  refine Eq.trans ?_ ((Cert.FirstoRefIdeal.At.at37 _ _ _ _ _ _ (row m hO t y1) y2).symm.trans <| congrArg _ (by blk_ext [idx (adm m hO) t]))
  dsimp only [outsAt0]
  frame_out
  rw [(hs0_0 m hO t).read_unread (iblk m hO c 0 t), (hs0_1 m hO t).read_unread (iblk m hO c 1 t), (hs0_2 m hO t).read_unread (iblk m hO c 2 t), (hs0_3 m hO t).read_unread (iblk m hO c 3 t), (hs0_4 m hO t).read_unread (iblk m hO c 4 t)]
  refine (pay1_at _ _ _ _ _ _ _ y1 y2).trans ?_
  exact congr (congr (congr (congrArg step (w_at m hO c t y1 y2)) (grad_point m hO c t y1 y2 _ (chip m c _ _))) (m_at m hO c t y1 y2)) (v_at m hO c t y1 y2)

/-- the first moment's -/
theorem tile7 (c : Dev nD) (i : Fin 256) (j : Fin 2048) :
    (show FVec Ideal S2x256x2048 .f32 from (dats m hO 0 c).arrAt 7 (cfgM m hO).N) (ix3 0 i j) = Cert.FirstoRefIdeal.Read.val_main_v18 (F := Ideal) (A0 m c) (A2 m c) (A4 m c) (A5 m c) (ix2 i j) := by
  refine ((dats m hO 0 c).arrAt_apply_of_coversWhere 7
    (fun q : S2x256x2048.Idx => Cert.FirstoRefIdeal.Read.val_main_v18 (F := Ideal) (A0 m c) (A2 m c) (A4 m c) (A5 m c) (ix2 (q 1) (q 2)))
    (P := fun q : S2x256x2048.Idx => (q 0).val = 0) (fun β : Fin 3 → Nat => β 0 = 0) (covers7 (adm m hO)) (fun t _ y => ?_)
    (fun j : S2x256x2048.Idx => by show (j 0).val = 0 ↔ (j 0).val / 1 = 0; rw [Nat.div_one]) _).trans (if_pos rfl)
  blk_simp
  rw [after0_7]
  revert y
  show ∀ y : S1x128x2048.Idx, _
  intro y
  idx_vars y
  obtain rfl : y0 = 0 := Subsingleton.elim _ _
  refine Eq.trans ?_ ((Cert.FirstoRefIdeal.At.at18 _ _ _ _ (row m hO t y1) y2).symm.trans <| congrArg _ (by blk_ext [idx (adm m hO) t]))
  dsimp only [outsAt0]
  frame_out
  rw [(hs0_1 m hO t).read_unread (iblk m hO c 1 t), (hs0_3 m hO t).read_unread (iblk m hO c 3 t), (hs0_4 m hO t).read_unread (iblk m hO c 4 t)]
  refine (pay2_at _ y1 y2).trans ((pay7_at _ _ _ _ _ y1 y2).trans ?_)
  exact congr (congrArg moment (grad_point m hO c t y1 y2 _ (chip m c _ _))) (m_at m hO c t y1 y2)

/-- and the second's. -/
theorem tile8 (c : Dev nD) (i : Fin 256) (j : Fin 2048) :
    (show FVec Ideal S2x256x2048 .f32 from (dats m hO 0 c).arrAt 8 (cfgM m hO).N) (ix3 0 i j) = Cert.FirstoRefIdeal.Read.val_main_v24 (F := Ideal) (A0 m c) (A3 m c) (A4 m c) (A5 m c) (ix2 i j) := by
  refine ((dats m hO 0 c).arrAt_apply_of_coversWhere 8
    (fun q : S2x256x2048.Idx => Cert.FirstoRefIdeal.Read.val_main_v24 (F := Ideal) (A0 m c) (A3 m c) (A4 m c) (A5 m c) (ix2 (q 1) (q 2)))
    (P := fun q : S2x256x2048.Idx => (q 0).val = 0) (fun β : Fin 3 → Nat => β 0 = 0) (covers8 (adm m hO)) (fun t _ y => ?_)
    (fun j : S2x256x2048.Idx => by show (j 0).val = 0 ↔ (j 0).val / 1 = 0; rw [Nat.div_one]) _).trans (if_pos rfl)
  blk_simp
  rw [after0_8]
  revert y
  show ∀ y : S1x128x2048.Idx, _
  intro y
  idx_vars y
  obtain rfl : y0 = 0 := Subsingleton.elim _ _
  refine Eq.trans ?_ ((Cert.FirstoRefIdeal.At.at24 _ _ _ _ (row m hO t y1) y2).symm.trans <| congrArg _ (by blk_ext [idx (adm m hO) t]))
  dsimp only [outsAt0]
  frame_out
  rw [(hs0_2 m hO t).read_unread (iblk m hO c 2 t), (hs0_3 m hO t).read_unread (iblk m hO c 3 t), (hs0_4 m hO t).read_unread (iblk m hO c 4 t)]
  refine (pay3_at _ y1 y2).trans ((pay8_at _ _ _ _ _ y1 y2).trans ?_)
  exact congr (congrArg square (grad_point m hO c t y1 y2 _ (chip m c _ _))) (v_at m hO c t y1 y2)

theorem entry5 (c : Dev nD) : V m c main_v0_0 = A6 m c := by
  unfold V
  after_results
  rfl

/-- The layer kept: the gradient's, -/
theorem kept5 (c : Dev nD) (i : Fin 256) (j : Fin 2048) :
    (show FVec Ideal S2x256x2048 .f32 from (dats m hO 0 c).arrAt 5 (cfgM m hO).N) (ix3 1 i j) = A6 m c (ix3 1 i j) := by
  have e : (show FVec Ideal S2x256x2048 .f32 from (dats m hO 0 c).arrAt 5 (cfgM m hO).N) (ix3 1 i j) = (show FVec Ideal S2x256x2048 .f32 from (dats m hO 0 c).A 5) (ix3 1 i j) :=
    (dats m hO 0 c).arrAt_emb_eq_entry 5 _ (covers5 (adm m hO)) (ix3 (1 : Fin 2) i j) (by show ¬ (1 / 1 = 0); omega)
  rw [e, A_eq]
  exact congrFun (entry5 m c) _

theorem entry6 (c : Dev nD) : V m c main_v0_1 = A7 m c := by
  unfold V
  after_results
  rfl

/-- the step's, -/
theorem kept6 (c : Dev nD) (i : Fin 256) (j : Fin 2048) :
    (show FVec Ideal S2x256x2048 .f32 from (dats m hO 0 c).arrAt 6 (cfgM m hO).N) (ix3 1 i j) = A7 m c (ix3 1 i j) := by
  have e : (show FVec Ideal S2x256x2048 .f32 from (dats m hO 0 c).arrAt 6 (cfgM m hO).N) (ix3 1 i j) = (show FVec Ideal S2x256x2048 .f32 from (dats m hO 0 c).A 6) (ix3 1 i j) :=
    (dats m hO 0 c).arrAt_emb_eq_entry 6 _ (covers6 (adm m hO)) (ix3 (1 : Fin 2) i j) (by show ¬ (1 / 1 = 0); omega)
  rw [e, A_eq]
  exact congrFun (entry6 m c) _

theorem entry7 (c : Dev nD) : V m c main_v0_2 = A8 m c := by
  unfold V
  after_results
  rfl

/-- the first moment's -/
theorem kept7 (c : Dev nD) (i : Fin 256) (j : Fin 2048) :
    (show FVec Ideal S2x256x2048 .f32 from (dats m hO 0 c).arrAt 7 (cfgM m hO).N) (ix3 1 i j) = A8 m c (ix3 1 i j) := by
  have e : (show FVec Ideal S2x256x2048 .f32 from (dats m hO 0 c).arrAt 7 (cfgM m hO).N) (ix3 1 i j) = (show FVec Ideal S2x256x2048 .f32 from (dats m hO 0 c).A 7) (ix3 1 i j) :=
    (dats m hO 0 c).arrAt_emb_eq_entry 7 _ (covers7 (adm m hO)) (ix3 (1 : Fin 2) i j) (by show ¬ (1 / 1 = 0); omega)
  rw [e, A_eq]
  exact congrFun (entry7 m c) _

theorem entry8 (c : Dev nD) : V m c main_v0_3 = A9 m c := by
  unfold V
  after_results
  rfl

/-- and the second's. -/
theorem kept8 (c : Dev nD) (i : Fin 256) (j : Fin 2048) :
    (show FVec Ideal S2x256x2048 .f32 from (dats m hO 0 c).arrAt 8 (cfgM m hO).N) (ix3 1 i j) = A9 m c (ix3 1 i j) := by
  have e : (show FVec Ideal S2x256x2048 .f32 from (dats m hO 0 c).arrAt 8 (cfgM m hO).N) (ix3 1 i j) = (show FVec Ideal S2x256x2048 .f32 from (dats m hO 0 c).A 8) (ix3 1 i j) :=
    (dats m hO 0 c).arrAt_emb_eq_entry 8 _ (covers8 (adm m hO)) (ix3 (1 : Fin 2) i j) (by show ¬ (1 / 1 = 0); omega)
  rw [e, A_eq]
  exact congrFun (entry8 m c) _

theorem fin5 (c : Dev nD) :
    (dats m hO 0 c).arrAt 5 (cfgM m hO).N = Cert.FirstoRefIdeal.Read.val_main_v42 (F := Ideal) (A0 m c) (A4 m c) (A5 m c) (A6 m c) := by
  funext y
  revert y
  show ∀ y : S2x256x2048.Idx, _
  intro y
  idx_vars y
  match y0 with
  | ⟨0, _⟩ => exact (tile5 m hO c y1 y2).trans (Cert.FirstoRefIdeal.At.at42_first _ _ _ y1 y2 _).symm
  | ⟨1, _⟩ => exact (kept5 m hO c y1 y2).trans (Cert.FirstoRefIdeal.At.at42_last _ _ _ y1 y2 _).symm

theorem fin6 (c : Dev nD) :
    (dats m hO 0 c).arrAt 6 (cfgM m hO).N = Cert.FirstoRefIdeal.Read.val_main_v47 (F := Ideal) (A0 m c) (A1 m c) (A2 m c) (A3 m c) (A4 m c) (A5 m c) (A7 m c) := by
  funext y
  revert y
  show ∀ y : S2x256x2048.Idx, _
  intro y
  idx_vars y
  match y0 with
  | ⟨0, _⟩ => exact (tile6 m hO c y1 y2).trans (Cert.FirstoRefIdeal.At.at47_first _ _ _ _ _ _ y1 y2 _).symm
  | ⟨1, _⟩ => exact (kept6 m hO c y1 y2).trans (Cert.FirstoRefIdeal.At.at47_last _ _ _ _ _ _ y1 y2 _).symm

theorem fin7 (c : Dev nD) :
    (dats m hO 0 c).arrAt 7 (cfgM m hO).N = Cert.FirstoRefIdeal.Read.val_main_v52 (F := Ideal) (A0 m c) (A2 m c) (A4 m c) (A5 m c) (A8 m c) := by
  funext y
  revert y
  show ∀ y : S2x256x2048.Idx, _
  intro y
  idx_vars y
  match y0 with
  | ⟨0, _⟩ => exact (tile7 m hO c y1 y2).trans (Cert.FirstoRefIdeal.At.at52_first _ _ _ _ y1 y2 _).symm
  | ⟨1, _⟩ => exact (kept7 m hO c y1 y2).trans (Cert.FirstoRefIdeal.At.at52_last _ _ _ _ y1 y2 _).symm

theorem fin8 (c : Dev nD) :
    (dats m hO 0 c).arrAt 8 (cfgM m hO).N = Cert.FirstoRefIdeal.Read.val_main_v57 (F := Ideal) (A0 m c) (A3 m c) (A4 m c) (A5 m c) (A9 m c) := by
  funext y
  revert y
  show ∀ y : S2x256x2048.Idx, _
  intro y
  idx_vars y
  match y0 with
  | ⟨0, _⟩ => exact (tile8 m hO c y1 y2).trans (Cert.FirstoRefIdeal.At.at57_first _ _ _ _ y1 y2 _).symm
  | ⟨1, _⟩ => exact (kept8 m hO c y1 y2).trans (Cert.FirstoRefIdeal.At.at57_last _ _ _ _ y1 y2 _).symm

end Cert.FirstoIdeal.Bridge

end
-- ==== Proof.FirstoClaims.lean ====
/- The claims of the step of layer 0 of the output projection: the frames, the constants kept, and the value claim. -/
module

public import proofs.«01_k».proof.Defs
public import proofs.«01_k».proof.Proof.FirstoValue
public import proofs.«01_k».proof.Proof.Gen.Firsto.Frame
public import proofs.«01_k».proof.Proof.Gen.FirstoRefIdeal.Run
public import Idealize.ShloMosaic.Lib.Claim
public import Idealize.ShloMosaic.Lib.Quiescent

@[expose] public section

set_option maxRecDepth 16384

noncomputable section

namespace Cert.FirstoClaims

open Idealize.ShloMosaic Idealize.ShloMosaic.TcCoe Idealize.SL.Sem

/-- No constant of the kernel is named. -/
theorem preserves : Cert.preserves_Firsto_FirstoIdeal := trivial

section
open Cert.FirstoRefIdeal Cert.FirstoRefIdeal.Gen

/-- The reference's run, its results named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v42) = Read.val_main_v42 (F := Ideal) (m ((c.tc : Thread nD τ).loc main_arg0)) (m ((c.tc : Thread nD τ).loc main_arg4)) (m ((c.tc : Thread nD τ).loc main_arg5)) (m ((c.tc : Thread nD τ).loc main_arg6))
      ∧ r.2.mem ((c.tc : Thread nD τ).loc main_v47) = Read.val_main_v47 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7))
      ∧ r.2.mem ((c.tc : Thread nD τ).loc main_v52) = Read.val_main_v52 (F := Ideal) (m ((c.tc : Thread nD τ).loc main_arg0)) (m ((c.tc : Thread nD τ).loc main_arg2)) (m ((c.tc : Thread nD τ).loc main_arg4)) (m ((c.tc : Thread nD τ).loc main_arg5)) (m ((c.tc : Thread nD τ).loc main_arg8))
      ∧ r.2.mem ((c.tc : Thread nD τ).loc main_v57) = Read.val_main_v57 (F := Ideal) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c).1.trans (Read.val_main_v42_eq _ _ _ _),
    (h c).2.1.trans (Read.val_main_v47_eq _ _ _ _ _ _ _),
    (h c).2.2.1.trans (Read.val_main_v52_eq _ _ _ _ _),
    (h c).2.2.2.1.trans (Read.val_main_v57_eq _ _ _ _ _),
    (h c).2.2.2.2⟩) (Value.run m ρ)

end

section
open Cert.FirstoIdeal Cert.FirstoIdeal.Gen

/-- The kernel's run, its results the reference's functions of the arguments. -/
theorem run_ker (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v0_0) = Cert.FirstoRefIdeal.Read.val_main_v42 (F := Ideal) (m ((c.tc : Thread nD τ).loc main_arg0)) (m ((c.tc : Thread nD τ).loc main_arg4)) (m ((c.tc : Thread nD τ).loc main_arg5)) (m ((c.tc : Thread nD τ).loc main_arg6))
      ∧ r.2.mem ((c.tc : Thread nD τ).loc main_v0_1) = Cert.FirstoRefIdeal.Read.val_main_v47 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7))
      ∧ r.2.mem ((c.tc : Thread nD τ).loc main_v0_2) = Cert.FirstoRefIdeal.Read.val_main_v52 (F := Ideal) (m ((c.tc : Thread nD τ).loc main_arg0)) (m ((c.tc : Thread nD τ).loc main_arg2)) (m ((c.tc : Thread nD τ).loc main_arg4)) (m ((c.tc : Thread nD τ).loc main_arg5)) (m ((c.tc : Thread nD τ).loc main_arg8))
      ∧ r.2.mem ((c.tc : Thread nD τ).loc main_v0_3) = Cert.FirstoRefIdeal.Read.val_main_v57 (F := Ideal) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  run_from run_main m ρ trivial & unchanged m ρ trivial
  · exact Cert.FirstoIdeal.Bridge.fin5 m trivial c
  · exact Cert.FirstoIdeal.Bridge.fin6 m trivial c
  · exact Cert.FirstoIdeal.Bridge.fin7 m trivial c
  · exact Cert.FirstoIdeal.Bridge.fin8 m trivial c

end

theorem frame_p : Cert.quiescent_Firsto := fun m ρ _ => Cert.Firsto.Gen.frame m ρ trivial
theorem frame_pi : Cert.quiescent_FirstoIdeal := fun m ρ _ => Cert.FirstoIdeal.Gen.frame m ρ trivial
theorem frame_ri : Cert.quiescent_FirstoRefIdeal := fun m g _ =>
  (θ_run Cert.FirstoRefIdeal.defs _ _).mono (fun r h => ⟨fun c => (h c).2.2.2.2, sem_eq_zero_of_no_sems (by decide) r.2⟩)
    (Cert.FirstoRefIdeal.Value.run (F := Ideal) m g)

theorem algebraic : Cert.algebraic_FirstoIdeal_FirstoRefIdeal := by
  intro m g m' g' _ hagree
  refine ⟨fun c => Cert.FirstoRefIdeal.Read.val_main_v42 (F := Ideal) (m ((c.tc : Thread Cert.FirstoIdeal.nD Cert.FirstoIdeal.τ).loc Cert.FirstoIdeal.main_arg0)) (m ((c.tc : Thread Cert.FirstoIdeal.nD Cert.FirstoIdeal.τ).loc Cert.FirstoIdeal.main_arg4)) (m ((c.tc : Thread Cert.FirstoIdeal.nD Cert.FirstoIdeal.τ).loc Cert.FirstoIdeal.main_arg5)) (m ((c.tc : Thread Cert.FirstoIdeal.nD Cert.FirstoIdeal.τ).loc Cert.FirstoIdeal.main_arg6)), fun c => Cert.FirstoRefIdeal.Read.val_main_v47 (F := Ideal) (m ((c.tc : Thread Cert.FirstoIdeal.nD Cert.FirstoIdeal.τ).loc Cert.FirstoIdeal.main_arg0)) (m ((c.tc : Thread Cert.FirstoIdeal.nD Cert.FirstoIdeal.τ).loc Cert.FirstoIdeal.main_arg1)) (m ((c.tc : Thread Cert.FirstoIdeal.nD Cert.FirstoIdeal.τ).loc Cert.FirstoIdeal.main_arg2)) (m ((c.tc : Thread Cert.FirstoIdeal.nD Cert.FirstoIdeal.τ).loc Cert.FirstoIdeal.main_arg3)) (m ((c.tc : Thread Cert.FirstoIdeal.nD Cert.FirstoIdeal.τ).loc Cert.FirstoIdeal.main_arg4)) (m ((c.tc : Thread Cert.FirstoIdeal.nD Cert.FirstoIdeal.τ).loc Cert.FirstoIdeal.main_arg5)) (m ((c.tc : Thread Cert.FirstoIdeal.nD Cert.FirstoIdeal.τ).loc Cert.FirstoIdeal.main_arg7)), fun c => Cert.FirstoRefIdeal.Read.val_main_v52 (F := Ideal) (m ((c.tc : Thread Cert.FirstoIdeal.nD Cert.FirstoIdeal.τ).loc Cert.FirstoIdeal.main_arg0)) (m ((c.tc : Thread Cert.FirstoIdeal.nD Cert.FirstoIdeal.τ).loc Cert.FirstoIdeal.main_arg2)) (m ((c.tc : Thread Cert.FirstoIdeal.nD Cert.FirstoIdeal.τ).loc Cert.FirstoIdeal.main_arg4)) (m ((c.tc : Thread Cert.FirstoIdeal.nD Cert.FirstoIdeal.τ).loc Cert.FirstoIdeal.main_arg5)) (m ((c.tc : Thread Cert.FirstoIdeal.nD Cert.FirstoIdeal.τ).loc Cert.FirstoIdeal.main_arg8)), fun c => Cert.FirstoRefIdeal.Read.val_main_v57 (F := Ideal) (m ((c.tc : Thread Cert.FirstoIdeal.nD Cert.FirstoIdeal.τ).loc Cert.FirstoIdeal.main_arg0)) (m ((c.tc : Thread Cert.FirstoIdeal.nD Cert.FirstoIdeal.τ).loc Cert.FirstoIdeal.main_arg3)) (m ((c.tc : Thread Cert.FirstoIdeal.nD Cert.FirstoIdeal.τ).loc Cert.FirstoIdeal.main_arg4)) (m ((c.tc : Thread Cert.FirstoIdeal.nD Cert.FirstoIdeal.τ).loc Cert.FirstoIdeal.main_arg5)) (m ((c.tc : Thread Cert.FirstoIdeal.nD Cert.FirstoIdeal.τ).loc Cert.FirstoIdeal.main_arg9)), run_ker m g, θ_run_mono (run_ref m' g') fun r h c => ?_⟩
  obtain ⟨a0, a1, a2, a3, a4, a5, a6, a7, a8, a9⟩ := hagree c
  exact ⟨(h c).1.trans (congr (congr (congr (congrArg (Cert.FirstoRefIdeal.Read.val_main_v42 (F := Ideal)) a0) a4) a5) a6),
    (h c).2.1.trans (congr (congr (congr (congr (congr (congr (congrArg (Cert.FirstoRefIdeal.Read.val_main_v47 (F := Ideal)) a0) a1) a2) a3) a4) a5) a7),
    (h c).2.2.1.trans (congr (congr (congr (congr (congrArg (Cert.FirstoRefIdeal.Read.val_main_v52 (F := Ideal)) a0) a2) a4) a5) a8),
    (h c).2.2.2.1.trans (congr (congr (congr (congr (congrArg (Cert.FirstoRefIdeal.Read.val_main_v57 (F := Ideal)) a0) a3) a4) a5) a9), (h c).2.2.2.2⟩

end Cert.FirstoClaims

end
-- ==== Proof.FirstiRef.lean ====
/- The step of layer 0 of the input projection: its reference at an index. -/
module

public import proofs.«01_k».proof.Proof.Gen.FirstiRefIdeal.Read
public import proofs.«01_k».proof.Proof.RideRef
public import Idealize.ShloMosaic.Lib.Pipeline.ValueKit

@[expose] public section

set_option maxRecDepth 16384

noncomputable section

namespace Cert.FirstiRefIdeal.At

open Cert.FirstiRefIdeal Cert.FirstiRefIdeal.Gen Cert.FirstiRefIdeal.Read
open Idealize.ShloMosaic Idealize.ShloMosaic.TcCoe Idealize.SL.Sem
open Cert.RideRefIdeal.At (pick whole moment square step)

variable (b : Vec Ideal S1 .i32) (w m v : FVec Ideal S2x1472x2048 .f32) (l s : FVec Ideal S4x1472x2048 .bf16) (i : Fin 1472) (j : Fin 2048)

/-- Of one chip's place: its own sum where the place is this chip's, else what landed there. -/
theorem at11 (k : Fin 4) : val_main_v11 (F := Ideal) b l s (ix3 k i j) = pick (b (ix1 0)) (BitVec.ofNat 32 k.val) (s (ix3 k i j)) (l (ix3 k i j)) := by
  unfold pick
  pointwise [val_main_v11, val_main_call0_v0, val_main_v10, val_main_v9, val_main_v8, val_main_v7, val_main_v6]
  simp only [Scalar.select, IntOp.cmpi]
  by_cases h : b (ix1 0) = BitVec.ofNat 32 k.val
  · simp [h]
  · have e : (BitVec.ofNat 32 k.val == b (ix1 0)) = false := beq_false_of_ne (Ne.symm h)
    simp [e, h]

/-- The whole gradient, -/
theorem at13 : val_main_v13 (F := Ideal) b l s (ix2 i j) = whole (b (ix1 0)) (fun k => s (ix3 k i j)) (fun k => l (ix3 k i j)) := by
  unfold val_main_v13 val_main_v12
  have e := at11 b l s i j
  generalize val_main_v11 (F := Ideal) b l s = p at e ⊢
  pointwise [val_main_cst]
  unfold whole
  rw [Fin.sum_univ_four, e 0, e 1, e 2, e 3]
  rfl

/-- the first moment, -/
theorem at18 : val_main_v18 (F := Ideal) b m l s (ix2 i j) = moment (val_main_v13 (F := Ideal) b l s (ix2 i j)) (m (ix3 0 i j)) := by
  unfold moment val_main_v18 val_main_v17
  generalize val_main_v13 (F := Ideal) b l s = g
  pointwise [val_main_v16, val_main_cst_1, val_main_v15, val_main_v14, val_main_cst_0, val_main_v3, val_main_v2]

/-- the second -/
theorem at24 : val_main_v24 (F := Ideal) b v l s (ix2 i j) = square (val_main_v13 (F := Ideal) b l s (ix2 i j)) (v (ix3 0 i j)) := by
  unfold square val_main_v24 val_main_v23 val_main_v21
  generalize val_main_v13 (F := Ideal) b l s = g
  pointwise [val_main_v22, val_main_cst_3, val_main_v20, val_main_v19, val_main_cst_2, val_main_v5, val_main_v4]

/-- and the step. -/
theorem at37 : val_main_v37 (F := Ideal) b w m v l s (ix2 i j)
    = step (w (ix3 0 i j)) (val_main_v13 (F := Ideal) b l s (ix2 i j)) (m (ix3 0 i j)) (v (ix3 0 i j)) := by
  unfold step
  rw [← at18, ← at24]
  unfold val_main_v37 val_main_v35 val_main_v32 val_main_v31 val_main_v29 val_main_v28 val_main_v26
  generalize val_main_v18 (F := Ideal) b m l s = a
  generalize val_main_v24 (F := Ideal) b v l s = c
  pointwise [val_main_v36, val_main_cst_8, val_main_v34, val_main_v33, val_main_cst_7, val_main_v30, val_main_cst_6, val_main_v27, val_main_cst_5, val_main_v25, val_main_cst_4, val_main_v1, val_main_v0]

/-- Two layers, one of each array, at an index of the first -/
theorem stack_first (x y : FVec Ideal S1x1472x2048 .f32) :
    concatenate S2x1472x2048 0 [⟨S1x1472x2048, x⟩, ⟨S1x1472x2048, y⟩] concatenates_S1x1472x2048_S1x1472x2048_S2x1472x2048_d0 (ix3 0 i j) = x (ix3 0 i j) :=
  concatenate_pair_apply_left (t := S2x1472x2048) (s₁ := S1x1472x2048) (s₂ := S1x1472x2048) 0 x y _ (ix3 0 i j) rfl (ix3 0 i j) fun a => by
    fin_cases a <;> rfl

/-- and of the second. -/
theorem stack_last (x y : FVec Ideal S1x1472x2048 .f32) :
    concatenate S2x1472x2048 0 [⟨S1x1472x2048, x⟩, ⟨S1x1472x2048, y⟩] concatenates_S1x1472x2048_S1x1472x2048_S2x1472x2048_d0 (ix3 1 i j) = y (ix3 0 i j) := by
  refine concatenate_pair_apply_right (t := S2x1472x2048) (s₁ := S1x1472x2048) (s₂ := S1x1472x2048) 0 x y _ (ix3 1 i j) rfl rfl (ix3 0 i j) (fun a ha => ?_) ?_
  · match a, ha with
    | ⟨0, _⟩, h => exact absurd rfl h
    | ⟨1, _⟩, _ => rfl
    | ⟨2, _⟩, _ => rfl
  · rfl

variable (p : FVec Ideal S2x1472x2048 .f32)

theorem at42_first : val_main_v42 (F := Ideal) b l s p (ix3 0 i j) = val_main_v13 (F := Ideal) b l s (ix2 i j) := by
  refine (stack_first i j _ _).trans ?_
  unfold val_main_v40
  generalize val_main_v13 (F := Ideal) b l s = g
  pointwise

theorem at42_last : val_main_v42 (F := Ideal) b l s p (ix3 1 i j) = p (ix3 1 i j) := by
  refine (stack_last i j _ _).trans ?_
  pointwise [val_main_v41, val_main_v39, val_main_v38]

theorem at47_first : val_main_v47 (F := Ideal) b w m v l s p (ix3 0 i j) = val_main_v37 (F := Ideal) b w m v l s (ix2 i j) := by
  refine (stack_first i j _ _).trans ?_
  unfold val_main_v45
  generalize val_main_v37 (F := Ideal) b w m v l s = g
  pointwise

theorem at47_last : val_main_v47 (F := Ideal) b w m v l s p (ix3 1 i j) = p (ix3 1 i j) := by
  refine (stack_last i j _ _).trans ?_
  pointwise [val_main_v46, val_main_v44, val_main_v43]

theorem at52_first : val_main_v52 (F := Ideal) b m l s p (ix3 0 i j) = val_main_v18 (F := Ideal) b m l s (ix2 i j) := by
  refine (stack_first i j _ _).trans ?_
  unfold val_main_v50
  generalize val_main_v18 (F := Ideal) b m l s = g
  pointwise

theorem at52_last : val_main_v52 (F := Ideal) b m l s p (ix3 1 i j) = p (ix3 1 i j) := by
  refine (stack_last i j _ _).trans ?_
  pointwise [val_main_v51, val_main_v49, val_main_v48]

theorem at57_first : val_main_v57 (F := Ideal) b v l s p (ix3 0 i j) = val_main_v24 (F := Ideal) b v l s (ix2 i j) := by
  refine (stack_first i j _ _).trans ?_
  unfold val_main_v55
  generalize val_main_v24 (F := Ideal) b v l s = g
  pointwise

theorem at57_last : val_main_v57 (F := Ideal) b v l s p (ix3 1 i j) = p (ix3 1 i j) := by
  refine (stack_last i j _ _).trans ?_
  pointwise [val_main_v56, val_main_v54, val_main_v53]

end Cert.FirstiRefIdeal.At

end
-- ==== Proof.FirstiValue.lean ====
/- The step of layer 0 of the input projection: tile by tile, the kernel's arrays are the reference's on that layer. -/
module

public import proofs.«01_k».proof.Proof.Gen.FirstiIdeal.Frame
public import proofs.«01_k».proof.Proof.FirstiRef
public import Idealize.ShloMosaic.Lib.Pipeline.ValueKit
public import Idealize.ShloMosaic.Lib.Pipeline.ReadBack

@[expose] public section

set_option maxRecDepth 16384

noncomputable section

namespace Cert.FirstiIdeal.Bridge

open Cert.FirstiIdeal Cert.FirstiIdeal.Gen Idealize.ShloMosaic Idealize.ShloMosaic.TcCoe Idealize.SL.Sem
open Idealize.ShloMosaic.Pipeline (Dat)
open Cert.RideRefIdeal.At (pick whole moment square step)

/-- A place's row, chosen. -/
theorem select_eq (b k : BitVec 32) (s l : FVec Ideal S64x2048 .bf16) (y : S64x2048.Idx) :
    Scalar.select (Scalar.cmpi .eq b k) s l y = pick b k (s y) (l y) := by
  unfold pick
  simp only [Scalar.select, Scalar.cmpi, IntOp.cmpi]
  by_cases h : b = k
  · simp [h]
  · have e : (b == k) = false := beq_false_of_ne h
    simp [e, h]

section
variable (b : BitVec 32) (s0 s1 s2 s3 l0 l1 l2 l3 : FVec Ideal S1x64x2048 .bf16) (i : Fin 64) (j : Fin 2048)

/-- The four chips' rows, in the order they are added. -/
abbrev four (r0 r1 r2 r3 : FVec Ideal S1x64x2048 .bf16) (i : Fin 64) (j : Fin 2048) : Fin 4 → EReal :=
  ![r0 (ix3 0 i j), r1 (ix3 0 i j), r2 (ix3 0 i j), r3 (ix3 0 i j)]

/-- The whole gradient in a tile. -/
abbrev grad : FVec Ideal S64x2048 .f32 :=
  k0_pay6 (F := Ideal) (k0_pay4 (F := Ideal) b s0 l0 b s1 l1 b s2 l2) (Scalar.cmpi .eq b 3#32) (k0_pay5 (F := Ideal) s3) l3

theorem grad_at : grad b s0 s1 s2 s3 l0 l1 l2 l3 (ix2 i j) = whole b (four s0 s1 s2 s3 i j) (four l0 l1 l2 l3 i j) := by
  unfold grad whole
  pointwise [k0_pay6, k0_pay4, k0_pay5, select_eq]

end

section
variable (p : FVec Ideal S64x2048 .f32) (k : BitVec 1) (q : FVec Ideal S64x2048 .bf16) (u : FVec Ideal S1x64x2048 .bf16) (m v w : FVec Ideal S1x64x2048 .f32)
  (i : Fin 64) (j : Fin 2048)

/-- The gradient as it is stored, -/
theorem pay9_at : k0_pay9 (F := Ideal) p k q u (ix3 0 i j) = k0_pay6 (F := Ideal) p k q u (ix2 i j) := by
  unfold k0_pay9
  generalize k0_pay6 (F := Ideal) p k q u = g
  pointwise

/-- the first moment, -/
theorem pay7_at : k0_pay7 (F := Ideal) p k q u m (ix2 i j) = moment (k0_pay6 (F := Ideal) p k q u (ix2 i j)) (m (ix3 0 i j)) := by
  unfold moment k0_pay7
  generalize k0_pay6 (F := Ideal) p k q u = g
  pointwise

theorem pay2_at : k0_pay2 (F := Ideal) p (ix3 0 i j) = p (ix2 i j) := by pointwise [k0_pay2]

/-- the second -/
theorem pay8_at : k0_pay8 (F := Ideal) p k q u v (ix2 i j) = square (k0_pay6 (F := Ideal) p k q u (ix2 i j)) (v (ix3 0 i j)) := by
  unfold square k0_pay8
  generalize k0_pay6 (F := Ideal) p k q u = g
  pointwise

theorem pay3_at : k0_pay3 (F := Ideal) p (ix3 0 i j) = p (ix2 i j) := by pointwise [k0_pay3]

/-- and the step. -/
theorem pay1_at : k0_pay1 (F := Ideal) (k0_pay10 (F := Ideal) p k q u m v w) (ix3 0 i j)
    = step (w (ix3 0 i j)) (k0_pay6 (F := Ideal) p k q u (ix2 i j)) (m (ix3 0 i j)) (v (ix3 0 i j)) := by
  unfold step
  rw [← pay7_at, ← pay8_at]
  unfold k0_pay1 k0_pay10
  generalize k0_pay7 (F := Ideal) p k q u m = a
  generalize k0_pay8 (F := Ideal) p k q u v = b
  pointwise

end

/-- No index map reads the table, so any contents of it will do to read the windows' geometry. -/
abbrev any : (pcfg0 (F := Ideal)).Adm := ⟨Fin.cases (fun _ => (0#32 : BitVec 32)) fun j => j.elim0, trivial⟩

/-- Every window's block at a grid point: the point is the row tile. -/
theorem idx (a : (pcfg0 (F := Ideal)).Adm) : ∀ t : Fin (cfg0 a).N, ((cfg0 a).win 0).index t = ![0, t.val, 0] ∧ ((cfg0 a).win 1).index t = ![0, t.val, 0] ∧ ((cfg0 a).win 2).index t = ![0, t.val, 0] ∧ ((cfg0 a).win 3).index t = ![0, t.val, 0] ∧ ((cfg0 a).win 4).index t = ![0, t.val, 0] ∧ ((cfg0 a).win 5).index t = ![0, t.val, 0] ∧ ((cfg0 a).win 6).index t = ![0, t.val, 0] ∧ ((cfg0 a).win 7).index t = ![0, t.val, 0] ∧ ((cfg0 a).win 8).index t = ![0, t.val, 0] :=
  (by decide +kernel : ∀ t : Fin (cfg0 (F := Ideal) any).N, ((cfg0 (F := Ideal) any).win 0).index t = ![0, t.val, 0] ∧ ((cfg0 (F := Ideal) any).win 1).index t = ![0, t.val, 0] ∧ ((cfg0 (F := Ideal) any).win 2).index t = ![0, t.val, 0] ∧ ((cfg0 (F := Ideal) any).win 3).index t = ![0, t.val, 0] ∧ ((cfg0 (F := Ideal) any).win 4).index t = ![0, t.val, 0] ∧ ((cfg0 (F := Ideal) any).win 5).index t = ![0, t.val, 0] ∧ ((cfg0 (F := Ideal) any).win 6).index t = ![0, t.val, 0] ∧ ((cfg0 (F := Ideal) any).win 7).index t = ![0, t.val, 0] ∧ ((cfg0 (F := Ideal) any).win 8).index t = ![0, t.val, 0])

/-- The tiles written back are layer 0's. -/
theorem covers5 (a : (pcfg0 (F := Ideal)).Adm) : ((cfg0 a).win 5).CoversWhere fun β : Fin 3 → Nat => β 0 = 0 :=
  (by decide +kernel : ((cfg0 (F := Ideal) any).win 5).CoversWhere fun β : Fin 3 → Nat => β 0 = 0)
theorem covers6 (a : (pcfg0 (F := Ideal)).Adm) : ((cfg0 a).win 6).CoversWhere fun β : Fin 3 → Nat => β 0 = 0 :=
  (by decide +kernel : ((cfg0 (F := Ideal) any).win 6).CoversWhere fun β : Fin 3 → Nat => β 0 = 0)
theorem covers7 (a : (pcfg0 (F := Ideal)).Adm) : ((cfg0 a).win 7).CoversWhere fun β : Fin 3 → Nat => β 0 = 0 :=
  (by decide +kernel : ((cfg0 (F := Ideal) any).win 7).CoversWhere fun β : Fin 3 → Nat => β 0 = 0)
theorem covers8 (a : (pcfg0 (F := Ideal)).Adm) : ((cfg0 a).win 8).CoversWhere fun β : Fin 3 → Nat => β 0 = 0 :=
  (by decide +kernel : ((cfg0 (F := Ideal) any).win 8).CoversWhere fun β : Fin 3 → Nat => β 0 = 0)

variable (m : (ℓ : Loc nD τ sig) → Buf (Elt Ideal) ℓ) (hO : Ok m)

/-- The argument arrays. -/
abbrev A0 (c : Dev nD) : Vec Ideal S1 .i32 := m ((c : Thread nD τ).loc main_arg0)
abbrev A1 (c : Dev nD) : FVec Ideal S2x1472x2048 .f32 := m ((c : Thread nD τ).loc main_arg1)
abbrev A2 (c : Dev nD) : FVec Ideal S2x1472x2048 .f32 := m ((c : Thread nD τ).loc main_arg2)
abbrev A3 (c : Dev nD) : FVec Ideal S2x1472x2048 .f32 := m ((c : Thread nD τ).loc main_arg3)
abbrev A4 (c : Dev nD) : FVec Ideal S4x1472x2048 .bf16 := m ((c : Thread nD τ).loc main_arg4)
abbrev A5 (c : Dev nD) : FVec Ideal S4x1472x2048 .bf16 := m ((c : Thread nD τ).loc main_arg5)
abbrev A6 (c : Dev nD) : FVec Ideal S2x1472x2048 .f32 := m ((c : Thread nD τ).loc main_arg6)
abbrev A7 (c : Dev nD) : FVec Ideal S2x1472x2048 .f32 := m ((c : Thread nD τ).loc main_arg7)
abbrev A8 (c : Dev nD) : FVec Ideal S2x1472x2048 .f32 := m ((c : Thread nD τ).loc main_arg8)
abbrev A9 (c : Dev nD) : FVec Ideal S2x1472x2048 .f32 := m ((c : Thread nD τ).loc main_arg9)

/-- The tile's rows. -/
theorem lt_N (t : Fin (cfgM m hO).N) : t.val < 23 := lt_of_lt_of_eq t.isLt (by decide +kernel : (cfg0 (F := Ideal) any).N = 23)
abbrev row (t : Fin (cfgM m hO).N) (r : Fin 64) : Fin 1472 := ⟨t.val * 64 + r.val, by have := lt_N m hO t; omega⟩

section
variable (c : Dev nD) (t : Fin (cfgM m hO).N)

theorem w_at (i : Fin 64) (j : Fin 2048) : (show FVec Ideal S1x64x2048 .f32 from iblk m hO c 0 t) (ix3 0 i j) = A1 m c (ix3 0 (row m hO t i) j) := by
  blk_point [iblk, V, idx (adm m hO) t]

theorem m_at (i : Fin 64) (j : Fin 2048) : (show FVec Ideal S1x64x2048 .f32 from iblk m hO c 1 t) (ix3 0 i j) = A2 m c (ix3 0 (row m hO t i) j) := by
  blk_point [iblk, V, idx (adm m hO) t]

theorem v_at (i : Fin 64) (j : Fin 2048) : (show FVec Ideal S1x64x2048 .f32 from iblk m hO c 2 t) (ix3 0 i j) = A3 m c (ix3 0 (row m hO t i) j) := by
  blk_point [iblk, V, idx (adm m hO) t]

theorem l_at (k : Fin 4) (i : Fin 64) (j : Fin 2048) : (show FVec Ideal S4x64x2048 .bf16 from iblk m hO c 3 t) (ix3 k i j) = A4 m c (ix3 k (row m hO t i) j) := by
  blk_point [iblk, V, idx (adm m hO) t]

theorem s_at (k : Fin 4) (i : Fin 64) (j : Fin 2048) : (show FVec Ideal S4x64x2048 .bf16 from iblk m hO c 4 t) (ix3 k i j) = A5 m c (ix3 k (row m hO t i) j) := by
  blk_point [iblk, V, idx (adm m hO) t]

end

/-- One chip's rows of a tile of all four's. -/
theorem ld_row (x : FVec Ideal S4x64x2048 .bf16) (k : Fin 4) (h : ∀ d, (![k.val, 0, 0] : Fin 3 → Nat) d + S1x64x2048.size d ≤ S4x64x2048.size d)
    (i : Fin 64) (j : Fin 2048) :
    View.ld (Val := Elt Ideal) (e' := .bf16) x (Rect.unit (s := S4x64x2048) ![k.val, 0, 0] S1x64x2048.size h) (ix3 0 i j) = x (ix3 k i j) := by
  refine View.ld_unit_apply_of _ _ _ _ _ _ fun d => ?_
  fin_cases d
  · show k.val = k.val + 0
    omega
  · show i.val = 0 + i.val
    omega
  · show j.val = 0 + j.val
    omega

/-- The place of this chip, read from the table. -/
theorem chip (c : Dev nD) (h : ∀ d, (![0] : Fin 1 → Nat) d + Shape.size S1 d ≤ Shape.size S1 d) (y : Shape.Idx S1) :
    View.readAt (Elt Ideal) (View.whole main_arg0) (Rect.unit (s := S1) ![0] (Shape.size S1) h).toLoadRect (tbl m 0) y = A0 m c (ix1 0) := by
  obtain rfl : c = 0 := Subsingleton.elim _ _
  refine congrArg (A0 m 0) (funext fun d => ?_)
  fin_cases d
  exact Subsingleton.elim (α := Fin 1) _ _

section
variable (c : Dev nD) (t : Fin (cfgM m hO).N) (i : Fin 64) (j : Fin 2048)

theorem four_eq (x : FVec Ideal S4x64x2048 .bf16) :
    four
        (View.ld (Val := Elt Ideal) (e' := .bf16) x (Rect.unit (s := S4x64x2048) ![0, 0, 0] S1x64x2048.size inb_S4x64x2048_S1x64x2048_0_0_0))
        (View.ld (Val := Elt Ideal) (e' := .bf16) x (Rect.unit (s := S4x64x2048) ![1, 0, 0] S1x64x2048.size inb_S4x64x2048_S1x64x2048_1_0_0))
        (View.ld (Val := Elt Ideal) (e' := .bf16) x (Rect.unit (s := S4x64x2048) ![2, 0, 0] S1x64x2048.size inb_S4x64x2048_S1x64x2048_2_0_0))
        (View.ld (Val := Elt Ideal) (e' := .bf16) x (Rect.unit (s := S4x64x2048) ![3, 0, 0] S1x64x2048.size inb_S4x64x2048_S1x64x2048_3_0_0)) i j
      = fun k => x (ix3 k i j) := by
  funext k
  fin_cases k
  · exact ld_row x 0 _ i j
  · exact ld_row x 1 _ i j
  · exact ld_row x 2 _ i j
  · exact ld_row x 3 _ i j

/-- The whole gradient in a point's tile is the reference's. -/
theorem grad_point (b : BitVec 32) (hb : b = A0 m c (ix1 0)) :
    grad b
        (View.ld (Val := Elt Ideal) (e' := .bf16) (iblk m hO c 4 t) (Rect.unit (s := S4x64x2048) ![0, 0, 0] S1x64x2048.size inb_S4x64x2048_S1x64x2048_0_0_0))
        (View.ld (Val := Elt Ideal) (e' := .bf16) (iblk m hO c 4 t) (Rect.unit (s := S4x64x2048) ![1, 0, 0] S1x64x2048.size inb_S4x64x2048_S1x64x2048_1_0_0))
        (View.ld (Val := Elt Ideal) (e' := .bf16) (iblk m hO c 4 t) (Rect.unit (s := S4x64x2048) ![2, 0, 0] S1x64x2048.size inb_S4x64x2048_S1x64x2048_2_0_0))
        (View.ld (Val := Elt Ideal) (e' := .bf16) (iblk m hO c 4 t) (Rect.unit (s := S4x64x2048) ![3, 0, 0] S1x64x2048.size inb_S4x64x2048_S1x64x2048_3_0_0))
        (View.ld (Val := Elt Ideal) (e' := .bf16) (iblk m hO c 3 t) (Rect.unit (s := S4x64x2048) ![0, 0, 0] S1x64x2048.size inb_S4x64x2048_S1x64x2048_0_0_0))
        (View.ld (Val := Elt Ideal) (e' := .bf16) (iblk m hO c 3 t) (Rect.unit (s := S4x64x2048) ![1, 0, 0] S1x64x2048.size inb_S4x64x2048_S1x64x2048_1_0_0))
        (View.ld (Val := Elt Ideal) (e' := .bf16) (iblk m hO c 3 t) (Rect.unit (s := S4x64x2048) ![2, 0, 0] S1x64x2048.size inb_S4x64x2048_S1x64x2048_2_0_0))
        (View.ld (Val := Elt Ideal) (e' := .bf16) (iblk m hO c 3 t) (Rect.unit (s := S4x64x2048) ![3, 0, 0] S1x64x2048.size inb_S4x64x2048_S1x64x2048_3_0_0)) (ix2 i j)
      = Cert.FirstiRefIdeal.Read.val_main_v13 (F := Ideal) (A0 m c) (A4 m c) (A5 m c) (ix2 (row m hO t i) j) := by
  refine (grad_at _ _ _ _ _ _ _ _ _ i j).trans ?_
  rw [Cert.FirstiRefIdeal.At.at13]
  have es : (fun k => (show FVec Ideal S4x64x2048 .bf16 from iblk m hO c 4 t) (ix3 k i j)) = fun k => A5 m c (ix3 k (row m hO t i) j) :=
    funext fun k => s_at m hO c t k i j
  have el : (fun k => (show FVec Ideal S4x64x2048 .bf16 from iblk m hO c 3 t) (ix3 k i j)) = fun k => A4 m c (ix3 k (row m hO t i) j) :=
    funext fun k => l_at m hO c t k i j
  exact congr (congr (congrArg whole hb) ((four_eq i j _).trans es)) ((four_eq i j _).trans el)

end

/-- The gradient's layer written, -/
theorem tile5 (c : Dev nD) (i : Fin 1472) (j : Fin 2048) :
    (show FVec Ideal S2x1472x2048 .f32 from (dats m hO 0 c).arrAt 5 (cfgM m hO).N) (ix3 0 i j) = Cert.FirstiRefIdeal.Read.val_main_v13 (F := Ideal) (A0 m c) (A4 m c) (A5 m c) (ix2 i j) := by
  refine ((dats m hO 0 c).arrAt_apply_of_coversWhere 5
    (fun q : S2x1472x2048.Idx => Cert.FirstiRefIdeal.Read.val_main_v13 (F := Ideal) (A0 m c) (A4 m c) (A5 m c) (ix2 (q 1) (q 2)))
    (P := fun q : S2x1472x2048.Idx => (q 0).val = 0) (fun β : Fin 3 → Nat => β 0 = 0) (covers5 (adm m hO)) (fun t _ y => ?_)
    (fun j : S2x1472x2048.Idx => by show (j 0).val = 0 ↔ (j 0).val / 1 = 0; rw [Nat.div_one]) _).trans (if_pos rfl)
  blk_simp
  rw [after0_5]
  revert y
  show ∀ y : S1x64x2048.Idx, _
  intro y
  idx_vars y
  obtain rfl : y0 = 0 := Subsingleton.elim _ _
  refine Eq.trans ?_ ((Cert.FirstiRefIdeal.At.at13 _ _ _ (row m hO t y1) y2).symm.trans <| congrArg _ (by blk_ext [idx (adm m hO) t]))
  dsimp only [outsAt0]
  frame_out
  rw [(hs0_3 m hO t).read_unread (iblk m hO c 3 t), (hs0_4 m hO t).read_unread (iblk m hO c 4 t)]
  rw [← Cert.FirstiRefIdeal.At.at13]
  exact (pay9_at _ _ _ _ y1 y2).trans (grad_point m hO c t y1 y2 _ (chip m c _ _))

/-- the step's, -/
theorem tile6 (c : Dev nD) (i : Fin 1472) (j : Fin 2048) :
    (show FVec Ideal S2x1472x2048 .f32 from (dats m hO 0 c).arrAt 6 (cfgM m hO).N) (ix3 0 i j) = Cert.FirstiRefIdeal.Read.val_main_v37 (F := Ideal) (A0 m c) (A1 m c) (A2 m c) (A3 m c) (A4 m c) (A5 m c) (ix2 i j) := by
  refine ((dats m hO 0 c).arrAt_apply_of_coversWhere 6
    (fun q : S2x1472x2048.Idx => Cert.FirstiRefIdeal.Read.val_main_v37 (F := Ideal) (A0 m c) (A1 m c) (A2 m c) (A3 m c) (A4 m c) (A5 m c) (ix2 (q 1) (q 2)))
    (P := fun q : S2x1472x2048.Idx => (q 0).val = 0) (fun β : Fin 3 → Nat => β 0 = 0) (covers6 (adm m hO)) (fun t _ y => ?_)
    (fun j : S2x1472x2048.Idx => by show (j 0).val = 0 ↔ (j 0).val / 1 = 0; rw [Nat.div_one]) _).trans (if_pos rfl)
  blk_simp
  rw [after0_6]
  revert y
  show ∀ y : S1x64x2048.Idx, _
  intro y
  idx_vars y
  obtain rfl : y0 = 0 := Subsingleton.elim _ _
  refine Eq.trans ?_ ((Cert.FirstiRefIdeal.At.at37 _ _ _ _ _ _ (row m hO t y1) y2).symm.trans <| congrArg _ (by blk_ext [idx (adm m hO) t]))
  dsimp only [outsAt0]
  frame_out
  rw [(hs0_0 m hO t).read_unread (iblk m hO c 0 t), (hs0_1 m hO t).read_unread (iblk m hO c 1 t), (hs0_2 m hO t).read_unread (iblk m hO c 2 t), (hs0_3 m hO t).read_unread (iblk m hO c 3 t), (hs0_4 m hO t).read_unread (iblk m hO c 4 t)]
  refine (pay1_at _ _ _ _ _ _ _ y1 y2).trans ?_
  exact congr (congr (congr (congrArg step (w_at m hO c t y1 y2)) (grad_point m hO c t y1 y2 _ (chip m c _ _))) (m_at m hO c t y1 y2)) (v_at m hO c t y1 y2)

/-- the first moment's -/
theorem tile7 (c : Dev nD) (i : Fin 1472) (j : Fin 2048) :
    (show FVec Ideal S2x1472x2048 .f32 from (dats m hO 0 c).arrAt 7 (cfgM m hO).N) (ix3 0 i j) = Cert.FirstiRefIdeal.Read.val_main_v18 (F := Ideal) (A0 m c) (A2 m c) (A4 m c) (A5 m c) (ix2 i j) := by
  refine ((dats m hO 0 c).arrAt_apply_of_coversWhere 7
    (fun q : S2x1472x2048.Idx => Cert.FirstiRefIdeal.Read.val_main_v18 (F := Ideal) (A0 m c) (A2 m c) (A4 m c) (A5 m c) (ix2 (q 1) (q 2)))
    (P := fun q : S2x1472x2048.Idx => (q 0).val = 0) (fun β : Fin 3 → Nat => β 0 = 0) (covers7 (adm m hO)) (fun t _ y => ?_)
    (fun j : S2x1472x2048.Idx => by show (j 0).val = 0 ↔ (j 0).val / 1 = 0; rw [Nat.div_one]) _).trans (if_pos rfl)
  blk_simp
  rw [after0_7]
  revert y
  show ∀ y : S1x64x2048.Idx, _
  intro y
  idx_vars y
  obtain rfl : y0 = 0 := Subsingleton.elim _ _
  refine Eq.trans ?_ ((Cert.FirstiRefIdeal.At.at18 _ _ _ _ (row m hO t y1) y2).symm.trans <| congrArg _ (by blk_ext [idx (adm m hO) t]))
  dsimp only [outsAt0]
  frame_out
  rw [(hs0_1 m hO t).read_unread (iblk m hO c 1 t), (hs0_3 m hO t).read_unread (iblk m hO c 3 t), (hs0_4 m hO t).read_unread (iblk m hO c 4 t)]
  refine (pay2_at _ y1 y2).trans ((pay7_at _ _ _ _ _ y1 y2).trans ?_)
  exact congr (congrArg moment (grad_point m hO c t y1 y2 _ (chip m c _ _))) (m_at m hO c t y1 y2)

/-- and the second's. -/
theorem tile8 (c : Dev nD) (i : Fin 1472) (j : Fin 2048) :
    (show FVec Ideal S2x1472x2048 .f32 from (dats m hO 0 c).arrAt 8 (cfgM m hO).N) (ix3 0 i j) = Cert.FirstiRefIdeal.Read.val_main_v24 (F := Ideal) (A0 m c) (A3 m c) (A4 m c) (A5 m c) (ix2 i j) := by
  refine ((dats m hO 0 c).arrAt_apply_of_coversWhere 8
    (fun q : S2x1472x2048.Idx => Cert.FirstiRefIdeal.Read.val_main_v24 (F := Ideal) (A0 m c) (A3 m c) (A4 m c) (A5 m c) (ix2 (q 1) (q 2)))
    (P := fun q : S2x1472x2048.Idx => (q 0).val = 0) (fun β : Fin 3 → Nat => β 0 = 0) (covers8 (adm m hO)) (fun t _ y => ?_)
    (fun j : S2x1472x2048.Idx => by show (j 0).val = 0 ↔ (j 0).val / 1 = 0; rw [Nat.div_one]) _).trans (if_pos rfl)
  blk_simp
  rw [after0_8]
  revert y
  show ∀ y : S1x64x2048.Idx, _
  intro y
  idx_vars y
  obtain rfl : y0 = 0 := Subsingleton.elim _ _
  refine Eq.trans ?_ ((Cert.FirstiRefIdeal.At.at24 _ _ _ _ (row m hO t y1) y2).symm.trans <| congrArg _ (by blk_ext [idx (adm m hO) t]))
  dsimp only [outsAt0]
  frame_out
  rw [(hs0_2 m hO t).read_unread (iblk m hO c 2 t), (hs0_3 m hO t).read_unread (iblk m hO c 3 t), (hs0_4 m hO t).read_unread (iblk m hO c 4 t)]
  refine (pay3_at _ y1 y2).trans ((pay8_at _ _ _ _ _ y1 y2).trans ?_)
  exact congr (congrArg square (grad_point m hO c t y1 y2 _ (chip m c _ _))) (v_at m hO c t y1 y2)

theorem entry5 (c : Dev nD) : V m c main_v0_0 = A6 m c := by
  unfold V
  after_results
  rfl

/-- The layer kept: the gradient's, -/
theorem kept5 (c : Dev nD) (i : Fin 1472) (j : Fin 2048) :
    (show FVec Ideal S2x1472x2048 .f32 from (dats m hO 0 c).arrAt 5 (cfgM m hO).N) (ix3 1 i j) = A6 m c (ix3 1 i j) := by
  have e : (show FVec Ideal S2x1472x2048 .f32 from (dats m hO 0 c).arrAt 5 (cfgM m hO).N) (ix3 1 i j) = (show FVec Ideal S2x1472x2048 .f32 from (dats m hO 0 c).A 5) (ix3 1 i j) :=
    (dats m hO 0 c).arrAt_emb_eq_entry 5 _ (covers5 (adm m hO)) (ix3 (1 : Fin 2) i j) (by show ¬ (1 / 1 = 0); omega)
  rw [e, A_eq]
  exact congrFun (entry5 m c) _

theorem entry6 (c : Dev nD) : V m c main_v0_1 = A7 m c := by
  unfold V
  after_results
  rfl

/-- the step's, -/
theorem kept6 (c : Dev nD) (i : Fin 1472) (j : Fin 2048) :
    (show FVec Ideal S2x1472x2048 .f32 from (dats m hO 0 c).arrAt 6 (cfgM m hO).N) (ix3 1 i j) = A7 m c (ix3 1 i j) := by
  have e : (show FVec Ideal S2x1472x2048 .f32 from (dats m hO 0 c).arrAt 6 (cfgM m hO).N) (ix3 1 i j) = (show FVec Ideal S2x1472x2048 .f32 from (dats m hO 0 c).A 6) (ix3 1 i j) :=
    (dats m hO 0 c).arrAt_emb_eq_entry 6 _ (covers6 (adm m hO)) (ix3 (1 : Fin 2) i j) (by show ¬ (1 / 1 = 0); omega)
  rw [e, A_eq]
  exact congrFun (entry6 m c) _

theorem entry7 (c : Dev nD) : V m c main_v0_2 = A8 m c := by
  unfold V
  after_results
  rfl

/-- the first moment's -/
theorem kept7 (c : Dev nD) (i : Fin 1472) (j : Fin 2048) :
    (show FVec Ideal S2x1472x2048 .f32 from (dats m hO 0 c).arrAt 7 (cfgM m hO).N) (ix3 1 i j) = A8 m c (ix3 1 i j) := by
  have e : (show FVec Ideal S2x1472x2048 .f32 from (dats m hO 0 c).arrAt 7 (cfgM m hO).N) (ix3 1 i j) = (show FVec Ideal S2x1472x2048 .f32 from (dats m hO 0 c).A 7) (ix3 1 i j) :=
    (dats m hO 0 c).arrAt_emb_eq_entry 7 _ (covers7 (adm m hO)) (ix3 (1 : Fin 2) i j) (by show ¬ (1 / 1 = 0); omega)
  rw [e, A_eq]
  exact congrFun (entry7 m c) _

theorem entry8 (c : Dev nD) : V m c main_v0_3 = A9 m c := by
  unfold V
  after_results
  rfl

/-- and the second's. -/
theorem kept8 (c : Dev nD) (i : Fin 1472) (j : Fin 2048) :
    (show FVec Ideal S2x1472x2048 .f32 from (dats m hO 0 c).arrAt 8 (cfgM m hO).N) (ix3 1 i j) = A9 m c (ix3 1 i j) := by
  have e : (show FVec Ideal S2x1472x2048 .f32 from (dats m hO 0 c).arrAt 8 (cfgM m hO).N) (ix3 1 i j) = (show FVec Ideal S2x1472x2048 .f32 from (dats m hO 0 c).A 8) (ix3 1 i j) :=
    (dats m hO 0 c).arrAt_emb_eq_entry 8 _ (covers8 (adm m hO)) (ix3 (1 : Fin 2) i j) (by show ¬ (1 / 1 = 0); omega)
  rw [e, A_eq]
  exact congrFun (entry8 m c) _

theorem fin5 (c : Dev nD) :
    (dats m hO 0 c).arrAt 5 (cfgM m hO).N = Cert.FirstiRefIdeal.Read.val_main_v42 (F := Ideal) (A0 m c) (A4 m c) (A5 m c) (A6 m c) := by
  funext y
  revert y
  show ∀ y : S2x1472x2048.Idx, _
  intro y
  idx_vars y
  match y0 with
  | ⟨0, _⟩ => exact (tile5 m hO c y1 y2).trans (Cert.FirstiRefIdeal.At.at42_first _ _ _ y1 y2 _).symm
  | ⟨1, _⟩ => exact (kept5 m hO c y1 y2).trans (Cert.FirstiRefIdeal.At.at42_last _ _ _ y1 y2 _).symm

theorem fin6 (c : Dev nD) :
    (dats m hO 0 c).arrAt 6 (cfgM m hO).N = Cert.FirstiRefIdeal.Read.val_main_v47 (F := Ideal) (A0 m c) (A1 m c) (A2 m c) (A3 m c) (A4 m c) (A5 m c) (A7 m c) := by
  funext y
  revert y
  show ∀ y : S2x1472x2048.Idx, _
  intro y
  idx_vars y
  match y0 with
  | ⟨0, _⟩ => exact (tile6 m hO c y1 y2).trans (Cert.FirstiRefIdeal.At.at47_first _ _ _ _ _ _ y1 y2 _).symm
  | ⟨1, _⟩ => exact (kept6 m hO c y1 y2).trans (Cert.FirstiRefIdeal.At.at47_last _ _ _ _ _ _ y1 y2 _).symm

theorem fin7 (c : Dev nD) :
    (dats m hO 0 c).arrAt 7 (cfgM m hO).N = Cert.FirstiRefIdeal.Read.val_main_v52 (F := Ideal) (A0 m c) (A2 m c) (A4 m c) (A5 m c) (A8 m c) := by
  funext y
  revert y
  show ∀ y : S2x1472x2048.Idx, _
  intro y
  idx_vars y
  match y0 with
  | ⟨0, _⟩ => exact (tile7 m hO c y1 y2).trans (Cert.FirstiRefIdeal.At.at52_first _ _ _ _ y1 y2 _).symm
  | ⟨1, _⟩ => exact (kept7 m hO c y1 y2).trans (Cert.FirstiRefIdeal.At.at52_last _ _ _ _ y1 y2 _).symm

theorem fin8 (c : Dev nD) :
    (dats m hO 0 c).arrAt 8 (cfgM m hO).N = Cert.FirstiRefIdeal.Read.val_main_v57 (F := Ideal) (A0 m c) (A3 m c) (A4 m c) (A5 m c) (A9 m c) := by
  funext y
  revert y
  show ∀ y : S2x1472x2048.Idx, _
  intro y
  idx_vars y
  match y0 with
  | ⟨0, _⟩ => exact (tile8 m hO c y1 y2).trans (Cert.FirstiRefIdeal.At.at57_first _ _ _ _ y1 y2 _).symm
  | ⟨1, _⟩ => exact (kept8 m hO c y1 y2).trans (Cert.FirstiRefIdeal.At.at57_last _ _ _ _ y1 y2 _).symm

end Cert.FirstiIdeal.Bridge

end
-- ==== Proof.FirstiClaims.lean ====
/- The claims of the step of layer 0 of the input projection: the frames, the constants kept, and the value claim. -/
module

public import proofs.«01_k».proof.Defs
public import proofs.«01_k».proof.Proof.FirstiValue
public import proofs.«01_k».proof.Proof.Gen.Firsti.Frame
public import proofs.«01_k».proof.Proof.Gen.FirstiRefIdeal.Run
public import Idealize.ShloMosaic.Lib.Claim
public import Idealize.ShloMosaic.Lib.Quiescent

@[expose] public section

set_option maxRecDepth 16384

noncomputable section

namespace Cert.FirstiClaims

open Idealize.ShloMosaic Idealize.ShloMosaic.TcCoe Idealize.SL.Sem

/-- No constant of the kernel is named. -/
theorem preserves : Cert.preserves_Firsti_FirstiIdeal := trivial

section
open Cert.FirstiRefIdeal Cert.FirstiRefIdeal.Gen

/-- The reference's run, its results named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v42) = Read.val_main_v42 (F := Ideal) (m ((c.tc : Thread nD τ).loc main_arg0)) (m ((c.tc : Thread nD τ).loc main_arg4)) (m ((c.tc : Thread nD τ).loc main_arg5)) (m ((c.tc : Thread nD τ).loc main_arg6))
      ∧ r.2.mem ((c.tc : Thread nD τ).loc main_v47) = Read.val_main_v47 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7))
      ∧ r.2.mem ((c.tc : Thread nD τ).loc main_v52) = Read.val_main_v52 (F := Ideal) (m ((c.tc : Thread nD τ).loc main_arg0)) (m ((c.tc : Thread nD τ).loc main_arg2)) (m ((c.tc : Thread nD τ).loc main_arg4)) (m ((c.tc : Thread nD τ).loc main_arg5)) (m ((c.tc : Thread nD τ).loc main_arg8))
      ∧ r.2.mem ((c.tc : Thread nD τ).loc main_v57) = Read.val_main_v57 (F := Ideal) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c).1.trans (Read.val_main_v42_eq _ _ _ _),
    (h c).2.1.trans (Read.val_main_v47_eq _ _ _ _ _ _ _),
    (h c).2.2.1.trans (Read.val_main_v52_eq _ _ _ _ _),
    (h c).2.2.2.1.trans (Read.val_main_v57_eq _ _ _ _ _),
    (h c).2.2.2.2⟩) (Value.run m ρ)

end

section
open Cert.FirstiIdeal Cert.FirstiIdeal.Gen

/-- The kernel's run, its results the reference's functions of the arguments. -/
theorem run_ker (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v0_0) = Cert.FirstiRefIdeal.Read.val_main_v42 (F := Ideal) (m ((c.tc : Thread nD τ).loc main_arg0)) (m ((c.tc : Thread nD τ).loc main_arg4)) (m ((c.tc : Thread nD τ).loc main_arg5)) (m ((c.tc : Thread nD τ).loc main_arg6))
      ∧ r.2.mem ((c.tc : Thread nD τ).loc main_v0_1) = Cert.FirstiRefIdeal.Read.val_main_v47 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7))
      ∧ r.2.mem ((c.tc : Thread nD τ).loc main_v0_2) = Cert.FirstiRefIdeal.Read.val_main_v52 (F := Ideal) (m ((c.tc : Thread nD τ).loc main_arg0)) (m ((c.tc : Thread nD τ).loc main_arg2)) (m ((c.tc : Thread nD τ).loc main_arg4)) (m ((c.tc : Thread nD τ).loc main_arg5)) (m ((c.tc : Thread nD τ).loc main_arg8))
      ∧ r.2.mem ((c.tc : Thread nD τ).loc main_v0_3) = Cert.FirstiRefIdeal.Read.val_main_v57 (F := Ideal) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  run_from run_main m ρ trivial & unchanged m ρ trivial
  · exact Cert.FirstiIdeal.Bridge.fin5 m trivial c
  · exact Cert.FirstiIdeal.Bridge.fin6 m trivial c
  · exact Cert.FirstiIdeal.Bridge.fin7 m trivial c
  · exact Cert.FirstiIdeal.Bridge.fin8 m trivial c

end

theorem frame_p : Cert.quiescent_Firsti := fun m ρ _ => Cert.Firsti.Gen.frame m ρ trivial
theorem frame_pi : Cert.quiescent_FirstiIdeal := fun m ρ _ => Cert.FirstiIdeal.Gen.frame m ρ trivial
theorem frame_ri : Cert.quiescent_FirstiRefIdeal := fun m g _ =>
  (θ_run Cert.FirstiRefIdeal.defs _ _).mono (fun r h => ⟨fun c => (h c).2.2.2.2, sem_eq_zero_of_no_sems (by decide) r.2⟩)
    (Cert.FirstiRefIdeal.Value.run (F := Ideal) m g)

theorem algebraic : Cert.algebraic_FirstiIdeal_FirstiRefIdeal := by
  intro m g m' g' _ hagree
  refine ⟨fun c => Cert.FirstiRefIdeal.Read.val_main_v42 (F := Ideal) (m ((c.tc : Thread Cert.FirstiIdeal.nD Cert.FirstiIdeal.τ).loc Cert.FirstiIdeal.main_arg0)) (m ((c.tc : Thread Cert.FirstiIdeal.nD Cert.FirstiIdeal.τ).loc Cert.FirstiIdeal.main_arg4)) (m ((c.tc : Thread Cert.FirstiIdeal.nD Cert.FirstiIdeal.τ).loc Cert.FirstiIdeal.main_arg5)) (m ((c.tc : Thread Cert.FirstiIdeal.nD Cert.FirstiIdeal.τ).loc Cert.FirstiIdeal.main_arg6)), fun c => Cert.FirstiRefIdeal.Read.val_main_v47 (F := Ideal) (m ((c.tc : Thread Cert.FirstiIdeal.nD Cert.FirstiIdeal.τ).loc Cert.FirstiIdeal.main_arg0)) (m ((c.tc : Thread Cert.FirstiIdeal.nD Cert.FirstiIdeal.τ).loc Cert.FirstiIdeal.main_arg1)) (m ((c.tc : Thread Cert.FirstiIdeal.nD Cert.FirstiIdeal.τ).loc Cert.FirstiIdeal.main_arg2)) (m ((c.tc : Thread Cert.FirstiIdeal.nD Cert.FirstiIdeal.τ).loc Cert.FirstiIdeal.main_arg3)) (m ((c.tc : Thread Cert.FirstiIdeal.nD Cert.FirstiIdeal.τ).loc Cert.FirstiIdeal.main_arg4)) (m ((c.tc : Thread Cert.FirstiIdeal.nD Cert.FirstiIdeal.τ).loc Cert.FirstiIdeal.main_arg5)) (m ((c.tc : Thread Cert.FirstiIdeal.nD Cert.FirstiIdeal.τ).loc Cert.FirstiIdeal.main_arg7)), fun c => Cert.FirstiRefIdeal.Read.val_main_v52 (F := Ideal) (m ((c.tc : Thread Cert.FirstiIdeal.nD Cert.FirstiIdeal.τ).loc Cert.FirstiIdeal.main_arg0)) (m ((c.tc : Thread Cert.FirstiIdeal.nD Cert.FirstiIdeal.τ).loc Cert.FirstiIdeal.main_arg2)) (m ((c.tc : Thread Cert.FirstiIdeal.nD Cert.FirstiIdeal.τ).loc Cert.FirstiIdeal.main_arg4)) (m ((c.tc : Thread Cert.FirstiIdeal.nD Cert.FirstiIdeal.τ).loc Cert.FirstiIdeal.main_arg5)) (m ((c.tc : Thread Cert.FirstiIdeal.nD Cert.FirstiIdeal.τ).loc Cert.FirstiIdeal.main_arg8)), fun c => Cert.FirstiRefIdeal.Read.val_main_v57 (F := Ideal) (m ((c.tc : Thread Cert.FirstiIdeal.nD Cert.FirstiIdeal.τ).loc Cert.FirstiIdeal.main_arg0)) (m ((c.tc : Thread Cert.FirstiIdeal.nD Cert.FirstiIdeal.τ).loc Cert.FirstiIdeal.main_arg3)) (m ((c.tc : Thread Cert.FirstiIdeal.nD Cert.FirstiIdeal.τ).loc Cert.FirstiIdeal.main_arg4)) (m ((c.tc : Thread Cert.FirstiIdeal.nD Cert.FirstiIdeal.τ).loc Cert.FirstiIdeal.main_arg5)) (m ((c.tc : Thread Cert.FirstiIdeal.nD Cert.FirstiIdeal.τ).loc Cert.FirstiIdeal.main_arg9)), run_ker m g, θ_run_mono (run_ref m' g') fun r h c => ?_⟩
  obtain ⟨a0, a1, a2, a3, a4, a5, a6, a7, a8, a9⟩ := hagree c
  exact ⟨(h c).1.trans (congr (congr (congr (congrArg (Cert.FirstiRefIdeal.Read.val_main_v42 (F := Ideal)) a0) a4) a5) a6),
    (h c).2.1.trans (congr (congr (congr (congr (congr (congr (congrArg (Cert.FirstiRefIdeal.Read.val_main_v47 (F := Ideal)) a0) a1) a2) a3) a4) a5) a7),
    (h c).2.2.1.trans (congr (congr (congr (congr (congrArg (Cert.FirstiRefIdeal.Read.val_main_v52 (F := Ideal)) a0) a2) a4) a5) a8),
    (h c).2.2.2.1.trans (congr (congr (congr (congr (congrArg (Cert.FirstiRefIdeal.Read.val_main_v57 (F := Ideal)) a0) a3) a4) a5) a9), (h c).2.2.2.2⟩

end Cert.FirstiClaims

end
-- ==== Proof.LastoRef.lean ====
/- The step of the last layer of the output projection: its reference at an index. -/
module

public import proofs.«01_k».proof.Proof.Gen.LastoRefIdeal.Read
public import proofs.«01_k».proof.Proof.RideRef
public import Idealize.ShloMosaic.Lib.Pipeline.ValueKit

@[expose] public section

set_option maxRecDepth 16384

noncomputable section

namespace Cert.LastoRefIdeal.At

open Cert.LastoRefIdeal Cert.LastoRefIdeal.Gen Cert.LastoRefIdeal.Read
open Idealize.ShloMosaic Idealize.ShloMosaic.TcCoe Idealize.SL.Sem
open Cert.RideRefIdeal.At (pick whole moment square step)

variable (b : Vec Ideal S1 .i32) (w m v : FVec Ideal S2x256x2048 .f32) (l s : FVec Ideal S4x256x2048 .bf16) (i : Fin 256) (j : Fin 2048)

/-- Of one chip's place: its own sum where the place is this chip's, else what landed there. -/
theorem at11 (k : Fin 4) : val_main_v11 (F := Ideal) b l s (ix3 k i j) = pick (b (ix1 0)) (BitVec.ofNat 32 k.val) (s (ix3 k i j)) (l (ix3 k i j)) := by
  unfold pick
  pointwise [val_main_v11, val_main_call0_v0, val_main_v10, val_main_v9, val_main_v8, val_main_v7, val_main_v6]
  simp only [Scalar.select, IntOp.cmpi]
  by_cases h : b (ix1 0) = BitVec.ofNat 32 k.val
  · simp [h]
  · have e : (BitVec.ofNat 32 k.val == b (ix1 0)) = false := beq_false_of_ne (Ne.symm h)
    simp [e, h]

/-- The whole gradient, -/
theorem at13 : val_main_v13 (F := Ideal) b l s (ix2 i j) = whole (b (ix1 0)) (fun k => s (ix3 k i j)) (fun k => l (ix3 k i j)) := by
  unfold val_main_v13 val_main_v12
  have e := at11 b l s i j
  generalize val_main_v11 (F := Ideal) b l s = p at e ⊢
  pointwise [val_main_cst]
  unfold whole
  rw [Fin.sum_univ_four, e 0, e 1, e 2, e 3]
  rfl

/-- the first moment, -/
theorem at18 : val_main_v18 (F := Ideal) b m l s (ix2 i j) = moment (val_main_v13 (F := Ideal) b l s (ix2 i j)) (m (ix3 1 i j)) := by
  unfold moment val_main_v18 val_main_v17
  generalize val_main_v13 (F := Ideal) b l s = g
  pointwise [val_main_v16, val_main_cst_1, val_main_v15, val_main_v14, val_main_cst_0, val_main_v3, val_main_v2]

/-- the second -/
theorem at24 : val_main_v24 (F := Ideal) b v l s (ix2 i j) = square (val_main_v13 (F := Ideal) b l s (ix2 i j)) (v (ix3 1 i j)) := by
  unfold square val_main_v24 val_main_v23 val_main_v21
  generalize val_main_v13 (F := Ideal) b l s = g
  pointwise [val_main_v22, val_main_cst_3, val_main_v20, val_main_v19, val_main_cst_2, val_main_v5, val_main_v4]

/-- and the step. -/
theorem at37 : val_main_v37 (F := Ideal) b w m v l s (ix2 i j)
    = step (w (ix3 1 i j)) (val_main_v13 (F := Ideal) b l s (ix2 i j)) (m (ix3 1 i j)) (v (ix3 1 i j)) := by
  unfold step
  rw [← at18, ← at24]
  unfold val_main_v37 val_main_v35 val_main_v32 val_main_v31 val_main_v29 val_main_v28 val_main_v26
  generalize val_main_v18 (F := Ideal) b m l s = a
  generalize val_main_v24 (F := Ideal) b v l s = c
  pointwise [val_main_v36, val_main_cst_8, val_main_v34, val_main_v33, val_main_cst_7, val_main_v30, val_main_cst_6, val_main_v27, val_main_cst_5, val_main_v25, val_main_cst_4, val_main_v1, val_main_v0]

end Cert.LastoRefIdeal.At

end
-- ==== Proof.LastoValue.lean ====
/- The step of the last layer of the output projection: tile by tile, the kernel's arrays are the reference's on that layer. -/
module

public import proofs.«01_k».proof.Proof.Gen.LastoIdeal.Frame
public import proofs.«01_k».proof.Proof.LastoRef
public import Idealize.ShloMosaic.Lib.Pipeline.ValueKit
public import Idealize.ShloMosaic.Lib.Pipeline.ReadBack

@[expose] public section

set_option maxRecDepth 16384

noncomputable section

namespace Cert.LastoIdeal.Bridge

open Cert.LastoIdeal Cert.LastoIdeal.Gen Idealize.ShloMosaic Idealize.ShloMosaic.TcCoe Idealize.SL.Sem
open Idealize.ShloMosaic.Pipeline (Dat)
open Cert.RideRefIdeal.At (pick whole moment square step)

/-- A place's row, chosen. -/
theorem select_eq (b k : BitVec 32) (s l : FVec Ideal S128x2048 .bf16) (y : S128x2048.Idx) :
    Scalar.select (Scalar.cmpi .eq b k) s l y = pick b k (s y) (l y) := by
  unfold pick
  simp only [Scalar.select, Scalar.cmpi, IntOp.cmpi]
  by_cases h : b = k
  · simp [h]
  · have e : (b == k) = false := beq_false_of_ne h
    simp [e, h]

section
variable (b : BitVec 32) (s0 s1 s2 s3 l0 l1 l2 l3 : FVec Ideal S1x128x2048 .bf16) (i : Fin 128) (j : Fin 2048)

/-- The four chips' rows, in the order they are added. -/
abbrev four (r0 r1 r2 r3 : FVec Ideal S1x128x2048 .bf16) (i : Fin 128) (j : Fin 2048) : Fin 4 → EReal :=
  ![r0 (ix3 0 i j), r1 (ix3 0 i j), r2 (ix3 0 i j), r3 (ix3 0 i j)]

/-- The whole gradient in a tile. -/
abbrev grad : FVec Ideal S128x2048 .f32 :=
  k0_pay6 (F := Ideal) (k0_pay4 (F := Ideal) b s0 l0 b s1 l1 b s2 l2) (Scalar.cmpi .eq b 3#32) (k0_pay5 (F := Ideal) s3) l3

theorem grad_at : grad b s0 s1 s2 s3 l0 l1 l2 l3 (ix2 i j) = whole b (four s0 s1 s2 s3 i j) (four l0 l1 l2 l3 i j) := by
  unfold grad whole
  pointwise [k0_pay6, k0_pay4, k0_pay5, select_eq]

end

section
variable (p : FVec Ideal S128x2048 .f32) (k : BitVec 1) (q : FVec Ideal S128x2048 .bf16) (u : FVec Ideal S1x128x2048 .bf16) (m v w : FVec Ideal S1x128x2048 .f32)
  (i : Fin 128) (j : Fin 2048)

/-- The gradient as it is stored, -/
theorem pay9_at : k0_pay9 (F := Ideal) p k q u (ix3 0 i j) = k0_pay6 (F := Ideal) p k q u (ix2 i j) := by
  unfold k0_pay9
  generalize k0_pay6 (F := Ideal) p k q u = g
  pointwise

/-- the first moment, -/
theorem pay7_at : k0_pay7 (F := Ideal) p k q u m (ix2 i j) = moment (k0_pay6 (F := Ideal) p k q u (ix2 i j)) (m (ix3 0 i j)) := by
  unfold moment k0_pay7
  generalize k0_pay6 (F := Ideal) p k q u = g
  pointwise

theorem pay2_at : k0_pay2 (F := Ideal) p (ix3 0 i j) = p (ix2 i j) := by pointwise [k0_pay2]

/-- the second -/
theorem pay8_at : k0_pay8 (F := Ideal) p k q u v (ix2 i j) = square (k0_pay6 (F := Ideal) p k q u (ix2 i j)) (v (ix3 0 i j)) := by
  unfold square k0_pay8
  generalize k0_pay6 (F := Ideal) p k q u = g
  pointwise

theorem pay3_at : k0_pay3 (F := Ideal) p (ix3 0 i j) = p (ix2 i j) := by pointwise [k0_pay3]

/-- and the step. -/
theorem pay1_at : k0_pay1 (F := Ideal) (k0_pay10 (F := Ideal) p k q u m v w) (ix3 0 i j)
    = step (w (ix3 0 i j)) (k0_pay6 (F := Ideal) p k q u (ix2 i j)) (m (ix3 0 i j)) (v (ix3 0 i j)) := by
  unfold step
  rw [← pay7_at, ← pay8_at]
  unfold k0_pay1 k0_pay10
  generalize k0_pay7 (F := Ideal) p k q u m = a
  generalize k0_pay8 (F := Ideal) p k q u v = b
  pointwise

end

/-- No index map reads the table, so any contents of it will do to read the windows' geometry. -/
abbrev any : (pcfg0 (F := Ideal)).Adm := ⟨Fin.cases (fun _ => (0#32 : BitVec 32)) fun j => j.elim0, trivial⟩

/-- Every window's block at a grid point: the point is the row tile. -/
theorem idx (a : (pcfg0 (F := Ideal)).Adm) : ∀ t : Fin (cfg0 a).N, ((cfg0 a).win 0).index t = ![1, t.val, 0] ∧ ((cfg0 a).win 1).index t = ![1, t.val, 0] ∧ ((cfg0 a).win 2).index t = ![1, t.val, 0] ∧ ((cfg0 a).win 3).index t = ![0, t.val, 0] ∧ ((cfg0 a).win 4).index t = ![0, t.val, 0] ∧ ((cfg0 a).win 5).index t = ![1, t.val, 0] ∧ ((cfg0 a).win 6).index t = ![1, t.val, 0] ∧ ((cfg0 a).win 7).index t = ![1, t.val, 0] ∧ ((cfg0 a).win 8).index t = ![1, t.val, 0] :=
  (by decide +kernel : ∀ t : Fin (cfg0 (F := Ideal) any).N, ((cfg0 (F := Ideal) any).win 0).index t = ![1, t.val, 0] ∧ ((cfg0 (F := Ideal) any).win 1).index t = ![1, t.val, 0] ∧ ((cfg0 (F := Ideal) any).win 2).index t = ![1, t.val, 0] ∧ ((cfg0 (F := Ideal) any).win 3).index t = ![0, t.val, 0] ∧ ((cfg0 (F := Ideal) any).win 4).index t = ![0, t.val, 0] ∧ ((cfg0 (F := Ideal) any).win 5).index t = ![1, t.val, 0] ∧ ((cfg0 (F := Ideal) any).win 6).index t = ![1, t.val, 0] ∧ ((cfg0 (F := Ideal) any).win 7).index t = ![1, t.val, 0] ∧ ((cfg0 (F := Ideal) any).win 8).index t = ![1, t.val, 0])

/-- The tiles written back are the last layer's. -/
theorem covers5 (a : (pcfg0 (F := Ideal)).Adm) : ((cfg0 a).win 5).CoversWhere fun β : Fin 3 → Nat => β 0 = 1 :=
  (by decide +kernel : ((cfg0 (F := Ideal) any).win 5).CoversWhere fun β : Fin 3 → Nat => β 0 = 1)
theorem covers6 (a : (pcfg0 (F := Ideal)).Adm) : ((cfg0 a).win 6).CoversWhere fun β : Fin 3 → Nat => β 0 = 1 :=
  (by decide +kernel : ((cfg0 (F := Ideal) any).win 6).CoversWhere fun β : Fin 3 → Nat => β 0 = 1)
theorem covers7 (a : (pcfg0 (F := Ideal)).Adm) : ((cfg0 a).win 7).CoversWhere fun β : Fin 3 → Nat => β 0 = 1 :=
  (by decide +kernel : ((cfg0 (F := Ideal) any).win 7).CoversWhere fun β : Fin 3 → Nat => β 0 = 1)
theorem covers8 (a : (pcfg0 (F := Ideal)).Adm) : ((cfg0 a).win 8).CoversWhere fun β : Fin 3 → Nat => β 0 = 1 :=
  (by decide +kernel : ((cfg0 (F := Ideal) any).win 8).CoversWhere fun β : Fin 3 → Nat => β 0 = 1)

variable (m : (ℓ : Loc nD τ sig) → Buf (Elt Ideal) ℓ) (hO : Ok m)

/-- The argument arrays. -/
abbrev A0 (c : Dev nD) : Vec Ideal S1 .i32 := m ((c : Thread nD τ).loc main_arg0)
abbrev A1 (c : Dev nD) : FVec Ideal S2x256x2048 .f32 := m ((c : Thread nD τ).loc main_arg1)
abbrev A2 (c : Dev nD) : FVec Ideal S2x256x2048 .f32 := m ((c : Thread nD τ).loc main_arg2)
abbrev A3 (c : Dev nD) : FVec Ideal S2x256x2048 .f32 := m ((c : Thread nD τ).loc main_arg3)
abbrev A4 (c : Dev nD) : FVec Ideal S4x256x2048 .bf16 := m ((c : Thread nD τ).loc main_arg4)
abbrev A5 (c : Dev nD) : FVec Ideal S4x256x2048 .bf16 := m ((c : Thread nD τ).loc main_arg5)

/-- The tile's rows. -/
theorem lt_N (t : Fin (cfgM m hO).N) : t.val < 2 := lt_of_lt_of_eq t.isLt (by decide +kernel : (cfg0 (F := Ideal) any).N = 2)
abbrev row (t : Fin (cfgM m hO).N) (r : Fin 128) : Fin 256 := ⟨t.val * 128 + r.val, by have := lt_N m hO t; omega⟩

section
variable (c : Dev nD) (t : Fin (cfgM m hO).N)

theorem w_at (i : Fin 128) (j : Fin 2048) : (show FVec Ideal S1x128x2048 .f32 from iblk m hO c 0 t) (ix3 0 i j) = A1 m c (ix3 1 (row m hO t i) j) := by
  blk_point [iblk, V, idx (adm m hO) t]

theorem m_at (i : Fin 128) (j : Fin 2048) : (show FVec Ideal S1x128x2048 .f32 from iblk m hO c 1 t) (ix3 0 i j) = A2 m c (ix3 1 (row m hO t i) j) := by
  blk_point [iblk, V, idx (adm m hO) t]

theorem v_at (i : Fin 128) (j : Fin 2048) : (show FVec Ideal S1x128x2048 .f32 from iblk m hO c 2 t) (ix3 0 i j) = A3 m c (ix3 1 (row m hO t i) j) := by
  blk_point [iblk, V, idx (adm m hO) t]

theorem l_at (k : Fin 4) (i : Fin 128) (j : Fin 2048) : (show FVec Ideal S4x128x2048 .bf16 from iblk m hO c 3 t) (ix3 k i j) = A4 m c (ix3 k (row m hO t i) j) := by
  blk_point [iblk, V, idx (adm m hO) t]

theorem s_at (k : Fin 4) (i : Fin 128) (j : Fin 2048) : (show FVec Ideal S4x128x2048 .bf16 from iblk m hO c 4 t) (ix3 k i j) = A5 m c (ix3 k (row m hO t i) j) := by
  blk_point [iblk, V, idx (adm m hO) t]

end

/-- One chip's rows of a tile of all four's. -/
theorem ld_row (x : FVec Ideal S4x128x2048 .bf16) (k : Fin 4) (h : ∀ d, (![k.val, 0, 0] : Fin 3 → Nat) d + S1x128x2048.size d ≤ S4x128x2048.size d)
    (i : Fin 128) (j : Fin 2048) :
    View.ld (Val := Elt Ideal) (e' := .bf16) x (Rect.unit (s := S4x128x2048) ![k.val, 0, 0] S1x128x2048.size h) (ix3 0 i j) = x (ix3 k i j) := by
  refine View.ld_unit_apply_of _ _ _ _ _ _ fun d => ?_
  fin_cases d
  · show k.val = k.val + 0
    omega
  · show i.val = 0 + i.val
    omega
  · show j.val = 0 + j.val
    omega

/-- The place of this chip, read from the table. -/
theorem chip (c : Dev nD) (h : ∀ d, (![0] : Fin 1 → Nat) d + Shape.size S1 d ≤ Shape.size S1 d) (y : Shape.Idx S1) :
    View.readAt (Elt Ideal) (View.whole main_arg0) (Rect.unit (s := S1) ![0] (Shape.size S1) h).toLoadRect (tbl m 0) y = A0 m c (ix1 0) := by
  obtain rfl : c = 0 := Subsingleton.elim _ _
  refine congrArg (A0 m 0) (funext fun d => ?_)
  fin_cases d
  exact Subsingleton.elim (α := Fin 1) _ _

section
variable (c : Dev nD) (t : Fin (cfgM m hO).N) (i : Fin 128) (j : Fin 2048)

theorem four_eq (x : FVec Ideal S4x128x2048 .bf16) :
    four
        (View.ld (Val := Elt Ideal) (e' := .bf16) x (Rect.unit (s := S4x128x2048) ![0, 0, 0] S1x128x2048.size inb_S4x128x2048_S1x128x2048_0_0_0))
        (View.ld (Val := Elt Ideal) (e' := .bf16) x (Rect.unit (s := S4x128x2048) ![1, 0, 0] S1x128x2048.size inb_S4x128x2048_S1x128x2048_1_0_0))
        (View.ld (Val := Elt Ideal) (e' := .bf16) x (Rect.unit (s := S4x128x2048) ![2, 0, 0] S1x128x2048.size inb_S4x128x2048_S1x128x2048_2_0_0))
        (View.ld (Val := Elt Ideal) (e' := .bf16) x (Rect.unit (s := S4x128x2048) ![3, 0, 0] S1x128x2048.size inb_S4x128x2048_S1x128x2048_3_0_0)) i j
      = fun k => x (ix3 k i j) := by
  funext k
  fin_cases k
  · exact ld_row x 0 _ i j
  · exact ld_row x 1 _ i j
  · exact ld_row x 2 _ i j
  · exact ld_row x 3 _ i j

/-- The whole gradient in a point's tile is the reference's. -/
theorem grad_point (b : BitVec 32) (hb : b = A0 m c (ix1 0)) :
    grad b
        (View.ld (Val := Elt Ideal) (e' := .bf16) (iblk m hO c 4 t) (Rect.unit (s := S4x128x2048) ![0, 0, 0] S1x128x2048.size inb_S4x128x2048_S1x128x2048_0_0_0))
        (View.ld (Val := Elt Ideal) (e' := .bf16) (iblk m hO c 4 t) (Rect.unit (s := S4x128x2048) ![1, 0, 0] S1x128x2048.size inb_S4x128x2048_S1x128x2048_1_0_0))
        (View.ld (Val := Elt Ideal) (e' := .bf16) (iblk m hO c 4 t) (Rect.unit (s := S4x128x2048) ![2, 0, 0] S1x128x2048.size inb_S4x128x2048_S1x128x2048_2_0_0))
        (View.ld (Val := Elt Ideal) (e' := .bf16) (iblk m hO c 4 t) (Rect.unit (s := S4x128x2048) ![3, 0, 0] S1x128x2048.size inb_S4x128x2048_S1x128x2048_3_0_0))
        (View.ld (Val := Elt Ideal) (e' := .bf16) (iblk m hO c 3 t) (Rect.unit (s := S4x128x2048) ![0, 0, 0] S1x128x2048.size inb_S4x128x2048_S1x128x2048_0_0_0))
        (View.ld (Val := Elt Ideal) (e' := .bf16) (iblk m hO c 3 t) (Rect.unit (s := S4x128x2048) ![1, 0, 0] S1x128x2048.size inb_S4x128x2048_S1x128x2048_1_0_0))
        (View.ld (Val := Elt Ideal) (e' := .bf16) (iblk m hO c 3 t) (Rect.unit (s := S4x128x2048) ![2, 0, 0] S1x128x2048.size inb_S4x128x2048_S1x128x2048_2_0_0))
        (View.ld (Val := Elt Ideal) (e' := .bf16) (iblk m hO c 3 t) (Rect.unit (s := S4x128x2048) ![3, 0, 0] S1x128x2048.size inb_S4x128x2048_S1x128x2048_3_0_0)) (ix2 i j)
      = Cert.LastoRefIdeal.Read.val_main_v13 (F := Ideal) (A0 m c) (A4 m c) (A5 m c) (ix2 (row m hO t i) j) := by
  refine (grad_at _ _ _ _ _ _ _ _ _ i j).trans ?_
  rw [Cert.LastoRefIdeal.At.at13]
  have es : (fun k => (show FVec Ideal S4x128x2048 .bf16 from iblk m hO c 4 t) (ix3 k i j)) = fun k => A5 m c (ix3 k (row m hO t i) j) :=
    funext fun k => s_at m hO c t k i j
  have el : (fun k => (show FVec Ideal S4x128x2048 .bf16 from iblk m hO c 3 t) (ix3 k i j)) = fun k => A4 m c (ix3 k (row m hO t i) j) :=
    funext fun k => l_at m hO c t k i j
  exact congr (congr (congrArg whole hb) ((four_eq i j _).trans es)) ((four_eq i j _).trans el)

end

/-- The gradient's layer written, -/
theorem tile5 (c : Dev nD) (i : Fin 256) (j : Fin 2048) :
    (show FVec Ideal S2x256x2048 .f32 from (dats m hO 0 c).arrAt 5 (cfgM m hO).N) (ix3 1 i j) = Cert.LastoRefIdeal.Read.val_main_v13 (F := Ideal) (A0 m c) (A4 m c) (A5 m c) (ix2 i j) := by
  refine ((dats m hO 0 c).arrAt_apply_of_coversWhere 5
    (fun q : S2x256x2048.Idx => Cert.LastoRefIdeal.Read.val_main_v13 (F := Ideal) (A0 m c) (A4 m c) (A5 m c) (ix2 (q 1) (q 2)))
    (P := fun q : S2x256x2048.Idx => (q 0).val = 1) (fun β : Fin 3 → Nat => β 0 = 1) (covers5 (adm m hO)) (fun t _ y => ?_)
    (fun j : S2x256x2048.Idx => by show (j 0).val = 1 ↔ (j 0).val / 1 = 1; rw [Nat.div_one]) _).trans (if_pos rfl)
  blk_simp
  rw [after0_5]
  revert y
  show ∀ y : S1x128x2048.Idx, _
  intro y
  idx_vars y
  obtain rfl : y0 = 0 := Subsingleton.elim _ _
  refine Eq.trans ?_ ((Cert.LastoRefIdeal.At.at13 _ _ _ (row m hO t y1) y2).symm.trans <| congrArg _ (by blk_ext [idx (adm m hO) t]))
  dsimp only [outsAt0]
  frame_out
  rw [(hs0_3 m hO t).read_unread (iblk m hO c 3 t), (hs0_4 m hO t).read_unread (iblk m hO c 4 t)]
  rw [← Cert.LastoRefIdeal.At.at13]
  exact (pay9_at _ _ _ _ y1 y2).trans (grad_point m hO c t y1 y2 _ (chip m c _ _))

/-- the step's, -/
theorem tile6 (c : Dev nD) (i : Fin 256) (j : Fin 2048) :
    (show FVec Ideal S2x256x2048 .f32 from (dats m hO 0 c).arrAt 6 (cfgM m hO).N) (ix3 1 i j) = Cert.LastoRefIdeal.Read.val_main_v37 (F := Ideal) (A0 m c) (A1 m c) (A2 m c) (A3 m c) (A4 m c) (A5 m c) (ix2 i j) := by
  refine ((dats m hO 0 c).arrAt_apply_of_coversWhere 6
    (fun q : S2x256x2048.Idx => Cert.LastoRefIdeal.Read.val_main_v37 (F := Ideal) (A0 m c) (A1 m c) (A2 m c) (A3 m c) (A4 m c) (A5 m c) (ix2 (q 1) (q 2)))
    (P := fun q : S2x256x2048.Idx => (q 0).val = 1) (fun β : Fin 3 → Nat => β 0 = 1) (covers6 (adm m hO)) (fun t _ y => ?_)
    (fun j : S2x256x2048.Idx => by show (j 0).val = 1 ↔ (j 0).val / 1 = 1; rw [Nat.div_one]) _).trans (if_pos rfl)
  blk_simp
  rw [after0_6]
  revert y
  show ∀ y : S1x128x2048.Idx, _
  intro y
  idx_vars y
  obtain rfl : y0 = 0 := Subsingleton.elim _ _
  refine Eq.trans ?_ ((Cert.LastoRefIdeal.At.at37 _ _ _ _ _ _ (row m hO t y1) y2).symm.trans <| congrArg _ (by blk_ext [idx (adm m hO) t]))
  dsimp only [outsAt0]
  frame_out
  rw [(hs0_0 m hO t).read_unread (iblk m hO c 0 t), (hs0_1 m hO t).read_unread (iblk m hO c 1 t), (hs0_2 m hO t).read_unread (iblk m hO c 2 t), (hs0_3 m hO t).read_unread (iblk m hO c 3 t), (hs0_4 m hO t).read_unread (iblk m hO c 4 t)]
  refine (pay1_at _ _ _ _ _ _ _ y1 y2).trans ?_
  exact congr (congr (congr (congrArg step (w_at m hO c t y1 y2)) (grad_point m hO c t y1 y2 _ (chip m c _ _))) (m_at m hO c t y1 y2)) (v_at m hO c t y1 y2)

/-- the first moment's -/
theorem tile7 (c : Dev nD) (i : Fin 256) (j : Fin 2048) :
    (show FVec Ideal S2x256x2048 .f32 from (dats m hO 0 c).arrAt 7 (cfgM m hO).N) (ix3 1 i j) = Cert.LastoRefIdeal.Read.val_main_v18 (F := Ideal) (A0 m c) (A2 m c) (A4 m c) (A5 m c) (ix2 i j) := by
  refine ((dats m hO 0 c).arrAt_apply_of_coversWhere 7
    (fun q : S2x256x2048.Idx => Cert.LastoRefIdeal.Read.val_main_v18 (F := Ideal) (A0 m c) (A2 m c) (A4 m c) (A5 m c) (ix2 (q 1) (q 2)))
    (P := fun q : S2x256x2048.Idx => (q 0).val = 1) (fun β : Fin 3 → Nat => β 0 = 1) (covers7 (adm m hO)) (fun t _ y => ?_)
    (fun j : S2x256x2048.Idx => by show (j 0).val = 1 ↔ (j 0).val / 1 = 1; rw [Nat.div_one]) _).trans (if_pos rfl)
  blk_simp
  rw [after0_7]
  revert y
  show ∀ y : S1x128x2048.Idx, _
  intro y
  idx_vars y
  obtain rfl : y0 = 0 := Subsingleton.elim _ _
  refine Eq.trans ?_ ((Cert.LastoRefIdeal.At.at18 _ _ _ _ (row m hO t y1) y2).symm.trans <| congrArg _ (by blk_ext [idx (adm m hO) t]))
  dsimp only [outsAt0]
  frame_out
  rw [(hs0_1 m hO t).read_unread (iblk m hO c 1 t), (hs0_3 m hO t).read_unread (iblk m hO c 3 t), (hs0_4 m hO t).read_unread (iblk m hO c 4 t)]
  refine (pay2_at _ y1 y2).trans ((pay7_at _ _ _ _ _ y1 y2).trans ?_)
  exact congr (congrArg moment (grad_point m hO c t y1 y2 _ (chip m c _ _))) (m_at m hO c t y1 y2)

/-- and the second's. -/
theorem tile8 (c : Dev nD) (i : Fin 256) (j : Fin 2048) :
    (show FVec Ideal S2x256x2048 .f32 from (dats m hO 0 c).arrAt 8 (cfgM m hO).N) (ix3 1 i j) = Cert.LastoRefIdeal.Read.val_main_v24 (F := Ideal) (A0 m c) (A3 m c) (A4 m c) (A5 m c) (ix2 i j) := by
  refine ((dats m hO 0 c).arrAt_apply_of_coversWhere 8
    (fun q : S2x256x2048.Idx => Cert.LastoRefIdeal.Read.val_main_v24 (F := Ideal) (A0 m c) (A3 m c) (A4 m c) (A5 m c) (ix2 (q 1) (q 2)))
    (P := fun q : S2x256x2048.Idx => (q 0).val = 1) (fun β : Fin 3 → Nat => β 0 = 1) (covers8 (adm m hO)) (fun t _ y => ?_)
    (fun j : S2x256x2048.Idx => by show (j 0).val = 1 ↔ (j 0).val / 1 = 1; rw [Nat.div_one]) _).trans (if_pos rfl)
  blk_simp
  rw [after0_8]
  revert y
  show ∀ y : S1x128x2048.Idx, _
  intro y
  idx_vars y
  obtain rfl : y0 = 0 := Subsingleton.elim _ _
  refine Eq.trans ?_ ((Cert.LastoRefIdeal.At.at24 _ _ _ _ (row m hO t y1) y2).symm.trans <| congrArg _ (by blk_ext [idx (adm m hO) t]))
  dsimp only [outsAt0]
  frame_out
  rw [(hs0_2 m hO t).read_unread (iblk m hO c 2 t), (hs0_3 m hO t).read_unread (iblk m hO c 3 t), (hs0_4 m hO t).read_unread (iblk m hO c 4 t)]
  refine (pay3_at _ y1 y2).trans ((pay8_at _ _ _ _ _ y1 y2).trans ?_)
  exact congr (congrArg square (grad_point m hO c t y1 y2 _ (chip m c _ _))) (v_at m hO c t y1 y2)

end Cert.LastoIdeal.Bridge

end
-- ==== Proof.LastoTail.lean ====
/- The lines after the region of the step of the last layer of the output projection: each reads the last layer of one of the step's arrays. -/
module

public import proofs.«01_k».proof.Proof.Gen.LastoIdeal.Frame
public import Idealize.ShloMosaic.Lib.Pipeline.ValueKit
public import Idealize.ShloMosaic.Lib.Claim

@[expose] public section

set_option maxRecDepth 16384

noncomputable section

namespace Cert.LastoIdeal.Tail

open Cert.LastoIdeal Cert.LastoIdeal.Gen Idealize.ShloMosaic Idealize.ShloMosaic.TcCoe Idealize.SL.Sem

/-- An array's last layer, the layer's axis dropped. -/
theorem last_at (x : FVec Ideal S2x256x2048 .f32) (i : Fin 256) (j : Fin 2048) :
    shapeCast S256x2048 (extractStridedSlice S1x256x2048 ![1, 0, 0] x slices_S2x256x2048_S1x256x2048_1_0_0) shapeCasts_S1x256x2048_S256x2048 (ix2 i j)
      = x (ix3 1 i j) := by
  pointwise

theorem line2 (W : Valuation τ sig (Elt Ideal)) (i : Fin 256) (j : Fin 2048) :
    (show FVec Ideal S256x2048 .f32 from StableHlo.after hostOps1 W (Proc.devRef .tc main_v2)) (ix2 i j)
      = (show FVec Ideal S2x256x2048 .f32 from W (Proc.devRef .tc main_v0_0)) (ix3 1 i j) := by
  after_results
  exact last_at _ i j

theorem line4 (W : Valuation τ sig (Elt Ideal)) (i : Fin 256) (j : Fin 2048) :
    (show FVec Ideal S256x2048 .f32 from StableHlo.after hostOps1 W (Proc.devRef .tc main_v4)) (ix2 i j)
      = (show FVec Ideal S2x256x2048 .f32 from W (Proc.devRef .tc main_v0_1)) (ix3 1 i j) := by
  after_results
  exact last_at _ i j

theorem line6 (W : Valuation τ sig (Elt Ideal)) (i : Fin 256) (j : Fin 2048) :
    (show FVec Ideal S256x2048 .f32 from StableHlo.after hostOps1 W (Proc.devRef .tc main_v6)) (ix2 i j)
      = (show FVec Ideal S2x256x2048 .f32 from W (Proc.devRef .tc main_v0_2)) (ix3 1 i j) := by
  after_results
  exact last_at _ i j

theorem line8 (W : Valuation τ sig (Elt Ideal)) (i : Fin 256) (j : Fin 2048) :
    (show FVec Ideal S256x2048 .f32 from StableHlo.after hostOps1 W (Proc.devRef .tc main_v8)) (ix2 i j)
      = (show FVec Ideal S2x256x2048 .f32 from W (Proc.devRef .tc main_v0_3)) (ix3 1 i j) := by
  after_results
  exact last_at _ i j

variable (m : (ℓ : Loc nD τ sig) → Buf (Elt Ideal) ℓ) (hO : Ok m) (c : Dev nD) (i : Fin 256) (j : Fin 2048)

/-- What @main returns for window 5's array. -/
theorem out2 : Pipeline.afterTail pcfgs (fun _ => adm m hO) (dats m hO) 0 (V0 m) [hostOps1] c main_v2 (ix2 i j) = (show FVec Ideal S2x256x2048 .f32 from (dats m hO 0 c).arrAt 5 (cfgM m hO).N) (ix3 1 i j) :=
  (line2 _ i j).trans (congrFun (Pipeline.withArrays_arr (cfgM m hO).spec (launch0 (F := Ideal)).win.arr_inj c (V0 m c) (fun w => (dats m hO 0 c).arrAt w (cfgM m hO).N) 5) _)

/-- What @main returns for window 6's array. -/
theorem out4 : Pipeline.afterTail pcfgs (fun _ => adm m hO) (dats m hO) 0 (V0 m) [hostOps1] c main_v4 (ix2 i j) = (show FVec Ideal S2x256x2048 .f32 from (dats m hO 0 c).arrAt 6 (cfgM m hO).N) (ix3 1 i j) :=
  (line4 _ i j).trans (congrFun (Pipeline.withArrays_arr (cfgM m hO).spec (launch0 (F := Ideal)).win.arr_inj c (V0 m c) (fun w => (dats m hO 0 c).arrAt w (cfgM m hO).N) 6) _)

/-- What @main returns for window 7's array. -/
theorem out6 : Pipeline.afterTail pcfgs (fun _ => adm m hO) (dats m hO) 0 (V0 m) [hostOps1] c main_v6 (ix2 i j) = (show FVec Ideal S2x256x2048 .f32 from (dats m hO 0 c).arrAt 7 (cfgM m hO).N) (ix3 1 i j) :=
  (line6 _ i j).trans (congrFun (Pipeline.withArrays_arr (cfgM m hO).spec (launch0 (F := Ideal)).win.arr_inj c (V0 m c) (fun w => (dats m hO 0 c).arrAt w (cfgM m hO).N) 7) _)

/-- What @main returns for window 8's array. -/
theorem out8 : Pipeline.afterTail pcfgs (fun _ => adm m hO) (dats m hO) 0 (V0 m) [hostOps1] c main_v8 (ix2 i j) = (show FVec Ideal S2x256x2048 .f32 from (dats m hO 0 c).arrAt 8 (cfgM m hO).N) (ix3 1 i j) :=
  (line8 _ i j).trans (congrFun (Pipeline.withArrays_arr (cfgM m hO).spec (launch0 (F := Ideal)).win.arr_inj c (V0 m c) (fun w => (dats m hO 0 c).arrAt w (cfgM m hO).N) 8) _)

end Cert.LastoIdeal.Tail

end
-- ==== Proof.LastoClaims.lean ====
/- The claims of the step of the last layer of the output projection: the frames, the constants kept, and the value claim. -/
module

public import proofs.«01_k».proof.Defs
public import proofs.«01_k».proof.Proof.LastoValue
public import proofs.«01_k».proof.Proof.LastoTail
public import proofs.«01_k».proof.Proof.Gen.Lasto.Frame
public import proofs.«01_k».proof.Proof.Gen.LastoRefIdeal.Run
public import Idealize.ShloMosaic.Lib.Claim
public import Idealize.ShloMosaic.Lib.Quiescent

@[expose] public section

set_option maxRecDepth 16384

noncomputable section

namespace Cert.LastoClaims

open Idealize.ShloMosaic Idealize.ShloMosaic.TcCoe Idealize.SL.Sem

/-- No constant of the kernel is named. -/
theorem preserves : Cert.preserves_Lasto_LastoIdeal := trivial

section
open Cert.LastoRefIdeal Cert.LastoRefIdeal.Gen

/-- The reference's run, its results named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v13) = Read.val_main_v13 (F := Ideal) (m ((c.tc : Thread nD τ).loc main_arg0)) (m ((c.tc : Thread nD τ).loc main_arg4)) (m ((c.tc : Thread nD τ).loc main_arg5))
      ∧ r.2.mem ((c.tc : Thread nD τ).loc main_v37) = Read.val_main_v37 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v18) = Read.val_main_v18 (F := Ideal) (m ((c.tc : Thread nD τ).loc main_arg0)) (m ((c.tc : Thread nD τ).loc main_arg2)) (m ((c.tc : Thread nD τ).loc main_arg4)) (m ((c.tc : Thread nD τ).loc main_arg5))
      ∧ r.2.mem ((c.tc : Thread nD τ).loc main_v24) = Read.val_main_v24 (F := Ideal) (m ((c.tc : Thread nD τ).loc main_arg0)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (Read.val_main_v13_eq _ _ _),
    (h c).2.1.trans (Read.val_main_v37_eq _ _ _ _ _ _),
    (h c).2.2.1.trans (Read.val_main_v18_eq _ _ _ _),
    (h c).2.2.2.1.trans (Read.val_main_v24_eq _ _ _ _),
    (h c).2.2.2.2⟩) (Value.run m ρ)

end

section
open Cert.LastoIdeal Cert.LastoIdeal.Gen

/-- The kernel's run, its results the reference's functions of the arguments. -/
theorem run_ker (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v2) = Cert.LastoRefIdeal.Read.val_main_v13 (F := Ideal) (m ((c.tc : Thread nD τ).loc main_arg0)) (m ((c.tc : Thread nD τ).loc main_arg4)) (m ((c.tc : Thread nD τ).loc main_arg5))
      ∧ r.2.mem ((c.tc : Thread nD τ).loc main_v4) = Cert.LastoRefIdeal.Read.val_main_v37 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v6) = Cert.LastoRefIdeal.Read.val_main_v18 (F := Ideal) (m ((c.tc : Thread nD τ).loc main_arg0)) (m ((c.tc : Thread nD τ).loc main_arg2)) (m ((c.tc : Thread nD τ).loc main_arg4)) (m ((c.tc : Thread nD τ).loc main_arg5))
      ∧ r.2.mem ((c.tc : Thread nD τ).loc main_v8) = Cert.LastoRefIdeal.Read.val_main_v24 (F := Ideal) (m ((c.tc : Thread nD τ).loc main_arg0)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine θ_run_mono (θ_run_and (run_main m ρ trivial) (unchanged m ρ trivial)) fun r h c => ⟨?_, ?_, ?_, ?_, h.2 c⟩
  · refine ((h.1 c).2 main_v2 (Pipeline.mem_restRefs_of _ rfl
      (by decide +kernel : ∀ w : Fin (cfg0 (F := Ideal) Cert.LastoIdeal.Bridge.any).W, ((cfg0 (F := Ideal) Cert.LastoIdeal.Bridge.any).spec w).arr.view.ref ≠ main_v2))).trans (funext fun y => ?_)
    revert y
    show ∀ y : S256x2048.Idx, _
    intro y
    idx_vars y
    exact (Cert.LastoIdeal.Tail.out2 m trivial c y0 y1).trans (Cert.LastoIdeal.Bridge.tile5 m trivial c y0 y1)
  · refine ((h.1 c).2 main_v4 (Pipeline.mem_restRefs_of _ rfl
      (by decide +kernel : ∀ w : Fin (cfg0 (F := Ideal) Cert.LastoIdeal.Bridge.any).W, ((cfg0 (F := Ideal) Cert.LastoIdeal.Bridge.any).spec w).arr.view.ref ≠ main_v4))).trans (funext fun y => ?_)
    revert y
    show ∀ y : S256x2048.Idx, _
    intro y
    idx_vars y
    exact (Cert.LastoIdeal.Tail.out4 m trivial c y0 y1).trans (Cert.LastoIdeal.Bridge.tile6 m trivial c y0 y1)
  · refine ((h.1 c).2 main_v6 (Pipeline.mem_restRefs_of _ rfl
      (by decide +kernel : ∀ w : Fin (cfg0 (F := Ideal) Cert.LastoIdeal.Bridge.any).W, ((cfg0 (F := Ideal) Cert.LastoIdeal.Bridge.any).spec w).arr.view.ref ≠ main_v6))).trans (funext fun y => ?_)
    revert y
    show ∀ y : S256x2048.Idx, _
    intro y
    idx_vars y
    exact (Cert.LastoIdeal.Tail.out6 m trivial c y0 y1).trans (Cert.LastoIdeal.Bridge.tile7 m trivial c y0 y1)
  · refine ((h.1 c).2 main_v8 (Pipeline.mem_restRefs_of _ rfl
      (by decide +kernel : ∀ w : Fin (cfg0 (F := Ideal) Cert.LastoIdeal.Bridge.any).W, ((cfg0 (F := Ideal) Cert.LastoIdeal.Bridge.any).spec w).arr.view.ref ≠ main_v8))).trans (funext fun y => ?_)
    revert y
    show ∀ y : S256x2048.Idx, _
    intro y
    idx_vars y
    exact (Cert.LastoIdeal.Tail.out8 m trivial c y0 y1).trans (Cert.LastoIdeal.Bridge.tile8 m trivial c y0 y1)

end

theorem frame_p : Cert.quiescent_Lasto := fun m ρ _ => Cert.Lasto.Gen.frame m ρ trivial
theorem frame_pi : Cert.quiescent_LastoIdeal := fun m ρ _ => Cert.LastoIdeal.Gen.frame m ρ trivial
theorem frame_ri : Cert.quiescent_LastoRefIdeal := fun m g _ =>
  (θ_run Cert.LastoRefIdeal.defs _ _).mono (fun r h => ⟨fun c => (h c).2.2.2.2, sem_eq_zero_of_no_sems (by decide) r.2⟩)
    (Cert.LastoRefIdeal.Value.run (F := Ideal) m g)

theorem algebraic : Cert.algebraic_LastoIdeal_LastoRefIdeal := by
  intro m g m' g' _ hagree
  refine ⟨fun c => Cert.LastoRefIdeal.Read.val_main_v13 (F := Ideal) (m ((c.tc : Thread Cert.LastoIdeal.nD Cert.LastoIdeal.τ).loc Cert.LastoIdeal.main_arg0)) (m ((c.tc : Thread Cert.LastoIdeal.nD Cert.LastoIdeal.τ).loc Cert.LastoIdeal.main_arg4)) (m ((c.tc : Thread Cert.LastoIdeal.nD Cert.LastoIdeal.τ).loc Cert.LastoIdeal.main_arg5)), fun c => Cert.LastoRefIdeal.Read.val_main_v37 (F := Ideal) (m ((c.tc : Thread Cert.LastoIdeal.nD Cert.LastoIdeal.τ).loc Cert.LastoIdeal.main_arg0)) (m ((c.tc : Thread Cert.LastoIdeal.nD Cert.LastoIdeal.τ).loc Cert.LastoIdeal.main_arg1)) (m ((c.tc : Thread Cert.LastoIdeal.nD Cert.LastoIdeal.τ).loc Cert.LastoIdeal.main_arg2)) (m ((c.tc : Thread Cert.LastoIdeal.nD Cert.LastoIdeal.τ).loc Cert.LastoIdeal.main_arg3)) (m ((c.tc : Thread Cert.LastoIdeal.nD Cert.LastoIdeal.τ).loc Cert.LastoIdeal.main_arg4)) (m ((c.tc : Thread Cert.LastoIdeal.nD Cert.LastoIdeal.τ).loc Cert.LastoIdeal.main_arg5)), fun c => Cert.LastoRefIdeal.Read.val_main_v18 (F := Ideal) (m ((c.tc : Thread Cert.LastoIdeal.nD Cert.LastoIdeal.τ).loc Cert.LastoIdeal.main_arg0)) (m ((c.tc : Thread Cert.LastoIdeal.nD Cert.LastoIdeal.τ).loc Cert.LastoIdeal.main_arg2)) (m ((c.tc : Thread Cert.LastoIdeal.nD Cert.LastoIdeal.τ).loc Cert.LastoIdeal.main_arg4)) (m ((c.tc : Thread Cert.LastoIdeal.nD Cert.LastoIdeal.τ).loc Cert.LastoIdeal.main_arg5)), fun c => Cert.LastoRefIdeal.Read.val_main_v24 (F := Ideal) (m ((c.tc : Thread Cert.LastoIdeal.nD Cert.LastoIdeal.τ).loc Cert.LastoIdeal.main_arg0)) (m ((c.tc : Thread Cert.LastoIdeal.nD Cert.LastoIdeal.τ).loc Cert.LastoIdeal.main_arg3)) (m ((c.tc : Thread Cert.LastoIdeal.nD Cert.LastoIdeal.τ).loc Cert.LastoIdeal.main_arg4)) (m ((c.tc : Thread Cert.LastoIdeal.nD Cert.LastoIdeal.τ).loc Cert.LastoIdeal.main_arg5)), run_ker m g, θ_run_mono (run_ref m' g') fun r h c => ?_⟩
  obtain ⟨a0, a1, a2, a3, a4, a5⟩ := hagree c
  exact ⟨(h c).1.trans (congr (congr (congrArg (Cert.LastoRefIdeal.Read.val_main_v13 (F := Ideal)) a0) a4) a5),
    (h c).2.1.trans (congr (congr (congr (congr (congr (congrArg (Cert.LastoRefIdeal.Read.val_main_v37 (F := Ideal)) a0) a1) a2) a3) a4) a5),
    (h c).2.2.1.trans (congr (congr (congr (congrArg (Cert.LastoRefIdeal.Read.val_main_v18 (F := Ideal)) a0) a2) a4) a5),
    (h c).2.2.2.1.trans (congr (congr (congr (congrArg (Cert.LastoRefIdeal.Read.val_main_v24 (F := Ideal)) a0) a3) a4) a5), (h c).2.2.2.2⟩

end Cert.LastoClaims

end
-- ==== Proof.LastiRef.lean ====
/- The step of the last layer of the input projection: its reference at an index. -/
module

public import proofs.«01_k».proof.Proof.Gen.LastiRefIdeal.Read
public import proofs.«01_k».proof.Proof.RideRef
public import Idealize.ShloMosaic.Lib.Pipeline.ValueKit

@[expose] public section

set_option maxRecDepth 16384

noncomputable section

namespace Cert.LastiRefIdeal.At

open Cert.LastiRefIdeal Cert.LastiRefIdeal.Gen Cert.LastiRefIdeal.Read
open Idealize.ShloMosaic Idealize.ShloMosaic.TcCoe Idealize.SL.Sem
open Cert.RideRefIdeal.At (pick whole moment square step)

variable (b : Vec Ideal S1 .i32) (w m v : FVec Ideal S2x1472x2048 .f32) (l s : FVec Ideal S4x1472x2048 .bf16) (i : Fin 1472) (j : Fin 2048)

/-- Of one chip's place: its own sum where the place is this chip's, else what landed there. -/
theorem at11 (k : Fin 4) : val_main_v11 (F := Ideal) b l s (ix3 k i j) = pick (b (ix1 0)) (BitVec.ofNat 32 k.val) (s (ix3 k i j)) (l (ix3 k i j)) := by
  unfold pick
  pointwise [val_main_v11, val_main_call0_v0, val_main_v10, val_main_v9, val_main_v8, val_main_v7, val_main_v6]
  simp only [Scalar.select, IntOp.cmpi]
  by_cases h : b (ix1 0) = BitVec.ofNat 32 k.val
  · simp [h]
  · have e : (BitVec.ofNat 32 k.val == b (ix1 0)) = false := beq_false_of_ne (Ne.symm h)
    simp [e, h]

/-- The whole gradient, -/
theorem at13 : val_main_v13 (F := Ideal) b l s (ix2 i j) = whole (b (ix1 0)) (fun k => s (ix3 k i j)) (fun k => l (ix3 k i j)) := by
  unfold val_main_v13 val_main_v12
  have e := at11 b l s i j
  generalize val_main_v11 (F := Ideal) b l s = p at e ⊢
  pointwise [val_main_cst]
  unfold whole
  rw [Fin.sum_univ_four, e 0, e 1, e 2, e 3]
  rfl

/-- the first moment, -/
theorem at18 : val_main_v18 (F := Ideal) b m l s (ix2 i j) = moment (val_main_v13 (F := Ideal) b l s (ix2 i j)) (m (ix3 1 i j)) := by
  unfold moment val_main_v18 val_main_v17
  generalize val_main_v13 (F := Ideal) b l s = g
  pointwise [val_main_v16, val_main_cst_1, val_main_v15, val_main_v14, val_main_cst_0, val_main_v3, val_main_v2]

/-- the second -/
theorem at24 : val_main_v24 (F := Ideal) b v l s (ix2 i j) = square (val_main_v13 (F := Ideal) b l s (ix2 i j)) (v (ix3 1 i j)) := by
  unfold square val_main_v24 val_main_v23 val_main_v21
  generalize val_main_v13 (F := Ideal) b l s = g
  pointwise [val_main_v22, val_main_cst_3, val_main_v20, val_main_v19, val_main_cst_2, val_main_v5, val_main_v4]

/-- and the step. -/
theorem at37 : val_main_v37 (F := Ideal) b w m v l s (ix2 i j)
    = step (w (ix3 1 i j)) (val_main_v13 (F := Ideal) b l s (ix2 i j)) (m (ix3 1 i j)) (v (ix3 1 i j)) := by
  unfold step
  rw [← at18, ← at24]
  unfold val_main_v37 val_main_v35 val_main_v32 val_main_v31 val_main_v29 val_main_v28 val_main_v26
  generalize val_main_v18 (F := Ideal) b m l s = a
  generalize val_main_v24 (F := Ideal) b v l s = c
  pointwise [val_main_v36, val_main_cst_8, val_main_v34, val_main_v33, val_main_cst_7, val_main_v30, val_main_cst_6, val_main_v27, val_main_cst_5, val_main_v25, val_main_cst_4, val_main_v1, val_main_v0]

end Cert.LastiRefIdeal.At

end
-- ==== Proof.LastiValue.lean ====
/- The step of the last layer of the input projection: tile by tile, the kernel's arrays are the reference's on that layer. -/
module

public import proofs.«01_k».proof.Proof.Gen.LastiIdeal.Frame
public import proofs.«01_k».proof.Proof.LastiRef
public import Idealize.ShloMosaic.Lib.Pipeline.ValueKit
public import Idealize.ShloMosaic.Lib.Pipeline.ReadBack

@[expose] public section

set_option maxRecDepth 16384

noncomputable section

namespace Cert.LastiIdeal.Bridge

open Cert.LastiIdeal Cert.LastiIdeal.Gen Idealize.ShloMosaic Idealize.ShloMosaic.TcCoe Idealize.SL.Sem
open Idealize.ShloMosaic.Pipeline (Dat)
open Cert.RideRefIdeal.At (pick whole moment square step)

/-- A place's row, chosen. -/
theorem select_eq (b k : BitVec 32) (s l : FVec Ideal S64x2048 .bf16) (y : S64x2048.Idx) :
    Scalar.select (Scalar.cmpi .eq b k) s l y = pick b k (s y) (l y) := by
  unfold pick
  simp only [Scalar.select, Scalar.cmpi, IntOp.cmpi]
  by_cases h : b = k
  · simp [h]
  · have e : (b == k) = false := beq_false_of_ne h
    simp [e, h]

section
variable (b : BitVec 32) (s0 s1 s2 s3 l0 l1 l2 l3 : FVec Ideal S1x64x2048 .bf16) (i : Fin 64) (j : Fin 2048)

/-- The four chips' rows, in the order they are added. -/
abbrev four (r0 r1 r2 r3 : FVec Ideal S1x64x2048 .bf16) (i : Fin 64) (j : Fin 2048) : Fin 4 → EReal :=
  ![r0 (ix3 0 i j), r1 (ix3 0 i j), r2 (ix3 0 i j), r3 (ix3 0 i j)]

/-- The whole gradient in a tile. -/
abbrev grad : FVec Ideal S64x2048 .f32 :=
  k0_pay6 (F := Ideal) (k0_pay4 (F := Ideal) b s0 l0 b s1 l1 b s2 l2) (Scalar.cmpi .eq b 3#32) (k0_pay5 (F := Ideal) s3) l3

theorem grad_at : grad b s0 s1 s2 s3 l0 l1 l2 l3 (ix2 i j) = whole b (four s0 s1 s2 s3 i j) (four l0 l1 l2 l3 i j) := by
  unfold grad whole
  pointwise [k0_pay6, k0_pay4, k0_pay5, select_eq]

end

section
variable (p : FVec Ideal S64x2048 .f32) (k : BitVec 1) (q : FVec Ideal S64x2048 .bf16) (u : FVec Ideal S1x64x2048 .bf16) (m v w : FVec Ideal S1x64x2048 .f32)
  (i : Fin 64) (j : Fin 2048)

/-- The gradient as it is stored, -/
theorem pay9_at : k0_pay9 (F := Ideal) p k q u (ix3 0 i j) = k0_pay6 (F := Ideal) p k q u (ix2 i j) := by
  unfold k0_pay9
  generalize k0_pay6 (F := Ideal) p k q u = g
  pointwise

/-- the first moment, -/
theorem pay7_at : k0_pay7 (F := Ideal) p k q u m (ix2 i j) = moment (k0_pay6 (F := Ideal) p k q u (ix2 i j)) (m (ix3 0 i j)) := by
  unfold moment k0_pay7
  generalize k0_pay6 (F := Ideal) p k q u = g
  pointwise

theorem pay2_at : k0_pay2 (F := Ideal) p (ix3 0 i j) = p (ix2 i j) := by pointwise [k0_pay2]

/-- the second -/
theorem pay8_at : k0_pay8 (F := Ideal) p k q u v (ix2 i j) = square (k0_pay6 (F := Ideal) p k q u (ix2 i j)) (v (ix3 0 i j)) := by
  unfold square k0_pay8
  generalize k0_pay6 (F := Ideal) p k q u = g
  pointwise

theorem pay3_at : k0_pay3 (F := Ideal) p (ix3 0 i j) = p (ix2 i j) := by pointwise [k0_pay3]

/-- and the step. -/
theorem pay1_at : k0_pay1 (F := Ideal) (k0_pay10 (F := Ideal) p k q u m v w) (ix3 0 i j)
    = step (w (ix3 0 i j)) (k0_pay6 (F := Ideal) p k q u (ix2 i j)) (m (ix3 0 i j)) (v (ix3 0 i j)) := by
  unfold step
  rw [← pay7_at, ← pay8_at]
  unfold k0_pay1 k0_pay10
  generalize k0_pay7 (F := Ideal) p k q u m = a
  generalize k0_pay8 (F := Ideal) p k q u v = b
  pointwise

end

/-- No index map reads the table, so any contents of it will do to read the windows' geometry. -/
abbrev any : (pcfg0 (F := Ideal)).Adm := ⟨Fin.cases (fun _ => (0#32 : BitVec 32)) fun j => j.elim0, trivial⟩

/-- Every window's block at a grid point: the point is the row tile. -/
theorem idx (a : (pcfg0 (F := Ideal)).Adm) : ∀ t : Fin (cfg0 a).N, ((cfg0 a).win 0).index t = ![1, t.val, 0] ∧ ((cfg0 a).win 1).index t = ![1, t.val, 0] ∧ ((cfg0 a).win 2).index t = ![1, t.val, 0] ∧ ((cfg0 a).win 3).index t = ![0, t.val, 0] ∧ ((cfg0 a).win 4).index t = ![0, t.val, 0] ∧ ((cfg0 a).win 5).index t = ![1, t.val, 0] ∧ ((cfg0 a).win 6).index t = ![1, t.val, 0] ∧ ((cfg0 a).win 7).index t = ![1, t.val, 0] ∧ ((cfg0 a).win 8).index t = ![1, t.val, 0] :=
  (by decide +kernel : ∀ t : Fin (cfg0 (F := Ideal) any).N, ((cfg0 (F := Ideal) any).win 0).index t = ![1, t.val, 0] ∧ ((cfg0 (F := Ideal) any).win 1).index t = ![1, t.val, 0] ∧ ((cfg0 (F := Ideal) any).win 2).index t = ![1, t.val, 0] ∧ ((cfg0 (F := Ideal) any).win 3).index t = ![0, t.val, 0] ∧ ((cfg0 (F := Ideal) any).win 4).index t = ![0, t.val, 0] ∧ ((cfg0 (F := Ideal) any).win 5).index t = ![1, t.val, 0] ∧ ((cfg0 (F := Ideal) any).win 6).index t = ![1, t.val, 0] ∧ ((cfg0 (F := Ideal) any).win 7).index t = ![1, t.val, 0] ∧ ((cfg0 (F := Ideal) any).win 8).index t = ![1, t.val, 0])

/-- The tiles written back are the last layer's. -/
theorem covers5 (a : (pcfg0 (F := Ideal)).Adm) : ((cfg0 a).win 5).CoversWhere fun β : Fin 3 → Nat => β 0 = 1 :=
  (by decide +kernel : ((cfg0 (F := Ideal) any).win 5).CoversWhere fun β : Fin 3 → Nat => β 0 = 1)
theorem covers6 (a : (pcfg0 (F := Ideal)).Adm) : ((cfg0 a).win 6).CoversWhere fun β : Fin 3 → Nat => β 0 = 1 :=
  (by decide +kernel : ((cfg0 (F := Ideal) any).win 6).CoversWhere fun β : Fin 3 → Nat => β 0 = 1)
theorem covers7 (a : (pcfg0 (F := Ideal)).Adm) : ((cfg0 a).win 7).CoversWhere fun β : Fin 3 → Nat => β 0 = 1 :=
  (by decide +kernel : ((cfg0 (F := Ideal) any).win 7).CoversWhere fun β : Fin 3 → Nat => β 0 = 1)
theorem covers8 (a : (pcfg0 (F := Ideal)).Adm) : ((cfg0 a).win 8).CoversWhere fun β : Fin 3 → Nat => β 0 = 1 :=
  (by decide +kernel : ((cfg0 (F := Ideal) any).win 8).CoversWhere fun β : Fin 3 → Nat => β 0 = 1)

variable (m : (ℓ : Loc nD τ sig) → Buf (Elt Ideal) ℓ) (hO : Ok m)

/-- The argument arrays. -/
abbrev A0 (c : Dev nD) : Vec Ideal S1 .i32 := m ((c : Thread nD τ).loc main_arg0)
abbrev A1 (c : Dev nD) : FVec Ideal S2x1472x2048 .f32 := m ((c : Thread nD τ).loc main_arg1)
abbrev A2 (c : Dev nD) : FVec Ideal S2x1472x2048 .f32 := m ((c : Thread nD τ).loc main_arg2)
abbrev A3 (c : Dev nD) : FVec Ideal S2x1472x2048 .f32 := m ((c : Thread nD τ).loc main_arg3)
abbrev A4 (c : Dev nD) : FVec Ideal S4x1472x2048 .bf16 := m ((c : Thread nD τ).loc main_arg4)
abbrev A5 (c : Dev nD) : FVec Ideal S4x1472x2048 .bf16 := m ((c : Thread nD τ).loc main_arg5)

/-- The tile's rows. -/
theorem lt_N (t : Fin (cfgM m hO).N) : t.val < 23 := lt_of_lt_of_eq t.isLt (by decide +kernel : (cfg0 (F := Ideal) any).N = 23)
abbrev row (t : Fin (cfgM m hO).N) (r : Fin 64) : Fin 1472 := ⟨t.val * 64 + r.val, by have := lt_N m hO t; omega⟩

section
variable (c : Dev nD) (t : Fin (cfgM m hO).N)

theorem w_at (i : Fin 64) (j : Fin 2048) : (show FVec Ideal S1x64x2048 .f32 from iblk m hO c 0 t) (ix3 0 i j) = A1 m c (ix3 1 (row m hO t i) j) := by
  blk_point [iblk, V, idx (adm m hO) t]

theorem m_at (i : Fin 64) (j : Fin 2048) : (show FVec Ideal S1x64x2048 .f32 from iblk m hO c 1 t) (ix3 0 i j) = A2 m c (ix3 1 (row m hO t i) j) := by
  blk_point [iblk, V, idx (adm m hO) t]

theorem v_at (i : Fin 64) (j : Fin 2048) : (show FVec Ideal S1x64x2048 .f32 from iblk m hO c 2 t) (ix3 0 i j) = A3 m c (ix3 1 (row m hO t i) j) := by
  blk_point [iblk, V, idx (adm m hO) t]

theorem l_at (k : Fin 4) (i : Fin 64) (j : Fin 2048) : (show FVec Ideal S4x64x2048 .bf16 from iblk m hO c 3 t) (ix3 k i j) = A4 m c (ix3 k (row m hO t i) j) := by
  blk_point [iblk, V, idx (adm m hO) t]

theorem s_at (k : Fin 4) (i : Fin 64) (j : Fin 2048) : (show FVec Ideal S4x64x2048 .bf16 from iblk m hO c 4 t) (ix3 k i j) = A5 m c (ix3 k (row m hO t i) j) := by
  blk_point [iblk, V, idx (adm m hO) t]

end

/-- One chip's rows of a tile of all four's. -/
theorem ld_row (x : FVec Ideal S4x64x2048 .bf16) (k : Fin 4) (h : ∀ d, (![k.val, 0, 0] : Fin 3 → Nat) d + S1x64x2048.size d ≤ S4x64x2048.size d)
    (i : Fin 64) (j : Fin 2048) :
    View.ld (Val := Elt Ideal) (e' := .bf16) x (Rect.unit (s := S4x64x2048) ![k.val, 0, 0] S1x64x2048.size h) (ix3 0 i j) = x (ix3 k i j) := by
  refine View.ld_unit_apply_of _ _ _ _ _ _ fun d => ?_
  fin_cases d
  · show k.val = k.val + 0
    omega
  · show i.val = 0 + i.val
    omega
  · show j.val = 0 + j.val
    omega

/-- The place of this chip, read from the table. -/
theorem chip (c : Dev nD) (h : ∀ d, (![0] : Fin 1 → Nat) d + Shape.size S1 d ≤ Shape.size S1 d) (y : Shape.Idx S1) :
    View.readAt (Elt Ideal) (View.whole main_arg0) (Rect.unit (s := S1) ![0] (Shape.size S1) h).toLoadRect (tbl m 0) y = A0 m c (ix1 0) := by
  obtain rfl : c = 0 := Subsingleton.elim _ _
  refine congrArg (A0 m 0) (funext fun d => ?_)
  fin_cases d
  exact Subsingleton.elim (α := Fin 1) _ _

section
variable (c : Dev nD) (t : Fin (cfgM m hO).N) (i : Fin 64) (j : Fin 2048)

theorem four_eq (x : FVec Ideal S4x64x2048 .bf16) :
    four
        (View.ld (Val := Elt Ideal) (e' := .bf16) x (Rect.unit (s := S4x64x2048) ![0, 0, 0] S1x64x2048.size inb_S4x64x2048_S1x64x2048_0_0_0))
        (View.ld (Val := Elt Ideal) (e' := .bf16) x (Rect.unit (s := S4x64x2048) ![1, 0, 0] S1x64x2048.size inb_S4x64x2048_S1x64x2048_1_0_0))
        (View.ld (Val := Elt Ideal) (e' := .bf16) x (Rect.unit (s := S4x64x2048) ![2, 0, 0] S1x64x2048.size inb_S4x64x2048_S1x64x2048_2_0_0))
        (View.ld (Val := Elt Ideal) (e' := .bf16) x (Rect.unit (s := S4x64x2048) ![3, 0, 0] S1x64x2048.size inb_S4x64x2048_S1x64x2048_3_0_0)) i j
      = fun k => x (ix3 k i j) := by
  funext k
  fin_cases k
  · exact ld_row x 0 _ i j
  · exact ld_row x 1 _ i j
  · exact ld_row x 2 _ i j
  · exact ld_row x 3 _ i j

/-- The whole gradient in a point's tile is the reference's. -/
theorem grad_point (b : BitVec 32) (hb : b = A0 m c (ix1 0)) :
    grad b
        (View.ld (Val := Elt Ideal) (e' := .bf16) (iblk m hO c 4 t) (Rect.unit (s := S4x64x2048) ![0, 0, 0] S1x64x2048.size inb_S4x64x2048_S1x64x2048_0_0_0))
        (View.ld (Val := Elt Ideal) (e' := .bf16) (iblk m hO c 4 t) (Rect.unit (s := S4x64x2048) ![1, 0, 0] S1x64x2048.size inb_S4x64x2048_S1x64x2048_1_0_0))
        (View.ld (Val := Elt Ideal) (e' := .bf16) (iblk m hO c 4 t) (Rect.unit (s := S4x64x2048) ![2, 0, 0] S1x64x2048.size inb_S4x64x2048_S1x64x2048_2_0_0))
        (View.ld (Val := Elt Ideal) (e' := .bf16) (iblk m hO c 4 t) (Rect.unit (s := S4x64x2048) ![3, 0, 0] S1x64x2048.size inb_S4x64x2048_S1x64x2048_3_0_0))
        (View.ld (Val := Elt Ideal) (e' := .bf16) (iblk m hO c 3 t) (Rect.unit (s := S4x64x2048) ![0, 0, 0] S1x64x2048.size inb_S4x64x2048_S1x64x2048_0_0_0))
        (View.ld (Val := Elt Ideal) (e' := .bf16) (iblk m hO c 3 t) (Rect.unit (s := S4x64x2048) ![1, 0, 0] S1x64x2048.size inb_S4x64x2048_S1x64x2048_1_0_0))
        (View.ld (Val := Elt Ideal) (e' := .bf16) (iblk m hO c 3 t) (Rect.unit (s := S4x64x2048) ![2, 0, 0] S1x64x2048.size inb_S4x64x2048_S1x64x2048_2_0_0))
        (View.ld (Val := Elt Ideal) (e' := .bf16) (iblk m hO c 3 t) (Rect.unit (s := S4x64x2048) ![3, 0, 0] S1x64x2048.size inb_S4x64x2048_S1x64x2048_3_0_0)) (ix2 i j)
      = Cert.LastiRefIdeal.Read.val_main_v13 (F := Ideal) (A0 m c) (A4 m c) (A5 m c) (ix2 (row m hO t i) j) := by
  refine (grad_at _ _ _ _ _ _ _ _ _ i j).trans ?_
  rw [Cert.LastiRefIdeal.At.at13]
  have es : (fun k => (show FVec Ideal S4x64x2048 .bf16 from iblk m hO c 4 t) (ix3 k i j)) = fun k => A5 m c (ix3 k (row m hO t i) j) :=
    funext fun k => s_at m hO c t k i j
  have el : (fun k => (show FVec Ideal S4x64x2048 .bf16 from iblk m hO c 3 t) (ix3 k i j)) = fun k => A4 m c (ix3 k (row m hO t i) j) :=
    funext fun k => l_at m hO c t k i j
  exact congr (congr (congrArg whole hb) ((four_eq i j _).trans es)) ((four_eq i j _).trans el)

end

/-- The gradient's layer written, -/
theorem tile5 (c : Dev nD) (i : Fin 1472) (j : Fin 2048) :
    (show FVec Ideal S2x1472x2048 .f32 from (dats m hO 0 c).arrAt 5 (cfgM m hO).N) (ix3 1 i j) = Cert.LastiRefIdeal.Read.val_main_v13 (F := Ideal) (A0 m c) (A4 m c) (A5 m c) (ix2 i j) := by
  refine ((dats m hO 0 c).arrAt_apply_of_coversWhere 5
    (fun q : S2x1472x2048.Idx => Cert.LastiRefIdeal.Read.val_main_v13 (F := Ideal) (A0 m c) (A4 m c) (A5 m c) (ix2 (q 1) (q 2)))
    (P := fun q : S2x1472x2048.Idx => (q 0).val = 1) (fun β : Fin 3 → Nat => β 0 = 1) (covers5 (adm m hO)) (fun t _ y => ?_)
    (fun j : S2x1472x2048.Idx => by show (j 0).val = 1 ↔ (j 0).val / 1 = 1; rw [Nat.div_one]) _).trans (if_pos rfl)
  blk_simp
  rw [after0_5]
  revert y
  show ∀ y : S1x64x2048.Idx, _
  intro y
  idx_vars y
  obtain rfl : y0 = 0 := Subsingleton.elim _ _
  refine Eq.trans ?_ ((Cert.LastiRefIdeal.At.at13 _ _ _ (row m hO t y1) y2).symm.trans <| congrArg _ (by blk_ext [idx (adm m hO) t]))
  dsimp only [outsAt0]
  frame_out
  rw [(hs0_3 m hO t).read_unread (iblk m hO c 3 t), (hs0_4 m hO t).read_unread (iblk m hO c 4 t)]
  rw [← Cert.LastiRefIdeal.At.at13]
  exact (pay9_at _ _ _ _ y1 y2).trans (grad_point m hO c t y1 y2 _ (chip m c _ _))

/-- the step's, -/
theorem tile6 (c : Dev nD) (i : Fin 1472) (j : Fin 2048) :
    (show FVec Ideal S2x1472x2048 .f32 from (dats m hO 0 c).arrAt 6 (cfgM m hO).N) (ix3 1 i j) = Cert.LastiRefIdeal.Read.val_main_v37 (F := Ideal) (A0 m c) (A1 m c) (A2 m c) (A3 m c) (A4 m c) (A5 m c) (ix2 i j) := by
  refine ((dats m hO 0 c).arrAt_apply_of_coversWhere 6
    (fun q : S2x1472x2048.Idx => Cert.LastiRefIdeal.Read.val_main_v37 (F := Ideal) (A0 m c) (A1 m c) (A2 m c) (A3 m c) (A4 m c) (A5 m c) (ix2 (q 1) (q 2)))
    (P := fun q : S2x1472x2048.Idx => (q 0).val = 1) (fun β : Fin 3 → Nat => β 0 = 1) (covers6 (adm m hO)) (fun t _ y => ?_)
    (fun j : S2x1472x2048.Idx => by show (j 0).val = 1 ↔ (j 0).val / 1 = 1; rw [Nat.div_one]) _).trans (if_pos rfl)
  blk_simp
  rw [after0_6]
  revert y
  show ∀ y : S1x64x2048.Idx, _
  intro y
  idx_vars y
  obtain rfl : y0 = 0 := Subsingleton.elim _ _
  refine Eq.trans ?_ ((Cert.LastiRefIdeal.At.at37 _ _ _ _ _ _ (row m hO t y1) y2).symm.trans <| congrArg _ (by blk_ext [idx (adm m hO) t]))
  dsimp only [outsAt0]
  frame_out
  rw [(hs0_0 m hO t).read_unread (iblk m hO c 0 t), (hs0_1 m hO t).read_unread (iblk m hO c 1 t), (hs0_2 m hO t).read_unread (iblk m hO c 2 t), (hs0_3 m hO t).read_unread (iblk m hO c 3 t), (hs0_4 m hO t).read_unread (iblk m hO c 4 t)]
  refine (pay1_at _ _ _ _ _ _ _ y1 y2).trans ?_
  exact congr (congr (congr (congrArg step (w_at m hO c t y1 y2)) (grad_point m hO c t y1 y2 _ (chip m c _ _))) (m_at m hO c t y1 y2)) (v_at m hO c t y1 y2)

/-- the first moment's -/
theorem tile7 (c : Dev nD) (i : Fin 1472) (j : Fin 2048) :
    (show FVec Ideal S2x1472x2048 .f32 from (dats m hO 0 c).arrAt 7 (cfgM m hO).N) (ix3 1 i j) = Cert.LastiRefIdeal.Read.val_main_v18 (F := Ideal) (A0 m c) (A2 m c) (A4 m c) (A5 m c) (ix2 i j) := by
  refine ((dats m hO 0 c).arrAt_apply_of_coversWhere 7
    (fun q : S2x1472x2048.Idx => Cert.LastiRefIdeal.Read.val_main_v18 (F := Ideal) (A0 m c) (A2 m c) (A4 m c) (A5 m c) (ix2 (q 1) (q 2)))
    (P := fun q : S2x1472x2048.Idx => (q 0).val = 1) (fun β : Fin 3 → Nat => β 0 = 1) (covers7 (adm m hO)) (fun t _ y => ?_)
    (fun j : S2x1472x2048.Idx => by show (j 0).val = 1 ↔ (j 0).val / 1 = 1; rw [Nat.div_one]) _).trans (if_pos rfl)
  blk_simp
  rw [after0_7]
  revert y
  show ∀ y : S1x64x2048.Idx, _
  intro y
  idx_vars y
  obtain rfl : y0 = 0 := Subsingleton.elim _ _
  refine Eq.trans ?_ ((Cert.LastiRefIdeal.At.at18 _ _ _ _ (row m hO t y1) y2).symm.trans <| congrArg _ (by blk_ext [idx (adm m hO) t]))
  dsimp only [outsAt0]
  frame_out
  rw [(hs0_1 m hO t).read_unread (iblk m hO c 1 t), (hs0_3 m hO t).read_unread (iblk m hO c 3 t), (hs0_4 m hO t).read_unread (iblk m hO c 4 t)]
  refine (pay2_at _ y1 y2).trans ((pay7_at _ _ _ _ _ y1 y2).trans ?_)
  exact congr (congrArg moment (grad_point m hO c t y1 y2 _ (chip m c _ _))) (m_at m hO c t y1 y2)

/-- and the second's. -/
theorem tile8 (c : Dev nD) (i : Fin 1472) (j : Fin 2048) :
    (show FVec Ideal S2x1472x2048 .f32 from (dats m hO 0 c).arrAt 8 (cfgM m hO).N) (ix3 1 i j) = Cert.LastiRefIdeal.Read.val_main_v24 (F := Ideal) (A0 m c) (A3 m c) (A4 m c) (A5 m c) (ix2 i j) := by
  refine ((dats m hO 0 c).arrAt_apply_of_coversWhere 8
    (fun q : S2x1472x2048.Idx => Cert.LastiRefIdeal.Read.val_main_v24 (F := Ideal) (A0 m c) (A3 m c) (A4 m c) (A5 m c) (ix2 (q 1) (q 2)))
    (P := fun q : S2x1472x2048.Idx => (q 0).val = 1) (fun β : Fin 3 → Nat => β 0 = 1) (covers8 (adm m hO)) (fun t _ y => ?_)
    (fun j : S2x1472x2048.Idx => by show (j 0).val = 1 ↔ (j 0).val / 1 = 1; rw [Nat.div_one]) _).trans (if_pos rfl)
  blk_simp
  rw [after0_8]
  revert y
  show ∀ y : S1x64x2048.Idx, _
  intro y
  idx_vars y
  obtain rfl : y0 = 0 := Subsingleton.elim _ _
  refine Eq.trans ?_ ((Cert.LastiRefIdeal.At.at24 _ _ _ _ (row m hO t y1) y2).symm.trans <| congrArg _ (by blk_ext [idx (adm m hO) t]))
  dsimp only [outsAt0]
  frame_out
  rw [(hs0_2 m hO t).read_unread (iblk m hO c 2 t), (hs0_3 m hO t).read_unread (iblk m hO c 3 t), (hs0_4 m hO t).read_unread (iblk m hO c 4 t)]
  refine (pay3_at _ y1 y2).trans ((pay8_at _ _ _ _ _ y1 y2).trans ?_)
  exact congr (congrArg square (grad_point m hO c t y1 y2 _ (chip m c _ _))) (v_at m hO c t y1 y2)

end Cert.LastiIdeal.Bridge

end
-- ==== Proof.LastiTail.lean ====
/- The lines after the region of the step of the last layer of the input projection: each reads the last layer of one of the step's arrays. -/
module

public import proofs.«01_k».proof.Proof.Gen.LastiIdeal.Frame
public import Idealize.ShloMosaic.Lib.Pipeline.ValueKit
public import Idealize.ShloMosaic.Lib.Claim

@[expose] public section

set_option maxRecDepth 16384

noncomputable section

namespace Cert.LastiIdeal.Tail

open Cert.LastiIdeal Cert.LastiIdeal.Gen Idealize.ShloMosaic Idealize.ShloMosaic.TcCoe Idealize.SL.Sem

/-- An array's last layer, the layer's axis dropped. -/
theorem last_at (x : FVec Ideal S2x1472x2048 .f32) (i : Fin 1472) (j : Fin 2048) :
    shapeCast S1472x2048 (extractStridedSlice S1x1472x2048 ![1, 0, 0] x slices_S2x1472x2048_S1x1472x2048_1_0_0) shapeCasts_S1x1472x2048_S1472x2048 (ix2 i j)
      = x (ix3 1 i j) := by
  pointwise

theorem line2 (W : Valuation τ sig (Elt Ideal)) (i : Fin 1472) (j : Fin 2048) :
    (show FVec Ideal S1472x2048 .f32 from StableHlo.after hostOps1 W (Proc.devRef .tc main_v2)) (ix2 i j)
      = (show FVec Ideal S2x1472x2048 .f32 from W (Proc.devRef .tc main_v0_0)) (ix3 1 i j) := by
  after_results
  exact last_at _ i j

theorem line4 (W : Valuation τ sig (Elt Ideal)) (i : Fin 1472) (j : Fin 2048) :
    (show FVec Ideal S1472x2048 .f32 from StableHlo.after hostOps1 W (Proc.devRef .tc main_v4)) (ix2 i j)
      = (show FVec Ideal S2x1472x2048 .f32 from W (Proc.devRef .tc main_v0_1)) (ix3 1 i j) := by
  after_results
  exact last_at _ i j

theorem line6 (W : Valuation τ sig (Elt Ideal)) (i : Fin 1472) (j : Fin 2048) :
    (show FVec Ideal S1472x2048 .f32 from StableHlo.after hostOps1 W (Proc.devRef .tc main_v6)) (ix2 i j)
      = (show FVec Ideal S2x1472x2048 .f32 from W (Proc.devRef .tc main_v0_2)) (ix3 1 i j) := by
  after_results
  exact last_at _ i j

theorem line8 (W : Valuation τ sig (Elt Ideal)) (i : Fin 1472) (j : Fin 2048) :
    (show FVec Ideal S1472x2048 .f32 from StableHlo.after hostOps1 W (Proc.devRef .tc main_v8)) (ix2 i j)
      = (show FVec Ideal S2x1472x2048 .f32 from W (Proc.devRef .tc main_v0_3)) (ix3 1 i j) := by
  after_results
  exact last_at _ i j

variable (m : (ℓ : Loc nD τ sig) → Buf (Elt Ideal) ℓ) (hO : Ok m) (c : Dev nD) (i : Fin 1472) (j : Fin 2048)

/-- What @main returns for window 5's array. -/
theorem out2 : Pipeline.afterTail pcfgs (fun _ => adm m hO) (dats m hO) 0 (V0 m) [hostOps1] c main_v2 (ix2 i j) = (show FVec Ideal S2x1472x2048 .f32 from (dats m hO 0 c).arrAt 5 (cfgM m hO).N) (ix3 1 i j) :=
  (line2 _ i j).trans (congrFun (Pipeline.withArrays_arr (cfgM m hO).spec (launch0 (F := Ideal)).win.arr_inj c (V0 m c) (fun w => (dats m hO 0 c).arrAt w (cfgM m hO).N) 5) _)

/-- What @main returns for window 6's array. -/
theorem out4 : Pipeline.afterTail pcfgs (fun _ => adm m hO) (dats m hO) 0 (V0 m) [hostOps1] c main_v4 (ix2 i j) = (show FVec Ideal S2x1472x2048 .f32 from (dats m hO 0 c).arrAt 6 (cfgM m hO).N) (ix3 1 i j) :=
  (line4 _ i j).trans (congrFun (Pipeline.withArrays_arr (cfgM m hO).spec (launch0 (F := Ideal)).win.arr_inj c (V0 m c) (fun w => (dats m hO 0 c).arrAt w (cfgM m hO).N) 6) _)

/-- What @main returns for window 7's array. -/
theorem out6 : Pipeline.afterTail pcfgs (fun _ => adm m hO) (dats m hO) 0 (V0 m) [hostOps1] c main_v6 (ix2 i j) = (show FVec Ideal S2x1472x2048 .f32 from (dats m hO 0 c).arrAt 7 (cfgM m hO).N) (ix3 1 i j) :=
  (line6 _ i j).trans (congrFun (Pipeline.withArrays_arr (cfgM m hO).spec (launch0 (F := Ideal)).win.arr_inj c (V0 m c) (fun w => (dats m hO 0 c).arrAt w (cfgM m hO).N) 7) _)

/-- What @main returns for window 8's array. -/
theorem out8 : Pipeline.afterTail pcfgs (fun _ => adm m hO) (dats m hO) 0 (V0 m) [hostOps1] c main_v8 (ix2 i j) = (show FVec Ideal S2x1472x2048 .f32 from (dats m hO 0 c).arrAt 8 (cfgM m hO).N) (ix3 1 i j) :=
  (line8 _ i j).trans (congrFun (Pipeline.withArrays_arr (cfgM m hO).spec (launch0 (F := Ideal)).win.arr_inj c (V0 m c) (fun w => (dats m hO 0 c).arrAt w (cfgM m hO).N) 8) _)

end Cert.LastiIdeal.Tail

end
-- ==== Proof.LastiClaims.lean ====
/- The claims of the step of the last layer of the input projection: the frames, the constants kept, and the value claim. -/
module

public import proofs.«01_k».proof.Defs
public import proofs.«01_k».proof.Proof.LastiValue
public import proofs.«01_k».proof.Proof.LastiTail
public import proofs.«01_k».proof.Proof.Gen.Lasti.Frame
public import proofs.«01_k».proof.Proof.Gen.LastiRefIdeal.Run
public import Idealize.ShloMosaic.Lib.Claim
public import Idealize.ShloMosaic.Lib.Quiescent

@[expose] public section

set_option maxRecDepth 16384

noncomputable section

namespace Cert.LastiClaims

open Idealize.ShloMosaic Idealize.ShloMosaic.TcCoe Idealize.SL.Sem

/-- No constant of the kernel is named. -/
theorem preserves : Cert.preserves_Lasti_LastiIdeal := trivial

section
open Cert.LastiRefIdeal Cert.LastiRefIdeal.Gen

/-- The reference's run, its results named. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v13) = Read.val_main_v13 (F := Ideal) (m ((c.tc : Thread nD τ).loc main_arg0)) (m ((c.tc : Thread nD τ).loc main_arg4)) (m ((c.tc : Thread nD τ).loc main_arg5))
      ∧ r.2.mem ((c.tc : Thread nD τ).loc main_v37) = Read.val_main_v37 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v18) = Read.val_main_v18 (F := Ideal) (m ((c.tc : Thread nD τ).loc main_arg0)) (m ((c.tc : Thread nD τ).loc main_arg2)) (m ((c.tc : Thread nD τ).loc main_arg4)) (m ((c.tc : Thread nD τ).loc main_arg5))
      ∧ r.2.mem ((c.tc : Thread nD τ).loc main_v24) = Read.val_main_v24 (F := Ideal) (m ((c.tc : Thread nD τ).loc main_arg0)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (Read.val_main_v13_eq _ _ _),
    (h c).2.1.trans (Read.val_main_v37_eq _ _ _ _ _ _),
    (h c).2.2.1.trans (Read.val_main_v18_eq _ _ _ _),
    (h c).2.2.2.1.trans (Read.val_main_v24_eq _ _ _ _),
    (h c).2.2.2.2⟩) (Value.run m ρ)

end

section
open Cert.LastiIdeal Cert.LastiIdeal.Gen

/-- The kernel's run, its results the reference's functions of the arguments. -/
theorem run_ker (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v2) = Cert.LastiRefIdeal.Read.val_main_v13 (F := Ideal) (m ((c.tc : Thread nD τ).loc main_arg0)) (m ((c.tc : Thread nD τ).loc main_arg4)) (m ((c.tc : Thread nD τ).loc main_arg5))
      ∧ r.2.mem ((c.tc : Thread nD τ).loc main_v4) = Cert.LastiRefIdeal.Read.val_main_v37 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v6) = Cert.LastiRefIdeal.Read.val_main_v18 (F := Ideal) (m ((c.tc : Thread nD τ).loc main_arg0)) (m ((c.tc : Thread nD τ).loc main_arg2)) (m ((c.tc : Thread nD τ).loc main_arg4)) (m ((c.tc : Thread nD τ).loc main_arg5))
      ∧ r.2.mem ((c.tc : Thread nD τ).loc main_v8) = Cert.LastiRefIdeal.Read.val_main_v24 (F := Ideal) (m ((c.tc : Thread nD τ).loc main_arg0)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine θ_run_mono (θ_run_and (run_main m ρ trivial) (unchanged m ρ trivial)) fun r h c => ⟨?_, ?_, ?_, ?_, h.2 c⟩
  · refine ((h.1 c).2 main_v2 (Pipeline.mem_restRefs_of _ rfl
      (by decide +kernel : ∀ w : Fin (cfg0 (F := Ideal) Cert.LastiIdeal.Bridge.any).W, ((cfg0 (F := Ideal) Cert.LastiIdeal.Bridge.any).spec w).arr.view.ref ≠ main_v2))).trans (funext fun y => ?_)
    revert y
    show ∀ y : S1472x2048.Idx, _
    intro y
    idx_vars y
    exact (Cert.LastiIdeal.Tail.out2 m trivial c y0 y1).trans (Cert.LastiIdeal.Bridge.tile5 m trivial c y0 y1)
  · refine ((h.1 c).2 main_v4 (Pipeline.mem_restRefs_of _ rfl
      (by decide +kernel : ∀ w : Fin (cfg0 (F := Ideal) Cert.LastiIdeal.Bridge.any).W, ((cfg0 (F := Ideal) Cert.LastiIdeal.Bridge.any).spec w).arr.view.ref ≠ main_v4))).trans (funext fun y => ?_)
    revert y
    show ∀ y : S1472x2048.Idx, _
    intro y
    idx_vars y
    exact (Cert.LastiIdeal.Tail.out4 m trivial c y0 y1).trans (Cert.LastiIdeal.Bridge.tile6 m trivial c y0 y1)
  · refine ((h.1 c).2 main_v6 (Pipeline.mem_restRefs_of _ rfl
      (by decide +kernel : ∀ w : Fin (cfg0 (F := Ideal) Cert.LastiIdeal.Bridge.any).W, ((cfg0 (F := Ideal) Cert.LastiIdeal.Bridge.any).spec w).arr.view.ref ≠ main_v6))).trans (funext fun y => ?_)
    revert y
    show ∀ y : S1472x2048.Idx, _
    intro y
    idx_vars y
    exact (Cert.LastiIdeal.Tail.out6 m trivial c y0 y1).trans (Cert.LastiIdeal.Bridge.tile7 m trivial c y0 y1)
  · refine ((h.1 c).2 main_v8 (Pipeline.mem_restRefs_of _ rfl
      (by decide +kernel : ∀ w : Fin (cfg0 (F := Ideal) Cert.LastiIdeal.Bridge.any).W, ((cfg0 (F := Ideal) Cert.LastiIdeal.Bridge.any).spec w).arr.view.ref ≠ main_v8))).trans (funext fun y => ?_)
    revert y
    show ∀ y : S1472x2048.Idx, _
    intro y
    idx_vars y
    exact (Cert.LastiIdeal.Tail.out8 m trivial c y0 y1).trans (Cert.LastiIdeal.Bridge.tile8 m trivial c y0 y1)

end

theorem frame_p : Cert.quiescent_Lasti := fun m ρ _ => Cert.Lasti.Gen.frame m ρ trivial
theorem frame_pi : Cert.quiescent_LastiIdeal := fun m ρ _ => Cert.LastiIdeal.Gen.frame m ρ trivial
theorem frame_ri : Cert.quiescent_LastiRefIdeal := fun m g _ =>
  (θ_run Cert.LastiRefIdeal.defs _ _).mono (fun r h => ⟨fun c => (h c).2.2.2.2, sem_eq_zero_of_no_sems (by decide) r.2⟩)
    (Cert.LastiRefIdeal.Value.run (F := Ideal) m g)

theorem algebraic : Cert.algebraic_LastiIdeal_LastiRefIdeal := by
  intro m g m' g' _ hagree
  refine ⟨fun c => Cert.LastiRefIdeal.Read.val_main_v13 (F := Ideal) (m ((c.tc : Thread Cert.LastiIdeal.nD Cert.LastiIdeal.τ).loc Cert.LastiIdeal.main_arg0)) (m ((c.tc : Thread Cert.LastiIdeal.nD Cert.LastiIdeal.τ).loc Cert.LastiIdeal.main_arg4)) (m ((c.tc : Thread Cert.LastiIdeal.nD Cert.LastiIdeal.τ).loc Cert.LastiIdeal.main_arg5)), fun c => Cert.LastiRefIdeal.Read.val_main_v37 (F := Ideal) (m ((c.tc : Thread Cert.LastiIdeal.nD Cert.LastiIdeal.τ).loc Cert.LastiIdeal.main_arg0)) (m ((c.tc : Thread Cert.LastiIdeal.nD Cert.LastiIdeal.τ).loc Cert.LastiIdeal.main_arg1)) (m ((c.tc : Thread Cert.LastiIdeal.nD Cert.LastiIdeal.τ).loc Cert.LastiIdeal.main_arg2)) (m ((c.tc : Thread Cert.LastiIdeal.nD Cert.LastiIdeal.τ).loc Cert.LastiIdeal.main_arg3)) (m ((c.tc : Thread Cert.LastiIdeal.nD Cert.LastiIdeal.τ).loc Cert.LastiIdeal.main_arg4)) (m ((c.tc : Thread Cert.LastiIdeal.nD Cert.LastiIdeal.τ).loc Cert.LastiIdeal.main_arg5)), fun c => Cert.LastiRefIdeal.Read.val_main_v18 (F := Ideal) (m ((c.tc : Thread Cert.LastiIdeal.nD Cert.LastiIdeal.τ).loc Cert.LastiIdeal.main_arg0)) (m ((c.tc : Thread Cert.LastiIdeal.nD Cert.LastiIdeal.τ).loc Cert.LastiIdeal.main_arg2)) (m ((c.tc : Thread Cert.LastiIdeal.nD Cert.LastiIdeal.τ).loc Cert.LastiIdeal.main_arg4)) (m ((c.tc : Thread Cert.LastiIdeal.nD Cert.LastiIdeal.τ).loc Cert.LastiIdeal.main_arg5)), fun c => Cert.LastiRefIdeal.Read.val_main_v24 (F := Ideal) (m ((c.tc : Thread Cert.LastiIdeal.nD Cert.LastiIdeal.τ).loc Cert.LastiIdeal.main_arg0)) (m ((c.tc : Thread Cert.LastiIdeal.nD Cert.LastiIdeal.τ).loc Cert.LastiIdeal.main_arg3)) (m ((c.tc : Thread Cert.LastiIdeal.nD Cert.LastiIdeal.τ).loc Cert.LastiIdeal.main_arg4)) (m ((c.tc : Thread Cert.LastiIdeal.nD Cert.LastiIdeal.τ).loc Cert.LastiIdeal.main_arg5)), run_ker m g, θ_run_mono (run_ref m' g') fun r h c => ?_⟩
  obtain ⟨a0, a1, a2, a3, a4, a5⟩ := hagree c
  exact ⟨(h c).1.trans (congr (congr (congrArg (Cert.LastiRefIdeal.Read.val_main_v13 (F := Ideal)) a0) a4) a5),
    (h c).2.1.trans (congr (congr (congr (congr (congr (congrArg (Cert.LastiRefIdeal.Read.val_main_v37 (F := Ideal)) a0) a1) a2) a3) a4) a5),
    (h c).2.2.1.trans (congr (congr (congr (congrArg (Cert.LastiRefIdeal.Read.val_main_v18 (F := Ideal)) a0) a2) a4) a5),
    (h c).2.2.2.1.trans (congr (congr (congr (congrArg (Cert.LastiRefIdeal.Read.val_main_v24 (F := Ideal)) a0) a3) a4) a5), (h c).2.2.2.2⟩

end Cert.LastiClaims

end
-- ==== Proof.lean ====
/- The proof of the certificate's claims, one module per call. -/
module

public import proofs.«01_k».proof.Defs
public import proofs.«01_k».proof.Proof.AttnClaims
public import proofs.«01_k».proof.Proof.FfnClaims
public import proofs.«01_k».proof.Proof.WffClaims
public import proofs.«01_k».proof.Proof.HfClaims
public import proofs.«01_k».proof.Proof.HgClaims
public import proofs.«01_k».proof.Proof.WinClaims
public import proofs.«01_k».proof.Proof.DhClaims
public import proofs.«01_k».proof.Proof.UpClaims
public import proofs.«01_k».proof.Proof.MergeClaims
public import proofs.«01_k».proof.Proof.DoClaims
public import proofs.«01_k».proof.Proof.WoClaims
public import proofs.«01_k».proof.Proof.WoutClaims
public import proofs.«01_k».proof.Proof.OutClaims
public import proofs.«01_k».proof.Proof.ProjClaims
public import proofs.«01_k».proof.Proof.MixClaims
public import proofs.«01_k».proof.Proof.AtfClaims
public import proofs.«01_k».proof.Proof.AdClaims
public import proofs.«01_k».proof.Proof.RmsClaims
public import proofs.«01_k».proof.Proof.RideClaims
public import proofs.«01_k».proof.Proof.AdsClaims
public import proofs.«01_k».proof.Proof.RmsfClaims
public import proofs.«01_k».proof.Proof.LossClaims
public import proofs.«01_k».proof.Proof.LnfClaims
public import proofs.«01_k».proof.Proof.LnbClaims
public import proofs.«01_k».proof.Proof.SumsClaims
public import proofs.«01_k».proof.Proof.RsumClaims
public import proofs.«01_k».proof.Proof.FirstfClaims
public import proofs.«01_k».proof.Proof.FirstoClaims
public import proofs.«01_k».proof.Proof.FirstiClaims
public import proofs.«01_k».proof.Proof.LastoClaims
public import proofs.«01_k».proof.Proof.LastiClaims

@[expose] public section

noncomputable section

namespace Cert.Proof

open Idealize.ShloMosaic Idealize.SL.Sem

theorem claim : Cert.Claim :=
  ⟨Cert.Attn.Gen.facts, Cert.AttnIdeal.Gen.facts, Cert.AttnRefIdeal.Gen.facts, Cert.Ffn.Gen.facts,
    Cert.FfnIdeal.Gen.facts, Cert.FfnRefIdeal.Gen.facts, Cert.Wff.Gen.facts, Cert.WffIdeal.Gen.facts,
    Cert.WffRefIdeal.Gen.facts, Cert.Hf.Gen.facts, Cert.HfIdeal.Gen.facts, Cert.HfRefIdeal.Gen.facts,
    Cert.Hg.Gen.facts, Cert.HgIdeal.Gen.facts, Cert.HgRefIdeal.Gen.facts, Cert.Win.Gen.facts,
    Cert.WinIdeal.Gen.facts, Cert.WinRefIdeal.Gen.facts, Cert.Dh.Gen.facts, Cert.DhIdeal.Gen.facts,
    Cert.DhRefIdeal.Gen.facts, Cert.Up.Gen.facts, Cert.UpIdeal.Gen.facts, Cert.UpRefIdeal.Gen.facts,
    Cert.Merge.Gen.facts, Cert.MergeIdeal.Gen.facts, Cert.MergeRefIdeal.Gen.facts, Cert.Do.Gen.facts,
    Cert.DoIdeal.Gen.facts, Cert.DoRefIdeal.Gen.facts, Cert.Wo.Gen.facts, Cert.WoIdeal.Gen.facts,
    Cert.WoRefIdeal.Gen.facts, Cert.Wout.Gen.facts, Cert.WoutIdeal.Gen.facts, Cert.WoutRefIdeal.Gen.facts,
    Cert.Out.Gen.facts, Cert.OutIdeal.Gen.facts, Cert.OutRefIdeal.Gen.facts, Cert.Rms.Gen.facts,
    Cert.RmsIdeal.Gen.facts, Cert.RmsRefIdeal.Gen.facts, Cert.Pq.Gen.facts, Cert.PqIdeal.Gen.facts,
    Cert.PqRefIdeal.Gen.facts, Cert.Pkv.Gen.facts, Cert.PkvIdeal.Gen.facts, Cert.PkvRefIdeal.Gen.facts,
    Cert.Pconv.Gen.facts, Cert.PconvIdeal.Gen.facts, Cert.PconvRefIdeal.Gen.facts, Cert.Psg.Gen.facts,
    Cert.PsgIdeal.Gen.facts, Cert.PsgRefIdeal.Gen.facts, Cert.Pgate.Gen.facts, Cert.PgateIdeal.Gen.facts,
    Cert.PgateRefIdeal.Gen.facts, Cert.Atf.Gen.facts, Cert.AtfIdeal.Gen.facts, Cert.AtfRefIdeal.Gen.facts,
    Cert.Mix.Gen.facts, Cert.MixIdeal.Gen.facts, Cert.MixRefIdeal.Gen.facts, Cert.Ad.Gen.facts,
    Cert.AdIdeal.Gen.facts, Cert.AdRefIdeal.Gen.facts, Cert.Ride.Gen.facts, Cert.RideIdeal.Gen.facts,
    Cert.RideRefIdeal.Gen.facts, Cert.Ads.Gen.facts, Cert.AdsIdeal.Gen.facts, Cert.AdsRefIdeal.Gen.facts,
    Cert.Adw.Gen.facts, Cert.AdwIdeal.Gen.facts, Cert.AdwRefIdeal.Gen.facts, Cert.Adp.Gen.facts,
    Cert.AdpIdeal.Gen.facts, Cert.AdpRefIdeal.Gen.facts, Cert.Rmsf.Gen.facts, Cert.RmsfIdeal.Gen.facts,
    Cert.RmsfRefIdeal.Gen.facts, Cert.Loss.Gen.facts, Cert.LossIdeal.Gen.facts, Cert.LossRefIdeal.Gen.facts,
    Cert.Lnf.Gen.facts, Cert.LnfIdeal.Gen.facts, Cert.LnfRefIdeal.Gen.facts, Cert.Lnb.Gen.facts,
    Cert.LnbIdeal.Gen.facts, Cert.LnbRefIdeal.Gen.facts, Cert.Firstf.Gen.facts, Cert.FirstfIdeal.Gen.facts,
    Cert.FirstfRefIdeal.Gen.facts, Cert.Lasto.Gen.facts, Cert.LastoIdeal.Gen.facts, Cert.LastoRefIdeal.Gen.facts,
    Cert.Firsto.Gen.facts, Cert.FirstoIdeal.Gen.facts, Cert.FirstoRefIdeal.Gen.facts, Cert.Lasti.Gen.facts,
    Cert.LastiIdeal.Gen.facts, Cert.LastiRefIdeal.Gen.facts, Cert.Firsti.Gen.facts, Cert.FirstiIdeal.Gen.facts,
    Cert.FirstiRefIdeal.Gen.facts, Cert.Sums.Gen.facts, Cert.SumsIdeal.Gen.facts, Cert.SumsRefIdeal.Gen.facts,
    Cert.Rsum.Gen.facts, Cert.RsumIdeal.Gen.facts, Cert.RsumRefIdeal.Gen.facts, Cert.Pre_finite_qk.Gen.facts,
    Cert.Pre_finite_ffn.Gen.facts, Cert.Pre_finite_scores.Gen.facts, Cert.Pre_finite_norm.Gen.facts,
    AttnClaims.frame_p, AttnClaims.frame_pi, AttnClaims.frame_pi_pre, AttnClaims.frame_ri, AttnClaims.frame_ri_pre,
    FfnClaims.frame_p, FfnClaims.frame_pi, FfnClaims.frame_pi_pre, FfnClaims.frame_ri, FfnClaims.frame_ri_pre,
    WffClaims.frame_p, WffClaims.frame_pi, WffClaims.frame_ri, HfClaims.frame_p, HfClaims.frame_pi,
    HfClaims.frame_ri, HgClaims.frame_p, HgClaims.frame_pi, HgClaims.frame_ri, WinClaims.frame_p,
    WinClaims.frame_pi, WinClaims.frame_ri, DhClaims.frame_p, DhClaims.frame_pi, DhClaims.frame_ri,
    UpClaims.frame_p, UpClaims.frame_pi, UpClaims.frame_ri, MergeClaims.frame_p, MergeClaims.frame_pi,
    MergeClaims.frame_ri, DoClaims.frame_p, DoClaims.frame_pi, DoClaims.frame_ri, WoClaims.frame_p,
    WoClaims.frame_pi, WoClaims.frame_ri, WoutClaims.frame_p, WoutClaims.frame_pi, WoutClaims.frame_ri,
    OutClaims.frame_p, OutClaims.frame_pi, OutClaims.frame_ri, RmsClaims.frame_p, RmsClaims.frame_pi,
    RmsClaims.frame_ri, PqClaims.frame_p, PqClaims.frame_pi, PqClaims.frame_ri, PkvClaims.frame_p,
    PkvClaims.frame_pi, PkvClaims.frame_ri, PconvClaims.frame_p, PconvClaims.frame_pi, PconvClaims.frame_ri,
    PsgClaims.frame_p, PsgClaims.frame_pi, PsgClaims.frame_ri, PgateClaims.frame_p, PgateClaims.frame_pi,
    PgateClaims.frame_ri, AtfClaims.frame_p, AtfClaims.frame_pi, AtfClaims.frame_pi_pre, AtfClaims.frame_ri,
    AtfClaims.frame_ri_pre, MixClaims.frame_p, MixClaims.frame_pi, MixClaims.frame_ri, AdClaims.frame_p,
    AdClaims.frame_pi, AdClaims.frame_ri, RideClaims.frame_p, RideClaims.frame_pi, RideClaims.frame_ri,
    AdsClaims.frame_p, AdsClaims.frame_pi, AdsClaims.frame_ri, AdwClaims.frame_p, AdwClaims.frame_pi,
    AdwClaims.frame_ri, AdpClaims.frame_p, AdpClaims.frame_pi, AdpClaims.frame_ri, RmsfClaims.frame_p,
    RmsfClaims.frame_pi, RmsfClaims.frame_ri, LossClaims.frame_p, LossClaims.frame_pi, LossClaims.frame_ri,
    LnfClaims.frame_p, LnfClaims.frame_pi, LnfClaims.frame_ri, LnbClaims.frame_p, LnbClaims.frame_pi,
    LnbClaims.frame_pi_pre, LnbClaims.frame_ri, LnbClaims.frame_ri_pre, FirstfClaims.frame_p, FirstfClaims.frame_pi,
    FirstfClaims.frame_ri, LastoClaims.frame_p, LastoClaims.frame_pi, LastoClaims.frame_ri, FirstoClaims.frame_p,
    FirstoClaims.frame_pi, FirstoClaims.frame_ri, LastiClaims.frame_p, LastiClaims.frame_pi, LastiClaims.frame_ri,
    FirstiClaims.frame_p, FirstiClaims.frame_pi, FirstiClaims.frame_ri, SumsClaims.frame_p, SumsClaims.frame_pi,
    SumsClaims.frame_ri, RsumClaims.frame_p, RsumClaims.frame_pi, RsumClaims.frame_ri, AttnClaims.preserves,
    AttnClaims.algebraic, FfnClaims.preserves, FfnClaims.algebraic, WffClaims.preserves, WffClaims.algebraic,
    HfClaims.preserves, HfClaims.algebraic, HgClaims.preserves, HgClaims.algebraic, WinClaims.preserves,
    WinClaims.algebraic, DhClaims.preserves, DhClaims.algebraic, UpClaims.preserves, UpClaims.algebraic,
    MergeClaims.preserves, MergeClaims.algebraic, DoClaims.preserves, DoClaims.algebraic, WoClaims.preserves,
    WoClaims.algebraic, WoutClaims.preserves, WoutClaims.algebraic, OutClaims.preserves, OutClaims.algebraic,
    RmsClaims.preserves, RmsClaims.algebraic, PqClaims.preserves, PqClaims.algebraic, PkvClaims.preserves,
    PkvClaims.algebraic, PconvClaims.preserves, PconvClaims.algebraic, PsgClaims.preserves, PsgClaims.algebraic,
    PgateClaims.preserves, PgateClaims.algebraic, AtfClaims.preserves, AtfClaims.algebraic, MixClaims.preserves,
    MixClaims.algebraic, AdClaims.preserves, AdClaims.algebraic, RideClaims.preserves, RideClaims.algebraic,
    AdsClaims.preserves, AdsClaims.algebraic, AdwClaims.preserves, AdwClaims.algebraic, AdpClaims.preserves,
    AdpClaims.algebraic, RmsfClaims.preserves, RmsfClaims.algebraic, LossClaims.preserves, LossClaims.algebraic,
    LnfClaims.preserves, LnfClaims.algebraic, LnbClaims.preserves, LnbClaims.algebraic, FirstfClaims.preserves,
    FirstfClaims.algebraic, LastoClaims.preserves, LastoClaims.algebraic, FirstoClaims.preserves,
    FirstoClaims.algebraic, LastiClaims.preserves, LastiClaims.algebraic, FirstiClaims.preserves,
    FirstiClaims.algebraic, SumsClaims.preserves, SumsClaims.algebraic, RsumClaims.preserves, RsumClaims.algebraic⟩

end Cert.Proof

end
